-- ==== Defs.lean ====
def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_ReferenceBIdeal (m : (ℓ : Loc Cert.ReferenceBIdeal.nD Cert.ReferenceBIdeal.τ Cert.ReferenceBIdeal.sig) → Buf (Elt Ideal) ℓ) : Prop :=
  True

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2)
      ∧ r.2.mem ((c.tc : Thread Cert.KernelB.nD Cert.KernelB.τ).loc Cert.KernelB.main_arg3) = m ((c.tc : Thread Cert.KernelB.nD Cert.KernelB.τ).loc Cert.KernelB.main_arg3)
      ∧ r.2.mem ((c.tc : Thread Cert.KernelB.nD Cert.KernelB.τ).loc Cert.KernelB.main_arg4) = m ((c.tc : Thread Cert.KernelB.nD Cert.KernelB.τ).loc Cert.KernelB.main_arg4)
      ∧ r.2.mem ((c.tc : Thread Cert.KernelB.nD Cert.KernelB.τ).loc Cert.KernelB.main_arg5) = m ((c.tc : Thread Cert.KernelB.nD Cert.KernelB.τ).loc Cert.KernelB.main_arg5)
      ∧ r.2.mem ((c.tc : Thread Cert.KernelB.nD Cert.KernelB.τ).loc Cert.KernelB.main_arg6) = m ((c.tc : Thread Cert.KernelB.nD Cert.KernelB.τ).loc Cert.KernelB.main_arg6)
      ∧ r.2.mem ((c.tc : Thread Cert.KernelB.nD Cert.KernelB.τ).loc Cert.KernelB.main_arg7) = m ((c.tc : Thread Cert.KernelB.nD Cert.KernelB.τ).loc Cert.KernelB.main_arg7)
      ∧ r.2.mem ((c.tc : Thread Cert.KernelB.nD Cert.KernelB.τ).loc Cert.KernelB.main_arg8) = m ((c.tc : Thread Cert.KernelB.nD Cert.KernelB.τ).loc Cert.KernelB.main_arg8)
      ∧ r.2.mem ((c.tc : Thread Cert.KernelB.nD Cert.KernelB.τ).loc Cert.KernelB.main_arg9) = m ((c.tc : Thread Cert.KernelB.nD Cert.KernelB.τ).loc Cert.KernelB.main_arg9))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
      ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
      ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
      ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8)
      ∧ r.2.mem ((c.tc : Thread Cert.KernelBIdeal.nD Cert.KernelBIdeal.τ).loc Cert.KernelBIdeal.main_arg9) = m ((c.tc : Thread Cert.KernelBIdeal.nD Cert.KernelBIdeal.τ).loc Cert.KernelBIdeal.main_arg9))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4)
      ∧ r.2.mem ((c.tc : Thread Cert.ReferenceBIdeal.nD Cert.ReferenceBIdeal.τ).loc Cert.ReferenceBIdeal.main_arg5) = m ((c.tc : Thread Cert.ReferenceBIdeal.nD Cert.ReferenceBIdeal.τ).loc Cert.ReferenceBIdeal.main_arg5)
      ∧ r.2.mem ((c.tc : Thread Cert.ReferenceBIdeal.nD Cert.ReferenceBIdeal.τ).loc Cert.ReferenceBIdeal.main_arg6) = m ((c.tc : Thread Cert.ReferenceBIdeal.nD Cert.ReferenceBIdeal.τ).loc Cert.ReferenceBIdeal.main_arg6)
      ∧ r.2.mem ((c.tc : Thread Cert.ReferenceBIdeal.nD Cert.ReferenceBIdeal.τ).loc Cert.ReferenceBIdeal.main_arg7) = m ((c.tc : Thread Cert.ReferenceBIdeal.nD Cert.ReferenceBIdeal.τ).loc Cert.ReferenceBIdeal.main_arg7)
      ∧ r.2.mem ((c.tc : Thread Cert.ReferenceBIdeal.nD Cert.ReferenceBIdeal.τ).loc Cert.ReferenceBIdeal.main_arg8) = m ((c.tc : Thread Cert.ReferenceBIdeal.nD Cert.ReferenceBIdeal.τ).loc Cert.ReferenceBIdeal.main_arg8)
      ∧ r.2.mem ((c.tc : Thread Cert.ReferenceBIdeal.nD Cert.ReferenceBIdeal.τ).loc Cert.ReferenceBIdeal.main_arg9) = m ((c.tc : Thread Cert.ReferenceBIdeal.nD Cert.ReferenceBIdeal.τ).loc Cert.ReferenceBIdeal.main_arg9))
      ∧ r.2.sem = fun _ => 0)

def preserves_KernelA_KernelAIdeal : Prop :=
  True

def algebraic_KernelAIdeal_ReferenceAIdeal [hKernelAIdeal : Cert.KernelAIdeal.Facts] [hReferenceAIdeal : Cert.ReferenceAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)) →
    ∃ (v0 : (c : Dev Cert.KernelAIdeal.nD) → Buf (Elt Ideal) ((c.tc : Thread Cert.KernelAIdeal.nD Cert.KernelAIdeal.τ).loc Cert.KernelAIdeal.main_v314_0)) (v1 : (c : Dev Cert.KernelAIdeal.nD) → Buf (Elt Ideal) ((c.tc : Thread Cert.KernelAIdeal.nD Cert.KernelAIdeal.τ).loc Cert.KernelAIdeal.main_v314_1)) (v2 : (c : Dev Cert.KernelAIdeal.nD) → Buf (Elt Ideal) ((c.tc : Thread Cert.KernelAIdeal.nD Cert.KernelAIdeal.τ).loc Cert.KernelAIdeal.main_v314_2)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v314_0) = v0 c
          ∧ r.2.mem ((c.tc : Thread Cert.KernelAIdeal.nD Cert.KernelAIdeal.τ).loc Cert.KernelAIdeal.main_v314_1) = v1 c
          ∧ r.2.mem ((c.tc : Thread Cert.KernelAIdeal.nD Cert.KernelAIdeal.τ).loc Cert.KernelAIdeal.main_v314_2) = v2 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v47) = v0 c
          ∧ r.2.mem ((c.tc : Thread Cert.ReferenceAIdeal.nD Cert.ReferenceAIdeal.τ).loc Cert.ReferenceAIdeal.main_v51) = v1 c
          ∧ r.2.mem ((c.tc : Thread Cert.ReferenceAIdeal.nD Cert.ReferenceAIdeal.τ).loc Cert.ReferenceAIdeal.main_v52) = v2 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2))

def preserves_KernelB_KernelBIdeal : Prop :=
  True

def algebraic_KernelBIdeal_ReferenceBIdeal [hKernelBIdeal : Cert.KernelBIdeal.Facts] [hReferenceBIdeal : Cert.ReferenceBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)
      ∧ m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)
      ∧ m' ((c.tc : Thread Cert.ReferenceBIdeal.nD Cert.ReferenceBIdeal.τ).loc Cert.ReferenceBIdeal.main_arg4) = m ((c.tc : Thread Cert.KernelBIdeal.nD Cert.KernelBIdeal.τ).loc Cert.KernelBIdeal.main_arg4)
      ∧ m' ((c.tc : Thread Cert.ReferenceBIdeal.nD Cert.ReferenceBIdeal.τ).loc Cert.ReferenceBIdeal.main_arg5) = m ((c.tc : Thread Cert.KernelBIdeal.nD Cert.KernelBIdeal.τ).loc Cert.KernelBIdeal.main_arg5)
      ∧ m' ((c.tc : Thread Cert.ReferenceBIdeal.nD Cert.ReferenceBIdeal.τ).loc Cert.ReferenceBIdeal.main_arg6) = m ((c.tc : Thread Cert.KernelBIdeal.nD Cert.KernelBIdeal.τ).loc Cert.KernelBIdeal.main_arg6)
      ∧ m' ((c.tc : Thread Cert.ReferenceBIdeal.nD Cert.ReferenceBIdeal.τ).loc Cert.ReferenceBIdeal.main_arg7) = m ((c.tc : Thread Cert.KernelBIdeal.nD Cert.KernelBIdeal.τ).loc Cert.KernelBIdeal.main_arg7)
      ∧ m' ((c.tc : Thread Cert.ReferenceBIdeal.nD Cert.ReferenceBIdeal.τ).loc Cert.ReferenceBIdeal.main_arg8) = m ((c.tc : Thread Cert.KernelBIdeal.nD Cert.KernelBIdeal.τ).loc Cert.KernelBIdeal.main_arg8)
      ∧ m' ((c.tc : Thread Cert.ReferenceBIdeal.nD Cert.ReferenceBIdeal.τ).loc Cert.ReferenceBIdeal.main_arg9) = m ((c.tc : Thread Cert.KernelBIdeal.nD Cert.KernelBIdeal.τ).loc Cert.KernelBIdeal.main_arg9)) →
    ∃ (v0 : (c : Dev Cert.KernelBIdeal.nD) → Buf (Elt Ideal) ((c.tc : Thread Cert.KernelBIdeal.nD Cert.KernelBIdeal.τ).loc Cert.KernelBIdeal.main_v364_0)) (v1 : (c : Dev Cert.KernelBIdeal.nD) → Buf (Elt Ideal) ((c.tc : Thread Cert.KernelBIdeal.nD Cert.KernelBIdeal.τ).loc Cert.KernelBIdeal.main_v364_1)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v364_0) = v0 c
          ∧ r.2.mem ((c.tc : Thread Cert.KernelBIdeal.nD Cert.KernelBIdeal.τ).loc Cert.KernelBIdeal.main_v364_1) = v1 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
          ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
          ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
          ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
          ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
          ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
          ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8)
          ∧ r.2.mem ((c.tc : Thread Cert.KernelBIdeal.nD Cert.KernelBIdeal.τ).loc Cert.KernelBIdeal.main_arg9) = m ((c.tc : Thread Cert.KernelBIdeal.nD Cert.KernelBIdeal.τ).loc Cert.KernelBIdeal.main_arg9))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v294) = v0 c
          ∧ r.2.mem ((c.tc : Thread Cert.ReferenceBIdeal.nD Cert.ReferenceBIdeal.τ).loc Cert.ReferenceBIdeal.main_v295) = v1 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2)
          ∧ r.2.mem ((c.tc : Thread Cert.ReferenceBIdeal.nD Cert.ReferenceBIdeal.τ).loc Cert.ReferenceBIdeal.main_arg3) = m' ((c.tc : Thread Cert.ReferenceBIdeal.nD Cert.ReferenceBIdeal.τ).loc Cert.ReferenceBIdeal.main_arg3)
          ∧ r.2.mem ((c.tc : Thread Cert.ReferenceBIdeal.nD Cert.ReferenceBIdeal.τ).loc Cert.ReferenceBIdeal.main_arg4) = m' ((c.tc : Thread Cert.ReferenceBIdeal.nD Cert.ReferenceBIdeal.τ).loc Cert.ReferenceBIdeal.main_arg4)
          ∧ r.2.mem ((c.tc : Thread Cert.ReferenceBIdeal.nD Cert.ReferenceBIdeal.τ).loc Cert.ReferenceBIdeal.main_arg5) = m' ((c.tc : Thread Cert.ReferenceBIdeal.nD Cert.ReferenceBIdeal.τ).loc Cert.ReferenceBIdeal.main_arg5)
          ∧ r.2.mem ((c.tc : Thread Cert.ReferenceBIdeal.nD Cert.ReferenceBIdeal.τ).loc Cert.ReferenceBIdeal.main_arg6) = m' ((c.tc : Thread Cert.ReferenceBIdeal.nD Cert.ReferenceBIdeal.τ).loc Cert.ReferenceBIdeal.main_arg6)
          ∧ r.2.mem ((c.tc : Thread Cert.ReferenceBIdeal.nD Cert.ReferenceBIdeal.τ).loc Cert.ReferenceBIdeal.main_arg7) = m' ((c.tc : Thread Cert.ReferenceBIdeal.nD Cert.ReferenceBIdeal.τ).loc Cert.ReferenceBIdeal.main_arg7)
          ∧ r.2.mem ((c.tc : Thread Cert.ReferenceBIdeal.nD Cert.ReferenceBIdeal.τ).loc Cert.ReferenceBIdeal.main_arg8) = m' ((c.tc : Thread Cert.ReferenceBIdeal.nD Cert.ReferenceBIdeal.τ).loc Cert.ReferenceBIdeal.main_arg8)
          ∧ r.2.mem ((c.tc : Thread Cert.ReferenceBIdeal.nD Cert.ReferenceBIdeal.τ).loc Cert.ReferenceBIdeal.main_arg9) = m' ((c.tc : Thread Cert.ReferenceBIdeal.nD Cert.ReferenceBIdeal.τ).loc Cert.ReferenceBIdeal.main_arg9))

def Claim : Prop :=
  ∃ (hKernelA : Cert.KernelA.Facts) (hKernelAIdeal : Cert.KernelAIdeal.Facts) (hReferenceAIdeal : Cert.ReferenceAIdeal.Facts) (hKernelB : Cert.KernelB.Facts) (hKernelBIdeal : Cert.KernelBIdeal.Facts) (hReferenceBIdeal : Cert.ReferenceBIdeal.Facts),
    quiescent_KernelA (hKernelA := hKernelA)
    ∧ quiescent_KernelAIdeal (hKernelAIdeal := hKernelAIdeal)
    ∧ quiescent_ReferenceAIdeal (hReferenceAIdeal := hReferenceAIdeal)
    ∧ quiescent_KernelB (hKernelB := hKernelB)
    ∧ quiescent_KernelBIdeal (hKernelBIdeal := hKernelBIdeal)
    ∧ quiescent_ReferenceBIdeal (hReferenceBIdeal := hReferenceBIdeal)
    ∧ preserves_KernelA_KernelAIdeal
    ∧ algebraic_KernelAIdeal_ReferenceAIdeal (hKernelAIdeal := hKernelAIdeal) (hReferenceAIdeal := hReferenceAIdeal)
    ∧ preserves_KernelB_KernelBIdeal
    ∧ algebraic_KernelBIdeal_ReferenceBIdeal (hKernelBIdeal := hKernelBIdeal) (hReferenceBIdeal := hReferenceBIdeal)
-- ==== KernelA.lean ====
abbrev S1024x3x32x32 : Shape := ⟨4, ![1024, 3, 32, 32]⟩
abbrev S16x3x5x5 : Shape := ⟨4, ![16, 3, 5, 5]⟩
abbrev S16 : Shape := ⟨1, ![16]⟩
abbrev S512 : Shape := ⟨1, ![512]⟩
abbrev S32x1024x32x3 : Shape := ⟨4, ![32, 1024, 32, 3]⟩
abbrev S32x1024x96 : Shape := ⟨3, ![32, 1024, 96]⟩
abbrev S_ : Shape := ⟨0, ![]⟩
abbrev S36x1024x128 : Shape := ⟨3, ![36, 1024, 128]⟩
abbrev S32x32 : Shape := ⟨2, ![32, 32]⟩
abbrev S108x512 : Shape := ⟨2, ![108, 512]⟩
abbrev S16x3x1x1 : Shape := ⟨4, ![16, 3, 1, 1]⟩
abbrev S16x3 : Shape := ⟨2, ![16, 3]⟩
abbrev S3x16 : Shape := ⟨2, ![3, 16]⟩
abbrev S32x1x32x1 : Shape := ⟨4, ![32, 1, 32, 1]⟩
abbrev S1x3x1x16 : Shape := ⟨4, ![1, 3, 1, 16]⟩
abbrev S32x3x32x16 : Shape := ⟨4, ![32, 3, 32, 16]⟩
abbrev S96x512 : Shape := ⟨2, ![96, 512]⟩
abbrev S128x512 : Shape := ⟨2, ![128, 512]⟩
abbrev S640x512 : Shape := ⟨2, ![640, 512]⟩
abbrev S640x768 : Shape := ⟨2, ![640, 768]⟩
abbrev S512x1 : Shape := ⟨2, ![512, 1]⟩
abbrev S1x768 : Shape := ⟨2, ![1, 768]⟩
abbrev S1x16 : Shape := ⟨2, ![1, 16]⟩
abbrev S32x16 : Shape := ⟨2, ![32, 16]⟩
abbrev S512x2 : Shape := ⟨2, ![512, 2]⟩
abbrev S20x1024x384 : Shape := ⟨3, ![20, 1024, 384]⟩
abbrev S20x384 : Shape := ⟨2, ![20, 384]⟩
abbrev S36x128 : Shape := ⟨2, ![36, 128]⟩
abbrev S36x64x128 : Shape := ⟨3, ![36, 64, 128]⟩
abbrev S20x64x384 : Shape := ⟨3, ![20, 64, 384]⟩
abbrev S32x64x128 : Shape := ⟨3, ![32, 64, 128]⟩
abbrev S32x64x640 : Shape := ⟨3, ![32, 64, 640]⟩
abbrev S2048x640 : Shape := ⟨2, ![2048, 640]⟩
abbrev S2048x768 : Shape := ⟨2, ![2048, 768]⟩
abbrev S32x64x768 : Shape := ⟨3, ![32, 64, 768]⟩
abbrev S1x1x768 : Shape := ⟨3, ![1, 1, 768]⟩
abbrev S32x64x384 : Shape := ⟨3, ![32, 64, 384]⟩
abbrev S16x2x64x384 : Shape := ⟨4, ![16, 2, 64, 384]⟩
abbrev S16x64x384 : Shape := ⟨3, ![16, 64, 384]⟩
abbrev S2x64x384 : Shape := ⟨3, ![2, 64, 384]⟩
abbrev S18x64x384 : Shape := ⟨3, ![18, 64, 384]⟩

abbrev nBuf : Space → Nat
  | .hbm => 397
  | .vmem => 8
  | .smem => 0
  | _ => 0

abbrev hbmTy0_0 (i : Nat) : BufTy := match i % 128 with
  | 0 => ⟨S1024x3x32x32, .f32⟩
  | 1 => ⟨S16x3x5x5, .f32⟩
  | 2 => ⟨S16, .f32⟩
  | 3 => ⟨S512, .i32⟩
  | 4 => ⟨S512, .i1⟩
  | 5 => ⟨S512, .i32⟩
  | 6 => ⟨S512, .i1⟩
  | 7 => ⟨S32x1024x32x3, .f32⟩
  | 8 => ⟨S32x1024x96, .f32⟩
  | 9 => ⟨S_, .i32⟩
  | 10 => ⟨S_, .f32⟩
  | 11 => ⟨S36x1024x128, .f32⟩
  | 12 => ⟨S32x32, .i32⟩
  | 13 => ⟨S32x32, .i32⟩
  | 14 => ⟨S_, .i32⟩
  | 15 => ⟨S32x32, .i32⟩
  | 16 => ⟨S32x32, .i32⟩
  | 17 => ⟨S32x32, .i1⟩
  | 18 => ⟨S32x32, .f32⟩
  | 19 => ⟨S_, .f32⟩
  | 20 => ⟨S108x512, .f32⟩
  | 21 => ⟨S16x3x1x1, .f32⟩
  | 22 => ⟨S16x3, .f32⟩
  | 23 => ⟨S3x16, .f32⟩
  | 24 => ⟨S32x1x32x1, .f32⟩
  | 25 => ⟨S1x3x1x16, .f32⟩
  | 26 => ⟨S32x3x32x16, .f32⟩
  | 27 => ⟨S32x3x32x16, .f32⟩
  | 28 => ⟨S32x3x32x16, .f32⟩
  | 29 => ⟨S96x512, .f32⟩
  | 30 => ⟨S_, .i32⟩
  | 31 => ⟨S_, .f32⟩
  | 32 => ⟨S108x512, .f32⟩
  | 33 => ⟨S108x512, .f32⟩
  | 34 => ⟨S16x3x1x1, .f32⟩
  | 35 => ⟨S16x3, .f32⟩
  | 36 => ⟨S3x16, .f32⟩
  | 37 => ⟨S32x1x32x1, .f32⟩
  | 38 => ⟨S1x3x1x16, .f32⟩
  | 39 => ⟨S32x3x32x16, .f32⟩
  | 40 => ⟨S32x3x32x16, .f32⟩
  | 41 => ⟨S32x3x32x16, .f32⟩
  | 42 => ⟨S96x512, .f32⟩
  | 43 => ⟨S_, .i32⟩
  | 44 => ⟨S_, .f32⟩
  | 45 => ⟨S108x512, .f32⟩
  | 46 => ⟨S108x512, .f32⟩
  | 47 => ⟨S16x3x1x1, .f32⟩
  | 48 => ⟨S16x3, .f32⟩
  | 49 => ⟨S3x16, .f32⟩
  | 50 => ⟨S32x1x32x1, .f32⟩
  | 51 => ⟨S1x3x1x16, .f32⟩
  | 52 => ⟨S32x3x32x16, .f32⟩
  | 53 => ⟨S32x3x32x16, .f32⟩
  | 54 => ⟨S32x3x32x16, .f32⟩
  | 55 => ⟨S96x512, .f32⟩
  | 56 => ⟨S_, .i32⟩
  | 57 => ⟨S_, .f32⟩
  | 58 => ⟨S108x512, .f32⟩
  | 59 => ⟨S108x512, .f32⟩
  | 60 => ⟨S16x3x1x1, .f32⟩
  | 61 => ⟨S16x3, .f32⟩
  | 62 => ⟨S3x16, .f32⟩
  | 63 => ⟨S32x1x32x1, .f32⟩
  | 64 => ⟨S1x3x1x16, .f32⟩
  | 65 => ⟨S32x3x32x16, .f32⟩
  | 66 => ⟨S32x3x32x16, .f32⟩
  | 67 => ⟨S32x3x32x16, .f32⟩
  | 68 => ⟨S96x512, .f32⟩
  | 69 => ⟨S_, .i32⟩
  | 70 => ⟨S_, .f32⟩
  | 71 => ⟨S108x512, .f32⟩
  | 72 => ⟨S108x512, .f32⟩
  | 73 => ⟨S16x3x1x1, .f32⟩
  | 74 => ⟨S16x3, .f32⟩
  | 75 => ⟨S3x16, .f32⟩
  | 76 => ⟨S32x1x32x1, .f32⟩
  | 77 => ⟨S1x3x1x16, .f32⟩
  | 78 => ⟨S32x3x32x16, .f32⟩
  | 79 => ⟨S32x3x32x16, .f32⟩
  | 80 => ⟨S32x3x32x16, .f32⟩
  | 81 => ⟨S96x512, .f32⟩
  | 82 => ⟨S_, .i32⟩
  | 83 => ⟨S_, .f32⟩
  | 84 => ⟨S108x512, .f32⟩
  | 85 => ⟨S108x512, .f32⟩
  | 86 => ⟨S_, .i32⟩
  | 87 => ⟨S_, .f32⟩
  | 88 => ⟨S128x512, .f32⟩
  | 89 => ⟨S_, .f32⟩
  | 90 => ⟨S108x512, .f32⟩
  | 91 => ⟨S16x3x1x1, .f32⟩
  | 92 => ⟨S16x3, .f32⟩
  | 93 => ⟨S3x16, .f32⟩
  | 94 => ⟨S32x1x32x1, .f32⟩
  | 95 => ⟨S1x3x1x16, .f32⟩
  | 96 => ⟨S32x3x32x16, .f32⟩
  | 97 => ⟨S32x3x32x16, .f32⟩
  | 98 => ⟨S32x3x32x16, .f32⟩
  | 99 => ⟨S96x512, .f32⟩
  | 100 => ⟨S_, .i32⟩
  | 101 => ⟨S_, .f32⟩
  | 102 => ⟨S108x512, .f32⟩
  | 103 => ⟨S108x512, .f32⟩
  | 104 => ⟨S16x3x1x1, .f32⟩
  | 105 => ⟨S16x3, .f32⟩
  | 106 => ⟨S3x16, .f32⟩
  | 107 => ⟨S32x1x32x1, .f32⟩
  | 108 => ⟨S1x3x1x16, .f32⟩
  | 109 => ⟨S32x3x32x16, .f32⟩
  | 110 => ⟨S32x3x32x16, .f32⟩
  | 111 => ⟨S32x3x32x16, .f32⟩
  | 112 => ⟨S96x512, .f32⟩
  | 113 => ⟨S_, .i32⟩
  | 114 => ⟨S_, .f32⟩
  | 115 => ⟨S108x512, .f32⟩
  | 116 => ⟨S108x512, .f32⟩
  | 117 => ⟨S16x3x1x1, .f32⟩
  | 118 => ⟨S16x3, .f32⟩
  | 119 => ⟨S3x16, .f32⟩
  | 120 => ⟨S32x1x32x1, .f32⟩
  | 121 => ⟨S1x3x1x16, .f32⟩
  | 122 => ⟨S32x3x32x16, .f32⟩
  | 123 => ⟨S32x3x32x16, .f32⟩
  | 124 => ⟨S32x3x32x16, .f32⟩
  | 125 => ⟨S96x512, .f32⟩
  | 126 => ⟨S_, .i32⟩
  | 127 => ⟨S_, .f32⟩
  | _ => ⟨S1024x3x32x32, .f32⟩

abbrev hbmTy0_1 (i : Nat) : BufTy := match i % 128 with
  | 0 => ⟨S108x512, .f32⟩
  | 1 => ⟨S108x512, .f32⟩
  | 2 => ⟨S16x3x1x1, .f32⟩
  | 3 => ⟨S16x3, .f32⟩
  | 4 => ⟨S3x16, .f32⟩
  | 5 => ⟨S32x1x32x1, .f32⟩
  | 6 => ⟨S1x3x1x16, .f32⟩
  | 7 => ⟨S32x3x32x16, .f32⟩
  | 8 => ⟨S32x3x32x16, .f32⟩
  | 9 => ⟨S32x3x32x16, .f32⟩
  | 10 => ⟨S96x512, .f32⟩
  | 11 => ⟨S_, .i32⟩
  | 12 => ⟨S_, .f32⟩
  | 13 => ⟨S108x512, .f32⟩
  | 14 => ⟨S108x512, .f32⟩
  | 15 => ⟨S16x3x1x1, .f32⟩
  | 16 => ⟨S16x3, .f32⟩
  | 17 => ⟨S3x16, .f32⟩
  | 18 => ⟨S32x1x32x1, .f32⟩
  | 19 => ⟨S1x3x1x16, .f32⟩
  | 20 => ⟨S32x3x32x16, .f32⟩
  | 21 => ⟨S32x3x32x16, .f32⟩
  | 22 => ⟨S32x3x32x16, .f32⟩
  | 23 => ⟨S96x512, .f32⟩
  | 24 => ⟨S_, .i32⟩
  | 25 => ⟨S_, .f32⟩
  | 26 => ⟨S108x512, .f32⟩
  | 27 => ⟨S108x512, .f32⟩
  | 28 => ⟨S_, .i32⟩
  | 29 => ⟨S_, .f32⟩
  | 30 => ⟨S128x512, .f32⟩
  | 31 => ⟨S_, .f32⟩
  | 32 => ⟨S108x512, .f32⟩
  | 33 => ⟨S16x3x1x1, .f32⟩
  | 34 => ⟨S16x3, .f32⟩
  | 35 => ⟨S3x16, .f32⟩
  | 36 => ⟨S32x1x32x1, .f32⟩
  | 37 => ⟨S1x3x1x16, .f32⟩
  | 38 => ⟨S32x3x32x16, .f32⟩
  | 39 => ⟨S32x3x32x16, .f32⟩
  | 40 => ⟨S32x3x32x16, .f32⟩
  | 41 => ⟨S96x512, .f32⟩
  | 42 => ⟨S_, .i32⟩
  | 43 => ⟨S_, .f32⟩
  | 44 => ⟨S108x512, .f32⟩
  | 45 => ⟨S108x512, .f32⟩
  | 46 => ⟨S16x3x1x1, .f32⟩
  | 47 => ⟨S16x3, .f32⟩
  | 48 => ⟨S3x16, .f32⟩
  | 49 => ⟨S32x1x32x1, .f32⟩
  | 50 => ⟨S1x3x1x16, .f32⟩
  | 51 => ⟨S32x3x32x16, .f32⟩
  | 52 => ⟨S32x3x32x16, .f32⟩
  | 53 => ⟨S32x3x32x16, .f32⟩
  | 54 => ⟨S96x512, .f32⟩
  | 55 => ⟨S_, .i32⟩
  | 56 => ⟨S_, .f32⟩
  | 57 => ⟨S108x512, .f32⟩
  | 58 => ⟨S108x512, .f32⟩
  | 59 => ⟨S16x3x1x1, .f32⟩
  | 60 => ⟨S16x3, .f32⟩
  | 61 => ⟨S3x16, .f32⟩
  | 62 => ⟨S32x1x32x1, .f32⟩
  | 63 => ⟨S1x3x1x16, .f32⟩
  | 64 => ⟨S32x3x32x16, .f32⟩
  | 65 => ⟨S32x3x32x16, .f32⟩
  | 66 => ⟨S32x3x32x16, .f32⟩
  | 67 => ⟨S96x512, .f32⟩
  | 68 => ⟨S_, .i32⟩
  | 69 => ⟨S_, .f32⟩
  | 70 => ⟨S108x512, .f32⟩
  | 71 => ⟨S108x512, .f32⟩
  | 72 => ⟨S16x3x1x1, .f32⟩
  | 73 => ⟨S16x3, .f32⟩
  | 74 => ⟨S3x16, .f32⟩
  | 75 => ⟨S32x1x32x1, .f32⟩
  | 76 => ⟨S1x3x1x16, .f32⟩
  | 77 => ⟨S32x3x32x16, .f32⟩
  | 78 => ⟨S32x3x32x16, .f32⟩
  | 79 => ⟨S32x3x32x16, .f32⟩
  | 80 => ⟨S96x512, .f32⟩
  | 81 => ⟨S_, .i32⟩
  | 82 => ⟨S_, .f32⟩
  | 83 => ⟨S108x512, .f32⟩
  | 84 => ⟨S108x512, .f32⟩
  | 85 => ⟨S16x3x1x1, .f32⟩
  | 86 => ⟨S16x3, .f32⟩
  | 87 => ⟨S3x16, .f32⟩
  | 88 => ⟨S32x1x32x1, .f32⟩
  | 89 => ⟨S1x3x1x16, .f32⟩
  | 90 => ⟨S32x3x32x16, .f32⟩
  | 91 => ⟨S32x3x32x16, .f32⟩
  | 92 => ⟨S32x3x32x16, .f32⟩
  | 93 => ⟨S96x512, .f32⟩
  | 94 => ⟨S_, .i32⟩
  | 95 => ⟨S_, .f32⟩
  | 96 => ⟨S108x512, .f32⟩
  | 97 => ⟨S108x512, .f32⟩
  | 98 => ⟨S_, .i32⟩
  | 99 => ⟨S_, .f32⟩
  | 100 => ⟨S128x512, .f32⟩
  | 101 => ⟨S_, .f32⟩
  | 102 => ⟨S108x512, .f32⟩
  | 103 => ⟨S16x3x1x1, .f32⟩
  | 104 => ⟨S16x3, .f32⟩
  | 105 => ⟨S3x16, .f32⟩
  | 106 => ⟨S32x1x32x1, .f32⟩
  | 107 => ⟨S1x3x1x16, .f32⟩
  | 108 => ⟨S32x3x32x16, .f32⟩
  | 109 => ⟨S32x3x32x16, .f32⟩
  | 110 => ⟨S32x3x32x16, .f32⟩
  | 111 => ⟨S96x512, .f32⟩
  | 112 => ⟨S_, .i32⟩
  | 113 => ⟨S_, .f32⟩
  | 114 => ⟨S108x512, .f32⟩
  | 115 => ⟨S108x512, .f32⟩
  | 116 => ⟨S16x3x1x1, .f32⟩
  | 117 => ⟨S16x3, .f32⟩
  | 118 => ⟨S3x16, .f32⟩
  | 119 => ⟨S32x1x32x1, .f32⟩
  | 120 => ⟨S1x3x1x16, .f32⟩
  | 121 => ⟨S32x3x32x16, .f32⟩
  | 122 => ⟨S32x3x32x16, .f32⟩
  | 123 => ⟨S32x3x32x16, .f32⟩
  | 124 => ⟨S96x512, .f32⟩
  | 125 => ⟨S_, .i32⟩
  | 126 => ⟨S_, .f32⟩
  | 127 => ⟨S108x512, .f32⟩
  | _ => ⟨S1024x3x32x32, .f32⟩

abbrev hbmTy0_2 (i : Nat) : BufTy := match i % 128 with
  | 0 => ⟨S108x512, .f32⟩
  | 1 => ⟨S16x3x1x1, .f32⟩
  | 2 => ⟨S16x3, .f32⟩
  | 3 => ⟨S3x16, .f32⟩
  | 4 => ⟨S32x1x32x1, .f32⟩
  | 5 => ⟨S1x3x1x16, .f32⟩
  | 6 => ⟨S32x3x32x16, .f32⟩
  | 7 => ⟨S32x3x32x16, .f32⟩
  | 8 => ⟨S32x3x32x16, .f32⟩
  | 9 => ⟨S96x512, .f32⟩
  | 10 => ⟨S_, .i32⟩
  | 11 => ⟨S_, .f32⟩
  | 12 => ⟨S108x512, .f32⟩
  | 13 => ⟨S108x512, .f32⟩
  | 14 => ⟨S16x3x1x1, .f32⟩
  | 15 => ⟨S16x3, .f32⟩
  | 16 => ⟨S3x16, .f32⟩
  | 17 => ⟨S32x1x32x1, .f32⟩
  | 18 => ⟨S1x3x1x16, .f32⟩
  | 19 => ⟨S32x3x32x16, .f32⟩
  | 20 => ⟨S32x3x32x16, .f32⟩
  | 21 => ⟨S32x3x32x16, .f32⟩
  | 22 => ⟨S96x512, .f32⟩
  | 23 => ⟨S_, .i32⟩
  | 24 => ⟨S_, .f32⟩
  | 25 => ⟨S108x512, .f32⟩
  | 26 => ⟨S108x512, .f32⟩
  | 27 => ⟨S16x3x1x1, .f32⟩
  | 28 => ⟨S16x3, .f32⟩
  | 29 => ⟨S3x16, .f32⟩
  | 30 => ⟨S32x1x32x1, .f32⟩
  | 31 => ⟨S1x3x1x16, .f32⟩
  | 32 => ⟨S32x3x32x16, .f32⟩
  | 33 => ⟨S32x3x32x16, .f32⟩
  | 34 => ⟨S32x3x32x16, .f32⟩
  | 35 => ⟨S96x512, .f32⟩
  | 36 => ⟨S_, .i32⟩
  | 37 => ⟨S_, .f32⟩
  | 38 => ⟨S108x512, .f32⟩
  | 39 => ⟨S108x512, .f32⟩
  | 40 => ⟨S_, .i32⟩
  | 41 => ⟨S_, .f32⟩
  | 42 => ⟨S128x512, .f32⟩
  | 43 => ⟨S_, .f32⟩
  | 44 => ⟨S108x512, .f32⟩
  | 45 => ⟨S16x3x1x1, .f32⟩
  | 46 => ⟨S16x3, .f32⟩
  | 47 => ⟨S3x16, .f32⟩
  | 48 => ⟨S32x1x32x1, .f32⟩
  | 49 => ⟨S1x3x1x16, .f32⟩
  | 50 => ⟨S32x3x32x16, .f32⟩
  | 51 => ⟨S32x3x32x16, .f32⟩
  | 52 => ⟨S32x3x32x16, .f32⟩
  | 53 => ⟨S96x512, .f32⟩
  | 54 => ⟨S_, .i32⟩
  | 55 => ⟨S_, .f32⟩
  | 56 => ⟨S108x512, .f32⟩
  | 57 => ⟨S108x512, .f32⟩
  | 58 => ⟨S16x3x1x1, .f32⟩
  | 59 => ⟨S16x3, .f32⟩
  | 60 => ⟨S3x16, .f32⟩
  | 61 => ⟨S32x1x32x1, .f32⟩
  | 62 => ⟨S1x3x1x16, .f32⟩
  | 63 => ⟨S32x3x32x16, .f32⟩
  | 64 => ⟨S32x3x32x16, .f32⟩
  | 65 => ⟨S32x3x32x16, .f32⟩
  | 66 => ⟨S96x512, .f32⟩
  | 67 => ⟨S_, .i32⟩
  | 68 => ⟨S_, .f32⟩
  | 69 => ⟨S108x512, .f32⟩
  | 70 => ⟨S108x512, .f32⟩
  | 71 => ⟨S16x3x1x1, .f32⟩
  | 72 => ⟨S16x3, .f32⟩
  | 73 => ⟨S3x16, .f32⟩
  | 74 => ⟨S32x1x32x1, .f32⟩
  | 75 => ⟨S1x3x1x16, .f32⟩
  | 76 => ⟨S32x3x32x16, .f32⟩
  | 77 => ⟨S32x3x32x16, .f32⟩
  | 78 => ⟨S32x3x32x16, .f32⟩
  | 79 => ⟨S96x512, .f32⟩
  | 80 => ⟨S_, .i32⟩
  | 81 => ⟨S_, .f32⟩
  | 82 => ⟨S108x512, .f32⟩
  | 83 => ⟨S108x512, .f32⟩
  | 84 => ⟨S16x3x1x1, .f32⟩
  | 85 => ⟨S16x3, .f32⟩
  | 86 => ⟨S3x16, .f32⟩
  | 87 => ⟨S32x1x32x1, .f32⟩
  | 88 => ⟨S1x3x1x16, .f32⟩
  | 89 => ⟨S32x3x32x16, .f32⟩
  | 90 => ⟨S32x3x32x16, .f32⟩
  | 91 => ⟨S32x3x32x16, .f32⟩
  | 92 => ⟨S96x512, .f32⟩
  | 93 => ⟨S_, .i32⟩
  | 94 => ⟨S_, .f32⟩
  | 95 => ⟨S108x512, .f32⟩
  | 96 => ⟨S108x512, .f32⟩
  | 97 => ⟨S16x3x1x1, .f32⟩
  | 98 => ⟨S16x3, .f32⟩
  | 99 => ⟨S3x16, .f32⟩
  | 100 => ⟨S32x1x32x1, .f32⟩
  | 101 => ⟨S1x3x1x16, .f32⟩
  | 102 => ⟨S32x3x32x16, .f32⟩
  | 103 => ⟨S32x3x32x16, .f32⟩
  | 104 => ⟨S32x3x32x16, .f32⟩
  | 105 => ⟨S96x512, .f32⟩
  | 106 => ⟨S_, .i32⟩
  | 107 => ⟨S_, .f32⟩
  | 108 => ⟨S108x512, .f32⟩
  | 109 => ⟨S108x512, .f32⟩
  | 110 => ⟨S_, .i32⟩
  | 111 => ⟨S_, .f32⟩
  | 112 => ⟨S128x512, .f32⟩
  | 113 => ⟨S640x512, .f32⟩
  | 114 => ⟨S_, .f32⟩
  | 115 => ⟨S640x768, .f32⟩
  | 116 => ⟨S_, .i32⟩
  | 117 => ⟨S512, .i32⟩
  | 118 => ⟨S512, .i32⟩
  | 119 => ⟨S512, .i32⟩
  | 120 => ⟨S512x1, .i32⟩
  | 121 => ⟨S640x768, .f32⟩
  | 122 => ⟨S_, .f32⟩
  | 123 => ⟨S1x768, .f32⟩
  | 124 => ⟨S1x16, .f32⟩
  | 125 => ⟨S32x16, .f32⟩
  | 126 => ⟨S512, .f32⟩
  | 127 => ⟨S_, .i32⟩
  | _ => ⟨S1024x3x32x32, .f32⟩

abbrev hbmTy0_3 (i : Nat) : BufTy := match i % 128 with
  | 0 => ⟨S512, .i32⟩
  | 1 => ⟨S512, .i32⟩
  | 2 => ⟨S512, .i32⟩
  | 3 => ⟨S_, .i32⟩
  | 4 => ⟨S512, .i32⟩
  | 5 => ⟨S512, .i32⟩
  | 6 => ⟨S512x1, .i32⟩
  | 7 => ⟨S512x1, .i32⟩
  | 8 => ⟨S512x2, .i32⟩
  | 9 => ⟨S1x768, .f32⟩
  | 10 => ⟨S20x1024x384, .f32⟩
  | 11 => ⟨S20x384, .f32⟩
  | 12 => ⟨S36x128, .f32⟩
  | _ => ⟨S1024x3x32x32, .f32⟩

abbrev hbmTy (i : Nat) : BufTy := match i / 128 with
  | 0 => hbmTy0_0 i
  | 1 => hbmTy0_1 i
  | 2 => hbmTy0_2 i
  | 3 => hbmTy0_3 i
  | _ => ⟨S1024x3x32x32, .f32⟩

abbrev bufTy : (tb : Table) → Fin (tcTables nBuf tb) → BufTy
  | .hbm, ⟨i, _⟩ => hbmTy i
  | .local _ .vmem, ⟨0, _⟩ => ⟨S36x64x128, .f32⟩
  | .local _ .vmem, ⟨1, _⟩ => ⟨S36x64x128, .f32⟩
  | .local _ .vmem, ⟨2, _⟩ => ⟨S640x768, .f32⟩
  | .local _ .vmem, ⟨3, _⟩ => ⟨S1x768, .f32⟩
  | .local _ .vmem, ⟨4, _⟩ => ⟨S20x64x384, .f32⟩
  | .local _ .vmem, ⟨5, _⟩ => ⟨S20x64x384, .f32⟩
  | .local _ .vmem, ⟨6, _⟩ => ⟨S20x384, .f32⟩
  | .local _ .vmem, ⟨7, _⟩ => ⟨S36x128, .f32⟩
  | _, _ => ⟨S1024x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_c_3 : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_call1_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_call2_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_7 : Ref sig .tc := ⟨.hbm, 56, rfl⟩
abbrev main_call3_v0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_8 : Ref sig .tc := ⟨.hbm, 69, rfl⟩
abbrev main_call4_v0 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_c_9 : Ref sig .tc := ⟨.hbm, 82, rfl⟩
abbrev main_call5_v0 : Ref sig .tc := ⟨.hbm, 83, rfl⟩
abbrev main_v63 : Ref sig .tc := ⟨.hbm, 84, rfl⟩
abbrev main_v64 : Ref sig .tc := ⟨.hbm, 85, rfl⟩
abbrev main_c_10 : Ref sig .tc := ⟨.hbm, 86, rfl⟩
abbrev main_call6_v0 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_12 : Ref sig .tc := ⟨.hbm, 100, rfl⟩
abbrev main_call7_v0 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_c_13 : Ref sig .tc := ⟨.hbm, 113, rfl⟩
abbrev main_call8_v0 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_c_14 : Ref sig .tc := ⟨.hbm, 126, rfl⟩
abbrev main_call9_v0 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_c_15 : Ref sig .tc := ⟨.hbm, 139, rfl⟩
abbrev main_call10_v0 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_c_16 : Ref sig .tc := ⟨.hbm, 152, rfl⟩
abbrev main_call11_v0 : Ref sig .tc := ⟨.hbm, 153, rfl⟩
abbrev main_v120 : Ref sig .tc := ⟨.hbm, 154, rfl⟩
abbrev main_v121 : Ref sig .tc := ⟨.hbm, 155, rfl⟩
abbrev main_c_17 : Ref sig .tc := ⟨.hbm, 156, rfl⟩
abbrev main_call12_v0 : Ref sig .tc := ⟨.hbm, 157, rfl⟩
abbrev main_v122 : Ref sig .tc := ⟨.hbm, 158, rfl⟩
abbrev main_cst_18 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_c_19 : Ref sig .tc := ⟨.hbm, 170, rfl⟩
abbrev main_call13_v0 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_c_20 : Ref sig .tc := ⟨.hbm, 183, rfl⟩
abbrev main_call14_v0 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_c_21 : Ref sig .tc := ⟨.hbm, 196, rfl⟩
abbrev main_call15_v0 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_c_22 : Ref sig .tc := ⟨.hbm, 209, rfl⟩
abbrev main_call16_v0 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_c_23 : Ref sig .tc := ⟨.hbm, 222, rfl⟩
abbrev main_call17_v0 : Ref sig .tc := ⟨.hbm, 223, rfl⟩
abbrev main_v177 : Ref sig .tc := ⟨.hbm, 224, rfl⟩
abbrev main_v178 : Ref sig .tc := ⟨.hbm, 225, rfl⟩
abbrev main_c_24 : Ref sig .tc := ⟨.hbm, 226, rfl⟩
abbrev main_call18_v0 : Ref sig .tc := ⟨.hbm, 227, rfl⟩
abbrev main_v179 : Ref sig .tc := ⟨.hbm, 228, rfl⟩
abbrev main_cst_25 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_c_26 : Ref sig .tc := ⟨.hbm, 240, rfl⟩
abbrev main_call19_v0 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_c_27 : Ref sig .tc := ⟨.hbm, 253, rfl⟩
abbrev main_call20_v0 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_c_28 : Ref sig .tc := ⟨.hbm, 266, rfl⟩
abbrev main_call21_v0 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_c_29 : Ref sig .tc := ⟨.hbm, 279, rfl⟩
abbrev main_call22_v0 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_c_30 : Ref sig .tc := ⟨.hbm, 292, rfl⟩
abbrev main_call23_v0 : Ref sig .tc := ⟨.hbm, 293, rfl⟩
abbrev main_v234 : Ref sig .tc := ⟨.hbm, 294, rfl⟩
abbrev main_v235 : Ref sig .tc := ⟨.hbm, 295, rfl⟩
abbrev main_c_31 : Ref sig .tc := ⟨.hbm, 296, rfl⟩
abbrev main_call24_v0 : Ref sig .tc := ⟨.hbm, 297, rfl⟩
abbrev main_v236 : Ref sig .tc := ⟨.hbm, 298, rfl⟩
abbrev main_cst_32 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_c_33 : Ref sig .tc := ⟨.hbm, 310, rfl⟩
abbrev main_call25_v0 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_c_34 : Ref sig .tc := ⟨.hbm, 323, rfl⟩
abbrev main_call26_v0 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_v267 : Ref sig .tc := ⟨.hbm, 334, rfl⟩
abbrev main_v268 : Ref sig .tc := ⟨.hbm, 335, rfl⟩
abbrev main_c_35 : Ref sig .tc := ⟨.hbm, 336, rfl⟩
abbrev main_call27_v0 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_c_36 : Ref sig .tc := ⟨.hbm, 349, rfl⟩
abbrev main_call28_v0 : Ref sig .tc := ⟨.hbm, 350, rfl⟩
abbrev main_v280 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_v284 : Ref sig .tc := ⟨.hbm, 355, rfl⟩
abbrev main_v285 : Ref sig .tc := ⟨.hbm, 356, rfl⟩
abbrev main_v286 : Ref sig .tc := ⟨.hbm, 357, rfl⟩
abbrev main_v287 : Ref sig .tc := ⟨.hbm, 358, rfl⟩
abbrev main_v288 : Ref sig .tc := ⟨.hbm, 359, rfl⟩
abbrev main_v289 : Ref sig .tc := ⟨.hbm, 360, rfl⟩
abbrev main_v290 : Ref sig .tc := ⟨.hbm, 361, rfl⟩
abbrev main_c_37 : Ref sig .tc := ⟨.hbm, 362, rfl⟩
abbrev main_call29_v0 : Ref sig .tc := ⟨.hbm, 363, rfl⟩
abbrev main_v291 : Ref sig .tc := ⟨.hbm, 364, rfl⟩
abbrev main_v292 : Ref sig .tc := ⟨.hbm, 365, rfl⟩
abbrev main_c_38 : Ref sig .tc := ⟨.hbm, 366, rfl⟩
abbrev main_call30_v0 : Ref sig .tc := ⟨.hbm, 367, rfl⟩
abbrev main_v293 : Ref sig .tc := ⟨.hbm, 368, rfl⟩
abbrev main_v294 : Ref sig .tc := ⟨.hbm, 369, rfl⟩
abbrev main_cst_39 : Ref sig .tc := ⟨.hbm, 370, rfl⟩
abbrev main_v295 : Ref sig .tc := ⟨.hbm, 371, rfl⟩
abbrev main_c_40 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩
abbrev main_cst_41 : Ref sig .tc := ⟨.hbm, 378, rfl⟩
abbrev main_v301 : Ref sig .tc := ⟨.hbm, 379, rfl⟩
abbrev main_v302 : Ref sig .tc := ⟨.hbm, 380, rfl⟩
abbrev main_v303 : Ref sig .tc := ⟨.hbm, 381, rfl⟩
abbrev main_v304 : Ref sig .tc := ⟨.hbm, 382, rfl⟩
abbrev main_c_42 : Ref sig .tc := ⟨.hbm, 383, rfl⟩
abbrev main_v305 : Ref sig .tc := ⟨.hbm, 384, rfl⟩
abbrev main_v306 : Ref sig .tc := ⟨.hbm, 385, rfl⟩
abbrev main_v307 : Ref sig .tc := ⟨.hbm, 386, rfl⟩
abbrev main_c_43 : Ref sig .tc := ⟨.hbm, 387, rfl⟩
abbrev main_v308 : Ref sig .tc := ⟨.hbm, 388, rfl⟩
abbrev main_v309 : Ref sig .tc := ⟨.hbm, 389, rfl⟩
abbrev main_v310 : Ref sig .tc := ⟨.hbm, 390, rfl⟩
abbrev main_v311 : Ref sig .tc := ⟨.hbm, 391, rfl⟩
abbrev main_v312 : Ref sig .tc := ⟨.hbm, 392, rfl⟩
abbrev main_v313 : Ref sig .tc := ⟨.hbm, 393, rfl⟩
abbrev main_v314_0 : Ref sig .tc := ⟨.hbm, 394, rfl⟩
abbrev main_v314_1 : Ref sig .tc := ⟨.hbm, 395, rfl⟩
abbrev main_v314_2 : Ref sig .tc := ⟨.hbm, 396, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_13 : BitVec 32 := 0#32
  let v33 : BitVec 1 := Scalar.cmpi .eq arg0 c0_i32_13
  let v34 : BitVec 32 := Scalar.extui v33
  let c0_i32_14 : BitVec 32 := 0#32
  let v35 : BitVec 1 := Scalar.cmpi .ne v34 c0_i32_14
  v35

def k0_cond2 (i : grid0.Coords) : BitVec 1 :=
  let arg0 : BitVec 32 := BitVec.ofNat 32 (i 0).val
  let c0_i32_15 : BitVec 32 := 0#32
  let v36 : BitVec 1 := Scalar.cmpi .sgt arg0 c0_i32_15
  let v37 : BitVec 32 := Scalar.extui v36
  let c0_i32_16 : BitVec 32 := 0#32
  let v38 : BitVec 1 := Scalar.cmpi .ne v37 c0_i32_16
  v38

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S36x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20x64x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S20x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S36x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceAIdeal.lean ====
abbrev S1024x3x32x32 : Shape := ⟨4, ![1024, 3, 32, 32]⟩
abbrev S16x3x5x5 : Shape := ⟨4, ![16, 3, 5, 5]⟩
abbrev S16 : Shape := ⟨1, ![16]⟩
abbrev S_ : Shape := ⟨0, ![]⟩
abbrev S1024x3x36x36 : Shape := ⟨4, ![1024, 3, 36, 36]⟩
abbrev S1024x3x36x32 : Shape := ⟨4, ![1024, 3, 36, 32]⟩
abbrev S1024x1x3x36x32 : Shape := ⟨5, ![1024, 1, 3, 36, 32]⟩
abbrev S1024x5x3x36x32 : Shape := ⟨5, ![1024, 5, 3, 36, 32]⟩
abbrev S1024x5x3x32x32 : Shape := ⟨5, ![1024, 5, 3, 32, 32]⟩
abbrev S16x3x1x5 : Shape := ⟨4, ![16, 3, 1, 5]⟩
abbrev S16x3x5 : Shape := ⟨3, ![16, 3, 5]⟩
abbrev S1024x32x32x16 : Shape := ⟨4, ![1024, 32, 32, 16]⟩
abbrev S1x1x1x16 : Shape := ⟨4, ![1, 1, 1, 16]⟩
abbrev S1024x32x16x2x16 : Shape := ⟨5, ![1024, 32, 16, 2, 16]⟩
abbrev S1024x32x16x16 : Shape := ⟨4, ![1024, 32, 16, 16]⟩
abbrev S1024x16x2x16x16 : Shape := ⟨5, ![1024, 16, 2, 16, 16]⟩
abbrev S1024x16x16x16 : Shape := ⟨4, ![1024, 16, 16, 16]⟩
abbrev S16x1024x16x16 : Shape := ⟨4, ![16, 1024, 16, 16]⟩
abbrev S16x1024x256 : Shape := ⟨3, ![16, 1024, 256]⟩
abbrev S20x1024x384 : Shape := ⟨3, ![20, 1024, 384]⟩
abbrev S36x1024x36x3 : Shape := ⟨4, ![36, 1024, 36, 3]⟩
abbrev S36x1024x108 : Shape := ⟨3, ![36, 1024, 108]⟩
abbrev S36x1024x128 : Shape := ⟨3, ![36, 1024, 128]⟩
abbrev S20x384 : Shape := ⟨2, ![20, 384]⟩
abbrev S36x128 : Shape := ⟨2, ![36, 128]⟩

abbrev nBuf : Space → Nat
  | .hbm => 67
  | .vmem => 0
  | .smem => 0
  | _ => 0

abbrev bufTy : (tb : Table) → Fin (tcTables nBuf tb) → BufTy
  | .hbm, ⟨0, _⟩ => ⟨S1024x3x32x32, .f32⟩
  | .hbm, ⟨1, _⟩ => ⟨S16x3x5x5, .f32⟩
  | .hbm, ⟨2, _⟩ => ⟨S16, .f32⟩
  | .hbm, ⟨3, _⟩ => ⟨S_, .i32⟩
  | .hbm, ⟨4, _⟩ => ⟨S_, .f32⟩
  | .hbm, ⟨5, _⟩ => ⟨S1024x3x36x36, .f32⟩
  | .hbm, ⟨6, _⟩ => ⟨S1024x3x36x32, .f32⟩
  | .hbm, ⟨7, _⟩ => ⟨S1024x3x36x32, .f32⟩
  | .hbm, ⟨8, _⟩ => ⟨S1024x3x36x32, .f32⟩
  | .hbm, ⟨9, _⟩ => ⟨S1024x3x36x32, .f32⟩
  | .hbm, ⟨10, _⟩ => ⟨S1024x3x36x32, .f32⟩
  | .hbm, ⟨11, _⟩ => ⟨S1024x1x3x36x32, .f32⟩
  | .hbm, ⟨12, _⟩ => ⟨S1024x1x3x36x32, .f32⟩
  | .hbm, ⟨13, _⟩ => ⟨S1024x1x3x36x32, .f32⟩
  | .hbm, ⟨14, _⟩ => ⟨S1024x1x3x36x32, .f32⟩
  | .hbm, ⟨15, _⟩ => ⟨S1024x1x3x36x32, .f32⟩
  | .hbm, ⟨16, _⟩ => ⟨S1024x5x3x36x32, .f32⟩
  | .hbm, ⟨17, _⟩ => ⟨S1024x5x3x32x32, .f32⟩
  | .hbm, ⟨18, _⟩ => ⟨S16x3x1x5, .f32⟩
  | .hbm, ⟨19, _⟩ => ⟨S16x3x5, .f32⟩
  | .hbm, ⟨20, _⟩ => ⟨S1024x32x32x16, .f32⟩
  | .hbm, ⟨21, _⟩ => ⟨S1024x5x3x32x32, .f32⟩
  | .hbm, ⟨22, _⟩ => ⟨S16x3x1x5, .f32⟩
  | .hbm, ⟨23, _⟩ => ⟨S16x3x5, .f32⟩
  | .hbm, ⟨24, _⟩ => ⟨S1024x32x32x16, .f32⟩
  | .hbm, ⟨25, _⟩ => ⟨S1024x32x32x16, .f32⟩
  | .hbm, ⟨26, _⟩ => ⟨S1024x5x3x32x32, .f32⟩
  | .hbm, ⟨27, _⟩ => ⟨S16x3x1x5, .f32⟩
  | .hbm, ⟨28, _⟩ => ⟨S16x3x5, .f32⟩
  | .hbm, ⟨29, _⟩ => ⟨S1024x32x32x16, .f32⟩
  | .hbm, ⟨30, _⟩ => ⟨S1024x32x32x16, .f32⟩
  | .hbm, ⟨31, _⟩ => ⟨S1024x5x3x32x32, .f32⟩
  | .hbm, ⟨32, _⟩ => ⟨S16x3x1x5, .f32⟩
  | .hbm, ⟨33, _⟩ => ⟨S16x3x5, .f32⟩
  | .hbm, ⟨34, _⟩ => ⟨S1024x32x32x16, .f32⟩
  | .hbm, ⟨35, _⟩ => ⟨S1024x32x32x16, .f32⟩
  | .hbm, ⟨36, _⟩ => ⟨S1024x5x3x32x32, .f32⟩
  | .hbm, ⟨37, _⟩ => ⟨S16x3x1x5, .f32⟩
  | .hbm, ⟨38, _⟩ => ⟨S16x3x5, .f32⟩
  | .hbm, ⟨39, _⟩ => ⟨S1024x32x32x16, .f32⟩
  | .hbm, ⟨40, _⟩ => ⟨S1024x32x32x16, .f32⟩
  | .hbm, ⟨41, _⟩ => ⟨S1x1x1x16, .f32⟩
  | .hbm, ⟨42, _⟩ => ⟨S1024x32x32x16, .f32⟩
  | .hbm, ⟨43, _⟩ => ⟨S1024x32x32x16, .f32⟩
  | .hbm, ⟨44, _⟩ => ⟨S_, .f32⟩
  | .hbm, ⟨45, _⟩ => ⟨S1024x32x32x16, .f32⟩
  | .hbm, ⟨46, _⟩ => ⟨S1024x32x32x16, .f32⟩
  | .hbm, ⟨47, _⟩ => ⟨S1024x32x16x2x16, .f32⟩
  | .hbm, ⟨48, _⟩ => ⟨S_, .f32⟩
  | .hbm, ⟨49, _⟩ => ⟨S1024x32x16x16, .f32⟩
  | .hbm, ⟨50, _⟩ => ⟨S1024x16x2x16x16, .f32⟩
  | .hbm, ⟨51, _⟩ => ⟨S_, .f32⟩
  | .hbm, ⟨52, _⟩ => ⟨S1024x16x16x16, .f32⟩
  | .hbm, ⟨53, _⟩ => ⟨S16x1024x16x16, .f32⟩
  | .hbm, ⟨54, _⟩ => ⟨S16x1024x256, .f32⟩
  | .hbm, ⟨55, _⟩ => ⟨S_, .i32⟩
  | .hbm, ⟨56, _⟩ => ⟨S_, .f32⟩
  | .hbm, ⟨57, _⟩ => ⟨S20x1024x384, .f32⟩
  | .hbm, ⟨58, _⟩ => ⟨S36x1024x36x3, .f32⟩
  | .hbm, ⟨59, _⟩ => ⟨S36x1024x108, .f32⟩
  | .hbm, ⟨60, _⟩ => ⟨S_, .i32⟩
  | .hbm, ⟨61, _⟩ => ⟨S_, .f32⟩
  | .hbm, ⟨62, _⟩ => ⟨S36x1024x128, .f32⟩
  | .hbm, ⟨63, _⟩ => ⟨S_, .f32⟩
  | .hbm, ⟨64, _⟩ => ⟨S20x384, .f32⟩
  | .hbm, ⟨65, _⟩ => ⟨S_, .f32⟩
  | .hbm, ⟨66, _⟩ => ⟨S36x128, .f32⟩
  | _, _ => ⟨S1024x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_0 : Ref sig .tc := ⟨.hbm, 48, rfl⟩
abbrev main_v42 : Ref sig .tc := ⟨.hbm, 49, rfl⟩
abbrev main_v43 : Ref sig .tc := ⟨.hbm, 50, rfl⟩
abbrev main_cst_1 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_c_2 : Ref sig .tc := ⟨.hbm, 55, rfl⟩
abbrev main_call1_v0 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_c_3 : Ref sig .tc := ⟨.hbm, 60, rfl⟩
abbrev main_call2_v0 : Ref sig .tc := ⟨.hbm, 61, rfl⟩
abbrev main_v50 : Ref sig .tc := ⟨.hbm, 62, rfl⟩
abbrev main_cst_4 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== KernelB.lean ====
abbrev S20x1024x384 : Shape := ⟨3, ![20, 1024, 384]⟩
abbrev S20x384 : Shape := ⟨2, ![20, 384]⟩
abbrev S36x128 : Shape := ⟨2, ![36, 128]⟩
abbrev S16x3x5x5 : Shape := ⟨4, ![16, 3, 5, 5]⟩
abbrev S80 : Shape := ⟨1, ![80]⟩
abbrev S_ : Shape := ⟨0, ![]⟩
abbrev S20x16x5x5 : Shape := ⟨4, ![20, 16, 5, 5]⟩
abbrev S20 : Shape := ⟨1, ![20]⟩
abbrev S405 : Shape := ⟨1, ![405]⟩
abbrev S320 : Shape := ⟨1, ![320]⟩
abbrev S8x36 : Shape := ⟨2, ![8, 36]⟩
abbrev S128x15 : Shape := ⟨2, ![128, 15]⟩
abbrev S8x20 : Shape := ⟨2, ![8, 20]⟩
abbrev S384x80 : Shape := ⟨2, ![384, 80]⟩
abbrev S16x16 : Shape := ⟨2, ![16, 16]⟩
abbrev S320x320 : Shape := ⟨2, ![320, 320]⟩
abbrev S20x16x1x1 : Shape := ⟨4, ![20, 16, 1, 1]⟩
abbrev S20x16 : Shape := ⟨2, ![20, 16]⟩
abbrev S16x20 : Shape := ⟨2, ![16, 20]⟩
abbrev S16x1x16x1 : Shape := ⟨4, ![16, 1, 16, 1]⟩
abbrev S1x16x1x20 : Shape := ⟨4, ![1, 16, 1, 20]⟩
abbrev S16x16x16x20 : Shape := ⟨4, ![16, 16, 16, 20]⟩
abbrev S256x320 : Shape := ⟨2, ![256, 320]⟩
abbrev S384x320 : Shape := ⟨2, ![384, 320]⟩
abbrev S1920x320 : Shape := ⟨2, ![1920, 320]⟩
abbrev S1920x512 : Shape := ⟨2, ![1920, 512]⟩
abbrev S320x1 : Shape := ⟨2, ![320, 1]⟩
abbrev S1x512 : Shape := ⟨2, ![1, 512]⟩
abbrev S1x20 : Shape := ⟨2, ![1, 20]⟩
abbrev S320x2 : Shape := ⟨2, ![320, 2]⟩
abbrev S75 : Shape := ⟨1, ![75]⟩
abbrev S3x5x5 : Shape := ⟨3, ![3, 5, 5]⟩
abbrev S8x15 : Shape := ⟨2, ![8, 15]⟩
abbrev S5x5x3 : Shape := ⟨3, ![5, 5, 3]⟩
abbrev S5x15 : Shape := ⟨2, ![5, 15]⟩
abbrev S1 : Shape := ⟨1, ![1]⟩
abbrev S400 : Shape := ⟨1, ![400]⟩
abbrev S16x5x5 : Shape := ⟨3, ![16, 5, 5]⟩
abbrev S8x80 : Shape := ⟨2, ![8, 80]⟩
abbrev S5x5x16 : Shape := ⟨3, ![5, 5, 16]⟩
abbrev S5x80 : Shape := ⟨2, ![5, 80]⟩
abbrev S16x75 : Shape := ⟨2, ![16, 75]⟩
abbrev S75x16 : Shape := ⟨2, ![75, 16]⟩
abbrev S20x400 : Shape := ⟨2, ![20, 400]⟩
abbrev S400x20 : Shape := ⟨2, ![400, 20]⟩
abbrev S1x75 : Shape := ⟨2, ![1, 75]⟩
abbrev S1x400 : Shape := ⟨2, ![1, 400]⟩
abbrev S5 : Shape := ⟨1, ![5]⟩
abbrev S1x5 : Shape := ⟨2, ![1, 5]⟩
abbrev S1x1 : Shape := ⟨2, ![1, 1]⟩
abbrev S1x16x1x16 : Shape := ⟨4, ![1, 16, 1, 16]⟩
abbrev S1x16x20x16 : Shape := ⟨4, ![1, 16, 20, 16]⟩
abbrev S16x320 : Shape := ⟨2, ![16, 320]⟩
abbrev S16x384 : Shape := ⟨2, ![16, 384]⟩
abbrev S20x20 : Shape := ⟨2, ![20, 20]⟩
abbrev S1x20x1x20 : Shape := ⟨4, ![1, 20, 1, 20]⟩
abbrev S1x20x16x20 : Shape := ⟨4, ![1, 20, 16, 20]⟩
abbrev S20x320 : Shape := ⟨2, ![20, 320]⟩
abbrev S20x512 : Shape := ⟨2, ![20, 512]⟩
abbrev S12x1024x256 : Shape := ⟨3, ![12, 1024, 256]⟩
abbrev S12x256 : Shape := ⟨2, ![12, 256]⟩
abbrev S20x64x384 : Shape := ⟨3, ![20, 64, 384]⟩
abbrev S12x64x256 : Shape := ⟨3, ![12, 64, 256]⟩
abbrev S1x384 : Shape := ⟨2, ![1, 384]⟩
abbrev S8x128 : Shape := ⟨2, ![8, 128]⟩
abbrev S1x8 : Shape := ⟨2, ![1, 8]⟩
abbrev S15x1 : Shape := ⟨2, ![15, 1]⟩
abbrev S1x15 : Shape := ⟨2, ![1, 15]⟩
abbrev S1x1x5 : Shape := ⟨3, ![1, 1, 5]⟩
abbrev S1x1x1 : Shape := ⟨3, ![1, 1, 1]⟩
abbrev S1x16 : Shape := ⟨2, ![1, 16]⟩
abbrev S1x1x16 : Shape := ⟨3, ![1, 1, 16]⟩
abbrev S8x384 : Shape := ⟨2, ![8, 384]⟩
abbrev S80x1 : Shape := ⟨2, ![80, 1]⟩
abbrev S1x80 : Shape := ⟨2, ![1, 80]⟩
abbrev S1x1x20 : Shape := ⟨3, ![1, 1, 20]⟩
abbrev S1x1x384 : Shape := ⟨3, ![1, 1, 384]⟩
abbrev S16x64x384 : Shape := ⟨3, ![16, 64, 384]⟩
abbrev S16x64x1920 : Shape := ⟨3, ![16, 64, 1920]⟩
abbrev S1024x1920 : Shape := ⟨2, ![1024, 1920]⟩
abbrev S1024x512 : Shape := ⟨2, ![1024, 512]⟩
abbrev S16x64x512 : Shape := ⟨3, ![16, 64, 512]⟩
abbrev S1x1x512 : Shape := ⟨3, ![1, 1, 512]⟩
abbrev S16x64x256 : Shape := ⟨3, ![16, 64, 256]⟩
abbrev S8x2x64x256 : Shape := ⟨4, ![8, 2, 64, 256]⟩
abbrev S8x64x256 : Shape := ⟨3, ![8, 64, 256]⟩
abbrev S2x64x256 : Shape := ⟨3, ![2, 64, 256]⟩
abbrev S10x64x256 : Shape := ⟨3, ![10, 64, 256]⟩

abbrev nBuf : Space → Nat
  | .hbm => 467
  | .vmem => 27
  | .smem => 0
  | _ => 0

abbrev hbmTy0_0 (i : Nat) : BufTy := match i % 128 with
  | 0 => ⟨S20x1024x384, .f32⟩
  | 1 => ⟨S20x384, .f32⟩
  | 2 => ⟨S36x128, .f32⟩
  | 3 => ⟨S16x3x5x5, .f32⟩
  | 4 => ⟨S80, .f32⟩
  | 5 => ⟨S_, .f32⟩
  | 6 => ⟨S20x16x5x5, .f32⟩
  | 7 => ⟨S20, .f32⟩
  | 8 => ⟨S405, .f32⟩
  | 9 => ⟨S_, .f32⟩
  | 10 => ⟨S320, .i32⟩
  | 11 => ⟨S320, .i1⟩
  | 12 => ⟨S320, .i32⟩
  | 13 => ⟨S320, .i1⟩
  | 14 => ⟨S8x36, .f32⟩
  | 15 => ⟨S128x15, .f32⟩
  | 16 => ⟨S8x20, .f32⟩
  | 17 => ⟨S384x80, .f32⟩
  | 18 => ⟨S320, .i32⟩
  | 19 => ⟨S320, .i1⟩
  | 20 => ⟨S16x16, .i32⟩
  | 21 => ⟨S16x16, .i32⟩
  | 22 => ⟨S_, .i32⟩
  | 23 => ⟨S16x16, .i32⟩
  | 24 => ⟨S16x16, .i32⟩
  | 25 => ⟨S16x16, .i1⟩
  | 26 => ⟨S16x16, .f32⟩
  | 27 => ⟨S_, .f32⟩
  | 28 => ⟨S320x320, .f32⟩
  | 29 => ⟨S20x16x1x1, .f32⟩
  | 30 => ⟨S20x16, .f32⟩
  | 31 => ⟨S16x20, .f32⟩
  | 32 => ⟨S16x1x16x1, .f32⟩
  | 33 => ⟨S1x16x1x20, .f32⟩
  | 34 => ⟨S16x16x16x20, .f32⟩
  | 35 => ⟨S16x16x16x20, .f32⟩
  | 36 => ⟨S16x16x16x20, .f32⟩
  | 37 => ⟨S256x320, .f32⟩
  | 38 => ⟨S_, .i32⟩
  | 39 => ⟨S_, .f32⟩
  | 40 => ⟨S320x320, .f32⟩
  | 41 => ⟨S320x320, .f32⟩
  | 42 => ⟨S20x16x1x1, .f32⟩
  | 43 => ⟨S20x16, .f32⟩
  | 44 => ⟨S16x20, .f32⟩
  | 45 => ⟨S16x1x16x1, .f32⟩
  | 46 => ⟨S1x16x1x20, .f32⟩
  | 47 => ⟨S16x16x16x20, .f32⟩
  | 48 => ⟨S16x16x16x20, .f32⟩
  | 49 => ⟨S16x16x16x20, .f32⟩
  | 50 => ⟨S256x320, .f32⟩
  | 51 => ⟨S_, .i32⟩
  | 52 => ⟨S_, .f32⟩
  | 53 => ⟨S320x320, .f32⟩
  | 54 => ⟨S320x320, .f32⟩
  | 55 => ⟨S20x16x1x1, .f32⟩
  | 56 => ⟨S20x16, .f32⟩
  | 57 => ⟨S16x20, .f32⟩
  | 58 => ⟨S16x1x16x1, .f32⟩
  | 59 => ⟨S1x16x1x20, .f32⟩
  | 60 => ⟨S16x16x16x20, .f32⟩
  | 61 => ⟨S16x16x16x20, .f32⟩
  | 62 => ⟨S16x16x16x20, .f32⟩
  | 63 => ⟨S256x320, .f32⟩
  | 64 => ⟨S_, .i32⟩
  | 65 => ⟨S_, .f32⟩
  | 66 => ⟨S320x320, .f32⟩
  | 67 => ⟨S320x320, .f32⟩
  | 68 => ⟨S20x16x1x1, .f32⟩
  | 69 => ⟨S20x16, .f32⟩
  | 70 => ⟨S16x20, .f32⟩
  | 71 => ⟨S16x1x16x1, .f32⟩
  | 72 => ⟨S1x16x1x20, .f32⟩
  | 73 => ⟨S16x16x16x20, .f32⟩
  | 74 => ⟨S16x16x16x20, .f32⟩
  | 75 => ⟨S16x16x16x20, .f32⟩
  | 76 => ⟨S256x320, .f32⟩
  | 77 => ⟨S_, .i32⟩
  | 78 => ⟨S_, .f32⟩
  | 79 => ⟨S320x320, .f32⟩
  | 80 => ⟨S320x320, .f32⟩
  | 81 => ⟨S20x16x1x1, .f32⟩
  | 82 => ⟨S20x16, .f32⟩
  | 83 => ⟨S16x20, .f32⟩
  | 84 => ⟨S16x1x16x1, .f32⟩
  | 85 => ⟨S1x16x1x20, .f32⟩
  | 86 => ⟨S16x16x16x20, .f32⟩
  | 87 => ⟨S16x16x16x20, .f32⟩
  | 88 => ⟨S16x16x16x20, .f32⟩
  | 89 => ⟨S256x320, .f32⟩
  | 90 => ⟨S_, .i32⟩
  | 91 => ⟨S_, .f32⟩
  | 92 => ⟨S320x320, .f32⟩
  | 93 => ⟨S320x320, .f32⟩
  | 94 => ⟨S_, .i32⟩
  | 95 => ⟨S_, .f32⟩
  | 96 => ⟨S384x320, .f32⟩
  | 97 => ⟨S_, .f32⟩
  | 98 => ⟨S320x320, .f32⟩
  | 99 => ⟨S20x16x1x1, .f32⟩
  | 100 => ⟨S20x16, .f32⟩
  | 101 => ⟨S16x20, .f32⟩
  | 102 => ⟨S16x1x16x1, .f32⟩
  | 103 => ⟨S1x16x1x20, .f32⟩
  | 104 => ⟨S16x16x16x20, .f32⟩
  | 105 => ⟨S16x16x16x20, .f32⟩
  | 106 => ⟨S16x16x16x20, .f32⟩
  | 107 => ⟨S256x320, .f32⟩
  | 108 => ⟨S_, .i32⟩
  | 109 => ⟨S_, .f32⟩
  | 110 => ⟨S320x320, .f32⟩
  | 111 => ⟨S320x320, .f32⟩
  | 112 => ⟨S20x16x1x1, .f32⟩
  | 113 => ⟨S20x16, .f32⟩
  | 114 => ⟨S16x20, .f32⟩
  | 115 => ⟨S16x1x16x1, .f32⟩
  | 116 => ⟨S1x16x1x20, .f32⟩
  | 117 => ⟨S16x16x16x20, .f32⟩
  | 118 => ⟨S16x16x16x20, .f32⟩
  | 119 => ⟨S16x16x16x20, .f32⟩
  | 120 => ⟨S256x320, .f32⟩
  | 121 => ⟨S_, .i32⟩
  | 122 => ⟨S_, .f32⟩
  | 123 => ⟨S320x320, .f32⟩
  | 124 => ⟨S320x320, .f32⟩
  | 125 => ⟨S20x16x1x1, .f32⟩
  | 126 => ⟨S20x16, .f32⟩
  | 127 => ⟨S16x20, .f32⟩
  | _ => ⟨S20x1024x384, .f32⟩

abbrev hbmTy0_1 (i : Nat) : BufTy := match i % 128 with
  | 0 => ⟨S16x1x16x1, .f32⟩
  | 1 => ⟨S1x16x1x20, .f32⟩
  | 2 => ⟨S16x16x16x20, .f32⟩
  | 3 => ⟨S16x16x16x20, .f32⟩
  | 4 => ⟨S16x16x16x20, .f32⟩
  | 5 => ⟨S256x320, .f32⟩
  | 6 => ⟨S_, .i32⟩
  | 7 => ⟨S_, .f32⟩
  | 8 => ⟨S320x320, .f32⟩
  | 9 => ⟨S320x320, .f32⟩
  | 10 => ⟨S20x16x1x1, .f32⟩
  | 11 => ⟨S20x16, .f32⟩
  | 12 => ⟨S16x20, .f32⟩
  | 13 => ⟨S16x1x16x1, .f32⟩
  | 14 => ⟨S1x16x1x20, .f32⟩
  | 15 => ⟨S16x16x16x20, .f32⟩
  | 16 => ⟨S16x16x16x20, .f32⟩
  | 17 => ⟨S16x16x16x20, .f32⟩
  | 18 => ⟨S256x320, .f32⟩
  | 19 => ⟨S_, .i32⟩
  | 20 => ⟨S_, .f32⟩
  | 21 => ⟨S320x320, .f32⟩
  | 22 => ⟨S320x320, .f32⟩
  | 23 => ⟨S20x16x1x1, .f32⟩
  | 24 => ⟨S20x16, .f32⟩
  | 25 => ⟨S16x20, .f32⟩
  | 26 => ⟨S16x1x16x1, .f32⟩
  | 27 => ⟨S1x16x1x20, .f32⟩
  | 28 => ⟨S16x16x16x20, .f32⟩
  | 29 => ⟨S16x16x16x20, .f32⟩
  | 30 => ⟨S16x16x16x20, .f32⟩
  | 31 => ⟨S256x320, .f32⟩
  | 32 => ⟨S_, .i32⟩
  | 33 => ⟨S_, .f32⟩
  | 34 => ⟨S320x320, .f32⟩
  | 35 => ⟨S320x320, .f32⟩
  | 36 => ⟨S_, .i32⟩
  | 37 => ⟨S_, .f32⟩
  | 38 => ⟨S384x320, .f32⟩
  | 39 => ⟨S_, .f32⟩
  | 40 => ⟨S320x320, .f32⟩
  | 41 => ⟨S20x16x1x1, .f32⟩
  | 42 => ⟨S20x16, .f32⟩
  | 43 => ⟨S16x20, .f32⟩
  | 44 => ⟨S16x1x16x1, .f32⟩
  | 45 => ⟨S1x16x1x20, .f32⟩
  | 46 => ⟨S16x16x16x20, .f32⟩
  | 47 => ⟨S16x16x16x20, .f32⟩
  | 48 => ⟨S16x16x16x20, .f32⟩
  | 49 => ⟨S256x320, .f32⟩
  | 50 => ⟨S_, .i32⟩
  | 51 => ⟨S_, .f32⟩
  | 52 => ⟨S320x320, .f32⟩
  | 53 => ⟨S320x320, .f32⟩
  | 54 => ⟨S20x16x1x1, .f32⟩
  | 55 => ⟨S20x16, .f32⟩
  | 56 => ⟨S16x20, .f32⟩
  | 57 => ⟨S16x1x16x1, .f32⟩
  | 58 => ⟨S1x16x1x20, .f32⟩
  | 59 => ⟨S16x16x16x20, .f32⟩
  | 60 => ⟨S16x16x16x20, .f32⟩
  | 61 => ⟨S16x16x16x20, .f32⟩
  | 62 => ⟨S256x320, .f32⟩
  | 63 => ⟨S_, .i32⟩
  | 64 => ⟨S_, .f32⟩
  | 65 => ⟨S320x320, .f32⟩
  | 66 => ⟨S320x320, .f32⟩
  | 67 => ⟨S20x16x1x1, .f32⟩
  | 68 => ⟨S20x16, .f32⟩
  | 69 => ⟨S16x20, .f32⟩
  | 70 => ⟨S16x1x16x1, .f32⟩
  | 71 => ⟨S1x16x1x20, .f32⟩
  | 72 => ⟨S16x16x16x20, .f32⟩
  | 73 => ⟨S16x16x16x20, .f32⟩
  | 74 => ⟨S16x16x16x20, .f32⟩
  | 75 => ⟨S256x320, .f32⟩
  | 76 => ⟨S_, .i32⟩
  | 77 => ⟨S_, .f32⟩
  | 78 => ⟨S320x320, .f32⟩
  | 79 => ⟨S320x320, .f32⟩
  | 80 => ⟨S20x16x1x1, .f32⟩
  | 81 => ⟨S20x16, .f32⟩
  | 82 => ⟨S16x20, .f32⟩
  | 83 => ⟨S16x1x16x1, .f32⟩
  | 84 => ⟨S1x16x1x20, .f32⟩
  | 85 => ⟨S16x16x16x20, .f32⟩
  | 86 => ⟨S16x16x16x20, .f32⟩
  | 87 => ⟨S16x16x16x20, .f32⟩
  | 88 => ⟨S256x320, .f32⟩
  | 89 => ⟨S_, .i32⟩
  | 90 => ⟨S_, .f32⟩
  | 91 => ⟨S320x320, .f32⟩
  | 92 => ⟨S320x320, .f32⟩
  | 93 => ⟨S20x16x1x1, .f32⟩
  | 94 => ⟨S20x16, .f32⟩
  | 95 => ⟨S16x20, .f32⟩
  | 96 => ⟨S16x1x16x1, .f32⟩
  | 97 => ⟨S1x16x1x20, .f32⟩
  | 98 => ⟨S16x16x16x20, .f32⟩
  | 99 => ⟨S16x16x16x20, .f32⟩
  | 100 => ⟨S16x16x16x20, .f32⟩
  | 101 => ⟨S256x320, .f32⟩
  | 102 => ⟨S_, .i32⟩
  | 103 => ⟨S_, .f32⟩
  | 104 => ⟨S320x320, .f32⟩
  | 105 => ⟨S320x320, .f32⟩
  | 106 => ⟨S_, .i32⟩
  | 107 => ⟨S_, .f32⟩
  | 108 => ⟨S384x320, .f32⟩
  | 109 => ⟨S_, .f32⟩
  | 110 => ⟨S320x320, .f32⟩
  | 111 => ⟨S20x16x1x1, .f32⟩
  | 112 => ⟨S20x16, .f32⟩
  | 113 => ⟨S16x20, .f32⟩
  | 114 => ⟨S16x1x16x1, .f32⟩
  | 115 => ⟨S1x16x1x20, .f32⟩
  | 116 => ⟨S16x16x16x20, .f32⟩
  | 117 => ⟨S16x16x16x20, .f32⟩
  | 118 => ⟨S16x16x16x20, .f32⟩
  | 119 => ⟨S256x320, .f32⟩
  | 120 => ⟨S_, .i32⟩
  | 121 => ⟨S_, .f32⟩
  | 122 => ⟨S320x320, .f32⟩
  | 123 => ⟨S320x320, .f32⟩
  | 124 => ⟨S20x16x1x1, .f32⟩
  | 125 => ⟨S20x16, .f32⟩
  | 126 => ⟨S16x20, .f32⟩
  | 127 => ⟨S16x1x16x1, .f32⟩
  | _ => ⟨S20x1024x384, .f32⟩

abbrev hbmTy0_2 (i : Nat) : BufTy := match i % 128 with
  | 0 => ⟨S1x16x1x20, .f32⟩
  | 1 => ⟨S16x16x16x20, .f32⟩
  | 2 => ⟨S16x16x16x20, .f32⟩
  | 3 => ⟨S16x16x16x20, .f32⟩
  | 4 => ⟨S256x320, .f32⟩
  | 5 => ⟨S_, .i32⟩
  | 6 => ⟨S_, .f32⟩
  | 7 => ⟨S320x320, .f32⟩
  | 8 => ⟨S320x320, .f32⟩
  | 9 => ⟨S20x16x1x1, .f32⟩
  | 10 => ⟨S20x16, .f32⟩
  | 11 => ⟨S16x20, .f32⟩
  | 12 => ⟨S16x1x16x1, .f32⟩
  | 13 => ⟨S1x16x1x20, .f32⟩
  | 14 => ⟨S16x16x16x20, .f32⟩
  | 15 => ⟨S16x16x16x20, .f32⟩
  | 16 => ⟨S16x16x16x20, .f32⟩
  | 17 => ⟨S256x320, .f32⟩
  | 18 => ⟨S_, .i32⟩
  | 19 => ⟨S_, .f32⟩
  | 20 => ⟨S320x320, .f32⟩
  | 21 => ⟨S320x320, .f32⟩
  | 22 => ⟨S20x16x1x1, .f32⟩
  | 23 => ⟨S20x16, .f32⟩
  | 24 => ⟨S16x20, .f32⟩
  | 25 => ⟨S16x1x16x1, .f32⟩
  | 26 => ⟨S1x16x1x20, .f32⟩
  | 27 => ⟨S16x16x16x20, .f32⟩
  | 28 => ⟨S16x16x16x20, .f32⟩
  | 29 => ⟨S16x16x16x20, .f32⟩
  | 30 => ⟨S256x320, .f32⟩
  | 31 => ⟨S_, .i32⟩
  | 32 => ⟨S_, .f32⟩
  | 33 => ⟨S320x320, .f32⟩
  | 34 => ⟨S320x320, .f32⟩
  | 35 => ⟨S20x16x1x1, .f32⟩
  | 36 => ⟨S20x16, .f32⟩
  | 37 => ⟨S16x20, .f32⟩
  | 38 => ⟨S16x1x16x1, .f32⟩
  | 39 => ⟨S1x16x1x20, .f32⟩
  | 40 => ⟨S16x16x16x20, .f32⟩
  | 41 => ⟨S16x16x16x20, .f32⟩
  | 42 => ⟨S16x16x16x20, .f32⟩
  | 43 => ⟨S256x320, .f32⟩
  | 44 => ⟨S_, .i32⟩
  | 45 => ⟨S_, .f32⟩
  | 46 => ⟨S320x320, .f32⟩
  | 47 => ⟨S320x320, .f32⟩
  | 48 => ⟨S_, .i32⟩
  | 49 => ⟨S_, .f32⟩
  | 50 => ⟨S384x320, .f32⟩
  | 51 => ⟨S_, .f32⟩
  | 52 => ⟨S320x320, .f32⟩
  | 53 => ⟨S20x16x1x1, .f32⟩
  | 54 => ⟨S20x16, .f32⟩
  | 55 => ⟨S16x20, .f32⟩
  | 56 => ⟨S16x1x16x1, .f32⟩
  | 57 => ⟨S1x16x1x20, .f32⟩
  | 58 => ⟨S16x16x16x20, .f32⟩
  | 59 => ⟨S16x16x16x20, .f32⟩
  | 60 => ⟨S16x16x16x20, .f32⟩
  | 61 => ⟨S256x320, .f32⟩
  | 62 => ⟨S_, .i32⟩
  | 63 => ⟨S_, .f32⟩
  | 64 => ⟨S320x320, .f32⟩
  | 65 => ⟨S320x320, .f32⟩
  | 66 => ⟨S20x16x1x1, .f32⟩
  | 67 => ⟨S20x16, .f32⟩
  | 68 => ⟨S16x20, .f32⟩
  | 69 => ⟨S16x1x16x1, .f32⟩
  | 70 => ⟨S1x16x1x20, .f32⟩
  | 71 => ⟨S16x16x16x20, .f32⟩
  | 72 => ⟨S16x16x16x20, .f32⟩
  | 73 => ⟨S16x16x16x20, .f32⟩
  | 74 => ⟨S256x320, .f32⟩
  | 75 => ⟨S_, .i32⟩
  | 76 => ⟨S_, .f32⟩
  | 77 => ⟨S320x320, .f32⟩
  | 78 => ⟨S320x320, .f32⟩
  | 79 => ⟨S20x16x1x1, .f32⟩
  | 80 => ⟨S20x16, .f32⟩
  | 81 => ⟨S16x20, .f32⟩
  | 82 => ⟨S16x1x16x1, .f32⟩
  | 83 => ⟨S1x16x1x20, .f32⟩
  | 84 => ⟨S16x16x16x20, .f32⟩
  | 85 => ⟨S16x16x16x20, .f32⟩
  | 86 => ⟨S16x16x16x20, .f32⟩
  | 87 => ⟨S256x320, .f32⟩
  | 88 => ⟨S_, .i32⟩
  | 89 => ⟨S_, .f32⟩
  | 90 => ⟨S320x320, .f32⟩
  | 91 => ⟨S320x320, .f32⟩
  | 92 => ⟨S20x16x1x1, .f32⟩
  | 93 => ⟨S20x16, .f32⟩
  | 94 => ⟨S16x20, .f32⟩
  | 95 => ⟨S16x1x16x1, .f32⟩
  | 96 => ⟨S1x16x1x20, .f32⟩
  | 97 => ⟨S16x16x16x20, .f32⟩
  | 98 => ⟨S16x16x16x20, .f32⟩
  | 99 => ⟨S16x16x16x20, .f32⟩
  | 100 => ⟨S256x320, .f32⟩
  | 101 => ⟨S_, .i32⟩
  | 102 => ⟨S_, .f32⟩
  | 103 => ⟨S320x320, .f32⟩
  | 104 => ⟨S320x320, .f32⟩
  | 105 => ⟨S20x16x1x1, .f32⟩
  | 106 => ⟨S20x16, .f32⟩
  | 107 => ⟨S16x20, .f32⟩
  | 108 => ⟨S16x1x16x1, .f32⟩
  | 109 => ⟨S1x16x1x20, .f32⟩
  | 110 => ⟨S16x16x16x20, .f32⟩
  | 111 => ⟨S16x16x16x20, .f32⟩
  | 112 => ⟨S16x16x16x20, .f32⟩
  | 113 => ⟨S256x320, .f32⟩
  | 114 => ⟨S_, .i32⟩
  | 115 => ⟨S_, .f32⟩
  | 116 => ⟨S320x320, .f32⟩
  | 117 => ⟨S320x320, .f32⟩
  | 118 => ⟨S_, .i32⟩
  | 119 => ⟨S_, .f32⟩
  | 120 => ⟨S384x320, .f32⟩
  | 121 => ⟨S1920x320, .f32⟩
  | 122 => ⟨S_, .f32⟩
  | 123 => ⟨S1920x512, .f32⟩
  | 124 => ⟨S_, .i32⟩
  | 125 => ⟨S320, .i32⟩
  | 126 => ⟨S320, .i32⟩
  | 127 => ⟨S320, .i32⟩
  | _ => ⟨S20x1024x384, .f32⟩

abbrev hbmTy0_3 (i : Nat) : BufTy := match i % 128 with
  | 0 => ⟨S320x1, .i32⟩
  | 1 => ⟨S1920x512, .f32⟩
  | 2 => ⟨S_, .f32⟩
  | 3 => ⟨S1x512, .f32⟩
  | 4 => ⟨S1x20, .f32⟩
  | 5 => ⟨S16x20, .f32⟩
  | 6 => ⟨S320, .f32⟩
  | 7 => ⟨S_, .i32⟩
  | 8 => ⟨S320, .i32⟩
  | 9 => ⟨S320, .i32⟩
  | 10 => ⟨S320, .i32⟩
  | 11 => ⟨S_, .i32⟩
  | 12 => ⟨S320, .i32⟩
  | 13 => ⟨S320, .i32⟩
  | 14 => ⟨S320x1, .i32⟩
  | 15 => ⟨S320x1, .i32⟩
  | 16 => ⟨S320x2, .i32⟩
  | 17 => ⟨S1x512, .f32⟩
  | 18 => ⟨S75, .f32⟩
  | 19 => ⟨S3x5x5, .f32⟩
  | 20 => ⟨S_, .f32⟩
  | 21 => ⟨S8x15, .f32⟩
  | 22 => ⟨S5x5x3, .f32⟩
  | 23 => ⟨S5x15, .f32⟩
  | 24 => ⟨S_, .i32⟩
  | 25 => ⟨S1, .i32⟩
  | 26 => ⟨S8x15, .f32⟩
  | 27 => ⟨S400, .f32⟩
  | 28 => ⟨S16x5x5, .f32⟩
  | 29 => ⟨S_, .f32⟩
  | 30 => ⟨S8x80, .f32⟩
  | 31 => ⟨S5x5x16, .f32⟩
  | 32 => ⟨S5x80, .f32⟩
  | 33 => ⟨S_, .i32⟩
  | 34 => ⟨S1, .i32⟩
  | 35 => ⟨S8x80, .f32⟩
  | 36 => ⟨S16x75, .f32⟩
  | 37 => ⟨S75x16, .f32⟩
  | 38 => ⟨S20x400, .f32⟩
  | 39 => ⟨S400x20, .f32⟩
  | 40 => ⟨S75, .f32⟩
  | 41 => ⟨S1x75, .f32⟩
  | 42 => ⟨S400, .f32⟩
  | 43 => ⟨S1x400, .f32⟩
  | 44 => ⟨S5, .f32⟩
  | 45 => ⟨S1x5, .f32⟩
  | 46 => ⟨S5, .f32⟩
  | 47 => ⟨S1x5, .f32⟩
  | 48 => ⟨S1x1, .f32⟩
  | 49 => ⟨S1x1, .f32⟩
  | 50 => ⟨S16x16, .i32⟩
  | 51 => ⟨S16x16, .i32⟩
  | 52 => ⟨S_, .i32⟩
  | 53 => ⟨S16x16, .i32⟩
  | 54 => ⟨S16x16, .i32⟩
  | 55 => ⟨S16x16, .i1⟩
  | 56 => ⟨S16x16, .f32⟩
  | 57 => ⟨S1x16x1x16, .f32⟩
  | 58 => ⟨S1x16x20x16, .f32⟩
  | 59 => ⟨S16x320, .f32⟩
  | 60 => ⟨S_, .i32⟩
  | 61 => ⟨S_, .f32⟩
  | 62 => ⟨S16x384, .f32⟩
  | 63 => ⟨S20x20, .i32⟩
  | 64 => ⟨S20x20, .i32⟩
  | 65 => ⟨S_, .i32⟩
  | 66 => ⟨S20x20, .i32⟩
  | 67 => ⟨S20x20, .i32⟩
  | 68 => ⟨S20x20, .i1⟩
  | 69 => ⟨S20x20, .f32⟩
  | 70 => ⟨S1x20x1x20, .f32⟩
  | 71 => ⟨S1x20x16x20, .f32⟩
  | 72 => ⟨S20x320, .f32⟩
  | 73 => ⟨S_, .f32⟩
  | 74 => ⟨S20x512, .f32⟩
  | 75 => ⟨S_, .i32⟩
  | 76 => ⟨S320, .i32⟩
  | 77 => ⟨S320, .i32⟩
  | 78 => ⟨S320, .i32⟩
  | 79 => ⟨S320x1, .i32⟩
  | 80 => ⟨S20x512, .f32⟩
  | 81 => ⟨S12x1024x256, .f32⟩
  | 82 => ⟨S12x256, .f32⟩
  | _ => ⟨S20x1024x384, .f32⟩

abbrev hbmTy (i : Nat) : BufTy := match i / 128 with
  | 0 => hbmTy0_0 i
  | 1 => hbmTy0_1 i
  | 2 => hbmTy0_2 i
  | 3 => hbmTy0_3 i
  | _ => ⟨S20x1024x384, .f32⟩

abbrev bufTy : (tb : Table) → Fin (tcTables nBuf tb) → BufTy
  | .hbm, ⟨i, _⟩ => hbmTy i
  | .local _ .vmem, ⟨0, _⟩ => ⟨S20x64x384, .f32⟩
  | .local _ .vmem, ⟨1, _⟩ => ⟨S20x64x384, .f32⟩
  | .local _ .vmem, ⟨2, _⟩ => ⟨S1920x512, .f32⟩
  | .local _ .vmem, ⟨3, _⟩ => ⟨S1x512, .f32⟩
  | .local _ .vmem, ⟨4, _⟩ => ⟨S36x128, .f32⟩
  | .local _ .vmem, ⟨5, _⟩ => ⟨S20x384, .f32⟩
  | .local _ .vmem, ⟨6, _⟩ => ⟨S75x16, .f32⟩
  | .local _ .vmem, ⟨7, _⟩ => ⟨S1x75, .f32⟩
  | .local _ .vmem, ⟨8, _⟩ => ⟨S1x5, .f32⟩
  | .local _ .vmem, ⟨9, _⟩ => ⟨S1x1, .f32⟩
  | .local _ .vmem, ⟨10, _⟩ => ⟨S8x36, .f32⟩
  | .local _ .vmem, ⟨11, _⟩ => ⟨S128x15, .f32⟩
  | .local _ .vmem, ⟨12, _⟩ => ⟨S8x15, .f32⟩
  | .local _ .vmem, ⟨13, _⟩ => ⟨S16x384, .f32⟩
  | .local _ .vmem, ⟨14, _⟩ => ⟨S400x20, .f32⟩
  | .local _ .vmem, ⟨15, _⟩ => ⟨S1x400, .f32⟩
  | .local _ .vmem, ⟨16, _⟩ => ⟨S1x5, .f32⟩
  | .local _ .vmem, ⟨17, _⟩ => ⟨S1x1, .f32⟩
  | .local _ .vmem, ⟨18, _⟩ => ⟨S8x20, .f32⟩
  | .local _ .vmem, ⟨19, _⟩ => ⟨S384x80, .f32⟩
  | .local _ .vmem, ⟨20, _⟩ => ⟨S8x80, .f32⟩
  | .local _ .vmem, ⟨21, _⟩ => ⟨S20x512, .f32⟩
  | .local _ .vmem, ⟨22, _⟩ => ⟨S12x64x256, .f32⟩
  | .local _ .vmem, ⟨23, _⟩ => ⟨S12x64x256, .f32⟩
  | .local _ .vmem, ⟨24, _⟩ => ⟨S12x256, .f32⟩
  | .local _ .vmem, ⟨25, _⟩ => ⟨S1x384, .f32⟩
  | .local _ .vmem, ⟨26, _⟩ => ⟨S1x512, .f32⟩
  | _, _ => ⟨S20x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_c_2 : Ref sig .tc := ⟨.hbm, 13, rfl⟩
abbrev main_cst : Ref sig .tc := ⟨.hbm, 14, rfl⟩
abbrev main_cst_3 : Ref sig .tc := ⟨.hbm, 15, rfl⟩
abbrev main_cst_4 : Ref sig .tc := ⟨.hbm, 16, rfl⟩
abbrev main_cst_5 : Ref sig .tc := ⟨.hbm, 17, rfl⟩
abbrev main_c_6 : Ref sig .tc := ⟨.hbm, 18, rfl⟩
abbrev main_c_7 : Ref sig .tc := ⟨.hbm, 19, rfl⟩
abbrev main_v0 : Ref sig .tc := ⟨.hbm, 20, rfl⟩
abbrev main_v1 : Ref sig .tc := ⟨.hbm, 21, rfl⟩
abbrev main_c_8 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst_9 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_10 : Ref sig .tc := ⟨.hbm, 38, rfl⟩
abbrev main_call0_v0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_11 : Ref sig .tc := ⟨.hbm, 51, rfl⟩
abbrev main_call1_v0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_12 : Ref sig .tc := ⟨.hbm, 64, rfl⟩
abbrev main_call2_v0 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_13 : Ref sig .tc := ⟨.hbm, 77, rfl⟩
abbrev main_call3_v0 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_14 : Ref sig .tc := ⟨.hbm, 90, rfl⟩
abbrev main_call4_v0 : Ref sig .tc := ⟨.hbm, 91, rfl⟩
abbrev main_v60 : Ref sig .tc := ⟨.hbm, 92, rfl⟩
abbrev main_v61 : Ref sig .tc := ⟨.hbm, 93, rfl⟩
abbrev main_c_15 : Ref sig .tc := ⟨.hbm, 94, rfl⟩
abbrev main_call5_v0 : Ref sig .tc := ⟨.hbm, 95, rfl⟩
abbrev main_v62 : Ref sig .tc := ⟨.hbm, 96, rfl⟩
abbrev main_cst_16 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_17 : Ref sig .tc := ⟨.hbm, 108, rfl⟩
abbrev main_call6_v0 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_c_18 : Ref sig .tc := ⟨.hbm, 121, rfl⟩
abbrev main_call7_v0 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_c_19 : Ref sig .tc := ⟨.hbm, 134, rfl⟩
abbrev main_call8_v0 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_c_20 : Ref sig .tc := ⟨.hbm, 147, rfl⟩
abbrev main_call9_v0 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_c_21 : Ref sig .tc := ⟨.hbm, 160, rfl⟩
abbrev main_call10_v0 : Ref sig .tc := ⟨.hbm, 161, rfl⟩
abbrev main_v117 : Ref sig .tc := ⟨.hbm, 162, rfl⟩
abbrev main_v118 : Ref sig .tc := ⟨.hbm, 163, rfl⟩
abbrev main_c_22 : Ref sig .tc := ⟨.hbm, 164, rfl⟩
abbrev main_call11_v0 : Ref sig .tc := ⟨.hbm, 165, rfl⟩
abbrev main_v119 : Ref sig .tc := ⟨.hbm, 166, rfl⟩
abbrev main_cst_23 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_c_24 : Ref sig .tc := ⟨.hbm, 178, rfl⟩
abbrev main_call12_v0 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_c_25 : Ref sig .tc := ⟨.hbm, 191, rfl⟩
abbrev main_call13_v0 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_c_26 : Ref sig .tc := ⟨.hbm, 204, rfl⟩
abbrev main_call14_v0 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_c_27 : Ref sig .tc := ⟨.hbm, 217, rfl⟩
abbrev main_call15_v0 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_c_28 : Ref sig .tc := ⟨.hbm, 230, rfl⟩
abbrev main_call16_v0 : Ref sig .tc := ⟨.hbm, 231, rfl⟩
abbrev main_v174 : Ref sig .tc := ⟨.hbm, 232, rfl⟩
abbrev main_v175 : Ref sig .tc := ⟨.hbm, 233, rfl⟩
abbrev main_c_29 : Ref sig .tc := ⟨.hbm, 234, rfl⟩
abbrev main_call17_v0 : Ref sig .tc := ⟨.hbm, 235, rfl⟩
abbrev main_v176 : Ref sig .tc := ⟨.hbm, 236, rfl⟩
abbrev main_cst_30 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_c_31 : Ref sig .tc := ⟨.hbm, 248, rfl⟩
abbrev main_call18_v0 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_c_32 : Ref sig .tc := ⟨.hbm, 261, rfl⟩
abbrev main_call19_v0 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_c_33 : Ref sig .tc := ⟨.hbm, 274, rfl⟩
abbrev main_call20_v0 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_c_34 : Ref sig .tc := ⟨.hbm, 287, rfl⟩
abbrev main_call21_v0 : Ref sig .tc := ⟨.hbm, 288, rfl⟩
abbrev main_v220 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_c_35 : Ref sig .tc := ⟨.hbm, 300, rfl⟩
abbrev main_call22_v0 : Ref sig .tc := ⟨.hbm, 301, rfl⟩
abbrev main_v231 : Ref sig .tc := ⟨.hbm, 302, rfl⟩
abbrev main_v232 : Ref sig .tc := ⟨.hbm, 303, rfl⟩
abbrev main_c_36 : Ref sig .tc := ⟨.hbm, 304, rfl⟩
abbrev main_call23_v0 : Ref sig .tc := ⟨.hbm, 305, rfl⟩
abbrev main_v233 : Ref sig .tc := ⟨.hbm, 306, rfl⟩
abbrev main_cst_37 : Ref sig .tc := ⟨.hbm, 307, rfl⟩
abbrev main_v234 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_c_38 : Ref sig .tc := ⟨.hbm, 318, rfl⟩
abbrev main_call24_v0 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_c_39 : Ref sig .tc := ⟨.hbm, 331, rfl⟩
abbrev main_call25_v0 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩
abbrev main_v260 : Ref sig .tc := ⟨.hbm, 338, rfl⟩
abbrev main_v261 : Ref sig .tc := ⟨.hbm, 339, rfl⟩
abbrev main_v262 : Ref sig .tc := ⟨.hbm, 340, rfl⟩
abbrev main_v263 : Ref sig .tc := ⟨.hbm, 341, rfl⟩
abbrev main_v264 : Ref sig .tc := ⟨.hbm, 342, rfl⟩
abbrev main_v265 : Ref sig .tc := ⟨.hbm, 343, rfl⟩
abbrev main_c_40 : Ref sig .tc := ⟨.hbm, 344, rfl⟩
abbrev main_call26_v0 : Ref sig .tc := ⟨.hbm, 345, rfl⟩
abbrev main_v266 : Ref sig .tc := ⟨.hbm, 346, rfl⟩
abbrev main_v267 : Ref sig .tc := ⟨.hbm, 347, rfl⟩
abbrev main_v268 : Ref sig .tc := ⟨.hbm, 348, rfl⟩
abbrev main_v269 : Ref sig .tc := ⟨.hbm, 349, rfl⟩
abbrev main_v270 : Ref sig .tc := ⟨.hbm, 350, rfl⟩
abbrev main_v271 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩
abbrev main_v275 : Ref sig .tc := ⟨.hbm, 355, rfl⟩
abbrev main_v276 : Ref sig .tc := ⟨.hbm, 356, rfl⟩
abbrev main_c_41 : Ref sig .tc := ⟨.hbm, 357, rfl⟩
abbrev main_call27_v0 : Ref sig .tc := ⟨.hbm, 358, rfl⟩
abbrev main_v277 : Ref sig .tc := ⟨.hbm, 359, rfl⟩
abbrev main_v278 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_c_42 : Ref sig .tc := ⟨.hbm, 370, rfl⟩
abbrev main_call28_v0 : Ref sig .tc := ⟨.hbm, 371, rfl⟩
abbrev main_v288 : Ref sig .tc := ⟨.hbm, 372, rfl⟩
abbrev main_v289 : Ref sig .tc := ⟨.hbm, 373, rfl⟩
abbrev main_c_43 : Ref sig .tc := ⟨.hbm, 374, rfl⟩
abbrev main_call29_v0 : Ref sig .tc := ⟨.hbm, 375, rfl⟩
abbrev main_v290 : Ref sig .tc := ⟨.hbm, 376, rfl⟩
abbrev main_v291 : Ref sig .tc := ⟨.hbm, 377, rfl⟩
abbrev main_cst_44 : Ref sig .tc := ⟨.hbm, 378, rfl⟩
abbrev main_v292 : Ref sig .tc := ⟨.hbm, 379, rfl⟩
abbrev main_c_45 : Ref sig .tc := ⟨.hbm, 380, rfl⟩
abbrev main_v293 : Ref sig .tc := ⟨.hbm, 381, rfl⟩
abbrev main_v294 : Ref sig .tc := ⟨.hbm, 382, rfl⟩
abbrev main_v295 : Ref sig .tc := ⟨.hbm, 383, rfl⟩
abbrev main_v296 : Ref sig .tc := ⟨.hbm, 384, rfl⟩
abbrev main_v297 : Ref sig .tc := ⟨.hbm, 385, rfl⟩
abbrev main_cst_46 : Ref sig .tc := ⟨.hbm, 386, rfl⟩
abbrev main_v298 : Ref sig .tc := ⟨.hbm, 387, rfl⟩
abbrev main_v299 : Ref sig .tc := ⟨.hbm, 388, rfl⟩
abbrev main_v300 : Ref sig .tc := ⟨.hbm, 389, rfl⟩
abbrev main_v301 : Ref sig .tc := ⟨.hbm, 390, rfl⟩
abbrev main_c_47 : Ref sig .tc := ⟨.hbm, 391, rfl⟩
abbrev main_v302 : Ref sig .tc := ⟨.hbm, 392, rfl⟩
abbrev main_v303 : Ref sig .tc := ⟨.hbm, 393, rfl⟩
abbrev main_v304 : Ref sig .tc := ⟨.hbm, 394, rfl⟩
abbrev main_c_48 : Ref sig .tc := ⟨.hbm, 395, rfl⟩
abbrev main_v305 : Ref sig .tc := ⟨.hbm, 396, rfl⟩
abbrev main_v306 : Ref sig .tc := ⟨.hbm, 397, rfl⟩
abbrev main_v307 : Ref sig .tc := ⟨.hbm, 398, rfl⟩
abbrev main_v308 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩
abbrev main_cst_49 : Ref sig .tc := ⟨.hbm, 404, rfl⟩
abbrev main_v313 : Ref sig .tc := ⟨.hbm, 405, rfl⟩
abbrev main_v314 : Ref sig .tc := ⟨.hbm, 406, rfl⟩
abbrev main_v315 : Ref sig .tc := ⟨.hbm, 407, rfl⟩
abbrev main_c_50 : Ref sig .tc := ⟨.hbm, 408, rfl⟩
abbrev main_v316 : Ref sig .tc := ⟨.hbm, 409, rfl⟩
abbrev main_v317 : Ref sig .tc := ⟨.hbm, 410, rfl⟩
abbrev main_v318 : Ref sig .tc := ⟨.hbm, 411, rfl⟩
abbrev main_v319 : Ref sig .tc := ⟨.hbm, 412, rfl⟩
abbrev main_cst_51 : Ref sig .tc := ⟨.hbm, 413, rfl⟩
abbrev main_v320 : Ref sig .tc := ⟨.hbm, 414, rfl⟩
abbrev main_v321 : Ref sig .tc := ⟨.hbm, 415, rfl⟩
abbrev main_v322 : Ref sig .tc := ⟨.hbm, 416, rfl⟩
abbrev main_c_52 : Ref sig .tc := ⟨.hbm, 417, rfl⟩
abbrev main_v323 : Ref sig .tc := ⟨.hbm, 418, rfl⟩
abbrev main_v324 : Ref sig .tc := ⟨.hbm, 419, rfl⟩
abbrev main_v325 : Ref sig .tc := ⟨.hbm, 420, rfl⟩
abbrev main_v326 : Ref sig .tc := ⟨.hbm, 421, rfl⟩
abbrev main_v327 : Ref sig .tc := ⟨.hbm, 422, rfl⟩
abbrev main_v328 : Ref sig .tc := ⟨.hbm, 423, rfl⟩
abbrev main_v329 : Ref sig .tc := ⟨.hbm, 424, rfl⟩
abbrev main_v330 : Ref sig .tc := ⟨.hbm, 425, rfl⟩
abbrev main_v331 : Ref sig .tc := ⟨.hbm, 426, rfl⟩
abbrev main_v332 : Ref sig .tc := ⟨.hbm, 427, rfl⟩
abbrev main_v333 : Ref sig .tc := ⟨.hbm, 428, rfl⟩
abbrev main_v334 : Ref sig .tc := ⟨.hbm, 429, rfl⟩
abbrev main_v335 : Ref sig .tc := ⟨.hbm, 430, rfl⟩
abbrev main_v336 : Ref sig .tc := ⟨.hbm, 431, rfl⟩
abbrev main_v337 : Ref sig .tc := ⟨.hbm, 432, rfl⟩
abbrev main_v338 : Ref sig .tc := ⟨.hbm, 433, rfl⟩
abbrev main_v339 : Ref sig .tc := ⟨.hbm, 434, rfl⟩
abbrev main_v340 : Ref sig .tc := ⟨.hbm, 435, rfl⟩
abbrev main_c_53 : Ref sig .tc := ⟨.hbm, 436, rfl⟩
abbrev main_v341 : Ref sig .tc := ⟨.hbm, 437, rfl⟩
abbrev main_v342 : Ref sig .tc := ⟨.hbm, 438, rfl⟩
abbrev main_v343 : Ref sig .tc := ⟨.hbm, 439, rfl⟩
abbrev main_v344 : Ref sig .tc := ⟨.hbm, 440, rfl⟩
abbrev main_v345 : Ref sig .tc := ⟨.hbm, 441, rfl⟩
abbrev main_v346 : Ref sig .tc := ⟨.hbm, 442, rfl⟩
abbrev main_v347 : Ref sig .tc := ⟨.hbm, 443, rfl⟩
abbrev main_c_54 : Ref sig .tc := ⟨.hbm, 444, rfl⟩
abbrev main_call30_v0 : Ref sig .tc := ⟨.hbm, 445, rfl⟩
abbrev main_v348 : Ref sig .tc := ⟨.hbm, 446, rfl⟩
abbrev main_v349 : Ref sig .tc := ⟨.hbm, 447, rfl⟩
abbrev main_v350 : Ref sig .tc := ⟨.hbm, 448, rfl⟩
abbrev main_c_55 : Ref sig .tc := ⟨.hbm, 449, rfl⟩
abbrev main_v351 : Ref sig .tc := ⟨.hbm, 450, rfl⟩
abbrev main_v352 : Ref sig .tc := ⟨.hbm, 451, rfl⟩
abbrev main_v353 : Ref sig .tc := ⟨.hbm, 452, rfl⟩
abbrev main_v354 : Ref sig .tc := ⟨.hbm, 453, rfl⟩
abbrev main_v355 : Ref sig .tc := ⟨.hbm, 454, rfl⟩
abbrev main_v356 : Ref sig .tc := ⟨.hbm, 455, rfl⟩
abbrev main_v357 : Ref sig .tc := ⟨.hbm, 456, rfl⟩
abbrev main_cst_56 : Ref sig .tc := ⟨.hbm, 457, rfl⟩
abbrev main_v358 : Ref sig .tc := ⟨.hbm, 458, rfl⟩
abbrev main_c_57 : Ref sig .tc := ⟨.hbm, 459, rfl⟩
abbrev main_v359 : Ref sig .tc := ⟨.hbm, 460, rfl⟩
abbrev main_v360 : Ref sig .tc := ⟨.hbm, 461, rfl⟩
abbrev main_v361 : Ref sig .tc := ⟨.hbm, 462, rfl⟩
abbrev main_v362 : Ref sig .tc := ⟨.hbm, 463, rfl⟩
abbrev main_v363 : Ref sig .tc := ⟨.hbm, 464, rfl⟩
abbrev main_v364_0 : Ref sig .tc := ⟨.hbm, 465, rfl⟩
abbrev main_v364_1 : Ref sig .tc := ⟨.hbm, 466, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_stg22_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23
abbrev cc0_sem22_0 : DmaSem sig := 24

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_18 : BitVec 32 := 0#32
  let v42 : BitVec 1 := Scalar.cmpi .eq arg0 c0_i32_18
  let v43 : BitVec 32 := Scalar.extui v42
  let c0_i32_19 : BitVec 32 := 0#32
  let v44 : BitVec 1 := Scalar.cmpi .ne v43 c0_i32_19
  v44

def k0_cond3 (i : grid0.Coords) : BitVec 1 :=
  let arg0 : BitVec 32 := BitVec.ofNat 32 (i 0).val
  let c0_i32_20 : BitVec 32 := 0#32
  let v45 : BitVec 1 := Scalar.cmpi .sgt arg0 c0_i32_20
  let v46 : BitVec 32 := Scalar.extui v45
  let c0_i32_21 : BitVec 32 := 0#32
  let v47 : BitVec 1 := Scalar.cmpi .ne v46 c0_i32_21
  v47

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20x64x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1920x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S36x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S75x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x75 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x36 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x15 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x15 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S400x20 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x400 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x5 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x20 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S384x80 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x80 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S20x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S12x64x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S12x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== ReferenceBIdeal.lean ====
abbrev S20x1024x384 : Shape := ⟨3, ![20, 1024, 384]⟩
abbrev S20x384 : Shape := ⟨2, ![20, 384]⟩
abbrev S36x128 : Shape := ⟨2, ![36, 128]⟩
abbrev S16x3x5x5 : Shape := ⟨4, ![16, 3, 5, 5]⟩
abbrev S80 : Shape := ⟨1, ![80]⟩
abbrev S_ : Shape := ⟨0, ![]⟩
abbrev S20x16x5x5 : Shape := ⟨4, ![20, 16, 5, 5]⟩
abbrev S20 : Shape := ⟨1, ![20]⟩
abbrev S405 : Shape := ⟨1, ![405]⟩
abbrev S16x75 : Shape := ⟨2, ![16, 75]⟩
abbrev S16 : Shape := ⟨1, ![16]⟩
abbrev S1 : Shape := ⟨1, ![1]⟩
abbrev S75 : Shape := ⟨1, ![75]⟩
abbrev S36x108 : Shape := ⟨2, ![36, 108]⟩
abbrev S36x36x3 : Shape := ⟨3, ![36, 36, 3]⟩
abbrev S3x5x5 : Shape := ⟨3, ![3, 5, 5]⟩
abbrev S32x36x3 : Shape := ⟨3, ![32, 36, 3]⟩
abbrev S36x3 : Shape := ⟨2, ![36, 3]⟩
abbrev S1x36x3 : Shape := ⟨3, ![1, 36, 3]⟩
abbrev S5x36x3 : Shape := ⟨3, ![5, 36, 3]⟩
abbrev S5x32x3 : Shape := ⟨3, ![5, 32, 3]⟩
abbrev S5x3 : Shape := ⟨2, ![5, 3]⟩
abbrev S1x5x3 : Shape := ⟨3, ![1, 5, 3]⟩
abbrev S5x5x3 : Shape := ⟨3, ![5, 5, 3]⟩
abbrev S5 : Shape := ⟨1, ![5]⟩
abbrev S20x1024x320 : Shape := ⟨3, ![20, 1024, 320]⟩
abbrev S20x1024x20x16 : Shape := ⟨4, ![20, 1024, 20, 16]⟩
abbrev S1x1x1x16 : Shape := ⟨4, ![1, 1, 1, 16]⟩
abbrev S20x320 : Shape := ⟨2, ![20, 320]⟩
abbrev S20x20x16 : Shape := ⟨3, ![20, 20, 16]⟩
abbrev S1x1x16 : Shape := ⟨3, ![1, 1, 16]⟩
abbrev S20x400 : Shape := ⟨2, ![20, 400]⟩
abbrev S400 : Shape := ⟨1, ![400]⟩
abbrev S16x5x5 : Shape := ⟨3, ![16, 5, 5]⟩
abbrev S16x20x16 : Shape := ⟨3, ![16, 20, 16]⟩
abbrev S20x16 : Shape := ⟨2, ![20, 16]⟩
abbrev S1x20x16 : Shape := ⟨3, ![1, 20, 16]⟩
abbrev S5x20x16 : Shape := ⟨3, ![5, 20, 16]⟩
abbrev S5x16x16 : Shape := ⟨3, ![5, 16, 16]⟩
abbrev S5x16 : Shape := ⟨2, ![5, 16]⟩
abbrev S1x5x16 : Shape := ⟨3, ![1, 5, 16]⟩
abbrev S5x5x16 : Shape := ⟨3, ![5, 5, 16]⟩
abbrev S20x1024x16x16 : Shape := ⟨4, ![20, 1024, 16, 16]⟩
abbrev S1x20x1024x16x16 : Shape := ⟨5, ![1, 20, 1024, 16, 16]⟩
abbrev S5x20x1024x16x16 : Shape := ⟨5, ![5, 20, 1024, 16, 16]⟩
abbrev S5x16x1024x16x16 : Shape := ⟨5, ![5, 16, 1024, 16, 16]⟩
abbrev S20x16x1x5 : Shape := ⟨4, ![20, 16, 1, 5]⟩
abbrev S20x16x5 : Shape := ⟨3, ![20, 16, 5]⟩
abbrev S20x16x1024x16 : Shape := ⟨4, ![20, 16, 1024, 16]⟩
abbrev S1024x16x16x20 : Shape := ⟨4, ![1024, 16, 16, 20]⟩
abbrev S1x1x1x20 : Shape := ⟨4, ![1, 1, 1, 20]⟩
abbrev S1024x16x8x2x20 : Shape := ⟨5, ![1024, 16, 8, 2, 20]⟩
abbrev S1024x16x8x20 : Shape := ⟨4, ![1024, 16, 8, 20]⟩
abbrev S1024x8x2x8x20 : Shape := ⟨5, ![1024, 8, 2, 8, 20]⟩
abbrev S1024x8x8x20 : Shape := ⟨4, ![1024, 8, 8, 20]⟩
abbrev S8x1024x8x20 : Shape := ⟨4, ![8, 1024, 8, 20]⟩
abbrev S8x1024x160 : Shape := ⟨3, ![8, 1024, 160]⟩
abbrev S12x1024x256 : Shape := ⟨3, ![12, 1024, 256]⟩
abbrev S12x256 : Shape := ⟨2, ![12, 256]⟩

abbrev nBuf : Space → Nat
  | .hbm => 374
  | .vmem => 0
  | .smem => 0
  | _ => 0

abbrev hbmTy0_0 (i : Nat) : BufTy := match i % 128 with
  | 0 => ⟨S20x1024x384, .f32⟩
  | 1 => ⟨S20x384, .f32⟩
  | 2 => ⟨S36x128, .f32⟩
  | 3 => ⟨S16x3x5x5, .f32⟩
  | 4 => ⟨S80, .f32⟩
  | 5 => ⟨S_, .f32⟩
  | 6 => ⟨S20x16x5x5, .f32⟩
  | 7 => ⟨S20, .f32⟩
  | 8 => ⟨S405, .f32⟩
  | 9 => ⟨S_, .f32⟩
  | 10 => ⟨S16x75, .f32⟩
  | 11 => ⟨S16x75, .f32⟩
  | 12 => ⟨S_, .f32⟩
  | 13 => ⟨S16, .f32⟩
  | 14 => ⟨S16, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S16x75, .f32⟩
  | 22 => ⟨S_, .f32⟩
  | 23 => ⟨S16, .f32⟩
  | 24 => ⟨S16, .f32⟩
  | 25 => ⟨S16, .f32⟩
  | 26 => ⟨S16, .f32⟩
  | 27 => ⟨S16, .f32⟩
  | 28 => ⟨S1, .f32⟩
  | 29 => ⟨S16, .f32⟩
  | 30 => ⟨S16, .f32⟩
  | 31 => ⟨S16, .f32⟩
  | 32 => ⟨S1, .f32⟩
  | 33 => ⟨S16, .f32⟩
  | 34 => ⟨S16, .f32⟩
  | 35 => ⟨S16, .f32⟩
  | 36 => ⟨S16, .f32⟩
  | 37 => ⟨S1, .f32⟩
  | 38 => ⟨S16, .f32⟩
  | 39 => ⟨S16, .f32⟩
  | 40 => ⟨S16, .f32⟩
  | 41 => ⟨S16, .f32⟩
  | 42 => ⟨S1, .f32⟩
  | 43 => ⟨S16, .f32⟩
  | 44 => ⟨S16, .f32⟩
  | 45 => ⟨S16, .f32⟩
  | 46 => ⟨S16, .f32⟩
  | 47 => ⟨S1, .f32⟩
  | 48 => ⟨S16, .f32⟩
  | 49 => ⟨S16, .f32⟩
  | 50 => ⟨S16, .f32⟩
  | 51 => ⟨S75, .f32⟩
  | 52 => ⟨S16, .f32⟩
  | 53 => ⟨S16, .f32⟩
  | 54 => ⟨S16, .f32⟩
  | 55 => ⟨S16, .f32⟩
  | 56 => ⟨S16, .f32⟩
  | 57 => ⟨S16, .f32⟩
  | 58 => ⟨S_, .f32⟩
  | 59 => ⟨S16, .f32⟩
  | 60 => ⟨S16, .f32⟩
  | 61 => ⟨S16, .f32⟩
  | 62 => ⟨S_, .f32⟩
  | 63 => ⟨S16, .f32⟩
  | 64 => ⟨S16, .f32⟩
  | 65 => ⟨S16, .f32⟩
  | 66 => ⟨S_, .f32⟩
  | 67 => ⟨S16, .f32⟩
  | 68 => ⟨S16, .f32⟩
  | 69 => ⟨S16, .f32⟩
  | 70 => ⟨S36x108, .f32⟩
  | 71 => ⟨S36x36x3, .f32⟩
  | 72 => ⟨S75, .f32⟩
  | 73 => ⟨S3x5x5, .f32⟩
  | 74 => ⟨S32x36x3, .f32⟩
  | 75 => ⟨S_, .f32⟩
  | 76 => ⟨S36x3, .f32⟩
  | 77 => ⟨S32x36x3, .f32⟩
  | 78 => ⟨S_, .f32⟩
  | 79 => ⟨S36x3, .f32⟩
  | 80 => ⟨S32x36x3, .f32⟩
  | 81 => ⟨S_, .f32⟩
  | 82 => ⟨S36x3, .f32⟩
  | 83 => ⟨S32x36x3, .f32⟩
  | 84 => ⟨S_, .f32⟩
  | 85 => ⟨S36x3, .f32⟩
  | 86 => ⟨S32x36x3, .f32⟩
  | 87 => ⟨S_, .f32⟩
  | 88 => ⟨S36x3, .f32⟩
  | 89 => ⟨S1x36x3, .f32⟩
  | 90 => ⟨S1x36x3, .f32⟩
  | 91 => ⟨S1x36x3, .f32⟩
  | 92 => ⟨S1x36x3, .f32⟩
  | 93 => ⟨S1x36x3, .f32⟩
  | 94 => ⟨S5x36x3, .f32⟩
  | 95 => ⟨S5x32x3, .f32⟩
  | 96 => ⟨S_, .f32⟩
  | 97 => ⟨S5x3, .f32⟩
  | 98 => ⟨S5x32x3, .f32⟩
  | 99 => ⟨S_, .f32⟩
  | 100 => ⟨S5x3, .f32⟩
  | 101 => ⟨S5x32x3, .f32⟩
  | 102 => ⟨S_, .f32⟩
  | 103 => ⟨S5x3, .f32⟩
  | 104 => ⟨S5x32x3, .f32⟩
  | 105 => ⟨S_, .f32⟩
  | 106 => ⟨S5x3, .f32⟩
  | 107 => ⟨S5x32x3, .f32⟩
  | 108 => ⟨S_, .f32⟩
  | 109 => ⟨S5x3, .f32⟩
  | 110 => ⟨S1x5x3, .f32⟩
  | 111 => ⟨S1x5x3, .f32⟩
  | 112 => ⟨S1x5x3, .f32⟩
  | 113 => ⟨S1x5x3, .f32⟩
  | 114 => ⟨S1x5x3, .f32⟩
  | 115 => ⟨S5x5x3, .f32⟩
  | 116 => ⟨S5x5x3, .f32⟩
  | 117 => ⟨S_, .f32⟩
  | 118 => ⟨S_, .f32⟩
  | 119 => ⟨S_, .f32⟩
  | 120 => ⟨S_, .f32⟩
  | 121 => ⟨S_, .f32⟩
  | 122 => ⟨S5x5x3, .f32⟩
  | 123 => ⟨S5x5x3, .f32⟩
  | 124 => ⟨S_, .f32⟩
  | 125 => ⟨S_, .f32⟩
  | 126 => ⟨S_, .f32⟩
  | 127 => ⟨S_, .f32⟩
  | _ => ⟨S20x1024x384, .f32⟩

abbrev hbmTy0_1 (i : Nat) : BufTy := match i % 128 with
  | 0 => ⟨S_, .f32⟩
  | 1 => ⟨S_, .f32⟩
  | 2 => ⟨S_, .f32⟩
  | 3 => ⟨S5, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S16, .f32⟩
  | 20 => ⟨S16, .i1⟩
  | 21 => ⟨S16, .f32⟩
  | 22 => ⟨S_, .f32⟩
  | 23 => ⟨S_, .f32⟩
  | 24 => ⟨S_, .f32⟩
  | 25 => ⟨S_, .i1⟩
  | 26 => ⟨S_, .f32⟩
  | 27 => ⟨S16, .f32⟩
  | 28 => ⟨S16, .f32⟩
  | 29 => ⟨S20x1024x320, .f32⟩
  | 30 => ⟨S20x1024x20x16, .f32⟩
  | 31 => ⟨S1x1x1x16, .f32⟩
  | 32 => ⟨S20x1024x20x16, .f32⟩
  | 33 => ⟨S20x1024x20x16, .f32⟩
  | 34 => ⟨S20x320, .f32⟩
  | 35 => ⟨S20x20x16, .f32⟩
  | 36 => ⟨S1x1x16, .f32⟩
  | 37 => ⟨S20x20x16, .f32⟩
  | 38 => ⟨S20x20x16, .f32⟩
  | 39 => ⟨S20x400, .f32⟩
  | 40 => ⟨S20x400, .f32⟩
  | 41 => ⟨S_, .f32⟩
  | 42 => ⟨S20, .f32⟩
  | 43 => ⟨S20, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S20x400, .f32⟩
  | 51 => ⟨S_, .f32⟩
  | 52 => ⟨S20, .f32⟩
  | 53 => ⟨S20, .f32⟩
  | 54 => ⟨S20, .f32⟩
  | 55 => ⟨S20, .f32⟩
  | 56 => ⟨S20, .f32⟩
  | 57 => ⟨S1, .f32⟩
  | 58 => ⟨S20, .f32⟩
  | 59 => ⟨S20, .f32⟩
  | 60 => ⟨S20, .f32⟩
  | 61 => ⟨S1, .f32⟩
  | 62 => ⟨S20, .f32⟩
  | 63 => ⟨S20, .f32⟩
  | 64 => ⟨S20, .f32⟩
  | 65 => ⟨S20, .f32⟩
  | 66 => ⟨S1, .f32⟩
  | 67 => ⟨S20, .f32⟩
  | 68 => ⟨S20, .f32⟩
  | 69 => ⟨S20, .f32⟩
  | 70 => ⟨S20, .f32⟩
  | 71 => ⟨S1, .f32⟩
  | 72 => ⟨S20, .f32⟩
  | 73 => ⟨S20, .f32⟩
  | 74 => ⟨S20, .f32⟩
  | 75 => ⟨S20, .f32⟩
  | 76 => ⟨S1, .f32⟩
  | 77 => ⟨S20, .f32⟩
  | 78 => ⟨S20, .f32⟩
  | 79 => ⟨S20, .f32⟩
  | 80 => ⟨S400, .f32⟩
  | 81 => ⟨S20, .f32⟩
  | 82 => ⟨S20, .f32⟩
  | 83 => ⟨S20, .f32⟩
  | 84 => ⟨S20, .f32⟩
  | 85 => ⟨S20, .f32⟩
  | 86 => ⟨S20, .f32⟩
  | 87 => ⟨S_, .f32⟩
  | 88 => ⟨S20, .f32⟩
  | 89 => ⟨S20, .f32⟩
  | 90 => ⟨S20, .f32⟩
  | 91 => ⟨S_, .f32⟩
  | 92 => ⟨S20, .f32⟩
  | 93 => ⟨S20, .f32⟩
  | 94 => ⟨S20, .f32⟩
  | 95 => ⟨S_, .f32⟩
  | 96 => ⟨S20, .f32⟩
  | 97 => ⟨S20, .f32⟩
  | 98 => ⟨S20, .f32⟩
  | 99 => ⟨S400, .f32⟩
  | 100 => ⟨S16x5x5, .f32⟩
  | 101 => ⟨S16x20x16, .f32⟩
  | 102 => ⟨S_, .f32⟩
  | 103 => ⟨S20x16, .f32⟩
  | 104 => ⟨S16x20x16, .f32⟩
  | 105 => ⟨S_, .f32⟩
  | 106 => ⟨S20x16, .f32⟩
  | 107 => ⟨S16x20x16, .f32⟩
  | 108 => ⟨S_, .f32⟩
  | 109 => ⟨S20x16, .f32⟩
  | 110 => ⟨S16x20x16, .f32⟩
  | 111 => ⟨S_, .f32⟩
  | 112 => ⟨S20x16, .f32⟩
  | 113 => ⟨S16x20x16, .f32⟩
  | 114 => ⟨S_, .f32⟩
  | 115 => ⟨S20x16, .f32⟩
  | 116 => ⟨S1x20x16, .f32⟩
  | 117 => ⟨S1x20x16, .f32⟩
  | 118 => ⟨S1x20x16, .f32⟩
  | 119 => ⟨S1x20x16, .f32⟩
  | 120 => ⟨S1x20x16, .f32⟩
  | 121 => ⟨S5x20x16, .f32⟩
  | 122 => ⟨S5x16x16, .f32⟩
  | 123 => ⟨S_, .f32⟩
  | 124 => ⟨S5x16, .f32⟩
  | 125 => ⟨S5x16x16, .f32⟩
  | 126 => ⟨S_, .f32⟩
  | 127 => ⟨S5x16, .f32⟩
  | _ => ⟨S20x1024x384, .f32⟩

abbrev hbmTy0_2 (i : Nat) : BufTy := match i % 128 with
  | 0 => ⟨S5x16x16, .f32⟩
  | 1 => ⟨S_, .f32⟩
  | 2 => ⟨S5x16, .f32⟩
  | 3 => ⟨S5x16x16, .f32⟩
  | 4 => ⟨S_, .f32⟩
  | 5 => ⟨S5x16, .f32⟩
  | 6 => ⟨S5x16x16, .f32⟩
  | 7 => ⟨S_, .f32⟩
  | 8 => ⟨S5x16, .f32⟩
  | 9 => ⟨S1x5x16, .f32⟩
  | 10 => ⟨S1x5x16, .f32⟩
  | 11 => ⟨S1x5x16, .f32⟩
  | 12 => ⟨S1x5x16, .f32⟩
  | 13 => ⟨S1x5x16, .f32⟩
  | 14 => ⟨S5x5x16, .f32⟩
  | 15 => ⟨S5x5x16, .f32⟩
  | 16 => ⟨S_, .f32⟩
  | 17 => ⟨S_, .f32⟩
  | 18 => ⟨S_, .f32⟩
  | 19 => ⟨S_, .f32⟩
  | 20 => ⟨S_, .f32⟩
  | 21 => ⟨S5x5x16, .f32⟩
  | 22 => ⟨S5x5x16, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S5, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S20, .f32⟩
  | 47 => ⟨S20, .i1⟩
  | 48 => ⟨S20, .f32⟩
  | 49 => ⟨S_, .f32⟩
  | 50 => ⟨S_, .f32⟩
  | 51 => ⟨S_, .f32⟩
  | 52 => ⟨S_, .i1⟩
  | 53 => ⟨S_, .f32⟩
  | 54 => ⟨S20, .f32⟩
  | 55 => ⟨S20, .f32⟩
  | 56 => ⟨S20x1024x16x16, .f32⟩
  | 57 => ⟨S20x1024x16x16, .f32⟩
  | 58 => ⟨S20x1024x16x16, .f32⟩
  | 59 => ⟨S20x1024x16x16, .f32⟩
  | 60 => ⟨S20x1024x16x16, .f32⟩
  | 61 => ⟨S1x20x1024x16x16, .f32⟩
  | 62 => ⟨S1x20x1024x16x16, .f32⟩
  | 63 => ⟨S1x20x1024x16x16, .f32⟩
  | 64 => ⟨S1x20x1024x16x16, .f32⟩
  | 65 => ⟨S1x20x1024x16x16, .f32⟩
  | 66 => ⟨S5x20x1024x16x16, .f32⟩
  | 67 => ⟨S5x16x1024x16x16, .f32⟩
  | 68 => ⟨S20x16x1x5, .f32⟩
  | 69 => ⟨S20x16x5, .f32⟩
  | 70 => ⟨S20x16x1024x16, .f32⟩
  | 71 => ⟨S1024x16x16x20, .f32⟩
  | 72 => ⟨S5x16x1024x16x16, .f32⟩
  | 73 => ⟨S20x16x1x5, .f32⟩
  | 74 => ⟨S20x16x5, .f32⟩
  | 75 => ⟨S20x16x1024x16, .f32⟩
  | 76 => ⟨S1024x16x16x20, .f32⟩
  | 77 => ⟨S1024x16x16x20, .f32⟩
  | 78 => ⟨S5x16x1024x16x16, .f32⟩
  | 79 => ⟨S20x16x1x5, .f32⟩
  | 80 => ⟨S20x16x5, .f32⟩
  | 81 => ⟨S20x16x1024x16, .f32⟩
  | 82 => ⟨S1024x16x16x20, .f32⟩
  | 83 => ⟨S1024x16x16x20, .f32⟩
  | 84 => ⟨S5x16x1024x16x16, .f32⟩
  | 85 => ⟨S20x16x1x5, .f32⟩
  | 86 => ⟨S20x16x5, .f32⟩
  | 87 => ⟨S20x16x1024x16, .f32⟩
  | 88 => ⟨S1024x16x16x20, .f32⟩
  | 89 => ⟨S1024x16x16x20, .f32⟩
  | 90 => ⟨S5x16x1024x16x16, .f32⟩
  | 91 => ⟨S20x16x1x5, .f32⟩
  | 92 => ⟨S20x16x5, .f32⟩
  | 93 => ⟨S20x16x1024x16, .f32⟩
  | 94 => ⟨S1024x16x16x20, .f32⟩
  | 95 => ⟨S1024x16x16x20, .f32⟩
  | 96 => ⟨S1x1x1x20, .f32⟩
  | 97 => ⟨S1024x16x16x20, .f32⟩
  | 98 => ⟨S1024x16x16x20, .f32⟩
  | 99 => ⟨S1x1x1x20, .f32⟩
  | 100 => ⟨S1024x16x16x20, .f32⟩
  | 101 => ⟨S1024x16x16x20, .f32⟩
  | 102 => ⟨S_, .f32⟩
  | 103 => ⟨S1024x16x16x20, .f32⟩
  | 104 => ⟨S1024x16x16x20, .f32⟩
  | 105 => ⟨S1024x16x8x2x20, .f32⟩
  | 106 => ⟨S_, .f32⟩
  | 107 => ⟨S1024x16x8x20, .f32⟩
  | 108 => ⟨S1024x8x2x8x20, .f32⟩
  | 109 => ⟨S_, .f32⟩
  | 110 => ⟨S1024x8x8x20, .f32⟩
  | 111 => ⟨S8x1024x8x20, .f32⟩
  | 112 => ⟨S8x1024x160, .f32⟩
  | 113 => ⟨S_, .i32⟩
  | 114 => ⟨S_, .f32⟩
  | 115 => ⟨S12x1024x256, .f32⟩
  | 116 => ⟨S_, .f32⟩
  | 117 => ⟨S12x256, .f32⟩
  | _ => ⟨S20x1024x384, .f32⟩

abbrev hbmTy (i : Nat) : BufTy := match i / 128 with
  | 0 => hbmTy0_0 i
  | 1 => hbmTy0_1 i
  | 2 => hbmTy0_2 i
  | _ => ⟨S20x1024x384, .f32⟩

abbrev bufTy : (tb : Table) → Fin (tcTables nBuf tb) → BufTy
  | .hbm, ⟨i, _⟩ => hbmTy i
  | _, _ => ⟨S20x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_12 : Ref sig .tc := ⟨.hbm, 96, rfl⟩
abbrev main_v73 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_cst_16 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_17 : Ref sig .tc := ⟨.hbm, 117, rfl⟩
abbrev main_v89 : Ref sig .tc := ⟨.hbm, 118, rfl⟩
abbrev main_v90 : Ref sig .tc := ⟨.hbm, 119, rfl⟩
abbrev main_cst_18 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_19 : Ref sig .tc := ⟨.hbm, 124, rfl⟩
abbrev main_v94 : Ref sig .tc := ⟨.hbm, 125, rfl⟩
abbrev main_cst_20 : Ref sig .tc := ⟨.hbm, 126, rfl⟩
abbrev main_v95 : Ref sig .tc := ⟨.hbm, 127, rfl⟩
abbrev main_cst_21 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_22 : Ref sig .tc := ⟨.hbm, 132, rfl⟩
abbrev main_v99 : Ref sig .tc := ⟨.hbm, 133, rfl⟩
abbrev main_cst_23 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_24 : Ref sig .tc := ⟨.hbm, 138, rfl⟩
abbrev main_v103 : Ref sig .tc := ⟨.hbm, 139, rfl⟩
abbrev main_v104 : Ref sig .tc := ⟨.hbm, 140, rfl⟩
abbrev main_cst_25 : Ref sig .tc := ⟨.hbm, 141, rfl⟩
abbrev main_v105 : Ref sig .tc := ⟨.hbm, 142, rfl⟩
abbrev main_v106 : Ref sig .tc := ⟨.hbm, 143, rfl⟩
abbrev main_cst_26 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_27 : Ref sig .tc := ⟨.hbm, 150, rfl⟩
abbrev main_v112 : Ref sig .tc := ⟨.hbm, 151, rfl⟩
abbrev main_cst_28 : Ref sig .tc := ⟨.hbm, 152, rfl⟩
abbrev main_v113 : Ref sig .tc := ⟨.hbm, 153, rfl⟩
abbrev main_cst_29 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_30 : Ref sig .tc := ⟨.hbm, 169, rfl⟩
abbrev main_v128 : Ref sig .tc := ⟨.hbm, 170, rfl⟩
abbrev main_v129 : Ref sig .tc := ⟨.hbm, 171, rfl⟩
abbrev main_cst_31 : Ref sig .tc := ⟨.hbm, 172, rfl⟩
abbrev main_v130 : Ref sig .tc := ⟨.hbm, 173, rfl⟩
abbrev main_cst_32 : Ref sig .tc := ⟨.hbm, 174, rfl⟩
abbrev main_v131 : Ref sig .tc := ⟨.hbm, 175, rfl⟩
abbrev main_cst_33 : Ref sig .tc := ⟨.hbm, 176, rfl⟩
abbrev main_v132 : Ref sig .tc := ⟨.hbm, 177, rfl⟩
abbrev main_v133 : Ref sig .tc := ⟨.hbm, 178, rfl⟩
abbrev main_cst_34 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_cst_35 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_cst_36 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_cst_37 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_cst_38 : Ref sig .tc := ⟨.hbm, 230, rfl⟩
abbrev main_v181 : Ref sig .tc := ⟨.hbm, 231, rfl⟩
abbrev main_v182 : Ref sig .tc := ⟨.hbm, 232, rfl⟩
abbrev main_cst_39 : Ref sig .tc := ⟨.hbm, 233, rfl⟩
abbrev main_v183 : Ref sig .tc := ⟨.hbm, 234, rfl⟩
abbrev main_v184 : Ref sig .tc := ⟨.hbm, 235, rfl⟩
abbrev main_cst_40 : Ref sig .tc := ⟨.hbm, 236, rfl⟩
abbrev main_v185 : Ref sig .tc := ⟨.hbm, 237, rfl⟩
abbrev main_v186 : Ref sig .tc := ⟨.hbm, 238, rfl⟩
abbrev main_cst_41 : Ref sig .tc := ⟨.hbm, 239, rfl⟩
abbrev main_v187 : Ref sig .tc := ⟨.hbm, 240, rfl⟩
abbrev main_v188 : Ref sig .tc := ⟨.hbm, 241, rfl⟩
abbrev main_cst_42 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_cst_43 : Ref sig .tc := ⟨.hbm, 251, rfl⟩
abbrev main_v197 : Ref sig .tc := ⟨.hbm, 252, rfl⟩
abbrev main_v198 : Ref sig .tc := ⟨.hbm, 253, rfl⟩
abbrev main_cst_44 : Ref sig .tc := ⟨.hbm, 254, rfl⟩
abbrev main_v199 : Ref sig .tc := ⟨.hbm, 255, rfl⟩
abbrev main_v200 : Ref sig .tc := ⟨.hbm, 256, rfl⟩
abbrev main_cst_45 : Ref sig .tc := ⟨.hbm, 257, rfl⟩
abbrev main_v201 : Ref sig .tc := ⟨.hbm, 258, rfl⟩
abbrev main_v202 : Ref sig .tc := ⟨.hbm, 259, rfl⟩
abbrev main_cst_46 : Ref sig .tc := ⟨.hbm, 260, rfl⟩
abbrev main_v203 : Ref sig .tc := ⟨.hbm, 261, rfl⟩
abbrev main_v204 : Ref sig .tc := ⟨.hbm, 262, rfl⟩
abbrev main_cst_47 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_cst_48 : Ref sig .tc := ⟨.hbm, 272, rfl⟩
abbrev main_v213 : Ref sig .tc := ⟨.hbm, 273, rfl⟩
abbrev main_v214 : Ref sig .tc := ⟨.hbm, 274, rfl⟩
abbrev main_cst_49 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_cst_50 : Ref sig .tc := ⟨.hbm, 279, rfl⟩
abbrev main_v218 : Ref sig .tc := ⟨.hbm, 280, rfl⟩
abbrev main_cst_51 : Ref sig .tc := ⟨.hbm, 281, rfl⟩
abbrev main_v219 : Ref sig .tc := ⟨.hbm, 282, rfl⟩
abbrev main_cst_52 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_cst_53 : Ref sig .tc := ⟨.hbm, 287, rfl⟩
abbrev main_v223 : Ref sig .tc := ⟨.hbm, 288, rfl⟩
abbrev main_cst_54 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_cst_55 : Ref sig .tc := ⟨.hbm, 293, rfl⟩
abbrev main_v227 : Ref sig .tc := ⟨.hbm, 294, rfl⟩
abbrev main_v228 : Ref sig .tc := ⟨.hbm, 295, rfl⟩
abbrev main_cst_56 : Ref sig .tc := ⟨.hbm, 296, rfl⟩
abbrev main_v229 : Ref sig .tc := ⟨.hbm, 297, rfl⟩
abbrev main_v230 : Ref sig .tc := ⟨.hbm, 298, rfl⟩
abbrev main_cst_57 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_cst_58 : Ref sig .tc := ⟨.hbm, 305, rfl⟩
abbrev main_v236 : Ref sig .tc := ⟨.hbm, 306, rfl⟩
abbrev main_cst_59 : Ref sig .tc := ⟨.hbm, 307, rfl⟩
abbrev main_v237 : Ref sig .tc := ⟨.hbm, 308, rfl⟩
abbrev main_cst_60 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_v262 : Ref sig .tc := ⟨.hbm, 334, rfl⟩
abbrev main_v263 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_cst_61 : Ref sig .tc := ⟨.hbm, 358, rfl⟩
abbrev main_v286 : Ref sig .tc := ⟨.hbm, 359, rfl⟩
abbrev main_v287 : Ref sig .tc := ⟨.hbm, 360, rfl⟩
abbrev main_v288 : Ref sig .tc := ⟨.hbm, 361, rfl⟩
abbrev main_cst_62 : Ref sig .tc := ⟨.hbm, 362, rfl⟩
abbrev main_v289 : Ref sig .tc := ⟨.hbm, 363, rfl⟩
abbrev main_v290 : Ref sig .tc := ⟨.hbm, 364, rfl⟩
abbrev main_cst_63 : Ref sig .tc := ⟨.hbm, 365, rfl⟩
abbrev main_v291 : Ref sig .tc := ⟨.hbm, 366, rfl⟩
abbrev main_v292 : Ref sig .tc := ⟨.hbm, 367, rfl⟩
abbrev main_v293 : Ref sig .tc := ⟨.hbm, 368, rfl⟩
abbrev main_c : Ref sig .tc := ⟨.hbm, 369, rfl⟩
abbrev main_call2_v0 : Ref sig .tc := ⟨.hbm, 370, rfl⟩
abbrev main_v294 : Ref sig .tc := ⟨.hbm, 371, rfl⟩
abbrev main_cst_64 : Ref sig .tc := ⟨.hbm, 372, rfl⟩
abbrev main_v295 : Ref sig .tc := ⟨.hbm, 373, rfl⟩

abbrev nD : Nat := 1
abbrev τ : Topo := Topo.v7x

variable {F : FTy → Type} [FloatOps F]
-- ==== Proof.Base.lean ====
module

public import Idealize.ShloMosaic.Lib.Routing.OpsSet
public import Idealize.ShloMosaic.Lib.Pointwise
public import Idealize.ShloMosaic.PureOps.Ideal

@[expose] public section

noncomputable section

namespace Cert.Band

open Idealize.ShloMosaic Idealize.ShloMosaic.Routing

/-! ## Sums over natural ranges -/

/-- A sum over `a * n` positions is the sum over `a` runs of `n`. -/
theorem sum_range_mul (n : ℕ) (f : ℕ → EReal) (a : ℕ) :
    ∑ t ∈ Finset.range (a * n), f t = ∑ i ∈ Finset.range a, ∑ c ∈ Finset.range n, f (i * n + c) := by
  induction a with
  | zero => simp
  | succ a ih => rw [Nat.succ_mul, Finset.sum_range_add, ih, Finset.sum_range_succ]

/-- A sum whose terms vanish off the window `[s, s + n)` is the sum over the window. -/
theorem sum_range_window (L s n : ℕ) (h : s + n ≤ L) (f : ℕ → EReal) (hz : ∀ t, t < L → (t < s ∨ s + n ≤ t) → f t = 0) :
    ∑ t ∈ Finset.range L, f t = ∑ i ∈ Finset.range n, f (s + i) := by
  obtain ⟨r, rfl⟩ := Nat.exists_eq_add_of_le h
  rw [Finset.sum_range_add, Finset.sum_range_add]
  have h1 : ∑ t ∈ Finset.range s, f t = 0 := Finset.sum_eq_zero fun t ht => by
    have := Finset.mem_range.1 ht
    exact hz t (by omega) (Or.inl (by omega))
  have h2 : ∑ t ∈ Finset.range r, f (s + n + t) = 0 := Finset.sum_eq_zero fun t ht => by
    have := Finset.mem_range.1 ht
    exact hz _ (by omega) (Or.inr (by omega))
  rw [h1, h2, zero_add, add_zero]

/-! ## The plain convolution and its band-matrix form -/

/-- One output of the 5 by 5 convolution: image `X` (row, column, channel), weights `w` (output channel, channel, dy, dx). -/
def conv (C : ℕ) (X : ℕ → ℕ → ℕ → EReal) (w : ℕ → ℕ → ℕ → ℕ → EReal) (h x o : ℕ) : EReal :=
  ∑ dy ∈ Finset.range 5, ∑ dx ∈ Finset.range 5, ∑ c ∈ Finset.range C, X (h + dy) (x + dx) c * w o c dy dx

/-- The band matrix of row offset `dy`: lane `l` against output column `x`, channel `o`. -/
def band (C Wp : ℕ) (w : ℕ → ℕ → ℕ → ℕ → EReal) (dy l x o : ℕ) : EReal :=
  if l < Wp * C ∧ x ≤ l / C ∧ l / C < x + 5 then w o (l % C) dy (l / C - x) else 0

/-- One image row against one band: the sum over the lanes is the sum over the five column offsets and the channels. -/
theorem band_row (C Wp L : ℕ) (hC : 0 < C) (hL : Wp * C ≤ L) (X : ℕ → EReal) (Y : ℕ → ℕ → EReal) (w : ℕ → ℕ → ℕ → ℕ → EReal) (dy x o : ℕ) (hx : x + 5 ≤ Wp)
    (hX : ∀ j c, j < Wp → c < C → X (j * C + c) = Y j c) :
    ∑ l ∈ Finset.range L, X l * band C Wp w dy l x o
      = ∑ dx ∈ Finset.range 5, ∑ c ∈ Finset.range C, Y (x + dx) c * w o c dy dx := by
  have hb : x * C + 5 * C ≤ Wp * C := by rw [← Nat.add_mul]; exact Nat.mul_le_mul_right C hx
  rw [sum_range_window L (x * C) (5 * C) (by omega), sum_range_mul]
  · refine Finset.sum_congr rfl fun dx hdx => Finset.sum_congr rfl fun c hc => ?_
    have hdx := Finset.mem_range.1 hdx
    have hc := Finset.mem_range.1 hc
    have e : x * C + (dx * C + c) = (x + dx) * C + c := by rw [Nat.add_mul]; omega
    have ed : ((x + dx) * C + c) / C = x + dx := by
      rw [Nat.mul_comm, Nat.mul_add_div hC, Nat.div_eq_of_lt hc, Nat.add_zero]
    have em : ((x + dx) * C + c) % C = c := by
      rw [Nat.mul_comm, Nat.mul_add_mod, Nat.mod_eq_of_lt hc]
    have hlt : (x + dx) * C + c < Wp * C := by
      have : (x + dx + 1) * C ≤ Wp * C := Nat.mul_le_mul_right C (by omega)
      rw [Nat.add_mul (x + dx) 1 C] at this
      omega
    rw [e, hX _ _ (by omega) hc]
    unfold band
    rw [ed, em, if_pos ⟨hlt, by omega, by omega⟩]
    congr 2
    omega
  · intro t ht hout
    have : band C Wp w dy t x o = 0 := by
      unfold band
      rw [if_neg]
      rintro ⟨h1, h2, h3⟩
      have h2' : x * C ≤ t := (Nat.le_div_iff_mul_le hC).1 h2
      have h3' : t < (x + 5) * C := (Nat.div_lt_iff_lt_mul hC).1 h3
      rw [Nat.add_mul] at h3'
      omega
    rw [this, mul_zero]

/-- The greatest of the four values of a 2 by 2 block. -/
def pool4 (g : ℕ → ℕ → EReal) (i j : ℕ) : EReal :=
  max (max (g (2 * i) (2 * j)) (g (2 * i) (2 * j + 1))) (max (g (2 * i + 1) (2 * j)) (g (2 * i + 1) (2 * j + 1)))

/-! ## Writing whole columns into a zero matrix -/

/-- Where one element of a column write lands: its row, at the column its index word names. -/
theorem cols_land {R N K : ℕ} (d : ScatterDims (shape2 R N) (shape2 K 1) (shape2 R K)) (huw : d.updateWindowDims = [0]) (hiw : d.insertedWindowDims = [1])
    (hsd : d.scatterDimsToOperandDims = [1]) (hivd : d.indexVectorDim = 1) (idx : IVec (shape2 K 1) 32) (r' : Fin R) (j : Fin K) (r : Fin R) (c : Fin N) :
    d.resultIdx? (ix2 r' j) idx = some (ix2 r c) ↔ r' = r ∧ (idx (ix2 j (0 : Fin 1))).toInt = (c.val : Int) := by
  obtain ⟨uw, iw, sd, iv, wf⟩ := d
  obtain rfl : uw = [0] := huw
  obtain rfl : iw = [1] := hiw
  obtain rfl : sd = [1] := hsd
  obtain rfl : iv = 1 := hivd
  set d : ScatterDims (shape2 R N) (shape2 K 1) (shape2 R K) := ⟨[0], [1], [1], 1, wf⟩ with hd
  have hw0 : d.window (ix2 r' j) 0 = r'.val := by
    unfold ScatterDims.window
    refine (dif_pos ?_).trans ?_
    · show (0 : Fin 2) ∈ (List.finRange 2).filter (fun a => a ∉ [(1 : Fin 2)])
      decide
    · rfl
  have hw1 : d.window (ix2 r' j) 1 = 0 := by
    unfold ScatterDims.window
    refine dif_neg ?_
    show ¬ (1 : Fin 2) ∈ (List.finRange 2).filter (fun a => a ∉ [(1 : Fin 2)])
    decide
  have hs0 : d.start (ix2 r' j) idx 0 = 0 := by
    unfold ScatterDims.start
    rw [dif_neg (by show ¬ (0 : Fin 2) ∈ [(1 : Fin 2)]; decide)]
  have hs1 : d.start (ix2 r' j) idx 1 = (idx (ix2 j (0 : Fin 1))).toInt := by
    unfold ScatterDims.start
    rw [dif_pos (by show (1 : Fin 2) ∈ [(1 : Fin 2)]; decide)]
    congr 2
    funext b
    apply Fin.ext
    match b with
    | ⟨0, _⟩ => rfl
    | ⟨1, _⟩ => rfl
  have hr := r'.isLt
  have hc := c.isLt
  unfold ScatterDims.resultIdx?
  constructor
  · intro e
    split at e
    · next h =>
      have e := Option.some.inj e
      have e0 := congrArg Fin.val (congrFun e 0)
      have e1 := congrArg Fin.val (congrFun e 1)
      have h1 := (h 1).1
      change (d.start (ix2 r' j) idx 0 + (d.window (ix2 r' j) 0 : Int)).toNat = r.val at e0
      change (d.start (ix2 r' j) idx 1 + (d.window (ix2 r' j) 1 : Int)).toNat = c.val at e1
      rw [hs0, hw0] at e0
      rw [hs1, hw1] at e1 h1
      exact ⟨Fin.ext (by omega), by omega⟩
    · cases e
  · rintro ⟨rfl, e⟩
    rw [dif_pos]
    · refine congrArg some (funext fun a => Fin.ext ?_)
      match a with
      | ⟨0, _⟩ =>
        show (d.start (ix2 r' j) idx 0 + (d.window (ix2 r' j) 0 : Int)).toNat = r'.val
        rw [hs0, hw0]; omega
      | ⟨1, _⟩ =>
        show (d.start (ix2 r' j) idx 1 + (d.window (ix2 r' j) 1 : Int)).toNat = c.val
        rw [hs1, hw1]; omega
    · intro a
      match a with
      | ⟨0, _⟩ =>
        show 0 ≤ d.start (ix2 r' j) idx 0 + (d.window (ix2 r' j) 0 : Int) ∧ d.start (ix2 r' j) idx 0 + (d.window (ix2 r' j) 0 : Int) < (R : Int)
        rw [hs0, hw0]; omega
      | ⟨1, _⟩ =>
        show 0 ≤ d.start (ix2 r' j) idx 1 + (d.window (ix2 r' j) 1 : Int) ∧ d.start (ix2 r' j) idx 1 + (d.window (ix2 r' j) 1 : Int) < (N : Int)
        rw [hs1, hw1]; omega

/-- Every index of a two-axis shape is a pair of coordinates. -/
theorem exists_ix2 {a b : ℕ} (k : (shape2 a b).Idx) : ∃ (i : Fin a) (j : Fin b), k = ix2 i j :=
  ⟨k 0, k 1, by funext t; match t with | ⟨0, _⟩ => rfl | ⟨1, _⟩ => rfl⟩

/-- A column write read at a column that update column `j` alone names: the update's element. -/
theorem cols_hit {α : Type} {R N K : ℕ} (d : ScatterDims (shape2 R N) (shape2 K 1) (shape2 R K)) (huw : d.updateWindowDims = [0]) (hiw : d.insertedWindowDims = [1])
    (hsd : d.scatterDimsToOperandDims = [1]) (hivd : d.indexVectorDim = 1) (x0 : (shape2 R N).Idx → α) (idx : IVec (shape2 K 1) 32) (upd : (shape2 R K).Idx → α)
    (r : Fin R) (c : Fin N) (j : Fin K) (hj : ∀ j' : Fin K, (idx (ix2 j' (0 : Fin 1))).toInt = (c.val : Int) ↔ j' = j) :
    Host.scatter d (fun _ b => b) x0 idx upd (ix2 r c) = upd (ix2 r j) := by
  refine scatter_set_hit d x0 idx upd _ _ (fun k hk => ?_) (ix2 r j) ((cols_land d huw hiw hsd hivd idx r j r c).2 ⟨rfl, (hj j).2 rfl⟩)
  obtain ⟨r', j', rfl⟩ := exists_ix2 k
  obtain ⟨rfl, e⟩ := (cols_land d huw hiw hsd hivd idx r' j' r c).1 hk
  rw [(hj j').1 e]

/-- A column write read at a column no update column names: the operand's element. -/
theorem cols_miss {α : Type} {R N K : ℕ} (d : ScatterDims (shape2 R N) (shape2 K 1) (shape2 R K)) (huw : d.updateWindowDims = [0]) (hiw : d.insertedWindowDims = [1])
    (hsd : d.scatterDimsToOperandDims = [1]) (hivd : d.indexVectorDim = 1) (x0 : (shape2 R N).Idx → α) (idx : IVec (shape2 K 1) 32) (upd : (shape2 R K).Idx → α)
    (r : Fin R) (c : Fin N) (hj : ∀ j' : Fin K, (idx (ix2 j' (0 : Fin 1))).toInt ≠ (c.val : Int)) :
    Host.scatter d (fun _ b => b) x0 idx upd (ix2 r c) = x0 (ix2 r c) := by
  refine scatter_set_miss d x0 idx upd _ fun k hk => ?_
  obtain ⟨r', j', rfl⟩ := exists_ix2 k
  exact hj j' ((cols_land d huw hiw hsd hivd idx r' j' r c).1 hk).2

/-! ## Writing single elements into a one-row matrix -/

/-- Where one element of a row write lands: row and column its two index words name. -/
theorem row_land {N K : ℕ} (d : ScatterDims (shape2 1 N) (shape2 K 2) (shape1 K)) (huw : d.updateWindowDims = []) (hiw : d.insertedWindowDims = [0, 1])
    (hsd : d.scatterDimsToOperandDims = [0, 1]) (hivd : d.indexVectorDim = 1) (idx : IVec (shape2 K 2) 32) (j : Fin K)
    (h0 : (idx (ix2 j (0 : Fin 2))).toInt = 0) (c : Fin N) :
    d.resultIdx? (ix1 j) idx = some (ix2 (0 : Fin 1) c) ↔ (idx (ix2 j (1 : Fin 2))).toInt = (c.val : Int) := by
  obtain ⟨uw, iw, sd, iv, wf⟩ := d
  obtain rfl : uw = [] := huw
  obtain rfl : iw = [0, 1] := hiw
  obtain rfl : sd = [0, 1] := hsd
  obtain rfl : iv = 1 := hivd
  set d : ScatterDims (shape2 1 N) (shape2 K 2) (shape1 K) := ⟨[], [0, 1], [0, 1], 1, wf⟩ with hd
  have hw0 : d.window (ix1 j) 0 = 0 := by
    unfold ScatterDims.window
    refine dif_neg ?_
    show ¬ (0 : Fin 2) ∈ (List.finRange 2).filter (fun a => a ∉ [(0 : Fin 2), 1])
    decide
  have hw1 : d.window (ix1 j) 1 = 0 := by
    unfold ScatterDims.window
    refine dif_neg ?_
    show ¬ (1 : Fin 2) ∈ (List.finRange 2).filter (fun a => a ∉ [(0 : Fin 2), 1])
    decide
  have hs0 : d.start (ix1 j) idx 0 = 0 := by
    unfold ScatterDims.start
    rw [dif_pos (by show (0 : Fin 2) ∈ [(0 : Fin 2), 1]; decide)]
    refine Eq.trans ?_ h0
    congr 2
    funext b
    apply Fin.ext
    match b with
    | ⟨0, _⟩ => rfl
    | ⟨1, _⟩ => rfl
  have hs1 : d.start (ix1 j) idx 1 = (idx (ix2 j (1 : Fin 2))).toInt := by
    unfold ScatterDims.start
    rw [dif_pos (by show (1 : Fin 2) ∈ [(0 : Fin 2), 1]; decide)]
    congr 2
    funext b
    apply Fin.ext
    match b with
    | ⟨0, _⟩ => rfl
    | ⟨1, _⟩ => rfl
  have hc := c.isLt
  unfold ScatterDims.resultIdx?
  constructor
  · intro e
    split at e
    · next h =>
      have e := Option.some.inj e
      have e1 := congrArg Fin.val (congrFun e 1)
      have h1 := (h 1).1
      change (d.start (ix1 j) idx 1 + (d.window (ix1 j) 1 : Int)).toNat = c.val at e1
      rw [hs1, hw1] at e1 h1
      omega
    · cases e
  · intro e
    rw [dif_pos]
    · refine congrArg some (funext fun a => Fin.ext ?_)
      match a with
      | ⟨0, _⟩ =>
        show (d.start (ix1 j) idx 0 + (d.window (ix1 j) 0 : Int)).toNat = 0
        rw [hs0, hw0]; omega
      | ⟨1, _⟩ =>
        show (d.start (ix1 j) idx 1 + (d.window (ix1 j) 1 : Int)).toNat = c.val
        rw [hs1, hw1]; omega
    · intro a
      match a with
      | ⟨0, _⟩ =>
        show 0 ≤ d.start (ix1 j) idx 0 + (d.window (ix1 j) 0 : Int) ∧ d.start (ix1 j) idx 0 + (d.window (ix1 j) 0 : Int) < ((1 : ℕ) : Int)
        rw [hs0, hw0]; omega
      | ⟨1, _⟩ =>
        show 0 ≤ d.start (ix1 j) idx 1 + (d.window (ix1 j) 1 : Int) ∧ d.start (ix1 j) idx 1 + (d.window (ix1 j) 1 : Int) < (N : Int)
        rw [hs1, hw1]; omega

/-- Every index of a one-axis shape is its coordinate. -/
theorem exists_ix1 {a : ℕ} (k : (shape1 a).Idx) : ∃ i : Fin a, k = ix1 i :=
  ⟨k 0, by funext t; match t with | ⟨0, _⟩ => rfl⟩

/-- A row write read at a column that update `j` alone names: the update's element. -/
theorem row_hit {α : Type} {N K : ℕ} (d : ScatterDims (shape2 1 N) (shape2 K 2) (shape1 K)) (huw : d.updateWindowDims = []) (hiw : d.insertedWindowDims = [0, 1])
    (hsd : d.scatterDimsToOperandDims = [0, 1]) (hivd : d.indexVectorDim = 1) (x0 : (shape2 1 N).Idx → α) (idx : IVec (shape2 K 2) 32) (upd : (shape1 K).Idx → α)
    (h0 : ∀ j : Fin K, (idx (ix2 j (0 : Fin 2))).toInt = 0) (c : Fin N) (j : Fin K)
    (hj : ∀ j' : Fin K, (idx (ix2 j' (1 : Fin 2))).toInt = (c.val : Int) ↔ j' = j) :
    Host.scatter d (fun _ b => b) x0 idx upd (ix2 (0 : Fin 1) c) = upd (ix1 j) := by
  refine scatter_set_hit d x0 idx upd _ _ (fun k hk => ?_) (ix1 j) ((row_land d huw hiw hsd hivd idx j (h0 j) c).2 ((hj j).2 rfl))
  obtain ⟨j', rfl⟩ := exists_ix1 k
  rw [(hj j').1 ((row_land d huw hiw hsd hivd idx j' (h0 j') c).1 hk)]

/-- A row write read at a column no update names: the operand's element. -/
theorem row_miss {α : Type} {N K : ℕ} (d : ScatterDims (shape2 1 N) (shape2 K 2) (shape1 K)) (huw : d.updateWindowDims = []) (hiw : d.insertedWindowDims = [0, 1])
    (hsd : d.scatterDimsToOperandDims = [0, 1]) (hivd : d.indexVectorDim = 1) (x0 : (shape2 1 N).Idx → α) (idx : IVec (shape2 K 2) 32) (upd : (shape1 K).Idx → α)
    (h0 : ∀ j : Fin K, (idx (ix2 j (0 : Fin 2))).toInt = 0) (c : Fin N)
    (hj : ∀ j' : Fin K, (idx (ix2 j' (1 : Fin 2))).toInt ≠ (c.val : Int)) :
    Host.scatter d (fun _ b => b) x0 idx upd (ix2 (0 : Fin 1) c) = x0 (ix2 (0 : Fin 1) c) := by
  refine scatter_set_miss d x0 idx upd _ fun k hk => ?_
  obtain ⟨j', rfl⟩ := exists_ix1 k
  exact hj j' ((row_land d huw hiw hsd hivd idx j' (h0 j') c).1 hk)

/-! ## Reads by natural numbers -/

/-- A vector read at a natural number. -/
def rd1 {a : ℕ} (x : (⟨1, ![a]⟩ : Shape).Idx → EReal) (i : ℕ) : EReal :=
  if h : i < a then x (ix1 ⟨i, h⟩) else 0

/-- A matrix read at natural numbers. -/
def rd2 {a b : ℕ} (x : (⟨2, ![a, b]⟩ : Shape).Idx → EReal) (i j : ℕ) : EReal :=
  if h : i < a ∧ j < b then x (ix2 ⟨i, h.1⟩ ⟨j, h.2⟩) else 0

/-- A three-axis array read at natural numbers. -/
def rd3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

/-- A four-axis array read at natural numbers. -/
def rd4 {a b c d : ℕ} (x : (⟨4, ![a, b, c, d]⟩ : Shape).Idx → EReal) (i j k l : ℕ) : EReal :=
  if h : i < a ∧ j < b ∧ k < c ∧ l < d then x (ix4 ⟨i, h.1⟩ ⟨j, h.2.1⟩ ⟨k, h.2.2.1⟩ ⟨l, h.2.2.2⟩) else 0

theorem at1 {a : ℕ} (x : (⟨1, ![a]⟩ : Shape).Idx → EReal) (i : Fin a) : x (ix1 i) = rd1 x i := by
  unfold rd1; rw [dif_pos i.isLt]

theorem at2 {a b : ℕ} (x : (⟨2, ![a, b]⟩ : Shape).Idx → EReal) (i : Fin a) (j : Fin b) : x (ix2 i j) = rd2 x i j := by
  unfold rd2; rw [dif_pos ⟨i.isLt, j.isLt⟩]

theorem at3 {a b c : ℕ} (x : (⟨3, ![a, b, c]⟩ : Shape).Idx → EReal) (i : Fin a) (j : Fin b) (k : Fin c) : x (ix3 i j k) = rd3 x i j k := by
  unfold rd3; rw [dif_pos ⟨i.isLt, j.isLt, k.isLt⟩]

theorem at4 {a b c d : ℕ} (x : (⟨4, ![a, b, c, d]⟩ : Shape).Idx → EReal) (i : Fin a) (j : Fin b) (k : Fin c) (l : Fin d) :
    x (ix4 i j k l) = rd4 x i j k l := by
  unfold rd4; rw [dif_pos ⟨i.isLt, j.isLt, k.isLt, l.isLt⟩]

end Cert.Band
-- ==== Proof.HostA.lean ====
module
public import proofs.«01_k».proof.Proof.Gen.KernelAIdeal.Value
public import proofs.«01_k».proof.Proof.Base
public import Idealize.ShloMosaic.Lib.Claim
public import Idealize.ShloMosaic.Lib.Pipeline.ValueKit
public import Idealize.ShloMosaic.Lib.Pointwise
public import Idealize.ShloMosaic.PureOps.Ideal
public import Idealize.ShloMosaic.Lib.StableHlo.RunRead
@[expose] public section
set_option maxRecDepth 16384
noncomputable section
namespace Cert.KernelAIdeal.Value
open Cert.KernelAIdeal Cert.KernelAIdeal.Gen Idealize.ShloMosaic Idealize.ShloMosaic.TcCoe Idealize.SL.Sem
set_option maxHeartbeats 1000000

open Cert.Band

/-- The layout of the input image the program makes: rows, images, and lanes of column and channel, with a rim of zeros. -/
def xqT (x : FVec Ideal S1024x3x32x32 .f32) : FVec Ideal S36x1024x128 .f32 :=
  pad S36x1024x128 ![2, 0, 6] ![2, 0, 26] ![0, 0, 0]
    (shapeCast S32x1024x96 (transpose S32x1024x32x3 [2, 0, 3, 1] x transposes_S1024x3x32x32_S32x1024x32x3_2_0_3_1) shapeCasts_S32x1024x32x3_S32x1024x96)
    (sitofp FTy.f32 (constantI S_ 32 0#32)) pads_S32x1024x96_S36x1024x128_220_000_6260 h_S_

/-- The identity matrix over the output columns. -/
def eyeT : FVec Ideal S32x32 .f32 :=
  uitofp .f32 (cmpi .eq (addi (iotaInDim S32x32 32 0) (broadcastInDim S32x32 ![] bcast_S_S32x32 (constantI S_ 32 0#32))) (iotaInDim S32x32 32 1))

/-- One tap's block: the tap's weights repeated along the diagonal. -/
def blkT (w : FVec Ideal S16x3x1x1 .f32) : FVec Ideal S96x512 .f32 :=
  shapeCast S96x512 (mulf (broadcastInDim S32x3x32x16 ![0, 1, 2, 3] bcast_S32x1x32x1_S32x3x32x16_0_1_2_3 (broadcastInDim S32x1x32x1 ![0, 2] bcast_S32x32_S32x1x32x1_0_2 eyeT))
    (broadcastInDim S32x3x32x16 ![0, 1, 2, 3] bcast_S1x3x1x16_S32x3x32x16_0_1_2_3 (broadcastInDim S1x3x1x16 ![1, 3] bcast_S3x16_S1x3x1x16_1_3
      (transpose S3x16 [1, 0] (shapeCast S16x3 w shapeCasts_S16x3x1x1_S16x3) transposes_S16x3_S3x16_1_0)))) shapeCasts_S32x3x32x16_S96x512

/-- The scalar every padding of the program uses. -/
abbrev z0T : FVec Ideal S_ .f32 := sitofp FTy.f32 (constantI S_ 32 0#32)

/-- One row offset's band from its five taps. -/
def bdyT (w0 w1 w2 w3 w4 : FVec Ideal S16x3x1x1 .f32) : FVec Ideal S128x512 .f32 :=
  pad S128x512 ![0, 0] ![20, 0] ![0, 0]
    (addf (addf (addf (addf (addf (broadcastInDim S108x512 ![] bcast_S_S108x512 (constant S_ .f32 0x00000000#32))
      (pad S108x512 ![0, 0] ![12, 0] ![0, 0] (blkT w0) z0T pads_S96x512_S108x512_0120_000 h_S_))
      (pad S108x512 ![3, 0] ![9, 0] ![0, 0] (blkT w1) z0T pads_S96x512_S108x512_390_000 h_S_))
      (pad S108x512 ![6, 0] ![6, 0] ![0, 0] (blkT w2) z0T pads_S96x512_S108x512_660_000 h_S_))
      (pad S108x512 ![9, 0] ![3, 0] ![0, 0] (blkT w3) z0T pads_S96x512_S108x512_930_000 h_S_))
      (pad S108x512 ![12, 0] ![0, 0] ![0, 0] (blkT w4) z0T pads_S96x512_S108x512_1200_000 h_S_))
    z0T pads_S108x512_S128x512_0200_000 h_S_

/-- The five bands of the weights, one above another. -/
def bandsT (w : FVec Ideal S16x3x5x5 .f32) : FVec Ideal S640x512 .f32 :=
  concatenate S640x512 0
    [⟨S128x512, bdyT (extractStridedSlice S16x3x1x1 ![0, 0, 0, 0] w slices_S16x3x5x5_S16x3x1x1_0_0_0_0) (extractStridedSlice S16x3x1x1 ![0, 0, 0, 1] w slices_S16x3x5x5_S16x3x1x1_0_0_0_1)
        (extractStridedSlice S16x3x1x1 ![0, 0, 0, 2] w slices_S16x3x5x5_S16x3x1x1_0_0_0_2) (extractStridedSlice S16x3x1x1 ![0, 0, 0, 3] w slices_S16x3x5x5_S16x3x1x1_0_0_0_3)
        (extractStridedSlice S16x3x1x1 ![0, 0, 0, 4] w slices_S16x3x5x5_S16x3x1x1_0_0_0_4)⟩,
     ⟨S128x512, bdyT (extractStridedSlice S16x3x1x1 ![0, 0, 1, 0] w slices_S16x3x5x5_S16x3x1x1_0_0_1_0) (extractStridedSlice S16x3x1x1 ![0, 0, 1, 1] w slices_S16x3x5x5_S16x3x1x1_0_0_1_1)
        (extractStridedSlice S16x3x1x1 ![0, 0, 1, 2] w slices_S16x3x5x5_S16x3x1x1_0_0_1_2) (extractStridedSlice S16x3x1x1 ![0, 0, 1, 3] w slices_S16x3x5x5_S16x3x1x1_0_0_1_3)
        (extractStridedSlice S16x3x1x1 ![0, 0, 1, 4] w slices_S16x3x5x5_S16x3x1x1_0_0_1_4)⟩,
     ⟨S128x512, bdyT (extractStridedSlice S16x3x1x1 ![0, 0, 2, 0] w slices_S16x3x5x5_S16x3x1x1_0_0_2_0) (extractStridedSlice S16x3x1x1 ![0, 0, 2, 1] w slices_S16x3x5x5_S16x3x1x1_0_0_2_1)
        (extractStridedSlice S16x3x1x1 ![0, 0, 2, 2] w slices_S16x3x5x5_S16x3x1x1_0_0_2_2) (extractStridedSlice S16x3x1x1 ![0, 0, 2, 3] w slices_S16x3x5x5_S16x3x1x1_0_0_2_3)
        (extractStridedSlice S16x3x1x1 ![0, 0, 2, 4] w slices_S16x3x5x5_S16x3x1x1_0_0_2_4)⟩,
     ⟨S128x512, bdyT (extractStridedSlice S16x3x1x1 ![0, 0, 3, 0] w slices_S16x3x5x5_S16x3x1x1_0_0_3_0) (extractStridedSlice S16x3x1x1 ![0, 0, 3, 1] w slices_S16x3x5x5_S16x3x1x1_0_0_3_1)
        (extractStridedSlice S16x3x1x1 ![0, 0, 3, 2] w slices_S16x3x5x5_S16x3x1x1_0_0_3_2) (extractStridedSlice S16x3x1x1 ![0, 0, 3, 3] w slices_S16x3x5x5_S16x3x1x1_0_0_3_3)
        (extractStridedSlice S16x3x1x1 ![0, 0, 3, 4] w slices_S16x3x5x5_S16x3x1x1_0_0_3_4)⟩,
     ⟨S128x512, bdyT (extractStridedSlice S16x3x1x1 ![0, 0, 4, 0] w slices_S16x3x5x5_S16x3x1x1_0_0_4_0) (extractStridedSlice S16x3x1x1 ![0, 0, 4, 1] w slices_S16x3x5x5_S16x3x1x1_0_0_4_1)
        (extractStridedSlice S16x3x1x1 ![0, 0, 4, 2] w slices_S16x3x5x5_S16x3x1x1_0_0_4_2) (extractStridedSlice S16x3x1x1 ![0, 0, 4, 3] w slices_S16x3x5x5_S16x3x1x1_0_0_4_3)
        (extractStridedSlice S16x3x1x1 ![0, 0, 4, 4] w slices_S16x3x5x5_S16x3x1x1_0_0_4_4)⟩]
    concatenates_S128x512_S128x512_S128x512_S128x512_S128x512_S640x512_d0

/-- Where the columns of the bands go. -/
def colT (lit : IVec S512 32) : IVec S512x1 32 :=
  broadcastInDim S512x1 ![0] bcast_S512_S512x1_0 (select (constantI S512 1 0#1) (addi lit (broadcastInDim S512 ![] bcast_S_S512 (constantI S_ 32 768#32))) lit)

/-- The matrix of the call: the bands' columns at their places among zeros. -/
def bfT (w : FVec Ideal S16x3x5x5 .f32) : FVec Ideal S640x768 .f32 :=
  Host.scatter scatter_S640x768_S512x1_S640x512_0_1_1_1 (fun _ b => b) (broadcastInDim S640x768 ![] bcast_S_S640x768 (constant S_ .f32 0x00000000#32))
    (colT fun i => lit0 (S512.rowMajor i)) (bandsT w)

/-- The bias row of the call: the bias once per output column, at the columns' places. -/
def btT (b : FVec Ideal S16 .f32) : FVec Ideal S1x768 .f32 :=
  Host.scatter scatter_S1x768_S512x2_S512_n_01_01_1 (fun _ b => b) (broadcastInDim S1x768 ![] bcast_S_S1x768 (constant S_ .f32 0x00000000#32))
    (concatenate S512x2 1 [⟨S512x1, broadcastInDim S512x1 ![0] bcast_S512_S512x1_0 (broadcastInDim S512 ![] bcast_S_S512 (constantI S_ 32 0#32))⟩,
      ⟨S512x1, colT fun i => lit1 (S512.rowMajor i)⟩] concatenates_S512x1_S512x1_S512x2_d1)
    (shapeCast S512 (broadcastInDim S32x16 ![0, 1] bcast_S1x16_S32x16_0_1 (shapeCast S1x16 b shapeCasts_S16_S1x16)) shapeCasts_S32x16_S512)

/-- The padding scalar is zero. -/
theorem z0_at : FloatOps.sitofp FTy.f32 (0#32) = (0 : Ideal .f32) := by
  show (((0#32 : BitVec 32).toInt : ℝ) : EReal) = 0
  simp

/-- The zero word is the number zero. -/
theorem zf_at : FloatOps.ofBits FTy.f32 (0#32) = (0 : Ideal .f32) := by
  show Ideal.ofBits .f32 0#32 = 0
  simp [Ideal.ofBits, Ideal.ieee]

/-- The laid-out image read at a row, an image and a lane. -/
theorem xq_at (x : FVec Ideal S1024x3x32x32 .f32) (r : Fin 36) (b : Fin 1024) (l : Fin 128) :
    xqT x (ix3 r b l) = if 2 ≤ r.val ∧ r.val < 34 ∧ 6 ≤ l.val ∧ l.val < 102 then rd4 x b (l % 3) (r - 2) (l / 3 - 2) else 0 := by
  pointwise [xqT]
  by_cases h : (2 ≤ r.val ∧ r.val - 2 < 32) ∧ 6 ≤ l.val ∧ l.val - 6 < 96
  · rw [dif_pos h, if_pos (by omega)]
    refine (at4 x _ _ _ _).trans ?_
    show rd4 x b ((l.val - 6) % 3) (r.val - 2) ((l.val - 6) / 3) = _
    congr 1 <;> omega
  · rw [dif_neg h, if_neg (by omega)]
    exact z0_at

/-- The identity matrix read at a row and a column. -/
theorem eye_at (i j : Fin 32) : eyeT (ix2 i j) = if i.val = j.val then 1 else 0 := by
  pointwise [eyeT]
  have e : IntOp.cmpi .eq (IntOp.addi (BitVec.ofNat 32 i.val) 0#32) (BitVec.ofNat 32 j.val) = BitVec.ofBool (decide (i.val = j.val)) := by
    revert i j; decide +kernel
  rw [e]
  by_cases h : i.val = j.val
  · rw [if_pos h, decide_eq_true h]
    show (((1#1 : BitVec 1).toNat : ℝ) : EReal) = 1
    simp
  · rw [if_neg h, decide_eq_false h]
    show (((0#1 : BitVec 1).toNat : ℝ) : EReal) = 0
    simp

/-- One tap's block read at a lane and an output column. -/
theorem blk_at (w : FVec Ideal S16x3x1x1 .f32) (i : Fin 96) (j : Fin 512) :
    blkT w (ix2 i j) = (if i.val / 3 = j.val / 16 then 1 else 0) * rd4 w (j % 16) (i % 3) 0 0 := by
  have e : blkT w (ix2 i j) = eyeT (ix2 ⟨i / 3, by omega⟩ ⟨j / 16, by omega⟩) * w (ix4 ⟨j % 16, by omega⟩ ⟨i % 3, by omega⟩ 0 0) := by
    pointwise [blkT]
  rw [e, eye_at]
  exact congrArg _ (at4 w _ _ _ _)

/-- A tap's block at its offset, read at a lane: the tap's weight where the lane's column is the output column plus the tap's offset. -/
theorem tap_at (w : FVec Ideal S16x3x1x1 .f32) (s t : ℕ) (hs : s = 3 * t) (k : ℕ) (j : Fin 512) :
    (if h : s ≤ k ∧ k - s < 96 then blkT w (ix2 ⟨k - s, h.2⟩ j) else FloatOps.sitofp FTy.f32 0#32)
      = if k / 3 = j.val / 16 + t then rd4 w (j % 16) (k % 3) 0 0 else 0 := by
  subst hs
  by_cases h : 3 * t ≤ k ∧ k - 3 * t < 96
  · rw [dif_pos h, blk_at]
    show (if (k - 3 * t) / 3 = j.val / 16 then (1 : EReal) else 0) * rd4 w (j % 16) ((k - 3 * t) % 3) 0 0 = _
    have e : (k - 3 * t) % 3 = k % 3 := by omega
    by_cases h' : k / 3 = j.val / 16 + t
    · rw [if_pos (by omega), if_pos h', e, one_mul]
    · rw [if_neg (by omega), if_neg h', zero_mul]
  · rw [dif_neg h, if_neg (by omega)]
    exact z0_at

/-- The first tap's block, which stands at offset zero. -/
theorem tap0_at (w : FVec Ideal S16x3x1x1 .f32) (k : ℕ) (j : Fin 512) :
    (if h : k < 96 then blkT w (ix2 ⟨k, h⟩ j) else FloatOps.sitofp FTy.f32 0#32)
      = if k / 3 = j.val / 16 + 0 then rd4 w (j % 16) (k % 3) 0 0 else 0 := by
  rw [← tap_at w 0 0 rfl k j]
  by_cases h : k < 96
  · rw [dif_pos h, dif_pos ⟨Nat.zero_le _, h⟩]; rfl
  · rw [dif_neg h, dif_neg (by omega)]

/-- One row offset's band is the band matrix of the weights. -/
theorem bdy_at (w : ℕ → ℕ → ℕ → ℕ → EReal) (dy : ℕ) (w0 w1 w2 w3 w4 : FVec Ideal S16x3x1x1 .f32) (h0 : ∀ o c, rd4 w0 o c 0 0 = w o c dy 0)
    (h1 : ∀ o c, rd4 w1 o c 0 0 = w o c dy 1) (h2 : ∀ o c, rd4 w2 o c 0 0 = w o c dy 2) (h3 : ∀ o c, rd4 w3 o c 0 0 = w o c dy 3)
    (h4 : ∀ o c, rd4 w4 o c 0 0 = w o c dy 4) (k : Fin 128) (j : Fin 512) :
    bdyT w0 w1 w2 w3 w4 (ix2 k j) = band 3 36 w dy k (j / 16) (j % 16) := by
  have e : bdyT w0 w1 w2 w3 w4 (ix2 k j) = if h : k.val < 108 then
      (((((if h : k.val < 96 then blkT w0 (ix2 ⟨k.val, h⟩ j) else FloatOps.sitofp FTy.f32 0#32)
        + if h : 3 ≤ k.val ∧ k.val - 3 < 96 then blkT w1 (ix2 ⟨k.val - 3, h.2⟩ j) else FloatOps.sitofp FTy.f32 0#32)
        + if h : 6 ≤ k.val ∧ k.val - 6 < 96 then blkT w2 (ix2 ⟨k.val - 6, h.2⟩ j) else FloatOps.sitofp FTy.f32 0#32)
        + if h : 9 ≤ k.val ∧ k.val - 9 < 96 then blkT w3 (ix2 ⟨k.val - 9, h.2⟩ j) else FloatOps.sitofp FTy.f32 0#32)
        + if h : 12 ≤ k.val ∧ k.val - 12 < 96 then blkT w4 (ix2 ⟨k.val - 12, h.2⟩ j) else FloatOps.sitofp FTy.f32 0#32)
      else FloatOps.sitofp FTy.f32 0#32 := by
    pointwise [bdyT]
  rw [e, tap0_at w0 k j, tap_at w1 3 1 rfl k j, tap_at w2 6 2 rfl k j, tap_at w3 9 3 rfl k j, tap_at w4 12 4 rfl k j, h0, h1, h2, h3, h4, z0_at]
  unfold band
  by_cases hk : k.val < 108
  · rw [dif_pos hk]
    rcases (by omega : k.val / 3 = j.val / 16 + 0 ∨ k.val / 3 = j.val / 16 + 1 ∨ k.val / 3 = j.val / 16 + 2 ∨ k.val / 3 = j.val / 16 + 3 ∨ k.val / 3 = j.val / 16 + 4
      ∨ k.val / 3 < j.val / 16 ∨ j.val / 16 + 5 ≤ k.val / 3) with e | e | e | e | e | e
    iterate 5 rw [e]; simp [hk]
    rw [if_neg (by omega), if_neg (by omega), if_neg (by omega), if_neg (by omega), if_neg (by omega), if_neg (by omega)]
    simp
  · rw [dif_neg hk, if_neg (by omega)]

/-- The weights read by natural numbers. -/
abbrev wN (w : FVec Ideal S16x3x5x5 .f32) : ℕ → ℕ → ℕ → ℕ → EReal := fun o c dy dx => rd4 w o c dy dx

/-- A tap of the weights is the weights at the tap. -/
theorem slice_rd (w : FVec Ideal S16x3x5x5 .f32) (dy dx : ℕ) (hy : dy < 5) (hx : dx < 5) (h : S16x3x5x5.Slices ![0, 0, dy, dx] S16x3x1x1) (o c : ℕ) :
    rd4 (extractStridedSlice S16x3x1x1 ![0, 0, dy, dx] w h) o c 0 0 = wN w o c dy dx := by
  unfold wN rd4
  by_cases hoc : o < 16 ∧ c < 3
  · rw [dif_pos ⟨hoc.1, hoc.2, by omega, by omega⟩, dif_pos ⟨hoc.1, hoc.2, hy, hx⟩]
    have e : (⟨dy, hy⟩ : Fin 5) = ⟨dy + 0, hy⟩ := rfl
    unfold extractStridedSlice
    congr 1
    funext a
    fin_cases a <;> simp [ix4] <;> rfl
  · rw [dif_neg (by omega), dif_neg (by omega)]

/-- Five pieces one above another, read in piece `dy`. -/
theorem cat5_at (X0 X1 X2 X3 X4 : FVec Ideal S128x512 .f32) (P : Fin 5 → EReal) (k : Fin 128) (j : Fin 512) (h0 : X0 (ix2 k j) = P 0) (h1 : X1 (ix2 k j) = P 1)
    (h2 : X2 (ix2 k j) = P 2) (h3 : X3 (ix2 k j) = P 3) (h4 : X4 (ix2 k j) = P 4) (dy : Fin 5) :
    concatenate S640x512 0 [⟨S128x512, X0⟩, ⟨S128x512, X1⟩, ⟨S128x512, X2⟩, ⟨S128x512, X3⟩, ⟨S128x512, X4⟩]
      concatenates_S128x512_S128x512_S128x512_S128x512_S128x512_S640x512_d0 (ix2 ⟨dy * 128 + k, by omega⟩ j) = P dy := by
  have e : ∀ i : Fin 640, concatenate S640x512 0 [⟨S128x512, X0⟩, ⟨S128x512, X1⟩, ⟨S128x512, X2⟩, ⟨S128x512, X3⟩, ⟨S128x512, X4⟩]
      concatenates_S128x512_S128x512_S128x512_S128x512_S128x512_S640x512_d0 (ix2 i j)
      = if h : i.val < 128 then X0 (ix2 ⟨i.val, h⟩ j) else if h : i.val - 128 < 128 then X1 (ix2 ⟨i.val - 128, h⟩ j)
        else if h : i.val - 128 - 128 < 128 then X2 (ix2 ⟨i.val - 128 - 128, h⟩ j) else if h : i.val - 128 - 128 - 128 < 128 then X3 (ix2 ⟨i.val - 128 - 128 - 128, h⟩ j)
        else X4 (ix2 ⟨i.val - 128 - 128 - 128 - 128, by omega⟩ j) := by
    intro i; pointwise
  have hk : ∀ (n : ℕ) (h : n < 128), n = k.val → (⟨n, h⟩ : Fin 128) = k := fun n h e => Fin.ext e
  rw [e]
  obtain ⟨d, hd⟩ := dy
  rcases (by omega : d = 0 ∨ d = 1 ∨ d = 2 ∨ d = 3 ∨ d = 4) with rfl | rfl | rfl | rfl | rfl
  · rw [dif_pos (by show 0 * 128 + k.val < 128; omega), hk _ _ (by show 0 * 128 + k.val = k.val; omega)]; exact h0
  · rw [dif_neg (by show ¬ 1 * 128 + k.val < 128; omega), dif_pos (by show 1 * 128 + k.val - 128 < 128; omega), hk _ _ (by show 1 * 128 + k.val - 128 = k.val; omega)]; exact h1
  · rw [dif_neg (by show ¬ 2 * 128 + k.val < 128; omega), dif_neg (by show ¬ 2 * 128 + k.val - 128 < 128; omega), dif_pos (by show 2 * 128 + k.val - 128 - 128 < 128; omega),
      hk _ _ (by show 2 * 128 + k.val - 128 - 128 = k.val; omega)]; exact h2
  · rw [dif_neg (by show ¬ 3 * 128 + k.val < 128; omega), dif_neg (by show ¬ 3 * 128 + k.val - 128 < 128; omega), dif_neg (by show ¬ 3 * 128 + k.val - 128 - 128 < 128; omega),
      dif_pos (by show 3 * 128 + k.val - 128 - 128 - 128 < 128; omega), hk _ _ (by show 3 * 128 + k.val - 128 - 128 - 128 = k.val; omega)]; exact h3
  · rw [dif_neg (by show ¬ 4 * 128 + k.val < 128; omega), dif_neg (by show ¬ 4 * 128 + k.val - 128 < 128; omega), dif_neg (by show ¬ 4 * 128 + k.val - 128 - 128 < 128; omega),
      dif_neg (by show ¬ 4 * 128 + k.val - 128 - 128 - 128 < 128; omega), hk _ _ (by show 4 * 128 + k.val - 128 - 128 - 128 - 128 = k.val; omega)]; exact h4

/-- The stacked bands read at a row offset, a lane, and an output column and channel. -/
theorem bands_at (w : FVec Ideal S16x3x5x5 .f32) (dy : Fin 5) (k : Fin 128) (j : Fin 512) :
    bandsT w (ix2 ⟨dy * 128 + k, by omega⟩ j) = band 3 36 (wN w) dy k (j / 16) (j % 16) := by
  have one : ∀ (n : ℕ) (hn : n < 5) (g0 : S16x3x5x5.Slices ![0, 0, n, 0] S16x3x1x1) (g1 : S16x3x5x5.Slices ![0, 0, n, 1] S16x3x1x1) (g2 : S16x3x5x5.Slices ![0, 0, n, 2] S16x3x1x1)
      (g3 : S16x3x5x5.Slices ![0, 0, n, 3] S16x3x1x1) (g4 : S16x3x5x5.Slices ![0, 0, n, 4] S16x3x1x1),
      bdyT (extractStridedSlice S16x3x1x1 ![0, 0, n, 0] w g0) (extractStridedSlice S16x3x1x1 ![0, 0, n, 1] w g1) (extractStridedSlice S16x3x1x1 ![0, 0, n, 2] w g2)
        (extractStridedSlice S16x3x1x1 ![0, 0, n, 3] w g3) (extractStridedSlice S16x3x1x1 ![0, 0, n, 4] w g4) (ix2 k j) = band 3 36 (wN w) n k (j / 16) (j % 16) :=
    fun n hn g0 g1 g2 g3 g4 => bdy_at (wN w) n _ _ _ _ _ (slice_rd w n 0 hn (by omega) g0) (slice_rd w n 1 hn (by omega) g1) (slice_rd w n 2 hn (by omega) g2)
      (slice_rd w n 3 hn (by omega) g3) (slice_rd w n 4 hn (by omega) g4) k j
  exact cat5_at _ _ _ _ _ (fun n => band 3 36 (wN w) n k (j / 16) (j % 16)) k j (one 0 (by omega) _ _ _ _ _) (one 1 (by omega) _ _ _ _ _) (one 2 (by omega) _ _ _ _ _)
    (one 3 (by omega) _ _ _ _ _) (one 4 (by omega) _ _ _ _ _) dy

/-- The column map and its inverse. -/
theorem col_inv (c j : ℕ) (hc : c < 768) (hj : j < 512) :
    (384 * ((j / 16) % 2) + 32 + (j / 16 / 2) * 16 + j % 16 : ℕ) = c
      ↔ 32 ≤ c % 384 ∧ c % 384 < 288 ∧ j = (2 * ((c % 384 - 32) / 16) + c / 384) * 16 + (c % 384 - 32) % 16 := by
  constructor
  · intro h
    rcases (by omega : (j / 16) % 2 = 0 ∨ (j / 16) % 2 = 1) with e | e
    · rw [e] at h
      have h1 : c / 384 = 0 := by omega
      have h2 : (c % 384 - 32) / 16 = j / 16 / 2 := by omega
      rw [h1, h2]
      omega
    · rw [e] at h
      have h1 : c / 384 = 1 := by omega
      have h2 : (c % 384 - 32) / 16 = j / 16 / 2 := by omega
      rw [h1, h2]
      omega
  · rintro ⟨h1, h2, h⟩
    rcases (by omega : c / 384 = 0 ∨ c / 384 = 1) with e | e
    · rw [e] at h
      have h3 : j / 16 / 2 = (c % 384 - 32) / 16 := by omega
      have h4 : j / 16 % 2 = 0 := by omega
      rw [h3, h4]; omega
    · rw [e] at h
      have h3 : j / 16 / 2 = (c % 384 - 32) / 16 := by omega
      have h4 : j / 16 % 2 = 1 := by omega
      rw [h3, h4]; omega

/-- The table of columns: even output columns in the first half, odd ones in the second. -/
theorem lit0_at (j : Fin 512) : (lit0 j).toInt = ((384 * ((j.val / 16) % 2) + 32 + (j.val / 16 / 2) * 16 + j.val % 16 : ℕ) : Int) := by
  revert j; decide +kernel

/-- The bias row's table of columns is the same. -/
theorem lit1_at (j : Fin 512) : (lit1 j).toInt = ((384 * ((j.val / 16) % 2) + 32 + (j.val / 16 / 2) * 16 + j.val % 16 : ℕ) : Int) := by
  revert j; decide +kernel

/-- The table of columns read at an update column. -/
theorem colT_at (lit : IVec S512 32) (j : Fin 512) : colT lit (ix2 j 0) = lit (ix1 j) := by
  pointwise [colT]

/-- The matrix's column map, read from the table. -/
theorem col0 (j : Fin 512) : (colT (fun i => lit0 (S512.rowMajor i)) (ix2 j 0)).toInt = ((384 * ((j.val / 16) % 2) + 32 + (j.val / 16 / 2) * 16 + j.val % 16 : ℕ) : Int) := by
  rw [colT_at, ← lit0_at j]
  have e : S512.rowMajor (ix1 j) = j := by apply Fin.ext; simp [Shape.rowMajor_val_one]
  exact congrArg (fun t => (lit0 t).toInt) e

/-- The bias row's column map, read from the table. -/
theorem col1 (j : Fin 512) : (colT (fun i => lit1 (S512.rowMajor i)) (ix2 j 0)).toInt = ((384 * ((j.val / 16) % 2) + 32 + (j.val / 16 / 2) * 16 + j.val % 16 : ℕ) : Int) := by
  rw [colT_at, ← lit1_at j]
  have e : S512.rowMajor (ix1 j) = j := by apply Fin.ext; simp [Shape.rowMajor_val_one]
  exact congrArg (fun t => (lit1 t).toInt) e

/-- The call's matrix read at a row offset, a lane and a column. -/
theorem bf_at (w : FVec Ideal S16x3x5x5 .f32) (dy : Fin 5) (k : Fin 128) (c : Fin 768) :
    bfT w (ix2 ⟨dy * 128 + k, by omega⟩ c)
      = if 32 ≤ c.val % 384 ∧ c.val % 384 < 288 then band 3 36 (wN w) dy k (2 * ((c.val % 384 - 32) / 16) + c.val / 384) ((c.val % 384 - 32) % 16) else 0 := by
  by_cases h : 32 ≤ c.val % 384 ∧ c.val % 384 < 288
  · rw [if_pos h]
    refine (cols_hit scatter_S640x768_S512x1_S640x512_0_1_1_1 rfl rfl rfl rfl _ _ (bandsT w) ⟨dy * 128 + k, by omega⟩ c
      ⟨(2 * ((c.val % 384 - 32) / 16) + c.val / 384) * 16 + (c.val % 384 - 32) % 16, by omega⟩ fun j' => ?_).trans ?_
    · exact (Eq.congr_left (col0 j')).trans (Nat.cast_inj.trans ((col_inv c j' c.isLt j'.isLt).trans
        ⟨fun e => Fin.ext e.2.2, fun e => ⟨h.1, h.2, congrArg Fin.val e⟩⟩))
    · rw [bands_at]
      show band 3 36 (wN w) dy k (((2 * ((c.val % 384 - 32) / 16) + c.val / 384) * 16 + (c.val % 384 - 32) % 16) / 16) (((2 * ((c.val % 384 - 32) / 16) + c.val / 384) * 16 + (c.val % 384 - 32) % 16) % 16) = _
      congr 1 <;> omega
  · rw [if_neg h]
    refine (cols_miss scatter_S640x768_S512x1_S640x512_0_1_1_1 rfl rfl rfl rfl _ _ (bandsT w) ⟨dy * 128 + k, by omega⟩ c fun j' e => ?_).trans ?_
    · have e := (col_inv c j' c.isLt j'.isLt).1 (Nat.cast_inj.1 ((col0 j').symm.trans e))
      exact h ⟨e.1, e.2.1⟩
    · exact zf_at

/-- The bias row of the call read at a column. -/
theorem bt_at (b : FVec Ideal S16 .f32) (c : Fin 768) :
    btT b (ix2 0 c) = if 32 ≤ c.val % 384 ∧ c.val % 384 < 288 then rd1 b ((c.val % 384 - 32) % 16) else 0 := by
  have u : ∀ j : Fin 512, (shapeCast S512 (broadcastInDim S32x16 ![0, 1] bcast_S1x16_S32x16_0_1 (shapeCast S1x16 b shapeCasts_S16_S1x16)) shapeCasts_S32x16_S512 : FVec Ideal S512 .f32) (ix1 j)
      = b (ix1 ⟨j.val % 16, by omega⟩) := by
    intro j; pointwise
  have i0 : ∀ (lit : IVec S512 32) (j : Fin 512), (concatenate S512x2 1 [⟨S512x1, broadcastInDim S512x1 ![0] bcast_S512_S512x1_0 (broadcastInDim S512 ![] bcast_S_S512 (constantI S_ 32 0#32))⟩,
      ⟨S512x1, colT lit⟩] concatenates_S512x1_S512x1_S512x2_d1) (ix2 j 0) = 0#32 := by
    intro lit j; pointwise
  have i1 : ∀ (lit : IVec S512 32) (j : Fin 512), (concatenate S512x2 1 [⟨S512x1, broadcastInDim S512x1 ![0] bcast_S512_S512x1_0 (broadcastInDim S512 ![] bcast_S_S512 (constantI S_ 32 0#32))⟩,
      ⟨S512x1, colT lit⟩] concatenates_S512x1_S512x1_S512x2_d1) (ix2 j 1) = colT lit (ix2 j 0) := by
    intro lit j; pointwise
  by_cases h : 32 ≤ c.val % 384 ∧ c.val % 384 < 288
  · rw [if_pos h]
    refine (row_hit scatter_S1x768_S512x2_S512_n_01_01_1 rfl rfl rfl rfl _ _ _ (fun j => ?_) c
      ⟨(2 * ((c.val % 384 - 32) / 16) + c.val / 384) * 16 + (c.val % 384 - 32) % 16, by omega⟩ fun j' => ?_).trans ?_
    · exact congrArg BitVec.toInt (i0 _ j)
    · exact (Eq.congr_left ((congrArg BitVec.toInt (i1 _ j')).trans (col1 j'))).trans (Nat.cast_inj.trans ((col_inv c j' c.isLt j'.isLt).trans
        ⟨fun e => Fin.ext e.2.2, fun e => ⟨h.1, h.2, congrArg Fin.val e⟩⟩))
    · refine (u _).trans ((at1 b _).trans ?_)
      show rd1 b (((2 * ((c.val % 384 - 32) / 16) + c.val / 384) * 16 + (c.val % 384 - 32) % 16) % 16) = _
      congr 1; omega
  · rw [if_neg h]
    refine (row_miss scatter_S1x768_S512x2_S512_n_01_01_1 rfl rfl rfl rfl _ _ _ (fun j => ?_) c fun j' e => ?_).trans ?_
    · exact congrArg BitVec.toInt (i0 _ j)
    · have e := (col_inv c j' c.isLt j'.isLt).1 (Nat.cast_inj.1 (((congrArg BitVec.toInt (i1 _ j')).trans (col1 j')).symm.trans e))
      exact h ⟨e.1, e.2.1⟩
    · exact zf_at

end Cert.KernelAIdeal.Value
-- ==== Proof.ReadA.lean ====
module
public import proofs.«01_k».proof.Proof.Gen.KernelAIdeal.Value
public import proofs.«01_k».proof.Proof.HostA
public import Idealize.ShloMosaic.Lib.Claim
public import Idealize.ShloMosaic.Lib.Pipeline.ValueKit
public import Idealize.ShloMosaic.Lib.Pointwise
public import Idealize.ShloMosaic.PureOps.Ideal
public import Idealize.ShloMosaic.Lib.StableHlo.RunRead
@[expose] public section
set_option maxRecDepth 16384
noncomputable section
namespace Cert.KernelAIdeal.Value
open Cert.KernelAIdeal Cert.KernelAIdeal.Gen Idealize.ShloMosaic Idealize.ShloMosaic.TcCoe Idealize.SL.Sem
variable (m : (ℓ : Loc nD τ sig) → Buf (Elt Ideal) ℓ)
set_option maxHeartbeats 1000000

/-- The first operand of the call is the laid-out image. -/
theorem V_xq (c : Dev nD) : V m c main_v2 = xqT (m ((c : Thread nD τ).loc main_arg0)) := by
  unfold V; after_reads_simp; rfl

/-- The second operand of the call is the bands' matrix. -/
theorem V_bf (c : Dev nD) : V m c main_v300 = bfT (m ((c : Thread nD τ).loc main_arg1)) := by
  unfold V; after_reads_simp
  simp only [Matrix.cons_val_zero, Matrix.cons_val_one]
  rfl

/-- The third operand of the call is the bias row. -/
theorem V_bt (c : Dev nD) : V m c main_v313 = btT (m ((c : Thread nD τ).loc main_arg2)) := by
  unfold V; after_reads_simp
  rfl

end Cert.KernelAIdeal.Value
-- ==== Proof.BlockA.lean ====
module
public import proofs.«01_k».proof.Proof.Gen.KernelAIdeal.Value
public import proofs.«01_k».proof.Proof.Base
public import Idealize.ShloMosaic.Lib.Claim
public import Idealize.ShloMosaic.Lib.Pipeline.ValueKit
public import Idealize.ShloMosaic.Lib.Pointwise
public import Idealize.ShloMosaic.PureOps.Ideal
public import Idealize.ShloMosaic.Lib.StableHlo.RunRead
@[expose] public section
set_option maxRecDepth 16384
noncomputable section
namespace Cert.KernelAIdeal.Value
open Cert.KernelAIdeal Cert.KernelAIdeal.Gen Idealize.ShloMosaic Idealize.ShloMosaic.TcCoe Idealize.SL.Sem
set_option maxHeartbeats 1000000
open Cert.Band
/-- Five row offsets of the image side by side along the lanes. -/
def catT (x0 : FVec Ideal S36x64x128 .f32) : FVec Ideal S32x64x640 .f32 :=
  concatenate S32x64x640 2 [⟨S32x64x128, extractStridedSlice S32x64x128 ![0, 0, 0] (k0_pay3 x0) slices_S36x64x128_o0_0_0_S32x64x128⟩,
    ⟨S32x64x128, extractStridedSlice S32x64x128 ![1, 0, 0] (k0_pay3 x0) slices_S36x64x128_o1_0_0_S32x64x128⟩,
    ⟨S32x64x128, extractStridedSlice S32x64x128 ![2, 0, 0] (k0_pay3 x0) slices_S36x64x128_o2_0_0_S32x64x128⟩,
    ⟨S32x64x128, extractStridedSlice S32x64x128 ![3, 0, 0] (k0_pay3 x0) slices_S36x64x128_o3_0_0_S32x64x128⟩,
    ⟨S32x64x128, extractStridedSlice S32x64x128 ![4, 0, 0] (k0_pay3 x0) slices_S36x64x128_o4_0_0_S32x64x128⟩]
    concatenates_S32x64x128_S32x64x128_S32x64x128_S32x64x128_S32x64x128_S32x64x640_d2

/-- The convolution's product, bias and rectifier over both column halves. -/
def hT (x0 : FVec Ideal S36x64x128 .f32) (x1 : FVec Ideal S640x768 .f32) (x2 : FVec Ideal S1x768 .f32) : FVec Ideal S32x64x768 .f32 :=
  maximumf (addf (shapeCast S32x64x768 (matmul dot_S2048x640_S640x768_S2048x768_1_0_0_1_n_n none (shapeCast S2048x640 (catT x0) shapeCasts_S32x64x640_S2048x640)
      (shapeCast S640x768 x1 shapeCasts_S640x768_S640x768) (constant S2048x768 .f32 0x00000000#32)) shapeCasts_S2048x768_S32x64x768)
    (broadcastTo S32x64x768 (shapeCast S1x1x768 (shapeCast S1x768 x2 shapeCasts_S1x768_S1x768) shapeCasts_S1x768_S1x1x768) broadcasts_S1x1x768_S32x64x768))
    (broadcast S32x64x768 (Scalar.ofBits .f32 0x00000000#32))

/-- The pooling of the two halves and of row pairs, with two rows of zeros above and below. -/
def poolT (h : FVec Ideal S32x64x768 .f32) : FVec Ideal S20x64x384 .f32 :=
  concatenate S20x64x384 0 [⟨S18x64x384, concatenate S18x64x384 0 [⟨S2x64x384, broadcast S2x64x384 (Scalar.sitofp .f32 0#32)⟩,
    ⟨S16x64x384, multiReduction .maximumf [1] S16x64x384 (shapeCast S16x2x64x384 (maximumf (extractStridedSlice S32x64x384 ![0, 0, 0] h slices_S32x64x768_o0_0_0_S32x64x384)
      (extractStridedSlice S32x64x384 ![0, 0, 384] h slices_S32x64x768_o0_0_384_S32x64x384)) shapeCasts_S32x64x384_S16x2x64x384) 0xFF800000#32 reduces_S16x2x64x384_S16x64x384 (.inl rfl) rfl⟩]
      concatenates_S2x64x384_S16x64x384_S18x64x384_d0⟩, ⟨S2x64x384, broadcast S2x64x384 (Scalar.sitofp .f32 0#32)⟩] concatenates_S18x64x384_S2x64x384_S20x64x384_d0

/-- The block's result in its two stages. -/
theorem pay4_eq (x0 : Vec Ideal S36x64x128 .f32) (x1 : Vec Ideal S640x768 .f32) (x2 : Vec Ideal S1x768 .f32) : k0_pay4 x0 x1 x2 = poolT (hT x0 x1 x2) := rfl

/-- The laid-out offsets read at an offset and a lane: the image one to four rows down. -/
theorem cat_at (x0 : FVec Ideal S36x64x128 .f32) (r : Fin 32) (b : Fin 64) (dy : Fin 5) (k : Fin 128) :
    catT x0 (ix3 r b ⟨dy * 128 + k, by omega⟩) = x0 (ix3 ⟨dy + r, by omega⟩ b k) := by
  have e : ∀ i : Fin 640, catT x0 (ix3 r b i) = if h : i.val < 128 then x0 (ix3 ⟨r.val, by omega⟩ b ⟨i.val, h⟩)
      else if h : i.val - 128 < 128 then x0 (ix3 ⟨1 + r.val, by omega⟩ b ⟨i.val - 128, h⟩)
      else if h : i.val - 128 - 128 < 128 then x0 (ix3 ⟨2 + r.val, by omega⟩ b ⟨i.val - 128 - 128, h⟩)
      else if h : i.val - 128 - 128 - 128 < 128 then x0 (ix3 ⟨3 + r.val, by omega⟩ b ⟨i.val - 128 - 128 - 128, h⟩)
      else x0 (ix3 ⟨4 + r.val, by omega⟩ b ⟨i.val - 128 - 128 - 128 - 128, by omega⟩) := by
    intro i; pointwise [catT, k0_pay3]
  have hk : ∀ (n s : ℕ) (h : n < 128) (hs : s < 36), n = k.val → s = dy.val + r.val → x0 (ix3 ⟨s, hs⟩ b ⟨n, h⟩) = x0 (ix3 ⟨dy + r, by omega⟩ b k) :=
    fun n s h hs e1 e2 => by congr 2 <;> exact Fin.ext (by assumption)
  rw [e]
  obtain ⟨d, hd⟩ := dy
  rcases (by omega : d = 0 ∨ d = 1 ∨ d = 2 ∨ d = 3 ∨ d = 4) with rfl | rfl | rfl | rfl | rfl
  · rw [dif_pos (by show 0 * 128 + k.val < 128; omega)]
    exact hk _ _ _ _ (by show 0 * 128 + k.val = k.val; omega) (by show r.val = 0 + r.val; omega)
  · rw [dif_neg (by show ¬ 1 * 128 + k.val < 128; omega), dif_pos (by show 1 * 128 + k.val - 128 < 128; omega)]
    exact hk _ _ _ _ (by show 1 * 128 + k.val - 128 = k.val; omega) rfl
  · rw [dif_neg (by show ¬ 2 * 128 + k.val < 128; omega), dif_neg (by show ¬ 2 * 128 + k.val - 128 < 128; omega), dif_pos (by show 2 * 128 + k.val - 128 - 128 < 128; omega)]
    exact hk _ _ _ _ (by show 2 * 128 + k.val - 128 - 128 = k.val; omega) rfl
  · rw [dif_neg (by show ¬ 3 * 128 + k.val < 128; omega), dif_neg (by show ¬ 3 * 128 + k.val - 128 < 128; omega), dif_neg (by show ¬ 3 * 128 + k.val - 128 - 128 < 128; omega),
      dif_pos (by show 3 * 128 + k.val - 128 - 128 - 128 < 128; omega)]
    exact hk _ _ _ _ (by show 3 * 128 + k.val - 128 - 128 - 128 = k.val; omega) rfl
  · rw [dif_neg (by show ¬ 4 * 128 + k.val < 128; omega), dif_neg (by show ¬ 4 * 128 + k.val - 128 < 128; omega), dif_neg (by show ¬ 4 * 128 + k.val - 128 - 128 < 128; omega),
      dif_neg (by show ¬ 4 * 128 + k.val - 128 - 128 - 128 < 128; omega)]
    exact hk _ _ _ _ (by show 4 * 128 + k.val - 128 - 128 - 128 - 128 = k.val; omega) rfl

/-- The product's stage read at a row, an image and a column. -/
theorem hT_at (x0 : FVec Ideal S36x64x128 .f32) (x1 : FVec Ideal S640x768 .f32) (x2 : FVec Ideal S1x768 .f32) (r : Fin 32) (b : Fin 64) (i : Fin 768) :
    hT x0 x1 x2 (ix3 r b i) = max (∑ x : Fin 640, catT x0 (ix3 r b x) * x1 (ix2 x i) + x2 (ix2 0 i)) 0 := by
  pointwise [hT]

/-- The greater of two, as the pooling's reduction takes it. -/
theorem fold2 (f : Fin 2 → EReal) : Finset.fold max (Ideal.ofBits FTy.f32 4286578688#32) f Finset.univ = max (f 0) (f 1) := by
  have e : Ideal.ofBits FTy.f32 4286578688#32 = ⊥ := by simp [Ideal.ofBits, Ideal.ieee]
  rw [show (Finset.univ : Finset (Fin 2)) = insert 0 {1} from rfl, Finset.fold_insert (by decide), Finset.fold_singleton, e, max_bot_right]

/-- The pooling read at a row, an image and a lane. -/
theorem pool_at (h : FVec Ideal S32x64x768 .f32) (r : Fin 20) (b : Fin 64) (l : Fin 384) :
    poolT h (ix3 r b l) = if g : 2 ≤ r.val ∧ r.val < 18 then
      max (max (h (ix3 ⟨2 * (r.val - 2), by omega⟩ b ⟨l.val, by omega⟩)) (h (ix3 ⟨2 * (r.val - 2), by omega⟩ b ⟨384 + l.val, by omega⟩)))
        (max (h (ix3 ⟨2 * (r.val - 2) + 1, by omega⟩ b ⟨l.val, by omega⟩)) (h (ix3 ⟨2 * (r.val - 2) + 1, by omega⟩ b ⟨384 + l.val, by omega⟩))) else 0 := by
  have e : poolT h (ix3 r b l) = if g : r.val < 18 then if g : r.val < 2 then (((0#32 : BitVec 32).toInt : ℝ) : EReal) else
      Finset.fold max (Ideal.ofBits FTy.f32 4286578688#32) (fun x : Fin 2 => max (h (ix3 ⟨(r.val - 2) * 2 + x.val, by omega⟩ b ⟨l.val, by omega⟩))
        (h (ix3 ⟨(r.val - 2) * 2 + x.val, by omega⟩ b ⟨384 + l.val, by omega⟩))) Finset.univ else (((0#32 : BitVec 32).toInt : ℝ) : EReal) := by
    pointwise [poolT]
  have hz : (((0#32 : BitVec 32).toInt : ℝ) : EReal) = 0 := by simp
  have hk : ∀ (s s' : ℕ) (hs : s < 32) (hs' : s' < 32) (c : Fin 768), s = s' → h (ix3 ⟨s, hs⟩ b c) = h (ix3 ⟨s', hs'⟩ b c) := fun s s' hs hs' c e => by subst e; rfl
  rw [e, hz]
  by_cases g1 : r.val < 18
  · by_cases g2 : r.val < 2
    · rw [dif_pos g1, dif_pos g2, dif_neg (by omega)]
    · rw [dif_pos g1, dif_neg g2, dif_pos ⟨by omega, g1⟩, fold2]
      refine congrArg₂ max (congrArg₂ max (hk _ _ _ _ _ ?_) (hk _ _ _ _ _ ?_)) (congrArg₂ max (hk _ _ _ _ _ ?_) (hk _ _ _ _ _ ?_))
      · show (r.val - 2) * 2 + 0 = 2 * (r.val - 2); omega
      · show (r.val - 2) * 2 + 0 = 2 * (r.val - 2); omega
      · show (r.val - 2) * 2 + 1 = 2 * (r.val - 2) + 1; omega
      · show (r.val - 2) * 2 + 1 = 2 * (r.val - 2) + 1; omega
  · rw [dif_neg g1, dif_neg (by omega)]

/-- The product's stage of an image against the bands: the convolution, biased and rectified, in the columns the bands stand in. -/
theorem h_at (G : ℕ → ℕ → ℕ → EReal) (wv : ℕ → ℕ → ℕ → ℕ → EReal) (bv : ℕ → EReal) (x0 : FVec Ideal S36x64x128 .f32) (x1 : FVec Ideal S640x768 .f32) (x2 : FVec Ideal S1x768 .f32)
    (b : Fin 64) (h0 : ∀ (r : Fin 36) (l : Fin 128), l.val < 108 → x0 (ix3 r b l) = G r (l / 3) (l % 3))
    (h1 : ∀ (dy : Fin 5) (k : Fin 128) (c : Fin 768), x1 (ix2 ⟨dy * 128 + k, by omega⟩ c)
      = if 32 ≤ c.val % 384 ∧ c.val % 384 < 288 then band 3 36 wv dy k (2 * ((c.val % 384 - 32) / 16) + c.val / 384) ((c.val % 384 - 32) % 16) else 0)
    (h2 : ∀ c : Fin 768, x2 (ix2 0 c) = if 32 ≤ c.val % 384 ∧ c.val % 384 < 288 then bv ((c.val % 384 - 32) % 16) else 0) (r : Fin 32) (c : Fin 768) :
    hT x0 x1 x2 (ix3 r b c) = if 32 ≤ c.val % 384 ∧ c.val % 384 < 288 then
      max (conv 3 G wv r (2 * ((c.val % 384 - 32) / 16) + c.val / 384) ((c.val % 384 - 32) % 16) + bv ((c.val % 384 - 32) % 16)) 0 else 0 := by
  rw [hT_at, h2, Fin.sum_univ_tiles 5 128 rfl]
  by_cases h : 32 ≤ c.val % 384 ∧ c.val % 384 < 288
  · rw [if_pos h, if_pos h]
    congr 2
    unfold conv
    rw [Finset.sum_range]
    refine Finset.sum_congr rfl fun dy _ => ?_
    rw [← band_row 3 36 128 (by omega) (by omega) (fun l => if hl : l < 128 then x0 (ix3 ⟨dy + r, by omega⟩ b ⟨l, hl⟩) else 0) (fun j ch => G (r + dy) j ch) wv dy _ _ (by omega)
      (fun j ch hj hch => ?_), Finset.sum_range]
    · refine Finset.sum_congr rfl fun k _ => ?_
      rw [cat_at, h1, if_pos h, dif_pos k.isLt]
    · rw [dif_pos (by omega), h0 _ _ (by show j * 3 + ch < 108; omega)]
      show G (dy + r) ((j * 3 + ch) / 3) ((j * 3 + ch) % 3) = _
      congr 1 <;> omega
  · rw [if_neg h, if_neg h, Finset.sum_eq_zero fun dy _ => Finset.sum_eq_zero fun k _ => by rw [h1, if_neg h, mul_zero]]
    simp

/-- The block's result of an image against the bands: the rectified convolution pooled, in the lanes that hold it. -/
theorem y_at (G : ℕ → ℕ → ℕ → EReal) (wv : ℕ → ℕ → ℕ → ℕ → EReal) (bv : ℕ → EReal) (x0 : FVec Ideal S36x64x128 .f32) (x1 : FVec Ideal S640x768 .f32) (x2 : FVec Ideal S1x768 .f32)
    (b : Fin 64) (h0 : ∀ (r : Fin 36) (l : Fin 128), l.val < 108 → x0 (ix3 r b l) = G r (l / 3) (l % 3))
    (h1 : ∀ (dy : Fin 5) (k : Fin 128) (c : Fin 768), x1 (ix2 ⟨dy * 128 + k, by omega⟩ c)
      = if 32 ≤ c.val % 384 ∧ c.val % 384 < 288 then band 3 36 wv dy k (2 * ((c.val % 384 - 32) / 16) + c.val / 384) ((c.val % 384 - 32) % 16) else 0)
    (h2 : ∀ c : Fin 768, x2 (ix2 0 c) = if 32 ≤ c.val % 384 ∧ c.val % 384 < 288 then bv ((c.val % 384 - 32) % 16) else 0) (r : Fin 20) (l : Fin 384) :
    k0_pay4 (F := Ideal) x0 x1 x2 (ix3 r b l) = if 2 ≤ r.val ∧ r.val < 18 ∧ 32 ≤ l.val ∧ l.val < 288 then
      pool4 (fun i j => max (conv 3 G wv i j ((l.val - 32) % 16) + bv ((l.val - 32) % 16)) 0) (r - 2) ((l.val - 32) / 16) else 0 := by
  rw [pay4_eq, pool_at]
  by_cases hr : 2 ≤ r.val ∧ r.val < 18
  · rw [dif_pos hr, h_at G wv bv x0 x1 x2 b h0 h1 h2, h_at G wv bv x0 x1 x2 b h0 h1 h2, h_at G wv bv x0 x1 x2 b h0 h1 h2, h_at G wv bv x0 x1 x2 b h0 h1 h2]
    have e1 : l.val % 384 = l.val := by omega
    have e2 : (384 + l.val) % 384 = l.val := by omega
    have e3 : l.val / 384 = 0 := by omega
    have e4 : (384 + l.val) / 384 = 1 := by omega
    simp only [e1, e2, e3, e4]
    by_cases hl : 32 ≤ l.val ∧ l.val < 288
    · rw [if_pos hl, if_pos hl, if_pos hl, if_pos hl, if_pos ⟨hr.1, hr.2, hl.1, hl.2⟩]
      rfl
    · rw [if_neg hl, if_neg hl, if_neg hl, if_neg hl, if_neg (by omega)]
      simp
  · rw [dif_neg hr, if_neg (by omega)]

end Cert.KernelAIdeal.Value
-- ==== Proof.SpecA.lean ====
module

public import proofs.«01_k».proof.Proof.Base

@[expose] public section

noncomputable section

namespace Cert.Band

open Idealize.ShloMosaic

/-- The padded image: image `b` at row `r`, column `j` and channel `c`, with a rim of two zeros. -/
def XG {n : ℕ} (x : (⟨4, ![n, 3, 32, 32]⟩ : Shape).Idx → EReal) (b r j c : ℕ) : EReal :=
  if 2 ≤ r ∧ r < 34 ∧ 2 ≤ j ∧ j < 34 then rd4 x b c (r - 2) (j - 2) else 0

/-- The first layer's result: the biased, rectified and pooled convolution of image `b`, at a padded row and a lane. -/
def YG {n : ℕ} (x : (⟨4, ![n, 3, 32, 32]⟩ : Shape).Idx → EReal) (w : (⟨4, ![16, 3, 5, 5]⟩ : Shape).Idx → EReal) (v : (⟨1, ![16]⟩ : Shape).Idx → EReal) (b r l : ℕ) : EReal :=
  if 2 ≤ r ∧ r < 18 ∧ 32 ≤ l ∧ l < 288 then
    pool4 (fun i j => max (conv 3 (XG x b) (fun o c dy dx => rd4 w o c dy dx) i j ((l - 32) % 16) + rd1 v ((l - 32) % 16)) 0) (r - 2) ((l - 32) / 16) else 0

/-- The padded image's row `r` at a lane. -/
def RG {n : ℕ} (x : (⟨4, ![n, 3, 32, 32]⟩ : Shape).Idx → EReal) (b r l : ℕ) : EReal :=
  if l < 108 then XG x b r (l / 3) (l % 3) else 0

end Cert.Band
-- ==== Proof.ValueA.lean ====
module
public import proofs.«01_k».proof.Proof.Gen.KernelAIdeal.Value
public import proofs.«01_k».proof.Proof.ReadA
public import proofs.«01_k».proof.Proof.BlockA
public import proofs.«01_k».proof.Proof.SpecA
public import Idealize.ShloMosaic.Lib.Claim
public import Idealize.ShloMosaic.Lib.Pipeline.ValueKit
public import Idealize.ShloMosaic.Lib.Pointwise
public import Idealize.ShloMosaic.PureOps.Ideal
@[expose] public section
set_option maxRecDepth 16384
noncomputable section
namespace Cert.KernelAIdeal.Value
open Cert.KernelAIdeal Cert.KernelAIdeal.Gen Idealize.ShloMosaic Idealize.ShloMosaic.TcCoe Idealize.SL.Sem
variable (m : (ℓ : Loc nD τ sig) → Buf (Elt Ideal) ℓ)
set_option maxHeartbeats 1000000
open Cert.Band

/-- The images as launched. -/
abbrev xM (c : Dev nD) : FVec Ideal S1024x3x32x32 .f32 := m ((c : Thread nD τ).loc main_arg0)
/-- The weights as launched. -/
abbrev wM (c : Dev nD) : FVec Ideal S16x3x5x5 .f32 := m ((c : Thread nD τ).loc main_arg1)
/-- The bias as launched. -/
abbrev bM (c : Dev nD) : FVec Ideal S16 .f32 := m ((c : Thread nD τ).loc main_arg2)

/-- Which block each window stands at, at each point. -/
theorem idx : ∀ t : Fin cfg0.N, win0_0.index t = ![0, t.val, 0] ∧ win0_1.index t = ![0, 0] ∧ win0_2.index t = ![0, 0] ∧ win0_3.index t = ![0, t.val, 0] :=
  (by decide +kernel : ∀ t : Fin grid0.N, _)

/-- The image block of a point, whatever the array holds. -/
theorem blk0 (A : FVec Ideal S36x1024x128 .f32) (c : Dev nD) (hA : V m c main_v2 = A) (t : Fin cfg0.N) (r : Fin 36) (b : Fin 64) (l : Fin 128) (hb : t.val * 64 + b.val < 1024) :
    (iblk m c 0 t : FVec Ideal S36x64x128 .f32) (ix3 r b l) = A (ix3 r ⟨t.val * 64 + b.val, hb⟩ l) := by
  unfold iblk
  have h : V m c ((cfg0.win 0).arr.view.ref) = A := hA
  rw [h]
  refine congrArg A ?_
  blk_ext [idx t]

/-- The band matrix's block of a point. -/
theorem blk1 (A : FVec Ideal S640x768 .f32) (c : Dev nD) (hA : V m c main_v300 = A) (t : Fin cfg0.N) (i : Fin 640) (j : Fin 768) :
    (iblk m c 1 t : FVec Ideal S640x768 .f32) (ix2 i j) = A (ix2 i j) := by
  unfold iblk
  have h : V m c ((cfg0.win 1).arr.view.ref) = A := hA
  rw [h]
  refine congrArg A ?_
  blk_ext [idx t]

/-- The bias row's block of a point. -/
theorem blk2 (A : FVec Ideal S1x768 .f32) (c : Dev nD) (hA : V m c main_v313 = A) (t : Fin cfg0.N) (j : Fin 768) :
    (iblk m c 2 t : FVec Ideal S1x768 .f32) (ix2 0 j) = A (ix2 0 j) := by
  unfold iblk
  have h : V m c ((cfg0.win 2).arr.view.ref) = A := hA
  rw [h]
  refine congrArg A ?_
  blk_ext [idx t]

/-- The image block in terms of the padded image. -/
theorem blk0_at (c : Dev nD) (t : Fin cfg0.N) (r : Fin 36) (b : Fin 64) (l : Fin 128) :
    (iblk m c 0 t : FVec Ideal S36x64x128 .f32) (ix3 r b l) = RG (xM m c) (t.val * 64 + b.val) r l := by
  have hN : t.val < 16 := lt_of_lt_of_eq t.isLt (show cfg0.N = 16 from N_0)
  rw [blk0 m _ c (V_xq m c) t r b l (by omega), xq_at]
  unfold RG XG
  by_cases h : 2 ≤ r.val ∧ r.val < 34 ∧ 6 ≤ l.val ∧ l.val < 102
  · rw [if_pos h, if_pos (by omega), if_pos (by omega)]
  · rw [if_neg h]
    by_cases hl : l.val < 108
    · rw [if_pos hl, if_neg (by omega)]
    · rw [if_neg hl]

/-- A point's block of the first result. -/
theorem y_pt (c : Dev nD) (t : Fin cfg0.N) (r : Fin 20) (b : Fin 64) (l : Fin 384) :
    k0_pay4 (F := Ideal) (iblk m c 0 t) (iblk m c 1 t) (iblk m c 2 t) (ix3 r b l) = YG (xM m c) (wM m c) (bM m c) (t.val * 64 + b.val) r l := by
  refine (y_at (XG (xM m c) (t.val * 64 + b.val)) (wN (wM m c)) (rd1 (bM m c)) _ _ _ b (fun r l hl => ?_) (fun dy k j => ?_) (fun j => ?_) r l).trans rfl
  · rw [blk0_at]; unfold RG; rw [if_pos hl]
  · rw [blk1 m _ c (V_bf m c), bf_at]
  · rw [blk2 m _ c (V_bt m c), bt_at]

/-- The block's sum over its images. -/
theorem pay5_at (x0 : Vec Ideal S36x64x128 .f32) (x1 : Vec Ideal S640x768 .f32) (x2 : Vec Ideal S1x768 .f32) (r : Fin 20) (l : Fin 384) :
    k0_pay5 x0 x1 x2 (ix2 r l) = ∑ b : Fin 64, k0_pay4 x0 x1 x2 (ix3 r b l) := by
  pointwise [k0_pay5]

/-- The image rows' sum over the block's images. -/
theorem pay6_at (x0 : Vec Ideal S36x64x128 .f32) (r : Fin 36) (l : Fin 128) :
    k0_pay6 x0 (ix2 r l) = ∑ b : Fin 64, x0 (ix3 r b l) := by
  pointwise [k0_pay6, k0_pay3]

/-- The accumulating sum. -/
theorem pay1_at (a p : Vec Ideal S20x384 .f32) (j : S20x384.Idx) : k0_pay1 a p j = p j + a j := by
  pointwise [k0_pay1]

/-- The accumulating sum of rows. -/
theorem pay2_at (a p : Vec Ideal S36x128 .f32) (j : S36x128.Idx) : k0_pay2 a p j = p j + a j := by
  pointwise [k0_pay2]

/-- The first result array of the call. -/
theorem final3 (c : Dev nD) : (dats m 0 c).arrAt 3 (cfgs 0).N
    = ((fun i => YG (xM m c) (wM m c) (bM m c) (i 1).val (i 0).val (i 2).val) : FVec Ideal S20x1024x384 .f32) := by
  refine (dats m 0 c).arrAt_eq_of_covers 3 _ (by decide +kernel) fun t _ y => ?_
  blk_simp
  rw [after0_3]
  have hN : t.val < 16 := lt_of_lt_of_eq t.isLt (show cfg0.N = 16 from N_0)
  have e : win0_3.index t = ![0, t.val, 0] := (idx t).2.2.2
  have hg : ∀ y : S20x64x384.Idx, k0_pay4 (F := Ideal) (iblk m c 0 t) (iblk m c 1 t) (iblk m c 2 t) y
      = YG (xM m c) (wM m c) (bM m c) (win0_3.index t 1 * 64 + (y 1).val) (win0_3.index t 0 * 20 + (y 0).val) (win0_3.index t 2 * 384 + (y 2).val) := by
    intro y
    obtain ⟨r, b, l, rfl⟩ : ∃ (r : Fin 20) (b : Fin 64) (l : Fin 384), y = ix3 r b l :=
      ⟨y 0, y 1, y 2, by funext a; match a with | ⟨0, _⟩ => rfl | ⟨1, _⟩ => rfl | ⟨2, _⟩ => rfl⟩
    rw [y_pt, e]
    show YG _ _ _ (t.val * 64 + b.val) r.val l.val = YG _ _ _ (t.val * 64 + b.val) (0 * 20 + r.val) (0 * 384 + l.val)
    simp only [Nat.zero_mul, Nat.zero_add]
  by_cases h0 : t.val % 16 = 0
  · rw [outsAt0_A m c t h0 (by omega)]
    frame_out
    exact hg y
  · rw [outsAt0_B m c t h0 (by omega)]
    frame_out
    exact hg y

/-- The second: the first's sum over the images. -/
theorem final4 (c : Dev nD) : (dats m 0 c).arrAt 4 (cfgs 0).N
    = ((fun i => ∑ b : Fin 1024, YG (xM m c) (wM m c) (bM m c) b.val (i 0).val (i 1).val) : FVec Ideal S20x384 .f32) := by
  refine (dats m 0 c).arrAt_eq_of_after_last 4 t0_15 (by decide +kernel) _ fun j => ?_
  blk_simp
  rw [after0_4, Pipeline.eq_sum_fin_of_reset_step_apply_last (fun n h => (outsAt0 m c n h).2.1) 16 (fun _ => 0)
    (fun p j => k0_pay5 (F := Ideal) (iblk m c 0 p) (iblk m c 1 p) (iblk m c 2 p) j)
    (fun t h j => by
      have hN : t.val < 16 := lt_of_lt_of_eq t.isLt (show cfg0.N = 16 from N_0)
      rw [outsAt0_A m c t h (by omega)]; frame_out; rw [zero_add])
    (fun t h j => by
      have hN : t.val < 16 := lt_of_lt_of_eq t.isLt (show cfg0.N = 16 from N_0)
      rw [outsAt0_B m c t h (by omega)]; frame_out; rw [pay1_at])
    (le_of_eq N_0) t0_15 rfl j, zero_add]
  obtain ⟨r, l, rfl⟩ : ∃ (r : Fin 20) (l : Fin 384), j = ix2 r l := exists_ix2 j
  refine (Fin.sum_fin_congr fun p => pay5_at _ _ _ r l).trans ?_
  refine Fin.sum_mul_add_congr fun p b hl => ?_
  exact y_pt m c p r b l

/-- The third: the sum of the padded image's rows over the images. -/
theorem final5 (c : Dev nD) : (dats m 0 c).arrAt 5 (cfgs 0).N
    = ((fun i => ∑ b : Fin 1024, RG (xM m c) b.val (i 0).val (i 1).val) : FVec Ideal S36x128 .f32) := by
  refine (dats m 0 c).arrAt_eq_of_after_last 5 t0_15 (by decide +kernel) _ fun j => ?_
  blk_simp
  rw [after0_5, Pipeline.eq_sum_fin_of_reset_step_apply_last (fun n h => (outsAt0 m c n h).2.2) 16 (fun _ => 0)
    (fun p j => k0_pay6 (F := Ideal) (iblk m c 0 p) j)
    (fun t h j => by
      have hN : t.val < 16 := lt_of_lt_of_eq t.isLt (show cfg0.N = 16 from N_0)
      rw [outsAt0_A m c t h (by omega)]; frame_out; rw [zero_add])
    (fun t h j => by
      have hN : t.val < 16 := lt_of_lt_of_eq t.isLt (show cfg0.N = 16 from N_0)
      rw [outsAt0_B m c t h (by omega)]; frame_out; rw [pay2_at])
    (le_of_eq N_0) t0_15 rfl j, zero_add]
  obtain ⟨r, l, rfl⟩ : ∃ (r : Fin 36) (l : Fin 128), j = ix2 r l := exists_ix2 j
  refine (Fin.sum_fin_congr fun p => pay6_at _ r l).trans ?_
  refine Fin.sum_mul_add_congr fun p b hl => ?_
  exact blk0_at m c p r b l

end Cert.KernelAIdeal.Value
-- ==== Proof.RefA.lean ====
module
public import proofs.«01_k».proof.Proof.Gen.ReferenceAIdeal.Run
public import proofs.«01_k».proof.Proof.BlockA
public import proofs.«01_k».proof.Proof.SpecA
public import Idealize.ShloMosaic.Lib.Claim
public import Idealize.ShloMosaic.Lib.Pointwise
public import Idealize.ShloMosaic.PureOps.Ideal
@[expose] public section
set_option maxRecDepth 16384
noncomputable section
namespace Cert.ReferenceAIdeal.Value
open Cert.ReferenceAIdeal Cert.ReferenceAIdeal.Gen Idealize.ShloMosaic Idealize.ShloMosaic.TcCoe Idealize.SL.Sem
open Cert.Band

/-- The padded image. -/
def xpR (x : FVec Ideal S1024x3x32x32 .f32) : FVec Ideal S1024x3x36x36 .f32 :=
  pad S1024x3x36x36 ![0, 0, 2, 2] ![0, 0, 2, 2] ![0, 0, 0, 0] x (sitofp .f32 (constantI S_ 32 0#32)) pads_S1024x3x32x32_S1024x3x36x36_000_000_220_220 h_S_

/-- The five images shifted by columns, stacked. -/
def colsR (x : FVec Ideal S1024x3x32x32 .f32) : FVec Ideal S1024x5x3x36x32 .f32 :=
  concatenate S1024x5x3x36x32 1 [(⟨S1024x1x3x36x32, broadcastInDim S1024x1x3x36x32 ![0, 2, 3, 4] bcast_S1024x3x36x32_S1024x1x3x36x32_0_2_3_4 (extractStridedSlice S1024x3x36x32 ![0, 0, 0, 0] (xpR x) slices_S1024x3x36x36_S1024x3x36x32_0_0_0_0)⟩ : (s : Shape) × FVec Ideal s .f32), (⟨S1024x1x3x36x32, broadcastInDim S1024x1x3x36x32 ![0, 2, 3, 4] bcast_S1024x3x36x32_S1024x1x3x36x32_0_2_3_4 (extractStridedSlice S1024x3x36x32 ![0, 0, 0, 1] (xpR x) slices_S1024x3x36x36_S1024x3x36x32_0_0_0_1)⟩ : (s : Shape) × FVec Ideal s .f32), (⟨S1024x1x3x36x32, broadcastInDim S1024x1x3x36x32 ![0, 2, 3, 4] bcast_S1024x3x36x32_S1024x1x3x36x32_0_2_3_4 (extractStridedSlice S1024x3x36x32 ![0, 0, 0, 2] (xpR x) slices_S1024x3x36x36_S1024x3x36x32_0_0_0_2)⟩ : (s : Shape) × FVec Ideal s .f32), (⟨S1024x1x3x36x32, broadcastInDim S1024x1x3x36x32 ![0, 2, 3, 4] bcast_S1024x3x36x32_S1024x1x3x36x32_0_2_3_4 (extractStridedSlice S1024x3x36x32 ![0, 0, 0, 3] (xpR x) slices_S1024x3x36x36_S1024x3x36x32_0_0_0_3)⟩ : (s : Shape) × FVec Ideal s .f32), (⟨S1024x1x3x36x32, broadcastInDim S1024x1x3x36x32 ![0, 2, 3, 4] bcast_S1024x3x36x32_S1024x1x3x36x32_0_2_3_4 (extractStridedSlice S1024x3x36x32 ![0, 0, 0, 4] (xpR x) slices_S1024x3x36x36_S1024x3x36x32_0_0_0_4)⟩ : (s : Shape) × FVec Ideal s .f32)]
    concatenates_S1024x1x3x36x32_S1024x1x3x36x32_S1024x1x3x36x32_S1024x1x3x36x32_S1024x1x3x36x32_S1024x5x3x36x32_d1

/-- One row of taps: the shifted images against the weights of that row. -/
def tapR (x : FVec Ideal S1024x3x32x32 .f32) (w : FVec Ideal S16x3x5x5 .f32) (dy : ℕ) (h1 : S1024x5x3x36x32.Slices ![0, 0, 0, dy, 0] S1024x5x3x32x32)
    (h2 : S16x3x5x5.Slices ![0, 0, dy, 0] S16x3x1x5) : FVec Ideal S1024x32x32x16 .f32 :=
  Host.dotGeneral dot_S1024x5x3x32x32_S16x3x5_S1024x32x32x16_21_12_034_0_n_n none (extractStridedSlice S1024x5x3x32x32 ![0, 0, 0, dy, 0] (colsR x) h1)
    (shapeCast S16x3x5 (extractStridedSlice S16x3x1x5 ![0, 0, dy, 0] w h2) shapeCasts_S16x3x1x5_S16x3x5)

/-- The convolution: the five rows of taps added up. -/
def convR (x : FVec Ideal S1024x3x32x32 .f32) (w : FVec Ideal S16x3x5x5 .f32) : FVec Ideal S1024x32x32x16 .f32 :=
  addf (addf (addf (addf (tapR x w 0 slices_S1024x5x3x36x32_S1024x5x3x32x32_0_0_0_0_0 slices_S16x3x5x5_S16x3x1x5_0_0_0_0)
      (tapR x w 1 slices_S1024x5x3x36x32_S1024x5x3x32x32_0_0_0_1_0 slices_S16x3x5x5_S16x3x1x5_0_0_1_0))
      (tapR x w 2 slices_S1024x5x3x36x32_S1024x5x3x32x32_0_0_0_2_0 slices_S16x3x5x5_S16x3x1x5_0_0_2_0))
      (tapR x w 3 slices_S1024x5x3x36x32_S1024x5x3x32x32_0_0_0_3_0 slices_S16x3x5x5_S16x3x1x5_0_0_3_0))
      (tapR x w 4 slices_S1024x5x3x36x32_S1024x5x3x32x32_0_0_0_4_0 slices_S16x3x5x5_S16x3x1x5_0_0_4_0)

/-- The convolution biased and rectified. -/
def hR (x : FVec Ideal S1024x3x32x32 .f32) (w : FVec Ideal S16x3x5x5 .f32) (v : FVec Ideal S16 .f32) : FVec Ideal S1024x32x32x16 .f32 :=
  maximumf (addf (convR x w) (broadcastInDim S1024x32x32x16 ![0, 1, 2, 3] bcast_S1x1x1x16_S1024x32x32x16_0_1_2_3 (broadcastInDim S1x1x1x16 ![3] bcast_S16_S1x1x1x16_3 v)))
    (broadcastInDim S1024x32x32x16 ![] bcast_S_S1024x32x32x16 (constant S_ .f32 0x00000000#32))

/-- Its pooling by twos. -/
def mR (h : FVec Ideal S1024x32x32x16 .f32) : FVec Ideal S1024x16x16x16 .f32 :=
  Host.reduce FloatOps.maximumf (shapeCast S1024x16x2x16x16 (Host.reduce FloatOps.maximumf (shapeCast S1024x32x16x2x16 h shapeCasts_S1024x32x32x16_S1024x32x16x2x16)
    (constant S_ .f32 0xFF800000#32) reducesTo_S1024x32x16x2x16_S1024x32x16x16_d3 h_S_) shapeCasts_S1024x32x16x16_S1024x16x2x16x16)
    (constant S_ .f32 0xFF800000#32) reducesTo_S1024x16x2x16x16_S1024x16x16x16_d2 h_S_

/-- The pooled activations laid out by rows, images, and lanes of column and channel, with a rim of zeros. -/
def yR (p : FVec Ideal S1024x16x16x16 .f32) : FVec Ideal S20x1024x384 .f32 :=
  pad S20x1024x384 ![2, 0, 32] ![2, 0, 96] ![0, 0, 0] (shapeCast S16x1024x256 (transpose S16x1024x16x16 [1, 0, 2, 3] p
    transposes_S1024x16x16x16_S16x1024x16x16_1_0_2_3) shapeCasts_S16x1024x16x16_S16x1024x256) (sitofp .f32 (constantI S_ 32 0#32)) pads_S16x1024x256_S20x1024x384_220_000_32960 h_S_

/-- The image rows laid out the same way. -/
def rowsR (x : FVec Ideal S1024x3x32x32 .f32) : FVec Ideal S36x1024x128 .f32 :=
  pad S36x1024x128 ![0, 0, 0] ![0, 0, 20] ![0, 0, 0] (shapeCast S36x1024x108 (transpose S36x1024x36x3 [2, 0, 3, 1] (xpR x) transposes_S1024x3x36x36_S36x1024x36x3_2_0_3_1) shapeCasts_S36x1024x36x3_S36x1024x108)
    (sitofp .f32 (constantI S_ 32 0#32)) pads_S36x1024x108_S36x1024x128_000_000_0200 h_S_

theorem ref_z : (FloatOps.sitofp (F := Ideal) FTy.f32 0#32 : Ideal FTy.f32) = (0 : EReal) := by
  show (((0#32 : BitVec 32).toInt : ℝ) : EReal) = 0
  simp

/-- The padded image at a channel, row and column. -/
theorem xpR_at (x : FVec Ideal S1024x3x32x32 .f32) (b : Fin 1024) (c : Fin 3) (r l : Fin 36) : xpR x (ix4 b c r l) = XG x b r l c := by
  have e : xpR x (ix4 b c r l) = if h : (2 ≤ r.val ∧ r.val - 2 < 32) ∧ 2 ≤ l.val ∧ l.val - 2 < 32 then x (ix4 b c ⟨r.val - 2, h.1.2⟩ ⟨l.val - 2, h.2.2⟩)
      else (FloatOps.sitofp (F := Ideal) FTy.f32 0#32 : Ideal FTy.f32) := by
    pointwise [xpR]
  rw [e]
  unfold XG
  by_cases h : (2 ≤ r.val ∧ r.val - 2 < 32) ∧ 2 ≤ l.val ∧ l.val - 2 < 32
  · rw [dif_pos h, if_pos (by omega)]
    exact at4 x _ _ _ _
  · rw [dif_neg h, if_neg (by omega)]
    exact ref_z

/-- The stacked shifts at an offset. -/
theorem colsR_at (x : FVec Ideal S1024x3x32x32 .f32) (b : Fin 1024) (d : Fin 5) (c : Fin 3) (r : Fin 36) (l : Fin 32) :
    colsR x (ix5 b d c r l) = XG x b r (l + d) c := by
  have e : colsR x (ix5 b d c r l) = if h : d.val < 1 then xpR x (ix4 b c r ⟨l.val, by omega⟩) else
      if h : d.val - 1 < 1 then xpR x (ix4 b c r ⟨1 + l.val, by omega⟩) else
      if h : d.val - 1 - 1 < 1 then xpR x (ix4 b c r ⟨2 + l.val, by omega⟩) else
      if h : d.val - 1 - 1 - 1 < 1 then xpR x (ix4 b c r ⟨3 + l.val, by omega⟩) else xpR x (ix4 b c r ⟨4 + l.val, by omega⟩) := by
    pointwise [colsR]
  rw [e]
  have hd := d.isLt
  split_ifs <;> refine (xpR_at x b c r _).trans (congrArg (fun j => XG x b r j c) ?_) <;> dsimp only <;> omega

/-- A row of taps at a place: the sum over the channels and the five columns. -/
theorem tapR_at (x : FVec Ideal S1024x3x32x32 .f32) (w : FVec Ideal S16x3x5x5 .f32) (dy : ℕ) (h1 : S1024x5x3x36x32.Slices ![0, 0, 0, dy, 0] S1024x5x3x32x32)
    (h2 : S16x3x5x5.Slices ![0, 0, dy, 0] S16x3x1x5) (hd : dy < 5) (b : Fin 1024) (i j : Fin 32) (o : Fin 16) : tapR x w dy h1 h2 (ix4 b i j o)
    = ∑ dx ∈ Finset.range 5, ∑ c ∈ Finset.range 3, XG x b (i + dy) (j + dx) c * rd4 w o c dy dx := by
  have e : tapR x w dy h1 h2 (ix4 b i j o) = ∑ c : Fin 3, ∑ d : Fin 5, colsR x (ix5 b d c ⟨dy + i, by omega⟩ j) * w (ix4 o c ⟨dy, hd⟩ d) := by
    pointwise [tapR]
  rw [e, Finset.sum_comm, ← Fin.sum_univ_eq_sum_range (fun dx => ∑ c ∈ Finset.range 3, XG x b (i + dy) (j + dx) c * rd4 w o c dy dx) 5]
  refine Finset.sum_congr rfl fun d _ => ?_
  rw [← Fin.sum_univ_eq_sum_range (fun c => XG x b (i + dy) (j + d) c * rd4 w o c dy d) 3]
  refine Finset.sum_congr rfl fun c _ => ?_
  refine congrArg₂ (· * ·) ((colsR_at x b d c _ j).trans ?_) (at4 w _ _ _ _)
  exact congrArg (fun r => XG x b r (j + d) c) (Nat.add_comm dy i)

/-- Five terms added up one by one. -/
theorem five_sum (g : ℕ → EReal) : g 0 + g 1 + g 2 + g 3 + g 4 = ∑ t ∈ Finset.range 5, g t := by
  simp only [Finset.sum_range_succ, Finset.sum_range_zero, zero_add]

/-- The first layer before pooling. -/
theorem hR_at (x : FVec Ideal S1024x3x32x32 .f32) (w : FVec Ideal S16x3x5x5 .f32) (v : FVec Ideal S16 .f32) (b : Fin 1024) (i j : Fin 32) (o : Fin 16) :
    hR x w v (ix4 b i j o) = max (conv 3 (XG x b) (fun o c dy dx => rd4 w o c dy dx) i j o + rd1 v o) 0 := by
  have e : hR x w v (ix4 b i j o) = max (tapR x w 0 slices_S1024x5x3x36x32_S1024x5x3x32x32_0_0_0_0_0 slices_S16x3x5x5_S16x3x1x5_0_0_0_0 (ix4 b i j o)
      + tapR x w 1 slices_S1024x5x3x36x32_S1024x5x3x32x32_0_0_0_1_0 slices_S16x3x5x5_S16x3x1x5_0_0_1_0 (ix4 b i j o)
      + tapR x w 2 slices_S1024x5x3x36x32_S1024x5x3x32x32_0_0_0_2_0 slices_S16x3x5x5_S16x3x1x5_0_0_2_0 (ix4 b i j o)
      + tapR x w 3 slices_S1024x5x3x36x32_S1024x5x3x32x32_0_0_0_3_0 slices_S16x3x5x5_S16x3x1x5_0_0_3_0 (ix4 b i j o)
      + tapR x w 4 slices_S1024x5x3x36x32_S1024x5x3x32x32_0_0_0_4_0 slices_S16x3x5x5_S16x3x1x5_0_0_4_0 (ix4 b i j o) + v (ix1 o)) 0 := by
    pointwise [hR, convR]
  rw [e, tapR_at x w 0 _ _ (by omega), tapR_at x w 1 _ _ (by omega), tapR_at x w 2 _ _ (by omega), tapR_at x w 3 _ _ (by omega), tapR_at x w 4 _ _ (by omega)]
  refine congrArg₂ max (congrArg₂ (· + ·) ?_ (at1 v o)) rfl
  exact five_sum (fun dy => ∑ dx ∈ Finset.range 5, ∑ c ∈ Finset.range 3, XG x b (i + dy) (j + dx) c * rd4 w o c dy dx)

/-- The pooling at a place. -/
theorem mR_at (h : FVec Ideal S1024x32x32x16 .f32) (g : ℕ → ℕ → EReal) (b : Fin 1024) (i j o : Fin 16)
    (hg : ∀ (i j : Fin 32), h (ix4 b i j o) = g i j) : mR h (ix4 b i j o) = pool4 g i j := by
  have e : mR h (ix4 b i j o) = Finset.fold max (Ideal.ofBits FTy.f32 4286578688#32) (fun y : Fin 2 => Finset.fold max (Ideal.ofBits FTy.f32 4286578688#32)
      (fun x : Fin 2 => h (ix4 b ⟨i * 2 + y, by omega⟩ ⟨j * 2 + x, by omega⟩ o)) Finset.univ) Finset.univ := by
    pointwise [mR]
  rw [e, Cert.KernelAIdeal.Value.fold2, Cert.KernelAIdeal.Value.fold2, Cert.KernelAIdeal.Value.fold2]
  unfold pool4
  rw [hg, hg, hg, hg]
  simp only [Fin.val_zero, Fin.val_one, Nat.add_zero, Nat.mul_comm 2]

/-- The laid-out activations at a row, an image and a lane. -/
theorem yR_at (p : FVec Ideal S1024x16x16x16 .f32) (r : Fin 20) (b : Fin 1024) (l : Fin 384) : yR p (ix3 r b l)
    = if h : (2 ≤ r.val ∧ r.val - 2 < 16) ∧ 32 ≤ l.val ∧ l.val - 32 < 256 then
      p (ix4 b ⟨r.val - 2, h.1.2⟩ ⟨(l.val - 32) / 16, by omega⟩ ⟨(l.val - 32) % 16, by omega⟩) else 0 := by
  have e : yR p (ix3 r b l) = if h : (2 ≤ r.val ∧ r.val - 2 < 16) ∧ 32 ≤ l.val ∧ l.val - 32 < 256 then
      p (ix4 b ⟨r.val - 2, h.1.2⟩ ⟨(l.val - 32) / 16, by omega⟩ ⟨(l.val - 32) % 16, by omega⟩) else (FloatOps.sitofp (F := Ideal) FTy.f32 0#32 : Ideal FTy.f32) := by
    pointwise [yR]
  rw [e, ref_z]

/-- The reference's first array is the specification's. -/
theorem y_eq (x : FVec Ideal S1024x3x32x32 .f32) (w : FVec Ideal S16x3x5x5 .f32) (v : FVec Ideal S16 .f32) (r : Fin 20) (b : Fin 1024) (l : Fin 384) :
    yR (mR (hR x w v)) (ix3 r b l) = YG x w v b r l := by
  rw [yR_at]
  unfold YG
  by_cases h : (2 ≤ r.val ∧ r.val - 2 < 16) ∧ 32 ≤ l.val ∧ l.val - 32 < 256
  · rw [dif_pos h, if_pos (by omega)]
    exact mR_at _ _ b _ _ _ fun i j => hR_at x w v b i j _
  · rw [dif_neg h, if_neg (by omega)]

/-- The reference's rows are the specification's. -/
theorem rows_eq (x : FVec Ideal S1024x3x32x32 .f32) (r : Fin 36) (b : Fin 1024) (l : Fin 128) : rowsR x (ix3 r b l) = RG x b r l := by
  have e : rowsR x (ix3 r b l) = if h : l.val < 108 then xpR x (ix4 b ⟨l.val % 3, by omega⟩ r ⟨l.val / 3, by omega⟩) else (FloatOps.sitofp (F := Ideal) FTy.f32 0#32 : Ideal FTy.f32) := by
    pointwise [rowsR]
  rw [e, ref_z]
  unfold RG
  by_cases h : l.val < 108
  · rw [dif_pos h, if_pos h, xpR_at]
  · rw [dif_neg h, if_neg h]

/-- A sum over the images of the activations' layout. -/
theorem ysum_at (h : FVec Ideal S20x1024x384 .f32) (r : Fin 20) (l : Fin 384) : Host.reduceAdd h
      (constant S_ .f32 0x00000000#32) reducesTo_S20x1024x384_S20x384_d1 h_S_ (ix2 r l) = ∑ b : Fin 1024, h (ix3 r b l) := by
  pointwise

/-- A sum over the images of the rows' layout. -/
theorem rsum_at (h : FVec Ideal S36x1024x128 .f32) (r : Fin 36) (l : Fin 128) : Host.reduceAdd h
      (constant S_ .f32 0x00000000#32) reducesTo_S36x1024x128_S36x128_d1 h_S_ (ix2 r l) = ∑ b : Fin 1024, h (ix3 r b l) := by
  pointwise

variable (m : (ℓ : Loc nD τ sig) → Buf (Elt Ideal) ℓ) (c : Dev nD)

/-- The images, the weights and the bias that the reference is given. -/
def xR : FVec Ideal S1024x3x32x32 .f32 := m ((c.tc : Thread nD τ).loc main_arg0)
def wR : FVec Ideal S16x3x5x5 .f32 := m ((c.tc : Thread nD τ).loc main_arg1)
def bR : FVec Ideal S16 .f32 := m ((c.tc : Thread nD τ).loc main_arg2)

/-- The reference's first result. -/
theorem ref0 : res_main_v47 m c = ((fun i => YG (xR m c) (wR m c) (bR m c) (i 1).val (i 0).val (i 2).val) : FVec Ideal S20x1024x384 .f32) := by
  have e : res_main_v47 m c = yR (mR (hR (xR m c) (wR m c) (bR m c))) := by unfold res_main_v47; rfl
  rw [e]
  funext i
  obtain ⟨r, b, l, rfl⟩ : ∃ (r : Fin 20) (b : Fin 1024) (l : Fin 384), i = ix3 r b l := ⟨i 0, i 1, i 2, by funext t; match t with | ⟨0, _⟩ => rfl | ⟨1, _⟩ => rfl | ⟨2, _⟩ => rfl⟩
  exact y_eq _ _ _ r b l

/-- The reference's second result. -/
theorem ref1 : res_main_v51 m c = ((fun i => ∑ b : Fin 1024, YG (xR m c) (wR m c) (bR m c) b.val (i 0).val (i 1).val) : FVec Ideal S20x384 .f32) := by
  have e : res_main_v51 m c = Host.reduceAdd (yR (mR (hR (xR m c) (wR m c) (bR m c)))) (constant S_ .f32 0x00000000#32) reducesTo_S20x1024x384_S20x384_d1 h_S_ := by unfold res_main_v51; rfl
  rw [e]
  funext i
  obtain ⟨r, l, rfl⟩ := exists_ix2 i
  refine (ysum_at _ r l).trans (Finset.sum_congr rfl fun b _ => ?_)
  exact y_eq _ _ _ r b l

/-- The sums over the images of the rows. -/
theorem ref2 : Host.reduceAdd (rowsR (xR m c)) (constant S_ .f32 0x00000000#32) reducesTo_S36x1024x128_S36x128_d1 h_S_
    = ((fun i => ∑ b : Fin 1024, RG (xR m c) b.val (i 0).val (i 1).val) : FVec Ideal S36x128 .f32) := by
  funext i
  obtain ⟨r, l, rfl⟩ := exists_ix2 i
  refine (rsum_at _ r l).trans (Finset.sum_congr rfl fun b _ => ?_)
  exact rows_eq _ r b l

/-- The reference's run. -/
theorem run_ref (ρ : Dev nD → PrngReg) :
    θ_run defs (onTc (τ := τ) (main (F := Ideal))) ⟨m, fun _ => 0, ρ⟩ fun r => ∀ c : Dev nD,
      r.2.mem ((c.tc : Thread nD τ).loc main_v47) = ((fun i => YG (xR m c) (wR m c) (bR m c) (i 1).val (i 0).val (i 2).val) : FVec Ideal S20x1024x384 .f32)
      ∧ r.2.mem ((c.tc : Thread nD τ).loc main_v51) = ((fun i => ∑ b : Fin 1024, YG (xR m c) (wR m c) (bR m c) b.val (i 0).val (i 1).val) : FVec Ideal S20x384 .f32)
      ∧ r.2.mem ((c.tc : Thread nD τ).loc main_v52) = ((fun i => ∑ b : Fin 1024, RG (xR m c) b.val (i 0).val (i 1).val) : FVec Ideal S36x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (ref0 m c), (h c).2.1.trans (ref1 m c), ((h c).2.2.1.trans rfl).trans (ref2 m c), (h c).2.2.2⟩) (run m ρ)

end Cert.ReferenceAIdeal.Value
end
-- ==== Proof.BaseB.lean ====
module

public import proofs.«01_k».proof.Proof.Base

@[expose] public section

noncomputable section

namespace Cert.Band

open Idealize.ShloMosaic

/-- The one element of a scalar array. -/
def rd0 (x : (⟨0, ![]⟩ : Shape).Idx → EReal) : EReal := x (fun a => a.elim0)

theorem at0 (x : (⟨0, ![]⟩ : Shape).Idx → EReal) (i : (⟨0, ![]⟩ : Shape).Idx) : x i = rd0 x := congrArg x (funext fun a => a.elim0)

/-! ## The hash of the filters and of the image sums -/

/-- The bucket of a hash value: its floor in units of the width, taken modulo two. -/
def floor2 (x : EReal) : EReal :=
  Ideal.liftRound Int.floor (Ideal.div x (Ideal.ofBits FTy.f32 1045220557#32))
    - Ideal.ofBits FTy.f32 1073741824#32 * Ideal.liftRound Int.floor (Ideal.div (Ideal.liftRound Int.floor (Ideal.div x (Ideal.ofBits FTy.f32 1045220557#32))) (Ideal.ofBits FTy.f32 1073741824#32))

/-- The length of a filter. -/
def nrm {O D : ℕ} (K : Fin O → Fin D → EReal) (o : Fin O) : EReal := Ideal.sqrt (∑ k, K o k * K o k)

/-- The factor that brings the longest filter to length three quarters. -/
def scl {O D : ℕ} (K : Fin O → Fin D → EReal) : EReal :=
  Ideal.div (Ideal.ofBits FTy.f32 1061158912#32) (max (Finset.fold max (Ideal.ofBits FTy.f32 4286578688#32) (fun o => nrm K o) Finset.univ) (Ideal.ofBits FTy.f32 730643660#32))

/-- The square. -/
def sqr (x : EReal) : EReal := x * x

/-- The powers of a length against the last five hash weights. -/
def tail5 (n : EReal) (P : ℕ → EReal) : EReal :=
  sqr n * P 0 + sqr (sqr n) * P 1 + sqr (sqr (sqr n)) * P 2 + sqr (sqr (sqr (sqr n))) * P 3 + sqr (sqr (sqr (sqr (sqr n)))) * P 4

/-- The hash of a filter before its floor. -/
def hashK {O D : ℕ} (K : Fin O → Fin D → EReal) (A : Fin D → EReal) (P : ℕ → EReal) (bh : EReal) (o : Fin O) : EReal :=
  (∑ k, K o k * A k) * scl K + tail5 (nrm K o * scl K) P + bh

/-- The sum of the image sums over the window at one offset, in one channel. -/
def winS (H W : ℕ) (s : ℕ → ℕ → ℕ → EReal) (dx dy c : ℕ) : EReal := ∑ j ∈ Finset.range W, ∑ i ∈ Finset.range H, s (dy + i) (dx + j) c

/-- The hash of the image sums before its floor. -/
def hashQ (C H W : ℕ) (s : ℕ → ℕ → ℕ → EReal) (A : ℕ → ℕ → ℕ → EReal) (P : ℕ → EReal) (bh cnt : EReal) : EReal :=
  Ideal.div (Ideal.div (∑ dx ∈ Finset.range 5, ∑ dy ∈ Finset.range 5, ∑ c ∈ Finset.range C, winS H W s dx dy c * A c dy dx) cnt)
      (max (Ideal.div (Ideal.sqrt (∑ dx ∈ Finset.range 5, ∑ dy ∈ Finset.range 5, ∑ c ∈ Finset.range C, winS H W s dx dy c * winS H W s dx dy c)) cnt) (Ideal.ofBits FTy.f32 730643660#32))
    + Ideal.ofBits FTy.f32 1056964608#32 * (∑ p ∈ Finset.range 5, P p) + bh

/-- Whether two buckets are the same, as a number. -/
def eqv (h q : EReal) : EReal := if h = q then 1 else 0

/-- The active filters: those named, or all when none is named. -/
def activeV {O : ℕ} (e : Fin O → EReal) (o : Fin O) : EReal := if ∑ o, e o = 0 then 1 else e o

/-! ## Sums against window tables -/

/-- A row against a table column that picks one channel of a run of columns. -/
theorem sel_row (C W L q : ℕ) (hC : 0 < C) (hL : (W + 4) * C ≤ L) (hq : q / C < 5) (V X : ℕ → EReal)
    (hX : ∀ l, l < L → X l = if l < (W + 4) * C ∧ l % C = q % C ∧ q / C ≤ l / C ∧ l / C < q / C + W then 1 else 0) :
    ∑ l ∈ Finset.range L, V l * X l = ∑ j ∈ Finset.range W, V ((q / C + j) * C + q % C) := by
  have hb : q / C * C + W * C ≤ (W + 4) * C := by rw [← Nat.add_mul]; exact Nat.mul_le_mul_right C (by omega)
  rw [sum_range_window L (q / C * C) (W * C) (by omega), sum_range_mul]
  · refine Finset.sum_congr rfl fun j hj => ?_
    have hj := Finset.mem_range.1 hj
    have hm : q % C < C := Nat.mod_lt _ hC
    have key : ∀ c, c < C → q / C * C + (j * C + c) = (q / C + j) * C + c ∧ ((q / C + j) * C + c) / C = q / C + j ∧ ((q / C + j) * C + c) % C = c
        ∧ (q / C + j) * C + c < (W + 4) * C := by
      intro c hc
      refine ⟨by rw [Nat.add_mul]; omega, ?_, ?_, ?_⟩
      · rw [Nat.mul_comm, Nat.mul_add_div hC, Nat.div_eq_of_lt hc, Nat.add_zero]
      · rw [Nat.mul_comm, Nat.mul_add_mod, Nat.mod_eq_of_lt hc]
      · have : (q / C + j + 1) * C ≤ (W + 4) * C := Nat.mul_le_mul_right C (by omega)
        rw [Nat.add_mul (q / C + j) 1 C] at this
        omega
    rw [Finset.sum_eq_single (q % C)]
    · obtain ⟨e, ed, em, hlt⟩ := key _ hm
      rw [e, hX _ (by omega), ed, em, if_pos ⟨hlt, rfl, by omega, by omega⟩, mul_one]
    · intro c hc hne
      obtain ⟨e, ed, em, hlt⟩ := key c (Finset.mem_range.1 hc)
      rw [e, hX _ (by omega), em, if_neg (fun h => hne h.2.1), mul_zero]
    · intro h; exact absurd (Finset.mem_range.2 hm) h
  · intro t ht hout
    rw [hX t ht, if_neg, mul_zero]
    rintro ⟨h1, h2, h3, h4⟩
    have h3' : q / C * C ≤ t := (Nat.le_div_iff_mul_le hC).1 h3
    have h4' : t < (q / C + W) * C := (Nat.div_lt_iff_lt_mul hC).1 h4
    rw [Nat.add_mul] at h4'
    omega

/-- A column against a table row that picks a run of rows. -/
theorem sel_col (H L d : ℕ) (hL : H + 4 ≤ L) (V Y : ℕ → EReal) (hY : ∀ r, r < L → Y r = if d < 5 ∧ d ≤ r ∧ r < d + H then 1 else 0) :
    ∑ r ∈ Finset.range L, Y r * V r = if d < 5 then ∑ i ∈ Finset.range H, V (d + i) else 0 := by
  by_cases hd : d < 5
  · rw [if_pos hd, sum_range_window L d H (by omega)]
    · refine Finset.sum_congr rfl fun i hi => ?_
      have hi := Finset.mem_range.1 hi
      rw [hY _ (by omega), if_pos ⟨hd, by omega, by omega⟩, one_mul]
    · intro t ht hout
      rw [hY t ht, if_neg (by omega), zero_mul]
  · rw [if_neg hd]
    refine Finset.sum_eq_zero fun r hr => ?_
    rw [hY r (Finset.mem_range.1 hr), if_neg (by omega), zero_mul]

/-- A sum over lanes of column offset and channel and over eight rows of which five count. -/
theorem sum_query (C : ℕ) (f : ℕ → ℕ → EReal) (hz : ∀ q d, 5 ≤ d → f q d = 0) :
    ∑ q ∈ Finset.range (5 * C), ∑ d ∈ Finset.range 8, f q d
      = ∑ dx ∈ Finset.range 5, ∑ dy ∈ Finset.range 5, ∑ c ∈ Finset.range C, f (dx * C + c) dy := by
  rw [sum_range_mul]
  refine Finset.sum_congr rfl fun dx _ => ?_
  rw [Finset.sum_comm]
  rw [show (8 : ℕ) = 5 + 3 from rfl, Finset.sum_range_add]
  rw [Finset.sum_eq_zero (s := Finset.range 3) (fun i _ => Finset.sum_eq_zero fun c _ => hz _ _ (by omega)), add_zero]

/-- The two table sums of the image sums give the window sums. -/
theorem table_sums (C H W L R q d : ℕ) (hC : 0 < C) (hL : (W + 4) * C ≤ L) (hR : H + 4 ≤ R) (hq : q / C < 5) (s : ℕ → ℕ → EReal) (Y X : ℕ → EReal)
    (hY : ∀ r, r < R → Y r = if d < 5 ∧ d ≤ r ∧ r < d + H then 1 else 0)
    (hX : ∀ l, l < L → X l = if l < (W + 4) * C ∧ l % C = q % C ∧ q / C ≤ l / C ∧ l / C < q / C + W then 1 else 0) :
    ∑ l ∈ Finset.range L, (∑ r ∈ Finset.range R, Y r * s r l) * X l
      = if d < 5 then winS H W (fun r x c => s r (x * C + c)) (q / C) d (q % C) else 0 := by
  rw [sel_row C W L q hC hL hq _ X hX]
  by_cases hd : d < 5
  · rw [if_pos hd]
    unfold winS
    refine Finset.sum_congr rfl fun j _ => ?_
    rw [sel_col H R d hR (fun r => s r ((q / C + j) * C + q % C)) Y hY, if_pos hd]
  · rw [if_neg hd]
    refine Finset.sum_eq_zero fun j _ => ?_
    rw [sel_col H R d hR (fun r => s r ((q / C + j) * C + q % C)) Y hY, if_neg hd]

/-- The weighted sum of the window sums, off the lanes. -/
theorem query_dot (C H W : ℕ) (hC : 0 < C) (s : ℕ → ℕ → ℕ → EReal) (M B : ℕ → ℕ → EReal) (A : ℕ → ℕ → ℕ → EReal)
    (hM : ∀ q d, q / C < 5 → M q d = if d < 5 then winS H W s (q / C) d (q % C) else 0) (hB : ∀ q d, q / C < 5 → d < 5 → B q d = A (q % C) d (q / C)) :
    ∑ q ∈ Finset.range (5 * C), ∑ d ∈ Finset.range 8, M q d * B q d
      = ∑ dx ∈ Finset.range 5, ∑ dy ∈ Finset.range 5, ∑ c ∈ Finset.range C, winS H W s dx dy c * A c dy dx := by
  have e : ∑ q ∈ Finset.range (5 * C), ∑ d ∈ Finset.range 8, M q d * B q d
      = ∑ q ∈ Finset.range (5 * C), ∑ d ∈ Finset.range 8, if d < 5 then winS H W s (q / C) d (q % C) * A (q % C) d (q / C) else 0 := by
    refine Finset.sum_congr rfl fun q hq => Finset.sum_congr rfl fun d _ => ?_
    have hq : q / C < 5 := (Nat.div_lt_iff_lt_mul hC).2 (Finset.mem_range.1 hq)
    rw [hM q d hq]
    by_cases hd : d < 5
    · rw [if_pos hd, if_pos hd, hB q d hq hd]
    · rw [if_neg hd, if_neg hd, zero_mul]
  rw [e, sum_query C _ (fun q d h => if_neg (by omega))]
  refine Finset.sum_congr rfl fun dx _ => Finset.sum_congr rfl fun dy hdy => Finset.sum_congr rfl fun c hc => ?_
  have hc := Finset.mem_range.1 hc
  have ed : (dx * C + c) / C = dx := by rw [Nat.mul_comm, Nat.mul_add_div hC, Nat.div_eq_of_lt hc, Nat.add_zero]
  have em : (dx * C + c) % C = c := by rw [Nat.mul_comm, Nat.mul_add_mod, Nat.mod_eq_of_lt hc]
  rw [if_pos (Finset.mem_range.1 hdy), ed, em]

/-- The two sums of a query over tables of windows: the dot with the weights and the squared length. -/
theorem query_fin (C H W L R Q : ℕ) (hQ : Q = 5 * C) (hC : 0 < C) (hL : (W + 4) * C ≤ L) (hR : H + 4 ≤ R) (S : Fin R → Fin L → EReal) (Sn : ℕ → ℕ → EReal)
    (hS : ∀ r l, S r l = Sn r.val l.val) (Y : Fin 8 → Fin R → EReal) (hY : ∀ d r, Y d r = if d.val < 5 ∧ d.val ≤ r.val ∧ r.val < d.val + H then 1 else 0)
    (X : Fin L → Fin Q → EReal) (hX : ∀ l q, X l q = if l.val < (W + 4) * C ∧ l.val % C = q.val % C ∧ q.val / C ≤ l.val / C ∧ l.val / C < q.val / C + W then 1 else 0)
    (A : ℕ → ℕ → ℕ → EReal) (B : Fin 8 → Fin Q → EReal) (hB : ∀ d q, d.val < 5 → B d q = A (q.val % C) d.val (q.val / C)) :
    (∑ q : Fin Q, ∑ d : Fin 8, (∑ l : Fin L, (∑ r : Fin R, Y d r * S r l) * X l q) * B d q
      = ∑ dx ∈ Finset.range 5, ∑ dy ∈ Finset.range 5, ∑ c ∈ Finset.range C, winS H W (fun r x c => Sn r (x * C + c)) dx dy c * A c dy dx)
    ∧ (∑ q : Fin Q, ∑ d : Fin 8, (∑ l : Fin L, (∑ r : Fin R, Y d r * S r l) * X l q) * (∑ l : Fin L, (∑ r : Fin R, Y d r * S r l) * X l q)
      = ∑ dx ∈ Finset.range 5, ∑ dy ∈ Finset.range 5, ∑ c ∈ Finset.range C, winS H W (fun r x c => Sn r (x * C + c)) dx dy c * winS H W (fun r x c => Sn r (x * C + c)) dx dy c) := by
  have hq5 : ∀ q : ℕ, q < Q → q / C < 5 := fun q h => (Nat.div_lt_iff_lt_mul hC).2 (by omega)
  have key : ∀ (q : Fin Q) (d : Fin 8), (∑ l : Fin L, (∑ r : Fin R, Y d r * S r l) * X l q)
      = if d.val < 5 then winS H W (fun r x c => Sn r (x * C + c)) (q.val / C) d.val (q.val % C) else 0 := by
    intro q d
    refine Eq.trans ?_ (table_sums C H W L R q.val d.val hC hL hR (hq5 q q.isLt) Sn (fun r => if d.val < 5 ∧ d.val ≤ r ∧ r < d.val + H then 1 else 0)
      (fun l => if l < (W + 4) * C ∧ l % C = q.val % C ∧ q.val / C ≤ l / C ∧ l / C < q.val / C + W then 1 else 0) (fun r _ => rfl) (fun l _ => rfl))
    rw [← Fin.sum_univ_eq_sum_range (fun l => (∑ r ∈ Finset.range R, (if d.val < 5 ∧ d.val ≤ r ∧ r < d.val + H then (1 : EReal) else 0) * Sn r l)
      * (if l < (W + 4) * C ∧ l % C = q.val % C ∧ q.val / C ≤ l / C ∧ l / C < q.val / C + W then (1 : EReal) else 0)) L]
    refine Finset.sum_congr rfl fun l _ => ?_
    rw [hX, ← Fin.sum_univ_eq_sum_range (fun r => (if d.val < 5 ∧ d.val ≤ r ∧ r < d.val + H then (1 : EReal) else 0) * Sn r l.val) R]
    refine congrArg (fun t => t * _) (Finset.sum_congr rfl fun r _ => ?_)
    rw [hY, hS]
  simp only [key]
  have fin : ∀ (B : Fin 8 → Fin Q → EReal) (A : ℕ → ℕ → ℕ → EReal) (_ : ∀ d q, d.val < 5 → B d q = A (q.val % C) d.val (q.val / C)),
      (∑ q : Fin Q, ∑ d : Fin 8, (if d.val < 5 then winS H W (fun r x c => Sn r (x * C + c)) (q.val / C) d.val (q.val % C) else 0) * B d q
      = ∑ dx ∈ Finset.range 5, ∑ dy ∈ Finset.range 5, ∑ c ∈ Finset.range C, winS H W (fun r x c => Sn r (x * C + c)) dx dy c * A c dy dx) := by
    intro B A hB
    rw [← query_dot C H W hC (fun r x c => Sn r (x * C + c)) (fun q d => if d < 5 then winS H W (fun r x c => Sn r (x * C + c)) (q / C) d (q % C) else 0)
      (fun q d => A (q % C) d (q / C)) A (fun _ _ _ => rfl) (fun _ _ _ _ => rfl)]
    rw [← hQ, ← Fin.sum_univ_eq_sum_range (fun q => ∑ d ∈ Finset.range 8, (if d < 5 then winS H W (fun r x c => Sn r (x * C + c)) (q / C) d (q % C) else 0) * A (q % C) d (q / C)) Q]
    refine Finset.sum_congr rfl fun q _ => ?_
    rw [← Fin.sum_univ_eq_sum_range (fun d => (if d < 5 then winS H W (fun r x c => Sn r (x * C + c)) (q.val / C) d (q.val % C) else 0) * A (q.val % C) d (q.val / C)) 8]
    refine Finset.sum_congr rfl fun d _ => ?_
    by_cases hd : d.val < 5
    · rw [hB d q hd]
    · rw [if_neg hd, zero_mul, zero_mul]
  refine ⟨fin B A hB, fin (fun d q => if d.val < 5 then winS H W (fun r x c => Sn r (x * C + c)) (q.val / C) d.val (q.val % C) else 0)
    (fun c dy dx => winS H W (fun r x c => Sn r (x * C + c)) dx dy c) fun d q hd => if_pos hd⟩

/-- A maximum over a unit axis and another is the maximum over the other. -/
theorem fold_unit {O : ℕ} (b : EReal) (f : Fin O → EReal) :
    Finset.fold max b (fun x : Fin 1 × Fin O => f x.2) Finset.univ = Finset.fold max b f Finset.univ := by
  have e : (Finset.univ : Finset (Fin 1 × Fin O)) = Finset.univ.map ⟨fun o => ((0 : Fin 1), o), fun a b h => (Prod.mk.inj h).2⟩ := by
    ext ⟨i, o⟩
    simp only [Finset.mem_univ, Finset.mem_map, true_and, true_iff]
    exact ⟨o, Prod.ext (Subsingleton.elim _ _) rfl⟩
  rw [e, Finset.fold_map]
  rfl

/-- A comparison's outcome as a number. -/
theorem eqv_word (h q : EReal) : FloatOps.sitofp (F := Ideal) FTy.f32 (BitVec.setWidth 32 (BitVec.ofBool (decide (h = q)))) = eqv h q := by
  unfold eqv
  by_cases e : h = q
  · rw [if_pos e, decide_eq_true e]
    show (((BitVec.setWidth 32 (1#1)).toInt : ℝ) : EReal) = 1
    simp
  · rw [if_neg e, decide_eq_false e]
    show (((BitVec.setWidth 32 (0#1)).toInt : ℝ) : EReal) = 0
    simp

/-- The number one. -/
theorem one_word : Ideal.ofBits FTy.f32 1065353216#32 = 1 := by
  simp [Ideal.ofBits, Ideal.ieee]
  rw [← EReal.coe_mul]
  norm_num

end Cert.Band

end
-- ==== Proof.BlkB.lean ====
module
public import proofs.«01_k».proof.Proof.Gen.KernelBIdeal.Value
public import proofs.«01_k».proof.Proof.BaseB
public import Idealize.ShloMosaic.Lib.Claim
public import Idealize.ShloMosaic.Lib.Pipeline.ValueKit
public import Idealize.ShloMosaic.Lib.Pointwise
public import Idealize.ShloMosaic.PureOps.Ideal
@[expose] public section
set_option maxRecDepth 16384
noncomputable section
namespace Cert.KernelBIdeal.Value
open Cert.KernelBIdeal Cert.KernelBIdeal.Gen Idealize.ShloMosaic Idealize.ShloMosaic.TcCoe Idealize.SL.Sem
variable (m : (ℓ : Loc nD τ sig) → Buf (Elt Ideal) ℓ)
set_option maxHeartbeats 4000000
open Cert.Band

/-- The activations as launched. -/
abbrev yM (c : Dev nD) : FVec Ideal S20x1024x384 .f32 := m ((c : Thread nD τ).loc main_arg0)
/-- The sums of the activations as launched. -/
abbrev sM (c : Dev nD) : FVec Ideal S20x384 .f32 := m ((c : Thread nD τ).loc main_arg1)
/-- The sums of the images as launched. -/
abbrev tM (c : Dev nD) : FVec Ideal S36x128 .f32 := m ((c : Thread nD τ).loc main_arg2)
/-- The first filters as launched. -/
abbrev wM (c : Dev nD) : FVec Ideal S16x3x5x5 .f32 := m ((c : Thread nD τ).loc main_arg3)
/-- The first hash weights as launched. -/
abbrev aM (c : Dev nD) : FVec Ideal S80 .f32 := m ((c : Thread nD τ).loc main_arg4)
/-- The first hash offset as launched. -/
abbrev hM (c : Dev nD) : FVec Ideal S_ .f32 := m ((c : Thread nD τ).loc main_arg5)
/-- The second filters as launched. -/
abbrev uM (c : Dev nD) : FVec Ideal S20x16x5x5 .f32 := m ((c : Thread nD τ).loc main_arg6)
/-- The second bias as launched. -/
abbrev vM (c : Dev nD) : FVec Ideal S20 .f32 := m ((c : Thread nD τ).loc main_arg7)
/-- The second hash weights as launched. -/
abbrev dM (c : Dev nD) : FVec Ideal S405 .f32 := m ((c : Thread nD τ).loc main_arg8)
/-- The second hash offset as launched. -/
abbrev kM (c : Dev nD) : FVec Ideal S_ .f32 := m ((c : Thread nD τ).loc main_arg9)

/-- Which block each window stands at, at each point. -/
theorem idx : ∀ t : Fin cfg0.N, win0_0.index t = ![0, t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, t.val, 0] :=
  (by decide +kernel : ∀ t : Fin grid0.N, _)

/-- The activations' block of a point. -/
theorem blk0 (A : FVec Ideal S20x1024x384 .f32) (c : Dev nD) (hA : V m c main_arg0 = A) (t : Fin cfg0.N) (r : Fin 20) (b : Fin 64) (l : Fin 384) (hb : t.val * 64 + b.val < 1024) :
    (iblk m c 0 t : FVec Ideal S20x64x384 .f32) (ix3 r b l) = A (ix3 r ⟨t.val * 64 + b.val, hb⟩ l) := by
  unfold iblk
  have h : V m c ((cfg0.win 0).arr.view.ref) = A := hA
  rw [h]
  refine congrArg A ?_
  blk_ext [idx t]

/-- Operand 1's block of a point. -/
theorem blk1 (A : FVec Ideal S1920x512 .f32) (c : Dev nD) (hA : V m c main_v297 = A) (t : Fin cfg0.N) (i : Fin 1920) (j : Fin 512) :
    (iblk m c 1 t : FVec Ideal S1920x512 .f32) (ix2 i j) = A (ix2 i j) := by
  unfold iblk
  have h : V m c ((cfg0.win 1).arr.view.ref) = A := hA
  rw [h]
  refine congrArg A ?_
  blk_ext [idx t]

/-- Operand 2's block of a point. -/
theorem blk2 (A : FVec Ideal S1x512 .f32) (c : Dev nD) (hA : V m c main_v310 = A) (t : Fin cfg0.N) (i : Fin 1) (j : Fin 512) :
    (iblk m c 2 t : FVec Ideal S1x512 .f32) (ix2 i j) = A (ix2 i j) := by
  unfold iblk
  have h : V m c ((cfg0.win 2).arr.view.ref) = A := hA
  rw [h]
  refine congrArg A ?_
  blk_ext [idx t]

/-- Operand 3's block of a point. -/
theorem blk3 (A : FVec Ideal S36x128 .f32) (c : Dev nD) (hA : V m c main_arg2 = A) (t : Fin cfg0.N) (i : Fin 36) (j : Fin 128) :
    (iblk m c 3 t : FVec Ideal S36x128 .f32) (ix2 i j) = A (ix2 i j) := by
  unfold iblk
  have h : V m c ((cfg0.win 3).arr.view.ref) = A := hA
  rw [h]
  refine congrArg A ?_
  blk_ext [idx t]

/-- Operand 4's block of a point. -/
theorem blk4 (A : FVec Ideal S20x384 .f32) (c : Dev nD) (hA : V m c main_arg1 = A) (t : Fin cfg0.N) (i : Fin 20) (j : Fin 384) :
    (iblk m c 4 t : FVec Ideal S20x384 .f32) (ix2 i j) = A (ix2 i j) := by
  unfold iblk
  have h : V m c ((cfg0.win 4).arr.view.ref) = A := hA
  rw [h]
  refine congrArg A ?_
  blk_ext [idx t]

/-- Operand 5's block of a point. -/
theorem blk5 (A : FVec Ideal S75x16 .f32) (c : Dev nD) (hA : V m c main_v326 = A) (t : Fin cfg0.N) (i : Fin 75) (j : Fin 16) :
    (iblk m c 5 t : FVec Ideal S75x16 .f32) (ix2 i j) = A (ix2 i j) := by
  unfold iblk
  have h : V m c ((cfg0.win 5).arr.view.ref) = A := hA
  rw [h]
  refine congrArg A ?_
  blk_ext [idx t]

/-- Operand 6's block of a point. -/
theorem blk6 (A : FVec Ideal S1x75 .f32) (c : Dev nD) (hA : V m c main_v330 = A) (t : Fin cfg0.N) (i : Fin 1) (j : Fin 75) :
    (iblk m c 6 t : FVec Ideal S1x75 .f32) (ix2 i j) = A (ix2 i j) := by
  unfold iblk
  have h : V m c ((cfg0.win 6).arr.view.ref) = A := hA
  rw [h]
  refine congrArg A ?_
  blk_ext [idx t]

/-- Operand 7's block of a point. -/
theorem blk7 (A : FVec Ideal S1x5 .f32) (c : Dev nD) (hA : V m c main_v334 = A) (t : Fin cfg0.N) (i : Fin 1) (j : Fin 5) :
    (iblk m c 7 t : FVec Ideal S1x5 .f32) (ix2 i j) = A (ix2 i j) := by
  unfold iblk
  have h : V m c ((cfg0.win 7).arr.view.ref) = A := hA
  rw [h]
  refine congrArg A ?_
  blk_ext [idx t]

/-- Operand 8's block of a point. -/
theorem blk8 (A : FVec Ideal S1x1 .f32) (c : Dev nD) (hA : V m c main_v337 = A) (t : Fin cfg0.N) (i : Fin 1) (j : Fin 1) :
    (iblk m c 8 t : FVec Ideal S1x1 .f32) (ix2 i j) = A (ix2 i j) := by
  unfold iblk
  have h : V m c ((cfg0.win 8).arr.view.ref) = A := hA
  rw [h]
  refine congrArg A ?_
  blk_ext [idx t]

/-- Operand 9's block of a point. -/
theorem blk9 (A : FVec Ideal S8x36 .f32) (c : Dev nD) (hA : V m c main_cst = A) (t : Fin cfg0.N) (i : Fin 8) (j : Fin 36) :
    (iblk m c 9 t : FVec Ideal S8x36 .f32) (ix2 i j) = A (ix2 i j) := by
  unfold iblk
  have h : V m c ((cfg0.win 9).arr.view.ref) = A := hA
  rw [h]
  refine congrArg A ?_
  blk_ext [idx t]

/-- Operand 10's block of a point. -/
theorem blk10 (A : FVec Ideal S128x15 .f32) (c : Dev nD) (hA : V m c main_cst_3 = A) (t : Fin cfg0.N) (i : Fin 128) (j : Fin 15) :
    (iblk m c 10 t : FVec Ideal S128x15 .f32) (ix2 i j) = A (ix2 i j) := by
  unfold iblk
  have h : V m c ((cfg0.win 10).arr.view.ref) = A := hA
  rw [h]
  refine congrArg A ?_
  blk_ext [idx t]

/-- Operand 11's block of a point. -/
theorem blk11 (A : FVec Ideal S8x15 .f32) (c : Dev nD) (hA : V m c main_v317 = A) (t : Fin cfg0.N) (i : Fin 8) (j : Fin 15) :
    (iblk m c 11 t : FVec Ideal S8x15 .f32) (ix2 i j) = A (ix2 i j) := by
  unfold iblk
  have h : V m c ((cfg0.win 11).arr.view.ref) = A := hA
  rw [h]
  refine congrArg A ?_
  blk_ext [idx t]

/-- Operand 12's block of a point. -/
theorem blk12 (A : FVec Ideal S16x384 .f32) (c : Dev nD) (hA : V m c main_v348 = A) (t : Fin cfg0.N) (i : Fin 16) (j : Fin 384) :
    (iblk m c 12 t : FVec Ideal S16x384 .f32) (ix2 i j) = A (ix2 i j) := by
  unfold iblk
  have h : V m c ((cfg0.win 12).arr.view.ref) = A := hA
  rw [h]
  refine congrArg A ?_
  blk_ext [idx t]

/-- Operand 13's block of a point. -/
theorem blk13 (A : FVec Ideal S400x20 .f32) (c : Dev nD) (hA : V m c main_v328 = A) (t : Fin cfg0.N) (i : Fin 400) (j : Fin 20) :
    (iblk m c 13 t : FVec Ideal S400x20 .f32) (ix2 i j) = A (ix2 i j) := by
  unfold iblk
  have h : V m c ((cfg0.win 13).arr.view.ref) = A := hA
  rw [h]
  refine congrArg A ?_
  blk_ext [idx t]

/-- Operand 14's block of a point. -/
theorem blk14 (A : FVec Ideal S1x400 .f32) (c : Dev nD) (hA : V m c main_v332 = A) (t : Fin cfg0.N) (i : Fin 1) (j : Fin 400) :
    (iblk m c 14 t : FVec Ideal S1x400 .f32) (ix2 i j) = A (ix2 i j) := by
  unfold iblk
  have h : V m c ((cfg0.win 14).arr.view.ref) = A := hA
  rw [h]
  refine congrArg A ?_
  blk_ext [idx t]

/-- Operand 15's block of a point. -/
theorem blk15 (A : FVec Ideal S1x5 .f32) (c : Dev nD) (hA : V m c main_v336 = A) (t : Fin cfg0.N) (i : Fin 1) (j : Fin 5) :
    (iblk m c 15 t : FVec Ideal S1x5 .f32) (ix2 i j) = A (ix2 i j) := by
  unfold iblk
  have h : V m c ((cfg0.win 15).arr.view.ref) = A := hA
  rw [h]
  refine congrArg A ?_
  blk_ext [idx t]

/-- Operand 16's block of a point. -/
theorem blk16 (A : FVec Ideal S1x1 .f32) (c : Dev nD) (hA : V m c main_v338 = A) (t : Fin cfg0.N) (i : Fin 1) (j : Fin 1) :
    (iblk m c 16 t : FVec Ideal S1x1 .f32) (ix2 i j) = A (ix2 i j) := by
  unfold iblk
  have h : V m c ((cfg0.win 16).arr.view.ref) = A := hA
  rw [h]
  refine congrArg A ?_
  blk_ext [idx t]

/-- Operand 17's block of a point. -/
theorem blk17 (A : FVec Ideal S8x20 .f32) (c : Dev nD) (hA : V m c main_cst_4 = A) (t : Fin cfg0.N) (i : Fin 8) (j : Fin 20) :
    (iblk m c 17 t : FVec Ideal S8x20 .f32) (ix2 i j) = A (ix2 i j) := by
  unfold iblk
  have h : V m c ((cfg0.win 17).arr.view.ref) = A := hA
  rw [h]
  refine congrArg A ?_
  blk_ext [idx t]

/-- Operand 18's block of a point. -/
theorem blk18 (A : FVec Ideal S384x80 .f32) (c : Dev nD) (hA : V m c main_cst_5 = A) (t : Fin cfg0.N) (i : Fin 384) (j : Fin 80) :
    (iblk m c 18 t : FVec Ideal S384x80 .f32) (ix2 i j) = A (ix2 i j) := by
  unfold iblk
  have h : V m c ((cfg0.win 18).arr.view.ref) = A := hA
  rw [h]
  refine congrArg A ?_
  blk_ext [idx t]

/-- Operand 19's block of a point. -/
theorem blk19 (A : FVec Ideal S8x80 .f32) (c : Dev nD) (hA : V m c main_v324 = A) (t : Fin cfg0.N) (i : Fin 8) (j : Fin 80) :
    (iblk m c 19 t : FVec Ideal S8x80 .f32) (ix2 i j) = A (ix2 i j) := by
  unfold iblk
  have h : V m c ((cfg0.win 19).arr.view.ref) = A := hA
  rw [h]
  refine congrArg A ?_
  blk_ext [idx t]

/-- Operand 20's block of a point. -/
theorem blk20 (A : FVec Ideal S20x512 .f32) (c : Dev nD) (hA : V m c main_v363 = A) (t : Fin cfg0.N) (i : Fin 20) (j : Fin 512) :
    (iblk m c 20 t : FVec Ideal S20x512 .f32) (ix2 i j) = A (ix2 i j) := by
  unfold iblk
  have h : V m c ((cfg0.win 20).arr.view.ref) = A := hA
  rw [h]
  refine congrArg A ?_
  blk_ext [idx t]

end Cert.KernelBIdeal.Value
-- ==== Proof.LitB.lean ====
module
public import proofs.«01_k».proof.KernelBIdeal
@[expose] public section
set_option maxRecDepth 16384
noncomputable section
namespace Cert.KernelBIdeal.Value
open Cert.KernelBIdeal Idealize.ShloMosaic

/-- The row windows of the first table. -/
theorem lit2_at (d : Fin 8) (r : Fin 36) : lit2 ⟨d.val * 36 + r.val, by omega⟩ = if d.val < 5 ∧ d.val ≤ r.val ∧ r.val < d.val + 32 then 0x3F800000#32 else 0#32 := by
  revert d r; decide +kernel

/-- The row windows of the second table. -/
theorem lit4_at (d : Fin 8) (r : Fin 20) : lit4 ⟨d.val * 20 + r.val, by omega⟩ = if d.val < 5 ∧ d.val ≤ r.val ∧ r.val < d.val + 16 then 0x3F800000#32 else 0#32 := by
  revert d r; decide +kernel

/-- The column windows of the first table. -/
theorem lit3_at (l : Fin 128) (q : Fin 15) : lit3 ⟨l.val * 15 + q.val, by omega⟩
    = if l.val < 108 ∧ l.val % 3 = q.val % 3 ∧ q.val / 3 ≤ l.val / 3 ∧ l.val / 3 < q.val / 3 + 32 then 0x3F800000#32 else 0#32 := by
  revert l q; decide +kernel

/-- The tables of columns: even output columns in the first half, odd ones in the second. -/
theorem lit0_at (j : Fin 320) : (lit0 j).toInt = ((256 * ((j.val / 20) % 2) + 40 + (j.val / 20 / 2) * 20 + j.val % 20 : ℕ) : Int) := by
  revert j; decide +kernel

theorem lit1_at (j : Fin 320) : (lit1 j).toInt = ((256 * ((j.val / 20) % 2) + 40 + (j.val / 20 / 2) * 20 + j.val % 20 : ℕ) : Int) := by
  revert j; decide +kernel

theorem lit6_at (j : Fin 320) : (lit6 j).toInt = ((256 * ((j.val / 20) % 2) + 40 + (j.val / 20 / 2) * 20 + j.val % 20 : ℕ) : Int) := by
  revert j; decide +kernel

end Cert.KernelBIdeal.Value
-- ==== Proof.HostB.lean ====
module
public import proofs.«01_k».proof.Proof.LitB
public import proofs.«01_k».proof.Proof.Gen.KernelBIdeal.Skeleton
public import proofs.«01_k».proof.Proof.Base
public import Idealize.ShloMosaic.Lib.Claim
public import Idealize.ShloMosaic.Lib.Pipeline.ValueKit
public import Idealize.ShloMosaic.Lib.Pointwise
public import Idealize.ShloMosaic.PureOps.Ideal
public import Idealize.ShloMosaic.Lib.StableHlo.RunRead
@[expose] public section
set_option maxRecDepth 16384
noncomputable section
namespace Cert.KernelBIdeal.Value
open Cert.KernelBIdeal Cert.KernelBIdeal.Gen Idealize.ShloMosaic Idealize.ShloMosaic.TcCoe Idealize.SL.Sem
set_option maxHeartbeats 1000000
open Cert.Band
/-- The identity matrix over the output columns. -/
def eyeT : FVec Ideal S16x16 .f32 :=
  uitofp .f32 (cmpi .eq (addi (iotaInDim S16x16 32 0) (broadcastInDim S16x16 ![] bcast_S_S16x16 (constantI S_ 32 0#32))) (iotaInDim S16x16 32 1))

/-- One tap's block: the tap's weights repeated along the diagonal. -/
def blkT (w : FVec Ideal S20x16x1x1 .f32) : FVec Ideal S256x320 .f32 :=
  shapeCast S256x320 (mulf (broadcastInDim S16x16x16x20 ![0, 1, 2, 3] bcast_S16x1x16x1_S16x16x16x20_0_1_2_3 (broadcastInDim S16x1x16x1 ![0, 2] bcast_S16x16_S16x1x16x1_0_2 eyeT))
    (broadcastInDim S16x16x16x20 ![0, 1, 2, 3] bcast_S1x16x1x20_S16x16x16x20_0_1_2_3 (broadcastInDim S1x16x1x20 ![1, 3] bcast_S16x20_S1x16x1x20_1_3
      (transpose S16x20 [1, 0] (shapeCast S20x16 w shapeCasts_S20x16x1x1_S20x16) transposes_S20x16_S16x20_1_0)))) shapeCasts_S16x16x16x20_S256x320

/-- The scalar every padding of the program uses. -/
abbrev z0T : FVec Ideal S_ .f32 := sitofp FTy.f32 (constantI S_ 32 0#32)

/-- One row offset's band from its five taps. -/
def bdyT (w0 w1 w2 w3 w4 : FVec Ideal S20x16x1x1 .f32) : FVec Ideal S384x320 .f32 :=
  pad S384x320 ![0, 0] ![64, 0] ![0, 0]
    (addf (addf (addf (addf (addf (broadcastInDim S320x320 ![] bcast_S_S320x320 (constant S_ .f32 0x00000000#32))
      (pad S320x320 ![0, 0] ![64, 0] ![0, 0] (blkT w0) z0T pads_S256x320_S320x320_0640_000 h_S_))
      (pad S320x320 ![16, 0] ![48, 0] ![0, 0] (blkT w1) z0T pads_S256x320_S320x320_16480_000 h_S_))
      (pad S320x320 ![32, 0] ![32, 0] ![0, 0] (blkT w2) z0T pads_S256x320_S320x320_32320_000 h_S_))
      (pad S320x320 ![48, 0] ![16, 0] ![0, 0] (blkT w3) z0T pads_S256x320_S320x320_48160_000 h_S_))
      (pad S320x320 ![64, 0] ![0, 0] ![0, 0] (blkT w4) z0T pads_S256x320_S320x320_6400_000 h_S_))
    z0T pads_S320x320_S384x320_0640_000 h_S_

/-- The five bands of the weights, one above another. -/
def bandsT (w : FVec Ideal S20x16x5x5 .f32) : FVec Ideal S1920x320 .f32 :=
  concatenate S1920x320 0
    [⟨S384x320, bdyT (extractStridedSlice S20x16x1x1 ![0, 0, 0, 0] w slices_S20x16x5x5_S20x16x1x1_0_0_0_0) (extractStridedSlice S20x16x1x1 ![0, 0, 0, 1] w slices_S20x16x5x5_S20x16x1x1_0_0_0_1)
        (extractStridedSlice S20x16x1x1 ![0, 0, 0, 2] w slices_S20x16x5x5_S20x16x1x1_0_0_0_2) (extractStridedSlice S20x16x1x1 ![0, 0, 0, 3] w slices_S20x16x5x5_S20x16x1x1_0_0_0_3)
        (extractStridedSlice S20x16x1x1 ![0, 0, 0, 4] w slices_S20x16x5x5_S20x16x1x1_0_0_0_4)⟩,
     ⟨S384x320, bdyT (extractStridedSlice S20x16x1x1 ![0, 0, 1, 0] w slices_S20x16x5x5_S20x16x1x1_0_0_1_0) (extractStridedSlice S20x16x1x1 ![0, 0, 1, 1] w slices_S20x16x5x5_S20x16x1x1_0_0_1_1)
        (extractStridedSlice S20x16x1x1 ![0, 0, 1, 2] w slices_S20x16x5x5_S20x16x1x1_0_0_1_2) (extractStridedSlice S20x16x1x1 ![0, 0, 1, 3] w slices_S20x16x5x5_S20x16x1x1_0_0_1_3)
        (extractStridedSlice S20x16x1x1 ![0, 0, 1, 4] w slices_S20x16x5x5_S20x16x1x1_0_0_1_4)⟩,
     ⟨S384x320, bdyT (extractStridedSlice S20x16x1x1 ![0, 0, 2, 0] w slices_S20x16x5x5_S20x16x1x1_0_0_2_0) (extractStridedSlice S20x16x1x1 ![0, 0, 2, 1] w slices_S20x16x5x5_S20x16x1x1_0_0_2_1)
        (extractStridedSlice S20x16x1x1 ![0, 0, 2, 2] w slices_S20x16x5x5_S20x16x1x1_0_0_2_2) (extractStridedSlice S20x16x1x1 ![0, 0, 2, 3] w slices_S20x16x5x5_S20x16x1x1_0_0_2_3)
        (extractStridedSlice S20x16x1x1 ![0, 0, 2, 4] w slices_S20x16x5x5_S20x16x1x1_0_0_2_4)⟩,
     ⟨S384x320, bdyT (extractStridedSlice S20x16x1x1 ![0, 0, 3, 0] w slices_S20x16x5x5_S20x16x1x1_0_0_3_0) (extractStridedSlice S20x16x1x1 ![0, 0, 3, 1] w slices_S20x16x5x5_S20x16x1x1_0_0_3_1)
        (extractStridedSlice S20x16x1x1 ![0, 0, 3, 2] w slices_S20x16x5x5_S20x16x1x1_0_0_3_2) (extractStridedSlice S20x16x1x1 ![0, 0, 3, 3] w slices_S20x16x5x5_S20x16x1x1_0_0_3_3)
        (extractStridedSlice S20x16x1x1 ![0, 0, 3, 4] w slices_S20x16x5x5_S20x16x1x1_0_0_3_4)⟩,
     ⟨S384x320, bdyT (extractStridedSlice S20x16x1x1 ![0, 0, 4, 0] w slices_S20x16x5x5_S20x16x1x1_0_0_4_0) (extractStridedSlice S20x16x1x1 ![0, 0, 4, 1] w slices_S20x16x5x5_S20x16x1x1_0_0_4_1)
        (extractStridedSlice S20x16x1x1 ![0, 0, 4, 2] w slices_S20x16x5x5_S20x16x1x1_0_0_4_2) (extractStridedSlice S20x16x1x1 ![0, 0, 4, 3] w slices_S20x16x5x5_S20x16x1x1_0_0_4_3)
        (extractStridedSlice S20x16x1x1 ![0, 0, 4, 4] w slices_S20x16x5x5_S20x16x1x1_0_0_4_4)⟩]
    concatenates_S384x320_S384x320_S384x320_S384x320_S384x320_S1920x320_d0

/-- Where the columns of the bands go. -/
def colT (lit : IVec S320 32) : IVec S320x1 32 :=
  broadcastInDim S320x1 ![0] bcast_S320_S320x1_0 (select (constantI S320 1 0#1) (addi lit (broadcastInDim S320 ![] bcast_S_S320 (constantI S_ 32 512#32))) lit)

/-- The matrix of the call: the bands' columns at their places among zeros. -/
def bfT (w : FVec Ideal S20x16x5x5 .f32) : FVec Ideal S1920x512 .f32 :=
  Host.scatter scatter_S1920x512_S320x1_S1920x320_0_1_1_1 (fun _ b => b) (broadcastInDim S1920x512 ![] bcast_S_S1920x512 (constant S_ .f32 0x00000000#32))
    (colT fun i => lit0 (S320.rowMajor i)) (bandsT w)

/-- The bias row of the call: the bias once per output column, at the columns' places. -/
def btT (b : FVec Ideal S20 .f32) : FVec Ideal S1x512 .f32 :=
  Host.scatter scatter_S1x512_S320x2_S320_n_01_01_1 (fun _ b => b) (broadcastInDim S1x512 ![] bcast_S_S1x512 (constant S_ .f32 0x00000000#32))
    (concatenate S320x2 1 [⟨S320x1, broadcastInDim S320x1 ![0] bcast_S320_S320x1_0 (broadcastInDim S320 ![] bcast_S_S320 (constantI S_ 32 0#32))⟩,
      ⟨S320x1, colT fun i => lit1 (S320.rowMajor i)⟩] concatenates_S320x1_S320x1_S320x2_d1)
    (shapeCast S320 (broadcastInDim S16x20 ![0, 1] bcast_S1x20_S16x20_0_1 (shapeCast S1x20 b shapeCasts_S20_S1x20)) shapeCasts_S16x20_S320)

/-- The padding scalar is zero. -/
theorem z0_at : FloatOps.sitofp FTy.f32 (0#32) = (0 : Ideal .f32) := by
  show (((0#32 : BitVec 32).toInt : ℝ) : EReal) = 0
  simp

/-- The zero word is the number zero. -/
theorem zf_at : FloatOps.ofBits FTy.f32 (0#32) = (0 : Ideal .f32) := by
  show Ideal.ofBits .f32 0#32 = 0
  simp [Ideal.ofBits, Ideal.ieee]

/-- The identity matrix read at a row and a column. -/
theorem eye_at (i j : Fin 16) : eyeT (ix2 i j) = if i.val = j.val then 1 else 0 := by
  pointwise [eyeT]
  have e : IntOp.cmpi .eq (IntOp.addi (BitVec.ofNat 32 i.val) 0#32) (BitVec.ofNat 32 j.val) = BitVec.ofBool (decide (i.val = j.val)) := by
    revert i j; decide +kernel
  rw [e]
  by_cases h : i.val = j.val
  · rw [if_pos h, decide_eq_true h]
    show (((1#1 : BitVec 1).toNat : ℝ) : EReal) = 1
    simp
  · rw [if_neg h, decide_eq_false h]
    show (((0#1 : BitVec 1).toNat : ℝ) : EReal) = 0
    simp

/-- One tap's block read at a lane and an output column. -/
theorem blk_at (w : FVec Ideal S20x16x1x1 .f32) (i : Fin 256) (j : Fin 320) :
    blkT w (ix2 i j) = (if i.val / 16 = j.val / 20 then 1 else 0) * rd4 w (j % 20) (i % 16) 0 0 := by
  have e : blkT w (ix2 i j) = eyeT (ix2 ⟨i / 16, by omega⟩ ⟨j / 20, by omega⟩) * w (ix4 ⟨j % 20, by omega⟩ ⟨i % 16, by omega⟩ 0 0) := by
    pointwise [blkT]
  rw [e, eye_at]
  exact congrArg _ (at4 w _ _ _ _)

/-- A tap's block at its offset, read at a lane: the tap's weight where the lane's column is the output column plus the tap's offset. -/
theorem tap_at (w : FVec Ideal S20x16x1x1 .f32) (s t : ℕ) (hs : s = 16 * t) (k : ℕ) (j : Fin 320) :
    (if h : s ≤ k ∧ k - s < 256 then blkT w (ix2 ⟨k - s, h.2⟩ j) else FloatOps.sitofp FTy.f32 0#32)
      = if k / 16 = j.val / 20 + t then rd4 w (j % 20) (k % 16) 0 0 else 0 := by
  subst hs
  by_cases h : 16 * t ≤ k ∧ k - 16 * t < 256
  · rw [dif_pos h, blk_at]
    show (if (k - 16 * t) / 16 = j.val / 20 then (1 : EReal) else 0) * rd4 w (j % 20) ((k - 16 * t) % 16) 0 0 = _
    have e : (k - 16 * t) % 16 = k % 16 := by omega
    by_cases h' : k / 16 = j.val / 20 + t
    · rw [if_pos (by omega), if_pos h', e, one_mul]
    · rw [if_neg (by omega), if_neg h', zero_mul]
  · rw [dif_neg h, if_neg (by omega)]
    exact z0_at

/-- The first tap's block, which stands at offset zero. -/
theorem tap0_at (w : FVec Ideal S20x16x1x1 .f32) (k : ℕ) (j : Fin 320) :
    (if h : k < 256 then blkT w (ix2 ⟨k, h⟩ j) else FloatOps.sitofp FTy.f32 0#32)
      = if k / 16 = j.val / 20 + 0 then rd4 w (j % 20) (k % 16) 0 0 else 0 := by
  rw [← tap_at w 0 0 rfl k j]
  by_cases h : k < 256
  · rw [dif_pos h, dif_pos ⟨Nat.zero_le _, h⟩]; rfl
  · rw [dif_neg h, dif_neg (by omega)]

/-- One row offset's band is the band matrix of the weights. -/
theorem bdy_at (w : ℕ → ℕ → ℕ → ℕ → EReal) (dy : ℕ) (w0 w1 w2 w3 w4 : FVec Ideal S20x16x1x1 .f32) (h0 : ∀ o c, rd4 w0 o c 0 0 = w o c dy 0)
    (h1 : ∀ o c, rd4 w1 o c 0 0 = w o c dy 1) (h2 : ∀ o c, rd4 w2 o c 0 0 = w o c dy 2) (h3 : ∀ o c, rd4 w3 o c 0 0 = w o c dy 3)
    (h4 : ∀ o c, rd4 w4 o c 0 0 = w o c dy 4) (k : Fin 384) (j : Fin 320) :
    bdyT w0 w1 w2 w3 w4 (ix2 k j) = band 16 20 w dy k (j / 20) (j % 20) := by
  have e : bdyT w0 w1 w2 w3 w4 (ix2 k j) = if h : k.val < 320 then
      (((((if h : k.val < 256 then blkT w0 (ix2 ⟨k.val, h⟩ j) else FloatOps.sitofp FTy.f32 0#32)
        + if h : 16 ≤ k.val ∧ k.val - 16 < 256 then blkT w1 (ix2 ⟨k.val - 16, h.2⟩ j) else FloatOps.sitofp FTy.f32 0#32)
        + if h : 32 ≤ k.val ∧ k.val - 32 < 256 then blkT w2 (ix2 ⟨k.val - 32, h.2⟩ j) else FloatOps.sitofp FTy.f32 0#32)
        + if h : 48 ≤ k.val ∧ k.val - 48 < 256 then blkT w3 (ix2 ⟨k.val - 48, h.2⟩ j) else FloatOps.sitofp FTy.f32 0#32)
        + if h : 64 ≤ k.val ∧ k.val - 64 < 256 then blkT w4 (ix2 ⟨k.val - 64, h.2⟩ j) else FloatOps.sitofp FTy.f32 0#32)
      else FloatOps.sitofp FTy.f32 0#32 := by
    pointwise [bdyT]
  rw [e, tap0_at w0 k j, tap_at w1 16 1 rfl k j, tap_at w2 32 2 rfl k j, tap_at w3 48 3 rfl k j, tap_at w4 64 4 rfl k j, h0, h1, h2, h3, h4, z0_at]
  unfold band
  by_cases hk : k.val < 320
  · rw [dif_pos hk]
    rcases (by omega : k.val / 16 = j.val / 20 + 0 ∨ k.val / 16 = j.val / 20 + 1 ∨ k.val / 16 = j.val / 20 + 2 ∨ k.val / 16 = j.val / 20 + 3 ∨ k.val / 16 = j.val / 20 + 4
      ∨ k.val / 16 < j.val / 20 ∨ j.val / 20 + 5 ≤ k.val / 16) with e | e | e | e | e | e
    iterate 5 rw [e]; simp [hk]
    rw [if_neg (by omega), if_neg (by omega), if_neg (by omega), if_neg (by omega), if_neg (by omega), if_neg (by omega)]
    simp
  · rw [dif_neg hk, if_neg (by omega)]

/-- The weights read by natural numbers. -/
abbrev wN (w : FVec Ideal S20x16x5x5 .f32) : ℕ → ℕ → ℕ → ℕ → EReal := fun o c dy dx => rd4 w o c dy dx

/-- A tap of the weights is the weights at the tap. -/
theorem slice_rd (w : FVec Ideal S20x16x5x5 .f32) (dy dx : ℕ) (hy : dy < 5) (hx : dx < 5) (h : S20x16x5x5.Slices ![0, 0, dy, dx] S20x16x1x1) (o c : ℕ) :
    rd4 (extractStridedSlice S20x16x1x1 ![0, 0, dy, dx] w h) o c 0 0 = wN w o c dy dx := by
  unfold wN rd4
  by_cases hoc : o < 20 ∧ c < 16
  · rw [dif_pos ⟨hoc.1, hoc.2, by omega, by omega⟩, dif_pos ⟨hoc.1, hoc.2, hy, hx⟩]
    have e : (⟨dy, hy⟩ : Fin 5) = ⟨dy + 0, hy⟩ := rfl
    unfold extractStridedSlice
    congr 1
    funext a
    fin_cases a <;> simp [ix4] <;> rfl
  · rw [dif_neg (by omega), dif_neg (by omega)]

/-- Five pieces one above another, read in piece `dy`. -/
theorem cat5_at (X0 X1 X2 X3 X4 : FVec Ideal S384x320 .f32) (P : Fin 5 → EReal) (k : Fin 384) (j : Fin 320) (h0 : X0 (ix2 k j) = P 0) (h1 : X1 (ix2 k j) = P 1)
    (h2 : X2 (ix2 k j) = P 2) (h3 : X3 (ix2 k j) = P 3) (h4 : X4 (ix2 k j) = P 4) (dy : Fin 5) :
    concatenate S1920x320 0 [⟨S384x320, X0⟩, ⟨S384x320, X1⟩, ⟨S384x320, X2⟩, ⟨S384x320, X3⟩, ⟨S384x320, X4⟩]
      concatenates_S384x320_S384x320_S384x320_S384x320_S384x320_S1920x320_d0 (ix2 ⟨dy * 384 + k, by omega⟩ j) = P dy := by
  have e : ∀ i : Fin 1920, concatenate S1920x320 0 [⟨S384x320, X0⟩, ⟨S384x320, X1⟩, ⟨S384x320, X2⟩, ⟨S384x320, X3⟩, ⟨S384x320, X4⟩]
      concatenates_S384x320_S384x320_S384x320_S384x320_S384x320_S1920x320_d0 (ix2 i j)
      = if h : i.val < 384 then X0 (ix2 ⟨i.val, h⟩ j) else if h : i.val - 384 < 384 then X1 (ix2 ⟨i.val - 384, h⟩ j)
        else if h : i.val - 384 - 384 < 384 then X2 (ix2 ⟨i.val - 384 - 384, h⟩ j) else if h : i.val - 384 - 384 - 384 < 384 then X3 (ix2 ⟨i.val - 384 - 384 - 384, h⟩ j)
        else X4 (ix2 ⟨i.val - 384 - 384 - 384 - 384, by omega⟩ j) := by
    intro i; pointwise
  have hk : ∀ (n : ℕ) (h : n < 384), n = k.val → (⟨n, h⟩ : Fin 384) = k := fun n h e => Fin.ext e
  rw [e]
  obtain ⟨d, hd⟩ := dy
  rcases (by omega : d = 0 ∨ d = 1 ∨ d = 2 ∨ d = 3 ∨ d = 4) with rfl | rfl | rfl | rfl | rfl
  · rw [dif_pos (by show 0 * 384 + k.val < 384; omega), hk _ _ (by show 0 * 384 + k.val = k.val; omega)]; exact h0
  · rw [dif_neg (by show ¬ 1 * 384 + k.val < 384; omega), dif_pos (by show 1 * 384 + k.val - 384 < 384; omega), hk _ _ (by show 1 * 384 + k.val - 384 = k.val; omega)]; exact h1
  · rw [dif_neg (by show ¬ 2 * 384 + k.val < 384; omega), dif_neg (by show ¬ 2 * 384 + k.val - 384 < 384; omega), dif_pos (by show 2 * 384 + k.val - 384 - 384 < 384; omega),
      hk _ _ (by show 2 * 384 + k.val - 384 - 384 = k.val; omega)]; exact h2
  · rw [dif_neg (by show ¬ 3 * 384 + k.val < 384; omega), dif_neg (by show ¬ 3 * 384 + k.val - 384 < 384; omega), dif_neg (by show ¬ 3 * 384 + k.val - 384 - 384 < 384; omega),
      dif_pos (by show 3 * 384 + k.val - 384 - 384 - 384 < 384; omega), hk _ _ (by show 3 * 384 + k.val - 384 - 384 - 384 = k.val; omega)]; exact h3
  · rw [dif_neg (by show ¬ 4 * 384 + k.val < 384; omega), dif_neg (by show ¬ 4 * 384 + k.val - 384 < 384; omega), dif_neg (by show ¬ 4 * 384 + k.val - 384 - 384 < 384; omega),
      dif_neg (by show ¬ 4 * 384 + k.val - 384 - 384 - 384 < 384; omega), hk _ _ (by show 4 * 384 + k.val - 384 - 384 - 384 - 384 = k.val; omega)]; exact h4

/-- The stacked bands read at a row offset, a lane, and an output column and channel. -/
theorem bands_at (w : FVec Ideal S20x16x5x5 .f32) (dy : Fin 5) (k : Fin 384) (j : Fin 320) :
    bandsT w (ix2 ⟨dy * 384 + k, by omega⟩ j) = band 16 20 (wN w) dy k (j / 20) (j % 20) := by
  have one : ∀ (n : ℕ) (hn : n < 5) (g0 : S20x16x5x5.Slices ![0, 0, n, 0] S20x16x1x1) (g1 : S20x16x5x5.Slices ![0, 0, n, 1] S20x16x1x1) (g2 : S20x16x5x5.Slices ![0, 0, n, 2] S20x16x1x1)
      (g3 : S20x16x5x5.Slices ![0, 0, n, 3] S20x16x1x1) (g4 : S20x16x5x5.Slices ![0, 0, n, 4] S20x16x1x1),
      bdyT (extractStridedSlice S20x16x1x1 ![0, 0, n, 0] w g0) (extractStridedSlice S20x16x1x1 ![0, 0, n, 1] w g1) (extractStridedSlice S20x16x1x1 ![0, 0, n, 2] w g2)
        (extractStridedSlice S20x16x1x1 ![0, 0, n, 3] w g3) (extractStridedSlice S20x16x1x1 ![0, 0, n, 4] w g4) (ix2 k j) = band 16 20 (wN w) n k (j / 20) (j % 20) :=
    fun n hn g0 g1 g2 g3 g4 => bdy_at (wN w) n _ _ _ _ _ (slice_rd w n 0 hn (by omega) g0) (slice_rd w n 1 hn (by omega) g1) (slice_rd w n 2 hn (by omega) g2)
      (slice_rd w n 3 hn (by omega) g3) (slice_rd w n 4 hn (by omega) g4) k j
  exact cat5_at _ _ _ _ _ (fun n => band 16 20 (wN w) n k (j / 20) (j % 20)) k j (one 0 (by omega) _ _ _ _ _) (one 1 (by omega) _ _ _ _ _) (one 2 (by omega) _ _ _ _ _)
    (one 3 (by omega) _ _ _ _ _) (one 4 (by omega) _ _ _ _ _) dy

/-- The column map and its inverse. -/
theorem col_inv (c j : ℕ) (hc : c < 512) (hj : j < 320) :
    (256 * ((j / 20) % 2) + 40 + (j / 20 / 2) * 20 + j % 20 : ℕ) = c
      ↔ 40 ≤ c % 256 ∧ c % 256 < 200 ∧ j = (2 * ((c % 256 - 40) / 20) + c / 256) * 20 + (c % 256 - 40) % 20 := by
  constructor
  · intro h
    rcases (by omega : (j / 20) % 2 = 0 ∨ (j / 20) % 2 = 1) with e | e
    · rw [e] at h
      have h1 : c / 256 = 0 := by omega
      have h2 : (c % 256 - 40) / 20 = j / 20 / 2 := by omega
      rw [h1, h2]
      omega
    · rw [e] at h
      have h1 : c / 256 = 1 := by omega
      have h2 : (c % 256 - 40) / 20 = j / 20 / 2 := by omega
      rw [h1, h2]
      omega
  · rintro ⟨h1, h2, h⟩
    rcases (by omega : c / 256 = 0 ∨ c / 256 = 1) with e | e
    · rw [e] at h
      have h3 : j / 20 / 2 = (c % 256 - 40) / 20 := by omega
      have h4 : j / 20 % 2 = 0 := by omega
      rw [h3, h4]; omega
    · rw [e] at h
      have h3 : j / 20 / 2 = (c % 256 - 40) / 20 := by omega
      have h4 : j / 20 % 2 = 1 := by omega
      rw [h3, h4]; omega

/-- The table of columns read at an update column. -/
theorem colT_at (lit : IVec S320 32) (j : Fin 320) : colT lit (ix2 j 0) = lit (ix1 j) := by
  pointwise [colT]

/-- The matrix's column map, read from the table. -/
theorem col0 (j : Fin 320) : (colT (fun i => lit0 (S320.rowMajor i)) (ix2 j 0)).toInt = ((256 * ((j.val / 20) % 2) + 40 + (j.val / 20 / 2) * 20 + j.val % 20 : ℕ) : Int) := by
  rw [colT_at, ← lit0_at j]
  have e : S320.rowMajor (ix1 j) = j := by apply Fin.ext; simp [Shape.rowMajor_val_one]
  exact congrArg (fun t => (lit0 t).toInt) e

/-- The bias row's column map, read from the table. -/
theorem col1 (j : Fin 320) : (colT (fun i => lit1 (S320.rowMajor i)) (ix2 j 0)).toInt = ((256 * ((j.val / 20) % 2) + 40 + (j.val / 20 / 2) * 20 + j.val % 20 : ℕ) : Int) := by
  rw [colT_at, ← lit1_at j]
  have e : S320.rowMajor (ix1 j) = j := by apply Fin.ext; simp [Shape.rowMajor_val_one]
  exact congrArg (fun t => (lit1 t).toInt) e

/-- The call's matrix read at a row offset, a lane and a column. -/
theorem bf_at (w : FVec Ideal S20x16x5x5 .f32) (dy : Fin 5) (k : Fin 384) (c : Fin 512) :
    bfT w (ix2 ⟨dy * 384 + k, by omega⟩ c)
      = if 40 ≤ c.val % 256 ∧ c.val % 256 < 200 then band 16 20 (wN w) dy k (2 * ((c.val % 256 - 40) / 20) + c.val / 256) ((c.val % 256 - 40) % 20) else 0 := by
  by_cases h : 40 ≤ c.val % 256 ∧ c.val % 256 < 200
  · rw [if_pos h]
    refine (cols_hit scatter_S1920x512_S320x1_S1920x320_0_1_1_1 rfl rfl rfl rfl _ _ (bandsT w) ⟨dy * 384 + k, by omega⟩ c
      ⟨(2 * ((c.val % 256 - 40) / 20) + c.val / 256) * 20 + (c.val % 256 - 40) % 20, by omega⟩ fun j' => ?_).trans ?_
    · exact (Eq.congr_left (col0 j')).trans (Nat.cast_inj.trans ((col_inv c j' c.isLt j'.isLt).trans
        ⟨fun e => Fin.ext e.2.2, fun e => ⟨h.1, h.2, congrArg Fin.val e⟩⟩))
    · rw [bands_at]
      show band 16 20 (wN w) dy k (((2 * ((c.val % 256 - 40) / 20) + c.val / 256) * 20 + (c.val % 256 - 40) % 20) / 20) (((2 * ((c.val % 256 - 40) / 20) + c.val / 256) * 20 + (c.val % 256 - 40) % 20) % 20) = _
      congr 1 <;> omega
  · rw [if_neg h]
    refine (cols_miss scatter_S1920x512_S320x1_S1920x320_0_1_1_1 rfl rfl rfl rfl _ _ (bandsT w) ⟨dy * 384 + k, by omega⟩ c fun j' e => ?_).trans ?_
    · have e := (col_inv c j' c.isLt j'.isLt).1 (Nat.cast_inj.1 ((col0 j').symm.trans e))
      exact h ⟨e.1, e.2.1⟩
    · exact zf_at

/-- The bias row of the call read at a column. -/
theorem bt_at (b : FVec Ideal S20 .f32) (c : Fin 512) :
    btT b (ix2 0 c) = if 40 ≤ c.val % 256 ∧ c.val % 256 < 200 then rd1 b ((c.val % 256 - 40) % 20) else 0 := by
  have u : ∀ j : Fin 320, (shapeCast S320 (broadcastInDim S16x20 ![0, 1] bcast_S1x20_S16x20_0_1 (shapeCast S1x20 b shapeCasts_S20_S1x20)) shapeCasts_S16x20_S320 : FVec Ideal S320 .f32) (ix1 j)
      = b (ix1 ⟨j.val % 20, by omega⟩) := by
    intro j; pointwise
  have i0 : ∀ (lit : IVec S320 32) (j : Fin 320), (concatenate S320x2 1 [⟨S320x1, broadcastInDim S320x1 ![0] bcast_S320_S320x1_0 (broadcastInDim S320 ![] bcast_S_S320 (constantI S_ 32 0#32))⟩,
      ⟨S320x1, colT lit⟩] concatenates_S320x1_S320x1_S320x2_d1) (ix2 j 0) = 0#32 := by
    intro lit j; pointwise
  have i1 : ∀ (lit : IVec S320 32) (j : Fin 320), (concatenate S320x2 1 [⟨S320x1, broadcastInDim S320x1 ![0] bcast_S320_S320x1_0 (broadcastInDim S320 ![] bcast_S_S320 (constantI S_ 32 0#32))⟩,
      ⟨S320x1, colT lit⟩] concatenates_S320x1_S320x1_S320x2_d1) (ix2 j 1) = colT lit (ix2 j 0) := by
    intro lit j; pointwise
  by_cases h : 40 ≤ c.val % 256 ∧ c.val % 256 < 200
  · rw [if_pos h]
    refine (row_hit scatter_S1x512_S320x2_S320_n_01_01_1 rfl rfl rfl rfl _ _ _ (fun j => ?_) c
      ⟨(2 * ((c.val % 256 - 40) / 20) + c.val / 256) * 20 + (c.val % 256 - 40) % 20, by omega⟩ fun j' => ?_).trans ?_
    · exact congrArg BitVec.toInt (i0 _ j)
    · exact (Eq.congr_left ((congrArg BitVec.toInt (i1 _ j')).trans (col1 j'))).trans (Nat.cast_inj.trans ((col_inv c j' c.isLt j'.isLt).trans
        ⟨fun e => Fin.ext e.2.2, fun e => ⟨h.1, h.2, congrArg Fin.val e⟩⟩))
    · refine (u _).trans ((at1 b _).trans ?_)
      show rd1 b (((2 * ((c.val % 256 - 40) / 20) + c.val / 256) * 20 + (c.val % 256 - 40) % 20) % 20) = _
      congr 1; omega
  · rw [if_neg h]
    refine (row_miss scatter_S1x512_S320x2_S320_n_01_01_1 rfl rfl rfl rfl _ _ _ (fun j => ?_) c fun j' e => ?_).trans ?_
    · exact congrArg BitVec.toInt (i0 _ j)
    · have e := (col_inv c j' c.isLt j'.isLt).1 (Nat.cast_inj.1 (((congrArg BitVec.toInt (i1 _ j')).trans (col1 j')).symm.trans e))
      exact h ⟨e.1, e.2.1⟩
    · exact zf_at

end Cert.KernelBIdeal.Value
-- ==== Proof.LitB5.lean ====
module
public import proofs.«01_k».proof.KernelBIdeal
@[expose] public section
set_option maxRecDepth 16384
noncomputable section
namespace Cert.KernelBIdeal.Value
open Cert.KernelBIdeal Idealize.ShloMosaic

theorem lit5_0 (l : Fin 16) (q : Fin 80) : lit5 ⟨(0 + l.val) * 80 + q.val, by omega⟩
    = if 0 + l.val < 320 ∧ (0 + l.val) % 16 = q.val % 16 ∧ q.val / 16 ≤ (0 + l.val) / 16 ∧ (0 + l.val) / 16 < q.val / 16 + 16 then 0x3F800000#32 else 0#32 := by
  revert l q; decide +kernel

theorem lit5_1 (l : Fin 16) (q : Fin 80) : lit5 ⟨(16 + l.val) * 80 + q.val, by omega⟩
    = if 16 + l.val < 320 ∧ (16 + l.val) % 16 = q.val % 16 ∧ q.val / 16 ≤ (16 + l.val) / 16 ∧ (16 + l.val) / 16 < q.val / 16 + 16 then 0x3F800000#32 else 0#32 := by
  revert l q; decide +kernel

theorem lit5_2 (l : Fin 16) (q : Fin 80) : lit5 ⟨(32 + l.val) * 80 + q.val, by omega⟩
    = if 32 + l.val < 320 ∧ (32 + l.val) % 16 = q.val % 16 ∧ q.val / 16 ≤ (32 + l.val) / 16 ∧ (32 + l.val) / 16 < q.val / 16 + 16 then 0x3F800000#32 else 0#32 := by
  revert l q; decide +kernel

theorem lit5_3 (l : Fin 16) (q : Fin 80) : lit5 ⟨(48 + l.val) * 80 + q.val, by omega⟩
    = if 48 + l.val < 320 ∧ (48 + l.val) % 16 = q.val % 16 ∧ q.val / 16 ≤ (48 + l.val) / 16 ∧ (48 + l.val) / 16 < q.val / 16 + 16 then 0x3F800000#32 else 0#32 := by
  revert l q; decide +kernel

theorem lit5_4 (l : Fin 16) (q : Fin 80) : lit5 ⟨(64 + l.val) * 80 + q.val, by omega⟩
    = if 64 + l.val < 320 ∧ (64 + l.val) % 16 = q.val % 16 ∧ q.val / 16 ≤ (64 + l.val) / 16 ∧ (64 + l.val) / 16 < q.val / 16 + 16 then 0x3F800000#32 else 0#32 := by
  revert l q; decide +kernel

theorem lit5_5 (l : Fin 16) (q : Fin 80) : lit5 ⟨(80 + l.val) * 80 + q.val, by omega⟩
    = if 80 + l.val < 320 ∧ (80 + l.val) % 16 = q.val % 16 ∧ q.val / 16 ≤ (80 + l.val) / 16 ∧ (80 + l.val) / 16 < q.val / 16 + 16 then 0x3F800000#32 else 0#32 := by
  revert l q; decide +kernel

theorem lit5_6 (l : Fin 16) (q : Fin 80) : lit5 ⟨(96 + l.val) * 80 + q.val, by omega⟩
    = if 96 + l.val < 320 ∧ (96 + l.val) % 16 = q.val % 16 ∧ q.val / 16 ≤ (96 + l.val) / 16 ∧ (96 + l.val) / 16 < q.val / 16 + 16 then 0x3F800000#32 else 0#32 := by
  revert l q; decide +kernel

theorem lit5_7 (l : Fin 16) (q : Fin 80) : lit5 ⟨(112 + l.val) * 80 + q.val, by omega⟩
    = if 112 + l.val < 320 ∧ (112 + l.val) % 16 = q.val % 16 ∧ q.val / 16 ≤ (112 + l.val) / 16 ∧ (112 + l.val) / 16 < q.val / 16 + 16 then 0x3F800000#32 else 0#32 := by
  revert l q; decide +kernel

theorem lit5_8 (l : Fin 16) (q : Fin 80) : lit5 ⟨(128 + l.val) * 80 + q.val, by omega⟩
    = if 128 + l.val < 320 ∧ (128 + l.val) % 16 = q.val % 16 ∧ q.val / 16 ≤ (128 + l.val) / 16 ∧ (128 + l.val) / 16 < q.val / 16 + 16 then 0x3F800000#32 else 0#32 := by
  revert l q; decide +kernel

theorem lit5_9 (l : Fin 16) (q : Fin 80) : lit5 ⟨(144 + l.val) * 80 + q.val, by omega⟩
    = if 144 + l.val < 320 ∧ (144 + l.val) % 16 = q.val % 16 ∧ q.val / 16 ≤ (144 + l.val) / 16 ∧ (144 + l.val) / 16 < q.val / 16 + 16 then 0x3F800000#32 else 0#32 := by
  revert l q; decide +kernel

theorem lit5_10 (l : Fin 16) (q : Fin 80) : lit5 ⟨(160 + l.val) * 80 + q.val, by omega⟩
    = if 160 + l.val < 320 ∧ (160 + l.val) % 16 = q.val % 16 ∧ q.val / 16 ≤ (160 + l.val) / 16 ∧ (160 + l.val) / 16 < q.val / 16 + 16 then 0x3F800000#32 else 0#32 := by
  revert l q; decide +kernel

theorem lit5_11 (l : Fin 16) (q : Fin 80) : lit5 ⟨(176 + l.val) * 80 + q.val, by omega⟩
    = if 176 + l.val < 320 ∧ (176 + l.val) % 16 = q.val % 16 ∧ q.val / 16 ≤ (176 + l.val) / 16 ∧ (176 + l.val) / 16 < q.val / 16 + 16 then 0x3F800000#32 else 0#32 := by
  revert l q; decide +kernel

theorem lit5_12 (l : Fin 16) (q : Fin 80) : lit5 ⟨(192 + l.val) * 80 + q.val, by omega⟩
    = if 192 + l.val < 320 ∧ (192 + l.val) % 16 = q.val % 16 ∧ q.val / 16 ≤ (192 + l.val) / 16 ∧ (192 + l.val) / 16 < q.val / 16 + 16 then 0x3F800000#32 else 0#32 := by
  revert l q; decide +kernel

theorem lit5_13 (l : Fin 16) (q : Fin 80) : lit5 ⟨(208 + l.val) * 80 + q.val, by omega⟩
    = if 208 + l.val < 320 ∧ (208 + l.val) % 16 = q.val % 16 ∧ q.val / 16 ≤ (208 + l.val) / 16 ∧ (208 + l.val) / 16 < q.val / 16 + 16 then 0x3F800000#32 else 0#32 := by
  revert l q; decide +kernel

theorem lit5_14 (l : Fin 16) (q : Fin 80) : lit5 ⟨(224 + l.val) * 80 + q.val, by omega⟩
    = if 224 + l.val < 320 ∧ (224 + l.val) % 16 = q.val % 16 ∧ q.val / 16 ≤ (224 + l.val) / 16 ∧ (224 + l.val) / 16 < q.val / 16 + 16 then 0x3F800000#32 else 0#32 := by
  revert l q; decide +kernel

theorem lit5_15 (l : Fin 16) (q : Fin 80) : lit5 ⟨(240 + l.val) * 80 + q.val, by omega⟩
    = if 240 + l.val < 320 ∧ (240 + l.val) % 16 = q.val % 16 ∧ q.val / 16 ≤ (240 + l.val) / 16 ∧ (240 + l.val) / 16 < q.val / 16 + 16 then 0x3F800000#32 else 0#32 := by
  revert l q; decide +kernel

theorem lit5_16 (l : Fin 16) (q : Fin 80) : lit5 ⟨(256 + l.val) * 80 + q.val, by omega⟩
    = if 256 + l.val < 320 ∧ (256 + l.val) % 16 = q.val % 16 ∧ q.val / 16 ≤ (256 + l.val) / 16 ∧ (256 + l.val) / 16 < q.val / 16 + 16 then 0x3F800000#32 else 0#32 := by
  revert l q; decide +kernel

theorem lit5_17 (l : Fin 16) (q : Fin 80) : lit5 ⟨(272 + l.val) * 80 + q.val, by omega⟩
    = if 272 + l.val < 320 ∧ (272 + l.val) % 16 = q.val % 16 ∧ q.val / 16 ≤ (272 + l.val) / 16 ∧ (272 + l.val) / 16 < q.val / 16 + 16 then 0x3F800000#32 else 0#32 := by
  revert l q; decide +kernel

theorem lit5_18 (l : Fin 16) (q : Fin 80) : lit5 ⟨(288 + l.val) * 80 + q.val, by omega⟩
    = if 288 + l.val < 320 ∧ (288 + l.val) % 16 = q.val % 16 ∧ q.val / 16 ≤ (288 + l.val) / 16 ∧ (288 + l.val) / 16 < q.val / 16 + 16 then 0x3F800000#32 else 0#32 := by
  revert l q; decide +kernel

theorem lit5_19 (l : Fin 16) (q : Fin 80) : lit5 ⟨(304 + l.val) * 80 + q.val, by omega⟩
    = if 304 + l.val < 320 ∧ (304 + l.val) % 16 = q.val % 16 ∧ q.val / 16 ≤ (304 + l.val) / 16 ∧ (304 + l.val) / 16 < q.val / 16 + 16 then 0x3F800000#32 else 0#32 := by
  revert l q; decide +kernel

theorem lit5_20 (l : Fin 16) (q : Fin 80) : lit5 ⟨(320 + l.val) * 80 + q.val, by omega⟩
    = if 320 + l.val < 320 ∧ (320 + l.val) % 16 = q.val % 16 ∧ q.val / 16 ≤ (320 + l.val) / 16 ∧ (320 + l.val) / 16 < q.val / 16 + 16 then 0x3F800000#32 else 0#32 := by
  revert l q; decide +kernel

theorem lit5_21 (l : Fin 16) (q : Fin 80) : lit5 ⟨(336 + l.val) * 80 + q.val, by omega⟩
    = if 336 + l.val < 320 ∧ (336 + l.val) % 16 = q.val % 16 ∧ q.val / 16 ≤ (336 + l.val) / 16 ∧ (336 + l.val) / 16 < q.val / 16 + 16 then 0x3F800000#32 else 0#32 := by
  revert l q; decide +kernel

theorem lit5_22 (l : Fin 16) (q : Fin 80) : lit5 ⟨(352 + l.val) * 80 + q.val, by omega⟩
    = if 352 + l.val < 320 ∧ (352 + l.val) % 16 = q.val % 16 ∧ q.val / 16 ≤ (352 + l.val) / 16 ∧ (352 + l.val) / 16 < q.val / 16 + 16 then 0x3F800000#32 else 0#32 := by
  revert l q; decide +kernel

theorem lit5_23 (l : Fin 16) (q : Fin 80) : lit5 ⟨(368 + l.val) * 80 + q.val, by omega⟩
    = if 368 + l.val < 320 ∧ (368 + l.val) % 16 = q.val % 16 ∧ q.val / 16 ≤ (368 + l.val) / 16 ∧ (368 + l.val) / 16 < q.val / 16 + 16 then 0x3F800000#32 else 0#32 := by
  revert l q; decide +kernel

end Cert.KernelBIdeal.Value
-- ==== Proof.LitB6.lean ====
module
public import proofs.«01_k».proof.Proof.LitB5
@[expose] public section
set_option maxRecDepth 16384
noncomputable section
namespace Cert.KernelBIdeal.Value
open Cert.KernelBIdeal Idealize.ShloMosaic

/-- The entry of the second table of column windows at a lane and a column. -/
def P5 (n : ℕ) (q : Fin 80) : Prop := ∀ h : n * 80 + q.val < 30720, lit5 ⟨n * 80 + q.val, h⟩
    = if n < 320 ∧ n % 16 = q.val % 16 ∧ q.val / 16 ≤ n / 16 ∧ n / 16 < q.val / 16 + 16 then 0x3F800000#32 else 0#32

theorem p5_0 (q : Fin 80) (n : ℕ) (h1 : 0 ≤ n) (h2 : n < 16) : P5 n q := by
  obtain ⟨r, rfl⟩ := Nat.exists_eq_add_of_le h1
  exact fun _ => lit5_0 ⟨r, by omega⟩ q

theorem p5_1 (q : Fin 80) (n : ℕ) (h1 : 16 ≤ n) (h2 : n < 32) : P5 n q := by
  obtain ⟨r, rfl⟩ := Nat.exists_eq_add_of_le h1
  exact fun _ => lit5_1 ⟨r, by omega⟩ q

theorem p5_2 (q : Fin 80) (n : ℕ) (h1 : 32 ≤ n) (h2 : n < 48) : P5 n q := by
  obtain ⟨r, rfl⟩ := Nat.exists_eq_add_of_le h1
  exact fun _ => lit5_2 ⟨r, by omega⟩ q

theorem p5_3 (q : Fin 80) (n : ℕ) (h1 : 48 ≤ n) (h2 : n < 64) : P5 n q := by
  obtain ⟨r, rfl⟩ := Nat.exists_eq_add_of_le h1
  exact fun _ => lit5_3 ⟨r, by omega⟩ q

theorem p5_4 (q : Fin 80) (n : ℕ) (h1 : 64 ≤ n) (h2 : n < 80) : P5 n q := by
  obtain ⟨r, rfl⟩ := Nat.exists_eq_add_of_le h1
  exact fun _ => lit5_4 ⟨r, by omega⟩ q

theorem p5_5 (q : Fin 80) (n : ℕ) (h1 : 80 ≤ n) (h2 : n < 96) : P5 n q := by
  obtain ⟨r, rfl⟩ := Nat.exists_eq_add_of_le h1
  exact fun _ => lit5_5 ⟨r, by omega⟩ q

theorem p5_6 (q : Fin 80) (n : ℕ) (h1 : 96 ≤ n) (h2 : n < 112) : P5 n q := by
  obtain ⟨r, rfl⟩ := Nat.exists_eq_add_of_le h1
  exact fun _ => lit5_6 ⟨r, by omega⟩ q

theorem p5_7 (q : Fin 80) (n : ℕ) (h1 : 112 ≤ n) (h2 : n < 128) : P5 n q := by
  obtain ⟨r, rfl⟩ := Nat.exists_eq_add_of_le h1
  exact fun _ => lit5_7 ⟨r, by omega⟩ q

theorem p5_8 (q : Fin 80) (n : ℕ) (h1 : 128 ≤ n) (h2 : n < 144) : P5 n q := by
  obtain ⟨r, rfl⟩ := Nat.exists_eq_add_of_le h1
  exact fun _ => lit5_8 ⟨r, by omega⟩ q

theorem p5_9 (q : Fin 80) (n : ℕ) (h1 : 144 ≤ n) (h2 : n < 160) : P5 n q := by
  obtain ⟨r, rfl⟩ := Nat.exists_eq_add_of_le h1
  exact fun _ => lit5_9 ⟨r, by omega⟩ q

theorem p5_10 (q : Fin 80) (n : ℕ) (h1 : 160 ≤ n) (h2 : n < 176) : P5 n q := by
  obtain ⟨r, rfl⟩ := Nat.exists_eq_add_of_le h1
  exact fun _ => lit5_10 ⟨r, by omega⟩ q

theorem p5_11 (q : Fin 80) (n : ℕ) (h1 : 176 ≤ n) (h2 : n < 192) : P5 n q := by
  obtain ⟨r, rfl⟩ := Nat.exists_eq_add_of_le h1
  exact fun _ => lit5_11 ⟨r, by omega⟩ q

theorem p5_12 (q : Fin 80) (n : ℕ) (h1 : 192 ≤ n) (h2 : n < 208) : P5 n q := by
  obtain ⟨r, rfl⟩ := Nat.exists_eq_add_of_le h1
  exact fun _ => lit5_12 ⟨r, by omega⟩ q

theorem p5_13 (q : Fin 80) (n : ℕ) (h1 : 208 ≤ n) (h2 : n < 224) : P5 n q := by
  obtain ⟨r, rfl⟩ := Nat.exists_eq_add_of_le h1
  exact fun _ => lit5_13 ⟨r, by omega⟩ q

theorem p5_14 (q : Fin 80) (n : ℕ) (h1 : 224 ≤ n) (h2 : n < 240) : P5 n q := by
  obtain ⟨r, rfl⟩ := Nat.exists_eq_add_of_le h1
  exact fun _ => lit5_14 ⟨r, by omega⟩ q

theorem p5_15 (q : Fin 80) (n : ℕ) (h1 : 240 ≤ n) (h2 : n < 256) : P5 n q := by
  obtain ⟨r, rfl⟩ := Nat.exists_eq_add_of_le h1
  exact fun _ => lit5_15 ⟨r, by omega⟩ q

theorem p5_16 (q : Fin 80) (n : ℕ) (h1 : 256 ≤ n) (h2 : n < 272) : P5 n q := by
  obtain ⟨r, rfl⟩ := Nat.exists_eq_add_of_le h1
  exact fun _ => lit5_16 ⟨r, by omega⟩ q

theorem p5_17 (q : Fin 80) (n : ℕ) (h1 : 272 ≤ n) (h2 : n < 288) : P5 n q := by
  obtain ⟨r, rfl⟩ := Nat.exists_eq_add_of_le h1
  exact fun _ => lit5_17 ⟨r, by omega⟩ q

theorem p5_18 (q : Fin 80) (n : ℕ) (h1 : 288 ≤ n) (h2 : n < 304) : P5 n q := by
  obtain ⟨r, rfl⟩ := Nat.exists_eq_add_of_le h1
  exact fun _ => lit5_18 ⟨r, by omega⟩ q

theorem p5_19 (q : Fin 80) (n : ℕ) (h1 : 304 ≤ n) (h2 : n < 320) : P5 n q := by
  obtain ⟨r, rfl⟩ := Nat.exists_eq_add_of_le h1
  exact fun _ => lit5_19 ⟨r, by omega⟩ q

theorem p5_20 (q : Fin 80) (n : ℕ) (h1 : 320 ≤ n) (h2 : n < 336) : P5 n q := by
  obtain ⟨r, rfl⟩ := Nat.exists_eq_add_of_le h1
  exact fun _ => lit5_20 ⟨r, by omega⟩ q

theorem p5_21 (q : Fin 80) (n : ℕ) (h1 : 336 ≤ n) (h2 : n < 352) : P5 n q := by
  obtain ⟨r, rfl⟩ := Nat.exists_eq_add_of_le h1
  exact fun _ => lit5_21 ⟨r, by omega⟩ q

theorem p5_22 (q : Fin 80) (n : ℕ) (h1 : 352 ≤ n) (h2 : n < 368) : P5 n q := by
  obtain ⟨r, rfl⟩ := Nat.exists_eq_add_of_le h1
  exact fun _ => lit5_22 ⟨r, by omega⟩ q

theorem p5_23 (q : Fin 80) (n : ℕ) (h1 : 368 ≤ n) (h2 : n < 384) : P5 n q := by
  obtain ⟨r, rfl⟩ := Nat.exists_eq_add_of_le h1
  exact fun _ => lit5_23 ⟨r, by omega⟩ q

/-- The column windows of the second table. -/
theorem lit5_at (l : Fin 384) (q : Fin 80) : lit5 ⟨l.val * 80 + q.val, by omega⟩
    = if l.val < 320 ∧ l.val % 16 = q.val % 16 ∧ q.val / 16 ≤ l.val / 16 ∧ l.val / 16 < q.val / 16 + 16 then 0x3F800000#32 else 0#32 := by
  have hl := l.isLt
  have key : P5 l.val q := by
    by_cases h0 : l.val < 16
    · exact p5_0 q l.val (by omega) h0
    by_cases h1 : l.val < 32
    · exact p5_1 q l.val (by omega) h1
    by_cases h2 : l.val < 48
    · exact p5_2 q l.val (by omega) h2
    by_cases h3 : l.val < 64
    · exact p5_3 q l.val (by omega) h3
    by_cases h4 : l.val < 80
    · exact p5_4 q l.val (by omega) h4
    by_cases h5 : l.val < 96
    · exact p5_5 q l.val (by omega) h5
    by_cases h6 : l.val < 112
    · exact p5_6 q l.val (by omega) h6
    by_cases h7 : l.val < 128
    · exact p5_7 q l.val (by omega) h7
    by_cases h8 : l.val < 144
    · exact p5_8 q l.val (by omega) h8
    by_cases h9 : l.val < 160
    · exact p5_9 q l.val (by omega) h9
    by_cases h10 : l.val < 176
    · exact p5_10 q l.val (by omega) h10
    by_cases h11 : l.val < 192
    · exact p5_11 q l.val (by omega) h11
    by_cases h12 : l.val < 208
    · exact p5_12 q l.val (by omega) h12
    by_cases h13 : l.val < 224
    · exact p5_13 q l.val (by omega) h13
    by_cases h14 : l.val < 240
    · exact p5_14 q l.val (by omega) h14
    by_cases h15 : l.val < 256
    · exact p5_15 q l.val (by omega) h15
    by_cases h16 : l.val < 272
    · exact p5_16 q l.val (by omega) h16
    by_cases h17 : l.val < 288
    · exact p5_17 q l.val (by omega) h17
    by_cases h18 : l.val < 304
    · exact p5_18 q l.val (by omega) h18
    by_cases h19 : l.val < 320
    · exact p5_19 q l.val (by omega) h19
    by_cases h20 : l.val < 336
    · exact p5_20 q l.val (by omega) h20
    by_cases h21 : l.val < 352
    · exact p5_21 q l.val (by omega) h21
    by_cases h22 : l.val < 368
    · exact p5_22 q l.val (by omega) h22
    exact p5_23 q l.val (by omega) (by omega)
  exact key _

end Cert.KernelBIdeal.Value
-- ==== Proof.HostB2.lean ====
module
public import proofs.«01_k».proof.Proof.HostB
public import proofs.«01_k».proof.Proof.LitB6
public import proofs.«01_k».proof.Proof.BaseB
public import proofs.«01_k».proof.Proof.Gen.KernelBIdeal.Skeleton
public import proofs.«01_k».proof.Proof.Base
public import Idealize.ShloMosaic.Lib.Claim
public import Idealize.ShloMosaic.Lib.Pipeline.ValueKit
public import Idealize.ShloMosaic.Lib.Pointwise
public import Idealize.ShloMosaic.PureOps.Ideal
public import Idealize.ShloMosaic.Lib.StableHlo.RunRead
@[expose] public section
set_option maxRecDepth 16384
noncomputable section
namespace Cert.KernelBIdeal.Value
open Cert.KernelBIdeal Cert.KernelBIdeal.Gen Idealize.ShloMosaic Idealize.ShloMosaic.TcCoe Idealize.SL.Sem
set_option maxHeartbeats 1000000
open Cert.Band

/-- A rectangle written at the top of a matrix lands at its own place. -/
theorem top_land {R N K : ℕ} (d : ScatterDims ⟨2, ![R, N]⟩ ⟨1, ![1]⟩ ⟨2, ![K, N]⟩) (huw : d.updateWindowDims = [0, 1]) (hiw : d.insertedWindowDims = [])
    (hsd : d.scatterDimsToOperandDims = [0]) (hivd : d.indexVectorDim = 0) (idx : IVec (⟨1, ![1]⟩ : Shape) 32) (h0 : ∀ i, (idx i).toInt = 0) (r' : Fin K) (j : Fin N) (r : Fin R) (c : Fin N) :
    d.resultIdx? (ix2 r' j) idx = some (ix2 r c) ↔ r'.val = r.val ∧ j = c := by
  obtain ⟨uw, iw, sd, iv, wf⟩ := d
  obtain rfl : uw = [0, 1] := huw
  obtain rfl : iw = [] := hiw
  obtain rfl : sd = [0] := hsd
  obtain rfl : iv = 0 := hivd
  set d : ScatterDims ⟨2, ![R, N]⟩ ⟨1, ![1]⟩ ⟨2, ![K, N]⟩ := ⟨[0, 1], [], [0], 0, wf⟩ with hd
  have hw0 : d.window (ix2 r' j) 0 = r'.val := by
    unfold ScatterDims.window
    refine (dif_pos ?_).trans ?_
    · show (0 : Fin 2) ∈ (List.finRange 2).filter (fun a => a ∉ ([] : List (Fin 2)))
      decide
    · rfl
  have hw1 : d.window (ix2 r' j) 1 = j.val := by
    unfold ScatterDims.window
    refine (dif_pos ?_).trans ?_
    · show (1 : Fin 2) ∈ (List.finRange 2).filter (fun a => a ∉ ([] : List (Fin 2)))
      decide
    · rfl
  have hs0 : d.start (ix2 r' j) idx 0 = 0 := by
    unfold ScatterDims.start
    rw [dif_pos (by show (0 : Fin 2) ∈ [(0 : Fin 2)]; decide)]
    exact h0 _
  have hs1 : d.start (ix2 r' j) idx 1 = 0 := by
    unfold ScatterDims.start
    rw [dif_neg (by show ¬ (1 : Fin 2) ∈ [(0 : Fin 2)]; decide)]
  have hr := r.isLt
  have hj := j.isLt
  unfold ScatterDims.resultIdx?
  constructor
  · intro e
    split at e
    · next h =>
      have e := Option.some.inj e
      have e0 := congrArg Fin.val (congrFun e 0)
      have e1 := congrArg Fin.val (congrFun e 1)
      change (d.start (ix2 r' j) idx 0 + (d.window (ix2 r' j) 0 : Int)).toNat = r.val at e0
      change (d.start (ix2 r' j) idx 1 + (d.window (ix2 r' j) 1 : Int)).toNat = c.val at e1
      rw [hs0, hw0] at e0
      rw [hs1, hw1] at e1
      exact ⟨by omega, Fin.ext (by omega)⟩
    · cases e
  · rintro ⟨e, rfl⟩
    rw [dif_pos]
    · refine congrArg some (funext fun a => Fin.ext ?_)
      match a with
      | ⟨0, _⟩ =>
        show (d.start (ix2 r' j) idx 0 + (d.window (ix2 r' j) 0 : Int)).toNat = r.val
        rw [hs0, hw0]; omega
      | ⟨1, _⟩ =>
        show (d.start (ix2 r' j) idx 1 + (d.window (ix2 r' j) 1 : Int)).toNat = j.val
        rw [hs1, hw1]; omega
    · intro a
      match a with
      | ⟨0, _⟩ =>
        show 0 ≤ d.start (ix2 r' j) idx 0 + (d.window (ix2 r' j) 0 : Int) ∧ d.start (ix2 r' j) idx 0 + (d.window (ix2 r' j) 0 : Int) < (R : Int)
        rw [hs0, hw0]; omega
      | ⟨1, _⟩ =>
        show 0 ≤ d.start (ix2 r' j) idx 1 + (d.window (ix2 r' j) 1 : Int) ∧ d.start (ix2 r' j) idx 1 + (d.window (ix2 r' j) 1 : Int) < (N : Int)
        rw [hs1, hw1]; omega

/-- A rectangle written at the top, read inside it. -/
theorem top_hit {α : Type} {R N K : ℕ} (d : ScatterDims ⟨2, ![R, N]⟩ ⟨1, ![1]⟩ ⟨2, ![K, N]⟩) (huw : d.updateWindowDims = [0, 1]) (hiw : d.insertedWindowDims = [])
    (hsd : d.scatterDimsToOperandDims = [0]) (hivd : d.indexVectorDim = 0) (x0 : (⟨2, ![R, N]⟩ : Shape).Idx → α) (idx : IVec (⟨1, ![1]⟩ : Shape) 32) (h0 : ∀ i, (idx i).toInt = 0)
    (upd : (⟨2, ![K, N]⟩ : Shape).Idx → α) (r : Fin R) (c : Fin N) (hr : r.val < K) :
    Host.scatter d (fun _ b => b) x0 idx upd (ix2 r c) = upd (ix2 ⟨r.val, hr⟩ c) := by
  refine Idealize.ShloMosaic.Routing.scatter_set_hit d x0 idx upd _ _ (fun k hk => ?_) (ix2 ⟨r.val, hr⟩ c) ((top_land d huw hiw hsd hivd idx h0 _ c r c).2 ⟨rfl, rfl⟩)
  obtain ⟨r', j', rfl⟩ := exists_ix2 k
  obtain ⟨e, rfl⟩ := (top_land d huw hiw hsd hivd idx h0 r' j' r c).1 hk
  rw [show r' = ⟨r.val, hr⟩ from Fin.ext e]

/-- The filters, one per column. -/
def w1T (w : FVec Ideal S16x3x5x5 .f32) : FVec Ideal S75x16 .f32 := transpose S75x16 [1, 0] (shapeCast S16x75 w shapeCasts_S16x3x5x5_S16x75) transposes_S16x75_S75x16_1_0

theorem w1_at (w : FVec Ideal S16x3x5x5 .f32) (k : Fin 75) (o : Fin 16) : w1T w (ix2 k o) = rd4 w o (k.val / 25) (k.val / 5 % 5) (k.val % 5) := by
  have e : w1T w (ix2 k o) = w (ix4 o ⟨k.val / 25, by omega⟩ ⟨k.val / 5 % 5, by omega⟩ ⟨k.val % 5, by omega⟩) := by
    pointwise [w1T]
  rw [e]
  exact at4 w _ _ _ _

/-- The hash weights of the filters. -/
def a1T (a : FVec Ideal S80 .f32) : FVec Ideal S1x75 .f32 := shapeCast S1x75 (extractStridedSlice S75 ![0] a slices_S80_S75_0) shapeCasts_S75_S1x75

theorem a1_at (a : FVec Ideal S80 .f32) (k : Fin 75) : a1T a (ix2 0 k) = rd1 a k := by
  have e : a1T a (ix2 0 k) = a (ix1 ⟨k.val, by omega⟩) := by
    pointwise [a1T]
  rw [e]
  exact at1 a _

/-- The hash weights of the powers. -/
def p1T (a : FVec Ideal S80 .f32) : FVec Ideal S1x5 .f32 := shapeCast S1x5 (extractStridedSlice S5 ![75] a slices_S80_S5_75) shapeCasts_S5_S1x5

theorem p1_at (a : FVec Ideal S80 .f32) (k : Fin 5) : p1T a (ix2 0 k) = rd1 a (75 + k.val) := by
  have e : p1T a (ix2 0 k) = a (ix1 ⟨75 + k.val, by omega⟩) := by
    pointwise [p1T]
  rw [e]
  exact at1 a _

/-- The hash weights as the query reads them, on the first five rows. -/
def m1T (a : FVec Ideal S80 .f32) : FVec Ideal S8x15 .f32 :=
  Host.scatter scatter_S8x15_S1_S5x15_01_n_0_0 (fun _ b => b) (broadcastInDim S8x15 ![] bcast_S_S8x15 (constant S_ .f32 0x00000000#32))
    (broadcastInDim S1 ![] bcast_S_S1 (constantI S_ 32 0#32))
    (shapeCast S5x15 (transpose S5x5x3 [1, 2, 0] (shapeCast S3x5x5 (extractStridedSlice S75 ![0] a slices_S80_S75_0) shapeCasts_S75_S3x5x5) transposes_S3x5x5_S5x5x3_1_2_0) shapeCasts_S5x5x3_S5x15)

theorem m1_at (a : FVec Ideal S80 .f32) (d : Fin 8) (q : Fin 15) (hd : d.val < 5) : m1T a (ix2 d q) = rd1 a (q.val % 3 * 25 + d.val * 5 + q.val / 3) := by
  refine (top_hit scatter_S8x15_S1_S5x15_01_n_0_0 rfl rfl rfl rfl _ _ (fun i => rfl) _ d q hd).trans ?_
  have e : ∀ d : Fin 5, (shapeCast S5x15 (transpose S5x5x3 [1, 2, 0] (shapeCast S3x5x5 (extractStridedSlice S75 ![0] a slices_S80_S75_0) shapeCasts_S75_S3x5x5) transposes_S3x5x5_S5x5x3_1_2_0) shapeCasts_S5x5x3_S5x15 : FVec Ideal S5x15 .f32) (ix2 d q)
      = a (ix1 ⟨q.val % 3 * 25 + d.val * 5 + q.val / 3, by omega⟩) := by
    intro d
    pointwise
  rw [e]
  exact at1 a _

/-- The last hash weight. -/
def b1T (b : FVec Ideal S_ .f32) : FVec Ideal S1x1 .f32 := shapeCast S1x1 b shapeCasts_S_S1x1

theorem b1_at (b : FVec Ideal S_ .f32) : b1T b (ix2 0 0) = rd0 b := at0 b _

/-- The filters, one per column. -/
def w2T (w : FVec Ideal S20x16x5x5 .f32) : FVec Ideal S400x20 .f32 := transpose S400x20 [1, 0] (shapeCast S20x400 w shapeCasts_S20x16x5x5_S20x400) transposes_S20x400_S400x20_1_0

theorem w2_at (w : FVec Ideal S20x16x5x5 .f32) (k : Fin 400) (o : Fin 20) : w2T w (ix2 k o) = rd4 w o (k.val / 25) (k.val / 5 % 5) (k.val % 5) := by
  have e : w2T w (ix2 k o) = w (ix4 o ⟨k.val / 25, by omega⟩ ⟨k.val / 5 % 5, by omega⟩ ⟨k.val % 5, by omega⟩) := by
    pointwise [w2T]
  rw [e]
  exact at4 w _ _ _ _

/-- The hash weights of the filters. -/
def a2T (a : FVec Ideal S405 .f32) : FVec Ideal S1x400 .f32 := shapeCast S1x400 (extractStridedSlice S400 ![0] a slices_S405_S400_0) shapeCasts_S400_S1x400

theorem a2_at (a : FVec Ideal S405 .f32) (k : Fin 400) : a2T a (ix2 0 k) = rd1 a k := by
  have e : a2T a (ix2 0 k) = a (ix1 ⟨k.val, by omega⟩) := by
    pointwise [a2T]
  rw [e]
  exact at1 a _

/-- The hash weights of the powers. -/
def p2T (a : FVec Ideal S405 .f32) : FVec Ideal S1x5 .f32 := shapeCast S1x5 (extractStridedSlice S5 ![400] a slices_S405_S5_400) shapeCasts_S5_S1x5

theorem p2_at (a : FVec Ideal S405 .f32) (k : Fin 5) : p2T a (ix2 0 k) = rd1 a (400 + k.val) := by
  have e : p2T a (ix2 0 k) = a (ix1 ⟨400 + k.val, by omega⟩) := by
    pointwise [p2T]
  rw [e]
  exact at1 a _

/-- The hash weights as the query reads them, on the first five rows. -/
def m2T (a : FVec Ideal S405 .f32) : FVec Ideal S8x80 .f32 :=
  Host.scatter scatter_S8x80_S1_S5x80_01_n_0_0 (fun _ b => b) (broadcastInDim S8x80 ![] bcast_S_S8x80 (constant S_ .f32 0x00000000#32))
    (broadcastInDim S1 ![] bcast_S_S1 (constantI S_ 32 0#32))
    (shapeCast S5x80 (transpose S5x5x16 [1, 2, 0] (shapeCast S16x5x5 (extractStridedSlice S400 ![0] a slices_S405_S400_0) shapeCasts_S400_S16x5x5) transposes_S16x5x5_S5x5x16_1_2_0) shapeCasts_S5x5x16_S5x80)

theorem m2_at (a : FVec Ideal S405 .f32) (d : Fin 8) (q : Fin 80) (hd : d.val < 5) : m2T a (ix2 d q) = rd1 a (q.val % 16 * 25 + d.val * 5 + q.val / 16) := by
  refine (top_hit scatter_S8x80_S1_S5x80_01_n_0_0 rfl rfl rfl rfl _ _ (fun i => rfl) _ d q hd).trans ?_
  have e : ∀ d : Fin 5, (shapeCast S5x80 (transpose S5x5x16 [1, 2, 0] (shapeCast S16x5x5 (extractStridedSlice S400 ![0] a slices_S405_S400_0) shapeCasts_S400_S16x5x5) transposes_S16x5x5_S5x5x16_1_2_0) shapeCasts_S5x5x16_S5x80 : FVec Ideal S5x80 .f32) (ix2 d q)
      = a (ix1 ⟨q.val % 16 * 25 + d.val * 5 + q.val / 16, by omega⟩) := by
    intro d
    pointwise
  rw [e]
  exact at1 a _

/-- The last hash weight. -/
def b2T (b : FVec Ideal S_ .f32) : FVec Ideal S1x1 .f32 := shapeCast S1x1 b shapeCasts_S_S1x1

theorem b2_at (b : FVec Ideal S_ .f32) : b2T b (ix2 0 0) = rd0 b := at0 b _

theorem ys1_at (i : Fin 8) (j : Fin 36) : ((fun i => FloatOps.ofBits (F := Ideal) .f32 (lit2 (S8x36.rowMajor i))) : FVec Ideal S8x36 .f32) (ix2 i j)
    = if i.val < 5 ∧ i.val ≤ j.val ∧ j.val < i.val + 32 then 1 else 0 := by
  have e : S8x36.rowMajor (ix2 i j) = ⟨i.val * 36 + j.val, by have := i.isLt; have := j.isLt; show _ < 288; omega⟩ := by
    apply Fin.ext
    rw [Shape.rowMajor_val_two]
    first | rfl | (simp; done) | (simp; omega)
  refine (congrArg (FloatOps.ofBits (F := Ideal) .f32) ((congrArg lit2 e).trans (lit2_at i j))).trans ?_
  by_cases h : i.val < 5 ∧ i.val ≤ j.val ∧ j.val < i.val + 32
  · rw [if_pos h, if_pos h]; exact one_word
  · rw [if_neg h, if_neg h]; exact zf_at

theorem ys2_at (i : Fin 8) (j : Fin 20) : ((fun i => FloatOps.ofBits (F := Ideal) .f32 (lit4 (S8x20.rowMajor i))) : FVec Ideal S8x20 .f32) (ix2 i j)
    = if i.val < 5 ∧ i.val ≤ j.val ∧ j.val < i.val + 16 then 1 else 0 := by
  have e : S8x20.rowMajor (ix2 i j) = ⟨i.val * 20 + j.val, by have := i.isLt; have := j.isLt; show _ < 160; omega⟩ := by
    apply Fin.ext
    rw [Shape.rowMajor_val_two]
    first | rfl | (simp; done) | (simp; omega)
  refine (congrArg (FloatOps.ofBits (F := Ideal) .f32) ((congrArg lit4 e).trans (lit4_at i j))).trans ?_
  by_cases h : i.val < 5 ∧ i.val ≤ j.val ∧ j.val < i.val + 16
  · rw [if_pos h, if_pos h]; exact one_word
  · rw [if_neg h, if_neg h]; exact zf_at

theorem xs1_at (i : Fin 128) (j : Fin 15) : ((fun i => FloatOps.ofBits (F := Ideal) .f32 (lit3 (S128x15.rowMajor i))) : FVec Ideal S128x15 .f32) (ix2 i j)
    = if i.val < 108 ∧ i.val % 3 = j.val % 3 ∧ j.val / 3 ≤ i.val / 3 ∧ i.val / 3 < j.val / 3 + 32 then 1 else 0 := by
  have e : S128x15.rowMajor (ix2 i j) = ⟨i.val * 15 + j.val, by have := i.isLt; have := j.isLt; show _ < 1920; omega⟩ := by
    apply Fin.ext
    rw [Shape.rowMajor_val_two]
    first | rfl | (simp; done) | (simp; omega)
  refine (congrArg (FloatOps.ofBits (F := Ideal) .f32) ((congrArg lit3 e).trans (lit3_at i j))).trans ?_
  by_cases h : i.val < 108 ∧ i.val % 3 = j.val % 3 ∧ j.val / 3 ≤ i.val / 3 ∧ i.val / 3 < j.val / 3 + 32
  · rw [if_pos h, if_pos h]; exact one_word
  · rw [if_neg h, if_neg h]; exact zf_at

theorem xs2_at (i : Fin 384) (j : Fin 80) : ((fun i => FloatOps.ofBits (F := Ideal) .f32 (lit5 (S384x80.rowMajor i))) : FVec Ideal S384x80 .f32) (ix2 i j)
    = if i.val < 320 ∧ i.val % 16 = j.val % 16 ∧ j.val / 16 ≤ i.val / 16 ∧ i.val / 16 < j.val / 16 + 16 then 1 else 0 := by
  have e : S384x80.rowMajor (ix2 i j) = ⟨i.val * 80 + j.val, by have := i.isLt; have := j.isLt; show _ < 30720; omega⟩ := by
    apply Fin.ext
    rw [Shape.rowMajor_val_two]
    first | rfl | (simp; done) | (simp; omega)
  refine (congrArg (FloatOps.ofBits (F := Ideal) .f32) ((congrArg lit5 e).trans (lit5_at i j))).trans ?_
  by_cases h : i.val < 320 ∧ i.val % 16 = j.val % 16 ∧ j.val / 16 ≤ i.val / 16 ∧ i.val / 16 < j.val / 16 + 16
  · rw [if_pos h, if_pos h]; exact one_word
  · rw [if_neg h, if_neg h]; exact zf_at

/-- The first layer's channels spread over the lanes. -/
def tinT : FVec Ideal S16x384 .f32 :=
  pad S16x384 ![0, 0] ![0, 64] ![0, 0] (shapeCast S16x320 (broadcastInDim S1x16x20x16 ![0, 1, 2, 3] bcast_S1x16x1x16_S1x16x20x16_0_1_2_3 (shapeCast S1x16x1x16 eyeT shapeCasts_S16x16_S1x16x1x16)) shapeCasts_S1x16x20x16_S16x320)
    z0T pads_S16x320_S16x384_000_0640 h_S_

theorem tin_at (o : Fin 16) (l : Fin 384) : tinT (ix2 o l) = if l.val < 320 ∧ o.val = l.val % 16 then 1 else 0 := by
  have e : tinT (ix2 o l) = if h : l.val < 320 then eyeT (ix2 o ⟨l.val % 16, by omega⟩) else FloatOps.sitofp FTy.f32 0#32 := by
    pointwise [tinT]
  rw [e]
  by_cases h : l.val < 320
  · rw [dif_pos h, eye_at]
    by_cases h' : o.val = l.val % 16
    · rw [if_pos h', if_pos ⟨h, h'⟩]
    · rw [if_neg h', if_neg (fun k => h' k.2)]
  · rw [dif_neg h, if_neg (fun k => h k.1), z0_at]

/-- The identity matrix over the second layer's channels. -/
def eye20T : FVec Ideal S20x20 .f32 :=
  uitofp .f32 (cmpi .eq (addi (iotaInDim S20x20 32 0) (broadcastInDim S20x20 ![] bcast_S_S20x20 (constantI S_ 32 0#32))) (iotaInDim S20x20 32 1))

theorem eye20_at (i j : Fin 20) : eye20T (ix2 i j) = if i.val = j.val then 1 else 0 := by
  pointwise [eye20T]
  have e : IntOp.cmpi .eq (IntOp.addi (BitVec.ofNat 32 i.val) 0#32) (BitVec.ofNat 32 j.val) = BitVec.ofBool (decide (i.val = j.val)) := by
    revert i j; decide +kernel
  rw [e]
  by_cases h : i.val = j.val
  · rw [if_pos h, decide_eq_true h]
    show (((1#1 : BitVec 1).toNat : ℝ) : EReal) = 1
    simp
  · rw [if_neg h, decide_eq_false h]
    show (((0#1 : BitVec 1).toNat : ℝ) : EReal) = 0
    simp

/-- The second layer's channels, once per output column. -/
def repT : FVec Ideal S20x320 .f32 := shapeCast S20x320 (broadcastInDim S1x20x16x20 ![0, 1, 2, 3] bcast_S1x20x1x20_S1x20x16x20_0_1_2_3 (shapeCast S1x20x1x20 eye20T shapeCasts_S20x20_S1x20x1x20)) shapeCasts_S1x20x16x20_S20x320

theorem rep_at (o : Fin 20) (j : Fin 320) : repT (ix2 o j) = if o.val = j.val % 20 then 1 else 0 := by
  have e : repT (ix2 o j) = eye20T (ix2 o ⟨j.val % 20, by omega⟩) := by
    pointwise [repT]
  rw [e, eye20_at]

/-- The second layer's channels spread over the columns. -/
def toutT : FVec Ideal S20x512 .f32 :=
  Host.scatter scatter_S20x512_S320x1_S20x320_0_1_1_1 (fun _ b => b) (broadcastInDim S20x512 ![] bcast_S_S20x512 (constant S_ .f32 0x00000000#32))
    (colT fun i => lit6 (S320.rowMajor i)) repT

theorem col6 (j : Fin 320) : (colT (fun i => lit6 (S320.rowMajor i)) (ix2 j 0)).toInt = ((256 * ((j.val / 20) % 2) + 40 + (j.val / 20 / 2) * 20 + j.val % 20 : ℕ) : Int) := by
  rw [colT_at, ← lit6_at j]
  have e : S320.rowMajor (ix1 j) = j := by apply Fin.ext; simp [Shape.rowMajor_val_one]
  exact congrArg (fun t => (lit6 t).toInt) e

theorem tout_at (o : Fin 20) (c : Fin 512) :
    toutT (ix2 o c) = if (40 ≤ c.val % 256 ∧ c.val % 256 < 200) ∧ o.val = (c.val % 256 - 40) % 20 then 1 else 0 := by
  by_cases h : 40 ≤ c.val % 256 ∧ c.val % 256 < 200
  · refine (cols_hit scatter_S20x512_S320x1_S20x320_0_1_1_1 rfl rfl rfl rfl _ _ repT o c
      ⟨(2 * ((c.val % 256 - 40) / 20) + c.val / 256) * 20 + (c.val % 256 - 40) % 20, by omega⟩ fun j' => ?_).trans ?_
    · exact (Eq.congr_left (col6 j')).trans (Nat.cast_inj.trans ((col_inv c j' c.isLt j'.isLt).trans
        ⟨fun e => Fin.ext e.2.2, fun e => ⟨h.1, h.2, congrArg Fin.val e⟩⟩))
    · rw [rep_at]
      show (if o.val = ((2 * ((c.val % 256 - 40) / 20) + c.val / 256) * 20 + (c.val % 256 - 40) % 20) % 20 then (1 : EReal) else 0) = _
      rw [show ((2 * ((c.val % 256 - 40) / 20) + c.val / 256) * 20 + (c.val % 256 - 40) % 20) % 20 = (c.val % 256 - 40) % 20 by omega]
      by_cases h' : o.val = (c.val % 256 - 40) % 20
      · rw [if_pos h', if_pos ⟨h, h'⟩]
      · rw [if_neg h', if_neg (fun k => h' k.2)]
  · rw [if_neg (fun k => h k.1)]
    refine (cols_miss scatter_S20x512_S320x1_S20x320_0_1_1_1 rfl rfl rfl rfl _ _ repT o c fun j' e => ?_).trans ?_
    · have e := (col_inv c j' c.isLt j'.isLt).1 (Nat.cast_inj.1 ((col6 j').symm.trans e))
      exact h ⟨e.1, e.2.1⟩
    · exact zf_at

/-- A row of channel values spread by a table of ones. -/
theorem spread {O : ℕ} (m : Fin O → EReal) (M : ℕ → EReal) (hM : ∀ o, m o = M o.val) (t : Fin O → EReal) (p : Prop) [Decidable p] (k : ℕ) (hk : k < O)
    (ht : ∀ o, t o = if p ∧ o.val = k then 1 else 0) : ∑ o, m o * t o = if p then M k else 0 := by
  by_cases h : p
  · rw [if_pos h, Finset.sum_eq_single (⟨k, hk⟩ : Fin O)]
    · rw [ht, if_pos ⟨h, rfl⟩, mul_one, hM]
    · intro o _ hne
      rw [ht, if_neg (fun e => hne (Fin.ext e.2)), mul_zero]
    · intro e; exact absurd (Finset.mem_univ _) e
  · rw [if_neg h]
    refine Finset.sum_eq_zero fun o _ => ?_
    rw [ht, if_neg (fun e => h e.1), mul_zero]

end Cert.KernelBIdeal.Value
-- ==== Proof.ReadB1.lean ====
module
public import proofs.«01_k».proof.Proof.Gen.KernelBIdeal.Value
public import proofs.«01_k».proof.Proof.HostB2
public import proofs.«01_k».proof.Proof.BaseB
public import proofs.«01_k».proof.Proof.Gen.KernelBIdeal.Skeleton
public import proofs.«01_k».proof.Proof.Base
public import Idealize.ShloMosaic.Lib.Claim
public import Idealize.ShloMosaic.Lib.Pipeline.ValueKit
public import Idealize.ShloMosaic.Lib.Pointwise
public import Idealize.ShloMosaic.PureOps.Ideal
public import Idealize.ShloMosaic.Lib.StableHlo.RunRead
@[expose] public section
set_option maxRecDepth 16384
noncomputable section
namespace Cert.KernelBIdeal.Value
open Cert.KernelBIdeal Cert.KernelBIdeal.Gen Idealize.ShloMosaic Idealize.ShloMosaic.TcCoe Idealize.SL.Sem
set_option maxHeartbeats 4000000
variable (m : (ℓ : Loc nD τ sig) → Buf (Elt Ideal) ℓ)
open Cert.Band

theorem V_arg0 (c : Dev nD) : V m c main_arg0 = (m ((c : Thread nD τ).loc main_arg0)) := by
  unfold V; after_reads_simp

theorem V_v297 (c : Dev nD) : V m c main_v297 = bfT (m ((c : Thread nD τ).loc main_arg6)) := by
  unfold V; after_reads_simp
  simp only [Matrix.cons_val_zero, Matrix.cons_val_one]
  rfl

theorem V_v310 (c : Dev nD) : V m c main_v310 = btT (m ((c : Thread nD τ).loc main_arg7)) := by
  unfold V; after_reads_simp
  rfl

end Cert.KernelBIdeal.Value
-- ==== Proof.ReadB2.lean ====
module
public import proofs.«01_k».proof.Proof.Gen.KernelBIdeal.Value
public import proofs.«01_k».proof.Proof.HostB2
public import proofs.«01_k».proof.Proof.BaseB
public import proofs.«01_k».proof.Proof.Gen.KernelBIdeal.Skeleton
public import proofs.«01_k».proof.Proof.Base
public import Idealize.ShloMosaic.Lib.Claim
public import Idealize.ShloMosaic.Lib.Pipeline.ValueKit
public import Idealize.ShloMosaic.Lib.Pointwise
public import Idealize.ShloMosaic.PureOps.Ideal
public import Idealize.ShloMosaic.Lib.StableHlo.RunRead
@[expose] public section
set_option maxRecDepth 16384
noncomputable section
namespace Cert.KernelBIdeal.Value
open Cert.KernelBIdeal Cert.KernelBIdeal.Gen Idealize.ShloMosaic Idealize.ShloMosaic.TcCoe Idealize.SL.Sem
set_option maxHeartbeats 4000000
variable (m : (ℓ : Loc nD τ sig) → Buf (Elt Ideal) ℓ)
open Cert.Band

theorem V_arg2 (c : Dev nD) : V m c main_arg2 = (m ((c : Thread nD τ).loc main_arg2)) := by
  unfold V; after_reads_simp

theorem V_arg1 (c : Dev nD) : V m c main_arg1 = (m ((c : Thread nD τ).loc main_arg1)) := by
  unfold V; after_reads_simp

theorem V_v326 (c : Dev nD) : V m c main_v326 = w1T (m ((c : Thread nD τ).loc main_arg3)) := by
  unfold V; after_reads_simp
  rfl

theorem V_v330 (c : Dev nD) : V m c main_v330 = a1T (m ((c : Thread nD τ).loc main_arg4)) := by
  unfold V; after_reads_simp
  rfl

theorem V_v334 (c : Dev nD) : V m c main_v334 = p1T (m ((c : Thread nD τ).loc main_arg4)) := by
  unfold V; after_reads_simp
  rfl

theorem V_v337 (c : Dev nD) : V m c main_v337 = b1T (m ((c : Thread nD τ).loc main_arg5)) := by
  unfold V; after_reads_simp
  rfl

theorem V_v317 (c : Dev nD) : V m c main_v317 = m1T (m ((c : Thread nD τ).loc main_arg4)) := by
  unfold V; after_reads_simp
  rfl

theorem V_cst (c : Dev nD) : V m c main_cst = fun i => FloatOps.ofBits (F := Ideal) .f32 (lit2 (S8x36.rowMajor i)) := by
  unfold V; after_reads_simp
  rfl

theorem V_cst_3 (c : Dev nD) : V m c main_cst_3 = fun i => FloatOps.ofBits (F := Ideal) .f32 (lit3 (S128x15.rowMajor i)) := by
  unfold V; after_reads_simp
  rfl

end Cert.KernelBIdeal.Value
-- ==== Proof.ReadB3.lean ====
module
public import proofs.«01_k».proof.Proof.Gen.KernelBIdeal.Value
public import proofs.«01_k».proof.Proof.HostB2
public import proofs.«01_k».proof.Proof.BaseB
public import proofs.«01_k».proof.Proof.Gen.KernelBIdeal.Skeleton
public import proofs.«01_k».proof.Proof.Base
public import Idealize.ShloMosaic.Lib.Claim
public import Idealize.ShloMosaic.Lib.Pipeline.ValueKit
public import Idealize.ShloMosaic.Lib.Pointwise
public import Idealize.ShloMosaic.PureOps.Ideal
public import Idealize.ShloMosaic.Lib.StableHlo.RunRead
@[expose] public section
set_option maxRecDepth 16384
noncomputable section
namespace Cert.KernelBIdeal.Value
open Cert.KernelBIdeal Cert.KernelBIdeal.Gen Idealize.ShloMosaic Idealize.ShloMosaic.TcCoe Idealize.SL.Sem
set_option maxHeartbeats 4000000
variable (m : (ℓ : Loc nD τ sig) → Buf (Elt Ideal) ℓ)
open Cert.Band

theorem V_v328 (c : Dev nD) : V m c main_v328 = w2T (m ((c : Thread nD τ).loc main_arg6)) := by
  unfold V; after_reads_simp
  rfl

theorem V_v332 (c : Dev nD) : V m c main_v332 = a2T (m ((c : Thread nD τ).loc main_arg8)) := by
  unfold V; after_reads_simp
  rfl

theorem V_v336 (c : Dev nD) : V m c main_v336 = p2T (m ((c : Thread nD τ).loc main_arg8)) := by
  unfold V; after_reads_simp
  rfl

theorem V_v338 (c : Dev nD) : V m c main_v338 = b2T (m ((c : Thread nD τ).loc main_arg9)) := by
  unfold V; after_reads_simp
  rfl

theorem V_v324 (c : Dev nD) : V m c main_v324 = m2T (m ((c : Thread nD τ).loc main_arg8)) := by
  unfold V; after_reads_simp
  rfl

theorem V_cst_4 (c : Dev nD) : V m c main_cst_4 = fun i => FloatOps.ofBits (F := Ideal) .f32 (lit4 (S8x20.rowMajor i)) := by
  unfold V; after_reads_simp
  rfl

theorem V_cst_5 (c : Dev nD) : V m c main_cst_5 = fun i => FloatOps.ofBits (F := Ideal) .f32 (lit5 (S384x80.rowMajor i)) := by
  unfold V; after_reads_simp
  rfl

theorem V_v348 (c : Dev nD) : V m c main_v348 = tinT := by
  unfold V; after_reads_simp
  rfl

theorem V_v363 (c : Dev nD) : V m c main_v363 = toutT := by
  unfold V; after_reads_simp
  rfl

end Cert.KernelBIdeal.Value
-- ==== Proof.HashB.lean ====
module
public import proofs.«01_k».proof.Proof.Gen.KernelBIdeal.Skeleton
public import proofs.«01_k».proof.Proof.BaseB
public import Idealize.ShloMosaic.Lib.Claim
public import Idealize.ShloMosaic.Lib.Pipeline.ValueKit
public import Idealize.ShloMosaic.Lib.Pointwise
public import Idealize.ShloMosaic.PureOps.Ideal
public import Idealize.ShloMosaic.Lib.StableHlo.RunRead
@[expose] public section
set_option maxRecDepth 16384
noncomputable section
namespace Cert.KernelBIdeal.Value
open Cert.KernelBIdeal Cert.KernelBIdeal.Gen Idealize.ShloMosaic Idealize.ShloMosaic.TcCoe Idealize.SL.Sem
set_option maxHeartbeats 1000000
open Cert.Band

/-- The filters' buckets from the dots, the powers so far and the last weights. -/
def hk15 (v93 : FVec Ideal S1x5 .f32) (v95 : FVec Ideal S1x1 .f32) (v108 v123 v124 : FVec Ideal S1x16 .f32) : FVec Ideal S1x16 .f32 :=
  have v125 : FVec Ideal S1x1 .f32 := extractStridedSlice S1x1 ![0, 2] v93 slices_S1x5_o0_2_S1x1 -- %125 = vector.extract_strided_slice %93 offsets = [0, 2], sizes = [1, 1], strides = [1, 1] : vector<1x5xf32> to vector<1x1xf32>  @ test_k:36
  have v126 : Ideal .f32 := extractAt ![0, 0] v125 inpos_S1x1_p0_0          -- %126 = vector.extract %125[0, 0] : f32 from vector<1x1xf32>  @ test_k:48
  have v127 : FVec Ideal S1x16 .f32 := broadcast S1x16 v126                 -- %127 = vector.broadcast %126 : f32 to vector<1x16xf32>  @ test_k:30
  have v128 : FVec Ideal S1x16 .f32 := mulf v124 v127                       -- %128 = arith.mulf %124, %127 : vector<1x16xf32>  @ test_k:30
  have v129 : FVec Ideal S1x16 .f32 := addf v123 v128                       -- %129 = arith.addf %123, %128 : vector<1x16xf32>  @ test_k:36
  have v130 : FVec Ideal S1x16 .f32 := mulf v124 v124                       -- %130 = arith.mulf %124, %124 : vector<1x16xf32>  @ test_k:35
  have v131 : FVec Ideal S1x1 .f32 := extractStridedSlice S1x1 ![0, 3] v93 slices_S1x5_o0_3_S1x1 -- %131 = vector.extract_strided_slice %93 offsets = [0, 3], sizes = [1, 1], strides = [1, 1] : vector<1x5xf32> to vector<1x1xf32>  @ test_k:36
  have v132 : Ideal .f32 := extractAt ![0, 0] v131 inpos_S1x1_p0_0          -- %132 = vector.extract %131[0, 0] : f32 from vector<1x1xf32>  @ test_k:48
  have v133 : FVec Ideal S1x16 .f32 := broadcast S1x16 v132                 -- %133 = vector.broadcast %132 : f32 to vector<1x16xf32>  @ test_k:30
  have v134 : FVec Ideal S1x16 .f32 := mulf v130 v133                       -- %134 = arith.mulf %130, %133 : vector<1x16xf32>  @ test_k:30
  have v135 : FVec Ideal S1x16 .f32 := addf v129 v134                       -- %135 = arith.addf %129, %134 : vector<1x16xf32>  @ test_k:36
  have v136 : FVec Ideal S1x16 .f32 := mulf v130 v130                       -- %136 = arith.mulf %130, %130 : vector<1x16xf32>  @ test_k:35
  have v137 : FVec Ideal S1x1 .f32 := extractStridedSlice S1x1 ![0, 4] v93 slices_S1x5_o0_4_S1x1 -- %137 = vector.extract_strided_slice %93 offsets = [0, 4], sizes = [1, 1], strides = [1, 1] : vector<1x5xf32> to vector<1x1xf32>  @ test_k:36
  have v138 : Ideal .f32 := extractAt ![0, 0] v137 inpos_S1x1_p0_0          -- %138 = vector.extract %137[0, 0] : f32 from vector<1x1xf32>  @ test_k:48
  have v139 : FVec Ideal S1x16 .f32 := broadcast S1x16 v138                 -- %139 = vector.broadcast %138 : f32 to vector<1x16xf32>  @ test_k:30
  have v140 : FVec Ideal S1x16 .f32 := mulf v136 v139                       -- %140 = arith.mulf %136, %139 : vector<1x16xf32>  @ test_k:30
  have v141 : FVec Ideal S1x16 .f32 := addf v135 v140                       -- %141 = arith.addf %135, %140 : vector<1x16xf32>  @ test_k:36
  have v142 : FVec Ideal S1x16 .f32 := addf v108 v141                       -- %142 = arith.addf %108, %141 : vector<1x16xf32>  @ test_k:36
  have v143 : FVec Ideal S1x16 .f32 := broadcastTo S1x16 v95 broadcasts_S1x1_S1x16 -- %143 = vector.broadcast %95 : vector<1x1xf32> to vector<1x16xf32>  @ test_k:37
  have v144 : FVec Ideal S1x16 .f32 := addf v142 v143                       -- %144 = arith.addf %142, %143 : vector<1x16xf32>  @ test_k:37
  have cst_65 : Ideal .f32 := Scalar.ofBits (F := Ideal) .f32 0x3E4CCCCD#32              -- %cst_65 = arith.constant 2.000000e-01 : f32
  have v145 : FVec Ideal S1x16 .f32 := broadcast S1x16 cst_65               -- %145 = vector.broadcast %cst_65 : f32 to vector<1x16xf32>  @ test_k:37
  have v146 : FVec Ideal S1x16 .f32 := divf v144 v145                       -- %146 = arith.divf %144, %145 : vector<1x16xf32>  @ test_k:37
  have v147 : FVec Ideal S1x16 .f32 := floor v146                           -- %147 = math.floor %146 : vector<1x16xf32>  @ test_k:37
  have cst_66 : Ideal .f32 := Scalar.ofBits (F := Ideal) .f32 0x40000000#32              -- %cst_66 = arith.constant 2.000000e+00 : f32
  have v148 : FVec Ideal S1x16 .f32 := broadcast S1x16 cst_66               -- %148 = vector.broadcast %cst_66 : f32 to vector<1x16xf32>  @ test_k:17
  have v149 : FVec Ideal S1x16 .f32 := divf v147 v148                       -- %149 = arith.divf %147, %148 : vector<1x16xf32>  @ test_k:17
  have v150 : FVec Ideal S1x16 .f32 := floor v149                           -- %150 = math.floor %149 : vector<1x16xf32>  @ test_k:37
  have cst_67 : Ideal .f32 := Scalar.ofBits (F := Ideal) .f32 0x40000000#32              -- %cst_67 = arith.constant 2.000000e+00 : f32
  have v151 : FVec Ideal S1x16 .f32 := broadcast S1x16 cst_67               -- %151 = vector.broadcast %cst_67 : f32 to vector<1x16xf32>  @ test_k:17
  have v152 : FVec Ideal S1x16 .f32 := mulf v151 v150                       -- %152 = arith.mulf %151, %150 : vector<1x16xf32>  @ test_k:17
  have v153 : FVec Ideal S1x16 .f32 := subf v147 v152                       -- %153 = arith.subf %147, %152 : vector<1x16xf32>  @ test_k:17
  v153

/-- Which filters share the query's bucket. -/
def eq15 (q : Ideal .f32) (h : FVec Ideal S1x16 .f32) : FVec Ideal S1x16 .f32 := sitofp .f32 (extui 32 (cmpf .oeq h (broadcast S1x16 q)) natLt_1_32)

/-- How many do. -/
def sum15 (e : FVec Ideal S1x16 .f32) : Ideal .f32 :=
  extractAt ![0, 0, 0] (shapeCast S1x1x1 (multiReduction .add [1, 2] S1 (shapeCast S1x1x16 e shapeCasts_S1x16_S1x1x16) 0x00000000#32 reduces_S1x1x16_S1 (.inl rfl) rfl) shapeCasts_S1_S1x1x1) inpos_S1x1x1_p0_0_0

/-- The active filters. -/
def mask15 (e : FVec Ideal S1x16 .f32) : FVec Ideal S1x16 .f32 :=
  Scalar.select (Scalar.cmpf .oeq (sum15 e) (Scalar.ofBits (F := Ideal) .f32 0x00000000#32)) (broadcast S1x16 (Scalar.ofBits (F := Ideal) .f32 0x3F800000#32)) e

theorem k0_pay15_eq (q : Ideal .f32) (v93 : FVec Ideal S1x5 .f32) (v95 : FVec Ideal S1x1 .f32) (v108 v123 v124 : FVec Ideal S1x16 .f32) (t : Vec Ideal S16x384 .f32) :
    k0_pay15 q v93 v95 v108 v123 v124 t = matmul dot_S1x16_S16x384_S1x384_1_0_0_1_n_n none (mask15 (eq15 q (hk15 v93 v95 v108 v123 v124)))
      (shapeCast S16x384 t shapeCasts_S16x384_S16x384 : FVec Ideal S16x384 .f32) (constant S1x384 .f32 0x00000000#32) := rfl

theorem hk15_at (v93 : FVec Ideal S1x5 .f32) (v95 : FVec Ideal S1x1 .f32) (v108 v123 v124 : FVec Ideal S1x16 .f32) (o : Fin 16) :
    hk15 v93 v95 v108 v123 v124 (ix2 0 o) = floor2 (v108 (ix2 0 o) + (v123 (ix2 0 o) + v124 (ix2 0 o) * v93 (ix2 0 2) + v124 (ix2 0 o) * v124 (ix2 0 o) * v93 (ix2 0 3)
      + v124 (ix2 0 o) * v124 (ix2 0 o) * (v124 (ix2 0 o) * v124 (ix2 0 o)) * v93 (ix2 0 4)) + v95 (ix2 0 0)) := by
  pointwise [hk15]
  rfl

theorem eq15_at (q : Ideal .f32) (h : FVec Ideal S1x16 .f32) (o : Fin 16) : eq15 q h (ix2 0 o) = eqv (h (ix2 0 o)) q := by
  have e : eq15 q h (ix2 0 o) = FloatOps.sitofp (F := Ideal) FTy.f32 (BitVec.setWidth 32 (BitVec.ofBool (decide (h (ix2 0 o) = q)))) := by
    pointwise [eq15]
  rw [e, eqv_word]

theorem sum15_at (e : FVec Ideal S1x16 .f32) : sum15 e = ∑ o : Fin 16, e (ix2 0 o) := by
  pointwise [sum15]
  simp only [Finset.univ_unique, Finset.sum_singleton]

theorem mask15_at (e : FVec Ideal S1x16 .f32) (o : Fin 16) : mask15 e (ix2 0 o) = activeV (fun o => e (ix2 0 o)) o := by
  have c : Scalar.cmpf .oeq (sum15 e) (Scalar.ofBits (F := Ideal) .f32 0x00000000#32) = BitVec.ofBool (decide (∑ o : Fin 16, e (ix2 0 o) = 0)) := by
    rw [sum15_at]
    have z : (Scalar.ofBits (F := Ideal) .f32 0x00000000#32) = (0 : EReal) := by
      show Ideal.ofBits .f32 0#32 = 0
      simp [Ideal.ofBits, Ideal.ieee]
    rw [z]
    rfl
  unfold mask15 activeV
  rw [c]
  by_cases h : ∑ o : Fin 16, e (ix2 0 o) = 0
  · rw [if_pos h, decide_eq_true h]
    exact one_word
  · rw [if_neg h, decide_eq_false h]
    rfl

theorem k0_pay15_at (q : Ideal .f32) (v93 : FVec Ideal S1x5 .f32) (v95 : FVec Ideal S1x1 .f32) (v108 v123 v124 : FVec Ideal S1x16 .f32) (t : Vec Ideal S16x384 .f32) (l : Fin 384) :
    (k0_pay15 q v93 v95 v108 v123 v124 t : FVec Ideal S1x384 .f32) (ix2 0 l)
      = ∑ o : Fin 16, mask15 (eq15 q (hk15 v93 v95 v108 v123 v124)) (ix2 0 o) * t (ix2 o l) := by
  rw [k0_pay15_eq]
  generalize mask15 (eq15 q (hk15 v93 v95 v108 v123 v124)) = M
  pointwise

/-- The filters as the hash reads them. -/
abbrev K15 (w : Vec Ideal S75x16 .f32) : Fin 16 → Fin 75 → EReal := fun o k => w (ix2 k o)

theorem k0_pay8_at (w : Vec Ideal S75x16 .f32) (o : Fin 16) : (k0_pay8 w : FVec Ideal S1x16 .f32) (ix2 0 o) = nrm (K15 w) o := by
  pointwise [k0_pay8, k0_pay5]
  rfl

theorem k0_pay9_at (w : Vec Ideal S75x16 .f32) : (k0_pay9 w : EReal) = scl (K15 w) := by
  pointwise [k0_pay9, k0_pay8, k0_pay5]
  exact congrArg (fun t => Ideal.div (Ideal.ofBits FTy.f32 1061158912#32) (max t (Ideal.ofBits FTy.f32 730643660#32))) (fold_unit (Ideal.ofBits FTy.f32 4286578688#32) (fun o => nrm (K15 w) o))

theorem k0_pay10_at (w : Vec Ideal S75x16 .f32) (a : Vec Ideal S1x75 .f32) (o : Fin 16) :
    (k0_pay10 w a : FVec Ideal S1x16 .f32) (ix2 0 o) = (∑ k, K15 w o k * a (ix2 0 k)) * scl (K15 w) := by
  rw [← k0_pay9_at]
  have e : (k0_pay10 w a : FVec Ideal S1x16 .f32) (ix2 0 o) = (∑ k : Fin 75, a (ix2 0 k) * w (ix2 k o)) * k0_pay9 w := by
    pointwise [k0_pay10, k0_pay5]
  rw [e]
  exact congrArg (fun t => t * _) (Finset.sum_congr rfl fun k _ => mul_comm _ _)

theorem k0_pay11_at (w : Vec Ideal S75x16 .f32) (o : Fin 16) : (k0_pay11 w : FVec Ideal S1x16 .f32) (ix2 0 o) = sqr (nrm (K15 w) o * scl (K15 w)) := by
  have e : (k0_pay11 w : FVec Ideal S1x16 .f32) (ix2 0 o) = sqr ((k0_pay8 w : FVec Ideal S1x16 .f32) (ix2 0 o) * k0_pay9 w) := by
    pointwise [k0_pay11]
    rfl
  rw [e, k0_pay8_at, k0_pay9_at]

theorem k0_pay12_at (w : Vec Ideal S75x16 .f32) (o : Fin 16) : (k0_pay12 w : FVec Ideal S1x16 .f32) (ix2 0 o) = sqr (sqr (nrm (K15 w) o * scl (K15 w))) := by
  have e : (k0_pay12 w : FVec Ideal S1x16 .f32) (ix2 0 o) = sqr ((k0_pay11 w : FVec Ideal S1x16 .f32) (ix2 0 o)) := by
    pointwise [k0_pay12]
    rfl
  rw [e, k0_pay11_at]

theorem k0_pay14_at (w : Vec Ideal S75x16 .f32) (o : Fin 16) : (k0_pay14 w : FVec Ideal S1x16 .f32) (ix2 0 o) = sqr (sqr (sqr (nrm (K15 w) o * scl (K15 w)))) := by
  have e : (k0_pay14 w : FVec Ideal S1x16 .f32) (ix2 0 o) = sqr ((k0_pay12 w : FVec Ideal S1x16 .f32) (ix2 0 o)) := by
    pointwise [k0_pay14]
    rfl
  rw [e, k0_pay12_at]

theorem k0_pay13_at (w : Vec Ideal S75x16 .f32) (p : Vec Ideal S1x5 .f32) (o : Fin 16) :
    (k0_pay13 w p : FVec Ideal S1x16 .f32) (ix2 0 o) = sqr (nrm (K15 w) o * scl (K15 w)) * p (ix2 0 0) + sqr (sqr (nrm (K15 w) o * scl (K15 w))) * p (ix2 0 1) := by
  have e : (k0_pay13 w p : FVec Ideal S1x16 .f32) (ix2 0 o) = (k0_pay11 w : FVec Ideal S1x16 .f32) (ix2 0 o) * p (ix2 0 0) + (k0_pay12 w : FVec Ideal S1x16 .f32) (ix2 0 o) * p (ix2 0 1) := by
    pointwise [k0_pay13, k0_pay6]
  rw [e, k0_pay11_at, k0_pay12_at]

/-- The active filters of the program, spread over the lanes by the last operand. -/
theorem k0_pay15_mask (q : EReal) (w : Vec Ideal S75x16 .f32) (a : Vec Ideal S1x75 .f32) (p : Vec Ideal S1x5 .f32) (b : Vec Ideal S1x1 .f32) (t : Vec Ideal S16x384 .f32) (l : Fin 384)
    (K : Fin 16 → Fin 75 → EReal) (hK : ∀ o k, w (ix2 k o) = K o k) (A : Fin 75 → EReal) (hA : ∀ k, a (ix2 0 k) = A k) (P : ℕ → EReal) (hP : ∀ k : Fin 5, p (ix2 0 k) = P k.val) (bh : EReal) (hb : b (ix2 0 0) = bh) :
    (k0_pay15 (F := Ideal) q (k0_pay6 p) (k0_pay7 b) (k0_pay10 w a) (k0_pay13 w p) (k0_pay14 w) t : FVec Ideal S1x384 .f32) (ix2 0 l)
      = ∑ o : Fin 16, activeV (fun o => eqv (floor2 (hashK K A P bh o)) q) o * t (ix2 o l) := by
  have h6 : ∀ k : Fin 5, (k0_pay6 p : FVec Ideal S1x5 .f32) (ix2 0 k) = P k.val := by
    intro k
    rw [← hP]
    pointwise [k0_pay6]
  have h7 : (k0_pay7 b : FVec Ideal S1x1 .f32) (ix2 0 0) = bh := by
    rw [← hb]
    pointwise [k0_pay7]
  have hKw : K15 w = K := funext fun o => funext fun k => hK o k
  have hAw : ∀ o, (∑ k, K o k * a (ix2 0 k)) = ∑ k, K o k * A k := fun o => Finset.sum_congr rfl fun k _ => by rw [hA]
  rw [k0_pay15_at]
  refine Finset.sum_congr rfl fun o _ => congrArg (fun t => t * _) ?_
  rw [mask15_at]
  refine congrArg (fun e => activeV e o) (funext fun o => ?_)
  rw [eq15_at, hk15_at, k0_pay10_at, k0_pay13_at, k0_pay14_at, h7, hKw, hAw]
  refine congrArg (fun t => eqv (floor2 t) q) ?_
  have g2 := h6 2
  have g3 := h6 3
  have g4 := h6 4
  have g0 := hP 0
  have g1 := hP 1
  unfold hashK tail5
  rw [g0, g1]
  rw [g2, g3, g4]
  rfl

end Cert.KernelBIdeal.Value
-- ==== Proof.HashB2.lean ====
module
public import proofs.«01_k».proof.Proof.Gen.KernelBIdeal.Skeleton
public import proofs.«01_k».proof.Proof.BaseB
public import Idealize.ShloMosaic.Lib.Claim
public import Idealize.ShloMosaic.Lib.Pipeline.ValueKit
public import Idealize.ShloMosaic.Lib.Pointwise
public import Idealize.ShloMosaic.PureOps.Ideal
public import Idealize.ShloMosaic.Lib.StableHlo.RunRead
@[expose] public section
set_option maxRecDepth 16384
noncomputable section
namespace Cert.KernelBIdeal.Value
open Cert.KernelBIdeal Cert.KernelBIdeal.Gen Idealize.ShloMosaic Idealize.ShloMosaic.TcCoe Idealize.SL.Sem
set_option maxHeartbeats 1000000
open Cert.Band

/-- The filters' buckets from the dots, the powers so far and the last weights. -/
def hk29 (v218 : FVec Ideal S1x5 .f32) (v220 : FVec Ideal S1x1 .f32) (v233 v248 v249 : FVec Ideal S1x20 .f32) : FVec Ideal S1x20 .f32 :=
  have v250 : FVec Ideal S1x1 .f32 := extractStridedSlice S1x1 ![0, 2] v218 slices_S1x5_o0_2_S1x1 -- %250 = vector.extract_strided_slice %218 offsets = [0, 2], sizes = [1, 1], strides = [1, 1] : vector<1x5xf32> to vector<1x1xf32>  @ test_k:36
  have v251 : Ideal .f32 := extractAt ![0, 0] v250 inpos_S1x1_p0_0          -- %251 = vector.extract %250[0, 0] : f32 from vector<1x1xf32>  @ test_k:48
  have v252 : FVec Ideal S1x20 .f32 := broadcast S1x20 v251                 -- %252 = vector.broadcast %251 : f32 to vector<1x20xf32>  @ test_k:30
  have v253 : FVec Ideal S1x20 .f32 := mulf v249 v252                       -- %253 = arith.mulf %249, %252 : vector<1x20xf32>  @ test_k:30
  have v254 : FVec Ideal S1x20 .f32 := addf v248 v253                       -- %254 = arith.addf %248, %253 : vector<1x20xf32>  @ test_k:36
  have v255 : FVec Ideal S1x20 .f32 := mulf v249 v249                       -- %255 = arith.mulf %249, %249 : vector<1x20xf32>  @ test_k:35
  have v256 : FVec Ideal S1x1 .f32 := extractStridedSlice S1x1 ![0, 3] v218 slices_S1x5_o0_3_S1x1 -- %256 = vector.extract_strided_slice %218 offsets = [0, 3], sizes = [1, 1], strides = [1, 1] : vector<1x5xf32> to vector<1x1xf32>  @ test_k:36
  have v257 : Ideal .f32 := extractAt ![0, 0] v256 inpos_S1x1_p0_0          -- %257 = vector.extract %256[0, 0] : f32 from vector<1x1xf32>  @ test_k:48
  have v258 : FVec Ideal S1x20 .f32 := broadcast S1x20 v257                 -- %258 = vector.broadcast %257 : f32 to vector<1x20xf32>  @ test_k:30
  have v259 : FVec Ideal S1x20 .f32 := mulf v255 v258                       -- %259 = arith.mulf %255, %258 : vector<1x20xf32>  @ test_k:30
  have v260 : FVec Ideal S1x20 .f32 := addf v254 v259                       -- %260 = arith.addf %254, %259 : vector<1x20xf32>  @ test_k:36
  have v261 : FVec Ideal S1x20 .f32 := mulf v255 v255                       -- %261 = arith.mulf %255, %255 : vector<1x20xf32>  @ test_k:35
  have v262 : FVec Ideal S1x1 .f32 := extractStridedSlice S1x1 ![0, 4] v218 slices_S1x5_o0_4_S1x1 -- %262 = vector.extract_strided_slice %218 offsets = [0, 4], sizes = [1, 1], strides = [1, 1] : vector<1x5xf32> to vector<1x1xf32>  @ test_k:36
  have v263 : Ideal .f32 := extractAt ![0, 0] v262 inpos_S1x1_p0_0          -- %263 = vector.extract %262[0, 0] : f32 from vector<1x1xf32>  @ test_k:48
  have v264 : FVec Ideal S1x20 .f32 := broadcast S1x20 v263                 -- %264 = vector.broadcast %263 : f32 to vector<1x20xf32>  @ test_k:30
  have v265 : FVec Ideal S1x20 .f32 := mulf v261 v264                       -- %265 = arith.mulf %261, %264 : vector<1x20xf32>  @ test_k:30
  have v266 : FVec Ideal S1x20 .f32 := addf v260 v265                       -- %266 = arith.addf %260, %265 : vector<1x20xf32>  @ test_k:36
  have v267 : FVec Ideal S1x20 .f32 := addf v233 v266                       -- %267 = arith.addf %233, %266 : vector<1x20xf32>  @ test_k:36
  have v268 : FVec Ideal S1x20 .f32 := broadcastTo S1x20 v220 broadcasts_S1x1_S1x20 -- %268 = vector.broadcast %220 : vector<1x1xf32> to vector<1x20xf32>  @ test_k:37
  have v269 : FVec Ideal S1x20 .f32 := addf v267 v268                       -- %269 = arith.addf %267, %268 : vector<1x20xf32>  @ test_k:37
  have cst_119 : Ideal .f32 := Scalar.ofBits (F := Ideal) .f32 0x3E4CCCCD#32             -- %cst_119 = arith.constant 2.000000e-01 : f32
  have v270 : FVec Ideal S1x20 .f32 := broadcast S1x20 cst_119              -- %270 = vector.broadcast %cst_119 : f32 to vector<1x20xf32>  @ test_k:37
  have v271 : FVec Ideal S1x20 .f32 := divf v269 v270                       -- %271 = arith.divf %269, %270 : vector<1x20xf32>  @ test_k:37
  have v272 : FVec Ideal S1x20 .f32 := floor v271                           -- %272 = math.floor %271 : vector<1x20xf32>  @ test_k:37
  have cst_120 : Ideal .f32 := Scalar.ofBits (F := Ideal) .f32 0x40000000#32             -- %cst_120 = arith.constant 2.000000e+00 : f32
  have v273 : FVec Ideal S1x20 .f32 := broadcast S1x20 cst_120              -- %273 = vector.broadcast %cst_120 : f32 to vector<1x20xf32>  @ test_k:17
  have v274 : FVec Ideal S1x20 .f32 := divf v272 v273                       -- %274 = arith.divf %272, %273 : vector<1x20xf32>  @ test_k:17
  have v275 : FVec Ideal S1x20 .f32 := floor v274                           -- %275 = math.floor %274 : vector<1x20xf32>  @ test_k:37
  have cst_121 : Ideal .f32 := Scalar.ofBits (F := Ideal) .f32 0x40000000#32             -- %cst_121 = arith.constant 2.000000e+00 : f32
  have v276 : FVec Ideal S1x20 .f32 := broadcast S1x20 cst_121              -- %276 = vector.broadcast %cst_121 : f32 to vector<1x20xf32>  @ test_k:17
  have v277 : FVec Ideal S1x20 .f32 := mulf v276 v275                       -- %277 = arith.mulf %276, %275 : vector<1x20xf32>  @ test_k:17
  have v278 : FVec Ideal S1x20 .f32 := subf v272 v277                       -- %278 = arith.subf %272, %277 : vector<1x20xf32>  @ test_k:17
  v278

/-- Which filters share the query's bucket. -/
def eq29 (q : Ideal .f32) (h : FVec Ideal S1x20 .f32) : FVec Ideal S1x20 .f32 := sitofp .f32 (extui 32 (cmpf .oeq h (broadcast S1x20 q)) natLt_1_32)

/-- How many do. -/
def sum29 (e : FVec Ideal S1x20 .f32) : Ideal .f32 :=
  extractAt ![0, 0, 0] (shapeCast S1x1x1 (multiReduction .add [1, 2] S1 (shapeCast S1x1x20 e shapeCasts_S1x20_S1x1x20) 0x00000000#32 reduces_S1x1x20_S1 (.inl rfl) rfl) shapeCasts_S1_S1x1x1) inpos_S1x1x1_p0_0_0

/-- The active filters. -/
def mask29 (e : FVec Ideal S1x20 .f32) : FVec Ideal S1x20 .f32 :=
  Scalar.select (Scalar.cmpf .oeq (sum29 e) (Scalar.ofBits (F := Ideal) .f32 0x00000000#32)) (broadcast S1x20 (Scalar.ofBits (F := Ideal) .f32 0x3F800000#32)) e

theorem k0_pay29_eq (q : Ideal .f32) (v218 : FVec Ideal S1x5 .f32) (v220 : FVec Ideal S1x1 .f32) (v233 v248 v249 : FVec Ideal S1x20 .f32) (t : Vec Ideal S20x512 .f32) :
    k0_pay29 q v218 v220 v233 v248 v249 t = matmul dot_S1x20_S20x512_S1x512_1_0_0_1_n_n none (mask29 (eq29 q (hk29 v218 v220 v233 v248 v249)))
      (shapeCast S20x512 t shapeCasts_S20x512_S20x512 : FVec Ideal S20x512 .f32) (constant S1x512 .f32 0x00000000#32) := rfl

theorem hk29_at (v218 : FVec Ideal S1x5 .f32) (v220 : FVec Ideal S1x1 .f32) (v233 v248 v249 : FVec Ideal S1x20 .f32) (o : Fin 20) :
    hk29 v218 v220 v233 v248 v249 (ix2 0 o) = floor2 (v233 (ix2 0 o) + (v248 (ix2 0 o) + v249 (ix2 0 o) * v218 (ix2 0 2) + v249 (ix2 0 o) * v249 (ix2 0 o) * v218 (ix2 0 3)
      + v249 (ix2 0 o) * v249 (ix2 0 o) * (v249 (ix2 0 o) * v249 (ix2 0 o)) * v218 (ix2 0 4)) + v220 (ix2 0 0)) := by
  pointwise [hk29]
  rfl

theorem eq29_at (q : Ideal .f32) (h : FVec Ideal S1x20 .f32) (o : Fin 20) : eq29 q h (ix2 0 o) = eqv (h (ix2 0 o)) q := by
  have e : eq29 q h (ix2 0 o) = FloatOps.sitofp (F := Ideal) FTy.f32 (BitVec.setWidth 32 (BitVec.ofBool (decide (h (ix2 0 o) = q)))) := by
    pointwise [eq29]
  rw [e, eqv_word]

theorem sum29_at (e : FVec Ideal S1x20 .f32) : sum29 e = ∑ o : Fin 20, e (ix2 0 o) := by
  pointwise [sum29]
  simp only [Finset.univ_unique, Finset.sum_singleton]

theorem mask29_at (e : FVec Ideal S1x20 .f32) (o : Fin 20) : mask29 e (ix2 0 o) = activeV (fun o => e (ix2 0 o)) o := by
  have c : Scalar.cmpf .oeq (sum29 e) (Scalar.ofBits (F := Ideal) .f32 0x00000000#32) = BitVec.ofBool (decide (∑ o : Fin 20, e (ix2 0 o) = 0)) := by
    rw [sum29_at]
    have z : (Scalar.ofBits (F := Ideal) .f32 0x00000000#32) = (0 : EReal) := by
      show Ideal.ofBits .f32 0#32 = 0
      simp [Ideal.ofBits, Ideal.ieee]
    rw [z]
    rfl
  unfold mask29 activeV
  rw [c]
  by_cases h : ∑ o : Fin 20, e (ix2 0 o) = 0
  · rw [if_pos h, decide_eq_true h]
    exact one_word
  · rw [if_neg h, decide_eq_false h]
    rfl

theorem k0_pay29_at (q : Ideal .f32) (v218 : FVec Ideal S1x5 .f32) (v220 : FVec Ideal S1x1 .f32) (v233 v248 v249 : FVec Ideal S1x20 .f32) (t : Vec Ideal S20x512 .f32) (l : Fin 512) :
    (k0_pay29 q v218 v220 v233 v248 v249 t : FVec Ideal S1x512 .f32) (ix2 0 l)
      = ∑ o : Fin 20, mask29 (eq29 q (hk29 v218 v220 v233 v248 v249)) (ix2 0 o) * t (ix2 o l) := by
  rw [k0_pay29_eq]
  generalize mask29 (eq29 q (hk29 v218 v220 v233 v248 v249)) = M
  pointwise

/-- The filters as the hash reads them. -/
abbrev K29 (w : Vec Ideal S400x20 .f32) : Fin 20 → Fin 400 → EReal := fun o k => w (ix2 k o)

theorem k0_pay22_at (w : Vec Ideal S400x20 .f32) (o : Fin 20) : (k0_pay22 w : FVec Ideal S1x20 .f32) (ix2 0 o) = nrm (K29 w) o := by
  pointwise [k0_pay22, k0_pay19]
  rfl

theorem k0_pay23_at (w : Vec Ideal S400x20 .f32) : (k0_pay23 w : EReal) = scl (K29 w) := by
  pointwise [k0_pay23, k0_pay22, k0_pay19]
  exact congrArg (fun t => Ideal.div (Ideal.ofBits FTy.f32 1061158912#32) (max t (Ideal.ofBits FTy.f32 730643660#32))) (fold_unit (Ideal.ofBits FTy.f32 4286578688#32) (fun o => nrm (K29 w) o))

theorem k0_pay24_at (w : Vec Ideal S400x20 .f32) (a : Vec Ideal S1x400 .f32) (o : Fin 20) :
    (k0_pay24 w a : FVec Ideal S1x20 .f32) (ix2 0 o) = (∑ k, K29 w o k * a (ix2 0 k)) * scl (K29 w) := by
  rw [← k0_pay23_at]
  have e : (k0_pay24 w a : FVec Ideal S1x20 .f32) (ix2 0 o) = (∑ k : Fin 400, a (ix2 0 k) * w (ix2 k o)) * k0_pay23 w := by
    pointwise [k0_pay24, k0_pay19]
  rw [e]
  exact congrArg (fun t => t * _) (Finset.sum_congr rfl fun k _ => mul_comm _ _)

theorem k0_pay25_at (w : Vec Ideal S400x20 .f32) (o : Fin 20) : (k0_pay25 w : FVec Ideal S1x20 .f32) (ix2 0 o) = sqr (nrm (K29 w) o * scl (K29 w)) := by
  have e : (k0_pay25 w : FVec Ideal S1x20 .f32) (ix2 0 o) = sqr ((k0_pay22 w : FVec Ideal S1x20 .f32) (ix2 0 o) * k0_pay23 w) := by
    pointwise [k0_pay25]
    rfl
  rw [e, k0_pay22_at, k0_pay23_at]

theorem k0_pay26_at (w : Vec Ideal S400x20 .f32) (o : Fin 20) : (k0_pay26 w : FVec Ideal S1x20 .f32) (ix2 0 o) = sqr (sqr (nrm (K29 w) o * scl (K29 w))) := by
  have e : (k0_pay26 w : FVec Ideal S1x20 .f32) (ix2 0 o) = sqr ((k0_pay25 w : FVec Ideal S1x20 .f32) (ix2 0 o)) := by
    pointwise [k0_pay26]
    rfl
  rw [e, k0_pay25_at]

theorem k0_pay28_at (w : Vec Ideal S400x20 .f32) (o : Fin 20) : (k0_pay28 w : FVec Ideal S1x20 .f32) (ix2 0 o) = sqr (sqr (sqr (nrm (K29 w) o * scl (K29 w)))) := by
  have e : (k0_pay28 w : FVec Ideal S1x20 .f32) (ix2 0 o) = sqr ((k0_pay26 w : FVec Ideal S1x20 .f32) (ix2 0 o)) := by
    pointwise [k0_pay28]
    rfl
  rw [e, k0_pay26_at]

theorem k0_pay27_at (w : Vec Ideal S400x20 .f32) (p : Vec Ideal S1x5 .f32) (o : Fin 20) :
    (k0_pay27 w p : FVec Ideal S1x20 .f32) (ix2 0 o) = sqr (nrm (K29 w) o * scl (K29 w)) * p (ix2 0 0) + sqr (sqr (nrm (K29 w) o * scl (K29 w))) * p (ix2 0 1) := by
  have e : (k0_pay27 w p : FVec Ideal S1x20 .f32) (ix2 0 o) = (k0_pay25 w : FVec Ideal S1x20 .f32) (ix2 0 o) * p (ix2 0 0) + (k0_pay26 w : FVec Ideal S1x20 .f32) (ix2 0 o) * p (ix2 0 1) := by
    pointwise [k0_pay27, k0_pay20]
  rw [e, k0_pay25_at, k0_pay26_at]

/-- The active filters of the program, spread over the lanes by the last operand. -/
theorem k0_pay29_mask (q : EReal) (w : Vec Ideal S400x20 .f32) (a : Vec Ideal S1x400 .f32) (p : Vec Ideal S1x5 .f32) (b : Vec Ideal S1x1 .f32) (t : Vec Ideal S20x512 .f32) (l : Fin 512)
    (K : Fin 20 → Fin 400 → EReal) (hK : ∀ o k, w (ix2 k o) = K o k) (A : Fin 400 → EReal) (hA : ∀ k, a (ix2 0 k) = A k) (P : ℕ → EReal) (hP : ∀ k : Fin 5, p (ix2 0 k) = P k.val) (bh : EReal) (hb : b (ix2 0 0) = bh) :
    (k0_pay29 (F := Ideal) q (k0_pay20 p) (k0_pay21 b) (k0_pay24 w a) (k0_pay27 w p) (k0_pay28 w) t : FVec Ideal S1x512 .f32) (ix2 0 l)
      = ∑ o : Fin 20, activeV (fun o => eqv (floor2 (hashK K A P bh o)) q) o * t (ix2 o l) := by
  have h6 : ∀ k : Fin 5, (k0_pay20 p : FVec Ideal S1x5 .f32) (ix2 0 k) = P k.val := by
    intro k
    rw [← hP]
    pointwise [k0_pay20]
  have h7 : (k0_pay21 b : FVec Ideal S1x1 .f32) (ix2 0 0) = bh := by
    rw [← hb]
    pointwise [k0_pay21]
  have hKw : K29 w = K := funext fun o => funext fun k => hK o k
  have hAw : ∀ o, (∑ k, K o k * a (ix2 0 k)) = ∑ k, K o k * A k := fun o => Finset.sum_congr rfl fun k _ => by rw [hA]
  rw [k0_pay29_at]
  refine Finset.sum_congr rfl fun o _ => congrArg (fun t => t * _) ?_
  rw [mask29_at]
  refine congrArg (fun e => activeV e o) (funext fun o => ?_)
  rw [eq29_at, hk29_at, k0_pay24_at, k0_pay27_at, k0_pay28_at, h7, hKw, hAw]
  refine congrArg (fun t => eqv (floor2 t) q) ?_
  have g2 := h6 2
  have g3 := h6 3
  have g4 := h6 4
  have g0 := hP 0
  have g1 := hP 1
  unfold hashK tail5
  rw [g0, g1]
  rw [g2, g3, g4]
  rfl

end Cert.KernelBIdeal.Value
-- ==== Proof.QueryB.lean ====
module
public import proofs.«01_k».proof.Proof.Gen.KernelBIdeal.Skeleton
public import proofs.«01_k».proof.Proof.BaseB
public import Idealize.ShloMosaic.Lib.Claim
public import Idealize.ShloMosaic.Lib.Pipeline.ValueKit
public import Idealize.ShloMosaic.Lib.Pointwise
public import Idealize.ShloMosaic.PureOps.Ideal
public import Idealize.ShloMosaic.Lib.StableHlo.RunRead
@[expose] public section
set_option maxRecDepth 16384
noncomputable section
namespace Cert.KernelBIdeal.Value
open Cert.KernelBIdeal Cert.KernelBIdeal.Gen Idealize.ShloMosaic Idealize.ShloMosaic.TcCoe Idealize.SL.Sem
set_option maxHeartbeats 1000000
open Cert.Band

/-- The query hash before its floor, as the sums it computes. -/
theorem pay3_sum (v48 : Vec Ideal S36x128 .f32) (v49 : Vec Ideal S8x36 .f32) (v50 : Vec Ideal S128x15 .f32) (v51 : Vec Ideal S8x15 .f32) (v53 : Vec Ideal S1x5 .f32) (v55 : Vec Ideal S1x1 .f32) : k0_pay3 v48 v49 v50 v51 v53 v55
    = Ideal.div (Ideal.div (∑ q : Fin 15, ∑ d : Fin 8, (∑ l : Fin 128, (∑ r : Fin 36, v49 (ix2 d r) * v48 (ix2 r l)) * v50 (ix2 l q)) * v51 (ix2 d q)) (Ideal.ofBits FTy.f32 1233125376#32))
        (max (Ideal.div (Ideal.sqrt (∑ q : Fin 15, ∑ d : Fin 8, (∑ l : Fin 128, (∑ r : Fin 36, v49 (ix2 d r) * v48 (ix2 r l)) * v50 (ix2 l q)) * (∑ l : Fin 128, (∑ r : Fin 36, v49 (ix2 d r) * v48 (ix2 r l)) * v50 (ix2 l q)))) (Ideal.ofBits FTy.f32 1233125376#32)) (Ideal.ofBits FTy.f32 730643660#32))
      + Ideal.ofBits FTy.f32 1056964608#32 * (∑ p : Fin 5, v53 (ix2 0 p)) + v55 (ix2 0 0) := by
  pointwise [k0_pay3]
  simp only [Finset.univ_unique, Finset.sum_singleton]
  rfl

/-- The query hash before its floor. -/
theorem pay3_at (v48 : Vec Ideal S36x128 .f32) (v49 : Vec Ideal S8x36 .f32) (v50 : Vec Ideal S128x15 .f32) (v51 : Vec Ideal S8x15 .f32) (v53 : Vec Ideal S1x5 .f32) (v55 : Vec Ideal S1x1 .f32) (A : ℕ → ℕ → ℕ → EReal) (P : ℕ → EReal) (bh : EReal)
    (hy : ∀ (d : Fin 8) (r : Fin 36), v49 (ix2 d r) = if d.val < 5 ∧ d.val ≤ r.val ∧ r.val < d.val + 32 then 1 else 0)
    (hx : ∀ (l : Fin 128) (q : Fin 15), v50 (ix2 l q) = if l.val < (32 + 4) * 3 ∧ l.val % 3 = q.val % 3 ∧ q.val / 3 ≤ l.val / 3 ∧ l.val / 3 < q.val / 3 + 32 then 1 else 0)
    (hb : ∀ (d : Fin 8) (q : Fin 15), d.val < 5 → v51 (ix2 d q) = A (q.val % 3) d.val (q.val / 3)) (hp : ∀ p : Fin 5, v53 (ix2 0 p) = P p.val) (hh : v55 (ix2 0 0) = bh) :
    k0_pay3 v48 v49 v50 v51 v53 v55 = hashQ 3 32 32 (fun r x c => rd2 v48 r (x * 3 + c)) A P bh (Ideal.ofBits FTy.f32 1233125376#32) := by
  rw [pay3_sum]
  obtain ⟨e1, e2⟩ := query_fin 3 32 32 128 36 15 rfl (by omega) (by omega) (by omega) (fun (r : Fin 36) (l : Fin 128) => v48 (ix2 r l))
    (fun r l => rd2 v48 r l) (fun r l => at2 v48 r l) (fun d r => v49 (ix2 d r)) hy (fun l q => v50 (ix2 l q)) hx A (fun d q => v51 (ix2 d q)) hb
  rw [e1, e2, hh]
  unfold hashQ
  rw [← Fin.sum_univ_eq_sum_range P 5]
  simp only [hp]

/-- The query hash before its floor, as the sums it computes. -/
theorem pay17_sum (v167 : FVec Ideal S1x384 .f32) (v171 : Vec Ideal S20x384 .f32) (v174 : Vec Ideal S8x20 .f32) (v175 : Vec Ideal S384x80 .f32) (v176 : Vec Ideal S8x80 .f32) (v178 : Vec Ideal S1x5 .f32) (v180 : Vec Ideal S1x1 .f32) : k0_pay17 v167 v171 v174 v175 v176 v178 v180
    = Ideal.div (Ideal.div (∑ q : Fin 80, ∑ d : Fin 8, (∑ l : Fin 384, (∑ r : Fin 20, v174 (ix2 d r) * (v171 (ix2 r l) * v167 (ix2 0 l))) * v175 (ix2 l q)) * v176 (ix2 d q)) (Ideal.ofBits FTy.f32 1216348160#32))
        (max (Ideal.div (Ideal.sqrt (∑ q : Fin 80, ∑ d : Fin 8, (∑ l : Fin 384, (∑ r : Fin 20, v174 (ix2 d r) * (v171 (ix2 r l) * v167 (ix2 0 l))) * v175 (ix2 l q)) * (∑ l : Fin 384, (∑ r : Fin 20, v174 (ix2 d r) * (v171 (ix2 r l) * v167 (ix2 0 l))) * v175 (ix2 l q)))) (Ideal.ofBits FTy.f32 1216348160#32)) (Ideal.ofBits FTy.f32 730643660#32))
      + Ideal.ofBits FTy.f32 1056964608#32 * (∑ p : Fin 5, v178 (ix2 0 p)) + v180 (ix2 0 0) := by
  pointwise [k0_pay17]
  simp only [Finset.univ_unique, Finset.sum_singleton]
  rfl

/-- The query hash before its floor. -/
theorem pay17_at (v167 : FVec Ideal S1x384 .f32) (v171 : Vec Ideal S20x384 .f32) (v174 : Vec Ideal S8x20 .f32) (v175 : Vec Ideal S384x80 .f32) (v176 : Vec Ideal S8x80 .f32) (v178 : Vec Ideal S1x5 .f32) (v180 : Vec Ideal S1x1 .f32) (A : ℕ → ℕ → ℕ → EReal) (P : ℕ → EReal) (bh : EReal)
    (hy : ∀ (d : Fin 8) (r : Fin 20), v174 (ix2 d r) = if d.val < 5 ∧ d.val ≤ r.val ∧ r.val < d.val + 16 then 1 else 0)
    (hx : ∀ (l : Fin 384) (q : Fin 80), v175 (ix2 l q) = if l.val < (16 + 4) * 16 ∧ l.val % 16 = q.val % 16 ∧ q.val / 16 ≤ l.val / 16 ∧ l.val / 16 < q.val / 16 + 16 then 1 else 0)
    (hb : ∀ (d : Fin 8) (q : Fin 80), d.val < 5 → v176 (ix2 d q) = A (q.val % 16) d.val (q.val / 16)) (hp : ∀ p : Fin 5, v178 (ix2 0 p) = P p.val) (hh : v180 (ix2 0 0) = bh) :
    k0_pay17 v167 v171 v174 v175 v176 v178 v180 = hashQ 16 16 16 (fun r x c => rd2 v171 r (x * 16 + c) * rd2 v167 0 (x * 16 + c)) A P bh (Ideal.ofBits FTy.f32 1216348160#32) := by
  rw [pay17_sum]
  obtain ⟨e1, e2⟩ := query_fin 16 16 16 384 20 80 rfl (by omega) (by omega) (by omega) (fun (r : Fin 20) (l : Fin 384) => (v171 (ix2 r l) * v167 (ix2 0 l)))
    (fun r l => rd2 v171 r l * rd2 v167 0 l) (fun r l => congrArg₂ (fun a b : EReal => a * b) (at2 v171 r l) (at2 v167 0 l)) (fun d r => v174 (ix2 d r)) hy (fun l q => v175 (ix2 l q)) hx A (fun d q => v176 (ix2 d q)) hb
  rw [e1, e2, hh]
  unfold hashQ
  rw [← Fin.sum_univ_eq_sum_range P 5]
  simp only [hp]

/-- The floor of the query hash, modulo two. -/
theorem pay4_eq (v : Ideal .f32) : k0_pay4 v (Scalar.ofBits (F := Ideal) .f32 0x3E4CCCCD#32) = floor2 v := rfl

theorem pay18_eq (v : Ideal .f32) : k0_pay18 v (Scalar.ofBits (F := Ideal) .f32 0x3E4CCCCD#32) = floor2 v := rfl

end Cert.KernelBIdeal.Value
-- ==== Proof.BlockB.lean ====
module
public import proofs.«01_k».proof.Proof.Gen.KernelBIdeal.Skeleton
public import proofs.«01_k».proof.Proof.BlockA
public import Idealize.ShloMosaic.Lib.Claim
public import Idealize.ShloMosaic.Lib.Pipeline.ValueKit
public import Idealize.ShloMosaic.Lib.Pointwise
public import Idealize.ShloMosaic.PureOps.Ideal
public import Idealize.ShloMosaic.Lib.StableHlo.RunRead
@[expose] public section
set_option maxRecDepth 16384
noncomputable section
namespace Cert.KernelBIdeal.Value
open Cert.KernelBIdeal Cert.KernelBIdeal.Gen Idealize.ShloMosaic Idealize.ShloMosaic.TcCoe Idealize.SL.Sem
set_option maxHeartbeats 1000000
open Cert.Band

/-- The image block under the first mask's row. -/
def xmT (x0 : FVec Ideal S20x64x384 .f32) (x4 : FVec Ideal S1x384 .f32) : FVec Ideal S20x64x384 .f32 :=
  mulf x0 (broadcastTo S20x64x384 (shapeCast S1x1x384 x4 shapeCasts_S1x384_S1x1x384) broadcasts_S1x1x384_S20x64x384)

/-- Five row offsets of the image side by side along the lanes. -/
def catT (x : FVec Ideal S20x64x384 .f32) : FVec Ideal S16x64x1920 .f32 :=
  concatenate S16x64x1920 2 [⟨S16x64x384, extractStridedSlice S16x64x384 ![0, 0, 0] x slices_S20x64x384_o0_0_0_S16x64x384⟩,
    ⟨S16x64x384, extractStridedSlice S16x64x384 ![1, 0, 0] x slices_S20x64x384_o1_0_0_S16x64x384⟩,
    ⟨S16x64x384, extractStridedSlice S16x64x384 ![2, 0, 0] x slices_S20x64x384_o2_0_0_S16x64x384⟩,
    ⟨S16x64x384, extractStridedSlice S16x64x384 ![3, 0, 0] x slices_S20x64x384_o3_0_0_S16x64x384⟩,
    ⟨S16x64x384, extractStridedSlice S16x64x384 ![4, 0, 0] x slices_S20x64x384_o4_0_0_S16x64x384⟩]
    concatenates_S16x64x384_S16x64x384_S16x64x384_S16x64x384_S16x64x384_S16x64x1920_d2

/-- The convolution's product, bias, mask and rectifier over both column halves. -/
def hT (x : FVec Ideal S20x64x384 .f32) (x1 : FVec Ideal S1920x512 .f32) (x2 x5 : FVec Ideal S1x512 .f32) : FVec Ideal S16x64x512 .f32 :=
  maximumf (mulf (addf (shapeCast S16x64x512 (matmul dot_S1024x1920_S1920x512_S1024x512_1_0_0_1_n_n none (shapeCast S1024x1920 (catT x) shapeCasts_S16x64x1920_S1024x1920)
      (shapeCast S1920x512 x1 shapeCasts_S1920x512_S1920x512) (constant S1024x512 .f32 0x00000000#32)) shapeCasts_S1024x512_S16x64x512)
    (broadcastTo S16x64x512 (shapeCast S1x1x512 (shapeCast S1x512 x2 shapeCasts_S1x512_S1x512) shapeCasts_S1x512_S1x1x512) broadcasts_S1x1x512_S16x64x512))
    (broadcastTo S16x64x512 (shapeCast S1x1x512 x5 shapeCasts_S1x512_S1x1x512) broadcasts_S1x1x512_S16x64x512))
    (broadcast S16x64x512 (Scalar.ofBits .f32 0x00000000#32))

/-- The pooling of the two halves and of row pairs, with two rows of zeros above and below. -/
def poolT (h : FVec Ideal S16x64x512 .f32) : FVec Ideal S12x64x256 .f32 :=
  concatenate S12x64x256 0 [⟨S10x64x256, concatenate S10x64x256 0 [⟨S2x64x256, broadcast S2x64x256 (Scalar.sitofp .f32 0#32)⟩,
    ⟨S8x64x256, multiReduction .maximumf [1] S8x64x256 (shapeCast S8x2x64x256 (maximumf (extractStridedSlice S16x64x256 ![0, 0, 0] h slices_S16x64x512_o0_0_0_S16x64x256)
      (extractStridedSlice S16x64x256 ![0, 0, 256] h slices_S16x64x512_o0_0_256_S16x64x256)) shapeCasts_S16x64x256_S8x2x64x256) 0xFF800000#32 reduces_S8x2x64x256_S8x64x256 (.inl rfl) rfl⟩]
      concatenates_S2x64x256_S8x64x256_S10x64x256_d0⟩, ⟨S2x64x256, broadcast S2x64x256 (Scalar.sitofp .f32 0#32)⟩] concatenates_S10x64x256_S2x64x256_S12x64x256_d0

/-- The block's result in its stages. -/
theorem pay31_eq (x0 : Vec Ideal S20x64x384 .f32) (x4 : Vec Ideal S1x384 .f32) (x1 : Vec Ideal S1920x512 .f32) (x2 x5 : Vec Ideal S1x512 .f32) :
    k0_pay31 x0 x4 x1 x2 x5 = poolT (hT (xmT x0 x4) x1 x2 x5) := rfl

/-- The masked image at a row, an image and a lane. -/
theorem xm_at (x0 : FVec Ideal S20x64x384 .f32) (x4 : FVec Ideal S1x384 .f32) (r : Fin 20) (b : Fin 64) (l : Fin 384) :
    xmT x0 x4 (ix3 r b l) = x0 (ix3 r b l) * x4 (ix2 0 l) := by
  pointwise [xmT]

/-- The laid-out offsets read at an offset and a lane: the image one to four rows down. -/
theorem cat_at (x0 : FVec Ideal S20x64x384 .f32) (r : Fin 16) (b : Fin 64) (dy : Fin 5) (k : Fin 384) :
    catT x0 (ix3 r b ⟨dy * 384 + k, by omega⟩) = x0 (ix3 ⟨dy + r, by omega⟩ b k) := by
  have e : ∀ i : Fin 1920, catT x0 (ix3 r b i) = if h : i.val < 384 then x0 (ix3 ⟨r.val, by omega⟩ b ⟨i.val, h⟩)
      else if h : i.val - 384 < 384 then x0 (ix3 ⟨1 + r.val, by omega⟩ b ⟨i.val - 384, h⟩)
      else if h : i.val - 384 - 384 < 384 then x0 (ix3 ⟨2 + r.val, by omega⟩ b ⟨i.val - 384 - 384, h⟩)
      else if h : i.val - 384 - 384 - 384 < 384 then x0 (ix3 ⟨3 + r.val, by omega⟩ b ⟨i.val - 384 - 384 - 384, h⟩)
      else x0 (ix3 ⟨4 + r.val, by omega⟩ b ⟨i.val - 384 - 384 - 384 - 384, by omega⟩) := by
    intro i; pointwise [catT]
  have hk : ∀ (n s : ℕ) (h : n < 384) (hs : s < 20), n = k.val → s = dy.val + r.val → x0 (ix3 ⟨s, hs⟩ b ⟨n, h⟩) = x0 (ix3 ⟨dy + r, by omega⟩ b k) :=
    fun n s h hs e1 e2 => by congr 2 <;> exact Fin.ext (by assumption)
  rw [e]
  obtain ⟨d, hd⟩ := dy
  rcases (by omega : d = 0 ∨ d = 1 ∨ d = 2 ∨ d = 3 ∨ d = 4) with rfl | rfl | rfl | rfl | rfl
  · rw [dif_pos (by show 0 * 384 + k.val < 384; omega)]
    exact hk _ _ _ _ (by show 0 * 384 + k.val = k.val; omega) (by show r.val = 0 + r.val; omega)
  · rw [dif_neg (by show ¬ 1 * 384 + k.val < 384; omega), dif_pos (by show 1 * 384 + k.val - 384 < 384; omega)]
    exact hk _ _ _ _ (by show 1 * 384 + k.val - 384 = k.val; omega) rfl
  · rw [dif_neg (by show ¬ 2 * 384 + k.val < 384; omega), dif_neg (by show ¬ 2 * 384 + k.val - 384 < 384; omega), dif_pos (by show 2 * 384 + k.val - 384 - 384 < 384; omega)]
    exact hk _ _ _ _ (by show 2 * 384 + k.val - 384 - 384 = k.val; omega) rfl
  · rw [dif_neg (by show ¬ 3 * 384 + k.val < 384; omega), dif_neg (by show ¬ 3 * 384 + k.val - 384 < 384; omega), dif_neg (by show ¬ 3 * 384 + k.val - 384 - 384 < 384; omega),
      dif_pos (by show 3 * 384 + k.val - 384 - 384 - 384 < 384; omega)]
    exact hk _ _ _ _ (by show 3 * 384 + k.val - 384 - 384 - 384 = k.val; omega) rfl
  · rw [dif_neg (by show ¬ 4 * 384 + k.val < 384; omega), dif_neg (by show ¬ 4 * 384 + k.val - 384 < 384; omega), dif_neg (by show ¬ 4 * 384 + k.val - 384 - 384 < 384; omega),
      dif_neg (by show ¬ 4 * 384 + k.val - 384 - 384 - 384 < 384; omega)]
    exact hk _ _ _ _ (by show 4 * 384 + k.val - 384 - 384 - 384 - 384 = k.val; omega) rfl

/-- The product's stage read at a row, an image and a column. -/
theorem hT_at (x0 : FVec Ideal S20x64x384 .f32) (x1 : FVec Ideal S1920x512 .f32) (x2 x5 : FVec Ideal S1x512 .f32) (r : Fin 16) (b : Fin 64) (i : Fin 512) :
    hT x0 x1 x2 x5 (ix3 r b i) = max ((∑ x : Fin 1920, catT x0 (ix3 r b x) * x1 (ix2 x i) + x2 (ix2 0 i)) * x5 (ix2 0 i)) 0 := by
  pointwise [hT]

/-- The pooling read at a row, an image and a lane. -/
theorem pool_at (h : FVec Ideal S16x64x512 .f32) (r : Fin 12) (b : Fin 64) (l : Fin 256) :
    poolT h (ix3 r b l) = if g : 2 ≤ r.val ∧ r.val < 10 then
      max (max (h (ix3 ⟨2 * (r.val - 2), by omega⟩ b ⟨l.val, by omega⟩)) (h (ix3 ⟨2 * (r.val - 2), by omega⟩ b ⟨256 + l.val, by omega⟩)))
        (max (h (ix3 ⟨2 * (r.val - 2) + 1, by omega⟩ b ⟨l.val, by omega⟩)) (h (ix3 ⟨2 * (r.val - 2) + 1, by omega⟩ b ⟨256 + l.val, by omega⟩))) else 0 := by
  have e : poolT h (ix3 r b l) = if g : r.val < 10 then if g : r.val < 2 then (((0#32 : BitVec 32).toInt : ℝ) : EReal) else
      Finset.fold max (Ideal.ofBits FTy.f32 4286578688#32) (fun x : Fin 2 => max (h (ix3 ⟨(r.val - 2) * 2 + x.val, by omega⟩ b ⟨l.val, by omega⟩))
        (h (ix3 ⟨(r.val - 2) * 2 + x.val, by omega⟩ b ⟨256 + l.val, by omega⟩))) Finset.univ else (((0#32 : BitVec 32).toInt : ℝ) : EReal) := by
    pointwise [poolT]
  have hz : (((0#32 : BitVec 32).toInt : ℝ) : EReal) = 0 := by simp
  have hk : ∀ (s s' : ℕ) (hs : s < 16) (hs' : s' < 16) (c : Fin 512), s = s' → h (ix3 ⟨s, hs⟩ b c) = h (ix3 ⟨s', hs'⟩ b c) := fun s s' hs hs' c e => by subst e; rfl
  rw [e, hz]
  by_cases g1 : r.val < 10
  · by_cases g2 : r.val < 2
    · rw [dif_pos g1, dif_pos g2, dif_neg (by omega)]
    · rw [dif_pos g1, dif_neg g2, dif_pos ⟨by omega, g1⟩, Cert.KernelAIdeal.Value.fold2]
      refine congrArg₂ max (congrArg₂ max (hk _ _ _ _ _ ?_) (hk _ _ _ _ _ ?_)) (congrArg₂ max (hk _ _ _ _ _ ?_) (hk _ _ _ _ _ ?_))
      · show (r.val - 2) * 2 + 0 = 2 * (r.val - 2); omega
      · show (r.val - 2) * 2 + 0 = 2 * (r.val - 2); omega
      · show (r.val - 2) * 2 + 1 = 2 * (r.val - 2) + 1; omega
      · show (r.val - 2) * 2 + 1 = 2 * (r.val - 2) + 1; omega
  · rw [dif_neg g1, dif_neg (by omega)]

/-- The product's stage of an image against the bands: the convolution, biased, masked and rectified, in the columns the bands stand in. -/
theorem h_at (G : ℕ → ℕ → ℕ → EReal) (wv : ℕ → ℕ → ℕ → ℕ → EReal) (bv mv : ℕ → EReal) (x0 : FVec Ideal S20x64x384 .f32) (x1 : FVec Ideal S1920x512 .f32) (x2 x5 : FVec Ideal S1x512 .f32)
    (b : Fin 64) (h0 : ∀ (r : Fin 20) (l : Fin 384), l.val < 320 → x0 (ix3 r b l) = G r (l / 16) (l % 16))
    (h1 : ∀ (dy : Fin 5) (k : Fin 384) (c : Fin 512), x1 (ix2 ⟨dy * 384 + k, by omega⟩ c)
      = if 40 ≤ c.val % 256 ∧ c.val % 256 < 200 then band 16 20 wv dy k (2 * ((c.val % 256 - 40) / 20) + c.val / 256) ((c.val % 256 - 40) % 20) else 0)
    (h2 : ∀ c : Fin 512, x2 (ix2 0 c) = if 40 ≤ c.val % 256 ∧ c.val % 256 < 200 then bv ((c.val % 256 - 40) % 20) else 0)
    (h5 : ∀ c : Fin 512, x5 (ix2 0 c) = if 40 ≤ c.val % 256 ∧ c.val % 256 < 200 then mv ((c.val % 256 - 40) % 20) else 0) (r : Fin 16) (c : Fin 512) :
    hT x0 x1 x2 x5 (ix3 r b c) = if 40 ≤ c.val % 256 ∧ c.val % 256 < 200 then
      max ((conv 16 G wv r (2 * ((c.val % 256 - 40) / 20) + c.val / 256) ((c.val % 256 - 40) % 20) + bv ((c.val % 256 - 40) % 20)) * mv ((c.val % 256 - 40) % 20)) 0 else 0 := by
  rw [hT_at, h2, h5, Fin.sum_univ_tiles 5 384 rfl]
  by_cases h : 40 ≤ c.val % 256 ∧ c.val % 256 < 200
  · rw [if_pos h, if_pos h, if_pos h]
    congr 3
    unfold conv
    rw [Finset.sum_range]
    refine Finset.sum_congr rfl fun dy _ => ?_
    rw [← band_row 16 20 384 (by omega) (by omega) (fun l => if hl : l < 384 then x0 (ix3 ⟨dy + r, by omega⟩ b ⟨l, hl⟩) else 0) (fun j ch => G (r + dy) j ch) wv dy _ _ (by omega)
      (fun j ch hj hch => ?_), Finset.sum_range]
    · refine Finset.sum_congr rfl fun k _ => ?_
      rw [cat_at, h1, if_pos h, dif_pos k.isLt]
    · rw [dif_pos (by omega), h0 _ _ (by show j * 16 + ch < 320; omega)]
      show G (dy + r) ((j * 16 + ch) / 16) ((j * 16 + ch) % 16) = _
      congr 1 <;> omega
  · rw [if_neg h, if_neg h, if_neg h, mul_zero, max_self]

/-- The block's result of an image against the bands: the rectified convolution pooled, in the lanes that hold it. -/
theorem y_at (G : ℕ → ℕ → ℕ → EReal) (wv : ℕ → ℕ → ℕ → ℕ → EReal) (bv mv : ℕ → EReal) (x0 : FVec Ideal S20x64x384 .f32) (x4 : FVec Ideal S1x384 .f32) (x1 : FVec Ideal S1920x512 .f32) (x2 x5 : FVec Ideal S1x512 .f32)
    (b : Fin 64) (h0 : ∀ (r : Fin 20) (l : Fin 384), l.val < 320 → x0 (ix3 r b l) * x4 (ix2 0 l) = G r (l / 16) (l % 16))
    (h1 : ∀ (dy : Fin 5) (k : Fin 384) (c : Fin 512), x1 (ix2 ⟨dy * 384 + k, by omega⟩ c)
      = if 40 ≤ c.val % 256 ∧ c.val % 256 < 200 then band 16 20 wv dy k (2 * ((c.val % 256 - 40) / 20) + c.val / 256) ((c.val % 256 - 40) % 20) else 0)
    (h2 : ∀ c : Fin 512, x2 (ix2 0 c) = if 40 ≤ c.val % 256 ∧ c.val % 256 < 200 then bv ((c.val % 256 - 40) % 20) else 0)
    (h5 : ∀ c : Fin 512, x5 (ix2 0 c) = if 40 ≤ c.val % 256 ∧ c.val % 256 < 200 then mv ((c.val % 256 - 40) % 20) else 0) (r : Fin 12) (l : Fin 256) :
    k0_pay31 (F := Ideal) x0 x4 x1 x2 x5 (ix3 r b l) = if 2 ≤ r.val ∧ r.val < 10 ∧ 40 ≤ l.val ∧ l.val < 200 then
      pool4 (fun i j => max ((conv 16 G wv i j ((l.val - 40) % 20) + bv ((l.val - 40) % 20)) * mv ((l.val - 40) % 20)) 0) (r - 2) ((l.val - 40) / 20) else 0 := by
  rw [pay31_eq, pool_at]
  have h0' : ∀ (r : Fin 20) (l : Fin 384), l.val < 320 → xmT x0 x4 (ix3 r b l) = G r (l / 16) (l % 16) := fun r l hl => (xm_at x0 x4 r b l).trans (h0 r l hl)
  by_cases hr : 2 ≤ r.val ∧ r.val < 10
  · rw [dif_pos hr, h_at G wv bv mv _ x1 x2 x5 b h0' h1 h2 h5, h_at G wv bv mv _ x1 x2 x5 b h0' h1 h2 h5, h_at G wv bv mv _ x1 x2 x5 b h0' h1 h2 h5, h_at G wv bv mv _ x1 x2 x5 b h0' h1 h2 h5]
    have e1 : l.val % 256 = l.val := by omega
    have e2 : (256 + l.val) % 256 = l.val := by omega
    have e3 : l.val / 256 = 0 := by omega
    have e4 : (256 + l.val) / 256 = 1 := by omega
    simp only [e1, e2, e3, e4]
    by_cases hl : 40 ≤ l.val ∧ l.val < 200
    · rw [if_pos hl, if_pos hl, if_pos hl, if_pos hl, if_pos ⟨hr.1, hr.2, hl.1, hl.2⟩]
      rfl
    · rw [if_neg hl, if_neg hl, if_neg hl, if_neg hl, if_neg (by omega)]
      simp
  · rw [dif_neg hr, if_neg (by omega)]

/-- The block's sum over its images. -/
theorem pay1_at (p : Vec Ideal S12x64x256 .f32) (r : Fin 12) (l : Fin 256) : (k0_pay1 p : FVec Ideal S12x256 .f32) (ix2 r l) = ∑ b : Fin 64, p (ix3 r b l) := by
  pointwise [k0_pay1]

/-- The accumulating sum. -/
theorem pay2_at (p : Vec Ideal S12x64x256 .f32) (a : Vec Ideal S12x256 .f32) (r : Fin 12) (l : Fin 256) :
    k0_pay2 p a (ix2 r l) = a (ix2 r l) + ∑ b : Fin 64, p (ix3 r b l) := by
  pointwise [k0_pay2, k0_pay1]

end Cert.KernelBIdeal.Value
-- ==== Proof.SpecB.lean ====
module

public import proofs.«01_k».proof.Proof.BaseB

@[expose] public section

noncomputable section

namespace Cert.Band

open Idealize.ShloMosaic

/-- The first layer's active channels: those whose filter falls into the bucket of the image sums. -/
def M1 (w : (⟨4, ![16, 3, 5, 5]⟩ : Shape).Idx → EReal) (a : (⟨1, ![80]⟩ : Shape).Idx → EReal) (h : (⟨0, ![]⟩ : Shape).Idx → EReal) (s : (⟨2, ![36, 128]⟩ : Shape).Idx → EReal) (o : Fin 16) : EReal :=
  activeV (fun o : Fin 16 => eqv (floor2 (hashK (fun (o : Fin 16) (k : Fin 75) => rd4 w o (k.val / 25) (k.val / 5 % 5) (k.val % 5)) (fun k => rd1 a k.val) (fun p => rd1 a (75 + p)) (rd0 h) o))
    (floor2 (hashQ 3 32 32 (fun r x c => rd2 s r (x * 3 + c)) (fun c dy dx => rd1 a (c * 25 + dy * 5 + dx)) (fun p => rd1 a (75 + p)) (rd0 h) (Ideal.ofBits FTy.f32 1233125376#32)))) o

/-- The same by a channel's number. -/
def M1N (w : (⟨4, ![16, 3, 5, 5]⟩ : Shape).Idx → EReal) (a : (⟨1, ![80]⟩ : Shape).Idx → EReal) (h : (⟨0, ![]⟩ : Shape).Idx → EReal) (s : (⟨2, ![36, 128]⟩ : Shape).Idx → EReal) (o : ℕ) : EReal :=
  if e : o < 16 then M1 w a h s ⟨o, e⟩ else 0

/-- The second layer's active channels, from the first layer's sums `s` with their inactive channels set to zero by `M`. -/
def M2 (w : (⟨4, ![20, 16, 5, 5]⟩ : Shape).Idx → EReal) (a : (⟨1, ![405]⟩ : Shape).Idx → EReal) (h : (⟨0, ![]⟩ : Shape).Idx → EReal) (s : (⟨2, ![20, 384]⟩ : Shape).Idx → EReal) (M : ℕ → EReal) (o : Fin 20) : EReal :=
  activeV (fun o : Fin 20 => eqv (floor2 (hashK (fun (o : Fin 20) (k : Fin 400) => rd4 w o (k.val / 25) (k.val / 5 % 5) (k.val % 5)) (fun k => rd1 a k.val) (fun p => rd1 a (400 + p)) (rd0 h) o))
    (floor2 (hashQ 16 16 16 (fun r x c => rd2 s r (x * 16 + c) * M c) (fun c dy dx => rd1 a (c * 25 + dy * 5 + dx)) (fun p => rd1 a (400 + p)) (rd0 h) (Ideal.ofBits FTy.f32 1216348160#32)))) o

/-- The same by a channel's number. -/
def M2N (w : (⟨4, ![20, 16, 5, 5]⟩ : Shape).Idx → EReal) (a : (⟨1, ![405]⟩ : Shape).Idx → EReal) (h : (⟨0, ![]⟩ : Shape).Idx → EReal) (s : (⟨2, ![20, 384]⟩ : Shape).Idx → EReal) (M : ℕ → EReal) (o : ℕ) : EReal :=
  if e : o < 20 then M2 w a h s M ⟨o, e⟩ else 0

/-- The second layer's result: the masked, rectified and pooled convolution of image `b`, at a padded row and a lane. -/
def Y2 (y : (⟨3, ![20, 1024, 384]⟩ : Shape).Idx → EReal) (w : (⟨4, ![20, 16, 5, 5]⟩ : Shape).Idx → EReal) (v : (⟨1, ![20]⟩ : Shape).Idx → EReal) (M N : ℕ → EReal) (b r l : ℕ) : EReal :=
  if 2 ≤ r ∧ r < 10 ∧ 40 ≤ l ∧ l < 200 then
    pool4 (fun i j => max ((conv 16 (fun r x c => rd3 y r b (x * 16 + c) * M c) (fun o c dy dx => rd4 w o c dy dx) i j ((l - 40) % 20) + rd1 v ((l - 40) % 20)) * N ((l - 40) % 20)) 0)
      (r - 2) ((l - 40) / 20) else 0

/-- The hash of the image sums uses the sums inside the windows only. -/
theorem hashQ_congr (C H W : ℕ) (s s' : ℕ → ℕ → ℕ → EReal) (A : ℕ → ℕ → ℕ → EReal) (P : ℕ → EReal) (bh cnt : EReal)
    (h : ∀ r x c, r < H + 4 → x < W + 4 → c < C → s r x c = s' r x c) : hashQ C H W s A P bh cnt = hashQ C H W s' A P bh cnt := by
  have e : ∀ dx ∈ Finset.range 5, ∀ dy ∈ Finset.range 5, ∀ c ∈ Finset.range C, winS H W s dx dy c = winS H W s' dx dy c := by
    intro dx hx dy hy c hc
    have hx := Finset.mem_range.1 hx
    have hy := Finset.mem_range.1 hy
    unfold winS
    refine Finset.sum_congr rfl fun j hj => Finset.sum_congr rfl fun i hi => ?_
    have hj := Finset.mem_range.1 hj
    have hi := Finset.mem_range.1 hi
    exact h _ _ _ (by omega) (by omega) (Finset.mem_range.1 hc)
  unfold hashQ
  have e1 : (∑ dx ∈ Finset.range 5, ∑ dy ∈ Finset.range 5, ∑ c ∈ Finset.range C, winS H W s dx dy c * A c dy dx)
      = ∑ dx ∈ Finset.range 5, ∑ dy ∈ Finset.range 5, ∑ c ∈ Finset.range C, winS H W s' dx dy c * A c dy dx :=
    Finset.sum_congr rfl fun dx hx => Finset.sum_congr rfl fun dy hy => Finset.sum_congr rfl fun c hc => by rw [e dx hx dy hy c hc]
  have e2 : (∑ dx ∈ Finset.range 5, ∑ dy ∈ Finset.range 5, ∑ c ∈ Finset.range C, winS H W s dx dy c * winS H W s dx dy c)
      = ∑ dx ∈ Finset.range 5, ∑ dy ∈ Finset.range 5, ∑ c ∈ Finset.range C, winS H W s' dx dy c * winS H W s' dx dy c :=
    Finset.sum_congr rfl fun dx hx => Finset.sum_congr rfl fun dy hy => Finset.sum_congr rfl fun c hc => by rw [e dx hx dy hy c hc]
  rw [e1, e2]

end Cert.Band
-- ==== Proof.MaskB.lean ====
module
public import proofs.«01_k».proof.Proof.Gen.KernelBIdeal.Value
public import proofs.«01_k».proof.Proof.BlkB
public import proofs.«01_k».proof.Proof.ReadB1
public import proofs.«01_k».proof.Proof.ReadB2
public import proofs.«01_k».proof.Proof.ReadB3
public import proofs.«01_k».proof.Proof.HashB
public import proofs.«01_k».proof.Proof.HashB2
public import proofs.«01_k».proof.Proof.QueryB
public import proofs.«01_k».proof.Proof.BlockB
public import proofs.«01_k».proof.Proof.SpecB
public import Idealize.ShloMosaic.Lib.Claim
public import Idealize.ShloMosaic.Lib.Pipeline.ValueKit
public import Idealize.ShloMosaic.Lib.Pointwise
public import Idealize.ShloMosaic.PureOps.Ideal
@[expose] public section
set_option maxRecDepth 16384
noncomputable section
namespace Cert.KernelBIdeal.Value
open Cert.KernelBIdeal Cert.KernelBIdeal.Gen Idealize.ShloMosaic Idealize.ShloMosaic.TcCoe Idealize.SL.Sem
variable (m : (ℓ : Loc nD τ sig) → Buf (Elt Ideal) ℓ)
set_option maxHeartbeats 4000000
open Cert.Band

/-- The first mask's number of a channel. -/
abbrev mA (c : Dev nD) : ℕ → EReal := M1N (wM m c) (aM m c) (hM m c) (tM m c)
/-- The second mask's number of a channel. -/
abbrev mB (c : Dev nD) : ℕ → EReal := M2N (uM m c) (dM m c) (kM m c) (sM m c) (mA m c)

/-- The query of the first layer at a point. -/
theorem q1_at (c : Dev nD) (t : Fin cfg0.N) :
    k0_pay3 (F := Ideal) (iblk m c 3 t) (iblk m c 9 t) (iblk m c 10 t) (iblk m c 11 t) (iblk m c 7 t) (iblk m c 8 t)
      = hashQ 3 32 32 (fun r x k => rd2 (tM m c) r (x * 3 + k)) (fun k dy dx => rd1 (aM m c) (k * 25 + dy * 5 + dx)) (fun p => rd1 (aM m c) (75 + p)) (rd0 (hM m c)) (Ideal.ofBits FTy.f32 1233125376#32) := by
  have e3 : (iblk m c 3 t : FVec Ideal S36x128 .f32) = tM m c := by
    funext i
    obtain ⟨r, l, rfl⟩ := exists_ix2 i
    exact blk3 m _ c (V_arg2 m c) t r l
  rw [e3]
  refine pay3_at _ _ _ _ _ _ (fun k dy dx => rd1 (aM m c) (k * 25 + dy * 5 + dx)) (fun p => rd1 (aM m c) (75 + p)) (rd0 (hM m c)) (fun d r => ?_) (fun l q => ?_) (fun d q hd => ?_) (fun p => ?_) ?_
  · exact (blk9 m _ c (V_cst m c) t _ _).trans (ys1_at _ _)
  · exact (blk10 m _ c (V_cst_3 m c) t _ _).trans (xs1_at _ _)
  · rw [blk11 m _ c (V_v317 m c), m1_at _ d q hd]
  · rw [blk7 m _ c (V_v334 m c), p1_at]
  · rw [blk8 m _ c (V_v337 m c), b1_at]

/-- The first mask's row as a point computes it. -/
def row1 (c : Dev nD) (t : Fin cfg0.N) : FVec Ideal S1x384 .f32 :=
  k0_pay15 (F := Ideal) (k0_pay4 (k0_pay3 (F := Ideal) (iblk m c 3 t) (iblk m c 9 t) (iblk m c 10 t) (iblk m c 11 t) (iblk m c 7 t) (iblk m c 8 t)) (Scalar.ofBits .f32 0x3E4CCCCD#32))
    (k0_pay6 (iblk m c 7 t)) (k0_pay7 (iblk m c 8 t)) (k0_pay10 (iblk m c 5 t) (iblk m c 6 t)) (k0_pay13 (iblk m c 5 t) (iblk m c 7 t)) (k0_pay14 (iblk m c 5 t)) (iblk m c 12 t)

theorem row1_at (c : Dev nD) (t : Fin cfg0.N) (l : Fin 384) : row1 m c t (ix2 0 l) = if l.val < 320 then mA m c (l.val % 16) else 0 := by
  unfold row1
  rw [q1_at, pay4_eq]
  refine (k0_pay15_mask _ _ _ _ _ _ l (fun (o : Fin 16) (k : Fin 75) => rd4 (wM m c) o (k.val / 25) (k.val / 5 % 5) (k.val % 5)) (fun o k => ?_) (fun k => rd1 (aM m c) k.val) (fun k => ?_)
    (fun p => rd1 (aM m c) (75 + p)) (fun k => ?_) (rd0 (hM m c)) ?_).trans ?_
  · rw [blk5 m _ c (V_v326 m c), w1_at]
  · rw [blk6 m _ c (V_v330 m c), a1_at]
  · rw [blk7 m _ c (V_v334 m c), p1_at]
  · rw [blk8 m _ c (V_v337 m c), b1_at]
  · refine spread _ (mA m c) (fun o => ?_) _ (l.val < 320) (l.val % 16) (by omega) (fun o => ?_)
    · show M1 (wM m c) (aM m c) (hM m c) (tM m c) o = M1N (wM m c) (aM m c) (hM m c) (tM m c) o.val
      unfold M1N
      rw [dif_pos o.isLt]
    · rw [blk12 m _ c (V_v348 m c), tin_at]

/-- The query of the second layer at a point. -/
theorem q2_at (c : Dev nD) (t : Fin cfg0.N) :
    k0_pay17 (F := Ideal) (row1 m c t) (iblk m c 4 t) (iblk m c 17 t) (iblk m c 18 t) (iblk m c 19 t) (iblk m c 15 t) (iblk m c 16 t)
      = hashQ 16 16 16 (fun r x k => rd2 (sM m c) r (x * 16 + k) * mA m c k) (fun k dy dx => rd1 (dM m c) (k * 25 + dy * 5 + dx)) (fun p => rd1 (dM m c) (400 + p)) (rd0 (kM m c)) (Ideal.ofBits FTy.f32 1216348160#32) := by
  have e4 : (iblk m c 4 t : FVec Ideal S20x384 .f32) = sM m c := by
    funext i
    obtain ⟨r, l, rfl⟩ := exists_ix2 i
    exact blk4 m _ c (V_arg1 m c) t r l
  rw [e4]
  refine (pay17_at _ _ _ _ _ _ _ (fun k dy dx => rd1 (dM m c) (k * 25 + dy * 5 + dx)) (fun p => rd1 (dM m c) (400 + p)) (rd0 (kM m c)) (fun d r => ?_) (fun l q => ?_) (fun d q hd => ?_) (fun p => ?_) ?_).trans ?_
  · exact (blk17 m _ c (V_cst_4 m c) t _ _).trans (ys2_at _ _)
  · exact (blk18 m _ c (V_cst_5 m c) t _ _).trans (xs2_at _ _)
  · rw [blk19 m _ c (V_v324 m c), m2_at _ d q hd]
  · rw [blk15 m _ c (V_v336 m c), p2_at]
  · rw [blk16 m _ c (V_v338 m c), b2_at]
  · refine hashQ_congr 16 16 16 _ _ _ _ _ _ fun r x k hr hx hk => ?_
    refine congrArg (fun z => rd2 (sM m c) r (x * 16 + k) * z) ?_
    have e := row1_at m c t ⟨x * 16 + k, by omega⟩
    refine (at2 (row1 m c t) 0 ⟨x * 16 + k, by omega⟩).symm.trans (e.trans ?_)
    show (if x * 16 + k < 320 then mA m c ((x * 16 + k) % 16) else 0) = _
    rw [if_pos (by omega), show (x * 16 + k) % 16 = k by omega]

/-- The second mask's row as a point computes it. -/
def row2 (c : Dev nD) (t : Fin cfg0.N) : FVec Ideal S1x512 .f32 :=
  k0_pay29 (F := Ideal) (k0_pay18 (k0_pay17 (F := Ideal) (row1 m c t) (iblk m c 4 t) (iblk m c 17 t) (iblk m c 18 t) (iblk m c 19 t) (iblk m c 15 t) (iblk m c 16 t)) (Scalar.ofBits .f32 0x3E4CCCCD#32))
    (k0_pay20 (iblk m c 15 t)) (k0_pay21 (iblk m c 16 t)) (k0_pay24 (iblk m c 13 t) (iblk m c 14 t)) (k0_pay27 (iblk m c 13 t) (iblk m c 15 t)) (k0_pay28 (iblk m c 13 t)) (iblk m c 20 t)

theorem row2_at (c : Dev nD) (t : Fin cfg0.N) (l : Fin 512) : row2 m c t (ix2 0 l) = if 40 ≤ l.val % 256 ∧ l.val % 256 < 200 then mB m c ((l.val % 256 - 40) % 20) else 0 := by
  unfold row2
  rw [q2_at, pay18_eq]
  refine (k0_pay29_mask _ _ _ _ _ _ l (fun (o : Fin 20) (k : Fin 400) => rd4 (uM m c) o (k.val / 25) (k.val / 5 % 5) (k.val % 5)) (fun o k => ?_) (fun k => rd1 (dM m c) k.val) (fun k => ?_)
    (fun p => rd1 (dM m c) (400 + p)) (fun k => ?_) (rd0 (kM m c)) ?_).trans ?_
  · rw [blk13 m _ c (V_v328 m c), w2_at]
  · rw [blk14 m _ c (V_v332 m c), a2_at]
  · rw [blk15 m _ c (V_v336 m c), p2_at]
  · rw [blk16 m _ c (V_v338 m c), b2_at]
  · refine spread _ (mB m c) (fun o => ?_) _ (40 ≤ l.val % 256 ∧ l.val % 256 < 200) ((l.val % 256 - 40) % 20) (by omega) (fun o => ?_)
    · show M2 (uM m c) (dM m c) (kM m c) (sM m c) (mA m c) o = M2N (uM m c) (dM m c) (kM m c) (sM m c) (mA m c) o.val
      unfold M2N
      rw [dif_pos o.isLt]
    · rw [blk20 m _ c (V_v363 m c), tout_at]

end Cert.KernelBIdeal.Value
-- ==== Proof.ValueB.lean ====
module
public import proofs.«01_k».proof.Proof.Gen.KernelBIdeal.Value
public import proofs.«01_k».proof.Proof.MaskB
public import Idealize.ShloMosaic.Lib.Claim
public import Idealize.ShloMosaic.Lib.Pipeline.ValueKit
public import Idealize.ShloMosaic.Lib.Pipeline.ReadBack
public import Idealize.ShloMosaic.Lib.Pointwise
public import Idealize.ShloMosaic.PureOps.Ideal
@[expose] public section
set_option maxRecDepth 16384
noncomputable section
namespace Cert.KernelBIdeal.Value
open Cert.KernelBIdeal Cert.KernelBIdeal.Gen Idealize.ShloMosaic Idealize.ShloMosaic.TcCoe Idealize.SL.Sem
variable (m : (ℓ : Loc nD τ sig) → Buf (Elt Ideal) ℓ)
set_option maxHeartbeats 400000
open Cert.Band

/-- The store of the first mask's row keeps its value. -/
theorem pay16_eq (q : Ideal .f32) (a : FVec Ideal S1x5 .f32) (b : FVec Ideal S1x1 .f32) (v w x : FVec Ideal S1x16 .f32) (t : Vec Ideal S16x384 .f32) (l : Fin 384) :
    (k0_pay16 q a b v w x t : FVec Ideal S1x384 .f32) (ix2 0 l) = k0_pay15 q a b v w x t (ix2 0 l) := by
  pointwise [k0_pay16]

/-- The store of the second mask's row keeps its value. -/
theorem pay30_eq (v : FVec Ideal S1x512 .f32) (l : Fin 512) : (k0_pay30 v : FVec Ideal S1x512 .f32) (ix2 0 l) = v (ix2 0 l) := by
  pointwise [k0_pay30]

/-- What the first scratch row holds after a point. -/
theorem scr1 (c : Dev nD) : ∀ (n : ℕ) (hn : n < cfg0.N) (l : Fin 384), (outsAt0 m c n hn).2.2.1 (ix2 0 l) = if l.val < 320 then mA m c (l.val % 16) else 0 := by
  intro n
  induction n with
  | zero =>
    intro hn l
    rw [outsAt0_A m c ⟨0, hn⟩ rfl rfl (by simp)]
    dsimp only
    frame_out
    refine (pay16_eq _ _ _ _ _ _ _ l).trans ?_
    exact row1_at m c ⟨0, hn⟩ l
  | succ n ih =>
    intro hn l
    have hN : n + 1 < 16 := lt_of_lt_of_eq hn (show cfg0.N = 16 from N_0)
    rw [outsAt0_B m c ⟨n + 1, hn⟩ (by simp only; omega) (by simp only; omega) (by simp only; omega)]
    exact ih (by omega) l

/-- What the second scratch row holds after a point. -/
theorem scr2 (c : Dev nD) : ∀ (n : ℕ) (hn : n < cfg0.N) (l : Fin 512), (outsAt0 m c n hn).2.2.2 (ix2 0 l) = if 40 ≤ l.val % 256 ∧ l.val % 256 < 200 then mB m c ((l.val % 256 - 40) % 20) else 0 := by
  intro n
  induction n with
  | zero =>
    intro hn l
    rw [outsAt0_A m c ⟨0, hn⟩ rfl rfl (by simp)]
    dsimp only
    frame_out
    refine (pay30_eq _ l).trans ?_
    exact row2_at m c ⟨0, hn⟩ l
  | succ n ih =>
    intro hn l
    have hN : n + 1 < 16 := lt_of_lt_of_eq hn (show cfg0.N = 16 from N_0)
    rw [outsAt0_B m c ⟨n + 1, hn⟩ (by simp only; omega) (by simp only; omega) (by simp only; omega)]
    exact ih (by omega) l

/-- A point's block of the first result, from the two mask rows it uses. -/
theorem y_pt (c : Dev nD) (t : Fin cfg0.N) (x4 : FVec Ideal S1x384 .f32) (x5 : FVec Ideal S1x512 .f32) (h4 : ∀ l : Fin 384, x4 (ix2 0 l) = if l.val < 320 then mA m c (l.val % 16) else 0)
    (h5 : ∀ l : Fin 512, x5 (ix2 0 l) = if 40 ≤ l.val % 256 ∧ l.val % 256 < 200 then mB m c ((l.val % 256 - 40) % 20) else 0) (r : Fin 12) (b : Fin 64) (l : Fin 256) :
    k0_pay31 (F := Ideal) (iblk m c 0 t) x4 (iblk m c 1 t) (iblk m c 2 t) x5 (ix3 r b l) = Y2 (yM m c) (uM m c) (vM m c) (mA m c) (mB m c) (t.val * 64 + b.val) r l := by
  have hN : t.val < 16 := lt_of_lt_of_eq t.isLt (show cfg0.N = 16 from N_0)
  refine (y_at (fun r x k => rd3 (yM m c) r (t.val * 64 + b.val) (x * 16 + k) * mA m c k) (wN (uM m c)) (rd1 (vM m c)) (mB m c) _ _ _ _ _ b (fun r l hl => ?_) (fun dy k j => ?_) (fun j => ?_) h5 r l).trans rfl
  · rw [blk0 m _ c (V_arg0 m c) t r b l (by omega), h4, if_pos hl]
    refine congrArg (fun z => z * mA m c (l.val % 16)) ?_
    rw [show l.val / 16 * 16 + l.val % 16 = l.val by omega]
    exact at3 (yM m c) r ⟨t.val * 64 + b.val, by omega⟩ l
  · rw [blk1 m _ c (V_v297 m c), bf_at]
  · rw [blk2 m _ c (V_v310 m c), bt_at]

/-- The first result array of the call. -/
theorem arr21 (c : Dev nD) : (dats m 0 c).arrAt 21 (cfgs 0).N
    = ((fun i => Y2 (yM m c) (uM m c) (vM m c) (mA m c) (mB m c) (i 1).val (i 0).val (i 2).val) : FVec Ideal S12x1024x256 .f32) := by
  refine (dats m 0 c).arrAt_eq_of_covers 21 _ (by decide +kernel) fun t _ y => ?_
  blk_simp
  rw [after0_21]
  have hN : t.val < 16 := lt_of_lt_of_eq t.isLt (show cfg0.N = 16 from N_0)
  have e : win0_21.index t = ![0, t.val, 0] := (idx t).2.2.2.2.2.2.2.2.2.2.2.2.2.2.2.2.2.2.2.2.2
  have hg : ∀ (x4 : FVec Ideal S1x384 .f32) (x5 : FVec Ideal S1x512 .f32) (_ : ∀ l : Fin 384, x4 (ix2 0 l) = if l.val < 320 then mA m c (l.val % 16) else 0)
      (_ : ∀ l : Fin 512, x5 (ix2 0 l) = if 40 ≤ l.val % 256 ∧ l.val % 256 < 200 then mB m c ((l.val % 256 - 40) % 20) else 0) (y : S12x64x256.Idx),
      k0_pay31 (F := Ideal) (iblk m c 0 t) x4 (iblk m c 1 t) (iblk m c 2 t) x5 y
      = Y2 (yM m c) (uM m c) (vM m c) (mA m c) (mB m c) (win0_21.index t 1 * 64 + (y 1).val) (win0_21.index t 0 * 12 + (y 0).val) (win0_21.index t 2 * 256 + (y 2).val) := by
    intro x4 x5 h4 h5 y
    obtain ⟨r, b, l, rfl⟩ : ∃ (r : Fin 12) (b : Fin 64) (l : Fin 256), y = ix3 r b l :=
      ⟨y 0, y 1, y 2, by funext a; match a with | ⟨0, _⟩ => rfl | ⟨1, _⟩ => rfl | ⟨2, _⟩ => rfl⟩
    rw [y_pt m c t x4 x5 h4 h5, e]
    show Y2 _ _ _ _ _ (t.val * 64 + b.val) r.val l.val = Y2 _ _ _ _ _ (t.val * 64 + b.val) (0 * 12 + r.val) (0 * 256 + l.val)
    simp only [Nat.zero_mul, Nat.zero_add]
  by_cases h0 : t.val % 16 = 0
  · rw [outsAt0_A m c t h0 h0 (by omega)]
    frame_out
    exact hg _ _ (fun l => (pay16_eq _ _ _ _ _ _ _ l).trans (row1_at m c t l)) (fun l => (pay30_eq _ l).trans (row2_at m c t l)) y
  · rw [outsAt0_B m c t h0 h0 (by omega)]
    frame_out
    exact hg _ _ (fun l => (congrFun (read_unread_whole _ _ _) _).trans (scr1 m c _ _ l)) (fun l => (congrFun (read_unread_whole _ _ _) _).trans (scr2 m c _ _ l)) y

/-- The second: the first's sum over the images. -/
theorem arr22 (c : Dev nD) : (dats m 0 c).arrAt 22 (cfgs 0).N
    = ((fun i => ∑ b : Fin 1024, Y2 (yM m c) (uM m c) (vM m c) (mA m c) (mB m c) b.val (i 0).val (i 1).val) : FVec Ideal S12x256 .f32) := by
  refine (dats m 0 c).arrAt_eq_of_after_last 22 t0_15 (by decide +kernel) _ fun j => ?_
  blk_simp
  obtain ⟨r, l, rfl⟩ : ∃ (r : Fin 12) (l : Fin 256), j = ix2 r l := exists_ix2 j
  rw [after0_22, Pipeline.eq_sum_fin_of_reset_step_apply_last (fun n h => fun _ : Unit => (outsAt0 m c n h).2.1 (ix2 r l)) 16 (fun _ => 0)
    (fun p _ => ∑ b : Fin 64, Y2 (yM m c) (uM m c) (vM m c) (mA m c) (mB m c) (p.val * 64 + b.val) r l)
    (fun t h _ => by
      have hN : t.val < 16 := lt_of_lt_of_eq t.isLt (show cfg0.N = 16 from N_0)
      rw [outsAt0_A m c t h h (by omega)]; frame_out; rw [zero_add]
      refine (pay1_at _ r l).trans (Finset.sum_congr rfl fun b _ => ?_)
      exact y_pt m c t _ _ (fun l => (pay16_eq _ _ _ _ _ _ _ l).trans (row1_at m c t l)) (fun l => (pay30_eq _ l).trans (row2_at m c t l)) r b l)
    (fun t h _ => by
      have hN : t.val < 16 := lt_of_lt_of_eq t.isLt (show cfg0.N = 16 from N_0)
      rw [outsAt0_B m c t h h (by omega)]; frame_out
      refine (pay2_at _ _ r l).trans (congrArg _ (Finset.sum_congr rfl fun b _ => ?_))
      exact y_pt m c t _ _ (fun l => (congrFun (read_unread_whole _ _ _) _).trans (scr1 m c _ _ l)) (fun l => (congrFun (read_unread_whole _ _ _) _).trans (scr2 m c _ _ l)) r b l)
    (le_of_eq N_0) t0_15 rfl (), zero_add]
  refine Fin.sum_mul_add_congr fun p b hl => ?_
  rfl

end Cert.KernelBIdeal.Value
-- ==== Proof.RefOpsB.lean ====
module
public import proofs.«01_k».proof.Proof.Gen.ReferenceBIdeal
public import proofs.«01_k».proof.Proof.Base
public import Idealize.ShloMosaic.Lib.Claim
public import Idealize.ShloMosaic.Lib.Pointwise
public import Idealize.ShloMosaic.PureOps.Ideal
public import Idealize.ShloMosaic.Lib.StableHlo.RunRead
@[expose] public section
set_option maxRecDepth 16384
set_option maxHeartbeats 4000000
noncomputable section
namespace Cert.ReferenceBIdeal.Value
open Cert.ReferenceBIdeal Cert.ReferenceBIdeal.Gen Idealize.ShloMosaic Idealize.ShloMosaic.TcCoe Idealize.SL.Sem Idealize.ShloMosaic.StableHlo

theorem scopedRefs_eq : (Finset.univ.filter fun b : Ref sig .tc => b.isScoped) = ∅ := by decide
theorem scopedSems_eq : (Finset.univ.filter fun sm : SemLoc sig => sm.isScoped .tc) = ∅ := by decide

variable {F : FTy → Type} [FloatOps F]

/-- A run of the reference's operations. -/
abbrev ops0_0 : List (HloOp τ sig (Elt F)) :=
  [ reshape main_arg3 main_v0 (rfl : (.f32 : EltTy) = .f32) shapeCasts_S16x3x5x5_S16x75,
    binary main_v0 main_v0 main_v1 (mulf : (⟨S16x75, .f32⟩ : BufTy).Contents (Elt F) → (⟨S16x75, .f32⟩ : BufTy).Contents (Elt F) → (⟨S16x75, .f32⟩ : BufTy).Contents (Elt F)),
    nullary main_cst (constant S_ .f32 0x00000000#32),
    binary main_v1 main_cst main_v2 ((fun x v => Host.reduceAdd x v reducesTo_S16x75_S16_d1 h_S_) : (⟨S16x75, .f32⟩ : BufTy).Contents (Elt F) → (⟨S_, .f32⟩ : BufTy).Contents (Elt F) → (⟨S16, .f32⟩ : BufTy).Contents (Elt F)),
    unary main_v2 main_v3 (Host.sqrt : (⟨S16, .f32⟩ : BufTy).Contents (Elt F) → (⟨S16, .f32⟩ : BufTy).Contents (Elt F)),
    nullary main_cst_0 (constant S_ .f32 0xFF800000#32),
    binary main_v3 main_cst_0 main_v4 ((fun x v => Host.reduce FloatOps.maximumf x v reducesTo_S16_S_d0 h_S_) : (⟨S16, .f32⟩ : BufTy).Contents (Elt F) → (⟨S_, .f32⟩ : BufTy).Contents (Elt F) → (⟨S_, .f32⟩ : BufTy).Contents (Elt F)),
    nullary main_cst_1 (constant S_ .f32 0x2B8CBCCC#32),
    binary main_v4 main_cst_1 main_v5 (maximumf : (⟨S_, .f32⟩ : BufTy).Contents (Elt F) → (⟨S_, .f32⟩ : BufTy).Contents (Elt F) → (⟨S_, .f32⟩ : BufTy).Contents (Elt F)),
    nullary main_cst_2 (constant S_ .f32 0x3F400000#32),
    binary main_cst_2 main_v5 main_v6 (Host.divf : (⟨S_, .f32⟩ : BufTy).Contents (Elt F) → (⟨S_, .f32⟩ : BufTy).Contents (Elt F) → (⟨S_, .f32⟩ : BufTy).Contents (Elt F)),
    binary main_v0 main_v0 main_v7 (mulf : (⟨S16x75, .f32⟩ : BufTy).Contents (Elt F) → (⟨S16x75, .f32⟩ : BufTy).Contents (Elt F) → (⟨S16x75, .f32⟩ : BufTy).Contents (Elt F)),
    nullary main_cst_3 (constant S_ .f32 0x00000000#32),
    binary main_v7 main_cst_3 main_v8 ((fun x v => Host.reduceAdd x v reducesTo_S16x75_S16_d1 h_S_) : (⟨S16x75, .f32⟩ : BufTy).Contents (Elt F) → (⟨S_, .f32⟩ : BufTy).Contents (Elt F) → (⟨S16, .f32⟩ : BufTy).Contents (Elt F)),
    unary main_v8 main_v9 (Host.sqrt : (⟨S16, .f32⟩ : BufTy).Contents (Elt F) → (⟨S16, .f32⟩ : BufTy).Contents (Elt F)),
    unary main_v6 main_v10 (broadcastInDim S16 ![] bcast_S_S16 : (⟨S_, .f32⟩ : BufTy).Contents (Elt F) → (⟨S16, .f32⟩ : BufTy).Contents (Elt F)),
    binary main_v9 main_v10 main_v11 (mulf : (⟨S16, .f32⟩ : BufTy).Contents (Elt F) → (⟨S16, .f32⟩ : BufTy).Contents (Elt F) → (⟨S16, .f32⟩ : BufTy).Contents (Elt F)) ]

theorem ops0_0_sub : (ops0_0 : List (HloOp τ sig (Elt F))).Forall fun op => op.bufs ⊆ tcRefs τ sig :=
  ⟨reshape_bufs_sub .., binary_bufs_sub .., nullary_bufs_sub .., binary_bufs_sub .., unary_bufs_sub .., nullary_bufs_sub .., binary_bufs_sub .., nullary_bufs_sub .., binary_bufs_sub .., nullary_bufs_sub .., binary_bufs_sub .., binary_bufs_sub .., nullary_bufs_sub .., binary_bufs_sub .., unary_bufs_sub .., unary_bufs_sub .., binary_bufs_sub ..⟩

theorem ops0_0_fresh : ∀ op ∈ (ops0_0 : List (HloOp τ sig (Elt F))), op.fresh = ∅ := by
  intro _ h; (repeat (cases h with | head => rfl | tail _ h => ?_)); exact nomatch h

/-- A run of the reference's operations. -/
abbrev ops0_1 : List (HloOp τ sig (Elt F)) :=
  [ binary main_v11 main_v11 main_v12 (mulf : (⟨S16, .f32⟩ : BufTy).Contents (Elt F) → (⟨S16, .f32⟩ : BufTy).Contents (Elt F) → (⟨S16, .f32⟩ : BufTy).Contents (Elt F)),
    unary main_arg4 main_v13 ((extractStridedSlice S1 ![75] · slices_S80_S1_75) : (⟨S80, .f32⟩ : BufTy).Contents (Elt F) → (⟨S1, .f32⟩ : BufTy).Contents (Elt F)),
    unary main_v13 main_v14 (broadcastInDim S16 ![0] bcast_S1_S16_0 : (⟨S1, .f32⟩ : BufTy).Contents (Elt F) → (⟨S16, .f32⟩ : BufTy).Contents (Elt F)),
    binary main_v12 main_v14 main_v15 (mulf : (⟨S16, .f32⟩ : BufTy).Contents (Elt F) → (⟨S16, .f32⟩ : BufTy).Contents (Elt F) → (⟨S16, .f32⟩ : BufTy).Contents (Elt F)),
    binary main_v12 main_v12 main_v16 (mulf : (⟨S16, .f32⟩ : BufTy).Contents (Elt F) → (⟨S16, .f32⟩ : BufTy).Contents (Elt F) → (⟨S16, .f32⟩ : BufTy).Contents (Elt F)),
    unary main_arg4 main_v17 ((extractStridedSlice S1 ![76] · slices_S80_S1_76) : (⟨S80, .f32⟩ : BufTy).Contents (Elt F) → (⟨S1, .f32⟩ : BufTy).Contents (Elt F)),
    unary main_v17 main_v18 (broadcastInDim S16 ![0] bcast_S1_S16_0 : (⟨S1, .f32⟩ : BufTy).Contents (Elt F) → (⟨S16, .f32⟩ : BufTy).Contents (Elt F)),
    binary main_v16 main_v18 main_v19 (mulf : (⟨S16, .f32⟩ : BufTy).Contents (Elt F) → (⟨S16, .f32⟩ : BufTy).Contents (Elt F) → (⟨S16, .f32⟩ : BufTy).Contents (Elt F)),
    binary main_v15 main_v19 main_v20 (addf : (⟨S16, .f32⟩ : BufTy).Contents (Elt F) → (⟨S16, .f32⟩ : BufTy).Contents (Elt F) → (⟨S16, .f32⟩ : BufTy).Contents (Elt F)),
    binary main_v16 main_v16 main_v21 (mulf : (⟨S16, .f32⟩ : BufTy).Contents (Elt F) → (⟨S16, .f32⟩ : BufTy).Contents (Elt F) → (⟨S16, .f32⟩ : BufTy).Contents (Elt F)),
    unary main_arg4 main_v22 ((extractStridedSlice S1 ![77] · slices_S80_S1_77) : (⟨S80, .f32⟩ : BufTy).Contents (Elt F) → (⟨S1, .f32⟩ : BufTy).Contents (Elt F)),
    unary main_v22 main_v23 (broadcastInDim S16 ![0] bcast_S1_S16_0 : (⟨S1, .f32⟩ : BufTy).Contents (Elt F) → (⟨S16, .f32⟩ : BufTy).Contents (Elt F)),
    binary main_v21 main_v23 main_v24 (mulf : (⟨S16, .f32⟩ : BufTy).Contents (Elt F) → (⟨S16, .f32⟩ : BufTy).Contents (Elt F) → (⟨S16, .f32⟩ : BufTy).Contents (Elt F)),
    binary main_v20 main_v24 main_v25 (addf : (⟨S16, .f32⟩ : BufTy).Contents (Elt F) → (⟨S16, .f32⟩ : BufTy).Contents (Elt F) → (⟨S16, .f32⟩ : BufTy).Contents (Elt F)),
    binary main_v21 main_v21 main_v26 (mulf : (⟨S16, .f32⟩ : BufTy).Contents (Elt F) → (⟨S16, .f32⟩ : BufTy).Contents (Elt F) → (⟨S16, .f32⟩ : BufTy).Contents (Elt F)),
    unary main_arg4 main_v27 ((extractStridedSlice S1 ![78] · slices_S80_S1_78) : (⟨S80, .f32⟩ : BufTy).Contents (Elt F) → (⟨S1, .f32⟩ : BufTy).Contents (Elt F)),
    unary main_v27 main_v28 (broadcastInDim S16 ![0] bcast_S1_S16_0 : (⟨S1, .f32⟩ : BufTy).Contents (Elt F) → (⟨S16, .f32⟩ : BufTy).Contents (Elt F)),
    binary main_v26 main_v28 main_v29 (mulf : (⟨S16, .f32⟩ : BufTy).Contents (Elt F) → (⟨S16, .f32⟩ : BufTy).Contents (Elt F) → (⟨S16, .f32⟩ : BufTy).Contents (Elt F)),
    binary main_v25 main_v29 main_v30 (addf : (⟨S16, .f32⟩ : BufTy).Contents (Elt F) → (⟨S16, .f32⟩ : BufTy).Contents (Elt F) → (⟨S16, .f32⟩ : BufTy).Contents (Elt F)),
    binary main_v26 main_v26 main_v31 (mulf : (⟨S16, .f32⟩ : BufTy).Contents (Elt F) → (⟨S16, .f32⟩ : BufTy).Contents (Elt F) → (⟨S16, .f32⟩ : BufTy).Contents (Elt F)),
    unary main_arg4 main_v32 ((extractStridedSlice S1 ![79] · slices_S80_S1_79) : (⟨S80, .f32⟩ : BufTy).Contents (Elt F) → (⟨S1, .f32⟩ : BufTy).Contents (Elt F)),
    unary main_v32 main_v33 (broadcastInDim S16 ![0] bcast_S1_S16_0 : (⟨S1, .f32⟩ : BufTy).Contents (Elt F) → (⟨S16, .f32⟩ : BufTy).Contents (Elt F)),
    binary main_v31 main_v33 main_v34 (mulf : (⟨S16, .f32⟩ : BufTy).Contents (Elt F) → (⟨S16, .f32⟩ : BufTy).Contents (Elt F) → (⟨S16, .f32⟩ : BufTy).Contents (Elt F)),
    binary main_v30 main_v34 main_v35 (addf : (⟨S16, .f32⟩ : BufTy).Contents (Elt F) → (⟨S16, .f32⟩ : BufTy).Contents (Elt F) → (⟨S16, .f32⟩ : BufTy).Contents (Elt F)),
    unary main_arg4 main_v36 ((extractStridedSlice S75 ![0] · slices_S80_S75_0) : (⟨S80, .f32⟩ : BufTy).Contents (Elt F) → (⟨S75, .f32⟩ : BufTy).Contents (Elt F)),
    binary main_v0 main_v36 main_v37 ((fun l r => Host.dotGeneral dot_S16x75_S75_S16_1_0_0_n_n_n none l r) : (⟨S16x75, .f32⟩ : BufTy).Contents (Elt F) → (⟨S75, .f32⟩ : BufTy).Contents (Elt F) → (⟨S16, .f32⟩ : BufTy).Contents (Elt F)),
    unary main_v6 main_v38 (broadcastInDim S16 ![] bcast_S_S16 : (⟨S_, .f32⟩ : BufTy).Contents (Elt F) → (⟨S16, .f32⟩ : BufTy).Contents (Elt F)),
    binary main_v37 main_v38 main_v39 (mulf : (⟨S16, .f32⟩ : BufTy).Contents (Elt F) → (⟨S16, .f32⟩ : BufTy).Contents (Elt F) → (⟨S16, .f32⟩ : BufTy).Contents (Elt F)),
    binary main_v39 main_v35 main_v40 (addf : (⟨S16, .f32⟩ : BufTy).Contents (Elt F) → (⟨S16, .f32⟩ : BufTy).Contents (Elt F) → (⟨S16, .f32⟩ : BufTy).Contents (Elt F)),
    unary main_arg5 main_v41 (broadcastInDim S16 ![] bcast_S_S16 : (⟨S_, .f32⟩ : BufTy).Contents (Elt F) → (⟨S16, .f32⟩ : BufTy).Contents (Elt F)),
    binary main_v40 main_v41 main_v42 (addf : (⟨S16, .f32⟩ : BufTy).Contents (Elt F) → (⟨S16, .f32⟩ : BufTy).Contents (Elt F) → (⟨S16, .f32⟩ : BufTy).Contents (Elt F)) ]

theorem ops0_1_sub : (ops0_1 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., unary_bufs_sub .., binary_bufs_sub .., unary_bufs_sub .., binary_bufs_sub .., binary_bufs_sub .., unary_bufs_sub .., binary_bufs_sub ..⟩

theorem ops0_1_fresh : ∀ op ∈ (ops0_1 : List (HloOp τ sig (Elt F))), op.fresh = ∅ := by
  intro _ h; (repeat (cases h with | head => rfl | tail _ h => ?_)); exact nomatch h

/-- A run of the reference's operations. -/
abbrev ops0_2 : List (HloOp τ sig (Elt F)) :=
  [ nullary main_cst_4 (constant S_ .f32 0x3E4CCCCD#32),
    unary main_cst_4 main_v43 (broadcastInDim S16 ![] bcast_S_S16 : (⟨S_, .f32⟩ : BufTy).Contents (Elt F) → (⟨S16, .f32⟩ : BufTy).Contents (Elt F)),
    binary main_v42 main_v43 main_v44 (Host.divf : (⟨S16, .f32⟩ : BufTy).Contents (Elt F) → (⟨S16, .f32⟩ : BufTy).Contents (Elt F) → (⟨S16, .f32⟩ : BufTy).Contents (Elt F)),
    unary main_v44 main_v45 (Host.floor : (⟨S16, .f32⟩ : BufTy).Contents (Elt F) → (⟨S16, .f32⟩ : BufTy).Contents (Elt F)),
    nullary main_cst_5 (constant S_ .f32 0x40000000#32),
    unary main_cst_5 main_v46 (broadcastInDim S16 ![] bcast_S_S16 : (⟨S_, .f32⟩ : BufTy).Contents (Elt F) → (⟨S16, .f32⟩ : BufTy).Contents (Elt F)),
    binary main_v45 main_v46 main_v47 (Host.divf : (⟨S16, .f32⟩ : BufTy).Contents (Elt F) → (⟨S16, .f32⟩ : BufTy).Contents (Elt F) → (⟨S16, .f32⟩ : BufTy).Contents (Elt F)),
    unary main_v47 main_v48 (Host.floor : (⟨S16, .f32⟩ : BufTy).Contents (Elt F) → (⟨S16, .f32⟩ : BufTy).Contents (Elt F)),
    nullary main_cst_6 (constant S_ .f32 0x40000000#32),
    unary main_cst_6 main_v49 (broadcastInDim S16 ![] bcast_S_S16 : (⟨S_, .f32⟩ : BufTy).Contents (Elt F) → (⟨S16, .f32⟩ : BufTy).Contents (Elt F)),
    binary main_v49 main_v48 main_v50 (mulf : (⟨S16, .f32⟩ : BufTy).Contents (Elt F) → (⟨S16, .f32⟩ : BufTy).Contents (Elt F) → (⟨S16, .f32⟩ : BufTy).Contents (Elt F)),
    binary main_v45 main_v50 main_v51 (subf : (⟨S16, .f32⟩ : BufTy).Contents (Elt F) → (⟨S16, .f32⟩ : BufTy).Contents (Elt F) → (⟨S16, .f32⟩ : BufTy).Contents (Elt F)) ]

theorem ops0_2_sub : (ops0_2 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., unary_bufs_sub .., nullary_bufs_sub .., unary_bufs_sub .., binary_bufs_sub .., binary_bufs_sub ..⟩

theorem ops0_2_fresh : ∀ op ∈ (ops0_2 : List (HloOp τ sig (Elt F))), op.fresh = ∅ := by
  intro _ h; (repeat (cases h with | head => rfl | tail _ h => ?_)); exact nomatch h

/-- A run of the reference's operations. -/
abbrev ops1_3 : List (HloOp τ sig (Elt F)) :=
  [ unary main_arg2 main_v52 ((extractStridedSlice S36x108 ![0, 0] · slices_S36x128_S36x108_0_0) : (⟨S36x128, .f32⟩ : BufTy).Contents (Elt F) → (⟨S36x108, .f32⟩ : BufTy).Contents (Elt F)),
    reshape main_v52 main_v53 (rfl : (.f32 : EltTy) = .f32) shapeCasts_S36x108_S36x36x3,
    unary main_arg4 main_v54 ((extractStridedSlice S75 ![0] · slices_S80_S75_0) : (⟨S80, .f32⟩ : BufTy).Contents (Elt F) → (⟨S75, .f32⟩ : BufTy).Contents (Elt F)),
    reshape main_v54 main_v55 (rfl : (.f32 : EltTy) = .f32) shapeCasts_S75_S3x5x5,
    unary main_v53 main_v56 ((extractStridedSlice S32x36x3 ![0, 0, 0] · slices_S36x36x3_S32x36x3_0_0_0) : (⟨S36x36x3, .f32⟩ : BufTy).Contents (Elt F) → (⟨S32x36x3, .f32⟩ : BufTy).Contents (Elt F)),
    nullary main_cst_7 (constant S_ .f32 0x00000000#32),
    binary main_v56 main_cst_7 main_v57 ((fun x v => Host.reduceAdd x v reducesTo_S32x36x3_S36x3_d0 h_S_) : (⟨S32x36x3, .f32⟩ : BufTy).Contents (Elt F) → (⟨S_, .f32⟩ : BufTy).Contents (Elt F) → (⟨S36x3, .f32⟩ : BufTy).Contents (Elt F)),
    unary main_v53 main_v58 ((extractStridedSlice S32x36x3 ![1, 0, 0] · slices_S36x36x3_S32x36x3_1_0_0) : (⟨S36x36x3, .f32⟩ : BufTy).Contents (Elt F) → (⟨S32x36x3, .f32⟩ : BufTy).Contents (Elt F)),
    nullary main_cst_8 (constant S_ .f32 0x00000000#32),
    binary main_v58 main_cst_8 main_v59 ((fun x v => Host.reduceAdd x v reducesTo_S32x36x3_S36x3_d0 h_S_) : (⟨S32x36x3, .f32⟩ : BufTy).Contents (Elt F) → (⟨S_, .f32⟩ : BufTy).Contents (Elt F) → (⟨S36x3, .f32⟩ : BufTy).Contents (Elt F)),
    unary main_v53 main_v60 ((extractStridedSlice S32x36x3 ![2, 0, 0] · slices_S36x36x3_S32x36x3_2_0_0) : (⟨S36x36x3, .f32⟩ : BufTy).Contents (Elt F) → (⟨S32x36x3, .f32⟩ : BufTy).Contents (Elt F)),
    nullary main_cst_9 (constant S_ .f32 0x00000000#32),
    binary main_v60 main_cst_9 main_v61 ((fun x v => Host.reduceAdd x v reducesTo_S32x36x3_S36x3_d0 h_S_) : (⟨S32x36x3, .f32⟩ : BufTy).Contents (Elt F) → (⟨S_, .f32⟩ : BufTy).Contents (Elt F) → (⟨S36x3, .f32⟩ : BufTy).Contents (Elt F)),
    unary main_v53 main_v62 ((extractStridedSlice S32x36x3 ![3, 0, 0] · slices_S36x36x3_S32x36x3_3_0_0) : (⟨S36x36x3, .f32⟩ : BufTy).Contents (Elt F) → (⟨S32x36x3, .f32⟩ : BufTy).Contents (Elt F)),
    nullary main_cst_10 (constant S_ .f32 0x00000000#32),
    binary main_v62 main_cst_10 main_v63 ((fun x v => Host.reduceAdd x v reducesTo_S32x36x3_S36x3_d0 h_S_) : (⟨S32x36x3, .f32⟩ : BufTy).Contents (Elt F) → (⟨S_, .f32⟩ : BufTy).Contents (Elt F) → (⟨S36x3, .f32⟩ : BufTy).Contents (Elt F)),
    unary main_v53 main_v64 ((extractStridedSlice S32x36x3 ![4, 0, 0] · slices_S36x36x3_S32x36x3_4_0_0) : (⟨S36x36x3, .f32⟩ : BufTy).Contents (Elt F) → (⟨S32x36x3, .f32⟩ : BufTy).Contents (Elt F)),
    nullary main_cst_11 (constant S_ .f32 0x00000000#32),
    binary main_v64 main_cst_11 main_v65 ((fun x v => Host.reduceAdd x v reducesTo_S32x36x3_S36x3_d0 h_S_) : (⟨S32x36x3, .f32⟩ : BufTy).Contents (Elt F) → (⟨S_, .f32⟩ : BufTy).Contents (Elt F) → (⟨S36x3, .f32⟩ : BufTy).Contents (Elt F)),
    unary main_v57 main_v66 (broadcastInDim S1x36x3 ![1, 2] bcast_S36x3_S1x36x3_1_2 : (⟨S36x3, .f32⟩ : BufTy).Contents (Elt F) → (⟨S1x36x3, .f32⟩ : BufTy).Contents (Elt F)),
    unary main_v59 main_v67 (broadcastInDim S1x36x3 ![1, 2] bcast_S36x3_S1x36x3_1_2 : (⟨S36x3, .f32⟩ : BufTy).Contents (Elt F) → (⟨S1x36x3, .f32⟩ : BufTy).Contents (Elt F)),
    unary main_v61 main_v68 (broadcastInDim S1x36x3 ![1, 2] bcast_S36x3_S1x36x3_1_2 : (⟨S36x3, .f32⟩ : BufTy).Contents (Elt F) → (⟨S1x36x3, .f32⟩ : BufTy).Contents (Elt F)),
    unary main_v63 main_v69 (broadcastInDim S1x36x3 ![1, 2] bcast_S36x3_S1x36x3_1_2 : (⟨S36x3, .f32⟩ : BufTy).Contents (Elt F) → (⟨S1x36x3, .f32⟩ : BufTy).Contents (Elt F)),
    unary main_v65 main_v70 (broadcastInDim S1x36x3 ![1, 2] bcast_S36x3_S1x36x3_1_2 : (⟨S36x3, .f32⟩ : BufTy).Contents (Elt F) → (⟨S1x36x3, .f32⟩ : BufTy).Contents (Elt F)),
    nary ![main_v66, main_v67, main_v68, main_v69, main_v70] main_v71 (fun u => (concatenate S5x36x3 0 [⟨S1x36x3, (u 0 : (⟨S1x36x3, .f32⟩ : BufTy).Contents (Elt F))⟩, ⟨S1x36x3, (u 1 : (⟨S1x36x3, .f32⟩ : BufTy).Contents (Elt F))⟩, ⟨S1x36x3, (u 2 : (⟨S1x36x3, .f32⟩ : BufTy).Contents (Elt F))⟩, ⟨S1x36x3, (u 3 : (⟨S1x36x3, .f32⟩ : BufTy).Contents (Elt F))⟩, ⟨S1x36x3, (u 4 : (⟨S1x36x3, .f32⟩ : BufTy).Contents (Elt F))⟩] concatenates_S1x36x3_S1x36x3_S1x36x3_S1x36x3_S1x36x3_S5x36x3_d0 : (⟨S5x36x3, .f32⟩ : BufTy).Contents (Elt F))),
    unary main_v71 main_v72 ((extractStridedSlice S5x32x3 ![0, 0, 0] · slices_S5x36x3_S5x32x3_0_0_0) : (⟨S5x36x3, .f32⟩ : BufTy).Contents (Elt F) → (⟨S5x32x3, .f32⟩ : BufTy).Contents (Elt F)),
    nullary main_cst_12 (constant S_ .f32 0x00000000#32),
    binary main_v72 main_cst_12 main_v73 ((fun x v => Host.reduceAdd x v reducesTo_S5x32x3_S5x3_d1 h_S_) : (⟨S5x32x3, .f32⟩ : BufTy).Contents (Elt F) → (⟨S_, .f32⟩ : BufTy).Contents (Elt F) → (⟨S5x3, .f32⟩ : BufTy).Contents (Elt F)),
    unary main_v71 main_v74 ((extractStridedSlice S5x32x3 ![0, 1, 0] · slices_S5x36x3_S5x32x3_0_1_0) : (⟨S5x36x3, .f32⟩ : BufTy).Contents (Elt F) → (⟨S5x32x3, .f32⟩ : BufTy).Contents (Elt F)),
    nullary main_cst_13 (constant S_ .f32 0x00000000#32),
    binary main_v74 main_cst_13 main_v75 ((fun x v => Host.reduceAdd x v reducesTo_S5x32x3_S5x3_d1 h_S_) : (⟨S5x32x3, .f32⟩ : BufTy).Contents (Elt F) → (⟨S_, .f32⟩ : BufTy).Contents (Elt F) → (⟨S5x3, .f32⟩ : BufTy).Contents (Elt F)),
    unary main_v71 main_v76 ((extractStridedSlice S5x32x3 ![0, 2, 0] · slices_S5x36x3_S5x32x3_0_2_0) : (⟨S5x36x3, .f32⟩ : BufTy).Contents (Elt F) → (⟨S5x32x3, .f32⟩ : BufTy).Contents (Elt F)),
    nullary main_cst_14 (constant S_ .f32 0x00000000#32),
    binary main_v76 main_cst_14 main_v77 ((fun x v => Host.reduceAdd x v reducesTo_S5x32x3_S5x3_d1 h_S_) : (⟨S5x32x3, .f32⟩ : BufTy).Contents (Elt F) → (⟨S_, .f32⟩ : BufTy).Contents (Elt F) → (⟨S5x3, .f32⟩ : BufTy).Contents (Elt F)),
    unary main_v71 main_v78 ((extractStridedSlice S5x32x3 ![0, 3, 0] · slices_S5x36x3_S5x32x3_0_3_0) : (⟨S5x36x3, .f32⟩ : BufTy).Contents (Elt F) → (⟨S5x32x3, .f32⟩ : BufTy).Contents (Elt F)),
    nullary main_cst_15 (constant S_ .f32 0x00000000#32),
    binary main_v78 main_cst_15 main_v79 ((fun x v => Host.reduceAdd x v reducesTo_S5x32x3_S5x3_d1 h_S_) : (⟨S5x32x3, .f32⟩ : BufTy).Contents (Elt F) → (⟨S_, .f32⟩ : BufTy).Contents (Elt F) → (⟨S5x3, .f32⟩ : BufTy).Contents (Elt F)),
    unary main_v71 main_v80 ((extractStridedSlice S5x32x3 ![0, 4, 0] · slices_S5x36x3_S5x32x3_0_4_0) : (⟨S5x36x3, .f32⟩ : BufTy).Contents (Elt F) → (⟨S5x32x3, .f32⟩ : BufTy).Contents (Elt F)),
    nullary main_cst_16 (constant S_ .f32 0x00000000#32),
    binary main_v80 main_cst_16 main_v81 ((fun x v => Host.reduceAdd x v reducesTo_S5x32x3_S5x3_d1 h_S_) : (⟨S5x32x3, .f32⟩ : BufTy).Contents (Elt F) → (⟨S_, .f32⟩ : BufTy).Contents (Elt F) → (⟨S5x3, .f32⟩ : BufTy).Contents (Elt F)),
    unary main_v73 main_v82 (broadcastInDim S1x5x3 ![1, 2] bcast_S5x3_S1x5x3_1_2 : (⟨S5x3, .f32⟩ : BufTy).Contents (Elt F) → (⟨S1x5x3, .f32⟩ : BufTy).Contents (Elt F)),
    unary main_v75 main_v83 (broadcastInDim S1x5x3 ![1, 2] bcast_S5x3_S1x5x3_1_2 : (⟨S5x3, .f32⟩ : BufTy).Contents (Elt F) → (⟨S1x5x3, .f32⟩ : BufTy).Contents (Elt F)),
    unary main_v77 main_v84 (broadcastInDim S1x5x3 ![1, 2] bcast_S5x3_S1x5x3_1_2 : (⟨S5x3, .f32⟩ : BufTy).Contents (Elt F) → (⟨S1x5x3, .f32⟩ : BufTy).Contents (Elt F)),
    unary main_v79 main_v85 (broadcastInDim S1x5x3 ![1, 2] bcast_S5x3_S1x5x3_1_2 : (⟨S5x3, .f32⟩ : BufTy).Contents (Elt F) → (⟨S1x5x3, .f32⟩ : BufTy).Contents (Elt F)),
    unary main_v81 main_v86 (broadcastInDim S1x5x3 ![1, 2] bcast_S5x3_S1x5x3_1_2 : (⟨S5x3, .f32⟩ : BufTy).Contents (Elt F) → (⟨S1x5x3, .f32⟩ : BufTy).Contents (Elt F)),
    nary ![main_v82, main_v83, main_v84, main_v85, main_v86] main_v87 (fun u => (concatenate S5x5x3 0 [⟨S1x5x3, (u 0 : (⟨S1x5x3, .f32⟩ : BufTy).Contents (Elt F))⟩, ⟨S1x5x3, (u 1 : (⟨S1x5x3, .f32⟩ : BufTy).Contents (Elt F))⟩, ⟨S1x5x3, (u 2 : (⟨S1x5x3, .f32⟩ : BufTy).Contents (Elt F))⟩, ⟨S1x5x3, (u 3 : (⟨S1x5x3, .f32⟩ : BufTy).Contents (Elt F))⟩, ⟨S1x5x3, (u 4 : (⟨S1x5x3, .f32⟩ : BufTy).Contents (Elt F))⟩] concatenates_S1x5x3_S1x5x3_S1x5x3_S1x5x3_S1x5x3_S5x5x3_d0 : (⟨S5x5x3, .f32⟩ : BufTy).Contents (Elt F))) ]

theorem ops1_3_sub : (ops1_3 : List (HloOp τ sig (Elt F))).Forall fun op => op.bufs ⊆ tcRefs τ sig :=
  ⟨unary_bufs_sub .., reshape_bufs_sub .., unary_bufs_sub .., reshape_bufs_sub .., unary_bufs_sub .., nullary_bufs_sub .., binary_bufs_sub .., unary_bufs_sub .., nullary_bufs_sub .., binary_bufs_sub .., unary_bufs_sub .., nullary_bufs_sub .., binary_bufs_sub .., unary_bufs_sub .., nullary_bufs_sub .., binary_bufs_sub .., unary_bufs_sub .., nullary_bufs_sub .., binary_bufs_sub .., unary_bufs_sub .., unary_bufs_sub .., unary_bufs_sub .., unary_bufs_sub .., unary_bufs_sub .., nary_bufs_sub .., unary_bufs_sub .., nullary_bufs_sub .., binary_bufs_sub .., unary_bufs_sub .., nullary_bufs_sub .., binary_bufs_sub .., unary_bufs_sub .., nullary_bufs_sub .., binary_bufs_sub .., unary_bufs_sub .., nullary_bufs_sub .., binary_bufs_sub .., unary_bufs_sub .., nullary_bufs_sub .., binary_bufs_sub .., unary_bufs_sub .., unary_bufs_sub .., unary_bufs_sub .., unary_bufs_sub .., unary_bufs_sub .., nary_bufs_sub ..⟩

theorem ops1_3_fresh : ∀ op ∈ (ops1_3 : List (HloOp τ sig (Elt F))), op.fresh = ∅ := by
  intro _ h; (repeat (cases h with | head => rfl | tail _ h => ?_)); exact nomatch h

/-- A run of the reference's operations. -/
abbrev ops1_4 : List (HloOp τ sig (Elt F)) :=
  [ binary main_v87 main_v87 main_v88 (mulf : (⟨S5x5x3, .f32⟩ : BufTy).Contents (Elt F) → (⟨S5x5x3, .f32⟩ : BufTy).Contents (Elt F) → (⟨S5x5x3, .f32⟩ : BufTy).Contents (Elt F)),
    nullary main_cst_17 (constant S_ .f32 0x00000000#32),
    binary main_v88 main_cst_17 main_v89 ((fun x v => Host.reduceAdd x v reducesTo_S5x5x3_S_d0_1_2 h_S_) : (⟨S5x5x3, .f32⟩ : BufTy).Contents (Elt F) → (⟨S_, .f32⟩ : BufTy).Contents (Elt F) → (⟨S_, .f32⟩ : BufTy).Contents (Elt F)),
    unary main_v89 main_v90 (Host.sqrt : (⟨S_, .f32⟩ : BufTy).Contents (Elt F) → (⟨S_, .f32⟩ : BufTy).Contents (Elt F)),
    nullary main_cst_18 (constant S_ .f32 0x49800000#32),
    binary main_v90 main_cst_18 main_v91 (Host.divf : (⟨S_, .f32⟩ : BufTy).Contents (Elt F) → (⟨S_, .f32⟩ : BufTy).Contents (Elt F) → (⟨S_, .f32⟩ : BufTy).Contents (Elt F)),
    unary main_v55 main_v92 ((transpose S5x5x3 [2, 1, 0] · transposes_S3x5x5_S5x5x3_2_1_0) : (⟨S3x5x5, .f32⟩ : BufTy).Contents (Elt F) → (⟨S5x5x3, .f32⟩ : BufTy).Contents (Elt F)),
    binary main_v87 main_v92 main_v93 (mulf : (⟨S5x5x3, .f32⟩ : BufTy).Contents (Elt F) → (⟨S5x5x3, .f32⟩ : BufTy).Contents (Elt F) → (⟨S5x5x3, .f32⟩ : BufTy).Contents (Elt F)),
    nullary main_cst_19 (constant S_ .f32 0x00000000#32),
    binary main_v93 main_cst_19 main_v94 ((fun x v => Host.reduceAdd x v reducesTo_S5x5x3_S_d0_1_2 h_S_) : (⟨S5x5x3, .f32⟩ : BufTy).Contents (Elt F) → (⟨S_, .f32⟩ : BufTy).Contents (Elt F) → (⟨S_, .f32⟩ : BufTy).Contents (Elt F)),
    nullary main_cst_20 (constant S_ .f32 0x49800000#32),
    binary main_v94 main_cst_20 main_v95 (Host.divf : (⟨S_, .f32⟩ : BufTy).Contents (Elt F) → (⟨S_, .f32⟩ : BufTy).Contents (Elt F) → (⟨S_, .f32⟩ : BufTy).Contents (Elt F)),
    nullary main_cst_21 (constant S_ .f32 0x2B8CBCCC#32),
    binary main_v91 main_cst_21 main_v96 (maximumf : (⟨S_, .f32⟩ : BufTy).Contents (Elt F) → (⟨S_, .f32⟩ : BufTy).Contents (Elt F) → (⟨S_, .f32⟩ : BufTy).Contents (Elt F)) ]

theorem ops1_4_sub : (ops1_4 : List (HloOp τ sig (Elt F))).Forall fun op => op.bufs ⊆ tcRefs τ sig :=
  ⟨binary_bufs_sub .., nullary_bufs_sub .., binary_bufs_sub .., unary_bufs_sub .., nullary_bufs_sub .., binary_bufs_sub .., unary_bufs_sub .., binary_bufs_sub .., nullary_bufs_sub .., binary_bufs_sub .., nullary_bufs_sub .., binary_bufs_sub .., nullary_bufs_sub .., binary_bufs_sub ..⟩

theorem ops1_4_fresh : ∀ op ∈ (ops1_4 : List (HloOp τ sig (Elt F))), op.fresh = ∅ := by
  intro _ h; (repeat (cases h with | head => rfl | tail _ h => ?_)); exact nomatch h

/-- A run of the reference's operations. -/
abbrev ops2_4 : List (HloOp τ sig (Elt F)) :=
  [ binary main_v95 main_v96 main_v97 (Host.divf : (⟨S_, .f32⟩ : BufTy).Contents (Elt F) → (⟨S_, .f32⟩ : BufTy).Contents (Elt F) → (⟨S_, .f32⟩ : BufTy).Contents (Elt F)),
    unary main_arg4 main_v98 ((extractStridedSlice S5 ![75] · slices_S80_S5_75) : (⟨S80, .f32⟩ : BufTy).Contents (Elt F) → (⟨S5, .f32⟩ : BufTy).Contents (Elt F)),
    nullary main_cst_22 (constant S_ .f32 0x00000000#32),
    binary main_v98 main_cst_22 main_v99 ((fun x v => Host.reduceAdd x v reducesTo_S5_S_d0 h_S_) : (⟨S5, .f32⟩ : BufTy).Contents (Elt F) → (⟨S_, .f32⟩ : BufTy).Contents (Elt F) → (⟨S_, .f32⟩ : BufTy).Contents (Elt F)),
    nullary main_cst_23 (constant S_ .f32 0x3F000000#32),
    binary main_cst_23 main_v99 main_v100 (mulf : (⟨S_, .f32⟩ : BufTy).Contents (Elt F) → (⟨S_, .f32⟩ : BufTy).Contents (Elt F) → (⟨S_, .f32⟩ : BufTy).Contents (Elt F)),
    binary main_v97 main_v100 main_v101 (addf : (⟨S_, .f32⟩ : BufTy).Contents (Elt F) → (⟨S_, .f32⟩ : BufTy).Contents (Elt F) → (⟨S_, .f32⟩ : BufTy).Contents (Elt F)),
    binary main_v101 main_arg5 main_v102 (addf : (⟨S_, .f32⟩ : BufTy).Contents (Elt F) → (⟨S_, .f32⟩ : BufTy).Contents (Elt F) → (⟨S_, .f32⟩ : BufTy).Contents (Elt F)) ]

theorem ops2_4_sub : (ops2_4 : List (HloOp τ sig (Elt F))).Forall fun op => op.bufs ⊆ tcRefs τ sig :=
  ⟨binary_bufs_sub .., unary_bufs_sub .., nullary_bufs_sub .., binary_bufs_sub .., nullary_bufs_sub .., binary_bufs_sub .., binary_bufs_sub .., binary_bufs_sub ..⟩

theorem ops2_4_fresh : ∀ op ∈ (ops2_4 : List (HloOp τ sig (Elt F))), op.fresh = ∅ := by
  intro _ h; (repeat (cases h with | head => rfl | tail _ h => ?_)); exact nomatch h

/-- A run of the reference's operations. -/
abbrev ops2_5 : List (HloOp τ sig (Elt F)) :=
  [ nullary main_cst_24 (constant S_ .f32 0x3E4CCCCD#32),
    binary main_v102 main_cst_24 main_v103 (Host.divf : (⟨S_, .f32⟩ : BufTy).Contents (Elt F) → (⟨S_, .f32⟩ : BufTy).Contents (Elt F) → (⟨S_, .f32⟩ : BufTy).Contents (Elt F)),
    unary main_v103 main_v104 (Host.floor : (⟨S_, .f32⟩ : BufTy).Contents (Elt F) → (⟨S_, .f32⟩ : BufTy).Contents (Elt F)),
    nullary main_cst_25 (constant S_ .f32 0x40000000#32),
    binary main_v104 main_cst_25 main_v105 (Host.divf : (⟨S_, .f32⟩ : BufTy).Contents (Elt F) → (⟨S_, .f32⟩ : BufTy).Contents (Elt F) → (⟨S_, .f32⟩ : BufTy).Contents (Elt F)),
    unary main_v105 main_v106 (Host.floor : (⟨S_, .f32⟩ : BufTy).Contents (Elt F) → (⟨S_, .f32⟩ : BufTy).Contents (Elt F)),
    nullary main_cst_26 (constant S_ .f32 0x40000000#32),
    binary main_cst_26 main_v106 main_v107 (mulf : (⟨S_, .f32⟩ : BufTy).Contents (Elt F) → (⟨S_, .f32⟩ : BufTy).Contents (Elt F) → (⟨S_, .f32⟩ : BufTy).Contents (Elt F)),
    binary main_v104 main_v107 main_v108 (subf : (⟨S_, .f32⟩ : BufTy).Contents (Elt F) → (⟨S_, .f32⟩ : BufTy).Contents (Elt F) → (⟨S_, .f32⟩ : BufTy).Contents (Elt F)) ]

theorem ops2_5_sub : (ops2_5 : List (HloOp τ sig (Elt F))).Forall fun op => op.bufs ⊆ tcRefs τ sig :=
  ⟨nullary_bufs_sub .., binary_bufs_sub .., unary_bufs_sub .., nullary_bufs_sub .., binary_bufs_sub .., unary_bufs_sub .., nullary_bufs_sub .., binary_bufs_sub .., binary_bufs_sub ..⟩

theorem ops2_5_fresh : ∀ op ∈ (ops2_5 : List (HloOp τ sig (Elt F))), op.fresh = ∅ := by
  intro _ h; (repeat (cases h with | head => rfl | tail _ h => ?_)); exact nomatch h

/-- A run of the reference's operations. -/
abbrev ops2_6 : List (HloOp τ sig (Elt F)) :=
  [ unary main_v108 main_v109 (broadcastInDim S16 ![] bcast_S_S16 : (⟨S_, .f32⟩ : BufTy).Contents (Elt F) → (⟨S16, .f32⟩ : BufTy).Contents (Elt F)),
    binary main_v51 main_v109 main_v110 (cmpf .oeq : (⟨S16, .f32⟩ : BufTy).Contents (Elt F) → (⟨S16, .f32⟩ : BufTy).Contents (Elt F) → (⟨S16, .i1⟩ : BufTy).Contents (Elt F)),
    unary main_v110 main_v111 (uitofp .f32 : (⟨S16, .i1⟩ : BufTy).Contents (Elt F) → (⟨S16, .f32⟩ : BufTy).Contents (Elt F)),
    nullary main_cst_27 (constant S_ .f32 0x00000000#32),
    binary main_v111 main_cst_27 main_v112 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_28 (constant S_ .f32 0x00000000#32),
    binary main_v112 main_cst_28 main_v113 (cmpf .oeq : (⟨S_, .f32⟩ : BufTy).Contents (Elt F) → (⟨S_, .f32⟩ : BufTy).Contents (Elt F) → (⟨S_, .i1⟩ : BufTy).Contents (Elt F)),
    nullary main_cst_29 (constant S_ .f32 0x3F800000#32),
    unary main_cst_29 main_v114 (broadcastInDim S16 ![] bcast_S_S16 : (⟨S_, .f32⟩ : BufTy).Contents (Elt F) → (⟨S16, .f32⟩ : BufTy).Contents (Elt F)),
    TRef.ternary (.of main_v113) (.of main_v114) (.of main_v111) (TRef.of (T := ⟨S16, .f32⟩) main_v115) (fun p a b => select (broadcastInDim S16 ![] bcast_S_S16 p) a b) ]

theorem ops2_6_sub : (ops2_6 : List (HloOp τ sig (Elt F))).Forall fun op => op.bufs ⊆ tcRefs τ sig :=
  ⟨unary_bufs_sub .., binary_bufs_sub .., unary_bufs_sub .., nullary_bufs_sub .., binary_bufs_sub .., nullary_bufs_sub .., binary_bufs_sub .., nullary_bufs_sub .., unary_bufs_sub .., ternary_bufs_sub ..⟩

theorem ops2_6_fresh : ∀ op ∈ (ops2_6 : List (HloOp τ sig (Elt F))), op.fresh = ∅ := by
  intro _ h; (repeat (cases h with | head => rfl | tail _ h => ?_)); exact nomatch h

/-- A run of the reference's operations. -/
abbrev ops2_7 : List (HloOp τ sig (Elt F)) :=
  [ unary main_arg0 main_v116 ((extractStridedSlice S20x1024x320 ![0, 0, 0] · slices_S20x1024x384_S20x1024x320_0_0_0) : (⟨S20x1024x384, .f32⟩ : BufTy).Contents (Elt F) → (⟨S20x1024x320, .f32⟩ : BufTy).Contents (Elt F)),
    reshape main_v116 main_v117 (rfl : (.f32 : EltTy) = .f32) shapeCasts_S20x1024x320_S20x1024x20x16,
    unary main_v115 main_v118 (broadcastInDim S1x1x1x16 ![3] bcast_S16_S1x1x1x16_3 : (⟨S16, .f32⟩ : BufTy).Contents (Elt F) → (⟨S1x1x1x16, .f32⟩ : BufTy).Contents (Elt F)),
    unary main_v118 main_v119 (broadcastInDim S20x1024x20x16 ![0, 1, 2, 3] bcast_S1x1x1x16_S20x1024x20x16_0_1_2_3 : (⟨S1x1x1x16, .f32⟩ : BufTy).Contents (Elt F) → (⟨S20x1024x20x16, .f32⟩ : BufTy).Contents (Elt F)),
    binary main_v117 main_v119 main_v120 (mulf : (⟨S20x1024x20x16, .f32⟩ : BufTy).Contents (Elt F) → (⟨S20x1024x20x16, .f32⟩ : BufTy).Contents (Elt F) → (⟨S20x1024x20x16, .f32⟩ : BufTy).Contents (Elt F)),
    unary main_arg1 main_v121 ((extractStridedSlice S20x320 ![0, 0] · slices_S20x384_S20x320_0_0) : (⟨S20x384, .f32⟩ : BufTy).Contents (Elt F) → (⟨S20x320, .f32⟩ : BufTy).Contents (Elt F)),
    reshape main_v121 main_v122 (rfl : (.f32 : EltTy) = .f32) shapeCasts_S20x320_S20x20x16,
    unary main_v115 main_v123 (broadcastInDim S1x1x16 ![2] bcast_S16_S1x1x16_2 : (⟨S16, .f32⟩ : BufTy).Contents (Elt F) → (⟨S1x1x16, .f32⟩ : BufTy).Contents (Elt F)),
    unary main_v123 main_v124 (broadcastInDim S20x20x16 ![0, 1, 2] bcast_S1x1x16_S20x20x16_0_1_2 : (⟨S1x1x16, .f32⟩ : BufTy).Contents (Elt F) → (⟨S20x20x16, .f32⟩ : BufTy).Contents (Elt F)),
    binary main_v122 main_v124 main_v125 (mulf : (⟨S20x20x16, .f32⟩ : BufTy).Contents (Elt F) → (⟨S20x20x16, .f32⟩ : BufTy).Contents (Elt F) → (⟨S20x20x16, .f32⟩ : BufTy).Contents (Elt F)) ]

theorem ops2_7_sub : (ops2_7 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., unary_bufs_sub .., unary_bufs_sub .., binary_bufs_sub ..⟩

theorem ops2_7_fresh : ∀ op ∈ (ops2_7 : List (HloOp τ sig (Elt F))), op.fresh = ∅ := by
  intro _ h; (repeat (cases h with | head => rfl | tail _ h => ?_)); exact nomatch h

/-- A run of the reference's operations. -/
abbrev ops2_8 : List (HloOp τ sig (Elt F)) :=
  [ reshape main_arg6 main_v126 (rfl : (.f32 : EltTy) = .f32) shapeCasts_S20x16x5x5_S20x400,
    binary main_v126 main_v126 main_v127 (mulf : (⟨S20x400, .f32⟩ : BufTy).Contents (Elt F) → (⟨S20x400, .f32⟩ : BufTy).Contents (Elt F) → (⟨S20x400, .f32⟩ : BufTy).Contents (Elt F)),
    nullary main_cst_30 (constant S_ .f32 0x00000000#32),
    binary main_v127 main_cst_30 main_v128 ((fun x v => Host.reduceAdd x v reducesTo_S20x400_S20_d1 h_S_) : (⟨S20x400, .f32⟩ : BufTy).Contents (Elt F) → (⟨S_, .f32⟩ : BufTy).Contents (Elt F) → (⟨S20, .f32⟩ : BufTy).Contents (Elt F)),
    unary main_v128 main_v129 (Host.sqrt : (⟨S20, .f32⟩ : BufTy).Contents (Elt F) → (⟨S20, .f32⟩ : BufTy).Contents (Elt F)),
    nullary main_cst_31 (constant S_ .f32 0xFF800000#32),
    binary main_v129 main_cst_31 main_v130 ((fun x v => Host.reduce FloatOps.maximumf x v reducesTo_S20_S_d0 h_S_) : (⟨S20, .f32⟩ : BufTy).Contents (Elt F) → (⟨S_, .f32⟩ : BufTy).Contents (Elt F) → (⟨S_, .f32⟩ : BufTy).Contents (Elt F)),
    nullary main_cst_32 (constant S_ .f32 0x2B8CBCCC#32),
    binary main_v130 main_cst_32 main_v131 (maximumf : (⟨S_, .f32⟩ : BufTy).Contents (Elt F) → (⟨S_, .f32⟩ : BufTy).Contents (Elt F) → (⟨S_, .f32⟩ : BufTy).Contents (Elt F)),
    nullary main_cst_33 (constant S_ .f32 0x3F400000#32),
    binary main_cst_33 main_v131 main_v132 (Host.divf : (⟨S_, .f32⟩ : BufTy).Contents (Elt F) → (⟨S_, .f32⟩ : BufTy).Contents (Elt F) → (⟨S_, .f32⟩ : BufTy).Contents (Elt F)),
    binary main_v126 main_v126 main_v133 (mulf : (⟨S20x400, .f32⟩ : BufTy).Contents (Elt F) → (⟨S20x400, .f32⟩ : BufTy).Contents (Elt F) → (⟨S20x400, .f32⟩ : BufTy).Contents (Elt F)),
    nullary main_cst_34 (constant S_ .f32 0x00000000#32),
    binary main_v133 main_cst_34 main_v134 ((fun x v => Host.reduceAdd x v reducesTo_S20x400_S20_d1 h_S_) : (⟨S20x400, .f32⟩ : BufTy).Contents (Elt F) → (⟨S_, .f32⟩ : BufTy).Contents (Elt F) → (⟨S20, .f32⟩ : BufTy).Contents (Elt F)),
    unary main_v134 main_v135 (Host.sqrt : (⟨S20, .f32⟩ : BufTy).Contents (Elt F) → (⟨S20, .f32⟩ : BufTy).Contents (Elt F)),
    unary main_v132 main_v136 (broadcastInDim S20 ![] bcast_S_S20 : (⟨S_, .f32⟩ : BufTy).Contents (Elt F) → (⟨S20, .f32⟩ : BufTy).Contents (Elt F)),
    binary main_v135 main_v136 main_v137 (mulf : (⟨S20, .f32⟩ : BufTy).Contents (Elt F) → (⟨S20, .f32⟩ : BufTy).Contents (Elt F) → (⟨S20, .f32⟩ : BufTy).Contents (Elt F)) ]

theorem ops2_8_sub : (ops2_8 : List (HloOp τ sig (Elt F))).Forall fun op => op.bufs ⊆ tcRefs τ sig :=
  ⟨reshape_bufs_sub .., binary_bufs_sub .., nullary_bufs_sub .., binary_bufs_sub .., unary_bufs_sub .., nullary_bufs_sub .., binary_bufs_sub .., nullary_bufs_sub .., binary_bufs_sub .., nullary_bufs_sub .., binary_bufs_sub .., binary_bufs_sub .., nullary_bufs_sub .., binary_bufs_sub .., unary_bufs_sub .., unary_bufs_sub .., binary_bufs_sub ..⟩

theorem ops2_8_fresh : ∀ op ∈ (ops2_8 : List (HloOp τ sig (Elt F))), op.fresh = ∅ := by
  intro _ h; (repeat (cases h with | head => rfl | tail _ h => ?_)); exact nomatch h

/-- A run of the reference's operations. -/
abbrev ops2_9 : List (HloOp τ sig (Elt F)) :=
  [ binary main_v137 main_v137 main_v138 (mulf : (⟨S20, .f32⟩ : BufTy).Contents (Elt F) → (⟨S20, .f32⟩ : BufTy).Contents (Elt F) → (⟨S20, .f32⟩ : BufTy).Contents (Elt F)),
    unary main_arg8 main_v139 ((extractStridedSlice S1 ![400] · slices_S405_S1_400) : (⟨S405, .f32⟩ : BufTy).Contents (Elt F) → (⟨S1, .f32⟩ : BufTy).Contents (Elt F)),
    unary main_v139 main_v140 (broadcastInDim S20 ![0] bcast_S1_S20_0 : (⟨S1, .f32⟩ : BufTy).Contents (Elt F) → (⟨S20, .f32⟩ : BufTy).Contents (Elt F)),
    binary main_v138 main_v140 main_v141 (mulf : (⟨S20, .f32⟩ : BufTy).Contents (Elt F) → (⟨S20, .f32⟩ : BufTy).Contents (Elt F) → (⟨S20, .f32⟩ : BufTy).Contents (Elt F)),
    binary main_v138 main_v138 main_v142 (mulf : (⟨S20, .f32⟩ : BufTy).Contents (Elt F) → (⟨S20, .f32⟩ : BufTy).Contents (Elt F) → (⟨S20, .f32⟩ : BufTy).Contents (Elt F)),
    unary main_arg8 main_v143 ((extractStridedSlice S1 ![401] · slices_S405_S1_401) : (⟨S405, .f32⟩ : BufTy).Contents (Elt F) → (⟨S1, .f32⟩ : BufTy).Contents (Elt F)) ]

theorem ops2_9_sub : (ops2_9 : List (HloOp τ sig (Elt F))).Forall fun op => op.bufs ⊆ tcRefs τ sig :=
  ⟨binary_bufs_sub .., unary_bufs_sub .., unary_bufs_sub .., binary_bufs_sub .., binary_bufs_sub .., unary_bufs_sub ..⟩

theorem ops2_9_fresh : ∀ op ∈ (ops2_9 : List (HloOp τ sig (Elt F))), op.fresh = ∅ := by
  intro _ h; (repeat (cases h with | head => rfl | tail _ h => ?_)); exact nomatch h

/-- A run of the reference's operations. -/
abbrev ops3_9 : List (HloOp τ sig (Elt F)) :=
  [ unary main_v143 main_v144 (broadcastInDim S20 ![0] bcast_S1_S20_0 : (⟨S1, .f32⟩ : BufTy).Contents (Elt F) → (⟨S20, .f32⟩ : BufTy).Contents (Elt F)),
    binary main_v142 main_v144 main_v145 (mulf : (⟨S20, .f32⟩ : BufTy).Contents (Elt F) → (⟨S20, .f32⟩ : BufTy).Contents (Elt F) → (⟨S20, .f32⟩ : BufTy).Contents (Elt F)),
    binary main_v141 main_v145 main_v146 (addf : (⟨S20, .f32⟩ : BufTy).Contents (Elt F) → (⟨S20, .f32⟩ : BufTy).Contents (Elt F) → (⟨S20, .f32⟩ : BufTy).Contents (Elt F)),
    binary main_v142 main_v142 main_v147 (mulf : (⟨S20, .f32⟩ : BufTy).Contents (Elt F) → (⟨S20, .f32⟩ : BufTy).Contents (Elt F) → (⟨S20, .f32⟩ : BufTy).Contents (Elt F)),
    unary main_arg8 main_v148 ((extractStridedSlice S1 ![402] · slices_S405_S1_402) : (⟨S405, .f32⟩ : BufTy).Contents (Elt F) → (⟨S1, .f32⟩ : BufTy).Contents (Elt F)),
    unary main_v148 main_v149 (broadcastInDim S20 ![0] bcast_S1_S20_0 : (⟨S1, .f32⟩ : BufTy).Contents (Elt F) → (⟨S20, .f32⟩ : BufTy).Contents (Elt F)),
    binary main_v147 main_v149 main_v150 (mulf : (⟨S20, .f32⟩ : BufTy).Contents (Elt F) → (⟨S20, .f32⟩ : BufTy).Contents (Elt F) → (⟨S20, .f32⟩ : BufTy).Contents (Elt F)),
    binary main_v146 main_v150 main_v151 (addf : (⟨S20, .f32⟩ : BufTy).Contents (Elt F) → (⟨S20, .f32⟩ : BufTy).Contents (Elt F) → (⟨S20, .f32⟩ : BufTy).Contents (Elt F)),
    binary main_v147 main_v147 main_v152 (mulf : (⟨S20, .f32⟩ : BufTy).Contents (Elt F) → (⟨S20, .f32⟩ : BufTy).Contents (Elt F) → (⟨S20, .f32⟩ : BufTy).Contents (Elt F)),
    unary main_arg8 main_v153 ((extractStridedSlice S1 ![403] · slices_S405_S1_403) : (⟨S405, .f32⟩ : BufTy).Contents (Elt F) → (⟨S1, .f32⟩ : BufTy).Contents (Elt F)),
    unary main_v153 main_v154 (broadcastInDim S20 ![0] bcast_S1_S20_0 : (⟨S1, .f32⟩ : BufTy).Contents (Elt F) → (⟨S20, .f32⟩ : BufTy).Contents (Elt F)),
    binary main_v152 main_v154 main_v155 (mulf : (⟨S20, .f32⟩ : BufTy).Contents (Elt F) → (⟨S20, .f32⟩ : BufTy).Contents (Elt F) → (⟨S20, .f32⟩ : BufTy).Contents (Elt F)),
    binary main_v151 main_v155 main_v156 (addf : (⟨S20, .f32⟩ : BufTy).Contents (Elt F) → (⟨S20, .f32⟩ : BufTy).Contents (Elt F) → (⟨S20, .f32⟩ : BufTy).Contents (Elt F)),
    binary main_v152 main_v152 main_v157 (mulf : (⟨S20, .f32⟩ : BufTy).Contents (Elt F) → (⟨S20, .f32⟩ : BufTy).Contents (Elt F) → (⟨S20, .f32⟩ : BufTy).Contents (Elt F)),
    unary main_arg8 main_v158 ((extractStridedSlice S1 ![404] · slices_S405_S1_404) : (⟨S405, .f32⟩ : BufTy).Contents (Elt F) → (⟨S1, .f32⟩ : BufTy).Contents (Elt F)),
    unary main_v158 main_v159 (broadcastInDim S20 ![0] bcast_S1_S20_0 : (⟨S1, .f32⟩ : BufTy).Contents (Elt F) → (⟨S20, .f32⟩ : BufTy).Contents (Elt F)),
    binary main_v157 main_v159 main_v160 (mulf : (⟨S20, .f32⟩ : BufTy).Contents (Elt F) → (⟨S20, .f32⟩ : BufTy).Contents (Elt F) → (⟨S20, .f32⟩ : BufTy).Contents (Elt F)),
    binary main_v156 main_v160 main_v161 (addf : (⟨S20, .f32⟩ : BufTy).Contents (Elt F) → (⟨S20, .f32⟩ : BufTy).Contents (Elt F) → (⟨S20, .f32⟩ : BufTy).Contents (Elt F)),
    unary main_arg8 main_v162 ((extractStridedSlice S400 ![0] · slices_S405_S400_0) : (⟨S405, .f32⟩ : BufTy).Contents (Elt F) → (⟨S400, .f32⟩ : BufTy).Contents (Elt F)),
    binary main_v126 main_v162 main_v163 ((fun l r => Host.dotGeneral dot_S20x400_S400_S20_1_0_0_n_n_n none l r) : (⟨S20x400, .f32⟩ : BufTy).Contents (Elt F) → (⟨S400, .f32⟩ : BufTy).Contents (Elt F) → (⟨S20, .f32⟩ : BufTy).Contents (Elt F)),
    unary main_v132 main_v164 (broadcastInDim S20 ![] bcast_S_S20 : (⟨S_, .f32⟩ : BufTy).Contents (Elt F) → (⟨S20, .f32⟩ : BufTy).Contents (Elt F)),
    binary main_v163 main_v164 main_v165 (mulf : (⟨S20, .f32⟩ : BufTy).Contents (Elt F) → (⟨S20, .f32⟩ : BufTy).Contents (Elt F) → (⟨S20, .f32⟩ : BufTy).Contents (Elt F)),
    binary main_v165 main_v161 main_v166 (addf : (⟨S20, .f32⟩ : BufTy).Contents (Elt F) → (⟨S20, .f32⟩ : BufTy).Contents (Elt F) → (⟨S20, .f32⟩ : BufTy).Contents (Elt F)),
    unary main_arg9 main_v167 (broadcastInDim S20 ![] bcast_S_S20 : (⟨S_, .f32⟩ : BufTy).Contents (Elt F) → (⟨S20, .f32⟩ : BufTy).Contents (Elt F)),
    binary main_v166 main_v167 main_v168 (addf : (⟨S20, .f32⟩ : BufTy).Contents (Elt F) → (⟨S20, .f32⟩ : BufTy).Contents (Elt F) → (⟨S20, .f32⟩ : BufTy).Contents (Elt F)) ]

theorem ops3_9_sub : (ops3_9 : List (HloOp τ sig (Elt F))).Forall fun op => op.bufs ⊆ tcRefs τ sig :=
  ⟨unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., unary_bufs_sub .., binary_bufs_sub .., unary_bufs_sub .., binary_bufs_sub .., binary_bufs_sub .., unary_bufs_sub .., binary_bufs_sub ..⟩

theorem ops3_9_fresh : ∀ op ∈ (ops3_9 : List (HloOp τ sig (Elt F))), op.fresh = ∅ := by
  intro _ h; (repeat (cases h with | head => rfl | tail _ h => ?_)); exact nomatch h

/-- A run of the reference's operations. -/
abbrev ops3_10 : List (HloOp τ sig (Elt F)) :=
  [ nullary main_cst_35 (constant S_ .f32 0x3E4CCCCD#32),
    unary main_cst_35 main_v169 (broadcastInDim S20 ![] bcast_S_S20 : (⟨S_, .f32⟩ : BufTy).Contents (Elt F) → (⟨S20, .f32⟩ : BufTy).Contents (Elt F)),
    binary main_v168 main_v169 main_v170 (Host.divf : (⟨S20, .f32⟩ : BufTy).Contents (Elt F) → (⟨S20, .f32⟩ : BufTy).Contents (Elt F) → (⟨S20, .f32⟩ : BufTy).Contents (Elt F)),
    unary main_v170 main_v171 (Host.floor : (⟨S20, .f32⟩ : BufTy).Contents (Elt F) → (⟨S20, .f32⟩ : BufTy).Contents (Elt F)),
    nullary main_cst_36 (constant S_ .f32 0x40000000#32),
    unary main_cst_36 main_v172 (broadcastInDim S20 ![] bcast_S_S20 : (⟨S_, .f32⟩ : BufTy).Contents (Elt F) → (⟨S20, .f32⟩ : BufTy).Contents (Elt F)),
    binary main_v171 main_v172 main_v173 (Host.divf : (⟨S20, .f32⟩ : BufTy).Contents (Elt F) → (⟨S20, .f32⟩ : BufTy).Contents (Elt F) → (⟨S20, .f32⟩ : BufTy).Contents (Elt F)),
    unary main_v173 main_v174 (Host.floor : (⟨S20, .f32⟩ : BufTy).Contents (Elt F) → (⟨S20, .f32⟩ : BufTy).Contents (Elt F)),
    nullary main_cst_37 (constant S_ .f32 0x40000000#32),
    unary main_cst_37 main_v175 (broadcastInDim S20 ![] bcast_S_S20 : (⟨S_, .f32⟩ : BufTy).Contents (Elt F) → (⟨S20, .f32⟩ : BufTy).Contents (Elt F)),
    binary main_v175 main_v174 main_v176 (mulf : (⟨S20, .f32⟩ : BufTy).Contents (Elt F) → (⟨S20, .f32⟩ : BufTy).Contents (Elt F) → (⟨S20, .f32⟩ : BufTy).Contents (Elt F)),
    binary main_v171 main_v176 main_v177 (subf : (⟨S20, .f32⟩ : BufTy).Contents (Elt F) → (⟨S20, .f32⟩ : BufTy).Contents (Elt F) → (⟨S20, .f32⟩ : BufTy).Contents (Elt F)) ]

theorem ops3_10_sub : (ops3_10 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., unary_bufs_sub .., nullary_bufs_sub .., unary_bufs_sub .., binary_bufs_sub .., binary_bufs_sub ..⟩

theorem ops3_10_fresh : ∀ op ∈ (ops3_10 : List (HloOp τ sig (Elt F))), op.fresh = ∅ := by
  intro _ h; (repeat (cases h with | head => rfl | tail _ h => ?_)); exact nomatch h

/-- A run of the reference's operations. -/
abbrev ops3_11 : List (HloOp τ sig (Elt F)) :=
  [ unary main_arg8 main_v178 ((extractStridedSlice S400 ![0] · slices_S405_S400_0) : (⟨S405, .f32⟩ : BufTy).Contents (Elt F) → (⟨S400, .f32⟩ : BufTy).Contents (Elt F)),
    reshape main_v178 main_v179 (rfl : (.f32 : EltTy) = .f32) shapeCasts_S400_S16x5x5,
    unary main_v125 main_v180 ((extractStridedSlice S16x20x16 ![0, 0, 0] · slices_S20x20x16_S16x20x16_0_0_0) : (⟨S20x20x16, .f32⟩ : BufTy).Contents (Elt F) → (⟨S16x20x16, .f32⟩ : BufTy).Contents (Elt F)),
    nullary main_cst_38 (constant S_ .f32 0x00000000#32),
    binary main_v180 main_cst_38 main_v181 ((fun x v => Host.reduceAdd x v reducesTo_S16x20x16_S20x16_d0 h_S_) : (⟨S16x20x16, .f32⟩ : BufTy).Contents (Elt F) → (⟨S_, .f32⟩ : BufTy).Contents (Elt F) → (⟨S20x16, .f32⟩ : BufTy).Contents (Elt F)),
    unary main_v125 main_v182 ((extractStridedSlice S16x20x16 ![1, 0, 0] · slices_S20x20x16_S16x20x16_1_0_0) : (⟨S20x20x16, .f32⟩ : BufTy).Contents (Elt F) → (⟨S16x20x16, .f32⟩ : BufTy).Contents (Elt F)),
    nullary main_cst_39 (constant S_ .f32 0x00000000#32),
    binary main_v182 main_cst_39 main_v183 ((fun x v => Host.reduceAdd x v reducesTo_S16x20x16_S20x16_d0 h_S_) : (⟨S16x20x16, .f32⟩ : BufTy).Contents (Elt F) → (⟨S_, .f32⟩ : BufTy).Contents (Elt F) → (⟨S20x16, .f32⟩ : BufTy).Contents (Elt F)),
    unary main_v125 main_v184 ((extractStridedSlice S16x20x16 ![2, 0, 0] · slices_S20x20x16_S16x20x16_2_0_0) : (⟨S20x20x16, .f32⟩ : BufTy).Contents (Elt F) → (⟨S16x20x16, .f32⟩ : BufTy).Contents (Elt F)),
    nullary main_cst_40 (constant S_ .f32 0x00000000#32),
    binary main_v184 main_cst_40 main_v185 ((fun x v => Host.reduceAdd x v reducesTo_S16x20x16_S20x16_d0 h_S_) : (⟨S16x20x16, .f32⟩ : BufTy).Contents (Elt F) → (⟨S_, .f32⟩ : BufTy).Contents (Elt F) → (⟨S20x16, .f32⟩ : BufTy).Contents (Elt F)),
    unary main_v125 main_v186 ((extractStridedSlice S16x20x16 ![3, 0, 0] · slices_S20x20x16_S16x20x16_3_0_0) : (⟨S20x20x16, .f32⟩ : BufTy).Contents (Elt F) → (⟨S16x20x16, .f32⟩ : BufTy).Contents (Elt F)),
    nullary main_cst_41 (constant S_ .f32 0x00000000#32),
    binary main_v186 main_cst_41 main_v187 ((fun x v => Host.reduceAdd x v reducesTo_S16x20x16_S20x16_d0 h_S_) : (⟨S16x20x16, .f32⟩ : BufTy).Contents (Elt F) → (⟨S_, .f32⟩ : BufTy).Contents (Elt F) → (⟨S20x16, .f32⟩ : BufTy).Contents (Elt F)),
    unary main_v125 main_v188 ((extractStridedSlice S16x20x16 ![4, 0, 0] · slices_S20x20x16_S16x20x16_4_0_0) : (⟨S20x20x16, .f32⟩ : BufTy).Contents (Elt F) → (⟨S16x20x16, .f32⟩ : BufTy).Contents (Elt F)),
    nullary main_cst_42 (constant S_ .f32 0x00000000#32),
    binary main_v188 main_cst_42 main_v189 ((fun x v => Host.reduceAdd x v reducesTo_S16x20x16_S20x16_d0 h_S_) : (⟨S16x20x16, .f32⟩ : BufTy).Contents (Elt F) → (⟨S_, .f32⟩ : BufTy).Contents (Elt F) → (⟨S20x16, .f32⟩ : BufTy).Contents (Elt F)),
    unary main_v181 main_v190 (broadcastInDim S1x20x16 ![1, 2] bcast_S20x16_S1x20x16_1_2 : (⟨S20x16, .f32⟩ : BufTy).Contents (Elt F) → (⟨S1x20x16, .f32⟩ : BufTy).Contents (Elt F)),
    unary main_v183 main_v191 (broadcastInDim S1x20x16 ![1, 2] bcast_S20x16_S1x20x16_1_2 : (⟨S20x16, .f32⟩ : BufTy).Contents (Elt F) → (⟨S1x20x16, .f32⟩ : BufTy).Contents (Elt F)),
    unary main_v185 main_v192 (broadcastInDim S1x20x16 ![1, 2] bcast_S20x16_S1x20x16_1_2 : (⟨S20x16, .f32⟩ : BufTy).Contents (Elt F) → (⟨S1x20x16, .f32⟩ : BufTy).Contents (Elt F)),
    unary main_v187 main_v193 (broadcastInDim S1x20x16 ![1, 2] bcast_S20x16_S1x20x16_1_2 : (⟨S20x16, .f32⟩ : BufTy).Contents (Elt F) → (⟨S1x20x16, .f32⟩ : BufTy).Contents (Elt F)),
    unary main_v189 main_v194 (broadcastInDim S1x20x16 ![1, 2] bcast_S20x16_S1x20x16_1_2 : (⟨S20x16, .f32⟩ : BufTy).Contents (Elt F) → (⟨S1x20x16, .f32⟩ : BufTy).Contents (Elt F)),
    nary ![main_v190, main_v191, main_v192, main_v193, main_v194] main_v195 (fun u => (concatenate S5x20x16 0 [⟨S1x20x16, (u 0 : (⟨S1x20x16, .f32⟩ : BufTy).Contents (Elt F))⟩, ⟨S1x20x16, (u 1 : (⟨S1x20x16, .f32⟩ : BufTy).Contents (Elt F))⟩, ⟨S1x20x16, (u 2 : (⟨S1x20x16, .f32⟩ : BufTy).Contents (Elt F))⟩, ⟨S1x20x16, (u 3 : (⟨S1x20x16, .f32⟩ : BufTy).Contents (Elt F))⟩, ⟨S1x20x16, (u 4 : (⟨S1x20x16, .f32⟩ : BufTy).Contents (Elt F))⟩] concatenates_S1x20x16_S1x20x16_S1x20x16_S1x20x16_S1x20x16_S5x20x16_d0 : (⟨S5x20x16, .f32⟩ : BufTy).Contents (Elt F))) ]

theorem ops3_11_sub : (ops3_11 : List (HloOp τ sig (Elt F))).Forall fun op => op.bufs ⊆ tcRefs τ sig :=
  ⟨unary_bufs_sub .., reshape_bufs_sub .., unary_bufs_sub .., nullary_bufs_sub .., binary_bufs_sub .., unary_bufs_sub .., nullary_bufs_sub .., binary_bufs_sub .., unary_bufs_sub .., nullary_bufs_sub .., binary_bufs_sub .., unary_bufs_sub .., nullary_bufs_sub .., binary_bufs_sub .., unary_bufs_sub .., nullary_bufs_sub .., binary_bufs_sub .., unary_bufs_sub .., unary_bufs_sub .., unary_bufs_sub .., unary_bufs_sub .., unary_bufs_sub .., nary_bufs_sub ..⟩

theorem ops3_11_fresh : ∀ op ∈ (ops3_11 : List (HloOp τ sig (Elt F))), op.fresh = ∅ := by
  intro _ h; (repeat (cases h with | head => rfl | tail _ h => ?_)); exact nomatch h

/-- A run of the reference's operations. -/
abbrev ops4_11 : List (HloOp τ sig (Elt F)) :=
  [ unary main_v195 main_v196 ((extractStridedSlice S5x16x16 ![0, 0, 0] · slices_S5x20x16_S5x16x16_0_0_0) : (⟨S5x20x16, .f32⟩ : BufTy).Contents (Elt F) → (⟨S5x16x16, .f32⟩ : BufTy).Contents (Elt F)),
    nullary main_cst_43 (constant S_ .f32 0x00000000#32),
    binary main_v196 main_cst_43 main_v197 ((fun x v => Host.reduceAdd x v reducesTo_S5x16x16_S5x16_d1 h_S_) : (⟨S5x16x16, .f32⟩ : BufTy).Contents (Elt F) → (⟨S_, .f32⟩ : BufTy).Contents (Elt F) → (⟨S5x16, .f32⟩ : BufTy).Contents (Elt F)),
    unary main_v195 main_v198 ((extractStridedSlice S5x16x16 ![0, 1, 0] · slices_S5x20x16_S5x16x16_0_1_0) : (⟨S5x20x16, .f32⟩ : BufTy).Contents (Elt F) → (⟨S5x16x16, .f32⟩ : BufTy).Contents (Elt F)),
    nullary main_cst_44 (constant S_ .f32 0x00000000#32),
    binary main_v198 main_cst_44 main_v199 ((fun x v => Host.reduceAdd x v reducesTo_S5x16x16_S5x16_d1 h_S_) : (⟨S5x16x16, .f32⟩ : BufTy).Contents (Elt F) → (⟨S_, .f32⟩ : BufTy).Contents (Elt F) → (⟨S5x16, .f32⟩ : BufTy).Contents (Elt F)),
    unary main_v195 main_v200 ((extractStridedSlice S5x16x16 ![0, 2, 0] · slices_S5x20x16_S5x16x16_0_2_0) : (⟨S5x20x16, .f32⟩ : BufTy).Contents (Elt F) → (⟨S5x16x16, .f32⟩ : BufTy).Contents (Elt F)),
    nullary main_cst_45 (constant S_ .f32 0x00000000#32),
    binary main_v200 main_cst_45 main_v201 ((fun x v => Host.reduceAdd x v reducesTo_S5x16x16_S5x16_d1 h_S_) : (⟨S5x16x16, .f32⟩ : BufTy).Contents (Elt F) → (⟨S_, .f32⟩ : BufTy).Contents (Elt F) → (⟨S5x16, .f32⟩ : BufTy).Contents (Elt F)),
    unary main_v195 main_v202 ((extractStridedSlice S5x16x16 ![0, 3, 0] · slices_S5x20x16_S5x16x16_0_3_0) : (⟨S5x20x16, .f32⟩ : BufTy).Contents (Elt F) → (⟨S5x16x16, .f32⟩ : BufTy).Contents (Elt F)),
    nullary main_cst_46 (constant S_ .f32 0x00000000#32),
    binary main_v202 main_cst_46 main_v203 ((fun x v => Host.reduceAdd x v reducesTo_S5x16x16_S5x16_d1 h_S_) : (⟨S5x16x16, .f32⟩ : BufTy).Contents (Elt F) → (⟨S_, .f32⟩ : BufTy).Contents (Elt F) → (⟨S5x16, .f32⟩ : BufTy).Contents (Elt F)),
    unary main_v195 main_v204 ((extractStridedSlice S5x16x16 ![0, 4, 0] · slices_S5x20x16_S5x16x16_0_4_0) : (⟨S5x20x16, .f32⟩ : BufTy).Contents (Elt F) → (⟨S5x16x16, .f32⟩ : BufTy).Contents (Elt F)),
    nullary main_cst_47 (constant S_ .f32 0x00000000#32),
    binary main_v204 main_cst_47 main_v205 ((fun x v => Host.reduceAdd x v reducesTo_S5x16x16_S5x16_d1 h_S_) : (⟨S5x16x16, .f32⟩ : BufTy).Contents (Elt F) → (⟨S_, .f32⟩ : BufTy).Contents (Elt F) → (⟨S5x16, .f32⟩ : BufTy).Contents (Elt F)),
    unary main_v197 main_v206 (broadcastInDim S1x5x16 ![1, 2] bcast_S5x16_S1x5x16_1_2 : (⟨S5x16, .f32⟩ : BufTy).Contents (Elt F) → (⟨S1x5x16, .f32⟩ : BufTy).Contents (Elt F)),
    unary main_v199 main_v207 (broadcastInDim S1x5x16 ![1, 2] bcast_S5x16_S1x5x16_1_2 : (⟨S5x16, .f32⟩ : BufTy).Contents (Elt F) → (⟨S1x5x16, .f32⟩ : BufTy).Contents (Elt F)),
    unary main_v201 main_v208 (broadcastInDim S1x5x16 ![1, 2] bcast_S5x16_S1x5x16_1_2 : (⟨S5x16, .f32⟩ : BufTy).Contents (Elt F) → (⟨S1x5x16, .f32⟩ : BufTy).Contents (Elt F)),
    unary main_v203 main_v209 (broadcastInDim S1x5x16 ![1, 2] bcast_S5x16_S1x5x16_1_2 : (⟨S5x16, .f32⟩ : BufTy).Contents (Elt F) → (⟨S1x5x16, .f32⟩ : BufTy).Contents (Elt F)),
    unary main_v205 main_v210 (broadcastInDim S1x5x16 ![1, 2] bcast_S5x16_S1x5x16_1_2 : (⟨S5x16, .f32⟩ : BufTy).Contents (Elt F) → (⟨S1x5x16, .f32⟩ : BufTy).Contents (Elt F)),
    nary ![main_v206, main_v207, main_v208, main_v209, main_v210] main_v211 (fun u => (concatenate S5x5x16 0 [⟨S1x5x16, (u 0 : (⟨S1x5x16, .f32⟩ : BufTy).Contents (Elt F))⟩, ⟨S1x5x16, (u 1 : (⟨S1x5x16, .f32⟩ : BufTy).Contents (Elt F))⟩, ⟨S1x5x16, (u 2 : (⟨S1x5x16, .f32⟩ : BufTy).Contents (Elt F))⟩, ⟨S1x5x16, (u 3 : (⟨S1x5x16, .f32⟩ : BufTy).Contents (Elt F))⟩, ⟨S1x5x16, (u 4 : (⟨S1x5x16, .f32⟩ : BufTy).Contents (Elt F))⟩] concatenates_S1x5x16_S1x5x16_S1x5x16_S1x5x16_S1x5x16_S5x5x16_d0 : (⟨S5x5x16, .f32⟩ : BufTy).Contents (Elt F))) ]

theorem ops4_11_sub : (ops4_11 : List (HloOp τ sig (Elt F))).Forall fun op => op.bufs ⊆ tcRefs τ sig :=
  ⟨unary_bufs_sub .., nullary_bufs_sub .., binary_bufs_sub .., unary_bufs_sub .., nullary_bufs_sub .., binary_bufs_sub .., unary_bufs_sub .., nullary_bufs_sub .., binary_bufs_sub .., unary_bufs_sub .., nullary_bufs_sub .., binary_bufs_sub .., unary_bufs_sub .., nullary_bufs_sub .., binary_bufs_sub .., unary_bufs_sub .., unary_bufs_sub .., unary_bufs_sub .., unary_bufs_sub .., unary_bufs_sub .., nary_bufs_sub ..⟩

theorem ops4_11_fresh : ∀ op ∈ (ops4_11 : List (HloOp τ sig (Elt F))), op.fresh = ∅ := by
  intro _ h; (repeat (cases h with | head => rfl | tail _ h => ?_)); exact nomatch h

/-- A run of the reference's operations. -/
abbrev ops4_12 : List (HloOp τ sig (Elt F)) :=
  [ binary main_v211 main_v211 main_v212 (mulf : (⟨S5x5x16, .f32⟩ : BufTy).Contents (Elt F) → (⟨S5x5x16, .f32⟩ : BufTy).Contents (Elt F) → (⟨S5x5x16, .f32⟩ : BufTy).Contents (Elt F)),
    nullary main_cst_48 (constant S_ .f32 0x00000000#32),
    binary main_v212 main_cst_48 main_v213 ((fun x v => Host.reduceAdd x v reducesTo_S5x5x16_S_d0_1_2 h_S_) : (⟨S5x5x16, .f32⟩ : BufTy).Contents (Elt F) → (⟨S_, .f32⟩ : BufTy).Contents (Elt F) → (⟨S_, .f32⟩ : BufTy).Contents (Elt F)),
    unary main_v213 main_v214 (Host.sqrt : (⟨S_, .f32⟩ : BufTy).Contents (Elt F) → (⟨S_, .f32⟩ : BufTy).Contents (Elt F)),
    nullary main_cst_49 (constant S_ .f32 0x48800000#32),
    binary main_v214 main_cst_49 main_v215 (Host.divf : (⟨S_, .f32⟩ : BufTy).Contents (Elt F) → (⟨S_, .f32⟩ : BufTy).Contents (Elt F) → (⟨S_, .f32⟩ : BufTy).Contents (Elt F)),
    unary main_v179 main_v216 ((transpose S5x5x16 [2, 1, 0] · transposes_S16x5x5_S5x5x16_2_1_0) : (⟨S16x5x5, .f32⟩ : BufTy).Contents (Elt F) → (⟨S5x5x16, .f32⟩ : BufTy).Contents (Elt F)),
    binary main_v211 main_v216 main_v217 (mulf : (⟨S5x5x16, .f32⟩ : BufTy).Contents (Elt F) → (⟨S5x5x16, .f32⟩ : BufTy).Contents (Elt F) → (⟨S5x5x16, .f32⟩ : BufTy).Contents (Elt F)),
    nullary main_cst_50 (constant S_ .f32 0x00000000#32),
    binary main_v217 main_cst_50 main_v218 ((fun x v => Host.reduceAdd x v reducesTo_S5x5x16_S_d0_1_2 h_S_) : (⟨S5x5x16, .f32⟩ : BufTy).Contents (Elt F) → (⟨S_, .f32⟩ : BufTy).Contents (Elt F) → (⟨S_, .f32⟩ : BufTy).Contents (Elt F)),
    nullary main_cst_51 (constant S_ .f32 0x48800000#32),
    binary main_v218 main_cst_51 main_v219 (Host.divf : (⟨S_, .f32⟩ : BufTy).Contents (Elt F) → (⟨S_, .f32⟩ : BufTy).Contents (Elt F) → (⟨S_, .f32⟩ : BufTy).Contents (Elt F)),
    nullary main_cst_52 (constant S_ .f32 0x2B8CBCCC#32),
    binary main_v215 main_cst_52 main_v220 (maximumf : (⟨S_, .f32⟩ : BufTy).Contents (Elt F) → (⟨S_, .f32⟩ : BufTy).Contents (Elt F) → (⟨S_, .f32⟩ : BufTy).Contents (Elt F)),
    binary main_v219 main_v220 main_v221 (Host.divf : (⟨S_, .f32⟩ : BufTy).Contents (Elt F) → (⟨S_, .f32⟩ : BufTy).Contents (Elt F) → (⟨S_, .f32⟩ : BufTy).Contents (Elt F)),
    unary main_arg8 main_v222 ((extractStridedSlice S5 ![400] · slices_S405_S5_400) : (⟨S405, .f32⟩ : BufTy).Contents (Elt F) → (⟨S5, .f32⟩ : BufTy).Contents (Elt F)),
    nullary main_cst_53 (constant S_ .f32 0x00000000#32),
    binary main_v222 main_cst_53 main_v223 ((fun x v => Host.reduceAdd x v reducesTo_S5_S_d0 h_S_) : (⟨S5, .f32⟩ : BufTy).Contents (Elt F) → (⟨S_, .f32⟩ : BufTy).Contents (Elt F) → (⟨S_, .f32⟩ : BufTy).Contents (Elt F)),
    nullary main_cst_54 (constant S_ .f32 0x3F000000#32),
    binary main_cst_54 main_v223 main_v224 (mulf : (⟨S_, .f32⟩ : BufTy).Contents (Elt F) → (⟨S_, .f32⟩ : BufTy).Contents (Elt F) → (⟨S_, .f32⟩ : BufTy).Contents (Elt F)),
    binary main_v221 main_v224 main_v225 (addf : (⟨S_, .f32⟩ : BufTy).Contents (Elt F) → (⟨S_, .f32⟩ : BufTy).Contents (Elt F) → (⟨S_, .f32⟩ : BufTy).Contents (Elt F)),
    binary main_v225 main_arg9 main_v226 (addf : (⟨S_, .f32⟩ : BufTy).Contents (Elt F) → (⟨S_, .f32⟩ : BufTy).Contents (Elt F) → (⟨S_, .f32⟩ : BufTy).Contents (Elt F)) ]

theorem ops4_12_sub : (ops4_12 : List (HloOp τ sig (Elt F))).Forall fun op => op.bufs ⊆ tcRefs τ sig :=
  ⟨binary_bufs_sub .., nullary_bufs_sub .., binary_bufs_sub .., unary_bufs_sub .., nullary_bufs_sub .., binary_bufs_sub .., unary_bufs_sub .., binary_bufs_sub .., nullary_bufs_sub .., binary_bufs_sub .., nullary_bufs_sub .., binary_bufs_sub .., nullary_bufs_sub .., binary_bufs_sub .., binary_bufs_sub .., unary_bufs_sub .., nullary_bufs_sub .., binary_bufs_sub .., nullary_bufs_sub .., binary_bufs_sub .., binary_bufs_sub .., binary_bufs_sub ..⟩

theorem ops4_12_fresh : ∀ op ∈ (ops4_12 : List (HloOp τ sig (Elt F))), op.fresh = ∅ := by
  intro _ h; (repeat (cases h with | head => rfl | tail _ h => ?_)); exact nomatch h

/-- A run of the reference's operations. -/
abbrev ops4_13 : List (HloOp τ sig (Elt F)) :=
  [ nullary main_cst_55 (constant S_ .f32 0x3E4CCCCD#32),
    binary main_v226 main_cst_55 main_v227 (Host.divf : (⟨S_, .f32⟩ : BufTy).Contents (Elt F) → (⟨S_, .f32⟩ : BufTy).Contents (Elt F) → (⟨S_, .f32⟩ : BufTy).Contents (Elt F)),
    unary main_v227 main_v228 (Host.floor : (⟨S_, .f32⟩ : BufTy).Contents (Elt F) → (⟨S_, .f32⟩ : BufTy).Contents (Elt F)),
    nullary main_cst_56 (constant S_ .f32 0x40000000#32),
    binary main_v228 main_cst_56 main_v229 (Host.divf : (⟨S_, .f32⟩ : BufTy).Contents (Elt F) → (⟨S_, .f32⟩ : BufTy).Contents (Elt F) → (⟨S_, .f32⟩ : BufTy).Contents (Elt F)),
    unary main_v229 main_v230 (Host.floor : (⟨S_, .f32⟩ : BufTy).Contents (Elt F) → (⟨S_, .f32⟩ : BufTy).Contents (Elt F)),
    nullary main_cst_57 (constant S_ .f32 0x40000000#32),
    binary main_cst_57 main_v230 main_v231 (mulf : (⟨S_, .f32⟩ : BufTy).Contents (Elt F) → (⟨S_, .f32⟩ : BufTy).Contents (Elt F) → (⟨S_, .f32⟩ : BufTy).Contents (Elt F)),
    binary main_v228 main_v231 main_v232 (subf : (⟨S_, .f32⟩ : BufTy).Contents (Elt F) → (⟨S_, .f32⟩ : BufTy).Contents (Elt F) → (⟨S_, .f32⟩ : BufTy).Contents (Elt F)) ]

theorem ops4_13_sub : (ops4_13 : List (HloOp τ sig (Elt F))).Forall fun op => op.bufs ⊆ tcRefs τ sig :=
  ⟨nullary_bufs_sub .., binary_bufs_sub .., unary_bufs_sub .., nullary_bufs_sub .., binary_bufs_sub .., unary_bufs_sub .., nullary_bufs_sub .., binary_bufs_sub .., binary_bufs_sub ..⟩

theorem ops4_13_fresh : ∀ op ∈ (ops4_13 : List (HloOp τ sig (Elt F))), op.fresh = ∅ := by
  intro _ h; (repeat (cases h with | head => rfl | tail _ h => ?_)); exact nomatch h

/-- A run of the reference's operations. -/
abbrev ops4_14 : List (HloOp τ sig (Elt F)) :=
  [ unary main_v232 main_v233 (broadcastInDim S20 ![] bcast_S_S20 : (⟨S_, .f32⟩ : BufTy).Contents (Elt F) → (⟨S20, .f32⟩ : BufTy).Contents (Elt F)),
    binary main_v177 main_v233 main_v234 (cmpf .oeq : (⟨S20, .f32⟩ : BufTy).Contents (Elt F) → (⟨S20, .f32⟩ : BufTy).Contents (Elt F) → (⟨S20, .i1⟩ : BufTy).Contents (Elt F)),
    unary main_v234 main_v235 (uitofp .f32 : (⟨S20, .i1⟩ : BufTy).Contents (Elt F) → (⟨S20, .f32⟩ : BufTy).Contents (Elt F)),
    nullary main_cst_58 (constant S_ .f32 0x00000000#32),
    binary main_v235 main_cst_58 main_v236 ((fun x v => Host.reduceAdd x v reducesTo_S20_S_d0 h_S_) : (⟨S20, .f32⟩ : BufTy).Contents (Elt F) → (⟨S_, .f32⟩ : BufTy).Contents (Elt F) → (⟨S_, .f32⟩ : BufTy).Contents (Elt F)),
    nullary main_cst_59 (constant S_ .f32 0x00000000#32),
    binary main_v236 main_cst_59 main_v237 (cmpf .oeq : (⟨S_, .f32⟩ : BufTy).Contents (Elt F) → (⟨S_, .f32⟩ : BufTy).Contents (Elt F) → (⟨S_, .i1⟩ : BufTy).Contents (Elt F)),
    nullary main_cst_60 (constant S_ .f32 0x3F800000#32) ]

theorem ops4_14_sub : (ops4_14 : List (HloOp τ sig (Elt F))).Forall fun op => op.bufs ⊆ tcRefs τ sig :=
  ⟨unary_bufs_sub .., binary_bufs_sub .., unary_bufs_sub .., nullary_bufs_sub .., binary_bufs_sub .., nullary_bufs_sub .., binary_bufs_sub .., nullary_bufs_sub ..⟩

theorem ops4_14_fresh : ∀ op ∈ (ops4_14 : List (HloOp τ sig (Elt F))), op.fresh = ∅ := by
  intro _ h; (repeat (cases h with | head => rfl | tail _ h => ?_)); exact nomatch h

/-- A run of the reference's operations. -/
abbrev ops5_14 : List (HloOp τ sig (Elt F)) :=
  [ unary main_cst_60 main_v238 (broadcastInDim S20 ![] bcast_S_S20 : (⟨S_, .f32⟩ : BufTy).Contents (Elt F) → (⟨S20, .f32⟩ : BufTy).Contents (Elt F)),
    TRef.ternary (.of main_v237) (.of main_v238) (.of main_v235) (TRef.of (T := ⟨S20, .f32⟩) main_v239) (fun p a b => select (broadcastInDim S20 ![] bcast_S_S20 p) a b) ]

theorem ops5_14_sub : (ops5_14 : List (HloOp τ sig (Elt F))).Forall fun op => op.bufs ⊆ tcRefs τ sig :=
  ⟨unary_bufs_sub .., ternary_bufs_sub ..⟩

theorem ops5_14_fresh : ∀ op ∈ (ops5_14 : List (HloOp τ sig (Elt F))), op.fresh = ∅ := by
  intro _ h; (repeat (cases h with | head => rfl | tail _ h => ?_)); exact nomatch h

/-- A run of the reference's operations. -/
abbrev ops5_15 : List (HloOp τ sig (Elt F)) :=
  [ unary main_v120 main_v240 ((extractStridedSlice S20x1024x16x16 ![0, 0, 0, 0] · slices_S20x1024x20x16_S20x1024x16x16_0_0_0_0) : (⟨S20x1024x20x16, .f32⟩ : BufTy).Contents (Elt F) → (⟨S20x1024x16x16, .f32⟩ : BufTy).Contents (Elt F)),
    unary main_v120 main_v241 ((extractStridedSlice S20x1024x16x16 ![0, 0, 1, 0] · slices_S20x1024x20x16_S20x1024x16x16_0_0_1_0) : (⟨S20x1024x20x16, .f32⟩ : BufTy).Contents (Elt F) → (⟨S20x1024x16x16, .f32⟩ : BufTy).Contents (Elt F)),
    unary main_v120 main_v242 ((extractStridedSlice S20x1024x16x16 ![0, 0, 2, 0] · slices_S20x1024x20x16_S20x1024x16x16_0_0_2_0) : (⟨S20x1024x20x16, .f32⟩ : BufTy).Contents (Elt F) → (⟨S20x1024x16x16, .f32⟩ : BufTy).Contents (Elt F)),
    unary main_v120 main_v243 ((extractStridedSlice S20x1024x16x16 ![0, 0, 3, 0] · slices_S20x1024x20x16_S20x1024x16x16_0_0_3_0) : (⟨S20x1024x20x16, .f32⟩ : BufTy).Contents (Elt F) → (⟨S20x1024x16x16, .f32⟩ : BufTy).Contents (Elt F)),
    unary main_v120 main_v244 ((extractStridedSlice S20x1024x16x16 ![0, 0, 4, 0] · slices_S20x1024x20x16_S20x1024x16x16_0_0_4_0) : (⟨S20x1024x20x16, .f32⟩ : BufTy).Contents (Elt F) → (⟨S20x1024x16x16, .f32⟩ : BufTy).Contents (Elt F)),
    unary main_v240 main_v245 (broadcastInDim S1x20x1024x16x16 ![1, 2, 3, 4] bcast_S20x1024x16x16_S1x20x1024x16x16_1_2_3_4 : (⟨S20x1024x16x16, .f32⟩ : BufTy).Contents (Elt F) → (⟨S1x20x1024x16x16, .f32⟩ : BufTy).Contents (Elt F)),
    unary main_v241 main_v246 (broadcastInDim S1x20x1024x16x16 ![1, 2, 3, 4] bcast_S20x1024x16x16_S1x20x1024x16x16_1_2_3_4 : (⟨S20x1024x16x16, .f32⟩ : BufTy).Contents (Elt F) → (⟨S1x20x1024x16x16, .f32⟩ : BufTy).Contents (Elt F)),
    unary main_v242 main_v247 (broadcastInDim S1x20x1024x16x16 ![1, 2, 3, 4] bcast_S20x1024x16x16_S1x20x1024x16x16_1_2_3_4 : (⟨S20x1024x16x16, .f32⟩ : BufTy).Contents (Elt F) → (⟨S1x20x1024x16x16, .f32⟩ : BufTy).Contents (Elt F)),
    unary main_v243 main_v248 (broadcastInDim S1x20x1024x16x16 ![1, 2, 3, 4] bcast_S20x1024x16x16_S1x20x1024x16x16_1_2_3_4 : (⟨S20x1024x16x16, .f32⟩ : BufTy).Contents (Elt F) → (⟨S1x20x1024x16x16, .f32⟩ : BufTy).Contents (Elt F)),
    unary main_v244 main_v249 (broadcastInDim S1x20x1024x16x16 ![1, 2, 3, 4] bcast_S20x1024x16x16_S1x20x1024x16x16_1_2_3_4 : (⟨S20x1024x16x16, .f32⟩ : BufTy).Contents (Elt F) → (⟨S1x20x1024x16x16, .f32⟩ : BufTy).Contents (Elt F)),
    nary ![main_v245, main_v246, main_v247, main_v248, main_v249] main_v250 (fun u => (concatenate S5x20x1024x16x16 0 [⟨S1x20x1024x16x16, (u 0 : (⟨S1x20x1024x16x16, .f32⟩ : BufTy).Contents (Elt F))⟩, ⟨S1x20x1024x16x16, (u 1 : (⟨S1x20x1024x16x16, .f32⟩ : BufTy).Contents (Elt F))⟩, ⟨S1x20x1024x16x16, (u 2 : (⟨S1x20x1024x16x16, .f32⟩ : BufTy).Contents (Elt F))⟩, ⟨S1x20x1024x16x16, (u 3 : (⟨S1x20x1024x16x16, .f32⟩ : BufTy).Contents (Elt F))⟩, ⟨S1x20x1024x16x16, (u 4 : (⟨S1x20x1024x16x16, .f32⟩ : BufTy).Contents (Elt F))⟩] concatenates_S1x20x1024x16x16_S1x20x1024x16x16_S1x20x1024x16x16_S1x20x1024x16x16_S1x20x1024x16x16_S5x20x1024x16x16_d0 : (⟨S5x20x1024x16x16, .f32⟩ : BufTy).Contents (Elt F))) ]

theorem ops5_15_sub : (ops5_15 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., nary_bufs_sub ..⟩

theorem ops5_15_fresh : ∀ op ∈ (ops5_15 : List (HloOp τ sig (Elt F))), op.fresh = ∅ := by
  intro _ h; (repeat (cases h with | head => rfl | tail _ h => ?_)); exact nomatch h

/-- A run of the reference's operations. -/
abbrev ops5_16 : List (HloOp τ sig (Elt F)) :=
  [ unary main_v250 main_v251 ((extractStridedSlice S5x16x1024x16x16 ![0, 0, 0, 0, 0] · slices_S5x20x1024x16x16_S5x16x1024x16x16_0_0_0_0_0) : (⟨S5x20x1024x16x16, .f32⟩ : BufTy).Contents (Elt F) → (⟨S5x16x1024x16x16, .f32⟩ : BufTy).Contents (Elt F)),
    unary main_arg6 main_v252 ((extractStridedSlice S20x16x1x5 ![0, 0, 0, 0] · slices_S20x16x5x5_S20x16x1x5_0_0_0_0) : (⟨S20x16x5x5, .f32⟩ : BufTy).Contents (Elt F) → (⟨S20x16x1x5, .f32⟩ : BufTy).Contents (Elt F)),
    reshape main_v252 main_v253 (rfl : (.f32 : EltTy) = .f32) shapeCasts_S20x16x1x5_S20x16x5,
    binary main_v253 main_v251 main_v254 ((fun l r => Host.dotGeneral dot_S20x16x5_S5x16x1024x16x16_S20x16x1024x16_12_40_0_123_n_n none l r) : (⟨S20x16x5, .f32⟩ : BufTy).Contents (Elt F) → (⟨S5x16x1024x16x16, .f32⟩ : BufTy).Contents (Elt F) → (⟨S20x16x1024x16, .f32⟩ : BufTy).Contents (Elt F)),
    unary main_v254 main_v255 ((transpose S1024x16x16x20 [2, 1, 3, 0] · transposes_S20x16x1024x16_S1024x16x16x20_2_1_3_0) : (⟨S20x16x1024x16, .f32⟩ : BufTy).Contents (Elt F) → (⟨S1024x16x16x20, .f32⟩ : BufTy).Contents (Elt F)),
    unary main_v250 main_v256 ((extractStridedSlice S5x16x1024x16x16 ![0, 1, 0, 0, 0] · slices_S5x20x1024x16x16_S5x16x1024x16x16_0_1_0_0_0) : (⟨S5x20x1024x16x16, .f32⟩ : BufTy).Contents (Elt F) → (⟨S5x16x1024x16x16, .f32⟩ : BufTy).Contents (Elt F)),
    unary main_arg6 main_v257 ((extractStridedSlice S20x16x1x5 ![0, 0, 1, 0] · slices_S20x16x5x5_S20x16x1x5_0_0_1_0) : (⟨S20x16x5x5, .f32⟩ : BufTy).Contents (Elt F) → (⟨S20x16x1x5, .f32⟩ : BufTy).Contents (Elt F)),
    reshape main_v257 main_v258 (rfl : (.f32 : EltTy) = .f32) shapeCasts_S20x16x1x5_S20x16x5,
    binary main_v258 main_v256 main_v259 ((fun l r => Host.dotGeneral dot_S20x16x5_S5x16x1024x16x16_S20x16x1024x16_12_40_0_123_n_n none l r) : (⟨S20x16x5, .f32⟩ : BufTy).Contents (Elt F) → (⟨S5x16x1024x16x16, .f32⟩ : BufTy).Contents (Elt F) → (⟨S20x16x1024x16, .f32⟩ : BufTy).Contents (Elt F)),
    unary main_v259 main_v260 ((transpose S1024x16x16x20 [2, 1, 3, 0] · transposes_S20x16x1024x16_S1024x16x16x20_2_1_3_0) : (⟨S20x16x1024x16, .f32⟩ : BufTy).Contents (Elt F) → (⟨S1024x16x16x20, .f32⟩ : BufTy).Contents (Elt F)),
    binary main_v255 main_v260 main_v261 (addf : (⟨S1024x16x16x20, .f32⟩ : BufTy).Contents (Elt F) → (⟨S1024x16x16x20, .f32⟩ : BufTy).Contents (Elt F) → (⟨S1024x16x16x20, .f32⟩ : BufTy).Contents (Elt F)),
    unary main_v250 main_v262 ((extractStridedSlice S5x16x1024x16x16 ![0, 2, 0, 0, 0] · slices_S5x20x1024x16x16_S5x16x1024x16x16_0_2_0_0_0) : (⟨S5x20x1024x16x16, .f32⟩ : BufTy).Contents (Elt F) → (⟨S5x16x1024x16x16, .f32⟩ : BufTy).Contents (Elt F)),
    unary main_arg6 main_v263 ((extractStridedSlice S20x16x1x5 ![0, 0, 2, 0] · slices_S20x16x5x5_S20x16x1x5_0_0_2_0) : (⟨S20x16x5x5, .f32⟩ : BufTy).Contents (Elt F) → (⟨S20x16x1x5, .f32⟩ : BufTy).Contents (Elt F)),
    reshape main_v263 main_v264 (rfl : (.f32 : EltTy) = .f32) shapeCasts_S20x16x1x5_S20x16x5,
    binary main_v264 main_v262 main_v265 ((fun l r => Host.dotGeneral dot_S20x16x5_S5x16x1024x16x16_S20x16x1024x16_12_40_0_123_n_n none l r) : (⟨S20x16x5, .f32⟩ : BufTy).Contents (Elt F) → (⟨S5x16x1024x16x16, .f32⟩ : BufTy).Contents (Elt F) → (⟨S20x16x1024x16, .f32⟩ : BufTy).Contents (Elt F)),
    unary main_v265 main_v266 ((transpose S1024x16x16x20 [2, 1, 3, 0] · transposes_S20x16x1024x16_S1024x16x16x20_2_1_3_0) : (⟨S20x16x1024x16, .f32⟩ : BufTy).Contents (Elt F) → (⟨S1024x16x16x20, .f32⟩ : BufTy).Contents (Elt F)),
    binary main_v261 main_v266 main_v267 (addf : (⟨S1024x16x16x20, .f32⟩ : BufTy).Contents (Elt F) → (⟨S1024x16x16x20, .f32⟩ : BufTy).Contents (Elt F) → (⟨S1024x16x16x20, .f32⟩ : BufTy).Contents (Elt F)),
    unary main_v250 main_v268 ((extractStridedSlice S5x16x1024x16x16 ![0, 3, 0, 0, 0] · slices_S5x20x1024x16x16_S5x16x1024x16x16_0_3_0_0_0) : (⟨S5x20x1024x16x16, .f32⟩ : BufTy).Contents (Elt F) → (⟨S5x16x1024x16x16, .f32⟩ : BufTy).Contents (Elt F)),
    unary main_arg6 main_v269 ((extractStridedSlice S20x16x1x5 ![0, 0, 3, 0] · slices_S20x16x5x5_S20x16x1x5_0_0_3_0) : (⟨S20x16x5x5, .f32⟩ : BufTy).Contents (Elt F) → (⟨S20x16x1x5, .f32⟩ : BufTy).Contents (Elt F)),
    reshape main_v269 main_v270 (rfl : (.f32 : EltTy) = .f32) shapeCasts_S20x16x1x5_S20x16x5,
    binary main_v270 main_v268 main_v271 ((fun l r => Host.dotGeneral dot_S20x16x5_S5x16x1024x16x16_S20x16x1024x16_12_40_0_123_n_n none l r) : (⟨S20x16x5, .f32⟩ : BufTy).Contents (Elt F) → (⟨S5x16x1024x16x16, .f32⟩ : BufTy).Contents (Elt F) → (⟨S20x16x1024x16, .f32⟩ : BufTy).Contents (Elt F)),
    unary main_v271 main_v272 ((transpose S1024x16x16x20 [2, 1, 3, 0] · transposes_S20x16x1024x16_S1024x16x16x20_2_1_3_0) : (⟨S20x16x1024x16, .f32⟩ : BufTy).Contents (Elt F) → (⟨S1024x16x16x20, .f32⟩ : BufTy).Contents (Elt F)),
    binary main_v267 main_v272 main_v273 (addf : (⟨S1024x16x16x20, .f32⟩ : BufTy).Contents (Elt F) → (⟨S1024x16x16x20, .f32⟩ : BufTy).Contents (Elt F) → (⟨S1024x16x16x20, .f32⟩ : BufTy).Contents (Elt F)),
    unary main_v250 main_v274 ((extractStridedSlice S5x16x1024x16x16 ![0, 4, 0, 0, 0] · slices_S5x20x1024x16x16_S5x16x1024x16x16_0_4_0_0_0) : (⟨S5x20x1024x16x16, .f32⟩ : BufTy).Contents (Elt F) → (⟨S5x16x1024x16x16, .f32⟩ : BufTy).Contents (Elt F)),
    unary main_arg6 main_v275 ((extractStridedSlice S20x16x1x5 ![0, 0, 4, 0] · slices_S20x16x5x5_S20x16x1x5_0_0_4_0) : (⟨S20x16x5x5, .f32⟩ : BufTy).Contents (Elt F) → (⟨S20x16x1x5, .f32⟩ : BufTy).Contents (Elt F)),
    reshape main_v275 main_v276 (rfl : (.f32 : EltTy) = .f32) shapeCasts_S20x16x1x5_S20x16x5,
    binary main_v276 main_v274 main_v277 ((fun l r => Host.dotGeneral dot_S20x16x5_S5x16x1024x16x16_S20x16x1024x16_12_40_0_123_n_n none l r) : (⟨S20x16x5, .f32⟩ : BufTy).Contents (Elt F) → (⟨S5x16x1024x16x16, .f32⟩ : BufTy).Contents (Elt F) → (⟨S20x16x1024x16, .f32⟩ : BufTy).Contents (Elt F)),
    unary main_v277 main_v278 ((transpose S1024x16x16x20 [2, 1, 3, 0] · transposes_S20x16x1024x16_S1024x16x16x20_2_1_3_0) : (⟨S20x16x1024x16, .f32⟩ : BufTy).Contents (Elt F) → (⟨S1024x16x16x20, .f32⟩ : BufTy).Contents (Elt F)),
    binary main_v273 main_v278 main_v279 (addf : (⟨S1024x16x16x20, .f32⟩ : BufTy).Contents (Elt F) → (⟨S1024x16x16x20, .f32⟩ : BufTy).Contents (Elt F) → (⟨S1024x16x16x20, .f32⟩ : BufTy).Contents (Elt F)),
    unary main_arg7 main_v280 (broadcastInDim S1x1x1x20 ![3] bcast_S20_S1x1x1x20_3 : (⟨S20, .f32⟩ : BufTy).Contents (Elt F) → (⟨S1x1x1x20, .f32⟩ : BufTy).Contents (Elt F)),
    unary main_v280 main_v281 (broadcastInDim S1024x16x16x20 ![0, 1, 2, 3] bcast_S1x1x1x20_S1024x16x16x20_0_1_2_3 : (⟨S1x1x1x20, .f32⟩ : BufTy).Contents (Elt F) → (⟨S1024x16x16x20, .f32⟩ : BufTy).Contents (Elt F)),
    binary main_v279 main_v281 main_v282 (addf : (⟨S1024x16x16x20, .f32⟩ : BufTy).Contents (Elt F) → (⟨S1024x16x16x20, .f32⟩ : BufTy).Contents (Elt F) → (⟨S1024x16x16x20, .f32⟩ : BufTy).Contents (Elt F)) ]

theorem ops5_16_sub : (ops5_16 : List (HloOp τ sig (Elt F))).Forall fun op => op.bufs ⊆ tcRefs τ sig :=
  ⟨unary_bufs_sub .., unary_bufs_sub .., reshape_bufs_sub .., binary_bufs_sub .., unary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., binary_bufs_sub ..⟩

theorem ops5_16_fresh : ∀ op ∈ (ops5_16 : List (HloOp τ sig (Elt F))), op.fresh = ∅ := by
  intro _ h; (repeat (cases h with | head => rfl | tail _ h => ?_)); exact nomatch h

/-- A run of the reference's operations. -/
abbrev ops5_17 : List (HloOp τ sig (Elt F)) :=
  [ unary main_v239 main_v283 (broadcastInDim S1x1x1x20 ![3] bcast_S20_S1x1x1x20_3 : (⟨S20, .f32⟩ : BufTy).Contents (Elt F) → (⟨S1x1x1x20, .f32⟩ : BufTy).Contents (Elt F)),
    unary main_v283 main_v284 (broadcastInDim S1024x16x16x20 ![0, 1, 2, 3] bcast_S1x1x1x20_S1024x16x16x20_0_1_2_3 : (⟨S1x1x1x20, .f32⟩ : BufTy).Contents (Elt F) → (⟨S1024x16x16x20, .f32⟩ : BufTy).Contents (Elt F)),
    binary main_v282 main_v284 main_v285 (mulf : (⟨S1024x16x16x20, .f32⟩ : BufTy).Contents (Elt F) → (⟨S1024x16x16x20, .f32⟩ : BufTy).Contents (Elt F) → (⟨S1024x16x16x20, .f32⟩ : BufTy).Contents (Elt F)),
    nullary main_cst_61 (constant S_ .f32 0x00000000#32),
    unary main_cst_61 main_v286 (broadcastInDim S1024x16x16x20 ![] bcast_S_S1024x16x16x20 : (⟨S_, .f32⟩ : BufTy).Contents (Elt F) → (⟨S1024x16x16x20, .f32⟩ : BufTy).Contents (Elt F)),
    binary main_v285 main_v286 main_v287 (maximumf : (⟨S1024x16x16x20, .f32⟩ : BufTy).Contents (Elt F) → (⟨S1024x16x16x20, .f32⟩ : BufTy).Contents (Elt F) → (⟨S1024x16x16x20, .f32⟩ : BufTy).Contents (Elt F)),
    reshape main_v287 main_v288 (rfl : (.f32 : EltTy) = .f32) shapeCasts_S1024x16x16x20_S1024x16x8x2x20,
    nullary main_cst_62 (constant S_ .f32 0xFF800000#32),
    binary main_v288 main_cst_62 main_v289 ((fun x v => Host.reduce FloatOps.maximumf x v reducesTo_S1024x16x8x2x20_S1024x16x8x20_d3 h_S_) : (⟨S1024x16x8x2x20, .f32⟩ : BufTy).Contents (Elt F) → (⟨S_, .f32⟩ : BufTy).Contents (Elt F) → (⟨S1024x16x8x20, .f32⟩ : BufTy).Contents (Elt F)),
    reshape main_v289 main_v290 (rfl : (.f32 : EltTy) = .f32) shapeCasts_S1024x16x8x20_S1024x8x2x8x20,
    nullary main_cst_63 (constant S_ .f32 0xFF800000#32),
    binary main_v290 main_cst_63 main_v291 ((fun x v => Host.reduce FloatOps.maximumf x v reducesTo_S1024x8x2x8x20_S1024x8x8x20_d2 h_S_) : (⟨S1024x8x2x8x20, .f32⟩ : BufTy).Contents (Elt F) → (⟨S_, .f32⟩ : BufTy).Contents (Elt F) → (⟨S1024x8x8x20, .f32⟩ : BufTy).Contents (Elt F)),
    unary main_v291 main_v292 ((transpose S8x1024x8x20 [1, 0, 2, 3] · transposes_S1024x8x8x20_S8x1024x8x20_1_0_2_3) : (⟨S1024x8x8x20, .f32⟩ : BufTy).Contents (Elt F) → (⟨S8x1024x8x20, .f32⟩ : BufTy).Contents (Elt F)),
    reshape main_v292 main_v293 (rfl : (.f32 : EltTy) = .f32) shapeCasts_S8x1024x8x20_S8x1024x160 ]

theorem ops5_17_sub : (ops5_17 : List (HloOp τ sig (Elt F))).Forall fun op => op.bufs ⊆ tcRefs τ sig :=
  ⟨unary_bufs_sub .., unary_bufs_sub .., binary_bufs_sub .., nullary_bufs_sub .., unary_bufs_sub .., binary_bufs_sub .., reshape_bufs_sub .., nullary_bufs_sub .., binary_bufs_sub .., reshape_bufs_sub .., nullary_bufs_sub .., binary_bufs_sub .., unary_bufs_sub .., reshape_bufs_sub ..⟩

theorem ops5_17_fresh : ∀ op ∈ (ops5_17 : List (HloOp τ sig (Elt F))), op.fresh = ∅ := by
  intro _ h; (repeat (cases h with | head => rfl | tail _ h => ?_)); exact nomatch h

/-- A run of the reference's operations. -/
abbrev ops5_18 : List (HloOp τ sig (Elt F)) :=
  [ nullary main_c (constantI S_ 32 0#32) ]

theorem ops5_18_sub : (ops5_18 : List (HloOp τ sig (Elt F))).Forall fun op => op.bufs ⊆ tcRefs τ sig :=
  nullary_bufs_sub ..

theorem ops5_18_fresh : ∀ op ∈ (ops5_18 : List (HloOp τ sig (Elt F))), op.fresh = ∅ := by
  intro _ h; (repeat (cases h with | head => rfl | tail _ h => ?_)); exact nomatch h

/-- A run of the reference's operations. -/
abbrev ops6_18 : List (HloOp τ sig (Elt F)) :=
  [ TRef.unary (TRef.of (T := ⟨S_, .i32⟩) main_c) (TRef.of (T := ⟨S_, .f32⟩) main_call2_v0) (sitofp .f32),
    TRef.binary (TRef.of (T := ⟨S8x1024x160, .f32⟩) main_v293) (TRef.of (T := ⟨S_, .f32⟩) main_call2_v0) (TRef.of (T := ⟨S12x1024x256, .f32⟩) main_v294) (fun x v => pad S12x1024x256 ![2, 0, 40] ![2, 0, 56] ![0, 0, 0] x v pads_S8x1024x160_S12x1024x256_220_000_40560 h_S_) ]

theorem ops6_18_sub : (ops6_18 : List (HloOp τ sig (Elt F))).Forall fun op => op.bufs ⊆ tcRefs τ sig :=
  ⟨unary_bufs_sub .., binary_bufs_sub ..⟩

theorem ops6_18_fresh : ∀ op ∈ (ops6_18 : List (HloOp τ sig (Elt F))), op.fresh = ∅ := by
  intro _ h; (repeat (cases h with | head => rfl | tail _ h => ?_)); exact nomatch h

/-- A run of the reference's operations. -/
abbrev ops6_19 : List (HloOp τ sig (Elt F)) :=
  [ nullary main_cst_64 (constant S_ .f32 0x00000000#32),
    binary main_v294 main_cst_64 main_v295 ((fun x v => Host.reduceAdd x v reducesTo_S12x1024x256_S12x256_d1 h_S_) : (⟨S12x1024x256, .f32⟩ : BufTy).Contents (Elt F) → (⟨S_, .f32⟩ : BufTy).Contents (Elt F) → (⟨S12x256, .f32⟩ : BufTy).Contents (Elt F)) ]

theorem ops6_19_sub : (ops6_19 : List (HloOp τ sig (Elt F))).Forall fun op => op.bufs ⊆ tcRefs τ sig :=
  ⟨nullary_bufs_sub .., binary_bufs_sub ..⟩

theorem ops6_19_fresh : ∀ op ∈ (ops6_19 : List (HloOp τ sig (Elt F))), op.fresh = ∅ := by
  intro _ h; (repeat (cases h with | head => rfl | tail _ h => ?_)); exact nomatch h

/-- A stage of the reference. -/
def seg0 : List (HloOp τ sig (Elt F)) := ops0_0

/-- A stage of the reference. -/
def seg1 : List (HloOp τ sig (Elt F)) := ops0_1

/-- A stage of the reference. -/
def seg2 : List (HloOp τ sig (Elt F)) := ops0_2

/-- A stage of the reference. -/
def seg3 : List (HloOp τ sig (Elt F)) := ops1_3

/-- A stage of the reference. -/
def seg4 : List (HloOp τ sig (Elt F)) := ops1_4 ++ ops2_4

/-- A stage of the reference. -/
def seg5 : List (HloOp τ sig (Elt F)) := ops2_5

/-- A stage of the reference. -/
def seg6 : List (HloOp τ sig (Elt F)) := ops2_6

/-- A stage of the reference. -/
def seg7 : List (HloOp τ sig (Elt F)) := ops2_7

/-- A stage of the reference. -/
def seg8 : List (HloOp τ sig (Elt F)) := ops2_8

/-- A stage of the reference. -/
def seg9 : List (HloOp τ sig (Elt F)) := ops2_9 ++ ops3_9

/-- A stage of the reference. -/
def seg10 : List (HloOp τ sig (Elt F)) := ops3_10

/-- A stage of the reference. -/
def seg11 : List (HloOp τ sig (Elt F)) := ops3_11 ++ ops4_11

/-- A stage of the reference. -/
def seg12 : List (HloOp τ sig (Elt F)) := ops4_12

/-- A stage of the reference. -/
def seg13 : List (HloOp τ sig (Elt F)) := ops4_13

/-- A stage of the reference. -/
def seg14 : List (HloOp τ sig (Elt F)) := ops4_14 ++ ops5_14

/-- A stage of the reference. -/
def seg15 : List (HloOp τ sig (Elt F)) := ops5_15

/-- A stage of the reference. -/
def seg16 : List (HloOp τ sig (Elt F)) := ops5_16

/-- A stage of the reference. -/
def seg17 : List (HloOp τ sig (Elt F)) := ops5_17

/-- A stage of the reference. -/
def seg18 : List (HloOp τ sig (Elt F)) := ops5_18 ++ ops6_18

/-- A stage of the reference. -/
def seg19 : List (HloOp τ sig (Elt F)) := ops6_19

theorem part0_eq (c : Dev nD) : main_part0 (F := F) c = seq (ops0_0 ++ ops0_1 ++ ops0_2) := rfl

theorem part1_eq (c : Dev nD) : main_part1 (F := F) c = seq (ops1_3 ++ ops1_4) := rfl

theorem part2_eq (c : Dev nD) : main_part2 (F := F) c = seq (ops2_4 ++ ops2_5 ++ ops2_6 ++ ops2_7 ++ ops2_8 ++ ops2_9) := rfl

theorem part3_eq (c : Dev nD) : main_part3 (F := F) c = seq (ops3_9 ++ ops3_10 ++ ops3_11) := rfl

theorem part4_eq (c : Dev nD) : main_part4 (F := F) c = seq (ops4_11 ++ ops4_12 ++ ops4_13 ++ ops4_14) := rfl

theorem part5_eq (c : Dev nD) : main_part5 (F := F) c = seq (ops5_14 ++ ops5_15 ++ ops5_16 ++ ops5_17 ++ ops5_18) := rfl

theorem part6_eq (c : Dev nD) : main_part6 (F := F) c = seq (ops6_18 ++ ops6_19) := rfl

/-- All the operations of the reference, in order. -/
abbrev ops : List (HloOp τ sig (Elt F)) := seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18 ++ (seg19)))))))))))))))))))

theorem main_eq (c : Dev nD) : main (F := F) c = seq ops := by
  show (main_part0 c >>= fun _ => main_part1 c >>= fun _ => main_part2 c >>= fun _ => main_part3 c >>= fun _ => main_part4 c >>= fun _ => main_part5 c >>= fun _ => main_part6 c) = _
  rw [part0_eq, part1_eq, part2_eq, part3_eq, part4_eq, part5_eq, part6_eq]
  simp only [ops, seg0, seg1, seg2, seg3, seg4, seg5, seg6, seg7, seg8, seg9, seg10, seg11, seg12, seg13, seg14, seg15, seg16, seg17, seg18, seg19, seq_append, bind_assoc]

theorem ops_sub : (ops : List (HloOp τ sig (Elt F))).Forall fun op => op.bufs ⊆ tcRefs τ sig := by
  refine List.forall_iff_forall_mem.2 fun op h => ?_
  rcases List.mem_append.1 h with h | h
  · exact List.forall_iff_forall_mem.1 ops0_0_sub op h
  rcases List.mem_append.1 h with h | h
  · exact List.forall_iff_forall_mem.1 ops0_1_sub op h
  rcases List.mem_append.1 h with h | h
  · exact List.forall_iff_forall_mem.1 ops0_2_sub op h
  rcases List.mem_append.1 h with h | h
  · exact List.forall_iff_forall_mem.1 ops1_3_sub op h
  rcases List.mem_append.1 h with h | h
  · rcases List.mem_append.1 h with h | h
    · exact List.forall_iff_forall_mem.1 ops1_4_sub op h
    · exact List.forall_iff_forall_mem.1 ops2_4_sub op h
  rcases List.mem_append.1 h with h | h
  · exact List.forall_iff_forall_mem.1 ops2_5_sub op h
  rcases List.mem_append.1 h with h | h
  · exact List.forall_iff_forall_mem.1 ops2_6_sub op h
  rcases List.mem_append.1 h with h | h
  · exact List.forall_iff_forall_mem.1 ops2_7_sub op h
  rcases List.mem_append.1 h with h | h
  · exact List.forall_iff_forall_mem.1 ops2_8_sub op h
  rcases List.mem_append.1 h with h | h
  · rcases List.mem_append.1 h with h | h
    · exact List.forall_iff_forall_mem.1 ops2_9_sub op h
    · exact List.forall_iff_forall_mem.1 ops3_9_sub op h
  rcases List.mem_append.1 h with h | h
  · exact List.forall_iff_forall_mem.1 ops3_10_sub op h
  rcases List.mem_append.1 h with h | h
  · rcases List.mem_append.1 h with h | h
    · exact List.forall_iff_forall_mem.1 ops3_11_sub op h
    · exact List.forall_iff_forall_mem.1 ops4_11_sub op h
  rcases List.mem_append.1 h with h | h
  · exact List.forall_iff_forall_mem.1 ops4_12_sub op h
  rcases List.mem_append.1 h with h | h
  · exact List.forall_iff_forall_mem.1 ops4_13_sub op h
  rcases List.mem_append.1 h with h | h
  · rcases List.mem_append.1 h with h | h
    · exact List.forall_iff_forall_mem.1 ops4_14_sub op h
    · exact List.forall_iff_forall_mem.1 ops5_14_sub op h
  rcases List.mem_append.1 h with h | h
  · exact List.forall_iff_forall_mem.1 ops5_15_sub op h
  rcases List.mem_append.1 h with h | h
  · exact List.forall_iff_forall_mem.1 ops5_16_sub op h
  rcases List.mem_append.1 h with h | h
  · exact List.forall_iff_forall_mem.1 ops5_17_sub op h
  rcases List.mem_append.1 h with h | h
  · rcases List.mem_append.1 h with h | h
    · exact List.forall_iff_forall_mem.1 ops5_18_sub op h
    · exact List.forall_iff_forall_mem.1 ops6_18_sub op h
  exact List.forall_iff_forall_mem.1 ops6_19_sub op h

theorem ops_fresh : ∀ op ∈ (ops : List (HloOp τ sig (Elt F))), op.fresh = ∅ := by
  intro op h
  rcases List.mem_append.1 h with h | h
  · exact ops0_0_fresh op h
  rcases List.mem_append.1 h with h | h
  · exact ops0_1_fresh op h
  rcases List.mem_append.1 h with h | h
  · exact ops0_2_fresh op h
  rcases List.mem_append.1 h with h | h
  · exact ops1_3_fresh op h
  rcases List.mem_append.1 h with h | h
  · rcases List.mem_append.1 h with h | h
    · exact ops1_4_fresh op h
    · exact ops2_4_fresh op h
  rcases List.mem_append.1 h with h | h
  · exact ops2_5_fresh op h
  rcases List.mem_append.1 h with h | h
  · exact ops2_6_fresh op h
  rcases List.mem_append.1 h with h | h
  · exact ops2_7_fresh op h
  rcases List.mem_append.1 h with h | h
  · exact ops2_8_fresh op h
  rcases List.mem_append.1 h with h | h
  · rcases List.mem_append.1 h with h | h
    · exact ops2_9_fresh op h
    · exact ops3_9_fresh op h
  rcases List.mem_append.1 h with h | h
  · exact ops3_10_fresh op h
  rcases List.mem_append.1 h with h | h
  · rcases List.mem_append.1 h with h | h
    · exact ops3_11_fresh op h
    · exact ops4_11_fresh op h
  rcases List.mem_append.1 h with h | h
  · exact ops4_12_fresh op h
  rcases List.mem_append.1 h with h | h
  · exact ops4_13_fresh op h
  rcases List.mem_append.1 h with h | h
  · rcases List.mem_append.1 h with h | h
    · exact ops4_14_fresh op h
    · exact ops5_14_fresh op h
  rcases List.mem_append.1 h with h | h
  · exact ops5_15_fresh op h
  rcases List.mem_append.1 h with h | h
  · exact ops5_16_fresh op h
  rcases List.mem_append.1 h with h | h
  · exact ops5_17_fresh op h
  rcases List.mem_append.1 h with h | h
  · rcases List.mem_append.1 h with h | h
    · exact ops5_18_fresh op h
    · exact ops6_18_fresh op h
  exact ops6_19_fresh op h

end Cert.ReferenceBIdeal.Value
end
-- ==== Proof.RefStA.lean ====
module
public import proofs.«01_k».proof.Proof.Gen.ReferenceBIdeal
public import proofs.«01_k».proof.Proof.RefOpsB
public import Idealize.ShloMosaic.Lib.Pipeline.ValueKit
public import Idealize.ShloMosaic.Lib.Claim
public import Idealize.ShloMosaic.Lib.Pointwise
public import Idealize.ShloMosaic.PureOps.Ideal
public import Idealize.ShloMosaic.Lib.StableHlo.RunRead
@[expose] public section
set_option maxRecDepth 16384
set_option maxHeartbeats 4000000
noncomputable section
namespace Cert.ReferenceBIdeal.Value
open Cert.ReferenceBIdeal Cert.ReferenceBIdeal.Gen Idealize.ShloMosaic Idealize.ShloMosaic.TcCoe Idealize.SL.Sem Idealize.ShloMosaic.StableHlo

variable {F : FTy → Type} [FloatOps F]

/-- The value `v0` of the reference from the values before its stage. -/
def st_v0 (arg3 : FVec F S16x3x5x5 .f32) : FVec F S16x75 .f32 :=
  shapeCast S16x75 arg3 shapeCasts_S16x3x5x5_S16x75

theorem after_v0 (W : Valuation τ sig (Elt F)) : after seg0 W (Proc.devRef .tc main_v0) = st_v0 (W (Proc.devRef .tc main_arg3)) := by
  after_reads_simp
  rfl

/-- The value `v6` of the reference from the values before its stage. -/
def st_v6 (arg3 : FVec F S16x3x5x5 .f32) : FVec F S_ .f32 :=
  have v0 : FVec F S16x75 .f32 := shapeCast S16x75 arg3 shapeCasts_S16x3x5x5_S16x75
  have v1 : FVec F S16x75 .f32 := (mulf) v0 v0
  have cst : FVec F S_ .f32 := (constant S_ .f32 0x00000000#32)
  have v2 : FVec F S16 .f32 := Host.reduceAdd v1 cst reducesTo_S16x75_S16_d1 h_S_
  have v3 : FVec F S16 .f32 := (Host.sqrt) v2
  have cst_0 : FVec F S_ .f32 := (constant S_ .f32 0xFF800000#32)
  have v4 : FVec F S_ .f32 := Host.reduce FloatOps.maximumf v3 cst_0 reducesTo_S16_S_d0 h_S_
  have cst_1 : FVec F S_ .f32 := (constant S_ .f32 0x2B8CBCCC#32)
  have v5 : FVec F S_ .f32 := (maximumf) v4 cst_1
  have cst_2 : FVec F S_ .f32 := (constant S_ .f32 0x3F400000#32)
  (Host.divf) cst_2 v5

theorem after_v6 (W : Valuation τ sig (Elt F)) : after seg0 W (Proc.devRef .tc main_v6) = st_v6 (W (Proc.devRef .tc main_arg3)) := by
  after_reads_simp
  rfl

/-- The value `v11` of the reference from the values before its stage. -/
def st_v11 (arg3 : FVec F S16x3x5x5 .f32) : FVec F S16 .f32 :=
  have v0 : FVec F S16x75 .f32 := shapeCast S16x75 arg3 shapeCasts_S16x3x5x5_S16x75
  have v1 : FVec F S16x75 .f32 := (mulf) v0 v0
  have cst : FVec F S_ .f32 := (constant S_ .f32 0x00000000#32)
  have v2 : FVec F S16 .f32 := Host.reduceAdd v1 cst reducesTo_S16x75_S16_d1 h_S_
  have v3 : FVec F S16 .f32 := (Host.sqrt) v2
  have cst_0 : FVec F S_ .f32 := (constant S_ .f32 0xFF800000#32)
  have v4 : FVec F S_ .f32 := Host.reduce FloatOps.maximumf v3 cst_0 reducesTo_S16_S_d0 h_S_
  have cst_1 : FVec F S_ .f32 := (constant S_ .f32 0x2B8CBCCC#32)
  have v5 : FVec F S_ .f32 := (maximumf) v4 cst_1
  have cst_2 : FVec F S_ .f32 := (constant S_ .f32 0x3F400000#32)
  have v6 : FVec F S_ .f32 := (Host.divf) cst_2 v5
  have v7 : FVec F S16x75 .f32 := (mulf) v0 v0
  have cst_3 : FVec F S_ .f32 := (constant S_ .f32 0x00000000#32)
  have v8 : FVec F S16 .f32 := Host.reduceAdd v7 cst_3 reducesTo_S16x75_S16_d1 h_S_
  have v9 : FVec F S16 .f32 := (Host.sqrt) v8
  have v10 : FVec F S16 .f32 := (broadcastInDim S16 ![] bcast_S_S16) v6
  (mulf) v9 v10

theorem after_v11 (W : Valuation τ sig (Elt F)) : after seg0 W (Proc.devRef .tc main_v11) = st_v11 (W (Proc.devRef .tc main_arg3)) := by
  after_reads_simp
  rfl

/-- The value `v42` of the reference from the values before its stage. -/
def st_v42 (v11 : FVec F S16 .f32) (arg4 : FVec F S80 .f32) (v0 : FVec F S16x75 .f32) (v6 : FVec F S_ .f32) (arg5 : FVec F S_ .f32) : FVec F S16 .f32 :=
  have v12 : FVec F S16 .f32 := (mulf) v11 v11
  have v13 : FVec F S1 .f32 := extractStridedSlice S1 ![75] arg4 slices_S80_S1_75
  have v14 : FVec F S16 .f32 := (broadcastInDim S16 ![0] bcast_S1_S16_0) v13
  have v15 : FVec F S16 .f32 := (mulf) v12 v14
  have v16 : FVec F S16 .f32 := (mulf) v12 v12
  have v17 : FVec F S1 .f32 := extractStridedSlice S1 ![76] arg4 slices_S80_S1_76
  have v18 : FVec F S16 .f32 := (broadcastInDim S16 ![0] bcast_S1_S16_0) v17
  have v19 : FVec F S16 .f32 := (mulf) v16 v18
  have v20 : FVec F S16 .f32 := (addf) v15 v19
  have v21 : FVec F S16 .f32 := (mulf) v16 v16
  have v22 : FVec F S1 .f32 := extractStridedSlice S1 ![77] arg4 slices_S80_S1_77
  have v23 : FVec F S16 .f32 := (broadcastInDim S16 ![0] bcast_S1_S16_0) v22
  have v24 : FVec F S16 .f32 := (mulf) v21 v23
  have v25 : FVec F S16 .f32 := (addf) v20 v24
  have v26 : FVec F S16 .f32 := (mulf) v21 v21
  have v27 : FVec F S1 .f32 := extractStridedSlice S1 ![78] arg4 slices_S80_S1_78
  have v28 : FVec F S16 .f32 := (broadcastInDim S16 ![0] bcast_S1_S16_0) v27
  have v29 : FVec F S16 .f32 := (mulf) v26 v28
  have v30 : FVec F S16 .f32 := (addf) v25 v29
  have v31 : FVec F S16 .f32 := (mulf) v26 v26
  have v32 : FVec F S1 .f32 := extractStridedSlice S1 ![79] arg4 slices_S80_S1_79
  have v33 : FVec F S16 .f32 := (broadcastInDim S16 ![0] bcast_S1_S16_0) v32
  have v34 : FVec F S16 .f32 := (mulf) v31 v33
  have v35 : FVec F S16 .f32 := (addf) v30 v34
  have v36 : FVec F S75 .f32 := extractStridedSlice S75 ![0] arg4 slices_S80_S75_0
  have v37 : FVec F S16 .f32 := Host.dotGeneral dot_S16x75_S75_S16_1_0_0_n_n_n none v0 v36
  have v38 : FVec F S16 .f32 := (broadcastInDim S16 ![] bcast_S_S16) v6
  have v39 : FVec F S16 .f32 := (mulf) v37 v38
  have v40 : FVec F S16 .f32 := (addf) v39 v35
  have v41 : FVec F S16 .f32 := (broadcastInDim S16 ![] bcast_S_S16) arg5
  (addf) v40 v41

theorem after_v42 (W : Valuation τ sig (Elt F)) : after seg1 W (Proc.devRef .tc main_v42) = st_v42 (W (Proc.devRef .tc main_v11)) (W (Proc.devRef .tc main_arg4)) (W (Proc.devRef .tc main_v0)) (W (Proc.devRef .tc main_v6)) (W (Proc.devRef .tc main_arg5)) := by
  after_reads_simp
  rfl

/-- The value `v51` of the reference from the values before its stage. -/
def st_v51 (v42 : FVec F S16 .f32) : FVec F S16 .f32 :=
  have cst_4 : FVec F S_ .f32 := (constant S_ .f32 0x3E4CCCCD#32)
  have v43 : FVec F S16 .f32 := (broadcastInDim S16 ![] bcast_S_S16) cst_4
  have v44 : FVec F S16 .f32 := (Host.divf) v42 v43
  have v45 : FVec F S16 .f32 := (Host.floor) v44
  have cst_5 : FVec F S_ .f32 := (constant S_ .f32 0x40000000#32)
  have v46 : FVec F S16 .f32 := (broadcastInDim S16 ![] bcast_S_S16) cst_5
  have v47 : FVec F S16 .f32 := (Host.divf) v45 v46
  have v48 : FVec F S16 .f32 := (Host.floor) v47
  have cst_6 : FVec F S_ .f32 := (constant S_ .f32 0x40000000#32)
  have v49 : FVec F S16 .f32 := (broadcastInDim S16 ![] bcast_S_S16) cst_6
  have v50 : FVec F S16 .f32 := (mulf) v49 v48
  (subf) v45 v50

theorem after_v51 (W : Valuation τ sig (Elt F)) : after seg2 W (Proc.devRef .tc main_v51) = st_v51 (W (Proc.devRef .tc main_v42)) := by
  after_reads_simp
  rfl

/-- The value `v55` of the reference from the values before its stage. -/
def st_v55 (arg4 : FVec F S80 .f32) : FVec F S3x5x5 .f32 :=
  have v54 : FVec F S75 .f32 := extractStridedSlice S75 ![0] arg4 slices_S80_S75_0
  shapeCast S3x5x5 v54 shapeCasts_S75_S3x5x5

theorem after_v55 (W : Valuation τ sig (Elt F)) : after seg3 W (Proc.devRef .tc main_v55) = st_v55 (W (Proc.devRef .tc main_arg4)) := by
  after_reads_simp
  rfl

/-- The value `v87` of the reference from the values before its stage. -/
def st_v87 (arg2 : FVec F S36x128 .f32) : FVec F S5x5x3 .f32 :=
  have v52 : FVec F S36x108 .f32 := extractStridedSlice S36x108 ![0, 0] arg2 slices_S36x128_S36x108_0_0
  have v53 : FVec F S36x36x3 .f32 := shapeCast S36x36x3 v52 shapeCasts_S36x108_S36x36x3
  have v56 : FVec F S32x36x3 .f32 := extractStridedSlice S32x36x3 ![0, 0, 0] v53 slices_S36x36x3_S32x36x3_0_0_0
  have cst_7 : FVec F S_ .f32 := (constant S_ .f32 0x00000000#32)
  have v57 : FVec F S36x3 .f32 := Host.reduceAdd v56 cst_7 reducesTo_S32x36x3_S36x3_d0 h_S_
  have v58 : FVec F S32x36x3 .f32 := extractStridedSlice S32x36x3 ![1, 0, 0] v53 slices_S36x36x3_S32x36x3_1_0_0
  have cst_8 : FVec F S_ .f32 := (constant S_ .f32 0x00000000#32)
  have v59 : FVec F S36x3 .f32 := Host.reduceAdd v58 cst_8 reducesTo_S32x36x3_S36x3_d0 h_S_
  have v60 : FVec F S32x36x3 .f32 := extractStridedSlice S32x36x3 ![2, 0, 0] v53 slices_S36x36x3_S32x36x3_2_0_0
  have cst_9 : FVec F S_ .f32 := (constant S_ .f32 0x00000000#32)
  have v61 : FVec F S36x3 .f32 := Host.reduceAdd v60 cst_9 reducesTo_S32x36x3_S36x3_d0 h_S_
  have v62 : FVec F S32x36x3 .f32 := extractStridedSlice S32x36x3 ![3, 0, 0] v53 slices_S36x36x3_S32x36x3_3_0_0
  have cst_10 : FVec F S_ .f32 := (constant S_ .f32 0x00000000#32)
  have v63 : FVec F S36x3 .f32 := Host.reduceAdd v62 cst_10 reducesTo_S32x36x3_S36x3_d0 h_S_
  have v64 : FVec F S32x36x3 .f32 := extractStridedSlice S32x36x3 ![4, 0, 0] v53 slices_S36x36x3_S32x36x3_4_0_0
  have cst_11 : FVec F S_ .f32 := (constant S_ .f32 0x00000000#32)
  have v65 : FVec F S36x3 .f32 := Host.reduceAdd v64 cst_11 reducesTo_S32x36x3_S36x3_d0 h_S_
  have v66 : FVec F S1x36x3 .f32 := (broadcastInDim S1x36x3 ![1, 2] bcast_S36x3_S1x36x3_1_2) v57
  have v67 : FVec F S1x36x3 .f32 := (broadcastInDim S1x36x3 ![1, 2] bcast_S36x3_S1x36x3_1_2) v59
  have v68 : FVec F S1x36x3 .f32 := (broadcastInDim S1x36x3 ![1, 2] bcast_S36x3_S1x36x3_1_2) v61
  have v69 : FVec F S1x36x3 .f32 := (broadcastInDim S1x36x3 ![1, 2] bcast_S36x3_S1x36x3_1_2) v63
  have v70 : FVec F S1x36x3 .f32 := (broadcastInDim S1x36x3 ![1, 2] bcast_S36x3_S1x36x3_1_2) v65
  have v71 : FVec F S5x36x3 .f32 := concatenate S5x36x3 0 [⟨S1x36x3, v66⟩, ⟨S1x36x3, v67⟩, ⟨S1x36x3, v68⟩, ⟨S1x36x3, v69⟩, ⟨S1x36x3, v70⟩] concatenates_S1x36x3_S1x36x3_S1x36x3_S1x36x3_S1x36x3_S5x36x3_d0
  have v72 : FVec F S5x32x3 .f32 := extractStridedSlice S5x32x3 ![0, 0, 0] v71 slices_S5x36x3_S5x32x3_0_0_0
  have cst_12 : FVec F S_ .f32 := (constant S_ .f32 0x00000000#32)
  have v73 : FVec F S5x3 .f32 := Host.reduceAdd v72 cst_12 reducesTo_S5x32x3_S5x3_d1 h_S_
  have v74 : FVec F S5x32x3 .f32 := extractStridedSlice S5x32x3 ![0, 1, 0] v71 slices_S5x36x3_S5x32x3_0_1_0
  have cst_13 : FVec F S_ .f32 := (constant S_ .f32 0x00000000#32)
  have v75 : FVec F S5x3 .f32 := Host.reduceAdd v74 cst_13 reducesTo_S5x32x3_S5x3_d1 h_S_
  have v76 : FVec F S5x32x3 .f32 := extractStridedSlice S5x32x3 ![0, 2, 0] v71 slices_S5x36x3_S5x32x3_0_2_0
  have cst_14 : FVec F S_ .f32 := (constant S_ .f32 0x00000000#32)
  have v77 : FVec F S5x3 .f32 := Host.reduceAdd v76 cst_14 reducesTo_S5x32x3_S5x3_d1 h_S_
  have v78 : FVec F S5x32x3 .f32 := extractStridedSlice S5x32x3 ![0, 3, 0] v71 slices_S5x36x3_S5x32x3_0_3_0
  have cst_15 : FVec F S_ .f32 := (constant S_ .f32 0x00000000#32)
  have v79 : FVec F S5x3 .f32 := Host.reduceAdd v78 cst_15 reducesTo_S5x32x3_S5x3_d1 h_S_
  have v80 : FVec F S5x32x3 .f32 := extractStridedSlice S5x32x3 ![0, 4, 0] v71 slices_S5x36x3_S5x32x3_0_4_0
  have cst_16 : FVec F S_ .f32 := (constant S_ .f32 0x00000000#32)
  have v81 : FVec F S5x3 .f32 := Host.reduceAdd v80 cst_16 reducesTo_S5x32x3_S5x3_d1 h_S_
  have v82 : FVec F S1x5x3 .f32 := (broadcastInDim S1x5x3 ![1, 2] bcast_S5x3_S1x5x3_1_2) v73
  have v83 : FVec F S1x5x3 .f32 := (broadcastInDim S1x5x3 ![1, 2] bcast_S5x3_S1x5x3_1_2) v75
  have v84 : FVec F S1x5x3 .f32 := (broadcastInDim S1x5x3 ![1, 2] bcast_S5x3_S1x5x3_1_2) v77
  have v85 : FVec F S1x5x3 .f32 := (broadcastInDim S1x5x3 ![1, 2] bcast_S5x3_S1x5x3_1_2) v79
  have v86 : FVec F S1x5x3 .f32 := (broadcastInDim S1x5x3 ![1, 2] bcast_S5x3_S1x5x3_1_2) v81
  concatenate S5x5x3 0 [⟨S1x5x3, v82⟩, ⟨S1x5x3, v83⟩, ⟨S1x5x3, v84⟩, ⟨S1x5x3, v85⟩, ⟨S1x5x3, v86⟩] concatenates_S1x5x3_S1x5x3_S1x5x3_S1x5x3_S1x5x3_S5x5x3_d0

theorem after_v87 (W : Valuation τ sig (Elt F)) : after seg3 W (Proc.devRef .tc main_v87) = st_v87 (W (Proc.devRef .tc main_arg2)) := by
  after_reads_simp
  try simp only [Matrix.cons_val_zero, Matrix.cons_val_one]
  rfl

/-- The value `v102` of the reference from the values before its stage. -/
def st_v102 (v87 : FVec F S5x5x3 .f32) (v55 : FVec F S3x5x5 .f32) (arg4 : FVec F S80 .f32) (arg5 : FVec F S_ .f32) : FVec F S_ .f32 :=
  have v88 : FVec F S5x5x3 .f32 := (mulf) v87 v87
  have cst_17 : FVec F S_ .f32 := (constant S_ .f32 0x00000000#32)
  have v89 : FVec F S_ .f32 := Host.reduceAdd v88 cst_17 reducesTo_S5x5x3_S_d0_1_2 h_S_
  have v90 : FVec F S_ .f32 := (Host.sqrt) v89
  have cst_18 : FVec F S_ .f32 := (constant S_ .f32 0x49800000#32)
  have v91 : FVec F S_ .f32 := (Host.divf) v90 cst_18
  have v92 : FVec F S5x5x3 .f32 := transpose S5x5x3 [2, 1, 0] v55 transposes_S3x5x5_S5x5x3_2_1_0
  have v93 : FVec F S5x5x3 .f32 := (mulf) v87 v92
  have cst_19 : FVec F S_ .f32 := (constant S_ .f32 0x00000000#32)
  have v94 : FVec F S_ .f32 := Host.reduceAdd v93 cst_19 reducesTo_S5x5x3_S_d0_1_2 h_S_
  have cst_20 : FVec F S_ .f32 := (constant S_ .f32 0x49800000#32)
  have v95 : FVec F S_ .f32 := (Host.divf) v94 cst_20
  have cst_21 : FVec F S_ .f32 := (constant S_ .f32 0x2B8CBCCC#32)
  have v96 : FVec F S_ .f32 := (maximumf) v91 cst_21
  have v97 : FVec F S_ .f32 := (Host.divf) v95 v96
  have v98 : FVec F S5 .f32 := extractStridedSlice S5 ![75] arg4 slices_S80_S5_75
  have cst_22 : FVec F S_ .f32 := (constant S_ .f32 0x00000000#32)
  have v99 : FVec F S_ .f32 := Host.reduceAdd v98 cst_22 reducesTo_S5_S_d0 h_S_
  have cst_23 : FVec F S_ .f32 := (constant S_ .f32 0x3F000000#32)
  have v100 : FVec F S_ .f32 := (mulf) cst_23 v99
  have v101 : FVec F S_ .f32 := (addf) v97 v100
  (addf) v101 arg5

theorem after_v102 (W : Valuation τ sig (Elt F)) : after seg4 W (Proc.devRef .tc main_v102) = st_v102 (W (Proc.devRef .tc main_v87)) (W (Proc.devRef .tc main_v55)) (W (Proc.devRef .tc main_arg4)) (W (Proc.devRef .tc main_arg5)) := by
  after_reads_simp
  rfl

/-- The value `v108` of the reference from the values before its stage. -/
def st_v108 (v102 : FVec F S_ .f32) : FVec F S_ .f32 :=
  have cst_24 : FVec F S_ .f32 := (constant S_ .f32 0x3E4CCCCD#32)
  have v103 : FVec F S_ .f32 := (Host.divf) v102 cst_24
  have v104 : FVec F S_ .f32 := (Host.floor) v103
  have cst_25 : FVec F S_ .f32 := (constant S_ .f32 0x40000000#32)
  have v105 : FVec F S_ .f32 := (Host.divf) v104 cst_25
  have v106 : FVec F S_ .f32 := (Host.floor) v105
  have cst_26 : FVec F S_ .f32 := (constant S_ .f32 0x40000000#32)
  have v107 : FVec F S_ .f32 := (mulf) cst_26 v106
  (subf) v104 v107

theorem after_v108 (W : Valuation τ sig (Elt F)) : after seg5 W (Proc.devRef .tc main_v108) = st_v108 (W (Proc.devRef .tc main_v102)) := by
  after_reads_simp
  rfl

/-- The value `v115` of the reference from the values before its stage. -/
def st_v115 (v108 : FVec F S_ .f32) (v51 : FVec F S16 .f32) : FVec F S16 .f32 :=
  have v109 : FVec F S16 .f32 := (broadcastInDim S16 ![] bcast_S_S16) v108
  have v110 : IVec S16 1 := (cmpf .oeq) v51 v109
  have v111 : FVec F S16 .f32 := (uitofp .f32) v110
  have cst_27 : FVec F S_ .f32 := (constant S_ .f32 0x00000000#32)
  have v112 : FVec F S_ .f32 := Host.reduceAdd v111 cst_27 reducesTo_S16_S_d0 h_S_
  have cst_28 : FVec F S_ .f32 := (constant S_ .f32 0x00000000#32)
  have v113 : IVec S_ 1 := (cmpf .oeq) v112 cst_28
  have cst_29 : FVec F S_ .f32 := (constant S_ .f32 0x3F800000#32)
  have v114 : FVec F S16 .f32 := (broadcastInDim S16 ![] bcast_S_S16) cst_29
  select (broadcastInDim S16 ![] bcast_S_S16 v113) v114 v111

theorem after_v115 (W : Valuation τ sig (Elt F)) : after seg6 W (Proc.devRef .tc main_v115) = st_v115 (W (Proc.devRef .tc main_v108)) (W (Proc.devRef .tc main_v51)) := by
  after_reads_simp
  rfl

/-- The value `v120` of the reference from the values before its stage. -/
def st_v120 (arg0 : FVec F S20x1024x384 .f32) (v115 : FVec F S16 .f32) : FVec F S20x1024x20x16 .f32 :=
  have v116 : FVec F S20x1024x320 .f32 := extractStridedSlice S20x1024x320 ![0, 0, 0] arg0 slices_S20x1024x384_S20x1024x320_0_0_0
  have v117 : FVec F S20x1024x20x16 .f32 := shapeCast S20x1024x20x16 v116 shapeCasts_S20x1024x320_S20x1024x20x16
  have v118 : FVec F S1x1x1x16 .f32 := (broadcastInDim S1x1x1x16 ![3] bcast_S16_S1x1x1x16_3) v115
  have v119 : FVec F S20x1024x20x16 .f32 := (broadcastInDim S20x1024x20x16 ![0, 1, 2, 3] bcast_S1x1x1x16_S20x1024x20x16_0_1_2_3) v118
  (mulf) v117 v119

theorem after_v120 (W : Valuation τ sig (Elt F)) : after seg7 W (Proc.devRef .tc main_v120) = st_v120 (W (Proc.devRef .tc main_arg0)) (W (Proc.devRef .tc main_v115)) := by
  after_reads_simp
  rfl

/-- The value `v125` of the reference from the values before its stage. -/
def st_v125 (arg1 : FVec F S20x384 .f32) (v115 : FVec F S16 .f32) : FVec F S20x20x16 .f32 :=
  have v121 : FVec F S20x320 .f32 := extractStridedSlice S20x320 ![0, 0] arg1 slices_S20x384_S20x320_0_0
  have v122 : FVec F S20x20x16 .f32 := shapeCast S20x20x16 v121 shapeCasts_S20x320_S20x20x16
  have v123 : FVec F S1x1x16 .f32 := (broadcastInDim S1x1x16 ![2] bcast_S16_S1x1x16_2) v115
  have v124 : FVec F S20x20x16 .f32 := (broadcastInDim S20x20x16 ![0, 1, 2] bcast_S1x1x16_S20x20x16_0_1_2) v123
  (mulf) v122 v124

theorem after_v125 (W : Valuation τ sig (Elt F)) : after seg7 W (Proc.devRef .tc main_v125) = st_v125 (W (Proc.devRef .tc main_arg1)) (W (Proc.devRef .tc main_v115)) := by
  after_reads_simp
  rfl

end Cert.ReferenceBIdeal.Value
end
-- ==== Proof.RefStB.lean ====
module
public import proofs.«01_k».proof.Proof.Gen.ReferenceBIdeal
public import proofs.«01_k».proof.Proof.RefOpsB
public import Idealize.ShloMosaic.Lib.Pipeline.ValueKit
public import Idealize.ShloMosaic.Lib.Claim
public import Idealize.ShloMosaic.Lib.Pointwise
public import Idealize.ShloMosaic.PureOps.Ideal
public import Idealize.ShloMosaic.Lib.StableHlo.RunRead
@[expose] public section
set_option maxRecDepth 16384
set_option maxHeartbeats 4000000
noncomputable section
namespace Cert.ReferenceBIdeal.Value
open Cert.ReferenceBIdeal Cert.ReferenceBIdeal.Gen Idealize.ShloMosaic Idealize.ShloMosaic.TcCoe Idealize.SL.Sem Idealize.ShloMosaic.StableHlo

variable {F : FTy → Type} [FloatOps F]

/-- The value `v126` of the reference from the values before its stage. -/
def st_v126 (arg6 : FVec F S20x16x5x5 .f32) : FVec F S20x400 .f32 :=
  shapeCast S20x400 arg6 shapeCasts_S20x16x5x5_S20x400

theorem after_v126 (W : Valuation τ sig (Elt F)) : after seg8 W (Proc.devRef .tc main_v126) = st_v126 (W (Proc.devRef .tc main_arg6)) := by
  after_reads_simp
  rfl

/-- The value `v132` of the reference from the values before its stage. -/
def st_v132 (arg6 : FVec F S20x16x5x5 .f32) : FVec F S_ .f32 :=
  have v126 : FVec F S20x400 .f32 := shapeCast S20x400 arg6 shapeCasts_S20x16x5x5_S20x400
  have v127 : FVec F S20x400 .f32 := (mulf) v126 v126
  have cst_30 : FVec F S_ .f32 := (constant S_ .f32 0x00000000#32)
  have v128 : FVec F S20 .f32 := Host.reduceAdd v127 cst_30 reducesTo_S20x400_S20_d1 h_S_
  have v129 : FVec F S20 .f32 := (Host.sqrt) v128
  have cst_31 : FVec F S_ .f32 := (constant S_ .f32 0xFF800000#32)
  have v130 : FVec F S_ .f32 := Host.reduce FloatOps.maximumf v129 cst_31 reducesTo_S20_S_d0 h_S_
  have cst_32 : FVec F S_ .f32 := (constant S_ .f32 0x2B8CBCCC#32)
  have v131 : FVec F S_ .f32 := (maximumf) v130 cst_32
  have cst_33 : FVec F S_ .f32 := (constant S_ .f32 0x3F400000#32)
  (Host.divf) cst_33 v131

theorem after_v132 (W : Valuation τ sig (Elt F)) : after seg8 W (Proc.devRef .tc main_v132) = st_v132 (W (Proc.devRef .tc main_arg6)) := by
  after_reads_simp
  rfl

/-- The value `v137` of the reference from the values before its stage. -/
def st_v137 (arg6 : FVec F S20x16x5x5 .f32) : FVec F S20 .f32 :=
  have v126 : FVec F S20x400 .f32 := shapeCast S20x400 arg6 shapeCasts_S20x16x5x5_S20x400
  have v127 : FVec F S20x400 .f32 := (mulf) v126 v126
  have cst_30 : FVec F S_ .f32 := (constant S_ .f32 0x00000000#32)
  have v128 : FVec F S20 .f32 := Host.reduceAdd v127 cst_30 reducesTo_S20x400_S20_d1 h_S_
  have v129 : FVec F S20 .f32 := (Host.sqrt) v128
  have cst_31 : FVec F S_ .f32 := (constant S_ .f32 0xFF800000#32)
  have v130 : FVec F S_ .f32 := Host.reduce FloatOps.maximumf v129 cst_31 reducesTo_S20_S_d0 h_S_
  have cst_32 : FVec F S_ .f32 := (constant S_ .f32 0x2B8CBCCC#32)
  have v131 : FVec F S_ .f32 := (maximumf) v130 cst_32
  have cst_33 : FVec F S_ .f32 := (constant S_ .f32 0x3F400000#32)
  have v132 : FVec F S_ .f32 := (Host.divf) cst_33 v131
  have v133 : FVec F S20x400 .f32 := (mulf) v126 v126
  have cst_34 : FVec F S_ .f32 := (constant S_ .f32 0x00000000#32)
  have v134 : FVec F S20 .f32 := Host.reduceAdd v133 cst_34 reducesTo_S20x400_S20_d1 h_S_
  have v135 : FVec F S20 .f32 := (Host.sqrt) v134
  have v136 : FVec F S20 .f32 := (broadcastInDim S20 ![] bcast_S_S20) v132
  (mulf) v135 v136

theorem after_v137 (W : Valuation τ sig (Elt F)) : after seg8 W (Proc.devRef .tc main_v137) = st_v137 (W (Proc.devRef .tc main_arg6)) := by
  after_reads_simp
  rfl

/-- The value `v168` of the reference from the values before its stage. -/
def st_v168 (v137 : FVec F S20 .f32) (arg8 : FVec F S405 .f32) (v126 : FVec F S20x400 .f32) (v132 : FVec F S_ .f32) (arg9 : FVec F S_ .f32) : FVec F S20 .f32 :=
  have v138 : FVec F S20 .f32 := (mulf) v137 v137
  have v139 : FVec F S1 .f32 := extractStridedSlice S1 ![400] arg8 slices_S405_S1_400
  have v140 : FVec F S20 .f32 := (broadcastInDim S20 ![0] bcast_S1_S20_0) v139
  have v141 : FVec F S20 .f32 := (mulf) v138 v140
  have v142 : FVec F S20 .f32 := (mulf) v138 v138
  have v143 : FVec F S1 .f32 := extractStridedSlice S1 ![401] arg8 slices_S405_S1_401
  have v144 : FVec F S20 .f32 := (broadcastInDim S20 ![0] bcast_S1_S20_0) v143
  have v145 : FVec F S20 .f32 := (mulf) v142 v144
  have v146 : FVec F S20 .f32 := (addf) v141 v145
  have v147 : FVec F S20 .f32 := (mulf) v142 v142
  have v148 : FVec F S1 .f32 := extractStridedSlice S1 ![402] arg8 slices_S405_S1_402
  have v149 : FVec F S20 .f32 := (broadcastInDim S20 ![0] bcast_S1_S20_0) v148
  have v150 : FVec F S20 .f32 := (mulf) v147 v149
  have v151 : FVec F S20 .f32 := (addf) v146 v150
  have v152 : FVec F S20 .f32 := (mulf) v147 v147
  have v153 : FVec F S1 .f32 := extractStridedSlice S1 ![403] arg8 slices_S405_S1_403
  have v154 : FVec F S20 .f32 := (broadcastInDim S20 ![0] bcast_S1_S20_0) v153
  have v155 : FVec F S20 .f32 := (mulf) v152 v154
  have v156 : FVec F S20 .f32 := (addf) v151 v155
  have v157 : FVec F S20 .f32 := (mulf) v152 v152
  have v158 : FVec F S1 .f32 := extractStridedSlice S1 ![404] arg8 slices_S405_S1_404
  have v159 : FVec F S20 .f32 := (broadcastInDim S20 ![0] bcast_S1_S20_0) v158
  have v160 : FVec F S20 .f32 := (mulf) v157 v159
  have v161 : FVec F S20 .f32 := (addf) v156 v160
  have v162 : FVec F S400 .f32 := extractStridedSlice S400 ![0] arg8 slices_S405_S400_0
  have v163 : FVec F S20 .f32 := Host.dotGeneral dot_S20x400_S400_S20_1_0_0_n_n_n none v126 v162
  have v164 : FVec F S20 .f32 := (broadcastInDim S20 ![] bcast_S_S20) v132
  have v165 : FVec F S20 .f32 := (mulf) v163 v164
  have v166 : FVec F S20 .f32 := (addf) v165 v161
  have v167 : FVec F S20 .f32 := (broadcastInDim S20 ![] bcast_S_S20) arg9
  (addf) v166 v167

theorem after_v168 (W : Valuation τ sig (Elt F)) : after seg9 W (Proc.devRef .tc main_v168) = st_v168 (W (Proc.devRef .tc main_v137)) (W (Proc.devRef .tc main_arg8)) (W (Proc.devRef .tc main_v126)) (W (Proc.devRef .tc main_v132)) (W (Proc.devRef .tc main_arg9)) := by
  after_reads_simp
  rfl

/-- The value `v177` of the reference from the values before its stage. -/
def st_v177 (v168 : FVec F S20 .f32) : FVec F S20 .f32 :=
  have cst_35 : FVec F S_ .f32 := (constant S_ .f32 0x3E4CCCCD#32)
  have v169 : FVec F S20 .f32 := (broadcastInDim S20 ![] bcast_S_S20) cst_35
  have v170 : FVec F S20 .f32 := (Host.divf) v168 v169
  have v171 : FVec F S20 .f32 := (Host.floor) v170
  have cst_36 : FVec F S_ .f32 := (constant S_ .f32 0x40000000#32)
  have v172 : FVec F S20 .f32 := (broadcastInDim S20 ![] bcast_S_S20) cst_36
  have v173 : FVec F S20 .f32 := (Host.divf) v171 v172
  have v174 : FVec F S20 .f32 := (Host.floor) v173
  have cst_37 : FVec F S_ .f32 := (constant S_ .f32 0x40000000#32)
  have v175 : FVec F S20 .f32 := (broadcastInDim S20 ![] bcast_S_S20) cst_37
  have v176 : FVec F S20 .f32 := (mulf) v175 v174
  (subf) v171 v176

theorem after_v177 (W : Valuation τ sig (Elt F)) : after seg10 W (Proc.devRef .tc main_v177) = st_v177 (W (Proc.devRef .tc main_v168)) := by
  after_reads_simp
  rfl

/-- The value `v179` of the reference from the values before its stage. -/
def st_v179 (arg8 : FVec F S405 .f32) : FVec F S16x5x5 .f32 :=
  have v178 : FVec F S400 .f32 := extractStridedSlice S400 ![0] arg8 slices_S405_S400_0
  shapeCast S16x5x5 v178 shapeCasts_S400_S16x5x5

theorem after_v179 (W : Valuation τ sig (Elt F)) : after seg11 W (Proc.devRef .tc main_v179) = st_v179 (W (Proc.devRef .tc main_arg8)) := by
  after_reads_simp
  rfl

/-- The value `v211` of the reference from the values before its stage. -/
def st_v211 (v125 : FVec F S20x20x16 .f32) : FVec F S5x5x16 .f32 :=
  have v180 : FVec F S16x20x16 .f32 := extractStridedSlice S16x20x16 ![0, 0, 0] v125 slices_S20x20x16_S16x20x16_0_0_0
  have cst_38 : FVec F S_ .f32 := (constant S_ .f32 0x00000000#32)
  have v181 : FVec F S20x16 .f32 := Host.reduceAdd v180 cst_38 reducesTo_S16x20x16_S20x16_d0 h_S_
  have v182 : FVec F S16x20x16 .f32 := extractStridedSlice S16x20x16 ![1, 0, 0] v125 slices_S20x20x16_S16x20x16_1_0_0
  have cst_39 : FVec F S_ .f32 := (constant S_ .f32 0x00000000#32)
  have v183 : FVec F S20x16 .f32 := Host.reduceAdd v182 cst_39 reducesTo_S16x20x16_S20x16_d0 h_S_
  have v184 : FVec F S16x20x16 .f32 := extractStridedSlice S16x20x16 ![2, 0, 0] v125 slices_S20x20x16_S16x20x16_2_0_0
  have cst_40 : FVec F S_ .f32 := (constant S_ .f32 0x00000000#32)
  have v185 : FVec F S20x16 .f32 := Host.reduceAdd v184 cst_40 reducesTo_S16x20x16_S20x16_d0 h_S_
  have v186 : FVec F S16x20x16 .f32 := extractStridedSlice S16x20x16 ![3, 0, 0] v125 slices_S20x20x16_S16x20x16_3_0_0
  have cst_41 : FVec F S_ .f32 := (constant S_ .f32 0x00000000#32)
  have v187 : FVec F S20x16 .f32 := Host.reduceAdd v186 cst_41 reducesTo_S16x20x16_S20x16_d0 h_S_
  have v188 : FVec F S16x20x16 .f32 := extractStridedSlice S16x20x16 ![4, 0, 0] v125 slices_S20x20x16_S16x20x16_4_0_0
  have cst_42 : FVec F S_ .f32 := (constant S_ .f32 0x00000000#32)
  have v189 : FVec F S20x16 .f32 := Host.reduceAdd v188 cst_42 reducesTo_S16x20x16_S20x16_d0 h_S_
  have v190 : FVec F S1x20x16 .f32 := (broadcastInDim S1x20x16 ![1, 2] bcast_S20x16_S1x20x16_1_2) v181
  have v191 : FVec F S1x20x16 .f32 := (broadcastInDim S1x20x16 ![1, 2] bcast_S20x16_S1x20x16_1_2) v183
  have v192 : FVec F S1x20x16 .f32 := (broadcastInDim S1x20x16 ![1, 2] bcast_S20x16_S1x20x16_1_2) v185
  have v193 : FVec F S1x20x16 .f32 := (broadcastInDim S1x20x16 ![1, 2] bcast_S20x16_S1x20x16_1_2) v187
  have v194 : FVec F S1x20x16 .f32 := (broadcastInDim S1x20x16 ![1, 2] bcast_S20x16_S1x20x16_1_2) v189
  have v195 : FVec F S5x20x16 .f32 := concatenate S5x20x16 0 [⟨S1x20x16, v190⟩, ⟨S1x20x16, v191⟩, ⟨S1x20x16, v192⟩, ⟨S1x20x16, v193⟩, ⟨S1x20x16, v194⟩] concatenates_S1x20x16_S1x20x16_S1x20x16_S1x20x16_S1x20x16_S5x20x16_d0
  have v196 : FVec F S5x16x16 .f32 := extractStridedSlice S5x16x16 ![0, 0, 0] v195 slices_S5x20x16_S5x16x16_0_0_0
  have cst_43 : FVec F S_ .f32 := (constant S_ .f32 0x00000000#32)
  have v197 : FVec F S5x16 .f32 := Host.reduceAdd v196 cst_43 reducesTo_S5x16x16_S5x16_d1 h_S_
  have v198 : FVec F S5x16x16 .f32 := extractStridedSlice S5x16x16 ![0, 1, 0] v195 slices_S5x20x16_S5x16x16_0_1_0
  have cst_44 : FVec F S_ .f32 := (constant S_ .f32 0x00000000#32)
  have v199 : FVec F S5x16 .f32 := Host.reduceAdd v198 cst_44 reducesTo_S5x16x16_S5x16_d1 h_S_
  have v200 : FVec F S5x16x16 .f32 := extractStridedSlice S5x16x16 ![0, 2, 0] v195 slices_S5x20x16_S5x16x16_0_2_0
  have cst_45 : FVec F S_ .f32 := (constant S_ .f32 0x00000000#32)
  have v201 : FVec F S5x16 .f32 := Host.reduceAdd v200 cst_45 reducesTo_S5x16x16_S5x16_d1 h_S_
  have v202 : FVec F S5x16x16 .f32 := extractStridedSlice S5x16x16 ![0, 3, 0] v195 slices_S5x20x16_S5x16x16_0_3_0
  have cst_46 : FVec F S_ .f32 := (constant S_ .f32 0x00000000#32)
  have v203 : FVec F S5x16 .f32 := Host.reduceAdd v202 cst_46 reducesTo_S5x16x16_S5x16_d1 h_S_
  have v204 : FVec F S5x16x16 .f32 := extractStridedSlice S5x16x16 ![0, 4, 0] v195 slices_S5x20x16_S5x16x16_0_4_0
  have cst_47 : FVec F S_ .f32 := (constant S_ .f32 0x00000000#32)
  have v205 : FVec F S5x16 .f32 := Host.reduceAdd v204 cst_47 reducesTo_S5x16x16_S5x16_d1 h_S_
  have v206 : FVec F S1x5x16 .f32 := (broadcastInDim S1x5x16 ![1, 2] bcast_S5x16_S1x5x16_1_2) v197
  have v207 : FVec F S1x5x16 .f32 := (broadcastInDim S1x5x16 ![1, 2] bcast_S5x16_S1x5x16_1_2) v199
  have v208 : FVec F S1x5x16 .f32 := (broadcastInDim S1x5x16 ![1, 2] bcast_S5x16_S1x5x16_1_2) v201
  have v209 : FVec F S1x5x16 .f32 := (broadcastInDim S1x5x16 ![1, 2] bcast_S5x16_S1x5x16_1_2) v203
  have v210 : FVec F S1x5x16 .f32 := (broadcastInDim S1x5x16 ![1, 2] bcast_S5x16_S1x5x16_1_2) v205
  concatenate S5x5x16 0 [⟨S1x5x16, v206⟩, ⟨S1x5x16, v207⟩, ⟨S1x5x16, v208⟩, ⟨S1x5x16, v209⟩, ⟨S1x5x16, v210⟩] concatenates_S1x5x16_S1x5x16_S1x5x16_S1x5x16_S1x5x16_S5x5x16_d0

theorem after_v211 (W : Valuation τ sig (Elt F)) : after seg11 W (Proc.devRef .tc main_v211) = st_v211 (W (Proc.devRef .tc main_v125)) := by
  after_reads_simp
  try simp only [Matrix.cons_val_zero, Matrix.cons_val_one]
  rfl

/-- The value `v226` of the reference from the values before its stage. -/
def st_v226 (v211 : FVec F S5x5x16 .f32) (v179 : FVec F S16x5x5 .f32) (arg8 : FVec F S405 .f32) (arg9 : FVec F S_ .f32) : FVec F S_ .f32 :=
  have v212 : FVec F S5x5x16 .f32 := (mulf) v211 v211
  have cst_48 : FVec F S_ .f32 := (constant S_ .f32 0x00000000#32)
  have v213 : FVec F S_ .f32 := Host.reduceAdd v212 cst_48 reducesTo_S5x5x16_S_d0_1_2 h_S_
  have v214 : FVec F S_ .f32 := (Host.sqrt) v213
  have cst_49 : FVec F S_ .f32 := (constant S_ .f32 0x48800000#32)
  have v215 : FVec F S_ .f32 := (Host.divf) v214 cst_49
  have v216 : FVec F S5x5x16 .f32 := transpose S5x5x16 [2, 1, 0] v179 transposes_S16x5x5_S5x5x16_2_1_0
  have v217 : FVec F S5x5x16 .f32 := (mulf) v211 v216
  have cst_50 : FVec F S_ .f32 := (constant S_ .f32 0x00000000#32)
  have v218 : FVec F S_ .f32 := Host.reduceAdd v217 cst_50 reducesTo_S5x5x16_S_d0_1_2 h_S_
  have cst_51 : FVec F S_ .f32 := (constant S_ .f32 0x48800000#32)
  have v219 : FVec F S_ .f32 := (Host.divf) v218 cst_51
  have cst_52 : FVec F S_ .f32 := (constant S_ .f32 0x2B8CBCCC#32)
  have v220 : FVec F S_ .f32 := (maximumf) v215 cst_52
  have v221 : FVec F S_ .f32 := (Host.divf) v219 v220
  have v222 : FVec F S5 .f32 := extractStridedSlice S5 ![400] arg8 slices_S405_S5_400
  have cst_53 : FVec F S_ .f32 := (constant S_ .f32 0x00000000#32)
  have v223 : FVec F S_ .f32 := Host.reduceAdd v222 cst_53 reducesTo_S5_S_d0 h_S_
  have cst_54 : FVec F S_ .f32 := (constant S_ .f32 0x3F000000#32)
  have v224 : FVec F S_ .f32 := (mulf) cst_54 v223
  have v225 : FVec F S_ .f32 := (addf) v221 v224
  (addf) v225 arg9

theorem after_v226 (W : Valuation τ sig (Elt F)) : after seg12 W (Proc.devRef .tc main_v226) = st_v226 (W (Proc.devRef .tc main_v211)) (W (Proc.devRef .tc main_v179)) (W (Proc.devRef .tc main_arg8)) (W (Proc.devRef .tc main_arg9)) := by
  after_reads_simp
  rfl

/-- The value `v232` of the reference from the values before its stage. -/
def st_v232 (v226 : FVec F S_ .f32) : FVec F S_ .f32 :=
  have cst_55 : FVec F S_ .f32 := (constant S_ .f32 0x3E4CCCCD#32)
  have v227 : FVec F S_ .f32 := (Host.divf) v226 cst_55
  have v228 : FVec F S_ .f32 := (Host.floor) v227
  have cst_56 : FVec F S_ .f32 := (constant S_ .f32 0x40000000#32)
  have v229 : FVec F S_ .f32 := (Host.divf) v228 cst_56
  have v230 : FVec F S_ .f32 := (Host.floor) v229
  have cst_57 : FVec F S_ .f32 := (constant S_ .f32 0x40000000#32)
  have v231 : FVec F S_ .f32 := (mulf) cst_57 v230
  (subf) v228 v231

theorem after_v232 (W : Valuation τ sig (Elt F)) : after seg13 W (Proc.devRef .tc main_v232) = st_v232 (W (Proc.devRef .tc main_v226)) := by
  after_reads_simp
  rfl

/-- The value `v239` of the reference from the values before its stage. -/
def st_v239 (v232 : FVec F S_ .f32) (v177 : FVec F S20 .f32) : FVec F S20 .f32 :=
  have v233 : FVec F S20 .f32 := (broadcastInDim S20 ![] bcast_S_S20) v232
  have v234 : IVec S20 1 := (cmpf .oeq) v177 v233
  have v235 : FVec F S20 .f32 := (uitofp .f32) v234
  have cst_58 : FVec F S_ .f32 := (constant S_ .f32 0x00000000#32)
  have v236 : FVec F S_ .f32 := Host.reduceAdd v235 cst_58 reducesTo_S20_S_d0 h_S_
  have cst_59 : FVec F S_ .f32 := (constant S_ .f32 0x00000000#32)
  have v237 : IVec S_ 1 := (cmpf .oeq) v236 cst_59
  have cst_60 : FVec F S_ .f32 := (constant S_ .f32 0x3F800000#32)
  have v238 : FVec F S20 .f32 := (broadcastInDim S20 ![] bcast_S_S20) cst_60
  select (broadcastInDim S20 ![] bcast_S_S20 v237) v238 v235

theorem after_v239 (W : Valuation τ sig (Elt F)) : after seg14 W (Proc.devRef .tc main_v239) = st_v239 (W (Proc.devRef .tc main_v232)) (W (Proc.devRef .tc main_v177)) := by
  after_reads_simp
  rfl

/-- The value `v250` of the reference from the values before its stage. -/
def st_v250 (v120 : FVec F S20x1024x20x16 .f32) : FVec F S5x20x1024x16x16 .f32 :=
  have v240 : FVec F S20x1024x16x16 .f32 := extractStridedSlice S20x1024x16x16 ![0, 0, 0, 0] v120 slices_S20x1024x20x16_S20x1024x16x16_0_0_0_0
  have v241 : FVec F S20x1024x16x16 .f32 := extractStridedSlice S20x1024x16x16 ![0, 0, 1, 0] v120 slices_S20x1024x20x16_S20x1024x16x16_0_0_1_0
  have v242 : FVec F S20x1024x16x16 .f32 := extractStridedSlice S20x1024x16x16 ![0, 0, 2, 0] v120 slices_S20x1024x20x16_S20x1024x16x16_0_0_2_0
  have v243 : FVec F S20x1024x16x16 .f32 := extractStridedSlice S20x1024x16x16 ![0, 0, 3, 0] v120 slices_S20x1024x20x16_S20x1024x16x16_0_0_3_0
  have v244 : FVec F S20x1024x16x16 .f32 := extractStridedSlice S20x1024x16x16 ![0, 0, 4, 0] v120 slices_S20x1024x20x16_S20x1024x16x16_0_0_4_0
  have v245 : FVec F S1x20x1024x16x16 .f32 := (broadcastInDim S1x20x1024x16x16 ![1, 2, 3, 4] bcast_S20x1024x16x16_S1x20x1024x16x16_1_2_3_4) v240
  have v246 : FVec F S1x20x1024x16x16 .f32 := (broadcastInDim S1x20x1024x16x16 ![1, 2, 3, 4] bcast_S20x1024x16x16_S1x20x1024x16x16_1_2_3_4) v241
  have v247 : FVec F S1x20x1024x16x16 .f32 := (broadcastInDim S1x20x1024x16x16 ![1, 2, 3, 4] bcast_S20x1024x16x16_S1x20x1024x16x16_1_2_3_4) v242
  have v248 : FVec F S1x20x1024x16x16 .f32 := (broadcastInDim S1x20x1024x16x16 ![1, 2, 3, 4] bcast_S20x1024x16x16_S1x20x1024x16x16_1_2_3_4) v243
  have v249 : FVec F S1x20x1024x16x16 .f32 := (broadcastInDim S1x20x1024x16x16 ![1, 2, 3, 4] bcast_S20x1024x16x16_S1x20x1024x16x16_1_2_3_4) v244
  concatenate S5x20x1024x16x16 0 [⟨S1x20x1024x16x16, v245⟩, ⟨S1x20x1024x16x16, v246⟩, ⟨S1x20x1024x16x16, v247⟩, ⟨S1x20x1024x16x16, v248⟩, ⟨S1x20x1024x16x16, v249⟩] concatenates_S1x20x1024x16x16_S1x20x1024x16x16_S1x20x1024x16x16_S1x20x1024x16x16_S1x20x1024x16x16_S5x20x1024x16x16_d0

theorem after_v250 (W : Valuation τ sig (Elt F)) : after seg15 W (Proc.devRef .tc main_v250) = st_v250 (W (Proc.devRef .tc main_v120)) := by
  after_reads_simp
  try simp only [Matrix.cons_val_zero, Matrix.cons_val_one]
  rfl

/-- The value `v282` of the reference from the values before its stage. -/
def st_v282 (v250 : FVec F S5x20x1024x16x16 .f32) (arg6 : FVec F S20x16x5x5 .f32) (arg7 : FVec F S20 .f32) : FVec F S1024x16x16x20 .f32 :=
  have v251 : FVec F S5x16x1024x16x16 .f32 := extractStridedSlice S5x16x1024x16x16 ![0, 0, 0, 0, 0] v250 slices_S5x20x1024x16x16_S5x16x1024x16x16_0_0_0_0_0
  have v252 : FVec F S20x16x1x5 .f32 := extractStridedSlice S20x16x1x5 ![0, 0, 0, 0] arg6 slices_S20x16x5x5_S20x16x1x5_0_0_0_0
  have v253 : FVec F S20x16x5 .f32 := shapeCast S20x16x5 v252 shapeCasts_S20x16x1x5_S20x16x5
  have v254 : FVec F S20x16x1024x16 .f32 := Host.dotGeneral dot_S20x16x5_S5x16x1024x16x16_S20x16x1024x16_12_40_0_123_n_n none v253 v251
  have v255 : FVec F S1024x16x16x20 .f32 := transpose S1024x16x16x20 [2, 1, 3, 0] v254 transposes_S20x16x1024x16_S1024x16x16x20_2_1_3_0
  have v256 : FVec F S5x16x1024x16x16 .f32 := extractStridedSlice S5x16x1024x16x16 ![0, 1, 0, 0, 0] v250 slices_S5x20x1024x16x16_S5x16x1024x16x16_0_1_0_0_0
  have v257 : FVec F S20x16x1x5 .f32 := extractStridedSlice S20x16x1x5 ![0, 0, 1, 0] arg6 slices_S20x16x5x5_S20x16x1x5_0_0_1_0
  have v258 : FVec F S20x16x5 .f32 := shapeCast S20x16x5 v257 shapeCasts_S20x16x1x5_S20x16x5
  have v259 : FVec F S20x16x1024x16 .f32 := Host.dotGeneral dot_S20x16x5_S5x16x1024x16x16_S20x16x1024x16_12_40_0_123_n_n none v258 v256
  have v260 : FVec F S1024x16x16x20 .f32 := transpose S1024x16x16x20 [2, 1, 3, 0] v259 transposes_S20x16x1024x16_S1024x16x16x20_2_1_3_0
  have v261 : FVec F S1024x16x16x20 .f32 := (addf) v255 v260
  have v262 : FVec F S5x16x1024x16x16 .f32 := extractStridedSlice S5x16x1024x16x16 ![0, 2, 0, 0, 0] v250 slices_S5x20x1024x16x16_S5x16x1024x16x16_0_2_0_0_0
  have v263 : FVec F S20x16x1x5 .f32 := extractStridedSlice S20x16x1x5 ![0, 0, 2, 0] arg6 slices_S20x16x5x5_S20x16x1x5_0_0_2_0
  have v264 : FVec F S20x16x5 .f32 := shapeCast S20x16x5 v263 shapeCasts_S20x16x1x5_S20x16x5
  have v265 : FVec F S20x16x1024x16 .f32 := Host.dotGeneral dot_S20x16x5_S5x16x1024x16x16_S20x16x1024x16_12_40_0_123_n_n none v264 v262
  have v266 : FVec F S1024x16x16x20 .f32 := transpose S1024x16x16x20 [2, 1, 3, 0] v265 transposes_S20x16x1024x16_S1024x16x16x20_2_1_3_0
  have v267 : FVec F S1024x16x16x20 .f32 := (addf) v261 v266
  have v268 : FVec F S5x16x1024x16x16 .f32 := extractStridedSlice S5x16x1024x16x16 ![0, 3, 0, 0, 0] v250 slices_S5x20x1024x16x16_S5x16x1024x16x16_0_3_0_0_0
  have v269 : FVec F S20x16x1x5 .f32 := extractStridedSlice S20x16x1x5 ![0, 0, 3, 0] arg6 slices_S20x16x5x5_S20x16x1x5_0_0_3_0
  have v270 : FVec F S20x16x5 .f32 := shapeCast S20x16x5 v269 shapeCasts_S20x16x1x5_S20x16x5
  have v271 : FVec F S20x16x1024x16 .f32 := Host.dotGeneral dot_S20x16x5_S5x16x1024x16x16_S20x16x1024x16_12_40_0_123_n_n none v270 v268
  have v272 : FVec F S1024x16x16x20 .f32 := transpose S1024x16x16x20 [2, 1, 3, 0] v271 transposes_S20x16x1024x16_S1024x16x16x20_2_1_3_0
  have v273 : FVec F S1024x16x16x20 .f32 := (addf) v267 v272
  have v274 : FVec F S5x16x1024x16x16 .f32 := extractStridedSlice S5x16x1024x16x16 ![0, 4, 0, 0, 0] v250 slices_S5x20x1024x16x16_S5x16x1024x16x16_0_4_0_0_0
  have v275 : FVec F S20x16x1x5 .f32 := extractStridedSlice S20x16x1x5 ![0, 0, 4, 0] arg6 slices_S20x16x5x5_S20x16x1x5_0_0_4_0
  have v276 : FVec F S20x16x5 .f32 := shapeCast S20x16x5 v275 shapeCasts_S20x16x1x5_S20x16x5
  have v277 : FVec F S20x16x1024x16 .f32 := Host.dotGeneral dot_S20x16x5_S5x16x1024x16x16_S20x16x1024x16_12_40_0_123_n_n none v276 v274
  have v278 : FVec F S1024x16x16x20 .f32 := transpose S1024x16x16x20 [2, 1, 3, 0] v277 transposes_S20x16x1024x16_S1024x16x16x20_2_1_3_0
  have v279 : FVec F S1024x16x16x20 .f32 := (addf) v273 v278
  have v280 : FVec F S1x1x1x20 .f32 := (broadcastInDim S1x1x1x20 ![3] bcast_S20_S1x1x1x20_3) arg7
  have v281 : FVec F S1024x16x16x20 .f32 := (broadcastInDim S1024x16x16x20 ![0, 1, 2, 3] bcast_S1x1x1x20_S1024x16x16x20_0_1_2_3) v280
  (addf) v279 v281

theorem after_v282 (W : Valuation τ sig (Elt F)) : after seg16 W (Proc.devRef .tc main_v282) = st_v282 (W (Proc.devRef .tc main_v250)) (W (Proc.devRef .tc main_arg6)) (W (Proc.devRef .tc main_arg7)) := by
  after_reads_simp
  rfl

/-- The value `v293` of the reference from the values before its stage. -/
def st_v293 (v239 : FVec F S20 .f32) (v282 : FVec F S1024x16x16x20 .f32) : FVec F S8x1024x160 .f32 :=
  have v283 : FVec F S1x1x1x20 .f32 := (broadcastInDim S1x1x1x20 ![3] bcast_S20_S1x1x1x20_3) v239
  have v284 : FVec F S1024x16x16x20 .f32 := (broadcastInDim S1024x16x16x20 ![0, 1, 2, 3] bcast_S1x1x1x20_S1024x16x16x20_0_1_2_3) v283
  have v285 : FVec F S1024x16x16x20 .f32 := (mulf) v282 v284
  have cst_61 : FVec F S_ .f32 := (constant S_ .f32 0x00000000#32)
  have v286 : FVec F S1024x16x16x20 .f32 := (broadcastInDim S1024x16x16x20 ![] bcast_S_S1024x16x16x20) cst_61
  have v287 : FVec F S1024x16x16x20 .f32 := (maximumf) v285 v286
  have v288 : FVec F S1024x16x8x2x20 .f32 := shapeCast S1024x16x8x2x20 v287 shapeCasts_S1024x16x16x20_S1024x16x8x2x20
  have cst_62 : FVec F S_ .f32 := (constant S_ .f32 0xFF800000#32)
  have v289 : FVec F S1024x16x8x20 .f32 := Host.reduce FloatOps.maximumf v288 cst_62 reducesTo_S1024x16x8x2x20_S1024x16x8x20_d3 h_S_
  have v290 : FVec F S1024x8x2x8x20 .f32 := shapeCast S1024x8x2x8x20 v289 shapeCasts_S1024x16x8x20_S1024x8x2x8x20
  have cst_63 : FVec F S_ .f32 := (constant S_ .f32 0xFF800000#32)
  have v291 : FVec F S1024x8x8x20 .f32 := Host.reduce FloatOps.maximumf v290 cst_63 reducesTo_S1024x8x2x8x20_S1024x8x8x20_d2 h_S_
  have v292 : FVec F S8x1024x8x20 .f32 := transpose S8x1024x8x20 [1, 0, 2, 3] v291 transposes_S1024x8x8x20_S8x1024x8x20_1_0_2_3
  shapeCast S8x1024x160 v292 shapeCasts_S8x1024x8x20_S8x1024x160

theorem after_v293 (W : Valuation τ sig (Elt F)) : after seg17 W (Proc.devRef .tc main_v293) = st_v293 (W (Proc.devRef .tc main_v239)) (W (Proc.devRef .tc main_v282)) := by
  after_reads_simp
  rfl

/-- The value `v294` of the reference from the values before its stage. -/
def st_v294 (v293 : FVec F S8x1024x160 .f32) : FVec F S12x1024x256 .f32 :=
  have c : IVec S_ 32 := (constantI S_ 32 0#32)
  have call2_v0 : FVec F S_ .f32 := sitofp .f32 c
  pad S12x1024x256 ![2, 0, 40] ![2, 0, 56] ![0, 0, 0] v293 call2_v0 pads_S8x1024x160_S12x1024x256_220_000_40560 h_S_

theorem after_v294 (W : Valuation τ sig (Elt F)) : after seg18 W (Proc.devRef .tc main_v294) = st_v294 (W (Proc.devRef .tc main_v293)) := by
  after_reads_simp
  rfl

/-- The value `v295` of the reference from the values before its stage. -/
def st_v295 (v294 : FVec F S12x1024x256 .f32) : FVec F S12x256 .f32 :=
  have cst_64 : FVec F S_ .f32 := (constant S_ .f32 0x00000000#32)
  Host.reduceAdd v294 cst_64 reducesTo_S12x1024x256_S12x256_d1 h_S_

theorem after_v295 (W : Valuation τ sig (Elt F)) : after seg19 W (Proc.devRef .tc main_v295) = st_v295 (W (Proc.devRef .tc main_v294)) := by
  after_reads_simp
  rfl

end Cert.ReferenceBIdeal.Value
end
-- ==== Proof.RefRunB.lean ====
module
public import proofs.«01_k».proof.Proof.Gen.ReferenceBIdeal
public import proofs.«01_k».proof.Proof.RefStA
public import proofs.«01_k».proof.Proof.RefStB
public import Idealize.ShloMosaic.Lib.Pipeline.ValueKit
public import Idealize.ShloMosaic.Lib.Claim
public import Idealize.ShloMosaic.Lib.Pointwise
public import Idealize.ShloMosaic.PureOps.Ideal
public import Idealize.ShloMosaic.Lib.StableHlo.RunRead
@[expose] public section
set_option maxRecDepth 16384
set_option maxHeartbeats 4000000
noncomputable section
namespace Cert.ReferenceBIdeal.Value
open Cert.ReferenceBIdeal Cert.ReferenceBIdeal.Gen Idealize.ShloMosaic Idealize.ShloMosaic.TcCoe Idealize.SL.Sem Idealize.ShloMosaic.StableHlo

variable {F : FTy → Type} [FloatOps F]

theorem pass3_v51 (W : Valuation τ sig (Elt F)) : after seg3 W (Proc.devRef .tc main_v51) = W (Proc.devRef .tc main_v51) := by
  after_reads_simp

theorem pass4_v51 (W : Valuation τ sig (Elt F)) : after seg4 W (Proc.devRef .tc main_v51) = W (Proc.devRef .tc main_v51) := by
  after_reads_simp

theorem pass5_v51 (W : Valuation τ sig (Elt F)) : after seg5 W (Proc.devRef .tc main_v51) = W (Proc.devRef .tc main_v51) := by
  after_reads_simp

theorem pass8_v120 (W : Valuation τ sig (Elt F)) : after seg8 W (Proc.devRef .tc main_v120) = W (Proc.devRef .tc main_v120) := by
  after_reads_simp

theorem pass9_v120 (W : Valuation τ sig (Elt F)) : after seg9 W (Proc.devRef .tc main_v120) = W (Proc.devRef .tc main_v120) := by
  after_reads_simp

theorem pass10_v120 (W : Valuation τ sig (Elt F)) : after seg10 W (Proc.devRef .tc main_v120) = W (Proc.devRef .tc main_v120) := by
  after_reads_simp

theorem pass11_v120 (W : Valuation τ sig (Elt F)) : after seg11 W (Proc.devRef .tc main_v120) = W (Proc.devRef .tc main_v120) := by
  after_reads_simp

theorem pass12_v120 (W : Valuation τ sig (Elt F)) : after seg12 W (Proc.devRef .tc main_v120) = W (Proc.devRef .tc main_v120) := by
  after_reads_simp

theorem pass13_v120 (W : Valuation τ sig (Elt F)) : after seg13 W (Proc.devRef .tc main_v120) = W (Proc.devRef .tc main_v120) := by
  after_reads_simp

theorem pass14_v120 (W : Valuation τ sig (Elt F)) : after seg14 W (Proc.devRef .tc main_v120) = W (Proc.devRef .tc main_v120) := by
  after_reads_simp

theorem pass8_v125 (W : Valuation τ sig (Elt F)) : after seg8 W (Proc.devRef .tc main_v125) = W (Proc.devRef .tc main_v125) := by
  after_reads_simp

theorem pass9_v125 (W : Valuation τ sig (Elt F)) : after seg9 W (Proc.devRef .tc main_v125) = W (Proc.devRef .tc main_v125) := by
  after_reads_simp

theorem pass10_v125 (W : Valuation τ sig (Elt F)) : after seg10 W (Proc.devRef .tc main_v125) = W (Proc.devRef .tc main_v125) := by
  after_reads_simp

theorem pass11_v177 (W : Valuation τ sig (Elt F)) : after seg11 W (Proc.devRef .tc main_v177) = W (Proc.devRef .tc main_v177) := by
  after_reads_simp

theorem pass12_v177 (W : Valuation τ sig (Elt F)) : after seg12 W (Proc.devRef .tc main_v177) = W (Proc.devRef .tc main_v177) := by
  after_reads_simp

theorem pass13_v177 (W : Valuation τ sig (Elt F)) : after seg13 W (Proc.devRef .tc main_v177) = W (Proc.devRef .tc main_v177) := by
  after_reads_simp

theorem pass15_v239 (W : Valuation τ sig (Elt F)) : after seg15 W (Proc.devRef .tc main_v239) = W (Proc.devRef .tc main_v239) := by
  after_reads_simp

theorem pass16_v239 (W : Valuation τ sig (Elt F)) : after seg16 W (Proc.devRef .tc main_v239) = W (Proc.devRef .tc main_v239) := by
  after_reads_simp

theorem pass19_v294 (W : Valuation τ sig (Elt F)) : after seg19 W (Proc.devRef .tc main_v294) = W (Proc.devRef .tc main_v294) := by
  after_reads_simp

theorem pass0_arg0 (W : Valuation τ sig (Elt F)) : after seg0 W (Proc.devRef .tc main_arg0) = W (Proc.devRef .tc main_arg0) := by
  after_reads_simp

theorem pass1_arg0 (W : Valuation τ sig (Elt F)) : after seg1 W (Proc.devRef .tc main_arg0) = W (Proc.devRef .tc main_arg0) := by
  after_reads_simp

theorem pass2_arg0 (W : Valuation τ sig (Elt F)) : after seg2 W (Proc.devRef .tc main_arg0) = W (Proc.devRef .tc main_arg0) := by
  after_reads_simp

theorem pass3_arg0 (W : Valuation τ sig (Elt F)) : after seg3 W (Proc.devRef .tc main_arg0) = W (Proc.devRef .tc main_arg0) := by
  after_reads_simp

theorem pass4_arg0 (W : Valuation τ sig (Elt F)) : after seg4 W (Proc.devRef .tc main_arg0) = W (Proc.devRef .tc main_arg0) := by
  after_reads_simp

theorem pass5_arg0 (W : Valuation τ sig (Elt F)) : after seg5 W (Proc.devRef .tc main_arg0) = W (Proc.devRef .tc main_arg0) := by
  after_reads_simp

theorem pass6_arg0 (W : Valuation τ sig (Elt F)) : after seg6 W (Proc.devRef .tc main_arg0) = W (Proc.devRef .tc main_arg0) := by
  after_reads_simp

theorem pass7_arg0 (W : Valuation τ sig (Elt F)) : after seg7 W (Proc.devRef .tc main_arg0) = W (Proc.devRef .tc main_arg0) := by
  after_reads_simp

theorem pass8_arg0 (W : Valuation τ sig (Elt F)) : after seg8 W (Proc.devRef .tc main_arg0) = W (Proc.devRef .tc main_arg0) := by
  after_reads_simp

theorem pass9_arg0 (W : Valuation τ sig (Elt F)) : after seg9 W (Proc.devRef .tc main_arg0) = W (Proc.devRef .tc main_arg0) := by
  after_reads_simp

theorem pass10_arg0 (W : Valuation τ sig (Elt F)) : after seg10 W (Proc.devRef .tc main_arg0) = W (Proc.devRef .tc main_arg0) := by
  after_reads_simp

theorem pass11_arg0 (W : Valuation τ sig (Elt F)) : after seg11 W (Proc.devRef .tc main_arg0) = W (Proc.devRef .tc main_arg0) := by
  after_reads_simp

theorem pass12_arg0 (W : Valuation τ sig (Elt F)) : after seg12 W (Proc.devRef .tc main_arg0) = W (Proc.devRef .tc main_arg0) := by
  after_reads_simp

theorem pass13_arg0 (W : Valuation τ sig (Elt F)) : after seg13 W (Proc.devRef .tc main_arg0) = W (Proc.devRef .tc main_arg0) := by
  after_reads_simp

theorem pass14_arg0 (W : Valuation τ sig (Elt F)) : after seg14 W (Proc.devRef .tc main_arg0) = W (Proc.devRef .tc main_arg0) := by
  after_reads_simp

theorem pass15_arg0 (W : Valuation τ sig (Elt F)) : after seg15 W (Proc.devRef .tc main_arg0) = W (Proc.devRef .tc main_arg0) := by
  after_reads_simp

theorem pass16_arg0 (W : Valuation τ sig (Elt F)) : after seg16 W (Proc.devRef .tc main_arg0) = W (Proc.devRef .tc main_arg0) := by
  after_reads_simp

theorem pass17_arg0 (W : Valuation τ sig (Elt F)) : after seg17 W (Proc.devRef .tc main_arg0) = W (Proc.devRef .tc main_arg0) := by
  after_reads_simp

theorem pass18_arg0 (W : Valuation τ sig (Elt F)) : after seg18 W (Proc.devRef .tc main_arg0) = W (Proc.devRef .tc main_arg0) := by
  after_reads_simp

theorem pass19_arg0 (W : Valuation τ sig (Elt F)) : after seg19 W (Proc.devRef .tc main_arg0) = W (Proc.devRef .tc main_arg0) := by
  after_reads_simp

theorem pass0_arg1 (W : Valuation τ sig (Elt F)) : after seg0 W (Proc.devRef .tc main_arg1) = W (Proc.devRef .tc main_arg1) := by
  after_reads_simp

theorem pass1_arg1 (W : Valuation τ sig (Elt F)) : after seg1 W (Proc.devRef .tc main_arg1) = W (Proc.devRef .tc main_arg1) := by
  after_reads_simp

theorem pass2_arg1 (W : Valuation τ sig (Elt F)) : after seg2 W (Proc.devRef .tc main_arg1) = W (Proc.devRef .tc main_arg1) := by
  after_reads_simp

theorem pass3_arg1 (W : Valuation τ sig (Elt F)) : after seg3 W (Proc.devRef .tc main_arg1) = W (Proc.devRef .tc main_arg1) := by
  after_reads_simp

theorem pass4_arg1 (W : Valuation τ sig (Elt F)) : after seg4 W (Proc.devRef .tc main_arg1) = W (Proc.devRef .tc main_arg1) := by
  after_reads_simp

theorem pass5_arg1 (W : Valuation τ sig (Elt F)) : after seg5 W (Proc.devRef .tc main_arg1) = W (Proc.devRef .tc main_arg1) := by
  after_reads_simp

theorem pass6_arg1 (W : Valuation τ sig (Elt F)) : after seg6 W (Proc.devRef .tc main_arg1) = W (Proc.devRef .tc main_arg1) := by
  after_reads_simp

theorem pass7_arg1 (W : Valuation τ sig (Elt F)) : after seg7 W (Proc.devRef .tc main_arg1) = W (Proc.devRef .tc main_arg1) := by
  after_reads_simp

theorem pass8_arg1 (W : Valuation τ sig (Elt F)) : after seg8 W (Proc.devRef .tc main_arg1) = W (Proc.devRef .tc main_arg1) := by
  after_reads_simp

theorem pass9_arg1 (W : Valuation τ sig (Elt F)) : after seg9 W (Proc.devRef .tc main_arg1) = W (Proc.devRef .tc main_arg1) := by
  after_reads_simp

theorem pass10_arg1 (W : Valuation τ sig (Elt F)) : after seg10 W (Proc.devRef .tc main_arg1) = W (Proc.devRef .tc main_arg1) := by
  after_reads_simp

theorem pass11_arg1 (W : Valuation τ sig (Elt F)) : after seg11 W (Proc.devRef .tc main_arg1) = W (Proc.devRef .tc main_arg1) := by
  after_reads_simp

theorem pass12_arg1 (W : Valuation τ sig (Elt F)) : after seg12 W (Proc.devRef .tc main_arg1) = W (Proc.devRef .tc main_arg1) := by
  after_reads_simp

theorem pass13_arg1 (W : Valuation τ sig (Elt F)) : after seg13 W (Proc.devRef .tc main_arg1) = W (Proc.devRef .tc main_arg1) := by
  after_reads_simp

theorem pass14_arg1 (W : Valuation τ sig (Elt F)) : after seg14 W (Proc.devRef .tc main_arg1) = W (Proc.devRef .tc main_arg1) := by
  after_reads_simp

theorem pass15_arg1 (W : Valuation τ sig (Elt F)) : after seg15 W (Proc.devRef .tc main_arg1) = W (Proc.devRef .tc main_arg1) := by
  after_reads_simp

theorem pass16_arg1 (W : Valuation τ sig (Elt F)) : after seg16 W (Proc.devRef .tc main_arg1) = W (Proc.devRef .tc main_arg1) := by
  after_reads_simp

theorem pass17_arg1 (W : Valuation τ sig (Elt F)) : after seg17 W (Proc.devRef .tc main_arg1) = W (Proc.devRef .tc main_arg1) := by
  after_reads_simp

theorem pass18_arg1 (W : Valuation τ sig (Elt F)) : after seg18 W (Proc.devRef .tc main_arg1) = W (Proc.devRef .tc main_arg1) := by
  after_reads_simp

theorem pass19_arg1 (W : Valuation τ sig (Elt F)) : after seg19 W (Proc.devRef .tc main_arg1) = W (Proc.devRef .tc main_arg1) := by
  after_reads_simp

theorem pass0_arg2 (W : Valuation τ sig (Elt F)) : after seg0 W (Proc.devRef .tc main_arg2) = W (Proc.devRef .tc main_arg2) := by
  after_reads_simp

theorem pass1_arg2 (W : Valuation τ sig (Elt F)) : after seg1 W (Proc.devRef .tc main_arg2) = W (Proc.devRef .tc main_arg2) := by
  after_reads_simp

theorem pass2_arg2 (W : Valuation τ sig (Elt F)) : after seg2 W (Proc.devRef .tc main_arg2) = W (Proc.devRef .tc main_arg2) := by
  after_reads_simp

theorem pass3_arg2 (W : Valuation τ sig (Elt F)) : after seg3 W (Proc.devRef .tc main_arg2) = W (Proc.devRef .tc main_arg2) := by
  after_reads_simp

theorem pass4_arg2 (W : Valuation τ sig (Elt F)) : after seg4 W (Proc.devRef .tc main_arg2) = W (Proc.devRef .tc main_arg2) := by
  after_reads_simp

theorem pass5_arg2 (W : Valuation τ sig (Elt F)) : after seg5 W (Proc.devRef .tc main_arg2) = W (Proc.devRef .tc main_arg2) := by
  after_reads_simp

theorem pass6_arg2 (W : Valuation τ sig (Elt F)) : after seg6 W (Proc.devRef .tc main_arg2) = W (Proc.devRef .tc main_arg2) := by
  after_reads_simp

theorem pass7_arg2 (W : Valuation τ sig (Elt F)) : after seg7 W (Proc.devRef .tc main_arg2) = W (Proc.devRef .tc main_arg2) := by
  after_reads_simp

theorem pass8_arg2 (W : Valuation τ sig (Elt F)) : after seg8 W (Proc.devRef .tc main_arg2) = W (Proc.devRef .tc main_arg2) := by
  after_reads_simp

theorem pass9_arg2 (W : Valuation τ sig (Elt F)) : after seg9 W (Proc.devRef .tc main_arg2) = W (Proc.devRef .tc main_arg2) := by
  after_reads_simp

theorem pass10_arg2 (W : Valuation τ sig (Elt F)) : after seg10 W (Proc.devRef .tc main_arg2) = W (Proc.devRef .tc main_arg2) := by
  after_reads_simp

theorem pass11_arg2 (W : Valuation τ sig (Elt F)) : after seg11 W (Proc.devRef .tc main_arg2) = W (Proc.devRef .tc main_arg2) := by
  after_reads_simp

theorem pass12_arg2 (W : Valuation τ sig (Elt F)) : after seg12 W (Proc.devRef .tc main_arg2) = W (Proc.devRef .tc main_arg2) := by
  after_reads_simp

theorem pass13_arg2 (W : Valuation τ sig (Elt F)) : after seg13 W (Proc.devRef .tc main_arg2) = W (Proc.devRef .tc main_arg2) := by
  after_reads_simp

theorem pass14_arg2 (W : Valuation τ sig (Elt F)) : after seg14 W (Proc.devRef .tc main_arg2) = W (Proc.devRef .tc main_arg2) := by
  after_reads_simp

theorem pass15_arg2 (W : Valuation τ sig (Elt F)) : after seg15 W (Proc.devRef .tc main_arg2) = W (Proc.devRef .tc main_arg2) := by
  after_reads_simp

theorem pass16_arg2 (W : Valuation τ sig (Elt F)) : after seg16 W (Proc.devRef .tc main_arg2) = W (Proc.devRef .tc main_arg2) := by
  after_reads_simp

theorem pass17_arg2 (W : Valuation τ sig (Elt F)) : after seg17 W (Proc.devRef .tc main_arg2) = W (Proc.devRef .tc main_arg2) := by
  after_reads_simp

theorem pass18_arg2 (W : Valuation τ sig (Elt F)) : after seg18 W (Proc.devRef .tc main_arg2) = W (Proc.devRef .tc main_arg2) := by
  after_reads_simp

theorem pass19_arg2 (W : Valuation τ sig (Elt F)) : after seg19 W (Proc.devRef .tc main_arg2) = W (Proc.devRef .tc main_arg2) := by
  after_reads_simp

theorem pass0_arg3 (W : Valuation τ sig (Elt F)) : after seg0 W (Proc.devRef .tc main_arg3) = W (Proc.devRef .tc main_arg3) := by
  after_reads_simp

theorem pass1_arg3 (W : Valuation τ sig (Elt F)) : after seg1 W (Proc.devRef .tc main_arg3) = W (Proc.devRef .tc main_arg3) := by
  after_reads_simp

theorem pass2_arg3 (W : Valuation τ sig (Elt F)) : after seg2 W (Proc.devRef .tc main_arg3) = W (Proc.devRef .tc main_arg3) := by
  after_reads_simp

theorem pass3_arg3 (W : Valuation τ sig (Elt F)) : after seg3 W (Proc.devRef .tc main_arg3) = W (Proc.devRef .tc main_arg3) := by
  after_reads_simp

theorem pass4_arg3 (W : Valuation τ sig (Elt F)) : after seg4 W (Proc.devRef .tc main_arg3) = W (Proc.devRef .tc main_arg3) := by
  after_reads_simp

theorem pass5_arg3 (W : Valuation τ sig (Elt F)) : after seg5 W (Proc.devRef .tc main_arg3) = W (Proc.devRef .tc main_arg3) := by
  after_reads_simp

theorem pass6_arg3 (W : Valuation τ sig (Elt F)) : after seg6 W (Proc.devRef .tc main_arg3) = W (Proc.devRef .tc main_arg3) := by
  after_reads_simp

theorem pass7_arg3 (W : Valuation τ sig (Elt F)) : after seg7 W (Proc.devRef .tc main_arg3) = W (Proc.devRef .tc main_arg3) := by
  after_reads_simp

theorem pass8_arg3 (W : Valuation τ sig (Elt F)) : after seg8 W (Proc.devRef .tc main_arg3) = W (Proc.devRef .tc main_arg3) := by
  after_reads_simp

theorem pass9_arg3 (W : Valuation τ sig (Elt F)) : after seg9 W (Proc.devRef .tc main_arg3) = W (Proc.devRef .tc main_arg3) := by
  after_reads_simp

theorem pass10_arg3 (W : Valuation τ sig (Elt F)) : after seg10 W (Proc.devRef .tc main_arg3) = W (Proc.devRef .tc main_arg3) := by
  after_reads_simp

theorem pass11_arg3 (W : Valuation τ sig (Elt F)) : after seg11 W (Proc.devRef .tc main_arg3) = W (Proc.devRef .tc main_arg3) := by
  after_reads_simp

theorem pass12_arg3 (W : Valuation τ sig (Elt F)) : after seg12 W (Proc.devRef .tc main_arg3) = W (Proc.devRef .tc main_arg3) := by
  after_reads_simp

theorem pass13_arg3 (W : Valuation τ sig (Elt F)) : after seg13 W (Proc.devRef .tc main_arg3) = W (Proc.devRef .tc main_arg3) := by
  after_reads_simp

theorem pass14_arg3 (W : Valuation τ sig (Elt F)) : after seg14 W (Proc.devRef .tc main_arg3) = W (Proc.devRef .tc main_arg3) := by
  after_reads_simp

theorem pass15_arg3 (W : Valuation τ sig (Elt F)) : after seg15 W (Proc.devRef .tc main_arg3) = W (Proc.devRef .tc main_arg3) := by
  after_reads_simp

theorem pass16_arg3 (W : Valuation τ sig (Elt F)) : after seg16 W (Proc.devRef .tc main_arg3) = W (Proc.devRef .tc main_arg3) := by
  after_reads_simp

theorem pass17_arg3 (W : Valuation τ sig (Elt F)) : after seg17 W (Proc.devRef .tc main_arg3) = W (Proc.devRef .tc main_arg3) := by
  after_reads_simp

theorem pass18_arg3 (W : Valuation τ sig (Elt F)) : after seg18 W (Proc.devRef .tc main_arg3) = W (Proc.devRef .tc main_arg3) := by
  after_reads_simp

theorem pass19_arg3 (W : Valuation τ sig (Elt F)) : after seg19 W (Proc.devRef .tc main_arg3) = W (Proc.devRef .tc main_arg3) := by
  after_reads_simp

theorem pass0_arg4 (W : Valuation τ sig (Elt F)) : after seg0 W (Proc.devRef .tc main_arg4) = W (Proc.devRef .tc main_arg4) := by
  after_reads_simp

theorem pass1_arg4 (W : Valuation τ sig (Elt F)) : after seg1 W (Proc.devRef .tc main_arg4) = W (Proc.devRef .tc main_arg4) := by
  after_reads_simp

theorem pass2_arg4 (W : Valuation τ sig (Elt F)) : after seg2 W (Proc.devRef .tc main_arg4) = W (Proc.devRef .tc main_arg4) := by
  after_reads_simp

theorem pass3_arg4 (W : Valuation τ sig (Elt F)) : after seg3 W (Proc.devRef .tc main_arg4) = W (Proc.devRef .tc main_arg4) := by
  after_reads_simp

theorem pass4_arg4 (W : Valuation τ sig (Elt F)) : after seg4 W (Proc.devRef .tc main_arg4) = W (Proc.devRef .tc main_arg4) := by
  after_reads_simp

theorem pass5_arg4 (W : Valuation τ sig (Elt F)) : after seg5 W (Proc.devRef .tc main_arg4) = W (Proc.devRef .tc main_arg4) := by
  after_reads_simp

theorem pass6_arg4 (W : Valuation τ sig (Elt F)) : after seg6 W (Proc.devRef .tc main_arg4) = W (Proc.devRef .tc main_arg4) := by
  after_reads_simp

theorem pass7_arg4 (W : Valuation τ sig (Elt F)) : after seg7 W (Proc.devRef .tc main_arg4) = W (Proc.devRef .tc main_arg4) := by
  after_reads_simp

theorem pass8_arg4 (W : Valuation τ sig (Elt F)) : after seg8 W (Proc.devRef .tc main_arg4) = W (Proc.devRef .tc main_arg4) := by
  after_reads_simp

theorem pass9_arg4 (W : Valuation τ sig (Elt F)) : after seg9 W (Proc.devRef .tc main_arg4) = W (Proc.devRef .tc main_arg4) := by
  after_reads_simp

theorem pass10_arg4 (W : Valuation τ sig (Elt F)) : after seg10 W (Proc.devRef .tc main_arg4) = W (Proc.devRef .tc main_arg4) := by
  after_reads_simp

theorem pass11_arg4 (W : Valuation τ sig (Elt F)) : after seg11 W (Proc.devRef .tc main_arg4) = W (Proc.devRef .tc main_arg4) := by
  after_reads_simp

theorem pass12_arg4 (W : Valuation τ sig (Elt F)) : after seg12 W (Proc.devRef .tc main_arg4) = W (Proc.devRef .tc main_arg4) := by
  after_reads_simp

theorem pass13_arg4 (W : Valuation τ sig (Elt F)) : after seg13 W (Proc.devRef .tc main_arg4) = W (Proc.devRef .tc main_arg4) := by
  after_reads_simp

theorem pass14_arg4 (W : Valuation τ sig (Elt F)) : after seg14 W (Proc.devRef .tc main_arg4) = W (Proc.devRef .tc main_arg4) := by
  after_reads_simp

theorem pass15_arg4 (W : Valuation τ sig (Elt F)) : after seg15 W (Proc.devRef .tc main_arg4) = W (Proc.devRef .tc main_arg4) := by
  after_reads_simp

theorem pass16_arg4 (W : Valuation τ sig (Elt F)) : after seg16 W (Proc.devRef .tc main_arg4) = W (Proc.devRef .tc main_arg4) := by
  after_reads_simp

theorem pass17_arg4 (W : Valuation τ sig (Elt F)) : after seg17 W (Proc.devRef .tc main_arg4) = W (Proc.devRef .tc main_arg4) := by
  after_reads_simp

theorem pass18_arg4 (W : Valuation τ sig (Elt F)) : after seg18 W (Proc.devRef .tc main_arg4) = W (Proc.devRef .tc main_arg4) := by
  after_reads_simp

theorem pass19_arg4 (W : Valuation τ sig (Elt F)) : after seg19 W (Proc.devRef .tc main_arg4) = W (Proc.devRef .tc main_arg4) := by
  after_reads_simp

theorem pass0_arg5 (W : Valuation τ sig (Elt F)) : after seg0 W (Proc.devRef .tc main_arg5) = W (Proc.devRef .tc main_arg5) := by
  after_reads_simp

theorem pass1_arg5 (W : Valuation τ sig (Elt F)) : after seg1 W (Proc.devRef .tc main_arg5) = W (Proc.devRef .tc main_arg5) := by
  after_reads_simp

theorem pass2_arg5 (W : Valuation τ sig (Elt F)) : after seg2 W (Proc.devRef .tc main_arg5) = W (Proc.devRef .tc main_arg5) := by
  after_reads_simp

theorem pass3_arg5 (W : Valuation τ sig (Elt F)) : after seg3 W (Proc.devRef .tc main_arg5) = W (Proc.devRef .tc main_arg5) := by
  after_reads_simp

theorem pass4_arg5 (W : Valuation τ sig (Elt F)) : after seg4 W (Proc.devRef .tc main_arg5) = W (Proc.devRef .tc main_arg5) := by
  after_reads_simp

theorem pass5_arg5 (W : Valuation τ sig (Elt F)) : after seg5 W (Proc.devRef .tc main_arg5) = W (Proc.devRef .tc main_arg5) := by
  after_reads_simp

theorem pass6_arg5 (W : Valuation τ sig (Elt F)) : after seg6 W (Proc.devRef .tc main_arg5) = W (Proc.devRef .tc main_arg5) := by
  after_reads_simp

theorem pass7_arg5 (W : Valuation τ sig (Elt F)) : after seg7 W (Proc.devRef .tc main_arg5) = W (Proc.devRef .tc main_arg5) := by
  after_reads_simp

theorem pass8_arg5 (W : Valuation τ sig (Elt F)) : after seg8 W (Proc.devRef .tc main_arg5) = W (Proc.devRef .tc main_arg5) := by
  after_reads_simp

theorem pass9_arg5 (W : Valuation τ sig (Elt F)) : after seg9 W (Proc.devRef .tc main_arg5) = W (Proc.devRef .tc main_arg5) := by
  after_reads_simp

theorem pass10_arg5 (W : Valuation τ sig (Elt F)) : after seg10 W (Proc.devRef .tc main_arg5) = W (Proc.devRef .tc main_arg5) := by
  after_reads_simp

theorem pass11_arg5 (W : Valuation τ sig (Elt F)) : after seg11 W (Proc.devRef .tc main_arg5) = W (Proc.devRef .tc main_arg5) := by
  after_reads_simp

theorem pass12_arg5 (W : Valuation τ sig (Elt F)) : after seg12 W (Proc.devRef .tc main_arg5) = W (Proc.devRef .tc main_arg5) := by
  after_reads_simp

theorem pass13_arg5 (W : Valuation τ sig (Elt F)) : after seg13 W (Proc.devRef .tc main_arg5) = W (Proc.devRef .tc main_arg5) := by
  after_reads_simp

theorem pass14_arg5 (W : Valuation τ sig (Elt F)) : after seg14 W (Proc.devRef .tc main_arg5) = W (Proc.devRef .tc main_arg5) := by
  after_reads_simp

theorem pass15_arg5 (W : Valuation τ sig (Elt F)) : after seg15 W (Proc.devRef .tc main_arg5) = W (Proc.devRef .tc main_arg5) := by
  after_reads_simp

theorem pass16_arg5 (W : Valuation τ sig (Elt F)) : after seg16 W (Proc.devRef .tc main_arg5) = W (Proc.devRef .tc main_arg5) := by
  after_reads_simp

theorem pass17_arg5 (W : Valuation τ sig (Elt F)) : after seg17 W (Proc.devRef .tc main_arg5) = W (Proc.devRef .tc main_arg5) := by
  after_reads_simp

theorem pass18_arg5 (W : Valuation τ sig (Elt F)) : after seg18 W (Proc.devRef .tc main_arg5) = W (Proc.devRef .tc main_arg5) := by
  after_reads_simp

theorem pass19_arg5 (W : Valuation τ sig (Elt F)) : after seg19 W (Proc.devRef .tc main_arg5) = W (Proc.devRef .tc main_arg5) := by
  after_reads_simp

theorem pass0_arg6 (W : Valuation τ sig (Elt F)) : after seg0 W (Proc.devRef .tc main_arg6) = W (Proc.devRef .tc main_arg6) := by
  after_reads_simp

theorem pass1_arg6 (W : Valuation τ sig (Elt F)) : after seg1 W (Proc.devRef .tc main_arg6) = W (Proc.devRef .tc main_arg6) := by
  after_reads_simp

theorem pass2_arg6 (W : Valuation τ sig (Elt F)) : after seg2 W (Proc.devRef .tc main_arg6) = W (Proc.devRef .tc main_arg6) := by
  after_reads_simp

theorem pass3_arg6 (W : Valuation τ sig (Elt F)) : after seg3 W (Proc.devRef .tc main_arg6) = W (Proc.devRef .tc main_arg6) := by
  after_reads_simp

theorem pass4_arg6 (W : Valuation τ sig (Elt F)) : after seg4 W (Proc.devRef .tc main_arg6) = W (Proc.devRef .tc main_arg6) := by
  after_reads_simp

theorem pass5_arg6 (W : Valuation τ sig (Elt F)) : after seg5 W (Proc.devRef .tc main_arg6) = W (Proc.devRef .tc main_arg6) := by
  after_reads_simp

theorem pass6_arg6 (W : Valuation τ sig (Elt F)) : after seg6 W (Proc.devRef .tc main_arg6) = W (Proc.devRef .tc main_arg6) := by
  after_reads_simp

theorem pass7_arg6 (W : Valuation τ sig (Elt F)) : after seg7 W (Proc.devRef .tc main_arg6) = W (Proc.devRef .tc main_arg6) := by
  after_reads_simp

theorem pass8_arg6 (W : Valuation τ sig (Elt F)) : after seg8 W (Proc.devRef .tc main_arg6) = W (Proc.devRef .tc main_arg6) := by
  after_reads_simp

theorem pass9_arg6 (W : Valuation τ sig (Elt F)) : after seg9 W (Proc.devRef .tc main_arg6) = W (Proc.devRef .tc main_arg6) := by
  after_reads_simp

theorem pass10_arg6 (W : Valuation τ sig (Elt F)) : after seg10 W (Proc.devRef .tc main_arg6) = W (Proc.devRef .tc main_arg6) := by
  after_reads_simp

theorem pass11_arg6 (W : Valuation τ sig (Elt F)) : after seg11 W (Proc.devRef .tc main_arg6) = W (Proc.devRef .tc main_arg6) := by
  after_reads_simp

theorem pass12_arg6 (W : Valuation τ sig (Elt F)) : after seg12 W (Proc.devRef .tc main_arg6) = W (Proc.devRef .tc main_arg6) := by
  after_reads_simp

theorem pass13_arg6 (W : Valuation τ sig (Elt F)) : after seg13 W (Proc.devRef .tc main_arg6) = W (Proc.devRef .tc main_arg6) := by
  after_reads_simp

theorem pass14_arg6 (W : Valuation τ sig (Elt F)) : after seg14 W (Proc.devRef .tc main_arg6) = W (Proc.devRef .tc main_arg6) := by
  after_reads_simp

theorem pass15_arg6 (W : Valuation τ sig (Elt F)) : after seg15 W (Proc.devRef .tc main_arg6) = W (Proc.devRef .tc main_arg6) := by
  after_reads_simp

theorem pass16_arg6 (W : Valuation τ sig (Elt F)) : after seg16 W (Proc.devRef .tc main_arg6) = W (Proc.devRef .tc main_arg6) := by
  after_reads_simp

theorem pass17_arg6 (W : Valuation τ sig (Elt F)) : after seg17 W (Proc.devRef .tc main_arg6) = W (Proc.devRef .tc main_arg6) := by
  after_reads_simp

theorem pass18_arg6 (W : Valuation τ sig (Elt F)) : after seg18 W (Proc.devRef .tc main_arg6) = W (Proc.devRef .tc main_arg6) := by
  after_reads_simp

theorem pass19_arg6 (W : Valuation τ sig (Elt F)) : after seg19 W (Proc.devRef .tc main_arg6) = W (Proc.devRef .tc main_arg6) := by
  after_reads_simp

theorem pass0_arg7 (W : Valuation τ sig (Elt F)) : after seg0 W (Proc.devRef .tc main_arg7) = W (Proc.devRef .tc main_arg7) := by
  after_reads_simp

theorem pass1_arg7 (W : Valuation τ sig (Elt F)) : after seg1 W (Proc.devRef .tc main_arg7) = W (Proc.devRef .tc main_arg7) := by
  after_reads_simp

theorem pass2_arg7 (W : Valuation τ sig (Elt F)) : after seg2 W (Proc.devRef .tc main_arg7) = W (Proc.devRef .tc main_arg7) := by
  after_reads_simp

theorem pass3_arg7 (W : Valuation τ sig (Elt F)) : after seg3 W (Proc.devRef .tc main_arg7) = W (Proc.devRef .tc main_arg7) := by
  after_reads_simp

theorem pass4_arg7 (W : Valuation τ sig (Elt F)) : after seg4 W (Proc.devRef .tc main_arg7) = W (Proc.devRef .tc main_arg7) := by
  after_reads_simp

theorem pass5_arg7 (W : Valuation τ sig (Elt F)) : after seg5 W (Proc.devRef .tc main_arg7) = W (Proc.devRef .tc main_arg7) := by
  after_reads_simp

theorem pass6_arg7 (W : Valuation τ sig (Elt F)) : after seg6 W (Proc.devRef .tc main_arg7) = W (Proc.devRef .tc main_arg7) := by
  after_reads_simp

theorem pass7_arg7 (W : Valuation τ sig (Elt F)) : after seg7 W (Proc.devRef .tc main_arg7) = W (Proc.devRef .tc main_arg7) := by
  after_reads_simp

theorem pass8_arg7 (W : Valuation τ sig (Elt F)) : after seg8 W (Proc.devRef .tc main_arg7) = W (Proc.devRef .tc main_arg7) := by
  after_reads_simp

theorem pass9_arg7 (W : Valuation τ sig (Elt F)) : after seg9 W (Proc.devRef .tc main_arg7) = W (Proc.devRef .tc main_arg7) := by
  after_reads_simp

theorem pass10_arg7 (W : Valuation τ sig (Elt F)) : after seg10 W (Proc.devRef .tc main_arg7) = W (Proc.devRef .tc main_arg7) := by
  after_reads_simp

theorem pass11_arg7 (W : Valuation τ sig (Elt F)) : after seg11 W (Proc.devRef .tc main_arg7) = W (Proc.devRef .tc main_arg7) := by
  after_reads_simp

theorem pass12_arg7 (W : Valuation τ sig (Elt F)) : after seg12 W (Proc.devRef .tc main_arg7) = W (Proc.devRef .tc main_arg7) := by
  after_reads_simp

theorem pass13_arg7 (W : Valuation τ sig (Elt F)) : after seg13 W (Proc.devRef .tc main_arg7) = W (Proc.devRef .tc main_arg7) := by
  after_reads_simp

theorem pass14_arg7 (W : Valuation τ sig (Elt F)) : after seg14 W (Proc.devRef .tc main_arg7) = W (Proc.devRef .tc main_arg7) := by
  after_reads_simp

theorem pass15_arg7 (W : Valuation τ sig (Elt F)) : after seg15 W (Proc.devRef .tc main_arg7) = W (Proc.devRef .tc main_arg7) := by
  after_reads_simp

theorem pass16_arg7 (W : Valuation τ sig (Elt F)) : after seg16 W (Proc.devRef .tc main_arg7) = W (Proc.devRef .tc main_arg7) := by
  after_reads_simp

theorem pass17_arg7 (W : Valuation τ sig (Elt F)) : after seg17 W (Proc.devRef .tc main_arg7) = W (Proc.devRef .tc main_arg7) := by
  after_reads_simp

theorem pass18_arg7 (W : Valuation τ sig (Elt F)) : after seg18 W (Proc.devRef .tc main_arg7) = W (Proc.devRef .tc main_arg7) := by
  after_reads_simp

theorem pass19_arg7 (W : Valuation τ sig (Elt F)) : after seg19 W (Proc.devRef .tc main_arg7) = W (Proc.devRef .tc main_arg7) := by
  after_reads_simp

theorem pass0_arg8 (W : Valuation τ sig (Elt F)) : after seg0 W (Proc.devRef .tc main_arg8) = W (Proc.devRef .tc main_arg8) := by
  after_reads_simp

theorem pass1_arg8 (W : Valuation τ sig (Elt F)) : after seg1 W (Proc.devRef .tc main_arg8) = W (Proc.devRef .tc main_arg8) := by
  after_reads_simp

theorem pass2_arg8 (W : Valuation τ sig (Elt F)) : after seg2 W (Proc.devRef .tc main_arg8) = W (Proc.devRef .tc main_arg8) := by
  after_reads_simp

theorem pass3_arg8 (W : Valuation τ sig (Elt F)) : after seg3 W (Proc.devRef .tc main_arg8) = W (Proc.devRef .tc main_arg8) := by
  after_reads_simp

theorem pass4_arg8 (W : Valuation τ sig (Elt F)) : after seg4 W (Proc.devRef .tc main_arg8) = W (Proc.devRef .tc main_arg8) := by
  after_reads_simp

theorem pass5_arg8 (W : Valuation τ sig (Elt F)) : after seg5 W (Proc.devRef .tc main_arg8) = W (Proc.devRef .tc main_arg8) := by
  after_reads_simp

theorem pass6_arg8 (W : Valuation τ sig (Elt F)) : after seg6 W (Proc.devRef .tc main_arg8) = W (Proc.devRef .tc main_arg8) := by
  after_reads_simp

theorem pass7_arg8 (W : Valuation τ sig (Elt F)) : after seg7 W (Proc.devRef .tc main_arg8) = W (Proc.devRef .tc main_arg8) := by
  after_reads_simp

theorem pass8_arg8 (W : Valuation τ sig (Elt F)) : after seg8 W (Proc.devRef .tc main_arg8) = W (Proc.devRef .tc main_arg8) := by
  after_reads_simp

theorem pass9_arg8 (W : Valuation τ sig (Elt F)) : after seg9 W (Proc.devRef .tc main_arg8) = W (Proc.devRef .tc main_arg8) := by
  after_reads_simp

theorem pass10_arg8 (W : Valuation τ sig (Elt F)) : after seg10 W (Proc.devRef .tc main_arg8) = W (Proc.devRef .tc main_arg8) := by
  after_reads_simp

theorem pass11_arg8 (W : Valuation τ sig (Elt F)) : after seg11 W (Proc.devRef .tc main_arg8) = W (Proc.devRef .tc main_arg8) := by
  after_reads_simp

theorem pass12_arg8 (W : Valuation τ sig (Elt F)) : after seg12 W (Proc.devRef .tc main_arg8) = W (Proc.devRef .tc main_arg8) := by
  after_reads_simp

theorem pass13_arg8 (W : Valuation τ sig (Elt F)) : after seg13 W (Proc.devRef .tc main_arg8) = W (Proc.devRef .tc main_arg8) := by
  after_reads_simp

theorem pass14_arg8 (W : Valuation τ sig (Elt F)) : after seg14 W (Proc.devRef .tc main_arg8) = W (Proc.devRef .tc main_arg8) := by
  after_reads_simp

theorem pass15_arg8 (W : Valuation τ sig (Elt F)) : after seg15 W (Proc.devRef .tc main_arg8) = W (Proc.devRef .tc main_arg8) := by
  after_reads_simp

theorem pass16_arg8 (W : Valuation τ sig (Elt F)) : after seg16 W (Proc.devRef .tc main_arg8) = W (Proc.devRef .tc main_arg8) := by
  after_reads_simp

theorem pass17_arg8 (W : Valuation τ sig (Elt F)) : after seg17 W (Proc.devRef .tc main_arg8) = W (Proc.devRef .tc main_arg8) := by
  after_reads_simp

theorem pass18_arg8 (W : Valuation τ sig (Elt F)) : after seg18 W (Proc.devRef .tc main_arg8) = W (Proc.devRef .tc main_arg8) := by
  after_reads_simp

theorem pass19_arg8 (W : Valuation τ sig (Elt F)) : after seg19 W (Proc.devRef .tc main_arg8) = W (Proc.devRef .tc main_arg8) := by
  after_reads_simp

theorem pass0_arg9 (W : Valuation τ sig (Elt F)) : after seg0 W (Proc.devRef .tc main_arg9) = W (Proc.devRef .tc main_arg9) := by
  after_reads_simp

theorem pass1_arg9 (W : Valuation τ sig (Elt F)) : after seg1 W (Proc.devRef .tc main_arg9) = W (Proc.devRef .tc main_arg9) := by
  after_reads_simp

theorem pass2_arg9 (W : Valuation τ sig (Elt F)) : after seg2 W (Proc.devRef .tc main_arg9) = W (Proc.devRef .tc main_arg9) := by
  after_reads_simp

theorem pass3_arg9 (W : Valuation τ sig (Elt F)) : after seg3 W (Proc.devRef .tc main_arg9) = W (Proc.devRef .tc main_arg9) := by
  after_reads_simp

theorem pass4_arg9 (W : Valuation τ sig (Elt F)) : after seg4 W (Proc.devRef .tc main_arg9) = W (Proc.devRef .tc main_arg9) := by
  after_reads_simp

theorem pass5_arg9 (W : Valuation τ sig (Elt F)) : after seg5 W (Proc.devRef .tc main_arg9) = W (Proc.devRef .tc main_arg9) := by
  after_reads_simp

theorem pass6_arg9 (W : Valuation τ sig (Elt F)) : after seg6 W (Proc.devRef .tc main_arg9) = W (Proc.devRef .tc main_arg9) := by
  after_reads_simp

theorem pass7_arg9 (W : Valuation τ sig (Elt F)) : after seg7 W (Proc.devRef .tc main_arg9) = W (Proc.devRef .tc main_arg9) := by
  after_reads_simp

theorem pass8_arg9 (W : Valuation τ sig (Elt F)) : after seg8 W (Proc.devRef .tc main_arg9) = W (Proc.devRef .tc main_arg9) := by
  after_reads_simp

theorem pass9_arg9 (W : Valuation τ sig (Elt F)) : after seg9 W (Proc.devRef .tc main_arg9) = W (Proc.devRef .tc main_arg9) := by
  after_reads_simp

theorem pass10_arg9 (W : Valuation τ sig (Elt F)) : after seg10 W (Proc.devRef .tc main_arg9) = W (Proc.devRef .tc main_arg9) := by
  after_reads_simp

theorem pass11_arg9 (W : Valuation τ sig (Elt F)) : after seg11 W (Proc.devRef .tc main_arg9) = W (Proc.devRef .tc main_arg9) := by
  after_reads_simp

theorem pass12_arg9 (W : Valuation τ sig (Elt F)) : after seg12 W (Proc.devRef .tc main_arg9) = W (Proc.devRef .tc main_arg9) := by
  after_reads_simp

theorem pass13_arg9 (W : Valuation τ sig (Elt F)) : after seg13 W (Proc.devRef .tc main_arg9) = W (Proc.devRef .tc main_arg9) := by
  after_reads_simp

theorem pass14_arg9 (W : Valuation τ sig (Elt F)) : after seg14 W (Proc.devRef .tc main_arg9) = W (Proc.devRef .tc main_arg9) := by
  after_reads_simp

theorem pass15_arg9 (W : Valuation τ sig (Elt F)) : after seg15 W (Proc.devRef .tc main_arg9) = W (Proc.devRef .tc main_arg9) := by
  after_reads_simp

theorem pass16_arg9 (W : Valuation τ sig (Elt F)) : after seg16 W (Proc.devRef .tc main_arg9) = W (Proc.devRef .tc main_arg9) := by
  after_reads_simp

theorem pass17_arg9 (W : Valuation τ sig (Elt F)) : after seg17 W (Proc.devRef .tc main_arg9) = W (Proc.devRef .tc main_arg9) := by
  after_reads_simp

theorem pass18_arg9 (W : Valuation τ sig (Elt F)) : after seg18 W (Proc.devRef .tc main_arg9) = W (Proc.devRef .tc main_arg9) := by
  after_reads_simp

theorem pass19_arg9 (W : Valuation τ sig (Elt F)) : after seg19 W (Proc.devRef .tc main_arg9) = W (Proc.devRef .tc main_arg9) := by
  after_reads_simp

/-- The value `v0` of the reference from its arguments. -/
def val_v0 (W : Valuation τ sig (Elt F)) : FVec F S16x75 .f32 := st_v0 (W (Proc.devRef .tc main_arg3))

/-- The value `v6` of the reference from its arguments. -/
def val_v6 (W : Valuation τ sig (Elt F)) : FVec F S_ .f32 := st_v6 (W (Proc.devRef .tc main_arg3))

/-- The value `v11` of the reference from its arguments. -/
def val_v11 (W : Valuation τ sig (Elt F)) : FVec F S16 .f32 := st_v11 (W (Proc.devRef .tc main_arg3))

/-- The value `v42` of the reference from its arguments. -/
def val_v42 (W : Valuation τ sig (Elt F)) : FVec F S16 .f32 := st_v42 (val_v11 W) (W (Proc.devRef .tc main_arg4)) (val_v0 W) (val_v6 W) (W (Proc.devRef .tc main_arg5))

/-- The value `v51` of the reference from its arguments. -/
def val_v51 (W : Valuation τ sig (Elt F)) : FVec F S16 .f32 := st_v51 (val_v42 W)

/-- The value `v55` of the reference from its arguments. -/
def val_v55 (W : Valuation τ sig (Elt F)) : FVec F S3x5x5 .f32 := st_v55 (W (Proc.devRef .tc main_arg4))

/-- The value `v87` of the reference from its arguments. -/
def val_v87 (W : Valuation τ sig (Elt F)) : FVec F S5x5x3 .f32 := st_v87 (W (Proc.devRef .tc main_arg2))

/-- The value `v102` of the reference from its arguments. -/
def val_v102 (W : Valuation τ sig (Elt F)) : FVec F S_ .f32 := st_v102 (val_v87 W) (val_v55 W) (W (Proc.devRef .tc main_arg4)) (W (Proc.devRef .tc main_arg5))

/-- The value `v108` of the reference from its arguments. -/
def val_v108 (W : Valuation τ sig (Elt F)) : FVec F S_ .f32 := st_v108 (val_v102 W)

/-- The value `v115` of the reference from its arguments. -/
def val_v115 (W : Valuation τ sig (Elt F)) : FVec F S16 .f32 := st_v115 (val_v108 W) (val_v51 W)

/-- The value `v120` of the reference from its arguments. -/
def val_v120 (W : Valuation τ sig (Elt F)) : FVec F S20x1024x20x16 .f32 := st_v120 (W (Proc.devRef .tc main_arg0)) (val_v115 W)

/-- The value `v125` of the reference from its arguments. -/
def val_v125 (W : Valuation τ sig (Elt F)) : FVec F S20x20x16 .f32 := st_v125 (W (Proc.devRef .tc main_arg1)) (val_v115 W)

/-- The value `v126` of the reference from its arguments. -/
def val_v126 (W : Valuation τ sig (Elt F)) : FVec F S20x400 .f32 := st_v126 (W (Proc.devRef .tc main_arg6))

/-- The value `v132` of the reference from its arguments. -/
def val_v132 (W : Valuation τ sig (Elt F)) : FVec F S_ .f32 := st_v132 (W (Proc.devRef .tc main_arg6))

/-- The value `v137` of the reference from its arguments. -/
def val_v137 (W : Valuation τ sig (Elt F)) : FVec F S20 .f32 := st_v137 (W (Proc.devRef .tc main_arg6))

/-- The value `v168` of the reference from its arguments. -/
def val_v168 (W : Valuation τ sig (Elt F)) : FVec F S20 .f32 := st_v168 (val_v137 W) (W (Proc.devRef .tc main_arg8)) (val_v126 W) (val_v132 W) (W (Proc.devRef .tc main_arg9))

/-- The value `v177` of the reference from its arguments. -/
def val_v177 (W : Valuation τ sig (Elt F)) : FVec F S20 .f32 := st_v177 (val_v168 W)

/-- The value `v179` of the reference from its arguments. -/
def val_v179 (W : Valuation τ sig (Elt F)) : FVec F S16x5x5 .f32 := st_v179 (W (Proc.devRef .tc main_arg8))

/-- The value `v211` of the reference from its arguments. -/
def val_v211 (W : Valuation τ sig (Elt F)) : FVec F S5x5x16 .f32 := st_v211 (val_v125 W)

/-- The value `v226` of the reference from its arguments. -/
def val_v226 (W : Valuation τ sig (Elt F)) : FVec F S_ .f32 := st_v226 (val_v211 W) (val_v179 W) (W (Proc.devRef .tc main_arg8)) (W (Proc.devRef .tc main_arg9))

/-- The value `v232` of the reference from its arguments. -/
def val_v232 (W : Valuation τ sig (Elt F)) : FVec F S_ .f32 := st_v232 (val_v226 W)

/-- The value `v239` of the reference from its arguments. -/
def val_v239 (W : Valuation τ sig (Elt F)) : FVec F S20 .f32 := st_v239 (val_v232 W) (val_v177 W)

/-- The value `v250` of the reference from its arguments. -/
def val_v250 (W : Valuation τ sig (Elt F)) : FVec F S5x20x1024x16x16 .f32 := st_v250 (val_v120 W)

/-- The value `v282` of the reference from its arguments. -/
def val_v282 (W : Valuation τ sig (Elt F)) : FVec F S1024x16x16x20 .f32 := st_v282 (val_v250 W) (W (Proc.devRef .tc main_arg6)) (W (Proc.devRef .tc main_arg7))

/-- The value `v293` of the reference from its arguments. -/
def val_v293 (W : Valuation τ sig (Elt F)) : FVec F S8x1024x160 .f32 := st_v293 (val_v239 W) (val_v282 W)

/-- The value `v294` of the reference from its arguments. -/
def val_v294 (W : Valuation τ sig (Elt F)) : FVec F S12x1024x256 .f32 := st_v294 (val_v293 W)

/-- The value `v295` of the reference from its arguments. -/
def val_v295 (W : Valuation τ sig (Elt F)) : FVec F S12x256 .f32 := st_v295 (val_v294 W)

/-- The buffers after the first stages. -/
def w1 (W : Valuation τ sig (Elt F)) : Valuation τ sig (Elt F) := after seg0 W

/-- The buffers after the first stages. -/
def w2 (W : Valuation τ sig (Elt F)) : Valuation τ sig (Elt F) := after seg1 (w1 W)

/-- The buffers after the first stages. -/
def w3 (W : Valuation τ sig (Elt F)) : Valuation τ sig (Elt F) := after seg2 (w2 W)

/-- The buffers after the first stages. -/
def w4 (W : Valuation τ sig (Elt F)) : Valuation τ sig (Elt F) := after seg3 (w3 W)

/-- The buffers after the first stages. -/
def w5 (W : Valuation τ sig (Elt F)) : Valuation τ sig (Elt F) := after seg4 (w4 W)

/-- The buffers after the first stages. -/
def w6 (W : Valuation τ sig (Elt F)) : Valuation τ sig (Elt F) := after seg5 (w5 W)

/-- The buffers after the first stages. -/
def w7 (W : Valuation τ sig (Elt F)) : Valuation τ sig (Elt F) := after seg6 (w6 W)

/-- The buffers after the first stages. -/
def w8 (W : Valuation τ sig (Elt F)) : Valuation τ sig (Elt F) := after seg7 (w7 W)

/-- The buffers after the first stages. -/
def w9 (W : Valuation τ sig (Elt F)) : Valuation τ sig (Elt F) := after seg8 (w8 W)

/-- The buffers after the first stages. -/
def w10 (W : Valuation τ sig (Elt F)) : Valuation τ sig (Elt F) := after seg9 (w9 W)

/-- The buffers after the first stages. -/
def w11 (W : Valuation τ sig (Elt F)) : Valuation τ sig (Elt F) := after seg10 (w10 W)

/-- The buffers after the first stages. -/
def w12 (W : Valuation τ sig (Elt F)) : Valuation τ sig (Elt F) := after seg11 (w11 W)

/-- The buffers after the first stages. -/
def w13 (W : Valuation τ sig (Elt F)) : Valuation τ sig (Elt F) := after seg12 (w12 W)

/-- The buffers after the first stages. -/
def w14 (W : Valuation τ sig (Elt F)) : Valuation τ sig (Elt F) := after seg13 (w13 W)

/-- The buffers after the first stages. -/
def w15 (W : Valuation τ sig (Elt F)) : Valuation τ sig (Elt F) := after seg14 (w14 W)

/-- The buffers after the first stages. -/
def w16 (W : Valuation τ sig (Elt F)) : Valuation τ sig (Elt F) := after seg15 (w15 W)

/-- The buffers after the first stages. -/
def w17 (W : Valuation τ sig (Elt F)) : Valuation τ sig (Elt F) := after seg16 (w16 W)

/-- The buffers after the first stages. -/
def w18 (W : Valuation τ sig (Elt F)) : Valuation τ sig (Elt F) := after seg17 (w17 W)

/-- The buffers after the first stages. -/
def w19 (W : Valuation τ sig (Elt F)) : Valuation τ sig (Elt F) := after seg18 (w18 W)

/-- The buffers after the first stages. -/
def w20 (W : Valuation τ sig (Elt F)) : Valuation τ sig (Elt F) := after seg19 (w19 W)

theorem ops_w (W : Valuation τ sig (Elt F)) : after ops W = w20 W := by
  unfold ops
  rw [after_append, after_append, after_append, after_append, after_append, after_append, after_append, after_append, after_append, after_append, after_append, after_append, after_append, after_append, after_append, after_append, after_append, after_append, after_append]
  rfl

theorem at0_arg1 (W : Valuation τ sig (Elt F)) : W (Proc.devRef .tc main_arg1) = W (Proc.devRef .tc main_arg1) :=
  rfl

theorem at1_arg1 (W : Valuation τ sig (Elt F)) : (w1 W) (Proc.devRef .tc main_arg1) = W (Proc.devRef .tc main_arg1) :=
  (pass0_arg1 _).trans (at0_arg1 W)

theorem at2_arg1 (W : Valuation τ sig (Elt F)) : (w2 W) (Proc.devRef .tc main_arg1) = W (Proc.devRef .tc main_arg1) :=
  (pass1_arg1 _).trans (at1_arg1 W)

theorem at3_arg1 (W : Valuation τ sig (Elt F)) : (w3 W) (Proc.devRef .tc main_arg1) = W (Proc.devRef .tc main_arg1) :=
  (pass2_arg1 _).trans (at2_arg1 W)

theorem at4_arg1 (W : Valuation τ sig (Elt F)) : (w4 W) (Proc.devRef .tc main_arg1) = W (Proc.devRef .tc main_arg1) :=
  (pass3_arg1 _).trans (at3_arg1 W)

theorem at5_arg1 (W : Valuation τ sig (Elt F)) : (w5 W) (Proc.devRef .tc main_arg1) = W (Proc.devRef .tc main_arg1) :=
  (pass4_arg1 _).trans (at4_arg1 W)

theorem at6_arg1 (W : Valuation τ sig (Elt F)) : (w6 W) (Proc.devRef .tc main_arg1) = W (Proc.devRef .tc main_arg1) :=
  (pass5_arg1 _).trans (at5_arg1 W)

theorem at7_arg1 (W : Valuation τ sig (Elt F)) : (w7 W) (Proc.devRef .tc main_arg1) = W (Proc.devRef .tc main_arg1) :=
  (pass6_arg1 _).trans (at6_arg1 W)

theorem at0_arg2 (W : Valuation τ sig (Elt F)) : W (Proc.devRef .tc main_arg2) = W (Proc.devRef .tc main_arg2) :=
  rfl

theorem at1_arg2 (W : Valuation τ sig (Elt F)) : (w1 W) (Proc.devRef .tc main_arg2) = W (Proc.devRef .tc main_arg2) :=
  (pass0_arg2 _).trans (at0_arg2 W)

theorem at2_arg2 (W : Valuation τ sig (Elt F)) : (w2 W) (Proc.devRef .tc main_arg2) = W (Proc.devRef .tc main_arg2) :=
  (pass1_arg2 _).trans (at1_arg2 W)

theorem at3_arg2 (W : Valuation τ sig (Elt F)) : (w3 W) (Proc.devRef .tc main_arg2) = W (Proc.devRef .tc main_arg2) :=
  (pass2_arg2 _).trans (at2_arg2 W)

theorem at4_v87 (W : Valuation τ sig (Elt F)) : (w4 W) (Proc.devRef .tc main_v87) = val_v87 W :=
  (after_v87 _).trans (by rw [at3_arg2]; rfl)

theorem at0_arg4 (W : Valuation τ sig (Elt F)) : W (Proc.devRef .tc main_arg4) = W (Proc.devRef .tc main_arg4) :=
  rfl

theorem at1_arg4 (W : Valuation τ sig (Elt F)) : (w1 W) (Proc.devRef .tc main_arg4) = W (Proc.devRef .tc main_arg4) :=
  (pass0_arg4 _).trans (at0_arg4 W)

theorem at2_arg4 (W : Valuation τ sig (Elt F)) : (w2 W) (Proc.devRef .tc main_arg4) = W (Proc.devRef .tc main_arg4) :=
  (pass1_arg4 _).trans (at1_arg4 W)

theorem at3_arg4 (W : Valuation τ sig (Elt F)) : (w3 W) (Proc.devRef .tc main_arg4) = W (Proc.devRef .tc main_arg4) :=
  (pass2_arg4 _).trans (at2_arg4 W)

theorem at4_v55 (W : Valuation τ sig (Elt F)) : (w4 W) (Proc.devRef .tc main_v55) = val_v55 W :=
  (after_v55 _).trans (by rw [at3_arg4]; rfl)

theorem at4_arg4 (W : Valuation τ sig (Elt F)) : (w4 W) (Proc.devRef .tc main_arg4) = W (Proc.devRef .tc main_arg4) :=
  (pass3_arg4 _).trans (at3_arg4 W)

theorem at0_arg5 (W : Valuation τ sig (Elt F)) : W (Proc.devRef .tc main_arg5) = W (Proc.devRef .tc main_arg5) :=
  rfl

theorem at1_arg5 (W : Valuation τ sig (Elt F)) : (w1 W) (Proc.devRef .tc main_arg5) = W (Proc.devRef .tc main_arg5) :=
  (pass0_arg5 _).trans (at0_arg5 W)

theorem at2_arg5 (W : Valuation τ sig (Elt F)) : (w2 W) (Proc.devRef .tc main_arg5) = W (Proc.devRef .tc main_arg5) :=
  (pass1_arg5 _).trans (at1_arg5 W)

theorem at3_arg5 (W : Valuation τ sig (Elt F)) : (w3 W) (Proc.devRef .tc main_arg5) = W (Proc.devRef .tc main_arg5) :=
  (pass2_arg5 _).trans (at2_arg5 W)

theorem at4_arg5 (W : Valuation τ sig (Elt F)) : (w4 W) (Proc.devRef .tc main_arg5) = W (Proc.devRef .tc main_arg5) :=
  (pass3_arg5 _).trans (at3_arg5 W)

theorem at5_v102 (W : Valuation τ sig (Elt F)) : (w5 W) (Proc.devRef .tc main_v102) = val_v102 W :=
  (after_v102 _).trans (by rw [at4_v87, at4_v55, at4_arg4, at4_arg5]; rfl)

theorem at6_v108 (W : Valuation τ sig (Elt F)) : (w6 W) (Proc.devRef .tc main_v108) = val_v108 W :=
  (after_v108 _).trans (by rw [at5_v102]; rfl)

theorem at0_arg3 (W : Valuation τ sig (Elt F)) : W (Proc.devRef .tc main_arg3) = W (Proc.devRef .tc main_arg3) :=
  rfl

theorem at1_v11 (W : Valuation τ sig (Elt F)) : (w1 W) (Proc.devRef .tc main_v11) = val_v11 W :=
  after_v11 _

theorem at1_v0 (W : Valuation τ sig (Elt F)) : (w1 W) (Proc.devRef .tc main_v0) = val_v0 W :=
  after_v0 _

theorem at1_v6 (W : Valuation τ sig (Elt F)) : (w1 W) (Proc.devRef .tc main_v6) = val_v6 W :=
  after_v6 _

theorem at2_v42 (W : Valuation τ sig (Elt F)) : (w2 W) (Proc.devRef .tc main_v42) = val_v42 W :=
  (after_v42 _).trans (by rw [at1_v11, at1_arg4, at1_v0, at1_v6, at1_arg5]; rfl)

theorem at3_v51 (W : Valuation τ sig (Elt F)) : (w3 W) (Proc.devRef .tc main_v51) = val_v51 W :=
  (after_v51 _).trans (by rw [at2_v42]; rfl)

theorem at4_v51 (W : Valuation τ sig (Elt F)) : (w4 W) (Proc.devRef .tc main_v51) = val_v51 W :=
  (pass3_v51 _).trans (at3_v51 W)

theorem at5_v51 (W : Valuation τ sig (Elt F)) : (w5 W) (Proc.devRef .tc main_v51) = val_v51 W :=
  (pass4_v51 _).trans (at4_v51 W)

theorem at6_v51 (W : Valuation τ sig (Elt F)) : (w6 W) (Proc.devRef .tc main_v51) = val_v51 W :=
  (pass5_v51 _).trans (at5_v51 W)

theorem at7_v115 (W : Valuation τ sig (Elt F)) : (w7 W) (Proc.devRef .tc main_v115) = val_v115 W :=
  (after_v115 _).trans (by rw [at6_v108, at6_v51]; rfl)

theorem at8_v125 (W : Valuation τ sig (Elt F)) : (w8 W) (Proc.devRef .tc main_v125) = val_v125 W :=
  (after_v125 _).trans (by rw [at7_arg1, at7_v115]; rfl)

theorem at9_v125 (W : Valuation τ sig (Elt F)) : (w9 W) (Proc.devRef .tc main_v125) = val_v125 W :=
  (pass8_v125 _).trans (at8_v125 W)

theorem at10_v125 (W : Valuation τ sig (Elt F)) : (w10 W) (Proc.devRef .tc main_v125) = val_v125 W :=
  (pass9_v125 _).trans (at9_v125 W)

theorem at11_v125 (W : Valuation τ sig (Elt F)) : (w11 W) (Proc.devRef .tc main_v125) = val_v125 W :=
  (pass10_v125 _).trans (at10_v125 W)

theorem at12_v211 (W : Valuation τ sig (Elt F)) : (w12 W) (Proc.devRef .tc main_v211) = val_v211 W :=
  (after_v211 _).trans (by rw [at11_v125]; rfl)

theorem at0_arg8 (W : Valuation τ sig (Elt F)) : W (Proc.devRef .tc main_arg8) = W (Proc.devRef .tc main_arg8) :=
  rfl

theorem at1_arg8 (W : Valuation τ sig (Elt F)) : (w1 W) (Proc.devRef .tc main_arg8) = W (Proc.devRef .tc main_arg8) :=
  (pass0_arg8 _).trans (at0_arg8 W)

theorem at2_arg8 (W : Valuation τ sig (Elt F)) : (w2 W) (Proc.devRef .tc main_arg8) = W (Proc.devRef .tc main_arg8) :=
  (pass1_arg8 _).trans (at1_arg8 W)

theorem at3_arg8 (W : Valuation τ sig (Elt F)) : (w3 W) (Proc.devRef .tc main_arg8) = W (Proc.devRef .tc main_arg8) :=
  (pass2_arg8 _).trans (at2_arg8 W)

theorem at4_arg8 (W : Valuation τ sig (Elt F)) : (w4 W) (Proc.devRef .tc main_arg8) = W (Proc.devRef .tc main_arg8) :=
  (pass3_arg8 _).trans (at3_arg8 W)

theorem at5_arg8 (W : Valuation τ sig (Elt F)) : (w5 W) (Proc.devRef .tc main_arg8) = W (Proc.devRef .tc main_arg8) :=
  (pass4_arg8 _).trans (at4_arg8 W)

theorem at6_arg8 (W : Valuation τ sig (Elt F)) : (w6 W) (Proc.devRef .tc main_arg8) = W (Proc.devRef .tc main_arg8) :=
  (pass5_arg8 _).trans (at5_arg8 W)

theorem at7_arg8 (W : Valuation τ sig (Elt F)) : (w7 W) (Proc.devRef .tc main_arg8) = W (Proc.devRef .tc main_arg8) :=
  (pass6_arg8 _).trans (at6_arg8 W)

theorem at8_arg8 (W : Valuation τ sig (Elt F)) : (w8 W) (Proc.devRef .tc main_arg8) = W (Proc.devRef .tc main_arg8) :=
  (pass7_arg8 _).trans (at7_arg8 W)

theorem at9_arg8 (W : Valuation τ sig (Elt F)) : (w9 W) (Proc.devRef .tc main_arg8) = W (Proc.devRef .tc main_arg8) :=
  (pass8_arg8 _).trans (at8_arg8 W)

theorem at10_arg8 (W : Valuation τ sig (Elt F)) : (w10 W) (Proc.devRef .tc main_arg8) = W (Proc.devRef .tc main_arg8) :=
  (pass9_arg8 _).trans (at9_arg8 W)

theorem at11_arg8 (W : Valuation τ sig (Elt F)) : (w11 W) (Proc.devRef .tc main_arg8) = W (Proc.devRef .tc main_arg8) :=
  (pass10_arg8 _).trans (at10_arg8 W)

theorem at12_v179 (W : Valuation τ sig (Elt F)) : (w12 W) (Proc.devRef .tc main_v179) = val_v179 W :=
  (after_v179 _).trans (by rw [at11_arg8]; rfl)

theorem at12_arg8 (W : Valuation τ sig (Elt F)) : (w12 W) (Proc.devRef .tc main_arg8) = W (Proc.devRef .tc main_arg8) :=
  (pass11_arg8 _).trans (at11_arg8 W)

theorem at0_arg9 (W : Valuation τ sig (Elt F)) : W (Proc.devRef .tc main_arg9) = W (Proc.devRef .tc main_arg9) :=
  rfl

theorem at1_arg9 (W : Valuation τ sig (Elt F)) : (w1 W) (Proc.devRef .tc main_arg9) = W (Proc.devRef .tc main_arg9) :=
  (pass0_arg9 _).trans (at0_arg9 W)

theorem at2_arg9 (W : Valuation τ sig (Elt F)) : (w2 W) (Proc.devRef .tc main_arg9) = W (Proc.devRef .tc main_arg9) :=
  (pass1_arg9 _).trans (at1_arg9 W)

theorem at3_arg9 (W : Valuation τ sig (Elt F)) : (w3 W) (Proc.devRef .tc main_arg9) = W (Proc.devRef .tc main_arg9) :=
  (pass2_arg9 _).trans (at2_arg9 W)

theorem at4_arg9 (W : Valuation τ sig (Elt F)) : (w4 W) (Proc.devRef .tc main_arg9) = W (Proc.devRef .tc main_arg9) :=
  (pass3_arg9 _).trans (at3_arg9 W)

theorem at5_arg9 (W : Valuation τ sig (Elt F)) : (w5 W) (Proc.devRef .tc main_arg9) = W (Proc.devRef .tc main_arg9) :=
  (pass4_arg9 _).trans (at4_arg9 W)

theorem at6_arg9 (W : Valuation τ sig (Elt F)) : (w6 W) (Proc.devRef .tc main_arg9) = W (Proc.devRef .tc main_arg9) :=
  (pass5_arg9 _).trans (at5_arg9 W)

theorem at7_arg9 (W : Valuation τ sig (Elt F)) : (w7 W) (Proc.devRef .tc main_arg9) = W (Proc.devRef .tc main_arg9) :=
  (pass6_arg9 _).trans (at6_arg9 W)

theorem at8_arg9 (W : Valuation τ sig (Elt F)) : (w8 W) (Proc.devRef .tc main_arg9) = W (Proc.devRef .tc main_arg9) :=
  (pass7_arg9 _).trans (at7_arg9 W)

theorem at9_arg9 (W : Valuation τ sig (Elt F)) : (w9 W) (Proc.devRef .tc main_arg9) = W (Proc.devRef .tc main_arg9) :=
  (pass8_arg9 _).trans (at8_arg9 W)

theorem at10_arg9 (W : Valuation τ sig (Elt F)) : (w10 W) (Proc.devRef .tc main_arg9) = W (Proc.devRef .tc main_arg9) :=
  (pass9_arg9 _).trans (at9_arg9 W)

theorem at11_arg9 (W : Valuation τ sig (Elt F)) : (w11 W) (Proc.devRef .tc main_arg9) = W (Proc.devRef .tc main_arg9) :=
  (pass10_arg9 _).trans (at10_arg9 W)

theorem at12_arg9 (W : Valuation τ sig (Elt F)) : (w12 W) (Proc.devRef .tc main_arg9) = W (Proc.devRef .tc main_arg9) :=
  (pass11_arg9 _).trans (at11_arg9 W)

theorem at13_v226 (W : Valuation τ sig (Elt F)) : (w13 W) (Proc.devRef .tc main_v226) = val_v226 W :=
  (after_v226 _).trans (by rw [at12_v211, at12_v179, at12_arg8, at12_arg9]; rfl)

theorem at14_v232 (W : Valuation τ sig (Elt F)) : (w14 W) (Proc.devRef .tc main_v232) = val_v232 W :=
  (after_v232 _).trans (by rw [at13_v226]; rfl)

theorem at0_arg6 (W : Valuation τ sig (Elt F)) : W (Proc.devRef .tc main_arg6) = W (Proc.devRef .tc main_arg6) :=
  rfl

theorem at1_arg6 (W : Valuation τ sig (Elt F)) : (w1 W) (Proc.devRef .tc main_arg6) = W (Proc.devRef .tc main_arg6) :=
  (pass0_arg6 _).trans (at0_arg6 W)

theorem at2_arg6 (W : Valuation τ sig (Elt F)) : (w2 W) (Proc.devRef .tc main_arg6) = W (Proc.devRef .tc main_arg6) :=
  (pass1_arg6 _).trans (at1_arg6 W)

theorem at3_arg6 (W : Valuation τ sig (Elt F)) : (w3 W) (Proc.devRef .tc main_arg6) = W (Proc.devRef .tc main_arg6) :=
  (pass2_arg6 _).trans (at2_arg6 W)

theorem at4_arg6 (W : Valuation τ sig (Elt F)) : (w4 W) (Proc.devRef .tc main_arg6) = W (Proc.devRef .tc main_arg6) :=
  (pass3_arg6 _).trans (at3_arg6 W)

theorem at5_arg6 (W : Valuation τ sig (Elt F)) : (w5 W) (Proc.devRef .tc main_arg6) = W (Proc.devRef .tc main_arg6) :=
  (pass4_arg6 _).trans (at4_arg6 W)

theorem at6_arg6 (W : Valuation τ sig (Elt F)) : (w6 W) (Proc.devRef .tc main_arg6) = W (Proc.devRef .tc main_arg6) :=
  (pass5_arg6 _).trans (at5_arg6 W)

theorem at7_arg6 (W : Valuation τ sig (Elt F)) : (w7 W) (Proc.devRef .tc main_arg6) = W (Proc.devRef .tc main_arg6) :=
  (pass6_arg6 _).trans (at6_arg6 W)

theorem at8_arg6 (W : Valuation τ sig (Elt F)) : (w8 W) (Proc.devRef .tc main_arg6) = W (Proc.devRef .tc main_arg6) :=
  (pass7_arg6 _).trans (at7_arg6 W)

theorem at9_v137 (W : Valuation τ sig (Elt F)) : (w9 W) (Proc.devRef .tc main_v137) = val_v137 W :=
  (after_v137 _).trans (by rw [at8_arg6]; rfl)

theorem at9_v126 (W : Valuation τ sig (Elt F)) : (w9 W) (Proc.devRef .tc main_v126) = val_v126 W :=
  (after_v126 _).trans (by rw [at8_arg6]; rfl)

theorem at9_v132 (W : Valuation τ sig (Elt F)) : (w9 W) (Proc.devRef .tc main_v132) = val_v132 W :=
  (after_v132 _).trans (by rw [at8_arg6]; rfl)

theorem at10_v168 (W : Valuation τ sig (Elt F)) : (w10 W) (Proc.devRef .tc main_v168) = val_v168 W :=
  (after_v168 _).trans (by rw [at9_v137, at9_arg8, at9_v126, at9_v132, at9_arg9]; rfl)

theorem at11_v177 (W : Valuation τ sig (Elt F)) : (w11 W) (Proc.devRef .tc main_v177) = val_v177 W :=
  (after_v177 _).trans (by rw [at10_v168]; rfl)

theorem at12_v177 (W : Valuation τ sig (Elt F)) : (w12 W) (Proc.devRef .tc main_v177) = val_v177 W :=
  (pass11_v177 _).trans (at11_v177 W)

theorem at13_v177 (W : Valuation τ sig (Elt F)) : (w13 W) (Proc.devRef .tc main_v177) = val_v177 W :=
  (pass12_v177 _).trans (at12_v177 W)

theorem at14_v177 (W : Valuation τ sig (Elt F)) : (w14 W) (Proc.devRef .tc main_v177) = val_v177 W :=
  (pass13_v177 _).trans (at13_v177 W)

theorem at15_v239 (W : Valuation τ sig (Elt F)) : (w15 W) (Proc.devRef .tc main_v239) = val_v239 W :=
  (after_v239 _).trans (by rw [at14_v232, at14_v177]; rfl)

theorem at16_v239 (W : Valuation τ sig (Elt F)) : (w16 W) (Proc.devRef .tc main_v239) = val_v239 W :=
  (pass15_v239 _).trans (at15_v239 W)

theorem at17_v239 (W : Valuation τ sig (Elt F)) : (w17 W) (Proc.devRef .tc main_v239) = val_v239 W :=
  (pass16_v239 _).trans (at16_v239 W)

theorem at0_arg0 (W : Valuation τ sig (Elt F)) : W (Proc.devRef .tc main_arg0) = W (Proc.devRef .tc main_arg0) :=
  rfl

theorem at1_arg0 (W : Valuation τ sig (Elt F)) : (w1 W) (Proc.devRef .tc main_arg0) = W (Proc.devRef .tc main_arg0) :=
  (pass0_arg0 _).trans (at0_arg0 W)

theorem at2_arg0 (W : Valuation τ sig (Elt F)) : (w2 W) (Proc.devRef .tc main_arg0) = W (Proc.devRef .tc main_arg0) :=
  (pass1_arg0 _).trans (at1_arg0 W)

theorem at3_arg0 (W : Valuation τ sig (Elt F)) : (w3 W) (Proc.devRef .tc main_arg0) = W (Proc.devRef .tc main_arg0) :=
  (pass2_arg0 _).trans (at2_arg0 W)

theorem at4_arg0 (W : Valuation τ sig (Elt F)) : (w4 W) (Proc.devRef .tc main_arg0) = W (Proc.devRef .tc main_arg0) :=
  (pass3_arg0 _).trans (at3_arg0 W)

theorem at5_arg0 (W : Valuation τ sig (Elt F)) : (w5 W) (Proc.devRef .tc main_arg0) = W (Proc.devRef .tc main_arg0) :=
  (pass4_arg0 _).trans (at4_arg0 W)

theorem at6_arg0 (W : Valuation τ sig (Elt F)) : (w6 W) (Proc.devRef .tc main_arg0) = W (Proc.devRef .tc main_arg0) :=
  (pass5_arg0 _).trans (at5_arg0 W)

theorem at7_arg0 (W : Valuation τ sig (Elt F)) : (w7 W) (Proc.devRef .tc main_arg0) = W (Proc.devRef .tc main_arg0) :=
  (pass6_arg0 _).trans (at6_arg0 W)

theorem at8_v120 (W : Valuation τ sig (Elt F)) : (w8 W) (Proc.devRef .tc main_v120) = val_v120 W :=
  (after_v120 _).trans (by rw [at7_arg0, at7_v115]; rfl)

theorem at9_v120 (W : Valuation τ sig (Elt F)) : (w9 W) (Proc.devRef .tc main_v120) = val_v120 W :=
  (pass8_v120 _).trans (at8_v120 W)

theorem at10_v120 (W : Valuation τ sig (Elt F)) : (w10 W) (Proc.devRef .tc main_v120) = val_v120 W :=
  (pass9_v120 _).trans (at9_v120 W)

theorem at11_v120 (W : Valuation τ sig (Elt F)) : (w11 W) (Proc.devRef .tc main_v120) = val_v120 W :=
  (pass10_v120 _).trans (at10_v120 W)

theorem at12_v120 (W : Valuation τ sig (Elt F)) : (w12 W) (Proc.devRef .tc main_v120) = val_v120 W :=
  (pass11_v120 _).trans (at11_v120 W)

theorem at13_v120 (W : Valuation τ sig (Elt F)) : (w13 W) (Proc.devRef .tc main_v120) = val_v120 W :=
  (pass12_v120 _).trans (at12_v120 W)

theorem at14_v120 (W : Valuation τ sig (Elt F)) : (w14 W) (Proc.devRef .tc main_v120) = val_v120 W :=
  (pass13_v120 _).trans (at13_v120 W)

theorem at15_v120 (W : Valuation τ sig (Elt F)) : (w15 W) (Proc.devRef .tc main_v120) = val_v120 W :=
  (pass14_v120 _).trans (at14_v120 W)

theorem at16_v250 (W : Valuation τ sig (Elt F)) : (w16 W) (Proc.devRef .tc main_v250) = val_v250 W :=
  (after_v250 _).trans (by rw [at15_v120]; rfl)

theorem at9_arg6 (W : Valuation τ sig (Elt F)) : (w9 W) (Proc.devRef .tc main_arg6) = W (Proc.devRef .tc main_arg6) :=
  (pass8_arg6 _).trans (at8_arg6 W)

theorem at10_arg6 (W : Valuation τ sig (Elt F)) : (w10 W) (Proc.devRef .tc main_arg6) = W (Proc.devRef .tc main_arg6) :=
  (pass9_arg6 _).trans (at9_arg6 W)

theorem at11_arg6 (W : Valuation τ sig (Elt F)) : (w11 W) (Proc.devRef .tc main_arg6) = W (Proc.devRef .tc main_arg6) :=
  (pass10_arg6 _).trans (at10_arg6 W)

theorem at12_arg6 (W : Valuation τ sig (Elt F)) : (w12 W) (Proc.devRef .tc main_arg6) = W (Proc.devRef .tc main_arg6) :=
  (pass11_arg6 _).trans (at11_arg6 W)

theorem at13_arg6 (W : Valuation τ sig (Elt F)) : (w13 W) (Proc.devRef .tc main_arg6) = W (Proc.devRef .tc main_arg6) :=
  (pass12_arg6 _).trans (at12_arg6 W)

theorem at14_arg6 (W : Valuation τ sig (Elt F)) : (w14 W) (Proc.devRef .tc main_arg6) = W (Proc.devRef .tc main_arg6) :=
  (pass13_arg6 _).trans (at13_arg6 W)

theorem at15_arg6 (W : Valuation τ sig (Elt F)) : (w15 W) (Proc.devRef .tc main_arg6) = W (Proc.devRef .tc main_arg6) :=
  (pass14_arg6 _).trans (at14_arg6 W)

theorem at16_arg6 (W : Valuation τ sig (Elt F)) : (w16 W) (Proc.devRef .tc main_arg6) = W (Proc.devRef .tc main_arg6) :=
  (pass15_arg6 _).trans (at15_arg6 W)

theorem at0_arg7 (W : Valuation τ sig (Elt F)) : W (Proc.devRef .tc main_arg7) = W (Proc.devRef .tc main_arg7) :=
  rfl

theorem at1_arg7 (W : Valuation τ sig (Elt F)) : (w1 W) (Proc.devRef .tc main_arg7) = W (Proc.devRef .tc main_arg7) :=
  (pass0_arg7 _).trans (at0_arg7 W)

theorem at2_arg7 (W : Valuation τ sig (Elt F)) : (w2 W) (Proc.devRef .tc main_arg7) = W (Proc.devRef .tc main_arg7) :=
  (pass1_arg7 _).trans (at1_arg7 W)

theorem at3_arg7 (W : Valuation τ sig (Elt F)) : (w3 W) (Proc.devRef .tc main_arg7) = W (Proc.devRef .tc main_arg7) :=
  (pass2_arg7 _).trans (at2_arg7 W)

theorem at4_arg7 (W : Valuation τ sig (Elt F)) : (w4 W) (Proc.devRef .tc main_arg7) = W (Proc.devRef .tc main_arg7) :=
  (pass3_arg7 _).trans (at3_arg7 W)

theorem at5_arg7 (W : Valuation τ sig (Elt F)) : (w5 W) (Proc.devRef .tc main_arg7) = W (Proc.devRef .tc main_arg7) :=
  (pass4_arg7 _).trans (at4_arg7 W)

theorem at6_arg7 (W : Valuation τ sig (Elt F)) : (w6 W) (Proc.devRef .tc main_arg7) = W (Proc.devRef .tc main_arg7) :=
  (pass5_arg7 _).trans (at5_arg7 W)

theorem at7_arg7 (W : Valuation τ sig (Elt F)) : (w7 W) (Proc.devRef .tc main_arg7) = W (Proc.devRef .tc main_arg7) :=
  (pass6_arg7 _).trans (at6_arg7 W)

theorem at8_arg7 (W : Valuation τ sig (Elt F)) : (w8 W) (Proc.devRef .tc main_arg7) = W (Proc.devRef .tc main_arg7) :=
  (pass7_arg7 _).trans (at7_arg7 W)

theorem at9_arg7 (W : Valuation τ sig (Elt F)) : (w9 W) (Proc.devRef .tc main_arg7) = W (Proc.devRef .tc main_arg7) :=
  (pass8_arg7 _).trans (at8_arg7 W)

theorem at10_arg7 (W : Valuation τ sig (Elt F)) : (w10 W) (Proc.devRef .tc main_arg7) = W (Proc.devRef .tc main_arg7) :=
  (pass9_arg7 _).trans (at9_arg7 W)

theorem at11_arg7 (W : Valuation τ sig (Elt F)) : (w11 W) (Proc.devRef .tc main_arg7) = W (Proc.devRef .tc main_arg7) :=
  (pass10_arg7 _).trans (at10_arg7 W)

theorem at12_arg7 (W : Valuation τ sig (Elt F)) : (w12 W) (Proc.devRef .tc main_arg7) = W (Proc.devRef .tc main_arg7) :=
  (pass11_arg7 _).trans (at11_arg7 W)

theorem at13_arg7 (W : Valuation τ sig (Elt F)) : (w13 W) (Proc.devRef .tc main_arg7) = W (Proc.devRef .tc main_arg7) :=
  (pass12_arg7 _).trans (at12_arg7 W)

theorem at14_arg7 (W : Valuation τ sig (Elt F)) : (w14 W) (Proc.devRef .tc main_arg7) = W (Proc.devRef .tc main_arg7) :=
  (pass13_arg7 _).trans (at13_arg7 W)

theorem at15_arg7 (W : Valuation τ sig (Elt F)) : (w15 W) (Proc.devRef .tc main_arg7) = W (Proc.devRef .tc main_arg7) :=
  (pass14_arg7 _).trans (at14_arg7 W)

theorem at16_arg7 (W : Valuation τ sig (Elt F)) : (w16 W) (Proc.devRef .tc main_arg7) = W (Proc.devRef .tc main_arg7) :=
  (pass15_arg7 _).trans (at15_arg7 W)

theorem at17_v282 (W : Valuation τ sig (Elt F)) : (w17 W) (Proc.devRef .tc main_v282) = val_v282 W :=
  (after_v282 _).trans (by rw [at16_v250, at16_arg6, at16_arg7]; rfl)

theorem at18_v293 (W : Valuation τ sig (Elt F)) : (w18 W) (Proc.devRef .tc main_v293) = val_v293 W :=
  (after_v293 _).trans (by rw [at17_v239, at17_v282]; rfl)

theorem at19_v294 (W : Valuation τ sig (Elt F)) : (w19 W) (Proc.devRef .tc main_v294) = val_v294 W :=
  (after_v294 _).trans (by rw [at18_v293]; rfl)

theorem at20_v294 (W : Valuation τ sig (Elt F)) : (w20 W) (Proc.devRef .tc main_v294) = val_v294 W :=
  (pass19_v294 _).trans (at19_v294 W)

theorem ops_v294 (W : Valuation τ sig (Elt F)) : after ops W (Proc.devRef .tc main_v294) = val_v294 W :=
  (congrFun (ops_w W) _).trans (at20_v294 W)

theorem at20_v295 (W : Valuation τ sig (Elt F)) : (w20 W) (Proc.devRef .tc main_v295) = val_v295 W :=
  (after_v295 _).trans (by rw [at19_v294]; rfl)

theorem ops_v295 (W : Valuation τ sig (Elt F)) : after ops W (Proc.devRef .tc main_v295) = val_v295 W :=
  (congrFun (ops_w W) _).trans (at20_v295 W)

theorem at8_arg0 (W : Valuation τ sig (Elt F)) : (w8 W) (Proc.devRef .tc main_arg0) = W (Proc.devRef .tc main_arg0) :=
  (pass7_arg0 _).trans (at7_arg0 W)

theorem at9_arg0 (W : Valuation τ sig (Elt F)) : (w9 W) (Proc.devRef .tc main_arg0) = W (Proc.devRef .tc main_arg0) :=
  (pass8_arg0 _).trans (at8_arg0 W)

theorem at10_arg0 (W : Valuation τ sig (Elt F)) : (w10 W) (Proc.devRef .tc main_arg0) = W (Proc.devRef .tc main_arg0) :=
  (pass9_arg0 _).trans (at9_arg0 W)

theorem at11_arg0 (W : Valuation τ sig (Elt F)) : (w11 W) (Proc.devRef .tc main_arg0) = W (Proc.devRef .tc main_arg0) :=
  (pass10_arg0 _).trans (at10_arg0 W)

theorem at12_arg0 (W : Valuation τ sig (Elt F)) : (w12 W) (Proc.devRef .tc main_arg0) = W (Proc.devRef .tc main_arg0) :=
  (pass11_arg0 _).trans (at11_arg0 W)

theorem at13_arg0 (W : Valuation τ sig (Elt F)) : (w13 W) (Proc.devRef .tc main_arg0) = W (Proc.devRef .tc main_arg0) :=
  (pass12_arg0 _).trans (at12_arg0 W)

theorem at14_arg0 (W : Valuation τ sig (Elt F)) : (w14 W) (Proc.devRef .tc main_arg0) = W (Proc.devRef .tc main_arg0) :=
  (pass13_arg0 _).trans (at13_arg0 W)

theorem at15_arg0 (W : Valuation τ sig (Elt F)) : (w15 W) (Proc.devRef .tc main_arg0) = W (Proc.devRef .tc main_arg0) :=
  (pass14_arg0 _).trans (at14_arg0 W)

theorem at16_arg0 (W : Valuation τ sig (Elt F)) : (w16 W) (Proc.devRef .tc main_arg0) = W (Proc.devRef .tc main_arg0) :=
  (pass15_arg0 _).trans (at15_arg0 W)

theorem at17_arg0 (W : Valuation τ sig (Elt F)) : (w17 W) (Proc.devRef .tc main_arg0) = W (Proc.devRef .tc main_arg0) :=
  (pass16_arg0 _).trans (at16_arg0 W)

theorem at18_arg0 (W : Valuation τ sig (Elt F)) : (w18 W) (Proc.devRef .tc main_arg0) = W (Proc.devRef .tc main_arg0) :=
  (pass17_arg0 _).trans (at17_arg0 W)

theorem at19_arg0 (W : Valuation τ sig (Elt F)) : (w19 W) (Proc.devRef .tc main_arg0) = W (Proc.devRef .tc main_arg0) :=
  (pass18_arg0 _).trans (at18_arg0 W)

theorem at20_arg0 (W : Valuation τ sig (Elt F)) : (w20 W) (Proc.devRef .tc main_arg0) = W (Proc.devRef .tc main_arg0) :=
  (pass19_arg0 _).trans (at19_arg0 W)

theorem ops_arg0 (W : Valuation τ sig (Elt F)) : after ops W (Proc.devRef .tc main_arg0) = W (Proc.devRef .tc main_arg0) :=
  (congrFun (ops_w W) _).trans (at20_arg0 W)

theorem at8_arg1 (W : Valuation τ sig (Elt F)) : (w8 W) (Proc.devRef .tc main_arg1) = W (Proc.devRef .tc main_arg1) :=
  (pass7_arg1 _).trans (at7_arg1 W)

theorem at9_arg1 (W : Valuation τ sig (Elt F)) : (w9 W) (Proc.devRef .tc main_arg1) = W (Proc.devRef .tc main_arg1) :=
  (pass8_arg1 _).trans (at8_arg1 W)

theorem at10_arg1 (W : Valuation τ sig (Elt F)) : (w10 W) (Proc.devRef .tc main_arg1) = W (Proc.devRef .tc main_arg1) :=
  (pass9_arg1 _).trans (at9_arg1 W)

theorem at11_arg1 (W : Valuation τ sig (Elt F)) : (w11 W) (Proc.devRef .tc main_arg1) = W (Proc.devRef .tc main_arg1) :=
  (pass10_arg1 _).trans (at10_arg1 W)

theorem at12_arg1 (W : Valuation τ sig (Elt F)) : (w12 W) (Proc.devRef .tc main_arg1) = W (Proc.devRef .tc main_arg1) :=
  (pass11_arg1 _).trans (at11_arg1 W)

theorem at13_arg1 (W : Valuation τ sig (Elt F)) : (w13 W) (Proc.devRef .tc main_arg1) = W (Proc.devRef .tc main_arg1) :=
  (pass12_arg1 _).trans (at12_arg1 W)

theorem at14_arg1 (W : Valuation τ sig (Elt F)) : (w14 W) (Proc.devRef .tc main_arg1) = W (Proc.devRef .tc main_arg1) :=
  (pass13_arg1 _).trans (at13_arg1 W)

theorem at15_arg1 (W : Valuation τ sig (Elt F)) : (w15 W) (Proc.devRef .tc main_arg1) = W (Proc.devRef .tc main_arg1) :=
  (pass14_arg1 _).trans (at14_arg1 W)

theorem at16_arg1 (W : Valuation τ sig (Elt F)) : (w16 W) (Proc.devRef .tc main_arg1) = W (Proc.devRef .tc main_arg1) :=
  (pass15_arg1 _).trans (at15_arg1 W)

theorem at17_arg1 (W : Valuation τ sig (Elt F)) : (w17 W) (Proc.devRef .tc main_arg1) = W (Proc.devRef .tc main_arg1) :=
  (pass16_arg1 _).trans (at16_arg1 W)

theorem at18_arg1 (W : Valuation τ sig (Elt F)) : (w18 W) (Proc.devRef .tc main_arg1) = W (Proc.devRef .tc main_arg1) :=
  (pass17_arg1 _).trans (at17_arg1 W)

theorem at19_arg1 (W : Valuation τ sig (Elt F)) : (w19 W) (Proc.devRef .tc main_arg1) = W (Proc.devRef .tc main_arg1) :=
  (pass18_arg1 _).trans (at18_arg1 W)

theorem at20_arg1 (W : Valuation τ sig (Elt F)) : (w20 W) (Proc.devRef .tc main_arg1) = W (Proc.devRef .tc main_arg1) :=
  (pass19_arg1 _).trans (at19_arg1 W)

theorem ops_arg1 (W : Valuation τ sig (Elt F)) : after ops W (Proc.devRef .tc main_arg1) = W (Proc.devRef .tc main_arg1) :=
  (congrFun (ops_w W) _).trans (at20_arg1 W)

theorem at4_arg2 (W : Valuation τ sig (Elt F)) : (w4 W) (Proc.devRef .tc main_arg2) = W (Proc.devRef .tc main_arg2) :=
  (pass3_arg2 _).trans (at3_arg2 W)

theorem at5_arg2 (W : Valuation τ sig (Elt F)) : (w5 W) (Proc.devRef .tc main_arg2) = W (Proc.devRef .tc main_arg2) :=
  (pass4_arg2 _).trans (at4_arg2 W)

theorem at6_arg2 (W : Valuation τ sig (Elt F)) : (w6 W) (Proc.devRef .tc main_arg2) = W (Proc.devRef .tc main_arg2) :=
  (pass5_arg2 _).trans (at5_arg2 W)

theorem at7_arg2 (W : Valuation τ sig (Elt F)) : (w7 W) (Proc.devRef .tc main_arg2) = W (Proc.devRef .tc main_arg2) :=
  (pass6_arg2 _).trans (at6_arg2 W)

theorem at8_arg2 (W : Valuation τ sig (Elt F)) : (w8 W) (Proc.devRef .tc main_arg2) = W (Proc.devRef .tc main_arg2) :=
  (pass7_arg2 _).trans (at7_arg2 W)

theorem at9_arg2 (W : Valuation τ sig (Elt F)) : (w9 W) (Proc.devRef .tc main_arg2) = W (Proc.devRef .tc main_arg2) :=
  (pass8_arg2 _).trans (at8_arg2 W)

theorem at10_arg2 (W : Valuation τ sig (Elt F)) : (w10 W) (Proc.devRef .tc main_arg2) = W (Proc.devRef .tc main_arg2) :=
  (pass9_arg2 _).trans (at9_arg2 W)

theorem at11_arg2 (W : Valuation τ sig (Elt F)) : (w11 W) (Proc.devRef .tc main_arg2) = W (Proc.devRef .tc main_arg2) :=
  (pass10_arg2 _).trans (at10_arg2 W)

theorem at12_arg2 (W : Valuation τ sig (Elt F)) : (w12 W) (Proc.devRef .tc main_arg2) = W (Proc.devRef .tc main_arg2) :=
  (pass11_arg2 _).trans (at11_arg2 W)

theorem at13_arg2 (W : Valuation τ sig (Elt F)) : (w13 W) (Proc.devRef .tc main_arg2) = W (Proc.devRef .tc main_arg2) :=
  (pass12_arg2 _).trans (at12_arg2 W)

theorem at14_arg2 (W : Valuation τ sig (Elt F)) : (w14 W) (Proc.devRef .tc main_arg2) = W (Proc.devRef .tc main_arg2) :=
  (pass13_arg2 _).trans (at13_arg2 W)

theorem at15_arg2 (W : Valuation τ sig (Elt F)) : (w15 W) (Proc.devRef .tc main_arg2) = W (Proc.devRef .tc main_arg2) :=
  (pass14_arg2 _).trans (at14_arg2 W)

theorem at16_arg2 (W : Valuation τ sig (Elt F)) : (w16 W) (Proc.devRef .tc main_arg2) = W (Proc.devRef .tc main_arg2) :=
  (pass15_arg2 _).trans (at15_arg2 W)

theorem at17_arg2 (W : Valuation τ sig (Elt F)) : (w17 W) (Proc.devRef .tc main_arg2) = W (Proc.devRef .tc main_arg2) :=
  (pass16_arg2 _).trans (at16_arg2 W)

theorem at18_arg2 (W : Valuation τ sig (Elt F)) : (w18 W) (Proc.devRef .tc main_arg2) = W (Proc.devRef .tc main_arg2) :=
  (pass17_arg2 _).trans (at17_arg2 W)

theorem at19_arg2 (W : Valuation τ sig (Elt F)) : (w19 W) (Proc.devRef .tc main_arg2) = W (Proc.devRef .tc main_arg2) :=
  (pass18_arg2 _).trans (at18_arg2 W)

theorem at20_arg2 (W : Valuation τ sig (Elt F)) : (w20 W) (Proc.devRef .tc main_arg2) = W (Proc.devRef .tc main_arg2) :=
  (pass19_arg2 _).trans (at19_arg2 W)

theorem ops_arg2 (W : Valuation τ sig (Elt F)) : after ops W (Proc.devRef .tc main_arg2) = W (Proc.devRef .tc main_arg2) :=
  (congrFun (ops_w W) _).trans (at20_arg2 W)

theorem at1_arg3 (W : Valuation τ sig (Elt F)) : (w1 W) (Proc.devRef .tc main_arg3) = W (Proc.devRef .tc main_arg3) :=
  (pass0_arg3 _).trans (at0_arg3 W)

theorem at2_arg3 (W : Valuation τ sig (Elt F)) : (w2 W) (Proc.devRef .tc main_arg3) = W (Proc.devRef .tc main_arg3) :=
  (pass1_arg3 _).trans (at1_arg3 W)

theorem at3_arg3 (W : Valuation τ sig (Elt F)) : (w3 W) (Proc.devRef .tc main_arg3) = W (Proc.devRef .tc main_arg3) :=
  (pass2_arg3 _).trans (at2_arg3 W)

theorem at4_arg3 (W : Valuation τ sig (Elt F)) : (w4 W) (Proc.devRef .tc main_arg3) = W (Proc.devRef .tc main_arg3) :=
  (pass3_arg3 _).trans (at3_arg3 W)

theorem at5_arg3 (W : Valuation τ sig (Elt F)) : (w5 W) (Proc.devRef .tc main_arg3) = W (Proc.devRef .tc main_arg3) :=
  (pass4_arg3 _).trans (at4_arg3 W)

theorem at6_arg3 (W : Valuation τ sig (Elt F)) : (w6 W) (Proc.devRef .tc main_arg3) = W (Proc.devRef .tc main_arg3) :=
  (pass5_arg3 _).trans (at5_arg3 W)

theorem at7_arg3 (W : Valuation τ sig (Elt F)) : (w7 W) (Proc.devRef .tc main_arg3) = W (Proc.devRef .tc main_arg3) :=
  (pass6_arg3 _).trans (at6_arg3 W)

theorem at8_arg3 (W : Valuation τ sig (Elt F)) : (w8 W) (Proc.devRef .tc main_arg3) = W (Proc.devRef .tc main_arg3) :=
  (pass7_arg3 _).trans (at7_arg3 W)

theorem at9_arg3 (W : Valuation τ sig (Elt F)) : (w9 W) (Proc.devRef .tc main_arg3) = W (Proc.devRef .tc main_arg3) :=
  (pass8_arg3 _).trans (at8_arg3 W)

theorem at10_arg3 (W : Valuation τ sig (Elt F)) : (w10 W) (Proc.devRef .tc main_arg3) = W (Proc.devRef .tc main_arg3) :=
  (pass9_arg3 _).trans (at9_arg3 W)

theorem at11_arg3 (W : Valuation τ sig (Elt F)) : (w11 W) (Proc.devRef .tc main_arg3) = W (Proc.devRef .tc main_arg3) :=
  (pass10_arg3 _).trans (at10_arg3 W)

theorem at12_arg3 (W : Valuation τ sig (Elt F)) : (w12 W) (Proc.devRef .tc main_arg3) = W (Proc.devRef .tc main_arg3) :=
  (pass11_arg3 _).trans (at11_arg3 W)

theorem at13_arg3 (W : Valuation τ sig (Elt F)) : (w13 W) (Proc.devRef .tc main_arg3) = W (Proc.devRef .tc main_arg3) :=
  (pass12_arg3 _).trans (at12_arg3 W)

theorem at14_arg3 (W : Valuation τ sig (Elt F)) : (w14 W) (Proc.devRef .tc main_arg3) = W (Proc.devRef .tc main_arg3) :=
  (pass13_arg3 _).trans (at13_arg3 W)

theorem at15_arg3 (W : Valuation τ sig (Elt F)) : (w15 W) (Proc.devRef .tc main_arg3) = W (Proc.devRef .tc main_arg3) :=
  (pass14_arg3 _).trans (at14_arg3 W)

theorem at16_arg3 (W : Valuation τ sig (Elt F)) : (w16 W) (Proc.devRef .tc main_arg3) = W (Proc.devRef .tc main_arg3) :=
  (pass15_arg3 _).trans (at15_arg3 W)

theorem at17_arg3 (W : Valuation τ sig (Elt F)) : (w17 W) (Proc.devRef .tc main_arg3) = W (Proc.devRef .tc main_arg3) :=
  (pass16_arg3 _).trans (at16_arg3 W)

theorem at18_arg3 (W : Valuation τ sig (Elt F)) : (w18 W) (Proc.devRef .tc main_arg3) = W (Proc.devRef .tc main_arg3) :=
  (pass17_arg3 _).trans (at17_arg3 W)

theorem at19_arg3 (W : Valuation τ sig (Elt F)) : (w19 W) (Proc.devRef .tc main_arg3) = W (Proc.devRef .tc main_arg3) :=
  (pass18_arg3 _).trans (at18_arg3 W)

theorem at20_arg3 (W : Valuation τ sig (Elt F)) : (w20 W) (Proc.devRef .tc main_arg3) = W (Proc.devRef .tc main_arg3) :=
  (pass19_arg3 _).trans (at19_arg3 W)

theorem ops_arg3 (W : Valuation τ sig (Elt F)) : after ops W (Proc.devRef .tc main_arg3) = W (Proc.devRef .tc main_arg3) :=
  (congrFun (ops_w W) _).trans (at20_arg3 W)

theorem at5_arg4 (W : Valuation τ sig (Elt F)) : (w5 W) (Proc.devRef .tc main_arg4) = W (Proc.devRef .tc main_arg4) :=
  (pass4_arg4 _).trans (at4_arg4 W)

theorem at6_arg4 (W : Valuation τ sig (Elt F)) : (w6 W) (Proc.devRef .tc main_arg4) = W (Proc.devRef .tc main_arg4) :=
  (pass5_arg4 _).trans (at5_arg4 W)

theorem at7_arg4 (W : Valuation τ sig (Elt F)) : (w7 W) (Proc.devRef .tc main_arg4) = W (Proc.devRef .tc main_arg4) :=
  (pass6_arg4 _).trans (at6_arg4 W)

theorem at8_arg4 (W : Valuation τ sig (Elt F)) : (w8 W) (Proc.devRef .tc main_arg4) = W (Proc.devRef .tc main_arg4) :=
  (pass7_arg4 _).trans (at7_arg4 W)

theorem at9_arg4 (W : Valuation τ sig (Elt F)) : (w9 W) (Proc.devRef .tc main_arg4) = W (Proc.devRef .tc main_arg4) :=
  (pass8_arg4 _).trans (at8_arg4 W)

theorem at10_arg4 (W : Valuation τ sig (Elt F)) : (w10 W) (Proc.devRef .tc main_arg4) = W (Proc.devRef .tc main_arg4) :=
  (pass9_arg4 _).trans (at9_arg4 W)

theorem at11_arg4 (W : Valuation τ sig (Elt F)) : (w11 W) (Proc.devRef .tc main_arg4) = W (Proc.devRef .tc main_arg4) :=
  (pass10_arg4 _).trans (at10_arg4 W)

theorem at12_arg4 (W : Valuation τ sig (Elt F)) : (w12 W) (Proc.devRef .tc main_arg4) = W (Proc.devRef .tc main_arg4) :=
  (pass11_arg4 _).trans (at11_arg4 W)

theorem at13_arg4 (W : Valuation τ sig (Elt F)) : (w13 W) (Proc.devRef .tc main_arg4) = W (Proc.devRef .tc main_arg4) :=
  (pass12_arg4 _).trans (at12_arg4 W)

theorem at14_arg4 (W : Valuation τ sig (Elt F)) : (w14 W) (Proc.devRef .tc main_arg4) = W (Proc.devRef .tc main_arg4) :=
  (pass13_arg4 _).trans (at13_arg4 W)

theorem at15_arg4 (W : Valuation τ sig (Elt F)) : (w15 W) (Proc.devRef .tc main_arg4) = W (Proc.devRef .tc main_arg4) :=
  (pass14_arg4 _).trans (at14_arg4 W)

theorem at16_arg4 (W : Valuation τ sig (Elt F)) : (w16 W) (Proc.devRef .tc main_arg4) = W (Proc.devRef .tc main_arg4) :=
  (pass15_arg4 _).trans (at15_arg4 W)

theorem at17_arg4 (W : Valuation τ sig (Elt F)) : (w17 W) (Proc.devRef .tc main_arg4) = W (Proc.devRef .tc main_arg4) :=
  (pass16_arg4 _).trans (at16_arg4 W)

theorem at18_arg4 (W : Valuation τ sig (Elt F)) : (w18 W) (Proc.devRef .tc main_arg4) = W (Proc.devRef .tc main_arg4) :=
  (pass17_arg4 _).trans (at17_arg4 W)

theorem at19_arg4 (W : Valuation τ sig (Elt F)) : (w19 W) (Proc.devRef .tc main_arg4) = W (Proc.devRef .tc main_arg4) :=
  (pass18_arg4 _).trans (at18_arg4 W)

theorem at20_arg4 (W : Valuation τ sig (Elt F)) : (w20 W) (Proc.devRef .tc main_arg4) = W (Proc.devRef .tc main_arg4) :=
  (pass19_arg4 _).trans (at19_arg4 W)

theorem ops_arg4 (W : Valuation τ sig (Elt F)) : after ops W (Proc.devRef .tc main_arg4) = W (Proc.devRef .tc main_arg4) :=
  (congrFun (ops_w W) _).trans (at20_arg4 W)

theorem at5_arg5 (W : Valuation τ sig (Elt F)) : (w5 W) (Proc.devRef .tc main_arg5) = W (Proc.devRef .tc main_arg5) :=
  (pass4_arg5 _).trans (at4_arg5 W)

theorem at6_arg5 (W : Valuation τ sig (Elt F)) : (w6 W) (Proc.devRef .tc main_arg5) = W (Proc.devRef .tc main_arg5) :=
  (pass5_arg5 _).trans (at5_arg5 W)

theorem at7_arg5 (W : Valuation τ sig (Elt F)) : (w7 W) (Proc.devRef .tc main_arg5) = W (Proc.devRef .tc main_arg5) :=
  (pass6_arg5 _).trans (at6_arg5 W)

theorem at8_arg5 (W : Valuation τ sig (Elt F)) : (w8 W) (Proc.devRef .tc main_arg5) = W (Proc.devRef .tc main_arg5) :=
  (pass7_arg5 _).trans (at7_arg5 W)

theorem at9_arg5 (W : Valuation τ sig (Elt F)) : (w9 W) (Proc.devRef .tc main_arg5) = W (Proc.devRef .tc main_arg5) :=
  (pass8_arg5 _).trans (at8_arg5 W)

theorem at10_arg5 (W : Valuation τ sig (Elt F)) : (w10 W) (Proc.devRef .tc main_arg5) = W (Proc.devRef .tc main_arg5) :=
  (pass9_arg5 _).trans (at9_arg5 W)

theorem at11_arg5 (W : Valuation τ sig (Elt F)) : (w11 W) (Proc.devRef .tc main_arg5) = W (Proc.devRef .tc main_arg5) :=
  (pass10_arg5 _).trans (at10_arg5 W)

theorem at12_arg5 (W : Valuation τ sig (Elt F)) : (w12 W) (Proc.devRef .tc main_arg5) = W (Proc.devRef .tc main_arg5) :=
  (pass11_arg5 _).trans (at11_arg5 W)

theorem at13_arg5 (W : Valuation τ sig (Elt F)) : (w13 W) (Proc.devRef .tc main_arg5) = W (Proc.devRef .tc main_arg5) :=
  (pass12_arg5 _).trans (at12_arg5 W)

theorem at14_arg5 (W : Valuation τ sig (Elt F)) : (w14 W) (Proc.devRef .tc main_arg5) = W (Proc.devRef .tc main_arg5) :=
  (pass13_arg5 _).trans (at13_arg5 W)

theorem at15_arg5 (W : Valuation τ sig (Elt F)) : (w15 W) (Proc.devRef .tc main_arg5) = W (Proc.devRef .tc main_arg5) :=
  (pass14_arg5 _).trans (at14_arg5 W)

theorem at16_arg5 (W : Valuation τ sig (Elt F)) : (w16 W) (Proc.devRef .tc main_arg5) = W (Proc.devRef .tc main_arg5) :=
  (pass15_arg5 _).trans (at15_arg5 W)

theorem at17_arg5 (W : Valuation τ sig (Elt F)) : (w17 W) (Proc.devRef .tc main_arg5) = W (Proc.devRef .tc main_arg5) :=
  (pass16_arg5 _).trans (at16_arg5 W)

theorem at18_arg5 (W : Valuation τ sig (Elt F)) : (w18 W) (Proc.devRef .tc main_arg5) = W (Proc.devRef .tc main_arg5) :=
  (pass17_arg5 _).trans (at17_arg5 W)

theorem at19_arg5 (W : Valuation τ sig (Elt F)) : (w19 W) (Proc.devRef .tc main_arg5) = W (Proc.devRef .tc main_arg5) :=
  (pass18_arg5 _).trans (at18_arg5 W)

theorem at20_arg5 (W : Valuation τ sig (Elt F)) : (w20 W) (Proc.devRef .tc main_arg5) = W (Proc.devRef .tc main_arg5) :=
  (pass19_arg5 _).trans (at19_arg5 W)

theorem ops_arg5 (W : Valuation τ sig (Elt F)) : after ops W (Proc.devRef .tc main_arg5) = W (Proc.devRef .tc main_arg5) :=
  (congrFun (ops_w W) _).trans (at20_arg5 W)

theorem at17_arg6 (W : Valuation τ sig (Elt F)) : (w17 W) (Proc.devRef .tc main_arg6) = W (Proc.devRef .tc main_arg6) :=
  (pass16_arg6 _).trans (at16_arg6 W)

theorem at18_arg6 (W : Valuation τ sig (Elt F)) : (w18 W) (Proc.devRef .tc main_arg6) = W (Proc.devRef .tc main_arg6) :=
  (pass17_arg6 _).trans (at17_arg6 W)

theorem at19_arg6 (W : Valuation τ sig (Elt F)) : (w19 W) (Proc.devRef .tc main_arg6) = W (Proc.devRef .tc main_arg6) :=
  (pass18_arg6 _).trans (at18_arg6 W)

theorem at20_arg6 (W : Valuation τ sig (Elt F)) : (w20 W) (Proc.devRef .tc main_arg6) = W (Proc.devRef .tc main_arg6) :=
  (pass19_arg6 _).trans (at19_arg6 W)

theorem ops_arg6 (W : Valuation τ sig (Elt F)) : after ops W (Proc.devRef .tc main_arg6) = W (Proc.devRef .tc main_arg6) :=
  (congrFun (ops_w W) _).trans (at20_arg6 W)

theorem at17_arg7 (W : Valuation τ sig (Elt F)) : (w17 W) (Proc.devRef .tc main_arg7) = W (Proc.devRef .tc main_arg7) :=
  (pass16_arg7 _).trans (at16_arg7 W)

theorem at18_arg7 (W : Valuation τ sig (Elt F)) : (w18 W) (Proc.devRef .tc main_arg7) = W (Proc.devRef .tc main_arg7) :=
  (pass17_arg7 _).trans (at17_arg7 W)

theorem at19_arg7 (W : Valuation τ sig (Elt F)) : (w19 W) (Proc.devRef .tc main_arg7) = W (Proc.devRef .tc main_arg7) :=
  (pass18_arg7 _).trans (at18_arg7 W)

theorem at20_arg7 (W : Valuation τ sig (Elt F)) : (w20 W) (Proc.devRef .tc main_arg7) = W (Proc.devRef .tc main_arg7) :=
  (pass19_arg7 _).trans (at19_arg7 W)

theorem ops_arg7 (W : Valuation τ sig (Elt F)) : after ops W (Proc.devRef .tc main_arg7) = W (Proc.devRef .tc main_arg7) :=
  (congrFun (ops_w W) _).trans (at20_arg7 W)

theorem at13_arg8 (W : Valuation τ sig (Elt F)) : (w13 W) (Proc.devRef .tc main_arg8) = W (Proc.devRef .tc main_arg8) :=
  (pass12_arg8 _).trans (at12_arg8 W)

theorem at14_arg8 (W : Valuation τ sig (Elt F)) : (w14 W) (Proc.devRef .tc main_arg8) = W (Proc.devRef .tc main_arg8) :=
  (pass13_arg8 _).trans (at13_arg8 W)

theorem at15_arg8 (W : Valuation τ sig (Elt F)) : (w15 W) (Proc.devRef .tc main_arg8) = W (Proc.devRef .tc main_arg8) :=
  (pass14_arg8 _).trans (at14_arg8 W)

theorem at16_arg8 (W : Valuation τ sig (Elt F)) : (w16 W) (Proc.devRef .tc main_arg8) = W (Proc.devRef .tc main_arg8) :=
  (pass15_arg8 _).trans (at15_arg8 W)

theorem at17_arg8 (W : Valuation τ sig (Elt F)) : (w17 W) (Proc.devRef .tc main_arg8) = W (Proc.devRef .tc main_arg8) :=
  (pass16_arg8 _).trans (at16_arg8 W)

theorem at18_arg8 (W : Valuation τ sig (Elt F)) : (w18 W) (Proc.devRef .tc main_arg8) = W (Proc.devRef .tc main_arg8) :=
  (pass17_arg8 _).trans (at17_arg8 W)

theorem at19_arg8 (W : Valuation τ sig (Elt F)) : (w19 W) (Proc.devRef .tc main_arg8) = W (Proc.devRef .tc main_arg8) :=
  (pass18_arg8 _).trans (at18_arg8 W)

theorem at20_arg8 (W : Valuation τ sig (Elt F)) : (w20 W) (Proc.devRef .tc main_arg8) = W (Proc.devRef .tc main_arg8) :=
  (pass19_arg8 _).trans (at19_arg8 W)

theorem ops_arg8 (W : Valuation τ sig (Elt F)) : after ops W (Proc.devRef .tc main_arg8) = W (Proc.devRef .tc main_arg8) :=
  (congrFun (ops_w W) _).trans (at20_arg8 W)

theorem at13_arg9 (W : Valuation τ sig (Elt F)) : (w13 W) (Proc.devRef .tc main_arg9) = W (Proc.devRef .tc main_arg9) :=
  (pass12_arg9 _).trans (at12_arg9 W)

theorem at14_arg9 (W : Valuation τ sig (Elt F)) : (w14 W) (Proc.devRef .tc main_arg9) = W (Proc.devRef .tc main_arg9) :=
  (pass13_arg9 _).trans (at13_arg9 W)

theorem at15_arg9 (W : Valuation τ sig (Elt F)) : (w15 W) (Proc.devRef .tc main_arg9) = W (Proc.devRef .tc main_arg9) :=
  (pass14_arg9 _).trans (at14_arg9 W)

theorem at16_arg9 (W : Valuation τ sig (Elt F)) : (w16 W) (Proc.devRef .tc main_arg9) = W (Proc.devRef .tc main_arg9) :=
  (pass15_arg9 _).trans (at15_arg9 W)

theorem at17_arg9 (W : Valuation τ sig (Elt F)) : (w17 W) (Proc.devRef .tc main_arg9) = W (Proc.devRef .tc main_arg9) :=
  (pass16_arg9 _).trans (at16_arg9 W)

theorem at18_arg9 (W : Valuation τ sig (Elt F)) : (w18 W) (Proc.devRef .tc main_arg9) = W (Proc.devRef .tc main_arg9) :=
  (pass17_arg9 _).trans (at17_arg9 W)

theorem at19_arg9 (W : Valuation τ sig (Elt F)) : (w19 W) (Proc.devRef .tc main_arg9) = W (Proc.devRef .tc main_arg9) :=
  (pass18_arg9 _).trans (at18_arg9 W)

theorem at20_arg9 (W : Valuation τ sig (Elt F)) : (w20 W) (Proc.devRef .tc main_arg9) = W (Proc.devRef .tc main_arg9) :=
  (pass19_arg9 _).trans (at19_arg9 W)

theorem ops_arg9 (W : Valuation τ sig (Elt F)) : after ops W (Proc.devRef .tc main_arg9) = W (Proc.devRef .tc main_arg9) :=
  (congrFun (ops_w W) _).trans (at20_arg9 W)

end Cert.ReferenceBIdeal.Value
end
-- ==== Proof.RefHA.lean ====
module
public import proofs.«01_k».proof.Proof.RefStA
public import proofs.«01_k».proof.Proof.SpecB
public import Idealize.ShloMosaic.Lib.Claim
public import Idealize.ShloMosaic.Lib.Pointwise
public import Idealize.ShloMosaic.PureOps.Ideal
@[expose] public section
set_option maxRecDepth 16384
set_option maxHeartbeats 1000000
noncomputable section
namespace Cert.ReferenceBIdeal.Value
open Cert.ReferenceBIdeal Cert.ReferenceBIdeal.Gen Idealize.ShloMosaic Idealize.ShloMosaic.TcCoe Idealize.SL.Sem
open Cert.Band

/-- A sum over three axes, by numbers. -/
theorem sum3 (f : ℕ → ℕ → ℕ → EReal) (C : ℕ) : (∑ dx : Fin 5, ∑ dy : Fin 5, ∑ c : Fin C, f dx.val dy.val c.val)
    = ∑ dx ∈ Finset.range 5, ∑ dy ∈ Finset.range 5, ∑ c ∈ Finset.range C, f dx dy c := by
  rw [← Fin.sum_univ_eq_sum_range (fun dx => ∑ dy ∈ Finset.range 5, ∑ c ∈ Finset.range C, f dx dy c) 5]
  refine Finset.sum_congr rfl fun dx _ => ?_
  rw [← Fin.sum_univ_eq_sum_range (fun dy => ∑ c ∈ Finset.range C, f dx.val dy c) 5]
  refine Finset.sum_congr rfl fun dy _ => ?_
  rw [← Fin.sum_univ_eq_sum_range (fun c => f dx.val dy.val c) C]

/-- A comparison's bit as a number. -/
theorem eqv_bit (h q : EReal) : FloatOps.uitofp (F := Ideal) FTy.f32 (BitVec.ofBool (decide (h = q))) = eqv h q := by
  unfold eqv
  by_cases e : h = q
  · rw [if_pos e, decide_eq_true e]
    show (((1#1 : BitVec 1).toNat : ℝ) : EReal) = 1
    simp
  · rw [if_neg e, decide_eq_false e]
    show (((0#1 : BitVec 1).toNat : ℝ) : EReal) = 0
    simp

/-- The filters as rows. -/
abbrev K16 (w : FVec Ideal S16x3x5x5 .f32) (o : Fin 16) (k : Fin 75) : EReal := rd4 w o (k.val / 25) (k.val / 5 % 5) (k.val % 5)

theorem K16_at (w : FVec Ideal S16x3x5x5 .f32) (o : Fin 16) (k : Fin 75) :
    w (ix4 o ⟨k.val / 25, by omega⟩ ⟨k.val / 5 % 5, by omega⟩ ⟨k.val % 5, by omega⟩) = K16 w o k := at4 w _ _ _ _

theorem st_v0_at (w : FVec Ideal S16x3x5x5 .f32) (o : Fin 16) (k : Fin 75) : st_v0 w (ix2 o k) = K16 w o k := by
  have e : st_v0 w (ix2 o k) = w (ix4 o ⟨k.val / 25, by omega⟩ ⟨k.val / 5 % 5, by omega⟩ ⟨k.val % 5, by omega⟩) := by
    pointwise [st_v0]
  rw [e]
  exact K16_at w o k

theorem st_v6_at (w : FVec Ideal S16x3x5x5 .f32) : st_v6 w ix0 = scl (K16 w) := by
  have e : st_v6 w ix0 = Ideal.div (Ideal.ofBits FTy.f32 1061158912#32) (max (Finset.fold max (Ideal.ofBits FTy.f32 4286578688#32) (fun o : Fin 16 => Ideal.sqrt (∑ k : Fin 75, w (ix4 o ⟨k.val / 25, by omega⟩ ⟨k.val / 5 % 5, by omega⟩ ⟨k.val % 5, by omega⟩) * w (ix4 o ⟨k.val / 25, by omega⟩ ⟨k.val / 5 % 5, by omega⟩ ⟨k.val % 5, by omega⟩))) Finset.univ) (Ideal.ofBits FTy.f32 730643660#32)) := by
    pointwise [st_v6]
    try rfl
  rw [e]
  simp only [K16_at w]
  rfl

theorem st_v11_at (w : FVec Ideal S16x3x5x5 .f32) (o : Fin 16) : st_v11 w (ix1 o) = nrm (K16 w) o * scl (K16 w) := by
  have e : st_v11 w (ix1 o) = Ideal.sqrt (∑ k : Fin 75, w (ix4 o ⟨k.val / 25, by omega⟩ ⟨k.val / 5 % 5, by omega⟩ ⟨k.val % 5, by omega⟩) * w (ix4 o ⟨k.val / 25, by omega⟩ ⟨k.val / 5 % 5, by omega⟩ ⟨k.val % 5, by omega⟩)) * Ideal.div (Ideal.ofBits FTy.f32 1061158912#32) (max (Finset.fold max (Ideal.ofBits FTy.f32 4286578688#32) (fun o : Fin 16 => Ideal.sqrt (∑ k : Fin 75, w (ix4 o ⟨k.val / 25, by omega⟩ ⟨k.val / 5 % 5, by omega⟩ ⟨k.val % 5, by omega⟩) * w (ix4 o ⟨k.val / 25, by omega⟩ ⟨k.val / 5 % 5, by omega⟩ ⟨k.val % 5, by omega⟩))) Finset.univ) (Ideal.ofBits FTy.f32 730643660#32)) := by
    pointwise [st_v11]
    try rfl
  rw [e]
  simp only [K16_at w]
  rfl

theorem st_v42_at (n : FVec Ideal S16 .f32) (a : FVec Ideal S80 .f32) (k : FVec Ideal S16x75 .f32) (s h : FVec Ideal S_ .f32) (o : Fin 16) : st_v42 n a k s h (ix1 o)
    = (∑ i : Fin 75, k (ix2 o i) * rd1 a i.val) * rd0 s + tail5 (n (ix1 o)) (fun p => rd1 a (75 + p)) + rd0 h := by
  have e : st_v42 n a k s h (ix1 o) = (∑ i : Fin 75, k (ix2 o i) * a (ix1 ⟨i.val, by omega⟩)) * s ix0
      + (sqr (n (ix1 o)) * a (ix1 ⟨75, by omega⟩) + sqr (sqr (n (ix1 o))) * a (ix1 ⟨76, by omega⟩) + sqr (sqr (sqr (n (ix1 o)))) * a (ix1 ⟨77, by omega⟩)
        + sqr (sqr (sqr (sqr (n (ix1 o))))) * a (ix1 ⟨78, by omega⟩) + sqr (sqr (sqr (sqr (sqr (n (ix1 o)))))) * a (ix1 ⟨79, by omega⟩)) + h ix0 := by
    pointwise [st_v42, sqr]
    try rfl
  rw [e]
  simp only [at1 a]
  rfl

theorem st_v51_at (x : FVec Ideal S16 .f32) (o : Fin 16) : st_v51 x (ix1 o) = floor2 (x (ix1 o)) := by
  pointwise [st_v51]
  try rfl

/-- The filters' buckets. -/
theorem bucket16_at (w : FVec Ideal S16x3x5x5 .f32) (a : FVec Ideal S80 .f32) (h : FVec Ideal S_ .f32) (o : Fin 16) :
    st_v51 (st_v42 (st_v11 w) a (st_v0 w) (st_v6 w) h) (ix1 o)
      = floor2 (hashK (K16 w) (fun k => rd1 a k.val) (fun p => rd1 a (75 + p)) (rd0 h) o) := by
  rw [st_v51_at, st_v42_at, st_v11_at]
  have e : rd0 (st_v6 w) = scl (K16 w) := st_v6_at w
  rw [e]
  simp only [st_v0_at]
  rfl

theorem st_v55_at (a : FVec Ideal S80 .f32) (c : Fin 3) (dy dx : Fin 5) : st_v55 a (ix3 c dy dx) = rd1 a (c.val * 25 + dy.val * 5 + dx.val) := by
  have e : st_v55 a (ix3 c dy dx) = a (ix1 ⟨c.val * 25 + dy.val * 5 + dx.val, by omega⟩) := by
    pointwise [st_v55]
  rw [e]
  exact at1 a _

theorem st_v108_at (x : FVec Ideal S_ .f32) : st_v108 x ix0 = floor2 (x ix0) := by
  pointwise [st_v108]
  try rfl

/-- The query's hash from the window sums. -/
theorem st_v102_at (S : FVec Ideal S5x5x3 .f32) (A : FVec Ideal S3x5x5 .f32) (a : FVec Ideal S80 .f32) (h : FVec Ideal S_ .f32) (s : ℕ → ℕ → ℕ → EReal)
    (hS : ∀ (dx dy : Fin 5) (c : Fin 3), S (ix3 dx dy c) = winS 32 32 s dx.val dy.val c.val) (hA : ∀ (c : Fin 3) (dy dx : Fin 5), A (ix3 c dy dx) = rd1 a (c.val * 25 + dy.val * 5 + dx.val)) :
    st_v102 S A a h ix0 = hashQ 3 32 32 s (fun c dy dx => rd1 a (c * 25 + dy * 5 + dx)) (fun p => rd1 a (75 + p)) (rd0 h) (Ideal.ofBits FTy.f32 1233125376#32) := by
  have e : st_v102 S A a h ix0 = Ideal.div (Ideal.div (∑ dx : Fin 5, ∑ dy : Fin 5, ∑ c : Fin 3, S (ix3 dx dy c) * A (ix3 c dy dx)) (Ideal.ofBits FTy.f32 1233125376#32))
      (max (Ideal.div (Ideal.sqrt (∑ dx : Fin 5, ∑ dy : Fin 5, ∑ c : Fin 3, S (ix3 dx dy c) * S (ix3 dx dy c))) (Ideal.ofBits FTy.f32 1233125376#32)) (Ideal.ofBits FTy.f32 730643660#32))
      + Ideal.ofBits FTy.f32 1056964608#32 * (∑ p : Fin 5, a (ix1 ⟨75 + p.val, by omega⟩)) + h ix0 := by
    pointwise [st_v102]
    try rfl
  rw [e]
  simp only [hS, hA, at1 a]
  unfold hashQ
  rw [← Fin.sum_univ_eq_sum_range (fun p => rd1 a (75 + p)) 5]
  rw [sum3 (fun dx dy c => winS 32 32 s dx dy c * rd1 a (c * 25 + dy * 5 + dx)) 3, sum3 (fun dx dy c => winS 32 32 s dx dy c * winS 32 32 s dx dy c) 3]
  rfl

/-- Which filters share the query's bucket, as numbers. -/
def eqR16 (q : FVec Ideal S_ .f32) (h : FVec Ideal S16 .f32) : FVec Ideal S16 .f32 := uitofp .f32 (cmpf .oeq h (broadcastInDim S16 ![] bcast_S_S16 q))

theorem eqR16_at (q : FVec Ideal S_ .f32) (h : FVec Ideal S16 .f32) (o : Fin 16) : eqR16 q h (ix1 o) = eqv (h (ix1 o)) (q ix0) := by
  have e : eqR16 q h (ix1 o) = FloatOps.uitofp (F := Ideal) FTy.f32 (BitVec.ofBool (decide (h (ix1 o) = q ix0))) := by
    pointwise [eqR16]
    try rfl
  rw [e, eqv_bit]

/-- The active filters. -/
def maskR16 (e : FVec Ideal S16 .f32) : FVec Ideal S16 .f32 :=
  select (broadcastInDim S16 ![] bcast_S_S16 (cmpf .oeq (Host.reduceAdd e (constant S_ .f32 0x00000000#32) reducesTo_S16_S_d0 h_S_) (constant S_ .f32 0x00000000#32)))
    (broadcastInDim S16 ![] bcast_S_S16 (constant S_ .f32 0x3F800000#32)) e

theorem maskR16_at (e : FVec Ideal S16 .f32) (o : Fin 16) : maskR16 e (ix1 o) = activeV (fun o => e (ix1 o)) o := by
  have c : (cmpf .oeq (Host.reduceAdd e (constant S_ .f32 0x00000000#32) reducesTo_S16_S_d0 h_S_) (constant S_ .f32 0x00000000#32) : IVec S_ 1) ix0 = BitVec.ofBool (decide (∑ o : Fin 16, e (ix1 o) = 0)) := by
    have z : Ideal.ofBits .f32 0#32 = (0 : EReal) := by
      simp [Ideal.ofBits, Ideal.ieee]
    have s : (Host.reduceAdd e (constant S_ .f32 0x00000000#32) reducesTo_S16_S_d0 h_S_ : FVec Ideal S_ .f32) ix0 = ∑ o : Fin 16, e (ix1 o) := by
      pointwise
    show BitVec.ofBool (decide ((Host.reduceAdd e (constant S_ .f32 0x00000000#32) reducesTo_S16_S_d0 h_S_ : FVec Ideal S_ .f32) ix0 = Ideal.ofBits .f32 0#32)) = _
    rw [s, z]
  have d : maskR16 e (ix1 o) = Scalar.select ((cmpf .oeq (Host.reduceAdd e (constant S_ .f32 0x00000000#32) reducesTo_S16_S_d0 h_S_) (constant S_ .f32 0x00000000#32) : IVec S_ 1) ix0) (Ideal.ofBits .f32 0x3F800000#32) (e (ix1 o)) := by
    unfold maskR16
    refine congrArg (fun i => Scalar.select ((cmpf .oeq (Host.reduceAdd e (constant S_ .f32 0x00000000#32) reducesTo_S16_S_d0 h_S_) (constant S_ .f32 0x00000000#32) : IVec S_ 1) i) (Ideal.ofBits .f32 0x3F800000#32) (e (ix1 o))) (Subsingleton.elim (α := S_.Idx) _ _)
  rw [d, c]
  unfold activeV
  by_cases h : ∑ o : Fin 16, e (ix1 o) = 0
  · rw [if_pos h, decide_eq_true h]
    exact one_word
  · rw [if_neg h, decide_eq_false h]
    rfl

theorem st_v115_at (q : FVec Ideal S_ .f32) (h : FVec Ideal S16 .f32) (o : Fin 16) : st_v115 q h (ix1 o) = activeV (fun o => eqv (h (ix1 o)) (q ix0)) o := by
  have e : st_v115 q h = maskR16 (eqR16 q h) := rfl
  rw [e, maskR16_at]
  simp only [eqR16_at]

/-- The windows' sums down the rows. -/
def rowsR16 (V : FVec Ideal S36x36x3 .f32) : FVec Ideal S5x36x3 .f32 :=
  concatenate S5x36x3 0 [(⟨S1x36x3, broadcastInDim S1x36x3 ![1, 2] bcast_S36x3_S1x36x3_1_2 (Host.reduceAdd (extractStridedSlice S32x36x3 ![0, 0, 0] V slices_S36x36x3_S32x36x3_0_0_0) (constant S_ .f32 0x00000000#32) reducesTo_S32x36x3_S36x3_d0 h_S_)⟩ : (s : Shape) × FVec Ideal s .f32), (⟨S1x36x3, broadcastInDim S1x36x3 ![1, 2] bcast_S36x3_S1x36x3_1_2 (Host.reduceAdd (extractStridedSlice S32x36x3 ![1, 0, 0] V slices_S36x36x3_S32x36x3_1_0_0) (constant S_ .f32 0x00000000#32) reducesTo_S32x36x3_S36x3_d0 h_S_)⟩ : (s : Shape) × FVec Ideal s .f32), (⟨S1x36x3, broadcastInDim S1x36x3 ![1, 2] bcast_S36x3_S1x36x3_1_2 (Host.reduceAdd (extractStridedSlice S32x36x3 ![2, 0, 0] V slices_S36x36x3_S32x36x3_2_0_0) (constant S_ .f32 0x00000000#32) reducesTo_S32x36x3_S36x3_d0 h_S_)⟩ : (s : Shape) × FVec Ideal s .f32), (⟨S1x36x3, broadcastInDim S1x36x3 ![1, 2] bcast_S36x3_S1x36x3_1_2 (Host.reduceAdd (extractStridedSlice S32x36x3 ![3, 0, 0] V slices_S36x36x3_S32x36x3_3_0_0) (constant S_ .f32 0x00000000#32) reducesTo_S32x36x3_S36x3_d0 h_S_)⟩ : (s : Shape) × FVec Ideal s .f32), (⟨S1x36x3, broadcastInDim S1x36x3 ![1, 2] bcast_S36x3_S1x36x3_1_2 (Host.reduceAdd (extractStridedSlice S32x36x3 ![4, 0, 0] V slices_S36x36x3_S32x36x3_4_0_0) (constant S_ .f32 0x00000000#32) reducesTo_S32x36x3_S36x3_d0 h_S_)⟩ : (s : Shape) × FVec Ideal s .f32)]
    concatenates_S1x36x3_S1x36x3_S1x36x3_S1x36x3_S1x36x3_S5x36x3_d0

theorem rowsR16_at (V : FVec Ideal S36x36x3 .f32) (s : ℕ → ℕ → ℕ → EReal) (hV : ∀ (r x : Fin 36) (c : Fin 3), V (ix3 r x c) = s r.val x.val c.val) (d : Fin 5) (x : Fin 36) (c : Fin 3) :
    rowsR16 V (ix3 d x c) = ∑ i ∈ Finset.range 32, s (d.val + i) x.val c.val := by
  have e : rowsR16 V (ix3 d x c) = if h : d.val < 1 then ∑ i : Fin 32, V (ix3 ⟨i.val, by omega⟩ x c) else
      if h : d.val - 1 < 1 then ∑ i : Fin 32, V (ix3 ⟨1 + i.val, by omega⟩ x c) else
      if h : d.val - 1 - 1 < 1 then ∑ i : Fin 32, V (ix3 ⟨2 + i.val, by omega⟩ x c) else
      if h : d.val - 1 - 1 - 1 < 1 then ∑ i : Fin 32, V (ix3 ⟨3 + i.val, by omega⟩ x c) else ∑ i : Fin 32, V (ix3 ⟨4 + i.val, by omega⟩ x c) := by
    pointwise [rowsR16]
  rw [e, ← Fin.sum_univ_eq_sum_range (fun i => s (d.val + i) x.val c.val) 32]
  have hd := d.isLt
  split_ifs <;> refine Finset.sum_congr rfl fun i _ => (hV _ x c).trans (congrArg (fun j => s j x.val c.val) ?_) <;> dsimp only <;> omega

/-- The windows' sums along the columns. -/
def winR16 (T : FVec Ideal S5x36x3 .f32) : FVec Ideal S5x5x3 .f32 :=
  concatenate S5x5x3 0 [(⟨S1x5x3, broadcastInDim S1x5x3 ![1, 2] bcast_S5x3_S1x5x3_1_2 (Host.reduceAdd (extractStridedSlice S5x32x3 ![0, 0, 0] T slices_S5x36x3_S5x32x3_0_0_0) (constant S_ .f32 0x00000000#32) reducesTo_S5x32x3_S5x3_d1 h_S_)⟩ : (s : Shape) × FVec Ideal s .f32), (⟨S1x5x3, broadcastInDim S1x5x3 ![1, 2] bcast_S5x3_S1x5x3_1_2 (Host.reduceAdd (extractStridedSlice S5x32x3 ![0, 1, 0] T slices_S5x36x3_S5x32x3_0_1_0) (constant S_ .f32 0x00000000#32) reducesTo_S5x32x3_S5x3_d1 h_S_)⟩ : (s : Shape) × FVec Ideal s .f32), (⟨S1x5x3, broadcastInDim S1x5x3 ![1, 2] bcast_S5x3_S1x5x3_1_2 (Host.reduceAdd (extractStridedSlice S5x32x3 ![0, 2, 0] T slices_S5x36x3_S5x32x3_0_2_0) (constant S_ .f32 0x00000000#32) reducesTo_S5x32x3_S5x3_d1 h_S_)⟩ : (s : Shape) × FVec Ideal s .f32), (⟨S1x5x3, broadcastInDim S1x5x3 ![1, 2] bcast_S5x3_S1x5x3_1_2 (Host.reduceAdd (extractStridedSlice S5x32x3 ![0, 3, 0] T slices_S5x36x3_S5x32x3_0_3_0) (constant S_ .f32 0x00000000#32) reducesTo_S5x32x3_S5x3_d1 h_S_)⟩ : (s : Shape) × FVec Ideal s .f32), (⟨S1x5x3, broadcastInDim S1x5x3 ![1, 2] bcast_S5x3_S1x5x3_1_2 (Host.reduceAdd (extractStridedSlice S5x32x3 ![0, 4, 0] T slices_S5x36x3_S5x32x3_0_4_0) (constant S_ .f32 0x00000000#32) reducesTo_S5x32x3_S5x3_d1 h_S_)⟩ : (s : Shape) × FVec Ideal s .f32)]
    concatenates_S1x5x3_S1x5x3_S1x5x3_S1x5x3_S1x5x3_S5x5x3_d0

theorem winR16_at (V : FVec Ideal S36x36x3 .f32) (s : ℕ → ℕ → ℕ → EReal) (hV : ∀ (r x : Fin 36) (c : Fin 3), V (ix3 r x c) = s r.val x.val c.val) (dx dy : Fin 5) (c : Fin 3) :
    winR16 (rowsR16 V) (ix3 dx dy c) = winS 32 32 s dx.val dy.val c.val := by
  have e : ∀ T : FVec Ideal S5x36x3 .f32, winR16 T (ix3 dx dy c) = if h : dx.val < 1 then ∑ i : Fin 32, T (ix3 dy ⟨i.val, by omega⟩ c) else
      if h : dx.val - 1 < 1 then ∑ i : Fin 32, T (ix3 dy ⟨1 + i.val, by omega⟩ c) else
      if h : dx.val - 1 - 1 < 1 then ∑ i : Fin 32, T (ix3 dy ⟨2 + i.val, by omega⟩ c) else
      if h : dx.val - 1 - 1 - 1 < 1 then ∑ i : Fin 32, T (ix3 dy ⟨3 + i.val, by omega⟩ c) else ∑ i : Fin 32, T (ix3 dy ⟨4 + i.val, by omega⟩ c) := by
    intro T
    pointwise [winR16]
  rw [e]
  unfold winS
  rw [← Fin.sum_univ_eq_sum_range (fun j => ∑ i ∈ Finset.range 32, s (dy.val + i) (dx.val + j) c.val) 32]
  have hd := dx.isLt
  split_ifs <;> refine Finset.sum_congr rfl fun i _ => (rowsR16_at V s hV dy _ c).trans (Finset.sum_congr rfl fun k _ => congrArg (fun j => s (dy.val + k) j c.val) ?_) <;> dsimp only <;> omega

/-- The image sums by row, column and channel. -/
def imR (s : FVec Ideal S36x128 .f32) : FVec Ideal S36x36x3 .f32 := shapeCast S36x36x3 (extractStridedSlice S36x108 ![0, 0] s slices_S36x128_S36x108_0_0) shapeCasts_S36x108_S36x36x3

theorem imR_at (s : FVec Ideal S36x128 .f32) (r x : Fin 36) (c : Fin 3) : imR s (ix3 r x c) = rd2 s r.val (x.val * 3 + c.val) := by
  have e : imR s (ix3 r x c) = s (ix2 r ⟨x.val * 3 + c.val, by omega⟩) := by
    pointwise [imR]
  rw [e]
  exact at2 s _ _

theorem st_v87_at (s : FVec Ideal S36x128 .f32) (dx dy : Fin 5) (c : Fin 3) : st_v87 s (ix3 dx dy c) = winS 32 32 (fun r x c => rd2 s r (x * 3 + c)) dx.val dy.val c.val := by
  have e : st_v87 s = winR16 (rowsR16 (imR s)) := rfl
  rw [e]
  exact winR16_at _ (fun r x c => rd2 s r (x * 3 + c)) (imR_at s) dx dy c

/-- The first mask of the reference. -/
theorem mask16_at (w : FVec Ideal S16x3x5x5 .f32) (a : FVec Ideal S80 .f32) (h : FVec Ideal S_ .f32) (s : FVec Ideal S36x128 .f32) (o : Fin 16) :
    st_v115 (st_v108 (st_v102 (st_v87 s) (st_v55 a) a h)) (st_v51 (st_v42 (st_v11 w) a (st_v0 w) (st_v6 w) h)) (ix1 o) = M1 w a h s o := by
  rw [st_v115_at, st_v108_at, st_v102_at _ _ a h (fun r x c => rd2 s r (x * 3 + c)) (st_v87_at s) (st_v55_at a)]
  simp only [bucket16_at]
  rfl

end Cert.ReferenceBIdeal.Value
end
-- ==== Proof.RefHB.lean ====
module
public import proofs.«01_k».proof.Proof.RefStB
public import proofs.«01_k».proof.Proof.RefHA
public import Idealize.ShloMosaic.Lib.Claim
public import Idealize.ShloMosaic.Lib.Pointwise
public import Idealize.ShloMosaic.PureOps.Ideal
@[expose] public section
set_option maxRecDepth 16384
set_option maxHeartbeats 1000000
noncomputable section
namespace Cert.ReferenceBIdeal.Value
open Cert.ReferenceBIdeal Cert.ReferenceBIdeal.Gen Idealize.ShloMosaic Idealize.ShloMosaic.TcCoe Idealize.SL.Sem
open Cert.Band

/-- The filters as rows. -/
abbrev K20 (w : FVec Ideal S20x16x5x5 .f32) (o : Fin 20) (k : Fin 400) : EReal := rd4 w o (k.val / 25) (k.val / 5 % 5) (k.val % 5)

theorem K20_at (w : FVec Ideal S20x16x5x5 .f32) (o : Fin 20) (k : Fin 400) :
    w (ix4 o ⟨k.val / 25, by omega⟩ ⟨k.val / 5 % 5, by omega⟩ ⟨k.val % 5, by omega⟩) = K20 w o k := at4 w _ _ _ _

theorem st_v126_at (w : FVec Ideal S20x16x5x5 .f32) (o : Fin 20) (k : Fin 400) : st_v126 w (ix2 o k) = K20 w o k := by
  have e : st_v126 w (ix2 o k) = w (ix4 o ⟨k.val / 25, by omega⟩ ⟨k.val / 5 % 5, by omega⟩ ⟨k.val % 5, by omega⟩) := by
    pointwise [st_v126]
  rw [e]
  exact K20_at w o k

theorem st_v132_at (w : FVec Ideal S20x16x5x5 .f32) : st_v132 w ix0 = scl (K20 w) := by
  have e : st_v132 w ix0 = Ideal.div (Ideal.ofBits FTy.f32 1061158912#32) (max (Finset.fold max (Ideal.ofBits FTy.f32 4286578688#32) (fun o : Fin 20 => Ideal.sqrt (∑ k : Fin 400, w (ix4 o ⟨k.val / 25, by omega⟩ ⟨k.val / 5 % 5, by omega⟩ ⟨k.val % 5, by omega⟩) * w (ix4 o ⟨k.val / 25, by omega⟩ ⟨k.val / 5 % 5, by omega⟩ ⟨k.val % 5, by omega⟩))) Finset.univ) (Ideal.ofBits FTy.f32 730643660#32)) := by
    pointwise [st_v132]
    try rfl
  rw [e]
  simp only [K20_at w]
  rfl

theorem st_v137_at (w : FVec Ideal S20x16x5x5 .f32) (o : Fin 20) : st_v137 w (ix1 o) = nrm (K20 w) o * scl (K20 w) := by
  have e : st_v137 w (ix1 o) = Ideal.sqrt (∑ k : Fin 400, w (ix4 o ⟨k.val / 25, by omega⟩ ⟨k.val / 5 % 5, by omega⟩ ⟨k.val % 5, by omega⟩) * w (ix4 o ⟨k.val / 25, by omega⟩ ⟨k.val / 5 % 5, by omega⟩ ⟨k.val % 5, by omega⟩)) * Ideal.div (Ideal.ofBits FTy.f32 1061158912#32) (max (Finset.fold max (Ideal.ofBits FTy.f32 4286578688#32) (fun o : Fin 20 => Ideal.sqrt (∑ k : Fin 400, w (ix4 o ⟨k.val / 25, by omega⟩ ⟨k.val / 5 % 5, by omega⟩ ⟨k.val % 5, by omega⟩) * w (ix4 o ⟨k.val / 25, by omega⟩ ⟨k.val / 5 % 5, by omega⟩ ⟨k.val % 5, by omega⟩))) Finset.univ) (Ideal.ofBits FTy.f32 730643660#32)) := by
    pointwise [st_v137]
    try rfl
  rw [e]
  simp only [K20_at w]
  rfl

theorem st_v168_at (n : FVec Ideal S20 .f32) (a : FVec Ideal S405 .f32) (k : FVec Ideal S20x400 .f32) (s h : FVec Ideal S_ .f32) (o : Fin 20) : st_v168 n a k s h (ix1 o)
    = (∑ i : Fin 400, k (ix2 o i) * rd1 a i.val) * rd0 s + tail5 (n (ix1 o)) (fun p => rd1 a (400 + p)) + rd0 h := by
  have e : st_v168 n a k s h (ix1 o) = (∑ i : Fin 400, k (ix2 o i) * a (ix1 ⟨i.val, by omega⟩)) * s ix0
      + (sqr (n (ix1 o)) * a (ix1 ⟨400, by omega⟩) + sqr (sqr (n (ix1 o))) * a (ix1 ⟨401, by omega⟩) + sqr (sqr (sqr (n (ix1 o)))) * a (ix1 ⟨402, by omega⟩)
        + sqr (sqr (sqr (sqr (n (ix1 o))))) * a (ix1 ⟨403, by omega⟩) + sqr (sqr (sqr (sqr (sqr (n (ix1 o)))))) * a (ix1 ⟨404, by omega⟩)) + h ix0 := by
    pointwise [st_v168, sqr]
    try rfl
  rw [e]
  simp only [at1 a]
  rfl

theorem st_v177_at (x : FVec Ideal S20 .f32) (o : Fin 20) : st_v177 x (ix1 o) = floor2 (x (ix1 o)) := by
  pointwise [st_v177]
  try rfl

/-- The filters' buckets. -/
theorem bucket20_at (w : FVec Ideal S20x16x5x5 .f32) (a : FVec Ideal S405 .f32) (h : FVec Ideal S_ .f32) (o : Fin 20) :
    st_v177 (st_v168 (st_v137 w) a (st_v126 w) (st_v132 w) h) (ix1 o)
      = floor2 (hashK (K20 w) (fun k => rd1 a k.val) (fun p => rd1 a (400 + p)) (rd0 h) o) := by
  rw [st_v177_at, st_v168_at, st_v137_at]
  have e : rd0 (st_v132 w) = scl (K20 w) := st_v132_at w
  rw [e]
  simp only [st_v126_at]
  rfl

theorem st_v179_at (a : FVec Ideal S405 .f32) (c : Fin 16) (dy dx : Fin 5) : st_v179 a (ix3 c dy dx) = rd1 a (c.val * 25 + dy.val * 5 + dx.val) := by
  have e : st_v179 a (ix3 c dy dx) = a (ix1 ⟨c.val * 25 + dy.val * 5 + dx.val, by omega⟩) := by
    pointwise [st_v179]
  rw [e]
  exact at1 a _

theorem st_v232_at (x : FVec Ideal S_ .f32) : st_v232 x ix0 = floor2 (x ix0) := by
  pointwise [st_v232]
  try rfl

/-- The query's hash from the window sums. -/
theorem st_v226_at (S : FVec Ideal S5x5x16 .f32) (A : FVec Ideal S16x5x5 .f32) (a : FVec Ideal S405 .f32) (h : FVec Ideal S_ .f32) (s : ℕ → ℕ → ℕ → EReal)
    (hS : ∀ (dx dy : Fin 5) (c : Fin 16), S (ix3 dx dy c) = winS 16 16 s dx.val dy.val c.val) (hA : ∀ (c : Fin 16) (dy dx : Fin 5), A (ix3 c dy dx) = rd1 a (c.val * 25 + dy.val * 5 + dx.val)) :
    st_v226 S A a h ix0 = hashQ 16 16 16 s (fun c dy dx => rd1 a (c * 25 + dy * 5 + dx)) (fun p => rd1 a (400 + p)) (rd0 h) (Ideal.ofBits FTy.f32 1216348160#32) := by
  have e : st_v226 S A a h ix0 = Ideal.div (Ideal.div (∑ dx : Fin 5, ∑ dy : Fin 5, ∑ c : Fin 16, S (ix3 dx dy c) * A (ix3 c dy dx)) (Ideal.ofBits FTy.f32 1216348160#32))
      (max (Ideal.div (Ideal.sqrt (∑ dx : Fin 5, ∑ dy : Fin 5, ∑ c : Fin 16, S (ix3 dx dy c) * S (ix3 dx dy c))) (Ideal.ofBits FTy.f32 1216348160#32)) (Ideal.ofBits FTy.f32 730643660#32))
      + Ideal.ofBits FTy.f32 1056964608#32 * (∑ p : Fin 5, a (ix1 ⟨400 + p.val, by omega⟩)) + h ix0 := by
    pointwise [st_v226]
    try rfl
  rw [e]
  simp only [hS, hA, at1 a]
  unfold hashQ
  rw [← Fin.sum_univ_eq_sum_range (fun p => rd1 a (400 + p)) 5]
  rw [sum3 (fun dx dy c => winS 16 16 s dx dy c * rd1 a (c * 25 + dy * 5 + dx)) 16, sum3 (fun dx dy c => winS 16 16 s dx dy c * winS 16 16 s dx dy c) 16]
  rfl

/-- Which filters share the query's bucket, as numbers. -/
def eqR20 (q : FVec Ideal S_ .f32) (h : FVec Ideal S20 .f32) : FVec Ideal S20 .f32 := uitofp .f32 (cmpf .oeq h (broadcastInDim S20 ![] bcast_S_S20 q))

theorem eqR20_at (q : FVec Ideal S_ .f32) (h : FVec Ideal S20 .f32) (o : Fin 20) : eqR20 q h (ix1 o) = eqv (h (ix1 o)) (q ix0) := by
  have e : eqR20 q h (ix1 o) = FloatOps.uitofp (F := Ideal) FTy.f32 (BitVec.ofBool (decide (h (ix1 o) = q ix0))) := by
    pointwise [eqR20]
    try rfl
  rw [e, eqv_bit]

/-- The active filters. -/
def maskR20 (e : FVec Ideal S20 .f32) : FVec Ideal S20 .f32 :=
  select (broadcastInDim S20 ![] bcast_S_S20 (cmpf .oeq (Host.reduceAdd e (constant S_ .f32 0x00000000#32) reducesTo_S20_S_d0 h_S_) (constant S_ .f32 0x00000000#32)))
    (broadcastInDim S20 ![] bcast_S_S20 (constant S_ .f32 0x3F800000#32)) e

theorem maskR20_at (e : FVec Ideal S20 .f32) (o : Fin 20) : maskR20 e (ix1 o) = activeV (fun o => e (ix1 o)) o := by
  have c : (cmpf .oeq (Host.reduceAdd e (constant S_ .f32 0x00000000#32) reducesTo_S20_S_d0 h_S_) (constant S_ .f32 0x00000000#32) : IVec S_ 1) ix0 = BitVec.ofBool (decide (∑ o : Fin 20, e (ix1 o) = 0)) := by
    have z : Ideal.ofBits .f32 0#32 = (0 : EReal) := by
      simp [Ideal.ofBits, Ideal.ieee]
    have s : (Host.reduceAdd e (constant S_ .f32 0x00000000#32) reducesTo_S20_S_d0 h_S_ : FVec Ideal S_ .f32) ix0 = ∑ o : Fin 20, e (ix1 o) := by
      pointwise
    show BitVec.ofBool (decide ((Host.reduceAdd e (constant S_ .f32 0x00000000#32) reducesTo_S20_S_d0 h_S_ : FVec Ideal S_ .f32) ix0 = Ideal.ofBits .f32 0#32)) = _
    rw [s, z]
  have d : maskR20 e (ix1 o) = Scalar.select ((cmpf .oeq (Host.reduceAdd e (constant S_ .f32 0x00000000#32) reducesTo_S20_S_d0 h_S_) (constant S_ .f32 0x00000000#32) : IVec S_ 1) ix0) (Ideal.ofBits .f32 0x3F800000#32) (e (ix1 o)) := by
    unfold maskR20
    refine congrArg (fun i => Scalar.select ((cmpf .oeq (Host.reduceAdd e (constant S_ .f32 0x00000000#32) reducesTo_S20_S_d0 h_S_) (constant S_ .f32 0x00000000#32) : IVec S_ 1) i) (Ideal.ofBits .f32 0x3F800000#32) (e (ix1 o))) (Subsingleton.elim (α := S_.Idx) _ _)
  rw [d, c]
  unfold activeV
  by_cases h : ∑ o : Fin 20, e (ix1 o) = 0
  · rw [if_pos h, decide_eq_true h]
    exact one_word
  · rw [if_neg h, decide_eq_false h]
    rfl

theorem st_v239_at (q : FVec Ideal S_ .f32) (h : FVec Ideal S20 .f32) (o : Fin 20) : st_v239 q h (ix1 o) = activeV (fun o => eqv (h (ix1 o)) (q ix0)) o := by
  have e : st_v239 q h = maskR20 (eqR20 q h) := rfl
  rw [e, maskR20_at]
  simp only [eqR20_at]

/-- The windows' sums down the rows. -/
def rowsR20 (V : FVec Ideal S20x20x16 .f32) : FVec Ideal S5x20x16 .f32 :=
  concatenate S5x20x16 0 [(⟨S1x20x16, broadcastInDim S1x20x16 ![1, 2] bcast_S20x16_S1x20x16_1_2 (Host.reduceAdd (extractStridedSlice S16x20x16 ![0, 0, 0] V slices_S20x20x16_S16x20x16_0_0_0) (constant S_ .f32 0x00000000#32) reducesTo_S16x20x16_S20x16_d0 h_S_)⟩ : (s : Shape) × FVec Ideal s .f32), (⟨S1x20x16, broadcastInDim S1x20x16 ![1, 2] bcast_S20x16_S1x20x16_1_2 (Host.reduceAdd (extractStridedSlice S16x20x16 ![1, 0, 0] V slices_S20x20x16_S16x20x16_1_0_0) (constant S_ .f32 0x00000000#32) reducesTo_S16x20x16_S20x16_d0 h_S_)⟩ : (s : Shape) × FVec Ideal s .f32), (⟨S1x20x16, broadcastInDim S1x20x16 ![1, 2] bcast_S20x16_S1x20x16_1_2 (Host.reduceAdd (extractStridedSlice S16x20x16 ![2, 0, 0] V slices_S20x20x16_S16x20x16_2_0_0) (constant S_ .f32 0x00000000#32) reducesTo_S16x20x16_S20x16_d0 h_S_)⟩ : (s : Shape) × FVec Ideal s .f32), (⟨S1x20x16, broadcastInDim S1x20x16 ![1, 2] bcast_S20x16_S1x20x16_1_2 (Host.reduceAdd (extractStridedSlice S16x20x16 ![3, 0, 0] V slices_S20x20x16_S16x20x16_3_0_0) (constant S_ .f32 0x00000000#32) reducesTo_S16x20x16_S20x16_d0 h_S_)⟩ : (s : Shape) × FVec Ideal s .f32), (⟨S1x20x16, broadcastInDim S1x20x16 ![1, 2] bcast_S20x16_S1x20x16_1_2 (Host.reduceAdd (extractStridedSlice S16x20x16 ![4, 0, 0] V slices_S20x20x16_S16x20x16_4_0_0) (constant S_ .f32 0x00000000#32) reducesTo_S16x20x16_S20x16_d0 h_S_)⟩ : (s : Shape) × FVec Ideal s .f32)]
    concatenates_S1x20x16_S1x20x16_S1x20x16_S1x20x16_S1x20x16_S5x20x16_d0

theorem rowsR20_at (V : FVec Ideal S20x20x16 .f32) (s : ℕ → ℕ → ℕ → EReal) (hV : ∀ (r x : Fin 20) (c : Fin 16), V (ix3 r x c) = s r.val x.val c.val) (d : Fin 5) (x : Fin 20) (c : Fin 16) :
    rowsR20 V (ix3 d x c) = ∑ i ∈ Finset.range 16, s (d.val + i) x.val c.val := by
  have e : rowsR20 V (ix3 d x c) = if h : d.val < 1 then ∑ i : Fin 16, V (ix3 ⟨i.val, by omega⟩ x c) else
      if h : d.val - 1 < 1 then ∑ i : Fin 16, V (ix3 ⟨1 + i.val, by omega⟩ x c) else
      if h : d.val - 1 - 1 < 1 then ∑ i : Fin 16, V (ix3 ⟨2 + i.val, by omega⟩ x c) else
      if h : d.val - 1 - 1 - 1 < 1 then ∑ i : Fin 16, V (ix3 ⟨3 + i.val, by omega⟩ x c) else ∑ i : Fin 16, V (ix3 ⟨4 + i.val, by omega⟩ x c) := by
    pointwise [rowsR20]
  rw [e, ← Fin.sum_univ_eq_sum_range (fun i => s (d.val + i) x.val c.val) 16]
  have hd := d.isLt
  split_ifs <;> refine Finset.sum_congr rfl fun i _ => (hV _ x c).trans (congrArg (fun j => s j x.val c.val) ?_) <;> dsimp only <;> omega

/-- The windows' sums along the columns. -/
def winR20 (T : FVec Ideal S5x20x16 .f32) : FVec Ideal S5x5x16 .f32 :=
  concatenate S5x5x16 0 [(⟨S1x5x16, broadcastInDim S1x5x16 ![1, 2] bcast_S5x16_S1x5x16_1_2 (Host.reduceAdd (extractStridedSlice S5x16x16 ![0, 0, 0] T slices_S5x20x16_S5x16x16_0_0_0) (constant S_ .f32 0x00000000#32) reducesTo_S5x16x16_S5x16_d1 h_S_)⟩ : (s : Shape) × FVec Ideal s .f32), (⟨S1x5x16, broadcastInDim S1x5x16 ![1, 2] bcast_S5x16_S1x5x16_1_2 (Host.reduceAdd (extractStridedSlice S5x16x16 ![0, 1, 0] T slices_S5x20x16_S5x16x16_0_1_0) (constant S_ .f32 0x00000000#32) reducesTo_S5x16x16_S5x16_d1 h_S_)⟩ : (s : Shape) × FVec Ideal s .f32), (⟨S1x5x16, broadcastInDim S1x5x16 ![1, 2] bcast_S5x16_S1x5x16_1_2 (Host.reduceAdd (extractStridedSlice S5x16x16 ![0, 2, 0] T slices_S5x20x16_S5x16x16_0_2_0) (constant S_ .f32 0x00000000#32) reducesTo_S5x16x16_S5x16_d1 h_S_)⟩ : (s : Shape) × FVec Ideal s .f32), (⟨S1x5x16, broadcastInDim S1x5x16 ![1, 2] bcast_S5x16_S1x5x16_1_2 (Host.reduceAdd (extractStridedSlice S5x16x16 ![0, 3, 0] T slices_S5x20x16_S5x16x16_0_3_0) (constant S_ .f32 0x00000000#32) reducesTo_S5x16x16_S5x16_d1 h_S_)⟩ : (s : Shape) × FVec Ideal s .f32), (⟨S1x5x16, broadcastInDim S1x5x16 ![1, 2] bcast_S5x16_S1x5x16_1_2 (Host.reduceAdd (extractStridedSlice S5x16x16 ![0, 4, 0] T slices_S5x20x16_S5x16x16_0_4_0) (constant S_ .f32 0x00000000#32) reducesTo_S5x16x16_S5x16_d1 h_S_)⟩ : (s : Shape) × FVec Ideal s .f32)]
    concatenates_S1x5x16_S1x5x16_S1x5x16_S1x5x16_S1x5x16_S5x5x16_d0

theorem winR20_at (V : FVec Ideal S20x20x16 .f32) (s : ℕ → ℕ → ℕ → EReal) (hV : ∀ (r x : Fin 20) (c : Fin 16), V (ix3 r x c) = s r.val x.val c.val) (dx dy : Fin 5) (c : Fin 16) :
    winR20 (rowsR20 V) (ix3 dx dy c) = winS 16 16 s dx.val dy.val c.val := by
  have e : ∀ T : FVec Ideal S5x20x16 .f32, winR20 T (ix3 dx dy c) = if h : dx.val < 1 then ∑ i : Fin 16, T (ix3 dy ⟨i.val, by omega⟩ c) else
      if h : dx.val - 1 < 1 then ∑ i : Fin 16, T (ix3 dy ⟨1 + i.val, by omega⟩ c) else
      if h : dx.val - 1 - 1 < 1 then ∑ i : Fin 16, T (ix3 dy ⟨2 + i.val, by omega⟩ c) else
      if h : dx.val - 1 - 1 - 1 < 1 then ∑ i : Fin 16, T (ix3 dy ⟨3 + i.val, by omega⟩ c) else ∑ i : Fin 16, T (ix3 dy ⟨4 + i.val, by omega⟩ c) := by
    intro T
    pointwise [winR20]
  rw [e]
  unfold winS
  rw [← Fin.sum_univ_eq_sum_range (fun j => ∑ i ∈ Finset.range 16, s (dy.val + i) (dx.val + j) c.val) 16]
  have hd := dx.isLt
  split_ifs <;> refine Finset.sum_congr rfl fun i _ => (rowsR20_at V s hV dy _ c).trans (Finset.sum_congr rfl fun k _ => congrArg (fun j => s (dy.val + k) j c.val) ?_) <;> dsimp only <;> omega

theorem st_v125_at (s : FVec Ideal S20x384 .f32) (m : FVec Ideal S16 .f32) (r x : Fin 20) (c : Fin 16) : st_v125 s m (ix3 r x c) = rd2 s r.val (x.val * 16 + c.val) * m (ix1 c) := by
  have e : st_v125 s m (ix3 r x c) = s (ix2 r ⟨x.val * 16 + c.val, by omega⟩) * m (ix1 c) := by
    pointwise [st_v125]
  rw [e]
  exact congrArg (fun z : EReal => z * m (ix1 c)) (at2 s _ _)

theorem st_v211_at (V : FVec Ideal S20x20x16 .f32) (s : ℕ → ℕ → ℕ → EReal) (hV : ∀ (r x : Fin 20) (c : Fin 16), V (ix3 r x c) = s r.val x.val c.val) (dx dy : Fin 5) (c : Fin 16) :
    st_v211 V (ix3 dx dy c) = winS 16 16 s dx.val dy.val c.val := by
  have e : st_v211 V = winR20 (rowsR20 V) := rfl
  rw [e]
  exact winR20_at V s hV dx dy c

/-- The second mask of the reference. -/
theorem mask20_at (w : FVec Ideal S20x16x5x5 .f32) (a : FVec Ideal S405 .f32) (h : FVec Ideal S_ .f32) (s : FVec Ideal S20x384 .f32) (m : FVec Ideal S16 .f32) (M : ℕ → EReal)
    (hm : ∀ c : Fin 16, m (ix1 c) = M c.val) (o : Fin 20) :
    st_v239 (st_v232 (st_v226 (st_v211 (st_v125 s m)) (st_v179 a) a h)) (st_v177 (st_v168 (st_v137 w) a (st_v126 w) (st_v132 w) h)) (ix1 o) = M2 w a h s M o := by
  rw [st_v239_at, st_v232_at, st_v226_at _ _ a h (fun r x c => rd2 s r (x * 16 + c) * M c) (st_v211_at _ _ fun r x c => by rw [st_v125_at, hm]) (st_v179_at a)]
  simp only [bucket20_at]
  rfl

end Cert.ReferenceBIdeal.Value
end
-- ==== Proof.RefCB.lean ====
module
public import proofs.«01_k».proof.Proof.RefStA
public import proofs.«01_k».proof.Proof.RefStB
public import proofs.«01_k».proof.Proof.SpecB
public import proofs.«01_k».proof.Proof.BlockA
public import Idealize.ShloMosaic.Lib.Claim
public import Idealize.ShloMosaic.Lib.Pointwise
public import Idealize.ShloMosaic.PureOps.Ideal
@[expose] public section
set_option maxRecDepth 16384
set_option maxHeartbeats 1000000
noncomputable section
namespace Cert.ReferenceBIdeal.Value
open Cert.ReferenceBIdeal Cert.ReferenceBIdeal.Gen Idealize.ShloMosaic Idealize.ShloMosaic.TcCoe Idealize.SL.Sem
open Cert.Band

theorem ref_z : (FloatOps.sitofp (F := Ideal) FTy.f32 0#32 : Ideal FTy.f32) = (0 : EReal) := by
  show (((0#32 : BitVec 32).toInt : ℝ) : EReal) = 0
  simp

theorem five_sum (g : ℕ → EReal) : g 0 + g 1 + g 2 + g 3 + g 4 = ∑ t ∈ Finset.range 5, g t := by
  simp only [Finset.sum_range_succ, Finset.sum_range_zero, zero_add]

/-- The masked activations. -/
theorem st_v120_at (y : FVec Ideal S20x1024x384 .f32) (m : FVec Ideal S16 .f32) (r : Fin 20) (b : Fin 1024) (x : Fin 20) (c : Fin 16) :
    st_v120 y m (ix4 r b x c) = rd3 y r.val b.val (x.val * 16 + c.val) * m (ix1 c) := by
  have e : st_v120 y m (ix4 r b x c) = y (ix3 r b ⟨x.val * 16 + c.val, by omega⟩) * m (ix1 c) := by
    pointwise [st_v120]
  rw [e]
  exact congrArg (fun z : EReal => z * m (ix1 c)) (at3 y _ _ _)

/-- The stacked shifts at an offset. -/
theorem st_v250_at (X : FVec Ideal S20x1024x20x16 .f32) (G : ℕ → ℕ → ℕ → ℕ → EReal) (hX : ∀ (r : Fin 20) (b : Fin 1024) (x : Fin 20) (c : Fin 16), X (ix4 r b x c) = G b.val r.val x.val c.val)
    (d : Fin 5) (r : Fin 20) (b : Fin 1024) (j c : Fin 16) : st_v250 X (ix5 d r b j c) = G b.val r.val (j.val + d.val) c.val := by
  have e : st_v250 X (ix5 d r b j c) = if h : d.val < 1 then X (ix4 r b ⟨j.val, by omega⟩ c) else
      if h : d.val - 1 < 1 then X (ix4 r b ⟨1 + j.val, by omega⟩ c) else
      if h : d.val - 1 - 1 < 1 then X (ix4 r b ⟨2 + j.val, by omega⟩ c) else
      if h : d.val - 1 - 1 - 1 < 1 then X (ix4 r b ⟨3 + j.val, by omega⟩ c) else X (ix4 r b ⟨4 + j.val, by omega⟩ c) := by
    pointwise [st_v250]
  rw [e]
  have hd := d.isLt
  split_ifs <;> refine (hX r b _ c).trans (congrArg (fun k => G b.val r.val k c.val) ?_) <;> dsimp only <;> omega

/-- One row of taps. -/
def tapR (V : FVec Ideal S5x20x1024x16x16 .f32) (w : FVec Ideal S20x16x5x5 .f32) (dy : ℕ) (h1 : S5x20x1024x16x16.Slices ![0, dy, 0, 0, 0] S5x16x1024x16x16)
    (h2 : S20x16x5x5.Slices ![0, 0, dy, 0] S20x16x1x5) : FVec Ideal S1024x16x16x20 .f32 :=
  transpose S1024x16x16x20 [2, 1, 3, 0] (Host.dotGeneral dot_S20x16x5_S5x16x1024x16x16_S20x16x1024x16_12_40_0_123_n_n none
    (shapeCast S20x16x5 (extractStridedSlice S20x16x1x5 ![0, 0, dy, 0] w h2) shapeCasts_S20x16x1x5_S20x16x5) (extractStridedSlice S5x16x1024x16x16 ![0, dy, 0, 0, 0] V h1))
    transposes_S20x16x1024x16_S1024x16x16x20_2_1_3_0

theorem tapR_at (V : FVec Ideal S5x20x1024x16x16 .f32) (G : ℕ → ℕ → ℕ → ℕ → EReal)
    (hV : ∀ (d : Fin 5) (r : Fin 20) (b : Fin 1024) (j c : Fin 16), V (ix5 d r b j c) = G b.val r.val (j.val + d.val) c.val)
    (w : FVec Ideal S20x16x5x5 .f32) (dy : ℕ) (h1 : S5x20x1024x16x16.Slices ![0, dy, 0, 0, 0] S5x16x1024x16x16)
    (h2 : S20x16x5x5.Slices ![0, 0, dy, 0] S20x16x1x5) (hd : dy < 5) (b : Fin 1024) (i j : Fin 16) (o : Fin 20) :
    tapR V w dy h1 h2 (ix4 b i j o) = ∑ dx ∈ Finset.range 5, ∑ c ∈ Finset.range 16, G b.val (i.val + dy) (j.val + dx) c * rd4 w o c dy dx := by
  have e : tapR V w dy h1 h2 (ix4 b i j o) = ∑ c : Fin 16, ∑ d : Fin 5, w (ix4 o c ⟨dy, hd⟩ d) * V (ix5 d ⟨dy + i.val, by omega⟩ b j c) := by
    pointwise [tapR]
  rw [e, Finset.sum_comm, ← Fin.sum_univ_eq_sum_range (fun dx => ∑ c ∈ Finset.range 16, G b.val (i.val + dy) (j.val + dx) c * rd4 w o c dy dx) 5]
  refine Finset.sum_congr rfl fun d _ => ?_
  rw [← Fin.sum_univ_eq_sum_range (fun c => G b.val (i.val + dy) (j.val + d.val) c * rd4 w o c dy d.val) 16]
  refine Finset.sum_congr rfl fun c _ => ?_
  rw [hV, mul_comm]
  refine congrArg₂ (fun x y : EReal => x * y) ?_ (at4 w _ _ _ _)
  exact congrArg (fun r => G b.val r (j.val + d.val) c.val) (Nat.add_comm dy i.val)

/-- The biased convolution. -/
theorem st_v282_at (V : FVec Ideal S5x20x1024x16x16 .f32) (G : ℕ → ℕ → ℕ → ℕ → EReal)
    (hV : ∀ (d : Fin 5) (r : Fin 20) (b : Fin 1024) (j c : Fin 16), V (ix5 d r b j c) = G b.val r.val (j.val + d.val) c.val)
    (w : FVec Ideal S20x16x5x5 .f32) (v : FVec Ideal S20 .f32) (b : Fin 1024) (i j : Fin 16) (o : Fin 20) :
    st_v282 V w v (ix4 b i j o) = conv 16 (G b.val) (fun o c dy dx => rd4 w o c dy dx) i j o + rd1 v o := by
  have q : st_v282 V w v = addf (addf (addf (addf (addf (tapR V w 0 slices_S5x20x1024x16x16_S5x16x1024x16x16_0_0_0_0_0 slices_S20x16x5x5_S20x16x1x5_0_0_0_0)
      (tapR V w 1 slices_S5x20x1024x16x16_S5x16x1024x16x16_0_1_0_0_0 slices_S20x16x5x5_S20x16x1x5_0_0_1_0))
      (tapR V w 2 slices_S5x20x1024x16x16_S5x16x1024x16x16_0_2_0_0_0 slices_S20x16x5x5_S20x16x1x5_0_0_2_0))
      (tapR V w 3 slices_S5x20x1024x16x16_S5x16x1024x16x16_0_3_0_0_0 slices_S20x16x5x5_S20x16x1x5_0_0_3_0))
      (tapR V w 4 slices_S5x20x1024x16x16_S5x16x1024x16x16_0_4_0_0_0 slices_S20x16x5x5_S20x16x1x5_0_0_4_0))
      (broadcastInDim S1024x16x16x20 ![0, 1, 2, 3] bcast_S1x1x1x20_S1024x16x16x20_0_1_2_3 (broadcastInDim S1x1x1x20 ![3] bcast_S20_S1x1x1x20_3 v)) := rfl
  have e : st_v282 V w v (ix4 b i j o) = tapR V w 0 slices_S5x20x1024x16x16_S5x16x1024x16x16_0_0_0_0_0 slices_S20x16x5x5_S20x16x1x5_0_0_0_0 (ix4 b i j o)
      + tapR V w 1 slices_S5x20x1024x16x16_S5x16x1024x16x16_0_1_0_0_0 slices_S20x16x5x5_S20x16x1x5_0_0_1_0 (ix4 b i j o)
      + tapR V w 2 slices_S5x20x1024x16x16_S5x16x1024x16x16_0_2_0_0_0 slices_S20x16x5x5_S20x16x1x5_0_0_2_0 (ix4 b i j o)
      + tapR V w 3 slices_S5x20x1024x16x16_S5x16x1024x16x16_0_3_0_0_0 slices_S20x16x5x5_S20x16x1x5_0_0_3_0 (ix4 b i j o)
      + tapR V w 4 slices_S5x20x1024x16x16_S5x16x1024x16x16_0_4_0_0_0 slices_S20x16x5x5_S20x16x1x5_0_0_4_0 (ix4 b i j o) + v (ix1 o) := by
    rw [q]
    pointwise
  rw [e, tapR_at V G hV w 0 _ _ (by omega), tapR_at V G hV w 1 _ _ (by omega), tapR_at V G hV w 2 _ _ (by omega), tapR_at V G hV w 3 _ _ (by omega), tapR_at V G hV w 4 _ _ (by omega)]
  refine congrArg₂ (fun x y : EReal => x + y) ?_ (at1 v o)
  exact five_sum (fun dy => ∑ dx ∈ Finset.range 5, ∑ c ∈ Finset.range 16, G b.val (i.val + dy) (j.val + dx) c * rd4 w o c dy dx)

/-- The masked and rectified layer. -/
def hR (m : FVec Ideal S20 .f32) (x : FVec Ideal S1024x16x16x20 .f32) : FVec Ideal S1024x16x16x20 .f32 :=
  maximumf (mulf x (broadcastInDim S1024x16x16x20 ![0, 1, 2, 3] bcast_S1x1x1x20_S1024x16x16x20_0_1_2_3 (broadcastInDim S1x1x1x20 ![3] bcast_S20_S1x1x1x20_3 m)))
    (broadcastInDim S1024x16x16x20 ![] bcast_S_S1024x16x16x20 (constant S_ .f32 0x00000000#32))

theorem hR_at (m : FVec Ideal S20 .f32) (x : FVec Ideal S1024x16x16x20 .f32) (b : Fin 1024) (i j : Fin 16) (o : Fin 20) : hR m x (ix4 b i j o) = max (x (ix4 b i j o) * m (ix1 o)) 0 := by
  pointwise [hR]

/-- Its pooling by twos, laid out by rows, images, and lanes of column and channel. -/
def mR (h : FVec Ideal S1024x16x16x20 .f32) : FVec Ideal S8x1024x160 .f32 :=
  shapeCast S8x1024x160 (transpose S8x1024x8x20 [1, 0, 2, 3] (Host.reduce FloatOps.maximumf (shapeCast S1024x8x2x8x20 (Host.reduce FloatOps.maximumf (shapeCast S1024x16x8x2x20 h shapeCasts_S1024x16x16x20_S1024x16x8x2x20)
    (constant S_ .f32 0xFF800000#32) reducesTo_S1024x16x8x2x20_S1024x16x8x20_d3 h_S_) shapeCasts_S1024x16x8x20_S1024x8x2x8x20)
    (constant S_ .f32 0xFF800000#32) reducesTo_S1024x8x2x8x20_S1024x8x8x20_d2 h_S_) transposes_S1024x8x8x20_S8x1024x8x20_1_0_2_3) shapeCasts_S8x1024x8x20_S8x1024x160

theorem mR_at (h : FVec Ideal S1024x16x16x20 .f32) (g : ℕ → ℕ → EReal) (i : Fin 8) (b : Fin 1024) (l : Fin 160)
    (hg : ∀ (i j : Fin 16), h (ix4 b i j ⟨l.val % 20, by omega⟩) = g i.val j.val) : mR h (ix3 i b l) = pool4 g i.val (l.val / 20) := by
  have e : mR h (ix3 i b l) = Finset.fold max (Ideal.ofBits FTy.f32 4286578688#32) (fun y : Fin 2 => Finset.fold max (Ideal.ofBits FTy.f32 4286578688#32)
      (fun x : Fin 2 => h (ix4 b ⟨i.val * 2 + y.val, by omega⟩ ⟨l.val / 20 * 2 + x.val, by omega⟩ ⟨l.val % 20, by omega⟩)) Finset.univ) Finset.univ := by
    pointwise [mR]
  rw [e, Cert.KernelAIdeal.Value.fold2, Cert.KernelAIdeal.Value.fold2, Cert.KernelAIdeal.Value.fold2]
  unfold pool4
  rw [hg, hg, hg, hg]
  simp only [Fin.val_zero, Fin.val_one, Nat.add_zero, Nat.mul_comm 2]

theorem st_v294_at (p : FVec Ideal S8x1024x160 .f32) (r : Fin 12) (b : Fin 1024) (l : Fin 256) : st_v294 p (ix3 r b l)
    = if h : (2 ≤ r.val ∧ r.val - 2 < 8) ∧ 40 ≤ l.val ∧ l.val - 40 < 160 then p (ix3 ⟨r.val - 2, h.1.2⟩ b ⟨l.val - 40, h.2.2⟩) else 0 := by
  have e : st_v294 p (ix3 r b l) = if h : (2 ≤ r.val ∧ r.val - 2 < 8) ∧ 40 ≤ l.val ∧ l.val - 40 < 160 then p (ix3 ⟨r.val - 2, h.1.2⟩ b ⟨l.val - 40, h.2.2⟩)
      else (FloatOps.sitofp (F := Ideal) FTy.f32 0#32 : Ideal FTy.f32) := by
    pointwise [st_v294]
  rw [e, ref_z]

/-- The reference's first array is the specification's. -/
theorem y_eq (y : FVec Ideal S20x1024x384 .f32) (m : FVec Ideal S16 .f32) (M : ℕ → EReal) (hm : ∀ c : Fin 16, m (ix1 c) = M c.val) (w : FVec Ideal S20x16x5x5 .f32) (v : FVec Ideal S20 .f32)
    (n : FVec Ideal S20 .f32) (N : ℕ → EReal) (hn : ∀ o : Fin 20, n (ix1 o) = N o.val) (r : Fin 12) (b : Fin 1024) (l : Fin 256) :
    st_v294 (st_v293 n (st_v282 (st_v250 (st_v120 y m)) w v)) (ix3 r b l) = Y2 y w v M N b.val r.val l.val := by
  rw [st_v294_at]
  unfold Y2
  by_cases h : (2 ≤ r.val ∧ r.val - 2 < 8) ∧ 40 ≤ l.val ∧ l.val - 40 < 160
  · rw [dif_pos h, if_pos (by omega)]
    have e : st_v293 n (st_v282 (st_v250 (st_v120 y m)) w v) = mR (hR n (st_v282 (st_v250 (st_v120 y m)) w v)) := rfl
    rw [e]
    refine mR_at _ _ ⟨r.val - 2, h.1.2⟩ b ⟨l.val - 40, h.2.2⟩ fun i j => ?_
    rw [hR_at, hn, st_v282_at _ (fun b r x c => rd3 y r b (x * 16 + c) * M c) (fun d r b j c => st_v250_at _ (fun b r x c => rd3 y r b (x * 16 + c) * M c) (fun r b x c => by rw [st_v120_at, hm]) d r b j c)]
  · rw [dif_neg h, if_neg (by omega)]

theorem st_v295_at (h : FVec Ideal S12x1024x256 .f32) (r : Fin 12) (l : Fin 256) : st_v295 h (ix2 r l) = ∑ b : Fin 1024, h (ix3 r b l) := by
  pointwise [st_v295]

end Cert.ReferenceBIdeal.Value
end
-- ==== Proof.RefB.lean ====
module
public import proofs.«01_k».proof.Proof.RefRunB
public import proofs.«01_k».proof.Proof.RefHA
public import proofs.«01_k».proof.Proof.RefHB
public import proofs.«01_k».proof.Proof.RefCB
public import Idealize.ShloMosaic.Lib.Claim
public import Idealize.ShloMosaic.Lib.StableHlo.RunRead
@[expose] public section
set_option maxRecDepth 16384
set_option maxHeartbeats 1000000
noncomputable section
namespace Cert.ReferenceBIdeal.Value
open Cert.ReferenceBIdeal Cert.ReferenceBIdeal.Gen Idealize.ShloMosaic Idealize.ShloMosaic.TcCoe Idealize.SL.Sem Idealize.ShloMosaic.StableHlo
open Cert.Band

variable (W : Valuation τ sig (Elt Ideal))

/-- Argument 0 of the reference. -/
abbrev yV : FVec Ideal S20x1024x384 .f32 := W (Proc.devRef .tc main_arg0)
/-- Argument 1 of the reference. -/
abbrev sV : FVec Ideal S20x384 .f32 := W (Proc.devRef .tc main_arg1)
/-- Argument 2 of the reference. -/
abbrev tV : FVec Ideal S36x128 .f32 := W (Proc.devRef .tc main_arg2)
/-- Argument 3 of the reference. -/
abbrev wV : FVec Ideal S16x3x5x5 .f32 := W (Proc.devRef .tc main_arg3)
/-- Argument 4 of the reference. -/
abbrev aV : FVec Ideal S80 .f32 := W (Proc.devRef .tc main_arg4)
/-- Argument 5 of the reference. -/
abbrev hV : FVec Ideal S_ .f32 := W (Proc.devRef .tc main_arg5)
/-- Argument 6 of the reference. -/
abbrev uV : FVec Ideal S20x16x5x5 .f32 := W (Proc.devRef .tc main_arg6)
/-- Argument 7 of the reference. -/
abbrev vV : FVec Ideal S20 .f32 := W (Proc.devRef .tc main_arg7)
/-- Argument 8 of the reference. -/
abbrev dV : FVec Ideal S405 .f32 := W (Proc.devRef .tc main_arg8)
/-- Argument 9 of the reference. -/
abbrev kV : FVec Ideal S_ .f32 := W (Proc.devRef .tc main_arg9)

/-- The first mask, by channel number. -/
abbrev mAV : ℕ → EReal := M1N (wV W) (aV W) (hV W) (tV W)
/-- The second mask, by channel number. -/
abbrev mBV : ℕ → EReal := M2N (uV W) (dV W) (kV W) (sV W) (mAV W)

theorem val_v115_at (o : Fin 16) : val_v115 W (ix1 o) = mAV W o.val := by
  refine (mask16_at (wV W) (aV W) (hV W) (tV W) o).trans ?_
  unfold mAV M1N
  rw [dif_pos o.isLt]

theorem val_v239_at (o : Fin 20) : val_v239 W (ix1 o) = mBV W o.val := by
  refine (mask20_at (uV W) (dV W) (kV W) (sV W) (val_v115 W) (mAV W) (val_v115_at W) o).trans ?_
  unfold mBV M2N
  rw [dif_pos o.isLt]

theorem val_v294_at (r : Fin 12) (b : Fin 1024) (l : Fin 256) : val_v294 W (ix3 r b l) = Y2 (yV W) (uV W) (vV W) (mAV W) (mBV W) b.val r.val l.val :=
  y_eq (yV W) (val_v115 W) (mAV W) (val_v115_at W) (uV W) (vV W) (val_v239 W) (mBV W) (val_v239_at W) r b l

/-- The reference's first result. -/
theorem ref0 : val_v294 W = ((fun i => Y2 (yV W) (uV W) (vV W) (mAV W) (mBV W) (i 1).val (i 0).val (i 2).val) : FVec Ideal S12x1024x256 .f32) := by
  funext i
  obtain ⟨r, b, l, rfl⟩ : ∃ (r : Fin 12) (b : Fin 1024) (l : Fin 256), i = ix3 r b l := ⟨i 0, i 1, i 2, by funext t; match t with | ⟨0, _⟩ => rfl | ⟨1, _⟩ => rfl | ⟨2, _⟩ => rfl⟩
  exact val_v294_at W r b l

/-- The reference's second result. -/
theorem ref1 : val_v295 W = ((fun i => ∑ b : Fin 1024, Y2 (yV W) (uV W) (vV W) (mAV W) (mBV W) b.val (i 0).val (i 1).val) : FVec Ideal S12x256 .f32) := by
  funext i
  obtain ⟨r, l, rfl⟩ := exists_ix2 i
  exact (st_v295_at _ r l).trans (Finset.sum_congr rfl fun b _ => val_v294_at W r b l)

/-- The reference's run: its two results, and its arguments as given. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v294) = val_v294 (launchContents m c)
      ∧ r.2.mem ((c.tc : Thread nD τ).loc main_v295) = val_v295 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (run_seq scopedRefs_eq scopedSems_eq defs main (fun _ => ops) main_eq (fun _ => ops_sub) m ρ (hfresh := fun _ => ops_fresh))
  exact ⟨(h c main_v294).trans (ops_v294 _), (h c main_v295).trans (ops_v295 _), (h c main_arg0).trans (ops_arg0 _), (h c main_arg1).trans (ops_arg1 _), (h c main_arg2).trans (ops_arg2 _), (h c main_arg3).trans (ops_arg3 _), (h c main_arg4).trans (ops_arg4 _), (h c main_arg5).trans (ops_arg5 _), (h c main_arg6).trans (ops_arg6 _), (h c main_arg7).trans (ops_arg7 _), (h c main_arg8).trans (ops_arg8 _), (h c main_arg9).trans (ops_arg9 _)⟩

end Cert.ReferenceBIdeal.Value
end
-- ==== Proof.lean ====
module

public import proofs.«01_k».proof.Defs
public import proofs.«01_k».proof.Proof.Gen.KernelA
public import proofs.«01_k».proof.Proof.Gen.KernelA.Skeleton
public import proofs.«01_k».proof.Proof.Gen.KernelA.Launch
public import proofs.«01_k».proof.Proof.Gen.KernelA.Points
public import proofs.«01_k».proof.Proof.Gen.KernelA.Frame
public import proofs.«01_k».proof.Proof.Gen.KernelAIdeal
public import proofs.«01_k».proof.Proof.Gen.KernelAIdeal.Skeleton
public import proofs.«01_k».proof.Proof.Gen.KernelAIdeal.Launch
public import proofs.«01_k».proof.Proof.Gen.KernelAIdeal.Points
public import proofs.«01_k».proof.Proof.Gen.KernelAIdeal.Frame
public import proofs.«01_k».proof.Proof.Gen.KernelAIdeal.Value
public import proofs.«01_k».proof.Proof.Gen.ReferenceAIdeal
public import proofs.«01_k».proof.Proof.Gen.ReferenceAIdeal.Run
public import proofs.«01_k».proof.Proof.Gen.KernelB
public import proofs.«01_k».proof.Proof.Gen.KernelB.Skeleton
public import proofs.«01_k».proof.Proof.Gen.KernelB.Launch
public import proofs.«01_k».proof.Proof.Gen.KernelB.Points
public import proofs.«01_k».proof.Proof.Gen.KernelB.Frame
public import proofs.«01_k».proof.Proof.Gen.KernelBIdeal
public import proofs.«01_k».proof.Proof.Gen.KernelBIdeal.Skeleton
public import proofs.«01_k».proof.Proof.Gen.KernelBIdeal.Launch
public import proofs.«01_k».proof.Proof.Gen.KernelBIdeal.Points
public import proofs.«01_k».proof.Proof.Gen.KernelBIdeal.Frame
public import proofs.«01_k».proof.Proof.Gen.KernelBIdeal.Value
public import proofs.«01_k».proof.Proof.Gen.ReferenceBIdeal
public import proofs.«01_k».proof.Proof.ValueA
public import proofs.«01_k».proof.Proof.RefA
public import proofs.«01_k».proof.Proof.ValueB
public import proofs.«01_k».proof.Proof.RefB
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The two runs of the first layer end with the same three arrays. -/
theorem algA : Cert.algebraic_KernelAIdeal_ReferenceAIdeal (hKernelAIdeal := Cert.KernelAIdeal.Gen.facts) (hReferenceAIdeal := Cert.ReferenceAIdeal.Gen.facts) := by
  intro m g m' g' _ hagree
  refine ⟨fun c => (Cert.KernelAIdeal.Gen.dats m 0 c).arrAt 3 Cert.KernelAIdeal.cfg0.N, fun c => (Cert.KernelAIdeal.Gen.dats m 0 c).arrAt 4 Cert.KernelAIdeal.cfg0.N,
    fun c => (Cert.KernelAIdeal.Gen.dats m 0 c).arrAt 5 Cert.KernelAIdeal.cfg0.N, Cert.KernelAIdeal.Value.run_blocks m g, ?_⟩
  refine (θ_run _ _ _).mono (fun r h c => ?_) (Cert.ReferenceAIdeal.Value.run_ref m' g')
  have hx : Cert.ReferenceAIdeal.Value.xR m' c = Cert.KernelAIdeal.Value.xM m c := (hagree c).1
  have hw : Cert.ReferenceAIdeal.Value.wR m' c = Cert.KernelAIdeal.Value.wM m c := (hagree c).2.1
  have hb : Cert.ReferenceAIdeal.Value.bR m' c = Cert.KernelAIdeal.Value.bM m c := (hagree c).2.2
  have h0 := (h c).1
  have h1 := (h c).2.1
  have h2 := (h c).2.2.1
  rw [hx, hw, hb] at h0 h1
  rw [hx] at h2
  exact ⟨h0.trans (Cert.KernelAIdeal.Value.final3 m c).symm, h1.trans (Cert.KernelAIdeal.Value.final4 m c).symm,
    h2.trans (Cert.KernelAIdeal.Value.final5 m c).symm, (h c).2.2.2⟩

/-- The reference of the first layer ends, keeps its arguments, and leaves every counter at zero: it has none. -/
theorem frameRA : Cert.quiescent_ReferenceAIdeal (hReferenceAIdeal := Cert.ReferenceAIdeal.Gen.facts) := fun m g _ =>
  (θ_run _ _ _).mono (fun r h => ⟨fun c => (h c).2.2.2, sem_eq_zero_of_no_sems (by decide) r.2⟩) (Cert.ReferenceAIdeal.Value.run_ref m g)

/-- The two runs of the second layer end with the same two arrays. -/
theorem algB : Cert.algebraic_KernelBIdeal_ReferenceBIdeal (hKernelBIdeal := Cert.KernelBIdeal.Gen.facts) (hReferenceBIdeal := Cert.ReferenceBIdeal.Gen.facts) := by
  intro m g m' g' _ hagree
  refine ⟨fun c => (Cert.KernelBIdeal.Gen.dats m 0 c).arrAt 21 Cert.KernelBIdeal.cfg0.N, fun c => (Cert.KernelBIdeal.Gen.dats m 0 c).arrAt 22 Cert.KernelBIdeal.cfg0.N,
    Cert.KernelBIdeal.Value.run_blocks m g, ?_⟩
  refine (θ_run _ _ _).mono (fun r h c => ?_) (Cert.ReferenceBIdeal.Value.run_ref m' g')
  obtain ⟨a0, a1, a2, a3, a4, a5, a6, a7, a8, a9⟩ := hagree c
  have e0 : Cert.ReferenceBIdeal.Value.yV (StableHlo.launchContents m' c) = Cert.KernelBIdeal.Value.yM m c := a0
  have e1 : Cert.ReferenceBIdeal.Value.sV (StableHlo.launchContents m' c) = Cert.KernelBIdeal.Value.sM m c := a1
  have e2 : Cert.ReferenceBIdeal.Value.tV (StableHlo.launchContents m' c) = Cert.KernelBIdeal.Value.tM m c := a2
  have e3 : Cert.ReferenceBIdeal.Value.wV (StableHlo.launchContents m' c) = Cert.KernelBIdeal.Value.wM m c := a3
  have e4 : Cert.ReferenceBIdeal.Value.aV (StableHlo.launchContents m' c) = Cert.KernelBIdeal.Value.aM m c := a4
  have e5 : Cert.ReferenceBIdeal.Value.hV (StableHlo.launchContents m' c) = Cert.KernelBIdeal.Value.hM m c := a5
  have e6 : Cert.ReferenceBIdeal.Value.uV (StableHlo.launchContents m' c) = Cert.KernelBIdeal.Value.uM m c := a6
  have e7 : Cert.ReferenceBIdeal.Value.vV (StableHlo.launchContents m' c) = Cert.KernelBIdeal.Value.vM m c := a7
  have e8 : Cert.ReferenceBIdeal.Value.dV (StableHlo.launchContents m' c) = Cert.KernelBIdeal.Value.dM m c := a8
  have e9 : Cert.ReferenceBIdeal.Value.kV (StableHlo.launchContents m' c) = Cert.KernelBIdeal.Value.kM m c := a9
  have h0 := (h c).1.trans (Cert.ReferenceBIdeal.Value.ref0 _)
  have h1 := (h c).2.1.trans (Cert.ReferenceBIdeal.Value.ref1 _)
  unfold Cert.ReferenceBIdeal.Value.mBV Cert.ReferenceBIdeal.Value.mAV at h0 h1
  rw [e0, e1, e2, e3, e4, e5, e6, e7, e8, e9] at h0 h1
  exact ⟨h0.trans (Cert.KernelBIdeal.Value.arr21 m c).symm, h1.trans (Cert.KernelBIdeal.Value.arr22 m c).symm, (h c).2.2⟩

/-- The reference of the second layer ends, keeps its arguments, and leaves every counter at zero: it has none. -/
theorem frameRB : Cert.quiescent_ReferenceBIdeal (hReferenceBIdeal := Cert.ReferenceBIdeal.Gen.facts) := fun m g _ =>
  (θ_run _ _ _).mono (fun r h => ⟨fun c => (h c).2.2, sem_eq_zero_of_no_sems (by decide) r.2⟩) (Cert.ReferenceBIdeal.Value.run_ref m g)

/-- The certificate. -/
theorem claim : Cert.Claim := ⟨Cert.KernelA.Gen.facts, Cert.KernelAIdeal.Gen.facts, Cert.ReferenceAIdeal.Gen.facts,
  Cert.KernelB.Gen.facts, Cert.KernelBIdeal.Gen.facts, Cert.ReferenceBIdeal.Gen.facts,
  fun m ρ _ => Cert.KernelA.Gen.frame m ρ, fun m ρ _ => Cert.KernelAIdeal.Gen.frame m ρ, frameRA,
  fun m ρ _ => Cert.KernelB.Gen.frame m ρ, fun m ρ _ => Cert.KernelBIdeal.Gen.frame m ρ, frameRB,
  trivial, algA, trivial, algB⟩

end Cert.Proof

end
